-- ==== Defs.lean ====
def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_GluKernel (m : (ℓ : Loc Cert.GluKernel.nD Cert.GluKernel.τ Cert.GluKernel.sig) → Buf (Elt Bits) ℓ) : Prop :=
  True

def Pre_GluKernelIdeal (m : (ℓ : Loc Cert.GluKernelIdeal.nD Cert.GluKernelIdeal.τ Cert.GluKernelIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_DHKernel (m : (ℓ : Loc Cert.DHKernel.nD Cert.DHKernel.τ Cert.DHKernel.sig) → Buf (Elt Bits) ℓ) : Prop :=
  True

def Pre_DHKernelIdeal (m : (ℓ : Loc Cert.DHKernelIdeal.nD Cert.DHKernelIdeal.τ Cert.DHKernelIdeal.sig) → Buf (Elt Ideal) ℓ) : Prop :=
  True

def Pre_DHReferenceIdeal (m : (ℓ : Loc Cert.DHReferenceIdeal.nD Cert.DHReferenceIdeal.τ Cert.DHReferenceIdeal.sig) → Buf (Elt Ideal) ℓ) : Prop :=
  True

def Pre_GWinAKernel (m : (ℓ : Loc Cert.GWinAKernel.nD Cert.GWinAKernel.τ Cert.GWinAKernel.sig) → Buf (Elt Bits) ℓ) : Prop :=
  True

def Pre_GWinAKernelIdeal (m : (ℓ : Loc Cert.GWinAKernelIdeal.nD Cert.GWinAKernelIdeal.τ Cert.GWinAKernelIdeal.sig) → Buf (Elt Ideal) ℓ) : Prop :=
  True

def Pre_GWinAReferenceIdeal (m : (ℓ : Loc Cert.GWinAReferenceIdeal.nD Cert.GWinAReferenceIdeal.τ Cert.GWinAReferenceIdeal.sig) → Buf (Elt Ideal) ℓ) : Prop :=
  True

def Pre_GWinQKernel (m : (ℓ : Loc Cert.GWinQKernel.nD Cert.GWinQKernel.τ Cert.GWinQKernel.sig) → Buf (Elt Bits) ℓ) : Prop :=
  True

def Pre_GWinQKernelIdeal (m : (ℓ : Loc Cert.GWinQKernelIdeal.nD Cert.GWinQKernelIdeal.τ Cert.GWinQKernelIdeal.sig) → Buf (Elt Ideal) ℓ) : Prop :=
  True

def Pre_GWinQReferenceIdeal (m : (ℓ : Loc Cert.GWinQReferenceIdeal.nD Cert.GWinQReferenceIdeal.τ Cert.GWinQReferenceIdeal.sig) → Buf (Elt Ideal) ℓ) : Prop :=
  True

def Pre_GWinGKernel (m : (ℓ : Loc Cert.GWinGKernel.nD Cert.GWinGKernel.τ Cert.GWinGKernel.sig) → Buf (Elt Bits) ℓ) : Prop :=
  True

def Pre_GWinGKernelIdeal (m : (ℓ : Loc Cert.GWinGKernelIdeal.nD Cert.GWinGKernelIdeal.τ Cert.GWinGKernelIdeal.sig) → Buf (Elt Ideal) ℓ) : Prop :=
  True

def Pre_GWinGReferenceIdeal (m : (ℓ : Loc Cert.GWinGReferenceIdeal.nD Cert.GWinGReferenceIdeal.τ Cert.GWinGReferenceIdeal.sig) → Buf (Elt Ideal) ℓ) : Prop :=
  True

def Pre_GWoutKernel (m : (ℓ : Loc Cert.GWoutKernel.nD Cert.GWoutKernel.τ Cert.GWoutKernel.sig) → Buf (Elt Bits) ℓ) : Prop :=
  True

def Pre_GWoutKernelIdeal (m : (ℓ : Loc Cert.GWoutKernelIdeal.nD Cert.GWoutKernelIdeal.τ Cert.GWoutKernelIdeal.sig) → Buf (Elt Ideal) ℓ) : Prop :=
  True

def Pre_GWoutReferenceIdeal (m : (ℓ : Loc Cert.GWoutReferenceIdeal.nD Cert.GWoutReferenceIdeal.τ Cert.GWoutReferenceIdeal.sig) → Buf (Elt Ideal) ℓ) : Prop :=
  True

def Pre_GProjAKernel (m : (ℓ : Loc Cert.GProjAKernel.nD Cert.GProjAKernel.τ Cert.GProjAKernel.sig) → Buf (Elt Bits) ℓ) : Prop :=
  True

def Pre_GProjAKernelIdeal (m : (ℓ : Loc Cert.GProjAKernelIdeal.nD Cert.GProjAKernelIdeal.τ Cert.GProjAKernelIdeal.sig) → Buf (Elt Ideal) ℓ) : Prop :=
  True

def Pre_GProjAReferenceIdeal (m : (ℓ : Loc Cert.GProjAReferenceIdeal.nD Cert.GProjAReferenceIdeal.τ Cert.GProjAReferenceIdeal.sig) → Buf (Elt Ideal) ℓ) : Prop :=
  True

def Pre_GProjBKernel (m : (ℓ : Loc Cert.GProjBKernel.nD Cert.GProjBKernel.τ Cert.GProjBKernel.sig) → Buf (Elt Bits) ℓ) : Prop :=
  True

def Pre_GProjBKernelIdeal (m : (ℓ : Loc Cert.GProjBKernelIdeal.nD Cert.GProjBKernelIdeal.τ Cert.GProjBKernelIdeal.sig) → Buf (Elt Ideal) ℓ) : Prop :=
  True

def Pre_GProjBReferenceIdeal (m : (ℓ : Loc Cert.GProjBReferenceIdeal.nD Cert.GProjBReferenceIdeal.τ Cert.GProjBReferenceIdeal.sig) → Buf (Elt Ideal) ℓ) : Prop :=
  True

def Pre_GProjCKernel (m : (ℓ : Loc Cert.GProjCKernel.nD Cert.GProjCKernel.τ Cert.GProjCKernel.sig) → Buf (Elt Bits) ℓ) : Prop :=
  True

def Pre_GProjCKernelIdeal (m : (ℓ : Loc Cert.GProjCKernelIdeal.nD Cert.GProjCKernelIdeal.τ Cert.GProjCKernelIdeal.sig) → Buf (Elt Ideal) ℓ) : Prop :=
  True

def Pre_GProjCReferenceIdeal (m : (ℓ : Loc Cert.GProjCReferenceIdeal.nD Cert.GProjCReferenceIdeal.τ Cert.GProjCReferenceIdeal.sig) → Buf (Elt Ideal) ℓ) : Prop :=
  True

def Pre_GGluKernel (m : (ℓ : Loc Cert.GGluKernel.nD Cert.GGluKernel.τ Cert.GGluKernel.sig) → Buf (Elt Bits) ℓ) : Prop :=
  True

def Pre_GGluKernelIdeal (m : (ℓ : Loc Cert.GGluKernelIdeal.nD Cert.GGluKernelIdeal.τ Cert.GGluKernelIdeal.sig) → Buf (Elt Ideal) ℓ) : Prop :=
  True

def Pre_GGluReferenceIdeal (m : (ℓ : Loc Cert.GGluReferenceIdeal.nD Cert.GGluReferenceIdeal.τ Cert.GGluReferenceIdeal.sig) → Buf (Elt Ideal) ℓ) : Prop :=
  True

def Pre_DMergedKernel (m : (ℓ : Loc Cert.DMergedKernel.nD Cert.DMergedKernel.τ Cert.DMergedKernel.sig) → Buf (Elt Bits) ℓ) : Prop :=
  True

def Pre_DMergedKernelIdeal (m : (ℓ : Loc Cert.DMergedKernelIdeal.nD Cert.DMergedKernelIdeal.τ Cert.DMergedKernelIdeal.sig) → Buf (Elt Ideal) ℓ) : Prop :=
  True

def Pre_DMergedReferenceIdeal (m : (ℓ : Loc Cert.DMergedReferenceIdeal.nD Cert.DMergedReferenceIdeal.τ Cert.DMergedReferenceIdeal.sig) → Buf (Elt Ideal) ℓ) : Prop :=
  True

def Pre_DYaKernel (m : (ℓ : Loc Cert.DYaKernel.nD Cert.DYaKernel.τ Cert.DYaKernel.sig) → Buf (Elt Bits) ℓ) : Prop :=
  True

def Pre_DYaKernelIdeal (m : (ℓ : Loc Cert.DYaKernelIdeal.nD Cert.DYaKernelIdeal.τ Cert.DYaKernelIdeal.sig) → Buf (Elt Ideal) ℓ) : Prop :=
  True

def Pre_DYaReferenceIdeal (m : (ℓ : Loc Cert.DYaReferenceIdeal.nD Cert.DYaReferenceIdeal.τ Cert.DYaReferenceIdeal.sig) → Buf (Elt Ideal) ℓ) : Prop :=
  True

def Pre_DYbKernel (m : (ℓ : Loc Cert.DYbKernel.nD Cert.DYbKernel.τ Cert.DYbKernel.sig) → Buf (Elt Bits) ℓ) : Prop :=
  True

def Pre_DYbKernelIdeal (m : (ℓ : Loc Cert.DYbKernelIdeal.nD Cert.DYbKernelIdeal.τ Cert.DYbKernelIdeal.sig) → Buf (Elt Ideal) ℓ) : Prop :=
  True

def Pre_DYbReferenceIdeal (m : (ℓ : Loc Cert.DYbReferenceIdeal.nD Cert.DYbReferenceIdeal.τ Cert.DYbReferenceIdeal.sig) → Buf (Elt Ideal) ℓ) : Prop :=
  True

def Pre_DYcKernel (m : (ℓ : Loc Cert.DYcKernel.nD Cert.DYcKernel.τ Cert.DYcKernel.sig) → Buf (Elt Bits) ℓ) : Prop :=
  True

def Pre_DYcKernelIdeal (m : (ℓ : Loc Cert.DYcKernelIdeal.nD Cert.DYcKernelIdeal.τ Cert.DYcKernelIdeal.sig) → Buf (Elt Ideal) ℓ) : Prop :=
  True

def Pre_DYcReferenceIdeal (m : (ℓ : Loc Cert.DYcReferenceIdeal.nD Cert.DYcReferenceIdeal.τ Cert.DYcReferenceIdeal.sig) → Buf (Elt Ideal) ℓ) : Prop :=
  True

def Pre_DGKernel (m : (ℓ : Loc Cert.DGKernel.nD Cert.DGKernel.τ Cert.DGKernel.sig) → Buf (Elt Bits) ℓ) : Prop :=
  True

def Pre_DGKernelIdeal (m : (ℓ : Loc Cert.DGKernelIdeal.nD Cert.DGKernelIdeal.τ Cert.DGKernelIdeal.sig) → Buf (Elt Ideal) ℓ) : Prop :=
  True

def Pre_DGReferenceIdeal (m : (ℓ : Loc Cert.DGReferenceIdeal.nD Cert.DGReferenceIdeal.τ Cert.DGReferenceIdeal.sig) → Buf (Elt Ideal) ℓ) : Prop :=
  True

def Pre_InAKernel (m : (ℓ : Loc Cert.InAKernel.nD Cert.InAKernel.τ Cert.InAKernel.sig) → Buf (Elt Bits) ℓ) : Prop :=
  True

def Pre_InAKernelIdeal (m : (ℓ : Loc Cert.InAKernelIdeal.nD Cert.InAKernelIdeal.τ Cert.InAKernelIdeal.sig) → Buf (Elt Ideal) ℓ) : Prop :=
  True

def Pre_InAReferenceIdeal (m : (ℓ : Loc Cert.InAReferenceIdeal.nD Cert.InAReferenceIdeal.τ Cert.InAReferenceIdeal.sig) → Buf (Elt Ideal) ℓ) : Prop :=
  True

def Pre_InQKernel (m : (ℓ : Loc Cert.InQKernel.nD Cert.InQKernel.τ Cert.InQKernel.sig) → Buf (Elt Bits) ℓ) : Prop :=
  True

def Pre_InQKernelIdeal (m : (ℓ : Loc Cert.InQKernelIdeal.nD Cert.InQKernelIdeal.τ Cert.InQKernelIdeal.sig) → Buf (Elt Ideal) ℓ) : Prop :=
  True

def Pre_InQReferenceIdeal (m : (ℓ : Loc Cert.InQReferenceIdeal.nD Cert.InQReferenceIdeal.τ Cert.InQReferenceIdeal.sig) → Buf (Elt Ideal) ℓ) : Prop :=
  True

def Pre_InGKernel (m : (ℓ : Loc Cert.InGKernel.nD Cert.InGKernel.τ Cert.InGKernel.sig) → Buf (Elt Bits) ℓ) : Prop :=
  True

def Pre_InGKernelIdeal (m : (ℓ : Loc Cert.InGKernelIdeal.nD Cert.InGKernelIdeal.τ Cert.InGKernelIdeal.sig) → Buf (Elt Ideal) ℓ) : Prop :=
  True

def Pre_InGReferenceIdeal (m : (ℓ : Loc Cert.InGReferenceIdeal.nD Cert.InGReferenceIdeal.τ Cert.InGReferenceIdeal.sig) → Buf (Elt Ideal) ℓ) : Prop :=
  True

def Pre_ProjAKernel (m : (ℓ : Loc Cert.ProjAKernel.nD Cert.ProjAKernel.τ Cert.ProjAKernel.sig) → Buf (Elt Bits) ℓ) : Prop :=
  True

def Pre_ProjAKernelIdeal (m : (ℓ : Loc Cert.ProjAKernelIdeal.nD Cert.ProjAKernelIdeal.τ Cert.ProjAKernelIdeal.sig) → Buf (Elt Ideal) ℓ) : Prop :=
  True

def Pre_ProjAReferenceIdeal (m : (ℓ : Loc Cert.ProjAReferenceIdeal.nD Cert.ProjAReferenceIdeal.τ Cert.ProjAReferenceIdeal.sig) → Buf (Elt Ideal) ℓ) : Prop :=
  True

def Pre_ProjBKernel (m : (ℓ : Loc Cert.ProjBKernel.nD Cert.ProjBKernel.τ Cert.ProjBKernel.sig) → Buf (Elt Bits) ℓ) : Prop :=
  True

def Pre_ProjBKernelIdeal (m : (ℓ : Loc Cert.ProjBKernelIdeal.nD Cert.ProjBKernelIdeal.τ Cert.ProjBKernelIdeal.sig) → Buf (Elt Ideal) ℓ) : Prop :=
  True

def Pre_ProjBReferenceIdeal (m : (ℓ : Loc Cert.ProjBReferenceIdeal.nD Cert.ProjBReferenceIdeal.τ Cert.ProjBReferenceIdeal.sig) → Buf (Elt Ideal) ℓ) : Prop :=
  True

def Pre_ProjCKernel (m : (ℓ : Loc Cert.ProjCKernel.nD Cert.ProjCKernel.τ Cert.ProjCKernel.sig) → Buf (Elt Bits) ℓ) : Prop :=
  True

def Pre_ProjCKernelIdeal (m : (ℓ : Loc Cert.ProjCKernelIdeal.nD Cert.ProjCKernelIdeal.τ Cert.ProjCKernelIdeal.sig) → Buf (Elt Ideal) ℓ) : Prop :=
  True

def Pre_ProjCReferenceIdeal (m : (ℓ : Loc Cert.ProjCReferenceIdeal.nD Cert.ProjCReferenceIdeal.τ Cert.ProjCReferenceIdeal.sig) → Buf (Elt Ideal) ℓ) : Prop :=
  True

def Pre_Glu1Kernel (m : (ℓ : Loc Cert.Glu1Kernel.nD Cert.Glu1Kernel.τ Cert.Glu1Kernel.sig) → Buf (Elt Bits) ℓ) : Prop :=
  True

def Pre_Glu1KernelIdeal (m : (ℓ : Loc Cert.Glu1KernelIdeal.nD Cert.Glu1KernelIdeal.τ Cert.Glu1KernelIdeal.sig) → Buf (Elt Ideal) ℓ) : Prop :=
  True

def Pre_Glu1ReferenceIdeal (m : (ℓ : Loc Cert.Glu1ReferenceIdeal.nD Cert.Glu1ReferenceIdeal.τ Cert.Glu1ReferenceIdeal.sig) → Buf (Elt Ideal) ℓ) : Prop :=
  True

def Pre_WOutKernel (m : (ℓ : Loc Cert.WOutKernel.nD Cert.WOutKernel.τ Cert.WOutKernel.sig) → Buf (Elt Bits) ℓ) : Prop :=
  True

def Pre_WOutKernelIdeal (m : (ℓ : Loc Cert.WOutKernelIdeal.nD Cert.WOutKernelIdeal.τ Cert.WOutKernelIdeal.sig) → Buf (Elt Ideal) ℓ) : Prop :=
  True

def Pre_WOutReferenceIdeal (m : (ℓ : Loc Cert.WOutReferenceIdeal.nD Cert.WOutReferenceIdeal.τ Cert.WOutReferenceIdeal.sig) → Buf (Elt Ideal) ℓ) : Prop :=
  True

def Pre_OptWInKernel (m : (ℓ : Loc Cert.OptWInKernel.nD Cert.OptWInKernel.τ Cert.OptWInKernel.sig) → Buf (Elt Bits) ℓ) : Prop :=
  True

def Pre_OptWInKernelIdeal (m : (ℓ : Loc Cert.OptWInKernelIdeal.nD Cert.OptWInKernelIdeal.τ Cert.OptWInKernelIdeal.sig) → Buf (Elt Ideal) ℓ) : Prop :=
  True

def Pre_OptWInReferenceIdeal (m : (ℓ : Loc Cert.OptWInReferenceIdeal.nD Cert.OptWInReferenceIdeal.τ Cert.OptWInReferenceIdeal.sig) → Buf (Elt Ideal) ℓ) : Prop :=
  True

def Pre_OptGluWKernel (m : (ℓ : Loc Cert.OptGluWKernel.nD Cert.OptGluWKernel.τ Cert.OptGluWKernel.sig) → Buf (Elt Bits) ℓ) : Prop :=
  True

def Pre_OptGluWKernelIdeal (m : (ℓ : Loc Cert.OptGluWKernelIdeal.nD Cert.OptGluWKernelIdeal.τ Cert.OptGluWKernelIdeal.sig) → Buf (Elt Ideal) ℓ) : Prop :=
  True

def Pre_OptGluWReferenceIdeal (m : (ℓ : Loc Cert.OptGluWReferenceIdeal.nD Cert.OptGluWReferenceIdeal.τ Cert.OptGluWReferenceIdeal.sig) → Buf (Elt Ideal) ℓ) : Prop :=
  True

def Pre_OptWOutKernel (m : (ℓ : Loc Cert.OptWOutKernel.nD Cert.OptWOutKernel.τ Cert.OptWOutKernel.sig) → Buf (Elt Bits) ℓ) : Prop :=
  True

def Pre_OptWOutKernelIdeal (m : (ℓ : Loc Cert.OptWOutKernelIdeal.nD Cert.OptWOutKernelIdeal.τ Cert.OptWOutKernelIdeal.sig) → Buf (Elt Ideal) ℓ) : Prop :=
  True

def Pre_OptWOutReferenceIdeal (m : (ℓ : Loc Cert.OptWOutReferenceIdeal.nD Cert.OptWOutReferenceIdeal.τ Cert.OptWOutReferenceIdeal.sig) → Buf (Elt Ideal) ℓ) : Prop :=
  True

def Pre_OptProjAKernel (m : (ℓ : Loc Cert.OptProjAKernel.nD Cert.OptProjAKernel.τ Cert.OptProjAKernel.sig) → Buf (Elt Bits) ℓ) : Prop :=
  True

def Pre_OptProjAKernelIdeal (m : (ℓ : Loc Cert.OptProjAKernelIdeal.nD Cert.OptProjAKernelIdeal.τ Cert.OptProjAKernelIdeal.sig) → Buf (Elt Ideal) ℓ) : Prop :=
  True

def Pre_OptProjAReferenceIdeal (m : (ℓ : Loc Cert.OptProjAReferenceIdeal.nD Cert.OptProjAReferenceIdeal.τ Cert.OptProjAReferenceIdeal.sig) → Buf (Elt Ideal) ℓ) : Prop :=
  True

def Pre_OptProjBKernel (m : (ℓ : Loc Cert.OptProjBKernel.nD Cert.OptProjBKernel.τ Cert.OptProjBKernel.sig) → Buf (Elt Bits) ℓ) : Prop :=
  True

def Pre_OptProjBKernelIdeal (m : (ℓ : Loc Cert.OptProjBKernelIdeal.nD Cert.OptProjBKernelIdeal.τ Cert.OptProjBKernelIdeal.sig) → Buf (Elt Ideal) ℓ) : Prop :=
  True

def Pre_OptProjBReferenceIdeal (m : (ℓ : Loc Cert.OptProjBReferenceIdeal.nD Cert.OptProjBReferenceIdeal.τ Cert.OptProjBReferenceIdeal.sig) → Buf (Elt Ideal) ℓ) : Prop :=
  True

def Pre_OptProjCKernel (m : (ℓ : Loc Cert.OptProjCKernel.nD Cert.OptProjCKernel.τ Cert.OptProjCKernel.sig) → Buf (Elt Bits) ℓ) : Prop :=
  True

def Pre_OptProjCKernelIdeal (m : (ℓ : Loc Cert.OptProjCKernelIdeal.nD Cert.OptProjCKernelIdeal.τ Cert.OptProjCKernelIdeal.sig) → Buf (Elt Ideal) ℓ) : Prop :=
  True

def Pre_OptProjCReferenceIdeal (m : (ℓ : Loc Cert.OptProjCReferenceIdeal.nD Cert.OptProjCReferenceIdeal.τ Cert.OptProjCReferenceIdeal.sig) → Buf (Elt Ideal) ℓ) : Prop :=
  True

def Pre_OptNormKernel (m : (ℓ : Loc Cert.OptNormKernel.nD Cert.OptNormKernel.τ Cert.OptNormKernel.sig) → Buf (Elt Bits) ℓ) : Prop :=
  True

def Pre_OptNormKernelIdeal (m : (ℓ : Loc Cert.OptNormKernelIdeal.nD Cert.OptNormKernelIdeal.τ Cert.OptNormKernelIdeal.sig) → Buf (Elt Ideal) ℓ) : Prop :=
  True

def Pre_OptNormReferenceIdeal (m : (ℓ : Loc Cert.OptNormReferenceIdeal.nD Cert.OptNormReferenceIdeal.τ Cert.OptNormReferenceIdeal.sig) → Buf (Elt Ideal) ℓ) : Prop :=
  True

def Pre_OptAKernel (m : (ℓ : Loc Cert.OptAKernel.nD Cert.OptAKernel.τ Cert.OptAKernel.sig) → Buf (Elt Bits) ℓ) : Prop :=
  True

def Pre_OptAKernelIdeal (m : (ℓ : Loc Cert.OptAKernelIdeal.nD Cert.OptAKernelIdeal.τ Cert.OptAKernelIdeal.sig) → Buf (Elt Ideal) ℓ) : Prop :=
  True

def Pre_OptAReferenceIdeal (m : (ℓ : Loc Cert.OptAReferenceIdeal.nD Cert.OptAReferenceIdeal.τ Cert.OptAReferenceIdeal.sig) → Buf (Elt Ideal) ℓ) : Prop :=
  True

def Pre_OptStepKernel (m : (ℓ : Loc Cert.OptStepKernel.nD Cert.OptStepKernel.τ Cert.OptStepKernel.sig) → Buf (Elt Bits) ℓ) : Prop :=
  True

def Pre_OptStepKernelIdeal (m : (ℓ : Loc Cert.OptStepKernelIdeal.nD Cert.OptStepKernelIdeal.τ Cert.OptStepKernelIdeal.sig) → Buf (Elt Ideal) ℓ) : Prop :=
  True

def Pre_OptStepReferenceIdeal (m : (ℓ : Loc Cert.OptStepReferenceIdeal.nD Cert.OptStepReferenceIdeal.τ Cert.OptStepReferenceIdeal.sig) → Buf (Elt Ideal) ℓ) : Prop :=
  True

def Pre_OptBKernel (m : (ℓ : Loc Cert.OptBKernel.nD Cert.OptBKernel.τ Cert.OptBKernel.sig) → Buf (Elt Bits) ℓ) : Prop :=
  True

def Pre_OptBKernelIdeal (m : (ℓ : Loc Cert.OptBKernelIdeal.nD Cert.OptBKernelIdeal.τ Cert.OptBKernelIdeal.sig) → Buf (Elt Ideal) ℓ) : Prop :=
  True

def Pre_OptBReferenceIdeal (m : (ℓ : Loc Cert.OptBReferenceIdeal.nD Cert.OptBReferenceIdeal.τ Cert.OptBReferenceIdeal.sig) → Buf (Elt Ideal) ℓ) : Prop :=
  True

def Pre_OptCKernel (m : (ℓ : Loc Cert.OptCKernel.nD Cert.OptCKernel.τ Cert.OptCKernel.sig) → Buf (Elt Bits) ℓ) : Prop :=
  True

def Pre_OptCKernelIdeal (m : (ℓ : Loc Cert.OptCKernelIdeal.nD Cert.OptCKernelIdeal.τ Cert.OptCKernelIdeal.sig) → Buf (Elt Ideal) ℓ) : Prop :=
  True

def Pre_OptCReferenceIdeal (m : (ℓ : Loc Cert.OptCReferenceIdeal.nD Cert.OptCReferenceIdeal.τ Cert.OptCReferenceIdeal.sig) → Buf (Elt Ideal) ℓ) : Prop :=
  True

def Pre_OptDKernel (m : (ℓ : Loc Cert.OptDKernel.nD Cert.OptDKernel.τ Cert.OptDKernel.sig) → Buf (Elt Bits) ℓ) : Prop :=
  True

def Pre_OptDKernelIdeal (m : (ℓ : Loc Cert.OptDKernelIdeal.nD Cert.OptDKernelIdeal.τ Cert.OptDKernelIdeal.sig) → Buf (Elt Ideal) ℓ) : Prop :=
  True

def Pre_OptDReferenceIdeal (m : (ℓ : Loc Cert.OptDReferenceIdeal.nD Cert.OptDReferenceIdeal.τ Cert.OptDReferenceIdeal.sig) → Buf (Elt Ideal) ℓ) : Prop :=
  True

def Pre_OptQKernel (m : (ℓ : Loc Cert.OptQKernel.nD Cert.OptQKernel.τ Cert.OptQKernel.sig) → Buf (Elt Bits) ℓ) : Prop :=
  True

def Pre_OptQKernelIdeal (m : (ℓ : Loc Cert.OptQKernelIdeal.nD Cert.OptQKernelIdeal.τ Cert.OptQKernelIdeal.sig) → Buf (Elt Ideal) ℓ) : Prop :=
  True

def Pre_OptQReferenceIdeal (m : (ℓ : Loc Cert.OptQReferenceIdeal.nD Cert.OptQReferenceIdeal.τ Cert.OptQReferenceIdeal.sig) → Buf (Elt Ideal) ℓ) : Prop :=
  True

def Pre_OptConvWKernel (m : (ℓ : Loc Cert.OptConvWKernel.nD Cert.OptConvWKernel.τ Cert.OptConvWKernel.sig) → Buf (Elt Bits) ℓ) : Prop :=
  True

def Pre_OptConvWKernelIdeal (m : (ℓ : Loc Cert.OptConvWKernelIdeal.nD Cert.OptConvWKernelIdeal.τ Cert.OptConvWKernelIdeal.sig) → Buf (Elt Ideal) ℓ) : Prop :=
  True

def Pre_OptConvWReferenceIdeal (m : (ℓ : Loc Cert.OptConvWReferenceIdeal.nD Cert.OptConvWReferenceIdeal.τ Cert.OptConvWReferenceIdeal.sig) → Buf (Elt Ideal) ℓ) : Prop :=
  True

def Pre_OptConvBKernel (m : (ℓ : Loc Cert.OptConvBKernel.nD Cert.OptConvBKernel.τ Cert.OptConvBKernel.sig) → Buf (Elt Bits) ℓ) : Prop :=
  True

def Pre_OptConvBKernelIdeal (m : (ℓ : Loc Cert.OptConvBKernelIdeal.nD Cert.OptConvBKernelIdeal.τ Cert.OptConvBKernelIdeal.sig) → Buf (Elt Ideal) ℓ) : Prop :=
  True

def Pre_OptConvBReferenceIdeal (m : (ℓ : Loc Cert.OptConvBReferenceIdeal.nD Cert.OptConvBReferenceIdeal.τ Cert.OptConvBReferenceIdeal.sig) → Buf (Elt Ideal) ℓ) : Prop :=
  True

def Pre_OptDtKernel (m : (ℓ : Loc Cert.OptDtKernel.nD Cert.OptDtKernel.τ Cert.OptDtKernel.sig) → Buf (Elt Bits) ℓ) : Prop :=
  True

def Pre_OptDtKernelIdeal (m : (ℓ : Loc Cert.OptDtKernelIdeal.nD Cert.OptDtKernelIdeal.τ Cert.OptDtKernelIdeal.sig) → Buf (Elt Ideal) ℓ) : Prop :=
  True

def Pre_OptDtReferenceIdeal (m : (ℓ : Loc Cert.OptDtReferenceIdeal.nD Cert.OptDtReferenceIdeal.τ Cert.OptDtReferenceIdeal.sig) → Buf (Elt Ideal) ℓ) : Prop :=
  True

def Pre_OptSsdNormKernel (m : (ℓ : Loc Cert.OptSsdNormKernel.nD Cert.OptSsdNormKernel.τ Cert.OptSsdNormKernel.sig) → Buf (Elt Bits) ℓ) : Prop :=
  True

def Pre_OptSsdNormKernelIdeal (m : (ℓ : Loc Cert.OptSsdNormKernelIdeal.nD Cert.OptSsdNormKernelIdeal.τ Cert.OptSsdNormKernelIdeal.sig) → Buf (Elt Ideal) ℓ) : Prop :=
  True

def Pre_OptSsdNormReferenceIdeal (m : (ℓ : Loc Cert.OptSsdNormReferenceIdeal.nD Cert.OptSsdNormReferenceIdeal.τ Cert.OptSsdNormReferenceIdeal.sig) → Buf (Elt Ideal) ℓ) : Prop :=
  True

def Pre_SumSmallKernel (m : (ℓ : Loc Cert.SumSmallKernel.nD Cert.SumSmallKernel.τ Cert.SumSmallKernel.sig) → Buf (Elt Bits) ℓ) : Prop :=
  True

def Pre_SumSmallKernelIdeal (m : (ℓ : Loc Cert.SumSmallKernelIdeal.nD Cert.SumSmallKernelIdeal.τ Cert.SumSmallKernelIdeal.sig) → Buf (Elt Ideal) ℓ) : Prop :=
  True

def Pre_SumSmallReferenceIdeal (m : (ℓ : Loc Cert.SumSmallReferenceIdeal.nD Cert.SumSmallReferenceIdeal.τ Cert.SumSmallReferenceIdeal.sig) → Buf (Elt Ideal) ℓ) : Prop :=
  True

def Pre_LossHeadKernel (m : (ℓ : Loc Cert.LossHeadKernel.nD Cert.LossHeadKernel.τ Cert.LossHeadKernel.sig) → Buf (Elt Bits) ℓ) : Prop :=
  True

def Pre_LossHeadKernelIdeal (m : (ℓ : Loc Cert.LossHeadKernelIdeal.nD Cert.LossHeadKernelIdeal.τ Cert.LossHeadKernelIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_NormFKernel (m : (ℓ : Loc Cert.NormFKernel.nD Cert.NormFKernel.τ Cert.NormFKernel.sig) → Buf (Elt Bits) ℓ) : Prop :=
  True

def Pre_NormFKernelIdeal (m : (ℓ : Loc Cert.NormFKernelIdeal.nD Cert.NormFKernelIdeal.τ Cert.NormFKernelIdeal.sig) → Buf (Elt Ideal) ℓ) : Prop :=
  True

def Pre_NormFReferenceIdeal (m : (ℓ : Loc Cert.NormFReferenceIdeal.nD Cert.NormFReferenceIdeal.τ Cert.NormFReferenceIdeal.sig) → Buf (Elt Ideal) ℓ) : Prop :=
  True

def Pre_MergeFKernel (m : (ℓ : Loc Cert.MergeFKernel.nD Cert.MergeFKernel.τ Cert.MergeFKernel.sig) → Buf (Elt Bits) ℓ) : Prop :=
  True

def Pre_MergeFKernelIdeal (m : (ℓ : Loc Cert.MergeFKernelIdeal.nD Cert.MergeFKernelIdeal.τ Cert.MergeFKernelIdeal.sig) → Buf (Elt Ideal) ℓ) : Prop :=
  True

def Pre_MergeFReferenceIdeal (m : (ℓ : Loc Cert.MergeFReferenceIdeal.nD Cert.MergeFReferenceIdeal.τ Cert.MergeFReferenceIdeal.sig) → Buf (Elt Ideal) ℓ) : Prop :=
  True

def Pre_GluFKernel (m : (ℓ : Loc Cert.GluFKernel.nD Cert.GluFKernel.τ Cert.GluFKernel.sig) → Buf (Elt Bits) ℓ) : Prop :=
  True

def Pre_GluFKernelIdeal (m : (ℓ : Loc Cert.GluFKernelIdeal.nD Cert.GluFKernelIdeal.τ Cert.GluFKernelIdeal.sig) → Buf (Elt Ideal) ℓ) : Prop :=
  True

def Pre_GluFReferenceIdeal (m : (ℓ : Loc Cert.GluFReferenceIdeal.nD Cert.GluFReferenceIdeal.τ Cert.GluFReferenceIdeal.sig) → Buf (Elt Ideal) ℓ) : Prop :=
  True

def Pre_CombKernel (m : (ℓ : Loc Cert.CombKernel.nD Cert.CombKernel.τ Cert.CombKernel.sig) → Buf (Elt Bits) ℓ) : Prop :=
  True

def Pre_CombKernelIdeal (m : (ℓ : Loc Cert.CombKernelIdeal.nD Cert.CombKernelIdeal.τ Cert.CombKernelIdeal.sig) → Buf (Elt Ideal) ℓ) : Prop :=
  True

def Pre_CombKernelIdeal_weights_finite [hPre_weights_finite : Cert.Pre_weights_finite.Facts] (m : (ℓ : Loc Cert.CombKernelIdeal.nD Cert.CombKernelIdeal.τ Cert.CombKernelIdeal.sig) → Buf (Elt Ideal) ℓ) : Prop :=
  ∀ c : Dev Cert.CombKernelIdeal.nD,
    (Cert.Pre_weights_finite.fn (F := Ideal) (m ((c.tc : Thread Cert.CombKernelIdeal.nD Cert.CombKernelIdeal.τ).loc Cert.CombKernelIdeal.main_arg0)) (m ((c.tc : Thread Cert.CombKernelIdeal.nD Cert.CombKernelIdeal.τ).loc Cert.CombKernelIdeal.main_arg1)) (m ((c.tc : Thread Cert.CombKernelIdeal.nD Cert.CombKernelIdeal.τ).loc Cert.CombKernelIdeal.main_arg2)) (m ((c.tc : Thread Cert.CombKernelIdeal.nD Cert.CombKernelIdeal.τ).loc Cert.CombKernelIdeal.main_arg3)) (m ((c.tc : Thread Cert.CombKernelIdeal.nD Cert.CombKernelIdeal.τ).loc Cert.CombKernelIdeal.main_arg4)) (m ((c.tc : Thread Cert.CombKernelIdeal.nD Cert.CombKernelIdeal.τ).loc Cert.CombKernelIdeal.main_arg5)) (m ((c.tc : Thread Cert.CombKernelIdeal.nD Cert.CombKernelIdeal.τ).loc Cert.CombKernelIdeal.main_arg6))) = (fun _ => 1#1)

def Pre_CombReferenceIdeal (m : (ℓ : Loc Cert.CombReferenceIdeal.nD Cert.CombReferenceIdeal.τ Cert.CombReferenceIdeal.sig) → Buf (Elt Ideal) ℓ) : Prop :=
  True

def Pre_CombReferenceIdeal_weights_finite [hPre_weights_finite : Cert.Pre_weights_finite.Facts] (m : (ℓ : Loc Cert.CombReferenceIdeal.nD Cert.CombReferenceIdeal.τ Cert.CombReferenceIdeal.sig) → Buf (Elt Ideal) ℓ) : Prop :=
  ∀ c : Dev Cert.CombReferenceIdeal.nD,
    (Cert.Pre_weights_finite.fn (F := Ideal) (m ((c.tc : Thread Cert.CombReferenceIdeal.nD Cert.CombReferenceIdeal.τ).loc Cert.CombReferenceIdeal.main_arg0)) (m ((c.tc : Thread Cert.CombReferenceIdeal.nD Cert.CombReferenceIdeal.τ).loc Cert.CombReferenceIdeal.main_arg1)) (m ((c.tc : Thread Cert.CombReferenceIdeal.nD Cert.CombReferenceIdeal.τ).loc Cert.CombReferenceIdeal.main_arg2)) (m ((c.tc : Thread Cert.CombReferenceIdeal.nD Cert.CombReferenceIdeal.τ).loc Cert.CombReferenceIdeal.main_arg3)) (m ((c.tc : Thread Cert.CombReferenceIdeal.nD Cert.CombReferenceIdeal.τ).loc Cert.CombReferenceIdeal.main_arg4)) (m ((c.tc : Thread Cert.CombReferenceIdeal.nD Cert.CombReferenceIdeal.τ).loc Cert.CombReferenceIdeal.main_arg5)) (m ((c.tc : Thread Cert.CombReferenceIdeal.nD Cert.CombReferenceIdeal.τ).loc Cert.CombReferenceIdeal.main_arg6))) = (fun _ => 1#1)

def Pre_CombBKernel (m : (ℓ : Loc Cert.CombBKernel.nD Cert.CombBKernel.τ Cert.CombBKernel.sig) → Buf (Elt Bits) ℓ) : Prop :=
  True

def Pre_CombBKernelIdeal (m : (ℓ : Loc Cert.CombBKernelIdeal.nD Cert.CombBKernelIdeal.τ Cert.CombBKernelIdeal.sig) → Buf (Elt Ideal) ℓ) : Prop :=
  True

def Pre_CombBKernelIdeal_all_finite [hPre_all_finite : Cert.Pre_all_finite.Facts] (m : (ℓ : Loc Cert.CombBKernelIdeal.nD Cert.CombBKernelIdeal.τ Cert.CombBKernelIdeal.sig) → Buf (Elt Ideal) ℓ) : Prop :=
  ∀ c : Dev Cert.CombBKernelIdeal.nD,
    (Cert.Pre_all_finite.fn (F := Ideal) (m ((c.tc : Thread Cert.CombBKernelIdeal.nD Cert.CombBKernelIdeal.τ).loc Cert.CombBKernelIdeal.main_arg0)) (m ((c.tc : Thread Cert.CombBKernelIdeal.nD Cert.CombBKernelIdeal.τ).loc Cert.CombBKernelIdeal.main_arg1)) (m ((c.tc : Thread Cert.CombBKernelIdeal.nD Cert.CombBKernelIdeal.τ).loc Cert.CombBKernelIdeal.main_arg2)) (m ((c.tc : Thread Cert.CombBKernelIdeal.nD Cert.CombBKernelIdeal.τ).loc Cert.CombBKernelIdeal.main_arg3)) (m ((c.tc : Thread Cert.CombBKernelIdeal.nD Cert.CombBKernelIdeal.τ).loc Cert.CombBKernelIdeal.main_arg4)) (m ((c.tc : Thread Cert.CombBKernelIdeal.nD Cert.CombBKernelIdeal.τ).loc Cert.CombBKernelIdeal.main_arg5)) (m ((c.tc : Thread Cert.CombBKernelIdeal.nD Cert.CombBKernelIdeal.τ).loc Cert.CombBKernelIdeal.main_arg6)) (m ((c.tc : Thread Cert.CombBKernelIdeal.nD Cert.CombBKernelIdeal.τ).loc Cert.CombBKernelIdeal.main_arg7))) = (fun _ => 1#1)

def Pre_CombBReferenceIdeal (m : (ℓ : Loc Cert.CombBReferenceIdeal.nD Cert.CombBReferenceIdeal.τ Cert.CombBReferenceIdeal.sig) → Buf (Elt Ideal) ℓ) : Prop :=
  True

def Pre_CombBReferenceIdeal_all_finite [hPre_all_finite : Cert.Pre_all_finite.Facts] (m : (ℓ : Loc Cert.CombBReferenceIdeal.nD Cert.CombBReferenceIdeal.τ Cert.CombBReferenceIdeal.sig) → Buf (Elt Ideal) ℓ) : Prop :=
  ∀ c : Dev Cert.CombBReferenceIdeal.nD,
    (Cert.Pre_all_finite.fn (F := Ideal) (m ((c.tc : Thread Cert.CombBReferenceIdeal.nD Cert.CombBReferenceIdeal.τ).loc Cert.CombBReferenceIdeal.main_arg0)) (m ((c.tc : Thread Cert.CombBReferenceIdeal.nD Cert.CombBReferenceIdeal.τ).loc Cert.CombBReferenceIdeal.main_arg1)) (m ((c.tc : Thread Cert.CombBReferenceIdeal.nD Cert.CombBReferenceIdeal.τ).loc Cert.CombBReferenceIdeal.main_arg2)) (m ((c.tc : Thread Cert.CombBReferenceIdeal.nD Cert.CombBReferenceIdeal.τ).loc Cert.CombBReferenceIdeal.main_arg3)) (m ((c.tc : Thread Cert.CombBReferenceIdeal.nD Cert.CombBReferenceIdeal.τ).loc Cert.CombBReferenceIdeal.main_arg4)) (m ((c.tc : Thread Cert.CombBReferenceIdeal.nD Cert.CombBReferenceIdeal.τ).loc Cert.CombBReferenceIdeal.main_arg5)) (m ((c.tc : Thread Cert.CombBReferenceIdeal.nD Cert.CombBReferenceIdeal.τ).loc Cert.CombBReferenceIdeal.main_arg6)) (m ((c.tc : Thread Cert.CombBReferenceIdeal.nD Cert.CombBReferenceIdeal.τ).loc Cert.CombBReferenceIdeal.main_arg7))) = (fun _ => 1#1)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_GluKernel [hGluKernel : Cert.GluKernel.Facts] : Prop :=
  ∀ (m : (ℓ : Loc Cert.GluKernel.nD Cert.GluKernel.τ Cert.GluKernel.sig) → Buf (Elt Bits) ℓ) (g : Dev Cert.GluKernel.nD → PrngReg), Pre_GluKernel m →
    θ_run (Cert.GluKernel.defs (F := Bits)) (onTc (τ := Cert.GluKernel.τ) (Cert.GluKernel.main (F := Bits))) ⟨m, fun _ => 0, g⟩ (fun r => (∀ c : Dev Cert.GluKernel.nD,
      r.2.mem ((c.tc : Thread Cert.GluKernel.nD Cert.GluKernel.τ).loc Cert.GluKernel.main_arg0) = m ((c.tc : Thread Cert.GluKernel.nD Cert.GluKernel.τ).loc Cert.GluKernel.main_arg0)
      ∧ r.2.mem ((c.tc : Thread Cert.GluKernel.nD Cert.GluKernel.τ).loc Cert.GluKernel.main_arg1) = m ((c.tc : Thread Cert.GluKernel.nD Cert.GluKernel.τ).loc Cert.GluKernel.main_arg1)
      ∧ r.2.mem ((c.tc : Thread Cert.GluKernel.nD Cert.GluKernel.τ).loc Cert.GluKernel.main_arg2) = m ((c.tc : Thread Cert.GluKernel.nD Cert.GluKernel.τ).loc Cert.GluKernel.main_arg2)
      ∧ r.2.mem ((c.tc : Thread Cert.GluKernel.nD Cert.GluKernel.τ).loc Cert.GluKernel.main_arg3) = m ((c.tc : Thread Cert.GluKernel.nD Cert.GluKernel.τ).loc Cert.GluKernel.main_arg3)
      ∧ r.2.mem ((c.tc : Thread Cert.GluKernel.nD Cert.GluKernel.τ).loc Cert.GluKernel.main_arg4) = m ((c.tc : Thread Cert.GluKernel.nD Cert.GluKernel.τ).loc Cert.GluKernel.main_arg4))
      ∧ r.2.sem = fun _ => 0)

def quiescent_GluKernelIdeal [hGluKernelIdeal : Cert.GluKernelIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
      ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3)
      ∧ r.2.mem ((c.tc : Thread Cert.GluKernelIdeal.nD Cert.GluKernelIdeal.τ).loc Cert.GluKernelIdeal.main_arg4) = m ((c.tc : Thread Cert.GluKernelIdeal.nD Cert.GluKernelIdeal.τ).loc Cert.GluKernelIdeal.main_arg4))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3)
      ∧ r.2.mem ((c.tc : Thread Cert.GluReferenceIdeal.nD Cert.GluReferenceIdeal.τ).loc Cert.GluReferenceIdeal.main_arg4) = m ((c.tc : Thread Cert.GluReferenceIdeal.nD Cert.GluReferenceIdeal.τ).loc Cert.GluReferenceIdeal.main_arg4))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_DHKernel [hDHKernel : Cert.DHKernel.Facts] : Prop :=
  ∀ (m : (ℓ : Loc Cert.DHKernel.nD Cert.DHKernel.τ Cert.DHKernel.sig) → Buf (Elt Bits) ℓ) (g : Dev Cert.DHKernel.nD → PrngReg), Pre_DHKernel m →
    θ_run (Cert.DHKernel.defs (F := Bits)) (onTc (τ := Cert.DHKernel.τ) (Cert.DHKernel.main (F := Bits))) ⟨m, fun _ => 0, g⟩ (fun r => (∀ c : Dev Cert.DHKernel.nD,
      r.2.mem ((c.tc : Thread Cert.DHKernel.nD Cert.DHKernel.τ).loc Cert.DHKernel.main_arg0) = m ((c.tc : Thread Cert.DHKernel.nD Cert.DHKernel.τ).loc Cert.DHKernel.main_arg0)
      ∧ r.2.mem ((c.tc : Thread Cert.DHKernel.nD Cert.DHKernel.τ).loc Cert.DHKernel.main_arg1) = m ((c.tc : Thread Cert.DHKernel.nD Cert.DHKernel.τ).loc Cert.DHKernel.main_arg1)
      ∧ r.2.mem ((c.tc : Thread Cert.DHKernel.nD Cert.DHKernel.τ).loc Cert.DHKernel.main_arg2) = m ((c.tc : Thread Cert.DHKernel.nD Cert.DHKernel.τ).loc Cert.DHKernel.main_arg2)
      ∧ r.2.mem ((c.tc : Thread Cert.DHKernel.nD Cert.DHKernel.τ).loc Cert.DHKernel.main_arg3) = m ((c.tc : Thread Cert.DHKernel.nD Cert.DHKernel.τ).loc Cert.DHKernel.main_arg3)
      ∧ r.2.mem ((c.tc : Thread Cert.DHKernel.nD Cert.DHKernel.τ).loc Cert.DHKernel.main_arg4) = m ((c.tc : Thread Cert.DHKernel.nD Cert.DHKernel.τ).loc Cert.DHKernel.main_arg4)
      ∧ r.2.mem ((c.tc : Thread Cert.DHKernel.nD Cert.DHKernel.τ).loc Cert.DHKernel.main_arg5) = m ((c.tc : Thread Cert.DHKernel.nD Cert.DHKernel.τ).loc Cert.DHKernel.main_arg5)
      ∧ r.2.mem ((c.tc : Thread Cert.DHKernel.nD Cert.DHKernel.τ).loc Cert.DHKernel.main_arg6) = m ((c.tc : Thread Cert.DHKernel.nD Cert.DHKernel.τ).loc Cert.DHKernel.main_arg6)
      ∧ r.2.mem ((c.tc : Thread Cert.DHKernel.nD Cert.DHKernel.τ).loc Cert.DHKernel.main_arg7) = m ((c.tc : Thread Cert.DHKernel.nD Cert.DHKernel.τ).loc Cert.DHKernel.main_arg7))
      ∧ r.2.sem = fun _ => 0)

def quiescent_DHKernelIdeal [hDHKernelIdeal : Cert.DHKernelIdeal.Facts] : Prop :=
  ∀ (m : (ℓ : Loc Cert.DHKernelIdeal.nD Cert.DHKernelIdeal.τ Cert.DHKernelIdeal.sig) → Buf (Elt Ideal) ℓ) (g : Dev Cert.DHKernelIdeal.nD → PrngReg), Pre_DHKernelIdeal m →
    θ_run (Cert.DHKernelIdeal.defs (F := Ideal)) (onTc (τ := Cert.DHKernelIdeal.τ) (Cert.DHKernelIdeal.main (F := Ideal))) ⟨m, fun _ => 0, g⟩ (fun r => (∀ c : Dev Cert.DHKernelIdeal.nD,
      r.2.mem ((c.tc : Thread Cert.DHKernelIdeal.nD Cert.DHKernelIdeal.τ).loc Cert.DHKernelIdeal.main_arg0) = m ((c.tc : Thread Cert.DHKernelIdeal.nD Cert.DHKernelIdeal.τ).loc Cert.DHKernelIdeal.main_arg0)
      ∧ r.2.mem ((c.tc : Thread Cert.DHKernelIdeal.nD Cert.DHKernelIdeal.τ).loc Cert.DHKernelIdeal.main_arg1) = m ((c.tc : Thread Cert.DHKernelIdeal.nD Cert.DHKernelIdeal.τ).loc Cert.DHKernelIdeal.main_arg1)
      ∧ r.2.mem ((c.tc : Thread Cert.DHKernelIdeal.nD Cert.DHKernelIdeal.τ).loc Cert.DHKernelIdeal.main_arg2) = m ((c.tc : Thread Cert.DHKernelIdeal.nD Cert.DHKernelIdeal.τ).loc Cert.DHKernelIdeal.main_arg2)
      ∧ r.2.mem ((c.tc : Thread Cert.DHKernelIdeal.nD Cert.DHKernelIdeal.τ).loc Cert.DHKernelIdeal.main_arg3) = m ((c.tc : Thread Cert.DHKernelIdeal.nD Cert.DHKernelIdeal.τ).loc Cert.DHKernelIdeal.main_arg3)
      ∧ r.2.mem ((c.tc : Thread Cert.DHKernelIdeal.nD Cert.DHKernelIdeal.τ).loc Cert.DHKernelIdeal.main_arg4) = m ((c.tc : Thread Cert.DHKernelIdeal.nD Cert.DHKernelIdeal.τ).loc Cert.DHKernelIdeal.main_arg4)
      ∧ r.2.mem ((c.tc : Thread Cert.DHKernelIdeal.nD Cert.DHKernelIdeal.τ).loc Cert.DHKernelIdeal.main_arg5) = m ((c.tc : Thread Cert.DHKernelIdeal.nD Cert.DHKernelIdeal.τ).loc Cert.DHKernelIdeal.main_arg5)
      ∧ r.2.mem ((c.tc : Thread Cert.DHKernelIdeal.nD Cert.DHKernelIdeal.τ).loc Cert.DHKernelIdeal.main_arg6) = m ((c.tc : Thread Cert.DHKernelIdeal.nD Cert.DHKernelIdeal.τ).loc Cert.DHKernelIdeal.main_arg6)
      ∧ r.2.mem ((c.tc : Thread Cert.DHKernelIdeal.nD Cert.DHKernelIdeal.τ).loc Cert.DHKernelIdeal.main_arg7) = m ((c.tc : Thread Cert.DHKernelIdeal.nD Cert.DHKernelIdeal.τ).loc Cert.DHKernelIdeal.main_arg7))
      ∧ r.2.sem = fun _ => 0)

def quiescent_DHReferenceIdeal [hDHReferenceIdeal : Cert.DHReferenceIdeal.Facts] : Prop :=
  ∀ (m : (ℓ : Loc Cert.DHReferenceIdeal.nD Cert.DHReferenceIdeal.τ Cert.DHReferenceIdeal.sig) → Buf (Elt Ideal) ℓ) (g : Dev Cert.DHReferenceIdeal.nD → PrngReg), Pre_DHReferenceIdeal m →
    θ_run (Cert.DHReferenceIdeal.defs (F := Ideal)) (onTc (τ := Cert.DHReferenceIdeal.τ) (Cert.DHReferenceIdeal.main (F := Ideal))) ⟨m, fun _ => 0, g⟩ (fun r => (∀ c : Dev Cert.DHReferenceIdeal.nD,
      r.2.mem ((c.tc : Thread Cert.DHReferenceIdeal.nD Cert.DHReferenceIdeal.τ).loc Cert.DHReferenceIdeal.main_arg0) = m ((c.tc : Thread Cert.DHReferenceIdeal.nD Cert.DHReferenceIdeal.τ).loc Cert.DHReferenceIdeal.main_arg0)
      ∧ r.2.mem ((c.tc : Thread Cert.DHReferenceIdeal.nD Cert.DHReferenceIdeal.τ).loc Cert.DHReferenceIdeal.main_arg1) = m ((c.tc : Thread Cert.DHReferenceIdeal.nD Cert.DHReferenceIdeal.τ).loc Cert.DHReferenceIdeal.main_arg1)
      ∧ r.2.mem ((c.tc : Thread Cert.DHReferenceIdeal.nD Cert.DHReferenceIdeal.τ).loc Cert.DHReferenceIdeal.main_arg2) = m ((c.tc : Thread Cert.DHReferenceIdeal.nD Cert.DHReferenceIdeal.τ).loc Cert.DHReferenceIdeal.main_arg2)
      ∧ r.2.mem ((c.tc : Thread Cert.DHReferenceIdeal.nD Cert.DHReferenceIdeal.τ).loc Cert.DHReferenceIdeal.main_arg3) = m ((c.tc : Thread Cert.DHReferenceIdeal.nD Cert.DHReferenceIdeal.τ).loc Cert.DHReferenceIdeal.main_arg3)
      ∧ r.2.mem ((c.tc : Thread Cert.DHReferenceIdeal.nD Cert.DHReferenceIdeal.τ).loc Cert.DHReferenceIdeal.main_arg4) = m ((c.tc : Thread Cert.DHReferenceIdeal.nD Cert.DHReferenceIdeal.τ).loc Cert.DHReferenceIdeal.main_arg4)
      ∧ r.2.mem ((c.tc : Thread Cert.DHReferenceIdeal.nD Cert.DHReferenceIdeal.τ).loc Cert.DHReferenceIdeal.main_arg5) = m ((c.tc : Thread Cert.DHReferenceIdeal.nD Cert.DHReferenceIdeal.τ).loc Cert.DHReferenceIdeal.main_arg5)
      ∧ r.2.mem ((c.tc : Thread Cert.DHReferenceIdeal.nD Cert.DHReferenceIdeal.τ).loc Cert.DHReferenceIdeal.main_arg6) = m ((c.tc : Thread Cert.DHReferenceIdeal.nD Cert.DHReferenceIdeal.τ).loc Cert.DHReferenceIdeal.main_arg6)
      ∧ r.2.mem ((c.tc : Thread Cert.DHReferenceIdeal.nD Cert.DHReferenceIdeal.τ).loc Cert.DHReferenceIdeal.main_arg7) = m ((c.tc : Thread Cert.DHReferenceIdeal.nD Cert.DHReferenceIdeal.τ).loc Cert.DHReferenceIdeal.main_arg7))
      ∧ r.2.sem = fun _ => 0)

def quiescent_GWinAKernel [hGWinAKernel : Cert.GWinAKernel.Facts] : Prop :=
  ∀ (m : (ℓ : Loc Cert.GWinAKernel.nD Cert.GWinAKernel.τ Cert.GWinAKernel.sig) → Buf (Elt Bits) ℓ) (g : Dev Cert.GWinAKernel.nD → PrngReg), Pre_GWinAKernel m →
    θ_run (Cert.GWinAKernel.defs (F := Bits)) (onTc (τ := Cert.GWinAKernel.τ) (Cert.GWinAKernel.main (F := Bits))) ⟨m, fun _ => 0, g⟩ (fun r => (∀ c : Dev Cert.GWinAKernel.nD,
      r.2.mem ((c.tc : Thread Cert.GWinAKernel.nD Cert.GWinAKernel.τ).loc Cert.GWinAKernel.main_arg0) = m ((c.tc : Thread Cert.GWinAKernel.nD Cert.GWinAKernel.τ).loc Cert.GWinAKernel.main_arg0)
      ∧ r.2.mem ((c.tc : Thread Cert.GWinAKernel.nD Cert.GWinAKernel.τ).loc Cert.GWinAKernel.main_arg1) = m ((c.tc : Thread Cert.GWinAKernel.nD Cert.GWinAKernel.τ).loc Cert.GWinAKernel.main_arg1))
      ∧ r.2.sem = fun _ => 0)

def quiescent_GWinAKernelIdeal [hGWinAKernelIdeal : Cert.GWinAKernelIdeal.Facts] : Prop :=
  ∀ (m : (ℓ : Loc Cert.GWinAKernelIdeal.nD Cert.GWinAKernelIdeal.τ Cert.GWinAKernelIdeal.sig) → Buf (Elt Ideal) ℓ) (g : Dev Cert.GWinAKernelIdeal.nD → PrngReg), Pre_GWinAKernelIdeal m →
    θ_run (Cert.GWinAKernelIdeal.defs (F := Ideal)) (onTc (τ := Cert.GWinAKernelIdeal.τ) (Cert.GWinAKernelIdeal.main (F := Ideal))) ⟨m, fun _ => 0, g⟩ (fun r => (∀ c : Dev Cert.GWinAKernelIdeal.nD,
      r.2.mem ((c.tc : Thread Cert.GWinAKernelIdeal.nD Cert.GWinAKernelIdeal.τ).loc Cert.GWinAKernelIdeal.main_arg0) = m ((c.tc : Thread Cert.GWinAKernelIdeal.nD Cert.GWinAKernelIdeal.τ).loc Cert.GWinAKernelIdeal.main_arg0)
      ∧ r.2.mem ((c.tc : Thread Cert.GWinAKernelIdeal.nD Cert.GWinAKernelIdeal.τ).loc Cert.GWinAKernelIdeal.main_arg1) = m ((c.tc : Thread Cert.GWinAKernelIdeal.nD Cert.GWinAKernelIdeal.τ).loc Cert.GWinAKernelIdeal.main_arg1))
      ∧ r.2.sem = fun _ => 0)

def quiescent_GWinAReferenceIdeal [hGWinAReferenceIdeal : Cert.GWinAReferenceIdeal.Facts] : Prop :=
  ∀ (m : (ℓ : Loc Cert.GWinAReferenceIdeal.nD Cert.GWinAReferenceIdeal.τ Cert.GWinAReferenceIdeal.sig) → Buf (Elt Ideal) ℓ) (g : Dev Cert.GWinAReferenceIdeal.nD → PrngReg), Pre_GWinAReferenceIdeal m →
    θ_run (Cert.GWinAReferenceIdeal.defs (F := Ideal)) (onTc (τ := Cert.GWinAReferenceIdeal.τ) (Cert.GWinAReferenceIdeal.main (F := Ideal))) ⟨m, fun _ => 0, g⟩ (fun r => (∀ c : Dev Cert.GWinAReferenceIdeal.nD,
      r.2.mem ((c.tc : Thread Cert.GWinAReferenceIdeal.nD Cert.GWinAReferenceIdeal.τ).loc Cert.GWinAReferenceIdeal.main_arg0) = m ((c.tc : Thread Cert.GWinAReferenceIdeal.nD Cert.GWinAReferenceIdeal.τ).loc Cert.GWinAReferenceIdeal.main_arg0)
      ∧ r.2.mem ((c.tc : Thread Cert.GWinAReferenceIdeal.nD Cert.GWinAReferenceIdeal.τ).loc Cert.GWinAReferenceIdeal.main_arg1) = m ((c.tc : Thread Cert.GWinAReferenceIdeal.nD Cert.GWinAReferenceIdeal.τ).loc Cert.GWinAReferenceIdeal.main_arg1))
      ∧ r.2.sem = fun _ => 0)

def quiescent_GWinQKernel [hGWinQKernel : Cert.GWinQKernel.Facts] : Prop :=
  ∀ (m : (ℓ : Loc Cert.GWinQKernel.nD Cert.GWinQKernel.τ Cert.GWinQKernel.sig) → Buf (Elt Bits) ℓ) (g : Dev Cert.GWinQKernel.nD → PrngReg), Pre_GWinQKernel m →
    θ_run (Cert.GWinQKernel.defs (F := Bits)) (onTc (τ := Cert.GWinQKernel.τ) (Cert.GWinQKernel.main (F := Bits))) ⟨m, fun _ => 0, g⟩ (fun r => (∀ c : Dev Cert.GWinQKernel.nD,
      r.2.mem ((c.tc : Thread Cert.GWinQKernel.nD Cert.GWinQKernel.τ).loc Cert.GWinQKernel.main_arg0) = m ((c.tc : Thread Cert.GWinQKernel.nD Cert.GWinQKernel.τ).loc Cert.GWinQKernel.main_arg0)
      ∧ r.2.mem ((c.tc : Thread Cert.GWinQKernel.nD Cert.GWinQKernel.τ).loc Cert.GWinQKernel.main_arg1) = m ((c.tc : Thread Cert.GWinQKernel.nD Cert.GWinQKernel.τ).loc Cert.GWinQKernel.main_arg1))
      ∧ r.2.sem = fun _ => 0)

def quiescent_GWinQKernelIdeal [hGWinQKernelIdeal : Cert.GWinQKernelIdeal.Facts] : Prop :=
  ∀ (m : (ℓ : Loc Cert.GWinQKernelIdeal.nD Cert.GWinQKernelIdeal.τ Cert.GWinQKernelIdeal.sig) → Buf (Elt Ideal) ℓ) (g : Dev Cert.GWinQKernelIdeal.nD → PrngReg), Pre_GWinQKernelIdeal m →
    θ_run (Cert.GWinQKernelIdeal.defs (F := Ideal)) (onTc (τ := Cert.GWinQKernelIdeal.τ) (Cert.GWinQKernelIdeal.main (F := Ideal))) ⟨m, fun _ => 0, g⟩ (fun r => (∀ c : Dev Cert.GWinQKernelIdeal.nD,
      r.2.mem ((c.tc : Thread Cert.GWinQKernelIdeal.nD Cert.GWinQKernelIdeal.τ).loc Cert.GWinQKernelIdeal.main_arg0) = m ((c.tc : Thread Cert.GWinQKernelIdeal.nD Cert.GWinQKernelIdeal.τ).loc Cert.GWinQKernelIdeal.main_arg0)
      ∧ r.2.mem ((c.tc : Thread Cert.GWinQKernelIdeal.nD Cert.GWinQKernelIdeal.τ).loc Cert.GWinQKernelIdeal.main_arg1) = m ((c.tc : Thread Cert.GWinQKernelIdeal.nD Cert.GWinQKernelIdeal.τ).loc Cert.GWinQKernelIdeal.main_arg1))
      ∧ r.2.sem = fun _ => 0)

def quiescent_GWinQReferenceIdeal [hGWinQReferenceIdeal : Cert.GWinQReferenceIdeal.Facts] : Prop :=
  ∀ (m : (ℓ : Loc Cert.GWinQReferenceIdeal.nD Cert.GWinQReferenceIdeal.τ Cert.GWinQReferenceIdeal.sig) → Buf (Elt Ideal) ℓ) (g : Dev Cert.GWinQReferenceIdeal.nD → PrngReg), Pre_GWinQReferenceIdeal m →
    θ_run (Cert.GWinQReferenceIdeal.defs (F := Ideal)) (onTc (τ := Cert.GWinQReferenceIdeal.τ) (Cert.GWinQReferenceIdeal.main (F := Ideal))) ⟨m, fun _ => 0, g⟩ (fun r => (∀ c : Dev Cert.GWinQReferenceIdeal.nD,
      r.2.mem ((c.tc : Thread Cert.GWinQReferenceIdeal.nD Cert.GWinQReferenceIdeal.τ).loc Cert.GWinQReferenceIdeal.main_arg0) = m ((c.tc : Thread Cert.GWinQReferenceIdeal.nD Cert.GWinQReferenceIdeal.τ).loc Cert.GWinQReferenceIdeal.main_arg0)
      ∧ r.2.mem ((c.tc : Thread Cert.GWinQReferenceIdeal.nD Cert.GWinQReferenceIdeal.τ).loc Cert.GWinQReferenceIdeal.main_arg1) = m ((c.tc : Thread Cert.GWinQReferenceIdeal.nD Cert.GWinQReferenceIdeal.τ).loc Cert.GWinQReferenceIdeal.main_arg1))
      ∧ r.2.sem = fun _ => 0)

def quiescent_GWinGKernel [hGWinGKernel : Cert.GWinGKernel.Facts] : Prop :=
  ∀ (m : (ℓ : Loc Cert.GWinGKernel.nD Cert.GWinGKernel.τ Cert.GWinGKernel.sig) → Buf (Elt Bits) ℓ) (g : Dev Cert.GWinGKernel.nD → PrngReg), Pre_GWinGKernel m →
    θ_run (Cert.GWinGKernel.defs (F := Bits)) (onTc (τ := Cert.GWinGKernel.τ) (Cert.GWinGKernel.main (F := Bits))) ⟨m, fun _ => 0, g⟩ (fun r => (∀ c : Dev Cert.GWinGKernel.nD,
      r.2.mem ((c.tc : Thread Cert.GWinGKernel.nD Cert.GWinGKernel.τ).loc Cert.GWinGKernel.main_arg0) = m ((c.tc : Thread Cert.GWinGKernel.nD Cert.GWinGKernel.τ).loc Cert.GWinGKernel.main_arg0)
      ∧ r.2.mem ((c.tc : Thread Cert.GWinGKernel.nD Cert.GWinGKernel.τ).loc Cert.GWinGKernel.main_arg1) = m ((c.tc : Thread Cert.GWinGKernel.nD Cert.GWinGKernel.τ).loc Cert.GWinGKernel.main_arg1))
      ∧ r.2.sem = fun _ => 0)

def quiescent_GWinGKernelIdeal [hGWinGKernelIdeal : Cert.GWinGKernelIdeal.Facts] : Prop :=
  ∀ (m : (ℓ : Loc Cert.GWinGKernelIdeal.nD Cert.GWinGKernelIdeal.τ Cert.GWinGKernelIdeal.sig) → Buf (Elt Ideal) ℓ) (g : Dev Cert.GWinGKernelIdeal.nD → PrngReg), Pre_GWinGKernelIdeal m →
    θ_run (Cert.GWinGKernelIdeal.defs (F := Ideal)) (onTc (τ := Cert.GWinGKernelIdeal.τ) (Cert.GWinGKernelIdeal.main (F := Ideal))) ⟨m, fun _ => 0, g⟩ (fun r => (∀ c : Dev Cert.GWinGKernelIdeal.nD,
      r.2.mem ((c.tc : Thread Cert.GWinGKernelIdeal.nD Cert.GWinGKernelIdeal.τ).loc Cert.GWinGKernelIdeal.main_arg0) = m ((c.tc : Thread Cert.GWinGKernelIdeal.nD Cert.GWinGKernelIdeal.τ).loc Cert.GWinGKernelIdeal.main_arg0)
      ∧ r.2.mem ((c.tc : Thread Cert.GWinGKernelIdeal.nD Cert.GWinGKernelIdeal.τ).loc Cert.GWinGKernelIdeal.main_arg1) = m ((c.tc : Thread Cert.GWinGKernelIdeal.nD Cert.GWinGKernelIdeal.τ).loc Cert.GWinGKernelIdeal.main_arg1))
      ∧ r.2.sem = fun _ => 0)

def quiescent_GWinGReferenceIdeal [hGWinGReferenceIdeal : Cert.GWinGReferenceIdeal.Facts] : Prop :=
  ∀ (m : (ℓ : Loc Cert.GWinGReferenceIdeal.nD Cert.GWinGReferenceIdeal.τ Cert.GWinGReferenceIdeal.sig) → Buf (Elt Ideal) ℓ) (g : Dev Cert.GWinGReferenceIdeal.nD → PrngReg), Pre_GWinGReferenceIdeal m →
    θ_run (Cert.GWinGReferenceIdeal.defs (F := Ideal)) (onTc (τ := Cert.GWinGReferenceIdeal.τ) (Cert.GWinGReferenceIdeal.main (F := Ideal))) ⟨m, fun _ => 0, g⟩ (fun r => (∀ c : Dev Cert.GWinGReferenceIdeal.nD,
      r.2.mem ((c.tc : Thread Cert.GWinGReferenceIdeal.nD Cert.GWinGReferenceIdeal.τ).loc Cert.GWinGReferenceIdeal.main_arg0) = m ((c.tc : Thread Cert.GWinGReferenceIdeal.nD Cert.GWinGReferenceIdeal.τ).loc Cert.GWinGReferenceIdeal.main_arg0)
      ∧ r.2.mem ((c.tc : Thread Cert.GWinGReferenceIdeal.nD Cert.GWinGReferenceIdeal.τ).loc Cert.GWinGReferenceIdeal.main_arg1) = m ((c.tc : Thread Cert.GWinGReferenceIdeal.nD Cert.GWinGReferenceIdeal.τ).loc Cert.GWinGReferenceIdeal.main_arg1))
      ∧ r.2.sem = fun _ => 0)

def quiescent_GWoutKernel [hGWoutKernel : Cert.GWoutKernel.Facts] : Prop :=
  ∀ (m : (ℓ : Loc Cert.GWoutKernel.nD Cert.GWoutKernel.τ Cert.GWoutKernel.sig) → Buf (Elt Bits) ℓ) (g : Dev Cert.GWoutKernel.nD → PrngReg), Pre_GWoutKernel m →
    θ_run (Cert.GWoutKernel.defs (F := Bits)) (onTc (τ := Cert.GWoutKernel.τ) (Cert.GWoutKernel.main (F := Bits))) ⟨m, fun _ => 0, g⟩ (fun r => (∀ c : Dev Cert.GWoutKernel.nD,
      r.2.mem ((c.tc : Thread Cert.GWoutKernel.nD Cert.GWoutKernel.τ).loc Cert.GWoutKernel.main_arg0) = m ((c.tc : Thread Cert.GWoutKernel.nD Cert.GWoutKernel.τ).loc Cert.GWoutKernel.main_arg0)
      ∧ r.2.mem ((c.tc : Thread Cert.GWoutKernel.nD Cert.GWoutKernel.τ).loc Cert.GWoutKernel.main_arg1) = m ((c.tc : Thread Cert.GWoutKernel.nD Cert.GWoutKernel.τ).loc Cert.GWoutKernel.main_arg1))
      ∧ r.2.sem = fun _ => 0)

def quiescent_GWoutKernelIdeal [hGWoutKernelIdeal : Cert.GWoutKernelIdeal.Facts] : Prop :=
  ∀ (m : (ℓ : Loc Cert.GWoutKernelIdeal.nD Cert.GWoutKernelIdeal.τ Cert.GWoutKernelIdeal.sig) → Buf (Elt Ideal) ℓ) (g : Dev Cert.GWoutKernelIdeal.nD → PrngReg), Pre_GWoutKernelIdeal m →
    θ_run (Cert.GWoutKernelIdeal.defs (F := Ideal)) (onTc (τ := Cert.GWoutKernelIdeal.τ) (Cert.GWoutKernelIdeal.main (F := Ideal))) ⟨m, fun _ => 0, g⟩ (fun r => (∀ c : Dev Cert.GWoutKernelIdeal.nD,
      r.2.mem ((c.tc : Thread Cert.GWoutKernelIdeal.nD Cert.GWoutKernelIdeal.τ).loc Cert.GWoutKernelIdeal.main_arg0) = m ((c.tc : Thread Cert.GWoutKernelIdeal.nD Cert.GWoutKernelIdeal.τ).loc Cert.GWoutKernelIdeal.main_arg0)
      ∧ r.2.mem ((c.tc : Thread Cert.GWoutKernelIdeal.nD Cert.GWoutKernelIdeal.τ).loc Cert.GWoutKernelIdeal.main_arg1) = m ((c.tc : Thread Cert.GWoutKernelIdeal.nD Cert.GWoutKernelIdeal.τ).loc Cert.GWoutKernelIdeal.main_arg1))
      ∧ r.2.sem = fun _ => 0)

def quiescent_GWoutReferenceIdeal [hGWoutReferenceIdeal : Cert.GWoutReferenceIdeal.Facts] : Prop :=
  ∀ (m : (ℓ : Loc Cert.GWoutReferenceIdeal.nD Cert.GWoutReferenceIdeal.τ Cert.GWoutReferenceIdeal.sig) → Buf (Elt Ideal) ℓ) (g : Dev Cert.GWoutReferenceIdeal.nD → PrngReg), Pre_GWoutReferenceIdeal m →
    θ_run (Cert.GWoutReferenceIdeal.defs (F := Ideal)) (onTc (τ := Cert.GWoutReferenceIdeal.τ) (Cert.GWoutReferenceIdeal.main (F := Ideal))) ⟨m, fun _ => 0, g⟩ (fun r => (∀ c : Dev Cert.GWoutReferenceIdeal.nD,
      r.2.mem ((c.tc : Thread Cert.GWoutReferenceIdeal.nD Cert.GWoutReferenceIdeal.τ).loc Cert.GWoutReferenceIdeal.main_arg0) = m ((c.tc : Thread Cert.GWoutReferenceIdeal.nD Cert.GWoutReferenceIdeal.τ).loc Cert.GWoutReferenceIdeal.main_arg0)
      ∧ r.2.mem ((c.tc : Thread Cert.GWoutReferenceIdeal.nD Cert.GWoutReferenceIdeal.τ).loc Cert.GWoutReferenceIdeal.main_arg1) = m ((c.tc : Thread Cert.GWoutReferenceIdeal.nD Cert.GWoutReferenceIdeal.τ).loc Cert.GWoutReferenceIdeal.main_arg1))
      ∧ r.2.sem = fun _ => 0)

def quiescent_GProjAKernel [hGProjAKernel : Cert.GProjAKernel.Facts] : Prop :=
  ∀ (m : (ℓ : Loc Cert.GProjAKernel.nD Cert.GProjAKernel.τ Cert.GProjAKernel.sig) → Buf (Elt Bits) ℓ) (g : Dev Cert.GProjAKernel.nD → PrngReg), Pre_GProjAKernel m →
    θ_run (Cert.GProjAKernel.defs (F := Bits)) (onTc (τ := Cert.GProjAKernel.τ) (Cert.GProjAKernel.main (F := Bits))) ⟨m, fun _ => 0, g⟩ (fun r => (∀ c : Dev Cert.GProjAKernel.nD,
      r.2.mem ((c.tc : Thread Cert.GProjAKernel.nD Cert.GProjAKernel.τ).loc Cert.GProjAKernel.main_arg0) = m ((c.tc : Thread Cert.GProjAKernel.nD Cert.GProjAKernel.τ).loc Cert.GProjAKernel.main_arg0)
      ∧ r.2.mem ((c.tc : Thread Cert.GProjAKernel.nD Cert.GProjAKernel.τ).loc Cert.GProjAKernel.main_arg1) = m ((c.tc : Thread Cert.GProjAKernel.nD Cert.GProjAKernel.τ).loc Cert.GProjAKernel.main_arg1))
      ∧ r.2.sem = fun _ => 0)

def quiescent_GProjAKernelIdeal [hGProjAKernelIdeal : Cert.GProjAKernelIdeal.Facts] : Prop :=
  ∀ (m : (ℓ : Loc Cert.GProjAKernelIdeal.nD Cert.GProjAKernelIdeal.τ Cert.GProjAKernelIdeal.sig) → Buf (Elt Ideal) ℓ) (g : Dev Cert.GProjAKernelIdeal.nD → PrngReg), Pre_GProjAKernelIdeal m →
    θ_run (Cert.GProjAKernelIdeal.defs (F := Ideal)) (onTc (τ := Cert.GProjAKernelIdeal.τ) (Cert.GProjAKernelIdeal.main (F := Ideal))) ⟨m, fun _ => 0, g⟩ (fun r => (∀ c : Dev Cert.GProjAKernelIdeal.nD,
      r.2.mem ((c.tc : Thread Cert.GProjAKernelIdeal.nD Cert.GProjAKernelIdeal.τ).loc Cert.GProjAKernelIdeal.main_arg0) = m ((c.tc : Thread Cert.GProjAKernelIdeal.nD Cert.GProjAKernelIdeal.τ).loc Cert.GProjAKernelIdeal.main_arg0)
      ∧ r.2.mem ((c.tc : Thread Cert.GProjAKernelIdeal.nD Cert.GProjAKernelIdeal.τ).loc Cert.GProjAKernelIdeal.main_arg1) = m ((c.tc : Thread Cert.GProjAKernelIdeal.nD Cert.GProjAKernelIdeal.τ).loc Cert.GProjAKernelIdeal.main_arg1))
      ∧ r.2.sem = fun _ => 0)

def quiescent_GProjAReferenceIdeal [hGProjAReferenceIdeal : Cert.GProjAReferenceIdeal.Facts] : Prop :=
  ∀ (m : (ℓ : Loc Cert.GProjAReferenceIdeal.nD Cert.GProjAReferenceIdeal.τ Cert.GProjAReferenceIdeal.sig) → Buf (Elt Ideal) ℓ) (g : Dev Cert.GProjAReferenceIdeal.nD → PrngReg), Pre_GProjAReferenceIdeal m →
    θ_run (Cert.GProjAReferenceIdeal.defs (F := Ideal)) (onTc (τ := Cert.GProjAReferenceIdeal.τ) (Cert.GProjAReferenceIdeal.main (F := Ideal))) ⟨m, fun _ => 0, g⟩ (fun r => (∀ c : Dev Cert.GProjAReferenceIdeal.nD,
      r.2.mem ((c.tc : Thread Cert.GProjAReferenceIdeal.nD Cert.GProjAReferenceIdeal.τ).loc Cert.GProjAReferenceIdeal.main_arg0) = m ((c.tc : Thread Cert.GProjAReferenceIdeal.nD Cert.GProjAReferenceIdeal.τ).loc Cert.GProjAReferenceIdeal.main_arg0)
      ∧ r.2.mem ((c.tc : Thread Cert.GProjAReferenceIdeal.nD Cert.GProjAReferenceIdeal.τ).loc Cert.GProjAReferenceIdeal.main_arg1) = m ((c.tc : Thread Cert.GProjAReferenceIdeal.nD Cert.GProjAReferenceIdeal.τ).loc Cert.GProjAReferenceIdeal.main_arg1))
      ∧ r.2.sem = fun _ => 0)

def quiescent_GProjBKernel [hGProjBKernel : Cert.GProjBKernel.Facts] : Prop :=
  ∀ (m : (ℓ : Loc Cert.GProjBKernel.nD Cert.GProjBKernel.τ Cert.GProjBKernel.sig) → Buf (Elt Bits) ℓ) (g : Dev Cert.GProjBKernel.nD → PrngReg), Pre_GProjBKernel m →
    θ_run (Cert.GProjBKernel.defs (F := Bits)) (onTc (τ := Cert.GProjBKernel.τ) (Cert.GProjBKernel.main (F := Bits))) ⟨m, fun _ => 0, g⟩ (fun r => (∀ c : Dev Cert.GProjBKernel.nD,
      r.2.mem ((c.tc : Thread Cert.GProjBKernel.nD Cert.GProjBKernel.τ).loc Cert.GProjBKernel.main_arg0) = m ((c.tc : Thread Cert.GProjBKernel.nD Cert.GProjBKernel.τ).loc Cert.GProjBKernel.main_arg0)
      ∧ r.2.mem ((c.tc : Thread Cert.GProjBKernel.nD Cert.GProjBKernel.τ).loc Cert.GProjBKernel.main_arg1) = m ((c.tc : Thread Cert.GProjBKernel.nD Cert.GProjBKernel.τ).loc Cert.GProjBKernel.main_arg1))
      ∧ r.2.sem = fun _ => 0)

def quiescent_GProjBKernelIdeal [hGProjBKernelIdeal : Cert.GProjBKernelIdeal.Facts] : Prop :=
  ∀ (m : (ℓ : Loc Cert.GProjBKernelIdeal.nD Cert.GProjBKernelIdeal.τ Cert.GProjBKernelIdeal.sig) → Buf (Elt Ideal) ℓ) (g : Dev Cert.GProjBKernelIdeal.nD → PrngReg), Pre_GProjBKernelIdeal m →
    θ_run (Cert.GProjBKernelIdeal.defs (F := Ideal)) (onTc (τ := Cert.GProjBKernelIdeal.τ) (Cert.GProjBKernelIdeal.main (F := Ideal))) ⟨m, fun _ => 0, g⟩ (fun r => (∀ c : Dev Cert.GProjBKernelIdeal.nD,
      r.2.mem ((c.tc : Thread Cert.GProjBKernelIdeal.nD Cert.GProjBKernelIdeal.τ).loc Cert.GProjBKernelIdeal.main_arg0) = m ((c.tc : Thread Cert.GProjBKernelIdeal.nD Cert.GProjBKernelIdeal.τ).loc Cert.GProjBKernelIdeal.main_arg0)
      ∧ r.2.mem ((c.tc : Thread Cert.GProjBKernelIdeal.nD Cert.GProjBKernelIdeal.τ).loc Cert.GProjBKernelIdeal.main_arg1) = m ((c.tc : Thread Cert.GProjBKernelIdeal.nD Cert.GProjBKernelIdeal.τ).loc Cert.GProjBKernelIdeal.main_arg1))
      ∧ r.2.sem = fun _ => 0)

def quiescent_GProjBReferenceIdeal [hGProjBReferenceIdeal : Cert.GProjBReferenceIdeal.Facts] : Prop :=
  ∀ (m : (ℓ : Loc Cert.GProjBReferenceIdeal.nD Cert.GProjBReferenceIdeal.τ Cert.GProjBReferenceIdeal.sig) → Buf (Elt Ideal) ℓ) (g : Dev Cert.GProjBReferenceIdeal.nD → PrngReg), Pre_GProjBReferenceIdeal m →
    θ_run (Cert.GProjBReferenceIdeal.defs (F := Ideal)) (onTc (τ := Cert.GProjBReferenceIdeal.τ) (Cert.GProjBReferenceIdeal.main (F := Ideal))) ⟨m, fun _ => 0, g⟩ (fun r => (∀ c : Dev Cert.GProjBReferenceIdeal.nD,
      r.2.mem ((c.tc : Thread Cert.GProjBReferenceIdeal.nD Cert.GProjBReferenceIdeal.τ).loc Cert.GProjBReferenceIdeal.main_arg0) = m ((c.tc : Thread Cert.GProjBReferenceIdeal.nD Cert.GProjBReferenceIdeal.τ).loc Cert.GProjBReferenceIdeal.main_arg0)
      ∧ r.2.mem ((c.tc : Thread Cert.GProjBReferenceIdeal.nD Cert.GProjBReferenceIdeal.τ).loc Cert.GProjBReferenceIdeal.main_arg1) = m ((c.tc : Thread Cert.GProjBReferenceIdeal.nD Cert.GProjBReferenceIdeal.τ).loc Cert.GProjBReferenceIdeal.main_arg1))
      ∧ r.2.sem = fun _ => 0)

def quiescent_GProjCKernel [hGProjCKernel : Cert.GProjCKernel.Facts] : Prop :=
  ∀ (m : (ℓ : Loc Cert.GProjCKernel.nD Cert.GProjCKernel.τ Cert.GProjCKernel.sig) → Buf (Elt Bits) ℓ) (g : Dev Cert.GProjCKernel.nD → PrngReg), Pre_GProjCKernel m →
    θ_run (Cert.GProjCKernel.defs (F := Bits)) (onTc (τ := Cert.GProjCKernel.τ) (Cert.GProjCKernel.main (F := Bits))) ⟨m, fun _ => 0, g⟩ (fun r => (∀ c : Dev Cert.GProjCKernel.nD,
      r.2.mem ((c.tc : Thread Cert.GProjCKernel.nD Cert.GProjCKernel.τ).loc Cert.GProjCKernel.main_arg0) = m ((c.tc : Thread Cert.GProjCKernel.nD Cert.GProjCKernel.τ).loc Cert.GProjCKernel.main_arg0)
      ∧ r.2.mem ((c.tc : Thread Cert.GProjCKernel.nD Cert.GProjCKernel.τ).loc Cert.GProjCKernel.main_arg1) = m ((c.tc : Thread Cert.GProjCKernel.nD Cert.GProjCKernel.τ).loc Cert.GProjCKernel.main_arg1))
      ∧ r.2.sem = fun _ => 0)

def quiescent_GProjCKernelIdeal [hGProjCKernelIdeal : Cert.GProjCKernelIdeal.Facts] : Prop :=
  ∀ (m : (ℓ : Loc Cert.GProjCKernelIdeal.nD Cert.GProjCKernelIdeal.τ Cert.GProjCKernelIdeal.sig) → Buf (Elt Ideal) ℓ) (g : Dev Cert.GProjCKernelIdeal.nD → PrngReg), Pre_GProjCKernelIdeal m →
    θ_run (Cert.GProjCKernelIdeal.defs (F := Ideal)) (onTc (τ := Cert.GProjCKernelIdeal.τ) (Cert.GProjCKernelIdeal.main (F := Ideal))) ⟨m, fun _ => 0, g⟩ (fun r => (∀ c : Dev Cert.GProjCKernelIdeal.nD,
      r.2.mem ((c.tc : Thread Cert.GProjCKernelIdeal.nD Cert.GProjCKernelIdeal.τ).loc Cert.GProjCKernelIdeal.main_arg0) = m ((c.tc : Thread Cert.GProjCKernelIdeal.nD Cert.GProjCKernelIdeal.τ).loc Cert.GProjCKernelIdeal.main_arg0)
      ∧ r.2.mem ((c.tc : Thread Cert.GProjCKernelIdeal.nD Cert.GProjCKernelIdeal.τ).loc Cert.GProjCKernelIdeal.main_arg1) = m ((c.tc : Thread Cert.GProjCKernelIdeal.nD Cert.GProjCKernelIdeal.τ).loc Cert.GProjCKernelIdeal.main_arg1))
      ∧ r.2.sem = fun _ => 0)

def quiescent_GProjCReferenceIdeal [hGProjCReferenceIdeal : Cert.GProjCReferenceIdeal.Facts] : Prop :=
  ∀ (m : (ℓ : Loc Cert.GProjCReferenceIdeal.nD Cert.GProjCReferenceIdeal.τ Cert.GProjCReferenceIdeal.sig) → Buf (Elt Ideal) ℓ) (g : Dev Cert.GProjCReferenceIdeal.nD → PrngReg), Pre_GProjCReferenceIdeal m →
    θ_run (Cert.GProjCReferenceIdeal.defs (F := Ideal)) (onTc (τ := Cert.GProjCReferenceIdeal.τ) (Cert.GProjCReferenceIdeal.main (F := Ideal))) ⟨m, fun _ => 0, g⟩ (fun r => (∀ c : Dev Cert.GProjCReferenceIdeal.nD,
      r.2.mem ((c.tc : Thread Cert.GProjCReferenceIdeal.nD Cert.GProjCReferenceIdeal.τ).loc Cert.GProjCReferenceIdeal.main_arg0) = m ((c.tc : Thread Cert.GProjCReferenceIdeal.nD Cert.GProjCReferenceIdeal.τ).loc Cert.GProjCReferenceIdeal.main_arg0)
      ∧ r.2.mem ((c.tc : Thread Cert.GProjCReferenceIdeal.nD Cert.GProjCReferenceIdeal.τ).loc Cert.GProjCReferenceIdeal.main_arg1) = m ((c.tc : Thread Cert.GProjCReferenceIdeal.nD Cert.GProjCReferenceIdeal.τ).loc Cert.GProjCReferenceIdeal.main_arg1))
      ∧ r.2.sem = fun _ => 0)

def quiescent_GGluKernel [hGGluKernel : Cert.GGluKernel.Facts] : Prop :=
  ∀ (m : (ℓ : Loc Cert.GGluKernel.nD Cert.GGluKernel.τ Cert.GGluKernel.sig) → Buf (Elt Bits) ℓ) (g : Dev Cert.GGluKernel.nD → PrngReg), Pre_GGluKernel m →
    θ_run (Cert.GGluKernel.defs (F := Bits)) (onTc (τ := Cert.GGluKernel.τ) (Cert.GGluKernel.main (F := Bits))) ⟨m, fun _ => 0, g⟩ (fun r => (∀ c : Dev Cert.GGluKernel.nD,
      r.2.mem ((c.tc : Thread Cert.GGluKernel.nD Cert.GGluKernel.τ).loc Cert.GGluKernel.main_arg0) = m ((c.tc : Thread Cert.GGluKernel.nD Cert.GGluKernel.τ).loc Cert.GGluKernel.main_arg0)
      ∧ r.2.mem ((c.tc : Thread Cert.GGluKernel.nD Cert.GGluKernel.τ).loc Cert.GGluKernel.main_arg1) = m ((c.tc : Thread Cert.GGluKernel.nD Cert.GGluKernel.τ).loc Cert.GGluKernel.main_arg1))
      ∧ r.2.sem = fun _ => 0)

def quiescent_GGluKernelIdeal [hGGluKernelIdeal : Cert.GGluKernelIdeal.Facts] : Prop :=
  ∀ (m : (ℓ : Loc Cert.GGluKernelIdeal.nD Cert.GGluKernelIdeal.τ Cert.GGluKernelIdeal.sig) → Buf (Elt Ideal) ℓ) (g : Dev Cert.GGluKernelIdeal.nD → PrngReg), Pre_GGluKernelIdeal m →
    θ_run (Cert.GGluKernelIdeal.defs (F := Ideal)) (onTc (τ := Cert.GGluKernelIdeal.τ) (Cert.GGluKernelIdeal.main (F := Ideal))) ⟨m, fun _ => 0, g⟩ (fun r => (∀ c : Dev Cert.GGluKernelIdeal.nD,
      r.2.mem ((c.tc : Thread Cert.GGluKernelIdeal.nD Cert.GGluKernelIdeal.τ).loc Cert.GGluKernelIdeal.main_arg0) = m ((c.tc : Thread Cert.GGluKernelIdeal.nD Cert.GGluKernelIdeal.τ).loc Cert.GGluKernelIdeal.main_arg0)
      ∧ r.2.mem ((c.tc : Thread Cert.GGluKernelIdeal.nD Cert.GGluKernelIdeal.τ).loc Cert.GGluKernelIdeal.main_arg1) = m ((c.tc : Thread Cert.GGluKernelIdeal.nD Cert.GGluKernelIdeal.τ).loc Cert.GGluKernelIdeal.main_arg1))
      ∧ r.2.sem = fun _ => 0)

def quiescent_GGluReferenceIdeal [hGGluReferenceIdeal : Cert.GGluReferenceIdeal.Facts] : Prop :=
  ∀ (m : (ℓ : Loc Cert.GGluReferenceIdeal.nD Cert.GGluReferenceIdeal.τ Cert.GGluReferenceIdeal.sig) → Buf (Elt Ideal) ℓ) (g : Dev Cert.GGluReferenceIdeal.nD → PrngReg), Pre_GGluReferenceIdeal m →
    θ_run (Cert.GGluReferenceIdeal.defs (F := Ideal)) (onTc (τ := Cert.GGluReferenceIdeal.τ) (Cert.GGluReferenceIdeal.main (F := Ideal))) ⟨m, fun _ => 0, g⟩ (fun r => (∀ c : Dev Cert.GGluReferenceIdeal.nD,
      r.2.mem ((c.tc : Thread Cert.GGluReferenceIdeal.nD Cert.GGluReferenceIdeal.τ).loc Cert.GGluReferenceIdeal.main_arg0) = m ((c.tc : Thread Cert.GGluReferenceIdeal.nD Cert.GGluReferenceIdeal.τ).loc Cert.GGluReferenceIdeal.main_arg0)
      ∧ r.2.mem ((c.tc : Thread Cert.GGluReferenceIdeal.nD Cert.GGluReferenceIdeal.τ).loc Cert.GGluReferenceIdeal.main_arg1) = m ((c.tc : Thread Cert.GGluReferenceIdeal.nD Cert.GGluReferenceIdeal.τ).loc Cert.GGluReferenceIdeal.main_arg1))
      ∧ r.2.sem = fun _ => 0)

def quiescent_DMergedKernel [hDMergedKernel : Cert.DMergedKernel.Facts] : Prop :=
  ∀ (m : (ℓ : Loc Cert.DMergedKernel.nD Cert.DMergedKernel.τ Cert.DMergedKernel.sig) → Buf (Elt Bits) ℓ) (g : Dev Cert.DMergedKernel.nD → PrngReg), Pre_DMergedKernel m →
    θ_run (Cert.DMergedKernel.defs (F := Bits)) (onTc (τ := Cert.DMergedKernel.τ) (Cert.DMergedKernel.main (F := Bits))) ⟨m, fun _ => 0, g⟩ (fun r => (∀ c : Dev Cert.DMergedKernel.nD,
      r.2.mem ((c.tc : Thread Cert.DMergedKernel.nD Cert.DMergedKernel.τ).loc Cert.DMergedKernel.main_arg0) = m ((c.tc : Thread Cert.DMergedKernel.nD Cert.DMergedKernel.τ).loc Cert.DMergedKernel.main_arg0)
      ∧ r.2.mem ((c.tc : Thread Cert.DMergedKernel.nD Cert.DMergedKernel.τ).loc Cert.DMergedKernel.main_arg1) = m ((c.tc : Thread Cert.DMergedKernel.nD Cert.DMergedKernel.τ).loc Cert.DMergedKernel.main_arg1))
      ∧ r.2.sem = fun _ => 0)

def quiescent_DMergedKernelIdeal [hDMergedKernelIdeal : Cert.DMergedKernelIdeal.Facts] : Prop :=
  ∀ (m : (ℓ : Loc Cert.DMergedKernelIdeal.nD Cert.DMergedKernelIdeal.τ Cert.DMergedKernelIdeal.sig) → Buf (Elt Ideal) ℓ) (g : Dev Cert.DMergedKernelIdeal.nD → PrngReg), Pre_DMergedKernelIdeal m →
    θ_run (Cert.DMergedKernelIdeal.defs (F := Ideal)) (onTc (τ := Cert.DMergedKernelIdeal.τ) (Cert.DMergedKernelIdeal.main (F := Ideal))) ⟨m, fun _ => 0, g⟩ (fun r => (∀ c : Dev Cert.DMergedKernelIdeal.nD,
      r.2.mem ((c.tc : Thread Cert.DMergedKernelIdeal.nD Cert.DMergedKernelIdeal.τ).loc Cert.DMergedKernelIdeal.main_arg0) = m ((c.tc : Thread Cert.DMergedKernelIdeal.nD Cert.DMergedKernelIdeal.τ).loc Cert.DMergedKernelIdeal.main_arg0)
      ∧ r.2.mem ((c.tc : Thread Cert.DMergedKernelIdeal.nD Cert.DMergedKernelIdeal.τ).loc Cert.DMergedKernelIdeal.main_arg1) = m ((c.tc : Thread Cert.DMergedKernelIdeal.nD Cert.DMergedKernelIdeal.τ).loc Cert.DMergedKernelIdeal.main_arg1))
      ∧ r.2.sem = fun _ => 0)

def quiescent_DMergedReferenceIdeal [hDMergedReferenceIdeal : Cert.DMergedReferenceIdeal.Facts] : Prop :=
  ∀ (m : (ℓ : Loc Cert.DMergedReferenceIdeal.nD Cert.DMergedReferenceIdeal.τ Cert.DMergedReferenceIdeal.sig) → Buf (Elt Ideal) ℓ) (g : Dev Cert.DMergedReferenceIdeal.nD → PrngReg), Pre_DMergedReferenceIdeal m →
    θ_run (Cert.DMergedReferenceIdeal.defs (F := Ideal)) (onTc (τ := Cert.DMergedReferenceIdeal.τ) (Cert.DMergedReferenceIdeal.main (F := Ideal))) ⟨m, fun _ => 0, g⟩ (fun r => (∀ c : Dev Cert.DMergedReferenceIdeal.nD,
      r.2.mem ((c.tc : Thread Cert.DMergedReferenceIdeal.nD Cert.DMergedReferenceIdeal.τ).loc Cert.DMergedReferenceIdeal.main_arg0) = m ((c.tc : Thread Cert.DMergedReferenceIdeal.nD Cert.DMergedReferenceIdeal.τ).loc Cert.DMergedReferenceIdeal.main_arg0)
      ∧ r.2.mem ((c.tc : Thread Cert.DMergedReferenceIdeal.nD Cert.DMergedReferenceIdeal.τ).loc Cert.DMergedReferenceIdeal.main_arg1) = m ((c.tc : Thread Cert.DMergedReferenceIdeal.nD Cert.DMergedReferenceIdeal.τ).loc Cert.DMergedReferenceIdeal.main_arg1))
      ∧ r.2.sem = fun _ => 0)

def quiescent_DYaKernel [hDYaKernel : Cert.DYaKernel.Facts] : Prop :=
  ∀ (m : (ℓ : Loc Cert.DYaKernel.nD Cert.DYaKernel.τ Cert.DYaKernel.sig) → Buf (Elt Bits) ℓ) (g : Dev Cert.DYaKernel.nD → PrngReg), Pre_DYaKernel m →
    θ_run (Cert.DYaKernel.defs (F := Bits)) (onTc (τ := Cert.DYaKernel.τ) (Cert.DYaKernel.main (F := Bits))) ⟨m, fun _ => 0, g⟩ (fun r => (∀ c : Dev Cert.DYaKernel.nD,
      r.2.mem ((c.tc : Thread Cert.DYaKernel.nD Cert.DYaKernel.τ).loc Cert.DYaKernel.main_arg0) = m ((c.tc : Thread Cert.DYaKernel.nD Cert.DYaKernel.τ).loc Cert.DYaKernel.main_arg0)
      ∧ r.2.mem ((c.tc : Thread Cert.DYaKernel.nD Cert.DYaKernel.τ).loc Cert.DYaKernel.main_arg1) = m ((c.tc : Thread Cert.DYaKernel.nD Cert.DYaKernel.τ).loc Cert.DYaKernel.main_arg1))
      ∧ r.2.sem = fun _ => 0)

def quiescent_DYaKernelIdeal [hDYaKernelIdeal : Cert.DYaKernelIdeal.Facts] : Prop :=
  ∀ (m : (ℓ : Loc Cert.DYaKernelIdeal.nD Cert.DYaKernelIdeal.τ Cert.DYaKernelIdeal.sig) → Buf (Elt Ideal) ℓ) (g : Dev Cert.DYaKernelIdeal.nD → PrngReg), Pre_DYaKernelIdeal m →
    θ_run (Cert.DYaKernelIdeal.defs (F := Ideal)) (onTc (τ := Cert.DYaKernelIdeal.τ) (Cert.DYaKernelIdeal.main (F := Ideal))) ⟨m, fun _ => 0, g⟩ (fun r => (∀ c : Dev Cert.DYaKernelIdeal.nD,
      r.2.mem ((c.tc : Thread Cert.DYaKernelIdeal.nD Cert.DYaKernelIdeal.τ).loc Cert.DYaKernelIdeal.main_arg0) = m ((c.tc : Thread Cert.DYaKernelIdeal.nD Cert.DYaKernelIdeal.τ).loc Cert.DYaKernelIdeal.main_arg0)
      ∧ r.2.mem ((c.tc : Thread Cert.DYaKernelIdeal.nD Cert.DYaKernelIdeal.τ).loc Cert.DYaKernelIdeal.main_arg1) = m ((c.tc : Thread Cert.DYaKernelIdeal.nD Cert.DYaKernelIdeal.τ).loc Cert.DYaKernelIdeal.main_arg1))
      ∧ r.2.sem = fun _ => 0)

def quiescent_DYaReferenceIdeal [hDYaReferenceIdeal : Cert.DYaReferenceIdeal.Facts] : Prop :=
  ∀ (m : (ℓ : Loc Cert.DYaReferenceIdeal.nD Cert.DYaReferenceIdeal.τ Cert.DYaReferenceIdeal.sig) → Buf (Elt Ideal) ℓ) (g : Dev Cert.DYaReferenceIdeal.nD → PrngReg), Pre_DYaReferenceIdeal m →
    θ_run (Cert.DYaReferenceIdeal.defs (F := Ideal)) (onTc (τ := Cert.DYaReferenceIdeal.τ) (Cert.DYaReferenceIdeal.main (F := Ideal))) ⟨m, fun _ => 0, g⟩ (fun r => (∀ c : Dev Cert.DYaReferenceIdeal.nD,
      r.2.mem ((c.tc : Thread Cert.DYaReferenceIdeal.nD Cert.DYaReferenceIdeal.τ).loc Cert.DYaReferenceIdeal.main_arg0) = m ((c.tc : Thread Cert.DYaReferenceIdeal.nD Cert.DYaReferenceIdeal.τ).loc Cert.DYaReferenceIdeal.main_arg0)
      ∧ r.2.mem ((c.tc : Thread Cert.DYaReferenceIdeal.nD Cert.DYaReferenceIdeal.τ).loc Cert.DYaReferenceIdeal.main_arg1) = m ((c.tc : Thread Cert.DYaReferenceIdeal.nD Cert.DYaReferenceIdeal.τ).loc Cert.DYaReferenceIdeal.main_arg1))
      ∧ r.2.sem = fun _ => 0)

def quiescent_DYbKernel [hDYbKernel : Cert.DYbKernel.Facts] : Prop :=
  ∀ (m : (ℓ : Loc Cert.DYbKernel.nD Cert.DYbKernel.τ Cert.DYbKernel.sig) → Buf (Elt Bits) ℓ) (g : Dev Cert.DYbKernel.nD → PrngReg), Pre_DYbKernel m →
    θ_run (Cert.DYbKernel.defs (F := Bits)) (onTc (τ := Cert.DYbKernel.τ) (Cert.DYbKernel.main (F := Bits))) ⟨m, fun _ => 0, g⟩ (fun r => (∀ c : Dev Cert.DYbKernel.nD,
      r.2.mem ((c.tc : Thread Cert.DYbKernel.nD Cert.DYbKernel.τ).loc Cert.DYbKernel.main_arg0) = m ((c.tc : Thread Cert.DYbKernel.nD Cert.DYbKernel.τ).loc Cert.DYbKernel.main_arg0)
      ∧ r.2.mem ((c.tc : Thread Cert.DYbKernel.nD Cert.DYbKernel.τ).loc Cert.DYbKernel.main_arg1) = m ((c.tc : Thread Cert.DYbKernel.nD Cert.DYbKernel.τ).loc Cert.DYbKernel.main_arg1))
      ∧ r.2.sem = fun _ => 0)

def quiescent_DYbKernelIdeal [hDYbKernelIdeal : Cert.DYbKernelIdeal.Facts] : Prop :=
  ∀ (m : (ℓ : Loc Cert.DYbKernelIdeal.nD Cert.DYbKernelIdeal.τ Cert.DYbKernelIdeal.sig) → Buf (Elt Ideal) ℓ) (g : Dev Cert.DYbKernelIdeal.nD → PrngReg), Pre_DYbKernelIdeal m →
    θ_run (Cert.DYbKernelIdeal.defs (F := Ideal)) (onTc (τ := Cert.DYbKernelIdeal.τ) (Cert.DYbKernelIdeal.main (F := Ideal))) ⟨m, fun _ => 0, g⟩ (fun r => (∀ c : Dev Cert.DYbKernelIdeal.nD,
      r.2.mem ((c.tc : Thread Cert.DYbKernelIdeal.nD Cert.DYbKernelIdeal.τ).loc Cert.DYbKernelIdeal.main_arg0) = m ((c.tc : Thread Cert.DYbKernelIdeal.nD Cert.DYbKernelIdeal.τ).loc Cert.DYbKernelIdeal.main_arg0)
      ∧ r.2.mem ((c.tc : Thread Cert.DYbKernelIdeal.nD Cert.DYbKernelIdeal.τ).loc Cert.DYbKernelIdeal.main_arg1) = m ((c.tc : Thread Cert.DYbKernelIdeal.nD Cert.DYbKernelIdeal.τ).loc Cert.DYbKernelIdeal.main_arg1))
      ∧ r.2.sem = fun _ => 0)

def quiescent_DYbReferenceIdeal [hDYbReferenceIdeal : Cert.DYbReferenceIdeal.Facts] : Prop :=
  ∀ (m : (ℓ : Loc Cert.DYbReferenceIdeal.nD Cert.DYbReferenceIdeal.τ Cert.DYbReferenceIdeal.sig) → Buf (Elt Ideal) ℓ) (g : Dev Cert.DYbReferenceIdeal.nD → PrngReg), Pre_DYbReferenceIdeal m →
    θ_run (Cert.DYbReferenceIdeal.defs (F := Ideal)) (onTc (τ := Cert.DYbReferenceIdeal.τ) (Cert.DYbReferenceIdeal.main (F := Ideal))) ⟨m, fun _ => 0, g⟩ (fun r => (∀ c : Dev Cert.DYbReferenceIdeal.nD,
      r.2.mem ((c.tc : Thread Cert.DYbReferenceIdeal.nD Cert.DYbReferenceIdeal.τ).loc Cert.DYbReferenceIdeal.main_arg0) = m ((c.tc : Thread Cert.DYbReferenceIdeal.nD Cert.DYbReferenceIdeal.τ).loc Cert.DYbReferenceIdeal.main_arg0)
      ∧ r.2.mem ((c.tc : Thread Cert.DYbReferenceIdeal.nD Cert.DYbReferenceIdeal.τ).loc Cert.DYbReferenceIdeal.main_arg1) = m ((c.tc : Thread Cert.DYbReferenceIdeal.nD Cert.DYbReferenceIdeal.τ).loc Cert.DYbReferenceIdeal.main_arg1))
      ∧ r.2.sem = fun _ => 0)

def quiescent_DYcKernel [hDYcKernel : Cert.DYcKernel.Facts] : Prop :=
  ∀ (m : (ℓ : Loc Cert.DYcKernel.nD Cert.DYcKernel.τ Cert.DYcKernel.sig) → Buf (Elt Bits) ℓ) (g : Dev Cert.DYcKernel.nD → PrngReg), Pre_DYcKernel m →
    θ_run (Cert.DYcKernel.defs (F := Bits)) (onTc (τ := Cert.DYcKernel.τ) (Cert.DYcKernel.main (F := Bits))) ⟨m, fun _ => 0, g⟩ (fun r => (∀ c : Dev Cert.DYcKernel.nD,
      r.2.mem ((c.tc : Thread Cert.DYcKernel.nD Cert.DYcKernel.τ).loc Cert.DYcKernel.main_arg0) = m ((c.tc : Thread Cert.DYcKernel.nD Cert.DYcKernel.τ).loc Cert.DYcKernel.main_arg0)
      ∧ r.2.mem ((c.tc : Thread Cert.DYcKernel.nD Cert.DYcKernel.τ).loc Cert.DYcKernel.main_arg1) = m ((c.tc : Thread Cert.DYcKernel.nD Cert.DYcKernel.τ).loc Cert.DYcKernel.main_arg1))
      ∧ r.2.sem = fun _ => 0)

def quiescent_DYcKernelIdeal [hDYcKernelIdeal : Cert.DYcKernelIdeal.Facts] : Prop :=
  ∀ (m : (ℓ : Loc Cert.DYcKernelIdeal.nD Cert.DYcKernelIdeal.τ Cert.DYcKernelIdeal.sig) → Buf (Elt Ideal) ℓ) (g : Dev Cert.DYcKernelIdeal.nD → PrngReg), Pre_DYcKernelIdeal m →
    θ_run (Cert.DYcKernelIdeal.defs (F := Ideal)) (onTc (τ := Cert.DYcKernelIdeal.τ) (Cert.DYcKernelIdeal.main (F := Ideal))) ⟨m, fun _ => 0, g⟩ (fun r => (∀ c : Dev Cert.DYcKernelIdeal.nD,
      r.2.mem ((c.tc : Thread Cert.DYcKernelIdeal.nD Cert.DYcKernelIdeal.τ).loc Cert.DYcKernelIdeal.main_arg0) = m ((c.tc : Thread Cert.DYcKernelIdeal.nD Cert.DYcKernelIdeal.τ).loc Cert.DYcKernelIdeal.main_arg0)
      ∧ r.2.mem ((c.tc : Thread Cert.DYcKernelIdeal.nD Cert.DYcKernelIdeal.τ).loc Cert.DYcKernelIdeal.main_arg1) = m ((c.tc : Thread Cert.DYcKernelIdeal.nD Cert.DYcKernelIdeal.τ).loc Cert.DYcKernelIdeal.main_arg1))
      ∧ r.2.sem = fun _ => 0)

def quiescent_DYcReferenceIdeal [hDYcReferenceIdeal : Cert.DYcReferenceIdeal.Facts] : Prop :=
  ∀ (m : (ℓ : Loc Cert.DYcReferenceIdeal.nD Cert.DYcReferenceIdeal.τ Cert.DYcReferenceIdeal.sig) → Buf (Elt Ideal) ℓ) (g : Dev Cert.DYcReferenceIdeal.nD → PrngReg), Pre_DYcReferenceIdeal m →
    θ_run (Cert.DYcReferenceIdeal.defs (F := Ideal)) (onTc (τ := Cert.DYcReferenceIdeal.τ) (Cert.DYcReferenceIdeal.main (F := Ideal))) ⟨m, fun _ => 0, g⟩ (fun r => (∀ c : Dev Cert.DYcReferenceIdeal.nD,
      r.2.mem ((c.tc : Thread Cert.DYcReferenceIdeal.nD Cert.DYcReferenceIdeal.τ).loc Cert.DYcReferenceIdeal.main_arg0) = m ((c.tc : Thread Cert.DYcReferenceIdeal.nD Cert.DYcReferenceIdeal.τ).loc Cert.DYcReferenceIdeal.main_arg0)
      ∧ r.2.mem ((c.tc : Thread Cert.DYcReferenceIdeal.nD Cert.DYcReferenceIdeal.τ).loc Cert.DYcReferenceIdeal.main_arg1) = m ((c.tc : Thread Cert.DYcReferenceIdeal.nD Cert.DYcReferenceIdeal.τ).loc Cert.DYcReferenceIdeal.main_arg1))
      ∧ r.2.sem = fun _ => 0)

def quiescent_DGKernel [hDGKernel : Cert.DGKernel.Facts] : Prop :=
  ∀ (m : (ℓ : Loc Cert.DGKernel.nD Cert.DGKernel.τ Cert.DGKernel.sig) → Buf (Elt Bits) ℓ) (g : Dev Cert.DGKernel.nD → PrngReg), Pre_DGKernel m →
    θ_run (Cert.DGKernel.defs (F := Bits)) (onTc (τ := Cert.DGKernel.τ) (Cert.DGKernel.main (F := Bits))) ⟨m, fun _ => 0, g⟩ (fun r => (∀ c : Dev Cert.DGKernel.nD,
      r.2.mem ((c.tc : Thread Cert.DGKernel.nD Cert.DGKernel.τ).loc Cert.DGKernel.main_arg0) = m ((c.tc : Thread Cert.DGKernel.nD Cert.DGKernel.τ).loc Cert.DGKernel.main_arg0)
      ∧ r.2.mem ((c.tc : Thread Cert.DGKernel.nD Cert.DGKernel.τ).loc Cert.DGKernel.main_arg1) = m ((c.tc : Thread Cert.DGKernel.nD Cert.DGKernel.τ).loc Cert.DGKernel.main_arg1)
      ∧ r.2.mem ((c.tc : Thread Cert.DGKernel.nD Cert.DGKernel.τ).loc Cert.DGKernel.main_arg2) = m ((c.tc : Thread Cert.DGKernel.nD Cert.DGKernel.τ).loc Cert.DGKernel.main_arg2))
      ∧ r.2.sem = fun _ => 0)

def quiescent_DGKernelIdeal [hDGKernelIdeal : Cert.DGKernelIdeal.Facts] : Prop :=
  ∀ (m : (ℓ : Loc Cert.DGKernelIdeal.nD Cert.DGKernelIdeal.τ Cert.DGKernelIdeal.sig) → Buf (Elt Ideal) ℓ) (g : Dev Cert.DGKernelIdeal.nD → PrngReg), Pre_DGKernelIdeal m →
    θ_run (Cert.DGKernelIdeal.defs (F := Ideal)) (onTc (τ := Cert.DGKernelIdeal.τ) (Cert.DGKernelIdeal.main (F := Ideal))) ⟨m, fun _ => 0, g⟩ (fun r => (∀ c : Dev Cert.DGKernelIdeal.nD,
      r.2.mem ((c.tc : Thread Cert.DGKernelIdeal.nD Cert.DGKernelIdeal.τ).loc Cert.DGKernelIdeal.main_arg0) = m ((c.tc : Thread Cert.DGKernelIdeal.nD Cert.DGKernelIdeal.τ).loc Cert.DGKernelIdeal.main_arg0)
      ∧ r.2.mem ((c.tc : Thread Cert.DGKernelIdeal.nD Cert.DGKernelIdeal.τ).loc Cert.DGKernelIdeal.main_arg1) = m ((c.tc : Thread Cert.DGKernelIdeal.nD Cert.DGKernelIdeal.τ).loc Cert.DGKernelIdeal.main_arg1)
      ∧ r.2.mem ((c.tc : Thread Cert.DGKernelIdeal.nD Cert.DGKernelIdeal.τ).loc Cert.DGKernelIdeal.main_arg2) = m ((c.tc : Thread Cert.DGKernelIdeal.nD Cert.DGKernelIdeal.τ).loc Cert.DGKernelIdeal.main_arg2))
      ∧ r.2.sem = fun _ => 0)

def quiescent_DGReferenceIdeal [hDGReferenceIdeal : Cert.DGReferenceIdeal.Facts] : Prop :=
  ∀ (m : (ℓ : Loc Cert.DGReferenceIdeal.nD Cert.DGReferenceIdeal.τ Cert.DGReferenceIdeal.sig) → Buf (Elt Ideal) ℓ) (g : Dev Cert.DGReferenceIdeal.nD → PrngReg), Pre_DGReferenceIdeal m →
    θ_run (Cert.DGReferenceIdeal.defs (F := Ideal)) (onTc (τ := Cert.DGReferenceIdeal.τ) (Cert.DGReferenceIdeal.main (F := Ideal))) ⟨m, fun _ => 0, g⟩ (fun r => (∀ c : Dev Cert.DGReferenceIdeal.nD,
      r.2.mem ((c.tc : Thread Cert.DGReferenceIdeal.nD Cert.DGReferenceIdeal.τ).loc Cert.DGReferenceIdeal.main_arg0) = m ((c.tc : Thread Cert.DGReferenceIdeal.nD Cert.DGReferenceIdeal.τ).loc Cert.DGReferenceIdeal.main_arg0)
      ∧ r.2.mem ((c.tc : Thread Cert.DGReferenceIdeal.nD Cert.DGReferenceIdeal.τ).loc Cert.DGReferenceIdeal.main_arg1) = m ((c.tc : Thread Cert.DGReferenceIdeal.nD Cert.DGReferenceIdeal.τ).loc Cert.DGReferenceIdeal.main_arg1)
      ∧ r.2.mem ((c.tc : Thread Cert.DGReferenceIdeal.nD Cert.DGReferenceIdeal.τ).loc Cert.DGReferenceIdeal.main_arg2) = m ((c.tc : Thread Cert.DGReferenceIdeal.nD Cert.DGReferenceIdeal.τ).loc Cert.DGReferenceIdeal.main_arg2))
      ∧ r.2.sem = fun _ => 0)

def quiescent_InAKernel [hInAKernel : Cert.InAKernel.Facts] : Prop :=
  ∀ (m : (ℓ : Loc Cert.InAKernel.nD Cert.InAKernel.τ Cert.InAKernel.sig) → Buf (Elt Bits) ℓ) (g : Dev Cert.InAKernel.nD → PrngReg), Pre_InAKernel m →
    θ_run (Cert.InAKernel.defs (F := Bits)) (onTc (τ := Cert.InAKernel.τ) (Cert.InAKernel.main (F := Bits))) ⟨m, fun _ => 0, g⟩ (fun r => (∀ c : Dev Cert.InAKernel.nD,
      r.2.mem ((c.tc : Thread Cert.InAKernel.nD Cert.InAKernel.τ).loc Cert.InAKernel.main_arg0) = m ((c.tc : Thread Cert.InAKernel.nD Cert.InAKernel.τ).loc Cert.InAKernel.main_arg0)
      ∧ r.2.mem ((c.tc : Thread Cert.InAKernel.nD Cert.InAKernel.τ).loc Cert.InAKernel.main_arg1) = m ((c.tc : Thread Cert.InAKernel.nD Cert.InAKernel.τ).loc Cert.InAKernel.main_arg1))
      ∧ r.2.sem = fun _ => 0)

def quiescent_InAKernelIdeal [hInAKernelIdeal : Cert.InAKernelIdeal.Facts] : Prop :=
  ∀ (m : (ℓ : Loc Cert.InAKernelIdeal.nD Cert.InAKernelIdeal.τ Cert.InAKernelIdeal.sig) → Buf (Elt Ideal) ℓ) (g : Dev Cert.InAKernelIdeal.nD → PrngReg), Pre_InAKernelIdeal m →
    θ_run (Cert.InAKernelIdeal.defs (F := Ideal)) (onTc (τ := Cert.InAKernelIdeal.τ) (Cert.InAKernelIdeal.main (F := Ideal))) ⟨m, fun _ => 0, g⟩ (fun r => (∀ c : Dev Cert.InAKernelIdeal.nD,
      r.2.mem ((c.tc : Thread Cert.InAKernelIdeal.nD Cert.InAKernelIdeal.τ).loc Cert.InAKernelIdeal.main_arg0) = m ((c.tc : Thread Cert.InAKernelIdeal.nD Cert.InAKernelIdeal.τ).loc Cert.InAKernelIdeal.main_arg0)
      ∧ r.2.mem ((c.tc : Thread Cert.InAKernelIdeal.nD Cert.InAKernelIdeal.τ).loc Cert.InAKernelIdeal.main_arg1) = m ((c.tc : Thread Cert.InAKernelIdeal.nD Cert.InAKernelIdeal.τ).loc Cert.InAKernelIdeal.main_arg1))
      ∧ r.2.sem = fun _ => 0)

def quiescent_InAReferenceIdeal [hInAReferenceIdeal : Cert.InAReferenceIdeal.Facts] : Prop :=
  ∀ (m : (ℓ : Loc Cert.InAReferenceIdeal.nD Cert.InAReferenceIdeal.τ Cert.InAReferenceIdeal.sig) → Buf (Elt Ideal) ℓ) (g : Dev Cert.InAReferenceIdeal.nD → PrngReg), Pre_InAReferenceIdeal m →
    θ_run (Cert.InAReferenceIdeal.defs (F := Ideal)) (onTc (τ := Cert.InAReferenceIdeal.τ) (Cert.InAReferenceIdeal.main (F := Ideal))) ⟨m, fun _ => 0, g⟩ (fun r => (∀ c : Dev Cert.InAReferenceIdeal.nD,
      r.2.mem ((c.tc : Thread Cert.InAReferenceIdeal.nD Cert.InAReferenceIdeal.τ).loc Cert.InAReferenceIdeal.main_arg0) = m ((c.tc : Thread Cert.InAReferenceIdeal.nD Cert.InAReferenceIdeal.τ).loc Cert.InAReferenceIdeal.main_arg0)
      ∧ r.2.mem ((c.tc : Thread Cert.InAReferenceIdeal.nD Cert.InAReferenceIdeal.τ).loc Cert.InAReferenceIdeal.main_arg1) = m ((c.tc : Thread Cert.InAReferenceIdeal.nD Cert.InAReferenceIdeal.τ).loc Cert.InAReferenceIdeal.main_arg1))
      ∧ r.2.sem = fun _ => 0)

def quiescent_InQKernel [hInQKernel : Cert.InQKernel.Facts] : Prop :=
  ∀ (m : (ℓ : Loc Cert.InQKernel.nD Cert.InQKernel.τ Cert.InQKernel.sig) → Buf (Elt Bits) ℓ) (g : Dev Cert.InQKernel.nD → PrngReg), Pre_InQKernel m →
    θ_run (Cert.InQKernel.defs (F := Bits)) (onTc (τ := Cert.InQKernel.τ) (Cert.InQKernel.main (F := Bits))) ⟨m, fun _ => 0, g⟩ (fun r => (∀ c : Dev Cert.InQKernel.nD,
      r.2.mem ((c.tc : Thread Cert.InQKernel.nD Cert.InQKernel.τ).loc Cert.InQKernel.main_arg0) = m ((c.tc : Thread Cert.InQKernel.nD Cert.InQKernel.τ).loc Cert.InQKernel.main_arg0)
      ∧ r.2.mem ((c.tc : Thread Cert.InQKernel.nD Cert.InQKernel.τ).loc Cert.InQKernel.main_arg1) = m ((c.tc : Thread Cert.InQKernel.nD Cert.InQKernel.τ).loc Cert.InQKernel.main_arg1))
      ∧ r.2.sem = fun _ => 0)

def quiescent_InQKernelIdeal [hInQKernelIdeal : Cert.InQKernelIdeal.Facts] : Prop :=
  ∀ (m : (ℓ : Loc Cert.InQKernelIdeal.nD Cert.InQKernelIdeal.τ Cert.InQKernelIdeal.sig) → Buf (Elt Ideal) ℓ) (g : Dev Cert.InQKernelIdeal.nD → PrngReg), Pre_InQKernelIdeal m →
    θ_run (Cert.InQKernelIdeal.defs (F := Ideal)) (onTc (τ := Cert.InQKernelIdeal.τ) (Cert.InQKernelIdeal.main (F := Ideal))) ⟨m, fun _ => 0, g⟩ (fun r => (∀ c : Dev Cert.InQKernelIdeal.nD,
      r.2.mem ((c.tc : Thread Cert.InQKernelIdeal.nD Cert.InQKernelIdeal.τ).loc Cert.InQKernelIdeal.main_arg0) = m ((c.tc : Thread Cert.InQKernelIdeal.nD Cert.InQKernelIdeal.τ).loc Cert.InQKernelIdeal.main_arg0)
      ∧ r.2.mem ((c.tc : Thread Cert.InQKernelIdeal.nD Cert.InQKernelIdeal.τ).loc Cert.InQKernelIdeal.main_arg1) = m ((c.tc : Thread Cert.InQKernelIdeal.nD Cert.InQKernelIdeal.τ).loc Cert.InQKernelIdeal.main_arg1))
      ∧ r.2.sem = fun _ => 0)

def quiescent_InQReferenceIdeal [hInQReferenceIdeal : Cert.InQReferenceIdeal.Facts] : Prop :=
  ∀ (m : (ℓ : Loc Cert.InQReferenceIdeal.nD Cert.InQReferenceIdeal.τ Cert.InQReferenceIdeal.sig) → Buf (Elt Ideal) ℓ) (g : Dev Cert.InQReferenceIdeal.nD → PrngReg), Pre_InQReferenceIdeal m →
    θ_run (Cert.InQReferenceIdeal.defs (F := Ideal)) (onTc (τ := Cert.InQReferenceIdeal.τ) (Cert.InQReferenceIdeal.main (F := Ideal))) ⟨m, fun _ => 0, g⟩ (fun r => (∀ c : Dev Cert.InQReferenceIdeal.nD,
      r.2.mem ((c.tc : Thread Cert.InQReferenceIdeal.nD Cert.InQReferenceIdeal.τ).loc Cert.InQReferenceIdeal.main_arg0) = m ((c.tc : Thread Cert.InQReferenceIdeal.nD Cert.InQReferenceIdeal.τ).loc Cert.InQReferenceIdeal.main_arg0)
      ∧ r.2.mem ((c.tc : Thread Cert.InQReferenceIdeal.nD Cert.InQReferenceIdeal.τ).loc Cert.InQReferenceIdeal.main_arg1) = m ((c.tc : Thread Cert.InQReferenceIdeal.nD Cert.InQReferenceIdeal.τ).loc Cert.InQReferenceIdeal.main_arg1))
      ∧ r.2.sem = fun _ => 0)

def quiescent_InGKernel [hInGKernel : Cert.InGKernel.Facts] : Prop :=
  ∀ (m : (ℓ : Loc Cert.InGKernel.nD Cert.InGKernel.τ Cert.InGKernel.sig) → Buf (Elt Bits) ℓ) (g : Dev Cert.InGKernel.nD → PrngReg), Pre_InGKernel m →
    θ_run (Cert.InGKernel.defs (F := Bits)) (onTc (τ := Cert.InGKernel.τ) (Cert.InGKernel.main (F := Bits))) ⟨m, fun _ => 0, g⟩ (fun r => (∀ c : Dev Cert.InGKernel.nD,
      r.2.mem ((c.tc : Thread Cert.InGKernel.nD Cert.InGKernel.τ).loc Cert.InGKernel.main_arg0) = m ((c.tc : Thread Cert.InGKernel.nD Cert.InGKernel.τ).loc Cert.InGKernel.main_arg0)
      ∧ r.2.mem ((c.tc : Thread Cert.InGKernel.nD Cert.InGKernel.τ).loc Cert.InGKernel.main_arg1) = m ((c.tc : Thread Cert.InGKernel.nD Cert.InGKernel.τ).loc Cert.InGKernel.main_arg1))
      ∧ r.2.sem = fun _ => 0)

def quiescent_InGKernelIdeal [hInGKernelIdeal : Cert.InGKernelIdeal.Facts] : Prop :=
  ∀ (m : (ℓ : Loc Cert.InGKernelIdeal.nD Cert.InGKernelIdeal.τ Cert.InGKernelIdeal.sig) → Buf (Elt Ideal) ℓ) (g : Dev Cert.InGKernelIdeal.nD → PrngReg), Pre_InGKernelIdeal m →
    θ_run (Cert.InGKernelIdeal.defs (F := Ideal)) (onTc (τ := Cert.InGKernelIdeal.τ) (Cert.InGKernelIdeal.main (F := Ideal))) ⟨m, fun _ => 0, g⟩ (fun r => (∀ c : Dev Cert.InGKernelIdeal.nD,
      r.2.mem ((c.tc : Thread Cert.InGKernelIdeal.nD Cert.InGKernelIdeal.τ).loc Cert.InGKernelIdeal.main_arg0) = m ((c.tc : Thread Cert.InGKernelIdeal.nD Cert.InGKernelIdeal.τ).loc Cert.InGKernelIdeal.main_arg0)
      ∧ r.2.mem ((c.tc : Thread Cert.InGKernelIdeal.nD Cert.InGKernelIdeal.τ).loc Cert.InGKernelIdeal.main_arg1) = m ((c.tc : Thread Cert.InGKernelIdeal.nD Cert.InGKernelIdeal.τ).loc Cert.InGKernelIdeal.main_arg1))
      ∧ r.2.sem = fun _ => 0)

def quiescent_InGReferenceIdeal [hInGReferenceIdeal : Cert.InGReferenceIdeal.Facts] : Prop :=
  ∀ (m : (ℓ : Loc Cert.InGReferenceIdeal.nD Cert.InGReferenceIdeal.τ Cert.InGReferenceIdeal.sig) → Buf (Elt Ideal) ℓ) (g : Dev Cert.InGReferenceIdeal.nD → PrngReg), Pre_InGReferenceIdeal m →
    θ_run (Cert.InGReferenceIdeal.defs (F := Ideal)) (onTc (τ := Cert.InGReferenceIdeal.τ) (Cert.InGReferenceIdeal.main (F := Ideal))) ⟨m, fun _ => 0, g⟩ (fun r => (∀ c : Dev Cert.InGReferenceIdeal.nD,
      r.2.mem ((c.tc : Thread Cert.InGReferenceIdeal.nD Cert.InGReferenceIdeal.τ).loc Cert.InGReferenceIdeal.main_arg0) = m ((c.tc : Thread Cert.InGReferenceIdeal.nD Cert.InGReferenceIdeal.τ).loc Cert.InGReferenceIdeal.main_arg0)
      ∧ r.2.mem ((c.tc : Thread Cert.InGReferenceIdeal.nD Cert.InGReferenceIdeal.τ).loc Cert.InGReferenceIdeal.main_arg1) = m ((c.tc : Thread Cert.InGReferenceIdeal.nD Cert.InGReferenceIdeal.τ).loc Cert.InGReferenceIdeal.main_arg1))
      ∧ r.2.sem = fun _ => 0)

def quiescent_ProjAKernel [hProjAKernel : Cert.ProjAKernel.Facts] : Prop :=
  ∀ (m : (ℓ : Loc Cert.ProjAKernel.nD Cert.ProjAKernel.τ Cert.ProjAKernel.sig) → Buf (Elt Bits) ℓ) (g : Dev Cert.ProjAKernel.nD → PrngReg), Pre_ProjAKernel m →
    θ_run (Cert.ProjAKernel.defs (F := Bits)) (onTc (τ := Cert.ProjAKernel.τ) (Cert.ProjAKernel.main (F := Bits))) ⟨m, fun _ => 0, g⟩ (fun r => (∀ c : Dev Cert.ProjAKernel.nD,
      r.2.mem ((c.tc : Thread Cert.ProjAKernel.nD Cert.ProjAKernel.τ).loc Cert.ProjAKernel.main_arg0) = m ((c.tc : Thread Cert.ProjAKernel.nD Cert.ProjAKernel.τ).loc Cert.ProjAKernel.main_arg0)
      ∧ r.2.mem ((c.tc : Thread Cert.ProjAKernel.nD Cert.ProjAKernel.τ).loc Cert.ProjAKernel.main_arg1) = m ((c.tc : Thread Cert.ProjAKernel.nD Cert.ProjAKernel.τ).loc Cert.ProjAKernel.main_arg1))
      ∧ r.2.sem = fun _ => 0)

def quiescent_ProjAKernelIdeal [hProjAKernelIdeal : Cert.ProjAKernelIdeal.Facts] : Prop :=
  ∀ (m : (ℓ : Loc Cert.ProjAKernelIdeal.nD Cert.ProjAKernelIdeal.τ Cert.ProjAKernelIdeal.sig) → Buf (Elt Ideal) ℓ) (g : Dev Cert.ProjAKernelIdeal.nD → PrngReg), Pre_ProjAKernelIdeal m →
    θ_run (Cert.ProjAKernelIdeal.defs (F := Ideal)) (onTc (τ := Cert.ProjAKernelIdeal.τ) (Cert.ProjAKernelIdeal.main (F := Ideal))) ⟨m, fun _ => 0, g⟩ (fun r => (∀ c : Dev Cert.ProjAKernelIdeal.nD,
      r.2.mem ((c.tc : Thread Cert.ProjAKernelIdeal.nD Cert.ProjAKernelIdeal.τ).loc Cert.ProjAKernelIdeal.main_arg0) = m ((c.tc : Thread Cert.ProjAKernelIdeal.nD Cert.ProjAKernelIdeal.τ).loc Cert.ProjAKernelIdeal.main_arg0)
      ∧ r.2.mem ((c.tc : Thread Cert.ProjAKernelIdeal.nD Cert.ProjAKernelIdeal.τ).loc Cert.ProjAKernelIdeal.main_arg1) = m ((c.tc : Thread Cert.ProjAKernelIdeal.nD Cert.ProjAKernelIdeal.τ).loc Cert.ProjAKernelIdeal.main_arg1))
      ∧ r.2.sem = fun _ => 0)

def quiescent_ProjAReferenceIdeal [hProjAReferenceIdeal : Cert.ProjAReferenceIdeal.Facts] : Prop :=
  ∀ (m : (ℓ : Loc Cert.ProjAReferenceIdeal.nD Cert.ProjAReferenceIdeal.τ Cert.ProjAReferenceIdeal.sig) → Buf (Elt Ideal) ℓ) (g : Dev Cert.ProjAReferenceIdeal.nD → PrngReg), Pre_ProjAReferenceIdeal m →
    θ_run (Cert.ProjAReferenceIdeal.defs (F := Ideal)) (onTc (τ := Cert.ProjAReferenceIdeal.τ) (Cert.ProjAReferenceIdeal.main (F := Ideal))) ⟨m, fun _ => 0, g⟩ (fun r => (∀ c : Dev Cert.ProjAReferenceIdeal.nD,
      r.2.mem ((c.tc : Thread Cert.ProjAReferenceIdeal.nD Cert.ProjAReferenceIdeal.τ).loc Cert.ProjAReferenceIdeal.main_arg0) = m ((c.tc : Thread Cert.ProjAReferenceIdeal.nD Cert.ProjAReferenceIdeal.τ).loc Cert.ProjAReferenceIdeal.main_arg0)
      ∧ r.2.mem ((c.tc : Thread Cert.ProjAReferenceIdeal.nD Cert.ProjAReferenceIdeal.τ).loc Cert.ProjAReferenceIdeal.main_arg1) = m ((c.tc : Thread Cert.ProjAReferenceIdeal.nD Cert.ProjAReferenceIdeal.τ).loc Cert.ProjAReferenceIdeal.main_arg1))
      ∧ r.2.sem = fun _ => 0)

def quiescent_ProjBKernel [hProjBKernel : Cert.ProjBKernel.Facts] : Prop :=
  ∀ (m : (ℓ : Loc Cert.ProjBKernel.nD Cert.ProjBKernel.τ Cert.ProjBKernel.sig) → Buf (Elt Bits) ℓ) (g : Dev Cert.ProjBKernel.nD → PrngReg), Pre_ProjBKernel m →
    θ_run (Cert.ProjBKernel.defs (F := Bits)) (onTc (τ := Cert.ProjBKernel.τ) (Cert.ProjBKernel.main (F := Bits))) ⟨m, fun _ => 0, g⟩ (fun r => (∀ c : Dev Cert.ProjBKernel.nD,
      r.2.mem ((c.tc : Thread Cert.ProjBKernel.nD Cert.ProjBKernel.τ).loc Cert.ProjBKernel.main_arg0) = m ((c.tc : Thread Cert.ProjBKernel.nD Cert.ProjBKernel.τ).loc Cert.ProjBKernel.main_arg0)
      ∧ r.2.mem ((c.tc : Thread Cert.ProjBKernel.nD Cert.ProjBKernel.τ).loc Cert.ProjBKernel.main_arg1) = m ((c.tc : Thread Cert.ProjBKernel.nD Cert.ProjBKernel.τ).loc Cert.ProjBKernel.main_arg1))
      ∧ r.2.sem = fun _ => 0)

def quiescent_ProjBKernelIdeal [hProjBKernelIdeal : Cert.ProjBKernelIdeal.Facts] : Prop :=
  ∀ (m : (ℓ : Loc Cert.ProjBKernelIdeal.nD Cert.ProjBKernelIdeal.τ Cert.ProjBKernelIdeal.sig) → Buf (Elt Ideal) ℓ) (g : Dev Cert.ProjBKernelIdeal.nD → PrngReg), Pre_ProjBKernelIdeal m →
    θ_run (Cert.ProjBKernelIdeal.defs (F := Ideal)) (onTc (τ := Cert.ProjBKernelIdeal.τ) (Cert.ProjBKernelIdeal.main (F := Ideal))) ⟨m, fun _ => 0, g⟩ (fun r => (∀ c : Dev Cert.ProjBKernelIdeal.nD,
      r.2.mem ((c.tc : Thread Cert.ProjBKernelIdeal.nD Cert.ProjBKernelIdeal.τ).loc Cert.ProjBKernelIdeal.main_arg0) = m ((c.tc : Thread Cert.ProjBKernelIdeal.nD Cert.ProjBKernelIdeal.τ).loc Cert.ProjBKernelIdeal.main_arg0)
      ∧ r.2.mem ((c.tc : Thread Cert.ProjBKernelIdeal.nD Cert.ProjBKernelIdeal.τ).loc Cert.ProjBKernelIdeal.main_arg1) = m ((c.tc : Thread Cert.ProjBKernelIdeal.nD Cert.ProjBKernelIdeal.τ).loc Cert.ProjBKernelIdeal.main_arg1))
      ∧ r.2.sem = fun _ => 0)

def quiescent_ProjBReferenceIdeal [hProjBReferenceIdeal : Cert.ProjBReferenceIdeal.Facts] : Prop :=
  ∀ (m : (ℓ : Loc Cert.ProjBReferenceIdeal.nD Cert.ProjBReferenceIdeal.τ Cert.ProjBReferenceIdeal.sig) → Buf (Elt Ideal) ℓ) (g : Dev Cert.ProjBReferenceIdeal.nD → PrngReg), Pre_ProjBReferenceIdeal m →
    θ_run (Cert.ProjBReferenceIdeal.defs (F := Ideal)) (onTc (τ := Cert.ProjBReferenceIdeal.τ) (Cert.ProjBReferenceIdeal.main (F := Ideal))) ⟨m, fun _ => 0, g⟩ (fun r => (∀ c : Dev Cert.ProjBReferenceIdeal.nD,
      r.2.mem ((c.tc : Thread Cert.ProjBReferenceIdeal.nD Cert.ProjBReferenceIdeal.τ).loc Cert.ProjBReferenceIdeal.main_arg0) = m ((c.tc : Thread Cert.ProjBReferenceIdeal.nD Cert.ProjBReferenceIdeal.τ).loc Cert.ProjBReferenceIdeal.main_arg0)
      ∧ r.2.mem ((c.tc : Thread Cert.ProjBReferenceIdeal.nD Cert.ProjBReferenceIdeal.τ).loc Cert.ProjBReferenceIdeal.main_arg1) = m ((c.tc : Thread Cert.ProjBReferenceIdeal.nD Cert.ProjBReferenceIdeal.τ).loc Cert.ProjBReferenceIdeal.main_arg1))
      ∧ r.2.sem = fun _ => 0)

def quiescent_ProjCKernel [hProjCKernel : Cert.ProjCKernel.Facts] : Prop :=
  ∀ (m : (ℓ : Loc Cert.ProjCKernel.nD Cert.ProjCKernel.τ Cert.ProjCKernel.sig) → Buf (Elt Bits) ℓ) (g : Dev Cert.ProjCKernel.nD → PrngReg), Pre_ProjCKernel m →
    θ_run (Cert.ProjCKernel.defs (F := Bits)) (onTc (τ := Cert.ProjCKernel.τ) (Cert.ProjCKernel.main (F := Bits))) ⟨m, fun _ => 0, g⟩ (fun r => (∀ c : Dev Cert.ProjCKernel.nD,
      r.2.mem ((c.tc : Thread Cert.ProjCKernel.nD Cert.ProjCKernel.τ).loc Cert.ProjCKernel.main_arg0) = m ((c.tc : Thread Cert.ProjCKernel.nD Cert.ProjCKernel.τ).loc Cert.ProjCKernel.main_arg0)
      ∧ r.2.mem ((c.tc : Thread Cert.ProjCKernel.nD Cert.ProjCKernel.τ).loc Cert.ProjCKernel.main_arg1) = m ((c.tc : Thread Cert.ProjCKernel.nD Cert.ProjCKernel.τ).loc Cert.ProjCKernel.main_arg1))
      ∧ r.2.sem = fun _ => 0)

def quiescent_ProjCKernelIdeal [hProjCKernelIdeal : Cert.ProjCKernelIdeal.Facts] : Prop :=
  ∀ (m : (ℓ : Loc Cert.ProjCKernelIdeal.nD Cert.ProjCKernelIdeal.τ Cert.ProjCKernelIdeal.sig) → Buf (Elt Ideal) ℓ) (g : Dev Cert.ProjCKernelIdeal.nD → PrngReg), Pre_ProjCKernelIdeal m →
    θ_run (Cert.ProjCKernelIdeal.defs (F := Ideal)) (onTc (τ := Cert.ProjCKernelIdeal.τ) (Cert.ProjCKernelIdeal.main (F := Ideal))) ⟨m, fun _ => 0, g⟩ (fun r => (∀ c : Dev Cert.ProjCKernelIdeal.nD,
      r.2.mem ((c.tc : Thread Cert.ProjCKernelIdeal.nD Cert.ProjCKernelIdeal.τ).loc Cert.ProjCKernelIdeal.main_arg0) = m ((c.tc : Thread Cert.ProjCKernelIdeal.nD Cert.ProjCKernelIdeal.τ).loc Cert.ProjCKernelIdeal.main_arg0)
      ∧ r.2.mem ((c.tc : Thread Cert.ProjCKernelIdeal.nD Cert.ProjCKernelIdeal.τ).loc Cert.ProjCKernelIdeal.main_arg1) = m ((c.tc : Thread Cert.ProjCKernelIdeal.nD Cert.ProjCKernelIdeal.τ).loc Cert.ProjCKernelIdeal.main_arg1))
      ∧ r.2.sem = fun _ => 0)

def quiescent_ProjCReferenceIdeal [hProjCReferenceIdeal : Cert.ProjCReferenceIdeal.Facts] : Prop :=
  ∀ (m : (ℓ : Loc Cert.ProjCReferenceIdeal.nD Cert.ProjCReferenceIdeal.τ Cert.ProjCReferenceIdeal.sig) → Buf (Elt Ideal) ℓ) (g : Dev Cert.ProjCReferenceIdeal.nD → PrngReg), Pre_ProjCReferenceIdeal m →
    θ_run (Cert.ProjCReferenceIdeal.defs (F := Ideal)) (onTc (τ := Cert.ProjCReferenceIdeal.τ) (Cert.ProjCReferenceIdeal.main (F := Ideal))) ⟨m, fun _ => 0, g⟩ (fun r => (∀ c : Dev Cert.ProjCReferenceIdeal.nD,
      r.2.mem ((c.tc : Thread Cert.ProjCReferenceIdeal.nD Cert.ProjCReferenceIdeal.τ).loc Cert.ProjCReferenceIdeal.main_arg0) = m ((c.tc : Thread Cert.ProjCReferenceIdeal.nD Cert.ProjCReferenceIdeal.τ).loc Cert.ProjCReferenceIdeal.main_arg0)
      ∧ r.2.mem ((c.tc : Thread Cert.ProjCReferenceIdeal.nD Cert.ProjCReferenceIdeal.τ).loc Cert.ProjCReferenceIdeal.main_arg1) = m ((c.tc : Thread Cert.ProjCReferenceIdeal.nD Cert.ProjCReferenceIdeal.τ).loc Cert.ProjCReferenceIdeal.main_arg1))
      ∧ r.2.sem = fun _ => 0)

def quiescent_Glu1Kernel [hGlu1Kernel : Cert.Glu1Kernel.Facts] : Prop :=
  ∀ (m : (ℓ : Loc Cert.Glu1Kernel.nD Cert.Glu1Kernel.τ Cert.Glu1Kernel.sig) → Buf (Elt Bits) ℓ) (g : Dev Cert.Glu1Kernel.nD → PrngReg), Pre_Glu1Kernel m →
    θ_run (Cert.Glu1Kernel.defs (F := Bits)) (onTc (τ := Cert.Glu1Kernel.τ) (Cert.Glu1Kernel.main (F := Bits))) ⟨m, fun _ => 0, g⟩ (fun r => (∀ c : Dev Cert.Glu1Kernel.nD,
      r.2.mem ((c.tc : Thread Cert.Glu1Kernel.nD Cert.Glu1Kernel.τ).loc Cert.Glu1Kernel.main_arg0) = m ((c.tc : Thread Cert.Glu1Kernel.nD Cert.Glu1Kernel.τ).loc Cert.Glu1Kernel.main_arg0)
      ∧ r.2.mem ((c.tc : Thread Cert.Glu1Kernel.nD Cert.Glu1Kernel.τ).loc Cert.Glu1Kernel.main_arg1) = m ((c.tc : Thread Cert.Glu1Kernel.nD Cert.Glu1Kernel.τ).loc Cert.Glu1Kernel.main_arg1))
      ∧ r.2.sem = fun _ => 0)

def quiescent_Glu1KernelIdeal [hGlu1KernelIdeal : Cert.Glu1KernelIdeal.Facts] : Prop :=
  ∀ (m : (ℓ : Loc Cert.Glu1KernelIdeal.nD Cert.Glu1KernelIdeal.τ Cert.Glu1KernelIdeal.sig) → Buf (Elt Ideal) ℓ) (g : Dev Cert.Glu1KernelIdeal.nD → PrngReg), Pre_Glu1KernelIdeal m →
    θ_run (Cert.Glu1KernelIdeal.defs (F := Ideal)) (onTc (τ := Cert.Glu1KernelIdeal.τ) (Cert.Glu1KernelIdeal.main (F := Ideal))) ⟨m, fun _ => 0, g⟩ (fun r => (∀ c : Dev Cert.Glu1KernelIdeal.nD,
      r.2.mem ((c.tc : Thread Cert.Glu1KernelIdeal.nD Cert.Glu1KernelIdeal.τ).loc Cert.Glu1KernelIdeal.main_arg0) = m ((c.tc : Thread Cert.Glu1KernelIdeal.nD Cert.Glu1KernelIdeal.τ).loc Cert.Glu1KernelIdeal.main_arg0)
      ∧ r.2.mem ((c.tc : Thread Cert.Glu1KernelIdeal.nD Cert.Glu1KernelIdeal.τ).loc Cert.Glu1KernelIdeal.main_arg1) = m ((c.tc : Thread Cert.Glu1KernelIdeal.nD Cert.Glu1KernelIdeal.τ).loc Cert.Glu1KernelIdeal.main_arg1))
      ∧ r.2.sem = fun _ => 0)

def quiescent_Glu1ReferenceIdeal [hGlu1ReferenceIdeal : Cert.Glu1ReferenceIdeal.Facts] : Prop :=
  ∀ (m : (ℓ : Loc Cert.Glu1ReferenceIdeal.nD Cert.Glu1ReferenceIdeal.τ Cert.Glu1ReferenceIdeal.sig) → Buf (Elt Ideal) ℓ) (g : Dev Cert.Glu1ReferenceIdeal.nD → PrngReg), Pre_Glu1ReferenceIdeal m →
    θ_run (Cert.Glu1ReferenceIdeal.defs (F := Ideal)) (onTc (τ := Cert.Glu1ReferenceIdeal.τ) (Cert.Glu1ReferenceIdeal.main (F := Ideal))) ⟨m, fun _ => 0, g⟩ (fun r => (∀ c : Dev Cert.Glu1ReferenceIdeal.nD,
      r.2.mem ((c.tc : Thread Cert.Glu1ReferenceIdeal.nD Cert.Glu1ReferenceIdeal.τ).loc Cert.Glu1ReferenceIdeal.main_arg0) = m ((c.tc : Thread Cert.Glu1ReferenceIdeal.nD Cert.Glu1ReferenceIdeal.τ).loc Cert.Glu1ReferenceIdeal.main_arg0)
      ∧ r.2.mem ((c.tc : Thread Cert.Glu1ReferenceIdeal.nD Cert.Glu1ReferenceIdeal.τ).loc Cert.Glu1ReferenceIdeal.main_arg1) = m ((c.tc : Thread Cert.Glu1ReferenceIdeal.nD Cert.Glu1ReferenceIdeal.τ).loc Cert.Glu1ReferenceIdeal.main_arg1))
      ∧ r.2.sem = fun _ => 0)

def quiescent_WOutKernel [hWOutKernel : Cert.WOutKernel.Facts] : Prop :=
  ∀ (m : (ℓ : Loc Cert.WOutKernel.nD Cert.WOutKernel.τ Cert.WOutKernel.sig) → Buf (Elt Bits) ℓ) (g : Dev Cert.WOutKernel.nD → PrngReg), Pre_WOutKernel m →
    θ_run (Cert.WOutKernel.defs (F := Bits)) (onTc (τ := Cert.WOutKernel.τ) (Cert.WOutKernel.main (F := Bits))) ⟨m, fun _ => 0, g⟩ (fun r => (∀ c : Dev Cert.WOutKernel.nD,
      r.2.mem ((c.tc : Thread Cert.WOutKernel.nD Cert.WOutKernel.τ).loc Cert.WOutKernel.main_arg0) = m ((c.tc : Thread Cert.WOutKernel.nD Cert.WOutKernel.τ).loc Cert.WOutKernel.main_arg0)
      ∧ r.2.mem ((c.tc : Thread Cert.WOutKernel.nD Cert.WOutKernel.τ).loc Cert.WOutKernel.main_arg1) = m ((c.tc : Thread Cert.WOutKernel.nD Cert.WOutKernel.τ).loc Cert.WOutKernel.main_arg1)
      ∧ r.2.mem ((c.tc : Thread Cert.WOutKernel.nD Cert.WOutKernel.τ).loc Cert.WOutKernel.main_arg2) = m ((c.tc : Thread Cert.WOutKernel.nD Cert.WOutKernel.τ).loc Cert.WOutKernel.main_arg2))
      ∧ r.2.sem = fun _ => 0)

def quiescent_WOutKernelIdeal [hWOutKernelIdeal : Cert.WOutKernelIdeal.Facts] : Prop :=
  ∀ (m : (ℓ : Loc Cert.WOutKernelIdeal.nD Cert.WOutKernelIdeal.τ Cert.WOutKernelIdeal.sig) → Buf (Elt Ideal) ℓ) (g : Dev Cert.WOutKernelIdeal.nD → PrngReg), Pre_WOutKernelIdeal m →
    θ_run (Cert.WOutKernelIdeal.defs (F := Ideal)) (onTc (τ := Cert.WOutKernelIdeal.τ) (Cert.WOutKernelIdeal.main (F := Ideal))) ⟨m, fun _ => 0, g⟩ (fun r => (∀ c : Dev Cert.WOutKernelIdeal.nD,
      r.2.mem ((c.tc : Thread Cert.WOutKernelIdeal.nD Cert.WOutKernelIdeal.τ).loc Cert.WOutKernelIdeal.main_arg0) = m ((c.tc : Thread Cert.WOutKernelIdeal.nD Cert.WOutKernelIdeal.τ).loc Cert.WOutKernelIdeal.main_arg0)
      ∧ r.2.mem ((c.tc : Thread Cert.WOutKernelIdeal.nD Cert.WOutKernelIdeal.τ).loc Cert.WOutKernelIdeal.main_arg1) = m ((c.tc : Thread Cert.WOutKernelIdeal.nD Cert.WOutKernelIdeal.τ).loc Cert.WOutKernelIdeal.main_arg1)
      ∧ r.2.mem ((c.tc : Thread Cert.WOutKernelIdeal.nD Cert.WOutKernelIdeal.τ).loc Cert.WOutKernelIdeal.main_arg2) = m ((c.tc : Thread Cert.WOutKernelIdeal.nD Cert.WOutKernelIdeal.τ).loc Cert.WOutKernelIdeal.main_arg2))
      ∧ r.2.sem = fun _ => 0)

def quiescent_WOutReferenceIdeal [hWOutReferenceIdeal : Cert.WOutReferenceIdeal.Facts] : Prop :=
  ∀ (m : (ℓ : Loc Cert.WOutReferenceIdeal.nD Cert.WOutReferenceIdeal.τ Cert.WOutReferenceIdeal.sig) → Buf (Elt Ideal) ℓ) (g : Dev Cert.WOutReferenceIdeal.nD → PrngReg), Pre_WOutReferenceIdeal m →
    θ_run (Cert.WOutReferenceIdeal.defs (F := Ideal)) (onTc (τ := Cert.WOutReferenceIdeal.τ) (Cert.WOutReferenceIdeal.main (F := Ideal))) ⟨m, fun _ => 0, g⟩ (fun r => (∀ c : Dev Cert.WOutReferenceIdeal.nD,
      r.2.mem ((c.tc : Thread Cert.WOutReferenceIdeal.nD Cert.WOutReferenceIdeal.τ).loc Cert.WOutReferenceIdeal.main_arg0) = m ((c.tc : Thread Cert.WOutReferenceIdeal.nD Cert.WOutReferenceIdeal.τ).loc Cert.WOutReferenceIdeal.main_arg0)
      ∧ r.2.mem ((c.tc : Thread Cert.WOutReferenceIdeal.nD Cert.WOutReferenceIdeal.τ).loc Cert.WOutReferenceIdeal.main_arg1) = m ((c.tc : Thread Cert.WOutReferenceIdeal.nD Cert.WOutReferenceIdeal.τ).loc Cert.WOutReferenceIdeal.main_arg1)
      ∧ r.2.mem ((c.tc : Thread Cert.WOutReferenceIdeal.nD Cert.WOutReferenceIdeal.τ).loc Cert.WOutReferenceIdeal.main_arg2) = m ((c.tc : Thread Cert.WOutReferenceIdeal.nD Cert.WOutReferenceIdeal.τ).loc Cert.WOutReferenceIdeal.main_arg2))
      ∧ r.2.sem = fun _ => 0)

def quiescent_OptWInKernel [hOptWInKernel : Cert.OptWInKernel.Facts] : Prop :=
  ∀ (m : (ℓ : Loc Cert.OptWInKernel.nD Cert.OptWInKernel.τ Cert.OptWInKernel.sig) → Buf (Elt Bits) ℓ) (g : Dev Cert.OptWInKernel.nD → PrngReg), Pre_OptWInKernel m →
    θ_run (Cert.OptWInKernel.defs (F := Bits)) (onTc (τ := Cert.OptWInKernel.τ) (Cert.OptWInKernel.main (F := Bits))) ⟨m, fun _ => 0, g⟩ (fun r => (∀ c : Dev Cert.OptWInKernel.nD,
      r.2.mem ((c.tc : Thread Cert.OptWInKernel.nD Cert.OptWInKernel.τ).loc Cert.OptWInKernel.main_arg0) = m ((c.tc : Thread Cert.OptWInKernel.nD Cert.OptWInKernel.τ).loc Cert.OptWInKernel.main_arg0)
      ∧ r.2.mem ((c.tc : Thread Cert.OptWInKernel.nD Cert.OptWInKernel.τ).loc Cert.OptWInKernel.main_arg1) = m ((c.tc : Thread Cert.OptWInKernel.nD Cert.OptWInKernel.τ).loc Cert.OptWInKernel.main_arg1)
      ∧ r.2.mem ((c.tc : Thread Cert.OptWInKernel.nD Cert.OptWInKernel.τ).loc Cert.OptWInKernel.main_arg2) = m ((c.tc : Thread Cert.OptWInKernel.nD Cert.OptWInKernel.τ).loc Cert.OptWInKernel.main_arg2)
      ∧ r.2.mem ((c.tc : Thread Cert.OptWInKernel.nD Cert.OptWInKernel.τ).loc Cert.OptWInKernel.main_arg3) = m ((c.tc : Thread Cert.OptWInKernel.nD Cert.OptWInKernel.τ).loc Cert.OptWInKernel.main_arg3)
      ∧ r.2.mem ((c.tc : Thread Cert.OptWInKernel.nD Cert.OptWInKernel.τ).loc Cert.OptWInKernel.main_arg4) = m ((c.tc : Thread Cert.OptWInKernel.nD Cert.OptWInKernel.τ).loc Cert.OptWInKernel.main_arg4))
      ∧ r.2.sem = fun _ => 0)

def quiescent_OptWInKernelIdeal [hOptWInKernelIdeal : Cert.OptWInKernelIdeal.Facts] : Prop :=
  ∀ (m : (ℓ : Loc Cert.OptWInKernelIdeal.nD Cert.OptWInKernelIdeal.τ Cert.OptWInKernelIdeal.sig) → Buf (Elt Ideal) ℓ) (g : Dev Cert.OptWInKernelIdeal.nD → PrngReg), Pre_OptWInKernelIdeal m →
    θ_run (Cert.OptWInKernelIdeal.defs (F := Ideal)) (onTc (τ := Cert.OptWInKernelIdeal.τ) (Cert.OptWInKernelIdeal.main (F := Ideal))) ⟨m, fun _ => 0, g⟩ (fun r => (∀ c : Dev Cert.OptWInKernelIdeal.nD,
      r.2.mem ((c.tc : Thread Cert.OptWInKernelIdeal.nD Cert.OptWInKernelIdeal.τ).loc Cert.OptWInKernelIdeal.main_arg0) = m ((c.tc : Thread Cert.OptWInKernelIdeal.nD Cert.OptWInKernelIdeal.τ).loc Cert.OptWInKernelIdeal.main_arg0)
      ∧ r.2.mem ((c.tc : Thread Cert.OptWInKernelIdeal.nD Cert.OptWInKernelIdeal.τ).loc Cert.OptWInKernelIdeal.main_arg1) = m ((c.tc : Thread Cert.OptWInKernelIdeal.nD Cert.OptWInKernelIdeal.τ).loc Cert.OptWInKernelIdeal.main_arg1)
      ∧ r.2.mem ((c.tc : Thread Cert.OptWInKernelIdeal.nD Cert.OptWInKernelIdeal.τ).loc Cert.OptWInKernelIdeal.main_arg2) = m ((c.tc : Thread Cert.OptWInKernelIdeal.nD Cert.OptWInKernelIdeal.τ).loc Cert.OptWInKernelIdeal.main_arg2)
      ∧ r.2.mem ((c.tc : Thread Cert.OptWInKernelIdeal.nD Cert.OptWInKernelIdeal.τ).loc Cert.OptWInKernelIdeal.main_arg3) = m ((c.tc : Thread Cert.OptWInKernelIdeal.nD Cert.OptWInKernelIdeal.τ).loc Cert.OptWInKernelIdeal.main_arg3)
      ∧ r.2.mem ((c.tc : Thread Cert.OptWInKernelIdeal.nD Cert.OptWInKernelIdeal.τ).loc Cert.OptWInKernelIdeal.main_arg4) = m ((c.tc : Thread Cert.OptWInKernelIdeal.nD Cert.OptWInKernelIdeal.τ).loc Cert.OptWInKernelIdeal.main_arg4))
      ∧ r.2.sem = fun _ => 0)

def quiescent_OptWInReferenceIdeal [hOptWInReferenceIdeal : Cert.OptWInReferenceIdeal.Facts] : Prop :=
  ∀ (m : (ℓ : Loc Cert.OptWInReferenceIdeal.nD Cert.OptWInReferenceIdeal.τ Cert.OptWInReferenceIdeal.sig) → Buf (Elt Ideal) ℓ) (g : Dev Cert.OptWInReferenceIdeal.nD → PrngReg), Pre_OptWInReferenceIdeal m →
    θ_run (Cert.OptWInReferenceIdeal.defs (F := Ideal)) (onTc (τ := Cert.OptWInReferenceIdeal.τ) (Cert.OptWInReferenceIdeal.main (F := Ideal))) ⟨m, fun _ => 0, g⟩ (fun r => (∀ c : Dev Cert.OptWInReferenceIdeal.nD,
      r.2.mem ((c.tc : Thread Cert.OptWInReferenceIdeal.nD Cert.OptWInReferenceIdeal.τ).loc Cert.OptWInReferenceIdeal.main_arg0) = m ((c.tc : Thread Cert.OptWInReferenceIdeal.nD Cert.OptWInReferenceIdeal.τ).loc Cert.OptWInReferenceIdeal.main_arg0)
      ∧ r.2.mem ((c.tc : Thread Cert.OptWInReferenceIdeal.nD Cert.OptWInReferenceIdeal.τ).loc Cert.OptWInReferenceIdeal.main_arg1) = m ((c.tc : Thread Cert.OptWInReferenceIdeal.nD Cert.OptWInReferenceIdeal.τ).loc Cert.OptWInReferenceIdeal.main_arg1)
      ∧ r.2.mem ((c.tc : Thread Cert.OptWInReferenceIdeal.nD Cert.OptWInReferenceIdeal.τ).loc Cert.OptWInReferenceIdeal.main_arg2) = m ((c.tc : Thread Cert.OptWInReferenceIdeal.nD Cert.OptWInReferenceIdeal.τ).loc Cert.OptWInReferenceIdeal.main_arg2)
      ∧ r.2.mem ((c.tc : Thread Cert.OptWInReferenceIdeal.nD Cert.OptWInReferenceIdeal.τ).loc Cert.OptWInReferenceIdeal.main_arg3) = m ((c.tc : Thread Cert.OptWInReferenceIdeal.nD Cert.OptWInReferenceIdeal.τ).loc Cert.OptWInReferenceIdeal.main_arg3)
      ∧ r.2.mem ((c.tc : Thread Cert.OptWInReferenceIdeal.nD Cert.OptWInReferenceIdeal.τ).loc Cert.OptWInReferenceIdeal.main_arg4) = m ((c.tc : Thread Cert.OptWInReferenceIdeal.nD Cert.OptWInReferenceIdeal.τ).loc Cert.OptWInReferenceIdeal.main_arg4))
      ∧ r.2.sem = fun _ => 0)

def quiescent_OptGluWKernel [hOptGluWKernel : Cert.OptGluWKernel.Facts] : Prop :=
  ∀ (m : (ℓ : Loc Cert.OptGluWKernel.nD Cert.OptGluWKernel.τ Cert.OptGluWKernel.sig) → Buf (Elt Bits) ℓ) (g : Dev Cert.OptGluWKernel.nD → PrngReg), Pre_OptGluWKernel m →
    θ_run (Cert.OptGluWKernel.defs (F := Bits)) (onTc (τ := Cert.OptGluWKernel.τ) (Cert.OptGluWKernel.main (F := Bits))) ⟨m, fun _ => 0, g⟩ (fun r => (∀ c : Dev Cert.OptGluWKernel.nD,
      r.2.mem ((c.tc : Thread Cert.OptGluWKernel.nD Cert.OptGluWKernel.τ).loc Cert.OptGluWKernel.main_arg0) = m ((c.tc : Thread Cert.OptGluWKernel.nD Cert.OptGluWKernel.τ).loc Cert.OptGluWKernel.main_arg0)
      ∧ r.2.mem ((c.tc : Thread Cert.OptGluWKernel.nD Cert.OptGluWKernel.τ).loc Cert.OptGluWKernel.main_arg1) = m ((c.tc : Thread Cert.OptGluWKernel.nD Cert.OptGluWKernel.τ).loc Cert.OptGluWKernel.main_arg1)
      ∧ r.2.mem ((c.tc : Thread Cert.OptGluWKernel.nD Cert.OptGluWKernel.τ).loc Cert.OptGluWKernel.main_arg2) = m ((c.tc : Thread Cert.OptGluWKernel.nD Cert.OptGluWKernel.τ).loc Cert.OptGluWKernel.main_arg2)
      ∧ r.2.mem ((c.tc : Thread Cert.OptGluWKernel.nD Cert.OptGluWKernel.τ).loc Cert.OptGluWKernel.main_arg3) = m ((c.tc : Thread Cert.OptGluWKernel.nD Cert.OptGluWKernel.τ).loc Cert.OptGluWKernel.main_arg3)
      ∧ r.2.mem ((c.tc : Thread Cert.OptGluWKernel.nD Cert.OptGluWKernel.τ).loc Cert.OptGluWKernel.main_arg4) = m ((c.tc : Thread Cert.OptGluWKernel.nD Cert.OptGluWKernel.τ).loc Cert.OptGluWKernel.main_arg4))
      ∧ r.2.sem = fun _ => 0)

def quiescent_OptGluWKernelIdeal [hOptGluWKernelIdeal : Cert.OptGluWKernelIdeal.Facts] : Prop :=
  ∀ (m : (ℓ : Loc Cert.OptGluWKernelIdeal.nD Cert.OptGluWKernelIdeal.τ Cert.OptGluWKernelIdeal.sig) → Buf (Elt Ideal) ℓ) (g : Dev Cert.OptGluWKernelIdeal.nD → PrngReg), Pre_OptGluWKernelIdeal m →
    θ_run (Cert.OptGluWKernelIdeal.defs (F := Ideal)) (onTc (τ := Cert.OptGluWKernelIdeal.τ) (Cert.OptGluWKernelIdeal.main (F := Ideal))) ⟨m, fun _ => 0, g⟩ (fun r => (∀ c : Dev Cert.OptGluWKernelIdeal.nD,
      r.2.mem ((c.tc : Thread Cert.OptGluWKernelIdeal.nD Cert.OptGluWKernelIdeal.τ).loc Cert.OptGluWKernelIdeal.main_arg0) = m ((c.tc : Thread Cert.OptGluWKernelIdeal.nD Cert.OptGluWKernelIdeal.τ).loc Cert.OptGluWKernelIdeal.main_arg0)
      ∧ r.2.mem ((c.tc : Thread Cert.OptGluWKernelIdeal.nD Cert.OptGluWKernelIdeal.τ).loc Cert.OptGluWKernelIdeal.main_arg1) = m ((c.tc : Thread Cert.OptGluWKernelIdeal.nD Cert.OptGluWKernelIdeal.τ).loc Cert.OptGluWKernelIdeal.main_arg1)
      ∧ r.2.mem ((c.tc : Thread Cert.OptGluWKernelIdeal.nD Cert.OptGluWKernelIdeal.τ).loc Cert.OptGluWKernelIdeal.main_arg2) = m ((c.tc : Thread Cert.OptGluWKernelIdeal.nD Cert.OptGluWKernelIdeal.τ).loc Cert.OptGluWKernelIdeal.main_arg2)
      ∧ r.2.mem ((c.tc : Thread Cert.OptGluWKernelIdeal.nD Cert.OptGluWKernelIdeal.τ).loc Cert.OptGluWKernelIdeal.main_arg3) = m ((c.tc : Thread Cert.OptGluWKernelIdeal.nD Cert.OptGluWKernelIdeal.τ).loc Cert.OptGluWKernelIdeal.main_arg3)
      ∧ r.2.mem ((c.tc : Thread Cert.OptGluWKernelIdeal.nD Cert.OptGluWKernelIdeal.τ).loc Cert.OptGluWKernelIdeal.main_arg4) = m ((c.tc : Thread Cert.OptGluWKernelIdeal.nD Cert.OptGluWKernelIdeal.τ).loc Cert.OptGluWKernelIdeal.main_arg4))
      ∧ r.2.sem = fun _ => 0)

def quiescent_OptGluWReferenceIdeal [hOptGluWReferenceIdeal : Cert.OptGluWReferenceIdeal.Facts] : Prop :=
  ∀ (m : (ℓ : Loc Cert.OptGluWReferenceIdeal.nD Cert.OptGluWReferenceIdeal.τ Cert.OptGluWReferenceIdeal.sig) → Buf (Elt Ideal) ℓ) (g : Dev Cert.OptGluWReferenceIdeal.nD → PrngReg), Pre_OptGluWReferenceIdeal m →
    θ_run (Cert.OptGluWReferenceIdeal.defs (F := Ideal)) (onTc (τ := Cert.OptGluWReferenceIdeal.τ) (Cert.OptGluWReferenceIdeal.main (F := Ideal))) ⟨m, fun _ => 0, g⟩ (fun r => (∀ c : Dev Cert.OptGluWReferenceIdeal.nD,
      r.2.mem ((c.tc : Thread Cert.OptGluWReferenceIdeal.nD Cert.OptGluWReferenceIdeal.τ).loc Cert.OptGluWReferenceIdeal.main_arg0) = m ((c.tc : Thread Cert.OptGluWReferenceIdeal.nD Cert.OptGluWReferenceIdeal.τ).loc Cert.OptGluWReferenceIdeal.main_arg0)
      ∧ r.2.mem ((c.tc : Thread Cert.OptGluWReferenceIdeal.nD Cert.OptGluWReferenceIdeal.τ).loc Cert.OptGluWReferenceIdeal.main_arg1) = m ((c.tc : Thread Cert.OptGluWReferenceIdeal.nD Cert.OptGluWReferenceIdeal.τ).loc Cert.OptGluWReferenceIdeal.main_arg1)
      ∧ r.2.mem ((c.tc : Thread Cert.OptGluWReferenceIdeal.nD Cert.OptGluWReferenceIdeal.τ).loc Cert.OptGluWReferenceIdeal.main_arg2) = m ((c.tc : Thread Cert.OptGluWReferenceIdeal.nD Cert.OptGluWReferenceIdeal.τ).loc Cert.OptGluWReferenceIdeal.main_arg2)
      ∧ r.2.mem ((c.tc : Thread Cert.OptGluWReferenceIdeal.nD Cert.OptGluWReferenceIdeal.τ).loc Cert.OptGluWReferenceIdeal.main_arg3) = m ((c.tc : Thread Cert.OptGluWReferenceIdeal.nD Cert.OptGluWReferenceIdeal.τ).loc Cert.OptGluWReferenceIdeal.main_arg3)
      ∧ r.2.mem ((c.tc : Thread Cert.OptGluWReferenceIdeal.nD Cert.OptGluWReferenceIdeal.τ).loc Cert.OptGluWReferenceIdeal.main_arg4) = m ((c.tc : Thread Cert.OptGluWReferenceIdeal.nD Cert.OptGluWReferenceIdeal.τ).loc Cert.OptGluWReferenceIdeal.main_arg4))
      ∧ r.2.sem = fun _ => 0)

def quiescent_OptWOutKernel [hOptWOutKernel : Cert.OptWOutKernel.Facts] : Prop :=
  ∀ (m : (ℓ : Loc Cert.OptWOutKernel.nD Cert.OptWOutKernel.τ Cert.OptWOutKernel.sig) → Buf (Elt Bits) ℓ) (g : Dev Cert.OptWOutKernel.nD → PrngReg), Pre_OptWOutKernel m →
    θ_run (Cert.OptWOutKernel.defs (F := Bits)) (onTc (τ := Cert.OptWOutKernel.τ) (Cert.OptWOutKernel.main (F := Bits))) ⟨m, fun _ => 0, g⟩ (fun r => (∀ c : Dev Cert.OptWOutKernel.nD,
      r.2.mem ((c.tc : Thread Cert.OptWOutKernel.nD Cert.OptWOutKernel.τ).loc Cert.OptWOutKernel.main_arg0) = m ((c.tc : Thread Cert.OptWOutKernel.nD Cert.OptWOutKernel.τ).loc Cert.OptWOutKernel.main_arg0)
      ∧ r.2.mem ((c.tc : Thread Cert.OptWOutKernel.nD Cert.OptWOutKernel.τ).loc Cert.OptWOutKernel.main_arg1) = m ((c.tc : Thread Cert.OptWOutKernel.nD Cert.OptWOutKernel.τ).loc Cert.OptWOutKernel.main_arg1)
      ∧ r.2.mem ((c.tc : Thread Cert.OptWOutKernel.nD Cert.OptWOutKernel.τ).loc Cert.OptWOutKernel.main_arg2) = m ((c.tc : Thread Cert.OptWOutKernel.nD Cert.OptWOutKernel.τ).loc Cert.OptWOutKernel.main_arg2)
      ∧ r.2.mem ((c.tc : Thread Cert.OptWOutKernel.nD Cert.OptWOutKernel.τ).loc Cert.OptWOutKernel.main_arg3) = m ((c.tc : Thread Cert.OptWOutKernel.nD Cert.OptWOutKernel.τ).loc Cert.OptWOutKernel.main_arg3)
      ∧ r.2.mem ((c.tc : Thread Cert.OptWOutKernel.nD Cert.OptWOutKernel.τ).loc Cert.OptWOutKernel.main_arg4) = m ((c.tc : Thread Cert.OptWOutKernel.nD Cert.OptWOutKernel.τ).loc Cert.OptWOutKernel.main_arg4))
      ∧ r.2.sem = fun _ => 0)

def quiescent_OptWOutKernelIdeal [hOptWOutKernelIdeal : Cert.OptWOutKernelIdeal.Facts] : Prop :=
  ∀ (m : (ℓ : Loc Cert.OptWOutKernelIdeal.nD Cert.OptWOutKernelIdeal.τ Cert.OptWOutKernelIdeal.sig) → Buf (Elt Ideal) ℓ) (g : Dev Cert.OptWOutKernelIdeal.nD → PrngReg), Pre_OptWOutKernelIdeal m →
    θ_run (Cert.OptWOutKernelIdeal.defs (F := Ideal)) (onTc (τ := Cert.OptWOutKernelIdeal.τ) (Cert.OptWOutKernelIdeal.main (F := Ideal))) ⟨m, fun _ => 0, g⟩ (fun r => (∀ c : Dev Cert.OptWOutKernelIdeal.nD,
      r.2.mem ((c.tc : Thread Cert.OptWOutKernelIdeal.nD Cert.OptWOutKernelIdeal.τ).loc Cert.OptWOutKernelIdeal.main_arg0) = m ((c.tc : Thread Cert.OptWOutKernelIdeal.nD Cert.OptWOutKernelIdeal.τ).loc Cert.OptWOutKernelIdeal.main_arg0)
      ∧ r.2.mem ((c.tc : Thread Cert.OptWOutKernelIdeal.nD Cert.OptWOutKernelIdeal.τ).loc Cert.OptWOutKernelIdeal.main_arg1) = m ((c.tc : Thread Cert.OptWOutKernelIdeal.nD Cert.OptWOutKernelIdeal.τ).loc Cert.OptWOutKernelIdeal.main_arg1)
      ∧ r.2.mem ((c.tc : Thread Cert.OptWOutKernelIdeal.nD Cert.OptWOutKernelIdeal.τ).loc Cert.OptWOutKernelIdeal.main_arg2) = m ((c.tc : Thread Cert.OptWOutKernelIdeal.nD Cert.OptWOutKernelIdeal.τ).loc Cert.OptWOutKernelIdeal.main_arg2)
      ∧ r.2.mem ((c.tc : Thread Cert.OptWOutKernelIdeal.nD Cert.OptWOutKernelIdeal.τ).loc Cert.OptWOutKernelIdeal.main_arg3) = m ((c.tc : Thread Cert.OptWOutKernelIdeal.nD Cert.OptWOutKernelIdeal.τ).loc Cert.OptWOutKernelIdeal.main_arg3)
      ∧ r.2.mem ((c.tc : Thread Cert.OptWOutKernelIdeal.nD Cert.OptWOutKernelIdeal.τ).loc Cert.OptWOutKernelIdeal.main_arg4) = m ((c.tc : Thread Cert.OptWOutKernelIdeal.nD Cert.OptWOutKernelIdeal.τ).loc Cert.OptWOutKernelIdeal.main_arg4))
      ∧ r.2.sem = fun _ => 0)

def quiescent_OptWOutReferenceIdeal [hOptWOutReferenceIdeal : Cert.OptWOutReferenceIdeal.Facts] : Prop :=
  ∀ (m : (ℓ : Loc Cert.OptWOutReferenceIdeal.nD Cert.OptWOutReferenceIdeal.τ Cert.OptWOutReferenceIdeal.sig) → Buf (Elt Ideal) ℓ) (g : Dev Cert.OptWOutReferenceIdeal.nD → PrngReg), Pre_OptWOutReferenceIdeal m →
    θ_run (Cert.OptWOutReferenceIdeal.defs (F := Ideal)) (onTc (τ := Cert.OptWOutReferenceIdeal.τ) (Cert.OptWOutReferenceIdeal.main (F := Ideal))) ⟨m, fun _ => 0, g⟩ (fun r => (∀ c : Dev Cert.OptWOutReferenceIdeal.nD,
      r.2.mem ((c.tc : Thread Cert.OptWOutReferenceIdeal.nD Cert.OptWOutReferenceIdeal.τ).loc Cert.OptWOutReferenceIdeal.main_arg0) = m ((c.tc : Thread Cert.OptWOutReferenceIdeal.nD Cert.OptWOutReferenceIdeal.τ).loc Cert.OptWOutReferenceIdeal.main_arg0)
      ∧ r.2.mem ((c.tc : Thread Cert.OptWOutReferenceIdeal.nD Cert.OptWOutReferenceIdeal.τ).loc Cert.OptWOutReferenceIdeal.main_arg1) = m ((c.tc : Thread Cert.OptWOutReferenceIdeal.nD Cert.OptWOutReferenceIdeal.τ).loc Cert.OptWOutReferenceIdeal.main_arg1)
      ∧ r.2.mem ((c.tc : Thread Cert.OptWOutReferenceIdeal.nD Cert.OptWOutReferenceIdeal.τ).loc Cert.OptWOutReferenceIdeal.main_arg2) = m ((c.tc : Thread Cert.OptWOutReferenceIdeal.nD Cert.OptWOutReferenceIdeal.τ).loc Cert.OptWOutReferenceIdeal.main_arg2)
      ∧ r.2.mem ((c.tc : Thread Cert.OptWOutReferenceIdeal.nD Cert.OptWOutReferenceIdeal.τ).loc Cert.OptWOutReferenceIdeal.main_arg3) = m ((c.tc : Thread Cert.OptWOutReferenceIdeal.nD Cert.OptWOutReferenceIdeal.τ).loc Cert.OptWOutReferenceIdeal.main_arg3)
      ∧ r.2.mem ((c.tc : Thread Cert.OptWOutReferenceIdeal.nD Cert.OptWOutReferenceIdeal.τ).loc Cert.OptWOutReferenceIdeal.main_arg4) = m ((c.tc : Thread Cert.OptWOutReferenceIdeal.nD Cert.OptWOutReferenceIdeal.τ).loc Cert.OptWOutReferenceIdeal.main_arg4))
      ∧ r.2.sem = fun _ => 0)

def quiescent_OptProjAKernel [hOptProjAKernel : Cert.OptProjAKernel.Facts] : Prop :=
  ∀ (m : (ℓ : Loc Cert.OptProjAKernel.nD Cert.OptProjAKernel.τ Cert.OptProjAKernel.sig) → Buf (Elt Bits) ℓ) (g : Dev Cert.OptProjAKernel.nD → PrngReg), Pre_OptProjAKernel m →
    θ_run (Cert.OptProjAKernel.defs (F := Bits)) (onTc (τ := Cert.OptProjAKernel.τ) (Cert.OptProjAKernel.main (F := Bits))) ⟨m, fun _ => 0, g⟩ (fun r => (∀ c : Dev Cert.OptProjAKernel.nD,
      r.2.mem ((c.tc : Thread Cert.OptProjAKernel.nD Cert.OptProjAKernel.τ).loc Cert.OptProjAKernel.main_arg0) = m ((c.tc : Thread Cert.OptProjAKernel.nD Cert.OptProjAKernel.τ).loc Cert.OptProjAKernel.main_arg0)
      ∧ r.2.mem ((c.tc : Thread Cert.OptProjAKernel.nD Cert.OptProjAKernel.τ).loc Cert.OptProjAKernel.main_arg1) = m ((c.tc : Thread Cert.OptProjAKernel.nD Cert.OptProjAKernel.τ).loc Cert.OptProjAKernel.main_arg1)
      ∧ r.2.mem ((c.tc : Thread Cert.OptProjAKernel.nD Cert.OptProjAKernel.τ).loc Cert.OptProjAKernel.main_arg2) = m ((c.tc : Thread Cert.OptProjAKernel.nD Cert.OptProjAKernel.τ).loc Cert.OptProjAKernel.main_arg2)
      ∧ r.2.mem ((c.tc : Thread Cert.OptProjAKernel.nD Cert.OptProjAKernel.τ).loc Cert.OptProjAKernel.main_arg3) = m ((c.tc : Thread Cert.OptProjAKernel.nD Cert.OptProjAKernel.τ).loc Cert.OptProjAKernel.main_arg3)
      ∧ r.2.mem ((c.tc : Thread Cert.OptProjAKernel.nD Cert.OptProjAKernel.τ).loc Cert.OptProjAKernel.main_arg4) = m ((c.tc : Thread Cert.OptProjAKernel.nD Cert.OptProjAKernel.τ).loc Cert.OptProjAKernel.main_arg4))
      ∧ r.2.sem = fun _ => 0)

def quiescent_OptProjAKernelIdeal [hOptProjAKernelIdeal : Cert.OptProjAKernelIdeal.Facts] : Prop :=
  ∀ (m : (ℓ : Loc Cert.OptProjAKernelIdeal.nD Cert.OptProjAKernelIdeal.τ Cert.OptProjAKernelIdeal.sig) → Buf (Elt Ideal) ℓ) (g : Dev Cert.OptProjAKernelIdeal.nD → PrngReg), Pre_OptProjAKernelIdeal m →
    θ_run (Cert.OptProjAKernelIdeal.defs (F := Ideal)) (onTc (τ := Cert.OptProjAKernelIdeal.τ) (Cert.OptProjAKernelIdeal.main (F := Ideal))) ⟨m, fun _ => 0, g⟩ (fun r => (∀ c : Dev Cert.OptProjAKernelIdeal.nD,
      r.2.mem ((c.tc : Thread Cert.OptProjAKernelIdeal.nD Cert.OptProjAKernelIdeal.τ).loc Cert.OptProjAKernelIdeal.main_arg0) = m ((c.tc : Thread Cert.OptProjAKernelIdeal.nD Cert.OptProjAKernelIdeal.τ).loc Cert.OptProjAKernelIdeal.main_arg0)
      ∧ r.2.mem ((c.tc : Thread Cert.OptProjAKernelIdeal.nD Cert.OptProjAKernelIdeal.τ).loc Cert.OptProjAKernelIdeal.main_arg1) = m ((c.tc : Thread Cert.OptProjAKernelIdeal.nD Cert.OptProjAKernelIdeal.τ).loc Cert.OptProjAKernelIdeal.main_arg1)
      ∧ r.2.mem ((c.tc : Thread Cert.OptProjAKernelIdeal.nD Cert.OptProjAKernelIdeal.τ).loc Cert.OptProjAKernelIdeal.main_arg2) = m ((c.tc : Thread Cert.OptProjAKernelIdeal.nD Cert.OptProjAKernelIdeal.τ).loc Cert.OptProjAKernelIdeal.main_arg2)
      ∧ r.2.mem ((c.tc : Thread Cert.OptProjAKernelIdeal.nD Cert.OptProjAKernelIdeal.τ).loc Cert.OptProjAKernelIdeal.main_arg3) = m ((c.tc : Thread Cert.OptProjAKernelIdeal.nD Cert.OptProjAKernelIdeal.τ).loc Cert.OptProjAKernelIdeal.main_arg3)
      ∧ r.2.mem ((c.tc : Thread Cert.OptProjAKernelIdeal.nD Cert.OptProjAKernelIdeal.τ).loc Cert.OptProjAKernelIdeal.main_arg4) = m ((c.tc : Thread Cert.OptProjAKernelIdeal.nD Cert.OptProjAKernelIdeal.τ).loc Cert.OptProjAKernelIdeal.main_arg4))
      ∧ r.2.sem = fun _ => 0)

def quiescent_OptProjAReferenceIdeal [hOptProjAReferenceIdeal : Cert.OptProjAReferenceIdeal.Facts] : Prop :=
  ∀ (m : (ℓ : Loc Cert.OptProjAReferenceIdeal.nD Cert.OptProjAReferenceIdeal.τ Cert.OptProjAReferenceIdeal.sig) → Buf (Elt Ideal) ℓ) (g : Dev Cert.OptProjAReferenceIdeal.nD → PrngReg), Pre_OptProjAReferenceIdeal m →
    θ_run (Cert.OptProjAReferenceIdeal.defs (F := Ideal)) (onTc (τ := Cert.OptProjAReferenceIdeal.τ) (Cert.OptProjAReferenceIdeal.main (F := Ideal))) ⟨m, fun _ => 0, g⟩ (fun r => (∀ c : Dev Cert.OptProjAReferenceIdeal.nD,
      r.2.mem ((c.tc : Thread Cert.OptProjAReferenceIdeal.nD Cert.OptProjAReferenceIdeal.τ).loc Cert.OptProjAReferenceIdeal.main_arg0) = m ((c.tc : Thread Cert.OptProjAReferenceIdeal.nD Cert.OptProjAReferenceIdeal.τ).loc Cert.OptProjAReferenceIdeal.main_arg0)
      ∧ r.2.mem ((c.tc : Thread Cert.OptProjAReferenceIdeal.nD Cert.OptProjAReferenceIdeal.τ).loc Cert.OptProjAReferenceIdeal.main_arg1) = m ((c.tc : Thread Cert.OptProjAReferenceIdeal.nD Cert.OptProjAReferenceIdeal.τ).loc Cert.OptProjAReferenceIdeal.main_arg1)
      ∧ r.2.mem ((c.tc : Thread Cert.OptProjAReferenceIdeal.nD Cert.OptProjAReferenceIdeal.τ).loc Cert.OptProjAReferenceIdeal.main_arg2) = m ((c.tc : Thread Cert.OptProjAReferenceIdeal.nD Cert.OptProjAReferenceIdeal.τ).loc Cert.OptProjAReferenceIdeal.main_arg2)
      ∧ r.2.mem ((c.tc : Thread Cert.OptProjAReferenceIdeal.nD Cert.OptProjAReferenceIdeal.τ).loc Cert.OptProjAReferenceIdeal.main_arg3) = m ((c.tc : Thread Cert.OptProjAReferenceIdeal.nD Cert.OptProjAReferenceIdeal.τ).loc Cert.OptProjAReferenceIdeal.main_arg3)
      ∧ r.2.mem ((c.tc : Thread Cert.OptProjAReferenceIdeal.nD Cert.OptProjAReferenceIdeal.τ).loc Cert.OptProjAReferenceIdeal.main_arg4) = m ((c.tc : Thread Cert.OptProjAReferenceIdeal.nD Cert.OptProjAReferenceIdeal.τ).loc Cert.OptProjAReferenceIdeal.main_arg4))
      ∧ r.2.sem = fun _ => 0)

def quiescent_OptProjBKernel [hOptProjBKernel : Cert.OptProjBKernel.Facts] : Prop :=
  ∀ (m : (ℓ : Loc Cert.OptProjBKernel.nD Cert.OptProjBKernel.τ Cert.OptProjBKernel.sig) → Buf (Elt Bits) ℓ) (g : Dev Cert.OptProjBKernel.nD → PrngReg), Pre_OptProjBKernel m →
    θ_run (Cert.OptProjBKernel.defs (F := Bits)) (onTc (τ := Cert.OptProjBKernel.τ) (Cert.OptProjBKernel.main (F := Bits))) ⟨m, fun _ => 0, g⟩ (fun r => (∀ c : Dev Cert.OptProjBKernel.nD,
      r.2.mem ((c.tc : Thread Cert.OptProjBKernel.nD Cert.OptProjBKernel.τ).loc Cert.OptProjBKernel.main_arg0) = m ((c.tc : Thread Cert.OptProjBKernel.nD Cert.OptProjBKernel.τ).loc Cert.OptProjBKernel.main_arg0)
      ∧ r.2.mem ((c.tc : Thread Cert.OptProjBKernel.nD Cert.OptProjBKernel.τ).loc Cert.OptProjBKernel.main_arg1) = m ((c.tc : Thread Cert.OptProjBKernel.nD Cert.OptProjBKernel.τ).loc Cert.OptProjBKernel.main_arg1)
      ∧ r.2.mem ((c.tc : Thread Cert.OptProjBKernel.nD Cert.OptProjBKernel.τ).loc Cert.OptProjBKernel.main_arg2) = m ((c.tc : Thread Cert.OptProjBKernel.nD Cert.OptProjBKernel.τ).loc Cert.OptProjBKernel.main_arg2)
      ∧ r.2.mem ((c.tc : Thread Cert.OptProjBKernel.nD Cert.OptProjBKernel.τ).loc Cert.OptProjBKernel.main_arg3) = m ((c.tc : Thread Cert.OptProjBKernel.nD Cert.OptProjBKernel.τ).loc Cert.OptProjBKernel.main_arg3)
      ∧ r.2.mem ((c.tc : Thread Cert.OptProjBKernel.nD Cert.OptProjBKernel.τ).loc Cert.OptProjBKernel.main_arg4) = m ((c.tc : Thread Cert.OptProjBKernel.nD Cert.OptProjBKernel.τ).loc Cert.OptProjBKernel.main_arg4))
      ∧ r.2.sem = fun _ => 0)

def quiescent_OptProjBKernelIdeal [hOptProjBKernelIdeal : Cert.OptProjBKernelIdeal.Facts] : Prop :=
  ∀ (m : (ℓ : Loc Cert.OptProjBKernelIdeal.nD Cert.OptProjBKernelIdeal.τ Cert.OptProjBKernelIdeal.sig) → Buf (Elt Ideal) ℓ) (g : Dev Cert.OptProjBKernelIdeal.nD → PrngReg), Pre_OptProjBKernelIdeal m →
    θ_run (Cert.OptProjBKernelIdeal.defs (F := Ideal)) (onTc (τ := Cert.OptProjBKernelIdeal.τ) (Cert.OptProjBKernelIdeal.main (F := Ideal))) ⟨m, fun _ => 0, g⟩ (fun r => (∀ c : Dev Cert.OptProjBKernelIdeal.nD,
      r.2.mem ((c.tc : Thread Cert.OptProjBKernelIdeal.nD Cert.OptProjBKernelIdeal.τ).loc Cert.OptProjBKernelIdeal.main_arg0) = m ((c.tc : Thread Cert.OptProjBKernelIdeal.nD Cert.OptProjBKernelIdeal.τ).loc Cert.OptProjBKernelIdeal.main_arg0)
      ∧ r.2.mem ((c.tc : Thread Cert.OptProjBKernelIdeal.nD Cert.OptProjBKernelIdeal.τ).loc Cert.OptProjBKernelIdeal.main_arg1) = m ((c.tc : Thread Cert.OptProjBKernelIdeal.nD Cert.OptProjBKernelIdeal.τ).loc Cert.OptProjBKernelIdeal.main_arg1)
      ∧ r.2.mem ((c.tc : Thread Cert.OptProjBKernelIdeal.nD Cert.OptProjBKernelIdeal.τ).loc Cert.OptProjBKernelIdeal.main_arg2) = m ((c.tc : Thread Cert.OptProjBKernelIdeal.nD Cert.OptProjBKernelIdeal.τ).loc Cert.OptProjBKernelIdeal.main_arg2)
      ∧ r.2.mem ((c.tc : Thread Cert.OptProjBKernelIdeal.nD Cert.OptProjBKernelIdeal.τ).loc Cert.OptProjBKernelIdeal.main_arg3) = m ((c.tc : Thread Cert.OptProjBKernelIdeal.nD Cert.OptProjBKernelIdeal.τ).loc Cert.OptProjBKernelIdeal.main_arg3)
      ∧ r.2.mem ((c.tc : Thread Cert.OptProjBKernelIdeal.nD Cert.OptProjBKernelIdeal.τ).loc Cert.OptProjBKernelIdeal.main_arg4) = m ((c.tc : Thread Cert.OptProjBKernelIdeal.nD Cert.OptProjBKernelIdeal.τ).loc Cert.OptProjBKernelIdeal.main_arg4))
      ∧ r.2.sem = fun _ => 0)

def quiescent_OptProjBReferenceIdeal [hOptProjBReferenceIdeal : Cert.OptProjBReferenceIdeal.Facts] : Prop :=
  ∀ (m : (ℓ : Loc Cert.OptProjBReferenceIdeal.nD Cert.OptProjBReferenceIdeal.τ Cert.OptProjBReferenceIdeal.sig) → Buf (Elt Ideal) ℓ) (g : Dev Cert.OptProjBReferenceIdeal.nD → PrngReg), Pre_OptProjBReferenceIdeal m →
    θ_run (Cert.OptProjBReferenceIdeal.defs (F := Ideal)) (onTc (τ := Cert.OptProjBReferenceIdeal.τ) (Cert.OptProjBReferenceIdeal.main (F := Ideal))) ⟨m, fun _ => 0, g⟩ (fun r => (∀ c : Dev Cert.OptProjBReferenceIdeal.nD,
      r.2.mem ((c.tc : Thread Cert.OptProjBReferenceIdeal.nD Cert.OptProjBReferenceIdeal.τ).loc Cert.OptProjBReferenceIdeal.main_arg0) = m ((c.tc : Thread Cert.OptProjBReferenceIdeal.nD Cert.OptProjBReferenceIdeal.τ).loc Cert.OptProjBReferenceIdeal.main_arg0)
      ∧ r.2.mem ((c.tc : Thread Cert.OptProjBReferenceIdeal.nD Cert.OptProjBReferenceIdeal.τ).loc Cert.OptProjBReferenceIdeal.main_arg1) = m ((c.tc : Thread Cert.OptProjBReferenceIdeal.nD Cert.OptProjBReferenceIdeal.τ).loc Cert.OptProjBReferenceIdeal.main_arg1)
      ∧ r.2.mem ((c.tc : Thread Cert.OptProjBReferenceIdeal.nD Cert.OptProjBReferenceIdeal.τ).loc Cert.OptProjBReferenceIdeal.main_arg2) = m ((c.tc : Thread Cert.OptProjBReferenceIdeal.nD Cert.OptProjBReferenceIdeal.τ).loc Cert.OptProjBReferenceIdeal.main_arg2)
      ∧ r.2.mem ((c.tc : Thread Cert.OptProjBReferenceIdeal.nD Cert.OptProjBReferenceIdeal.τ).loc Cert.OptProjBReferenceIdeal.main_arg3) = m ((c.tc : Thread Cert.OptProjBReferenceIdeal.nD Cert.OptProjBReferenceIdeal.τ).loc Cert.OptProjBReferenceIdeal.main_arg3)
      ∧ r.2.mem ((c.tc : Thread Cert.OptProjBReferenceIdeal.nD Cert.OptProjBReferenceIdeal.τ).loc Cert.OptProjBReferenceIdeal.main_arg4) = m ((c.tc : Thread Cert.OptProjBReferenceIdeal.nD Cert.OptProjBReferenceIdeal.τ).loc Cert.OptProjBReferenceIdeal.main_arg4))
      ∧ r.2.sem = fun _ => 0)

def quiescent_OptProjCKernel [hOptProjCKernel : Cert.OptProjCKernel.Facts] : Prop :=
  ∀ (m : (ℓ : Loc Cert.OptProjCKernel.nD Cert.OptProjCKernel.τ Cert.OptProjCKernel.sig) → Buf (Elt Bits) ℓ) (g : Dev Cert.OptProjCKernel.nD → PrngReg), Pre_OptProjCKernel m →
    θ_run (Cert.OptProjCKernel.defs (F := Bits)) (onTc (τ := Cert.OptProjCKernel.τ) (Cert.OptProjCKernel.main (F := Bits))) ⟨m, fun _ => 0, g⟩ (fun r => (∀ c : Dev Cert.OptProjCKernel.nD,
      r.2.mem ((c.tc : Thread Cert.OptProjCKernel.nD Cert.OptProjCKernel.τ).loc Cert.OptProjCKernel.main_arg0) = m ((c.tc : Thread Cert.OptProjCKernel.nD Cert.OptProjCKernel.τ).loc Cert.OptProjCKernel.main_arg0)
      ∧ r.2.mem ((c.tc : Thread Cert.OptProjCKernel.nD Cert.OptProjCKernel.τ).loc Cert.OptProjCKernel.main_arg1) = m ((c.tc : Thread Cert.OptProjCKernel.nD Cert.OptProjCKernel.τ).loc Cert.OptProjCKernel.main_arg1)
      ∧ r.2.mem ((c.tc : Thread Cert.OptProjCKernel.nD Cert.OptProjCKernel.τ).loc Cert.OptProjCKernel.main_arg2) = m ((c.tc : Thread Cert.OptProjCKernel.nD Cert.OptProjCKernel.τ).loc Cert.OptProjCKernel.main_arg2)
      ∧ r.2.mem ((c.tc : Thread Cert.OptProjCKernel.nD Cert.OptProjCKernel.τ).loc Cert.OptProjCKernel.main_arg3) = m ((c.tc : Thread Cert.OptProjCKernel.nD Cert.OptProjCKernel.τ).loc Cert.OptProjCKernel.main_arg3)
      ∧ r.2.mem ((c.tc : Thread Cert.OptProjCKernel.nD Cert.OptProjCKernel.τ).loc Cert.OptProjCKernel.main_arg4) = m ((c.tc : Thread Cert.OptProjCKernel.nD Cert.OptProjCKernel.τ).loc Cert.OptProjCKernel.main_arg4))
      ∧ r.2.sem = fun _ => 0)

def quiescent_OptProjCKernelIdeal [hOptProjCKernelIdeal : Cert.OptProjCKernelIdeal.Facts] : Prop :=
  ∀ (m : (ℓ : Loc Cert.OptProjCKernelIdeal.nD Cert.OptProjCKernelIdeal.τ Cert.OptProjCKernelIdeal.sig) → Buf (Elt Ideal) ℓ) (g : Dev Cert.OptProjCKernelIdeal.nD → PrngReg), Pre_OptProjCKernelIdeal m →
    θ_run (Cert.OptProjCKernelIdeal.defs (F := Ideal)) (onTc (τ := Cert.OptProjCKernelIdeal.τ) (Cert.OptProjCKernelIdeal.main (F := Ideal))) ⟨m, fun _ => 0, g⟩ (fun r => (∀ c : Dev Cert.OptProjCKernelIdeal.nD,
      r.2.mem ((c.tc : Thread Cert.OptProjCKernelIdeal.nD Cert.OptProjCKernelIdeal.τ).loc Cert.OptProjCKernelIdeal.main_arg0) = m ((c.tc : Thread Cert.OptProjCKernelIdeal.nD Cert.OptProjCKernelIdeal.τ).loc Cert.OptProjCKernelIdeal.main_arg0)
      ∧ r.2.mem ((c.tc : Thread Cert.OptProjCKernelIdeal.nD Cert.OptProjCKernelIdeal.τ).loc Cert.OptProjCKernelIdeal.main_arg1) = m ((c.tc : Thread Cert.OptProjCKernelIdeal.nD Cert.OptProjCKernelIdeal.τ).loc Cert.OptProjCKernelIdeal.main_arg1)
      ∧ r.2.mem ((c.tc : Thread Cert.OptProjCKernelIdeal.nD Cert.OptProjCKernelIdeal.τ).loc Cert.OptProjCKernelIdeal.main_arg2) = m ((c.tc : Thread Cert.OptProjCKernelIdeal.nD Cert.OptProjCKernelIdeal.τ).loc Cert.OptProjCKernelIdeal.main_arg2)
      ∧ r.2.mem ((c.tc : Thread Cert.OptProjCKernelIdeal.nD Cert.OptProjCKernelIdeal.τ).loc Cert.OptProjCKernelIdeal.main_arg3) = m ((c.tc : Thread Cert.OptProjCKernelIdeal.nD Cert.OptProjCKernelIdeal.τ).loc Cert.OptProjCKernelIdeal.main_arg3)
      ∧ r.2.mem ((c.tc : Thread Cert.OptProjCKernelIdeal.nD Cert.OptProjCKernelIdeal.τ).loc Cert.OptProjCKernelIdeal.main_arg4) = m ((c.tc : Thread Cert.OptProjCKernelIdeal.nD Cert.OptProjCKernelIdeal.τ).loc Cert.OptProjCKernelIdeal.main_arg4))
      ∧ r.2.sem = fun _ => 0)

def quiescent_OptProjCReferenceIdeal [hOptProjCReferenceIdeal : Cert.OptProjCReferenceIdeal.Facts] : Prop :=
  ∀ (m : (ℓ : Loc Cert.OptProjCReferenceIdeal.nD Cert.OptProjCReferenceIdeal.τ Cert.OptProjCReferenceIdeal.sig) → Buf (Elt Ideal) ℓ) (g : Dev Cert.OptProjCReferenceIdeal.nD → PrngReg), Pre_OptProjCReferenceIdeal m →
    θ_run (Cert.OptProjCReferenceIdeal.defs (F := Ideal)) (onTc (τ := Cert.OptProjCReferenceIdeal.τ) (Cert.OptProjCReferenceIdeal.main (F := Ideal))) ⟨m, fun _ => 0, g⟩ (fun r => (∀ c : Dev Cert.OptProjCReferenceIdeal.nD,
      r.2.mem ((c.tc : Thread Cert.OptProjCReferenceIdeal.nD Cert.OptProjCReferenceIdeal.τ).loc Cert.OptProjCReferenceIdeal.main_arg0) = m ((c.tc : Thread Cert.OptProjCReferenceIdeal.nD Cert.OptProjCReferenceIdeal.τ).loc Cert.OptProjCReferenceIdeal.main_arg0)
      ∧ r.2.mem ((c.tc : Thread Cert.OptProjCReferenceIdeal.nD Cert.OptProjCReferenceIdeal.τ).loc Cert.OptProjCReferenceIdeal.main_arg1) = m ((c.tc : Thread Cert.OptProjCReferenceIdeal.nD Cert.OptProjCReferenceIdeal.τ).loc Cert.OptProjCReferenceIdeal.main_arg1)
      ∧ r.2.mem ((c.tc : Thread Cert.OptProjCReferenceIdeal.nD Cert.OptProjCReferenceIdeal.τ).loc Cert.OptProjCReferenceIdeal.main_arg2) = m ((c.tc : Thread Cert.OptProjCReferenceIdeal.nD Cert.OptProjCReferenceIdeal.τ).loc Cert.OptProjCReferenceIdeal.main_arg2)
      ∧ r.2.mem ((c.tc : Thread Cert.OptProjCReferenceIdeal.nD Cert.OptProjCReferenceIdeal.τ).loc Cert.OptProjCReferenceIdeal.main_arg3) = m ((c.tc : Thread Cert.OptProjCReferenceIdeal.nD Cert.OptProjCReferenceIdeal.τ).loc Cert.OptProjCReferenceIdeal.main_arg3)
      ∧ r.2.mem ((c.tc : Thread Cert.OptProjCReferenceIdeal.nD Cert.OptProjCReferenceIdeal.τ).loc Cert.OptProjCReferenceIdeal.main_arg4) = m ((c.tc : Thread Cert.OptProjCReferenceIdeal.nD Cert.OptProjCReferenceIdeal.τ).loc Cert.OptProjCReferenceIdeal.main_arg4))
      ∧ r.2.sem = fun _ => 0)

def quiescent_OptNormKernel [hOptNormKernel : Cert.OptNormKernel.Facts] : Prop :=
  ∀ (m : (ℓ : Loc Cert.OptNormKernel.nD Cert.OptNormKernel.τ Cert.OptNormKernel.sig) → Buf (Elt Bits) ℓ) (g : Dev Cert.OptNormKernel.nD → PrngReg), Pre_OptNormKernel m →
    θ_run (Cert.OptNormKernel.defs (F := Bits)) (onTc (τ := Cert.OptNormKernel.τ) (Cert.OptNormKernel.main (F := Bits))) ⟨m, fun _ => 0, g⟩ (fun r => (∀ c : Dev Cert.OptNormKernel.nD,
      r.2.mem ((c.tc : Thread Cert.OptNormKernel.nD Cert.OptNormKernel.τ).loc Cert.OptNormKernel.main_arg0) = m ((c.tc : Thread Cert.OptNormKernel.nD Cert.OptNormKernel.τ).loc Cert.OptNormKernel.main_arg0)
      ∧ r.2.mem ((c.tc : Thread Cert.OptNormKernel.nD Cert.OptNormKernel.τ).loc Cert.OptNormKernel.main_arg1) = m ((c.tc : Thread Cert.OptNormKernel.nD Cert.OptNormKernel.τ).loc Cert.OptNormKernel.main_arg1)
      ∧ r.2.mem ((c.tc : Thread Cert.OptNormKernel.nD Cert.OptNormKernel.τ).loc Cert.OptNormKernel.main_arg2) = m ((c.tc : Thread Cert.OptNormKernel.nD Cert.OptNormKernel.τ).loc Cert.OptNormKernel.main_arg2)
      ∧ r.2.mem ((c.tc : Thread Cert.OptNormKernel.nD Cert.OptNormKernel.τ).loc Cert.OptNormKernel.main_arg3) = m ((c.tc : Thread Cert.OptNormKernel.nD Cert.OptNormKernel.τ).loc Cert.OptNormKernel.main_arg3))
      ∧ r.2.sem = fun _ => 0)

def quiescent_OptNormKernelIdeal [hOptNormKernelIdeal : Cert.OptNormKernelIdeal.Facts] : Prop :=
  ∀ (m : (ℓ : Loc Cert.OptNormKernelIdeal.nD Cert.OptNormKernelIdeal.τ Cert.OptNormKernelIdeal.sig) → Buf (Elt Ideal) ℓ) (g : Dev Cert.OptNormKernelIdeal.nD → PrngReg), Pre_OptNormKernelIdeal m →
    θ_run (Cert.OptNormKernelIdeal.defs (F := Ideal)) (onTc (τ := Cert.OptNormKernelIdeal.τ) (Cert.OptNormKernelIdeal.main (F := Ideal))) ⟨m, fun _ => 0, g⟩ (fun r => (∀ c : Dev Cert.OptNormKernelIdeal.nD,
      r.2.mem ((c.tc : Thread Cert.OptNormKernelIdeal.nD Cert.OptNormKernelIdeal.τ).loc Cert.OptNormKernelIdeal.main_arg0) = m ((c.tc : Thread Cert.OptNormKernelIdeal.nD Cert.OptNormKernelIdeal.τ).loc Cert.OptNormKernelIdeal.main_arg0)
      ∧ r.2.mem ((c.tc : Thread Cert.OptNormKernelIdeal.nD Cert.OptNormKernelIdeal.τ).loc Cert.OptNormKernelIdeal.main_arg1) = m ((c.tc : Thread Cert.OptNormKernelIdeal.nD Cert.OptNormKernelIdeal.τ).loc Cert.OptNormKernelIdeal.main_arg1)
      ∧ r.2.mem ((c.tc : Thread Cert.OptNormKernelIdeal.nD Cert.OptNormKernelIdeal.τ).loc Cert.OptNormKernelIdeal.main_arg2) = m ((c.tc : Thread Cert.OptNormKernelIdeal.nD Cert.OptNormKernelIdeal.τ).loc Cert.OptNormKernelIdeal.main_arg2)
      ∧ r.2.mem ((c.tc : Thread Cert.OptNormKernelIdeal.nD Cert.OptNormKernelIdeal.τ).loc Cert.OptNormKernelIdeal.main_arg3) = m ((c.tc : Thread Cert.OptNormKernelIdeal.nD Cert.OptNormKernelIdeal.τ).loc Cert.OptNormKernelIdeal.main_arg3))
      ∧ r.2.sem = fun _ => 0)

def quiescent_OptNormReferenceIdeal [hOptNormReferenceIdeal : Cert.OptNormReferenceIdeal.Facts] : Prop :=
  ∀ (m : (ℓ : Loc Cert.OptNormReferenceIdeal.nD Cert.OptNormReferenceIdeal.τ Cert.OptNormReferenceIdeal.sig) → Buf (Elt Ideal) ℓ) (g : Dev Cert.OptNormReferenceIdeal.nD → PrngReg), Pre_OptNormReferenceIdeal m →
    θ_run (Cert.OptNormReferenceIdeal.defs (F := Ideal)) (onTc (τ := Cert.OptNormReferenceIdeal.τ) (Cert.OptNormReferenceIdeal.main (F := Ideal))) ⟨m, fun _ => 0, g⟩ (fun r => (∀ c : Dev Cert.OptNormReferenceIdeal.nD,
      r.2.mem ((c.tc : Thread Cert.OptNormReferenceIdeal.nD Cert.OptNormReferenceIdeal.τ).loc Cert.OptNormReferenceIdeal.main_arg0) = m ((c.tc : Thread Cert.OptNormReferenceIdeal.nD Cert.OptNormReferenceIdeal.τ).loc Cert.OptNormReferenceIdeal.main_arg0)
      ∧ r.2.mem ((c.tc : Thread Cert.OptNormReferenceIdeal.nD Cert.OptNormReferenceIdeal.τ).loc Cert.OptNormReferenceIdeal.main_arg1) = m ((c.tc : Thread Cert.OptNormReferenceIdeal.nD Cert.OptNormReferenceIdeal.τ).loc Cert.OptNormReferenceIdeal.main_arg1)
      ∧ r.2.mem ((c.tc : Thread Cert.OptNormReferenceIdeal.nD Cert.OptNormReferenceIdeal.τ).loc Cert.OptNormReferenceIdeal.main_arg2) = m ((c.tc : Thread Cert.OptNormReferenceIdeal.nD Cert.OptNormReferenceIdeal.τ).loc Cert.OptNormReferenceIdeal.main_arg2)
      ∧ r.2.mem ((c.tc : Thread Cert.OptNormReferenceIdeal.nD Cert.OptNormReferenceIdeal.τ).loc Cert.OptNormReferenceIdeal.main_arg3) = m ((c.tc : Thread Cert.OptNormReferenceIdeal.nD Cert.OptNormReferenceIdeal.τ).loc Cert.OptNormReferenceIdeal.main_arg3))
      ∧ r.2.sem = fun _ => 0)

def quiescent_OptAKernel [hOptAKernel : Cert.OptAKernel.Facts] : Prop :=
  ∀ (m : (ℓ : Loc Cert.OptAKernel.nD Cert.OptAKernel.τ Cert.OptAKernel.sig) → Buf (Elt Bits) ℓ) (g : Dev Cert.OptAKernel.nD → PrngReg), Pre_OptAKernel m →
    θ_run (Cert.OptAKernel.defs (F := Bits)) (onTc (τ := Cert.OptAKernel.τ) (Cert.OptAKernel.main (F := Bits))) ⟨m, fun _ => 0, g⟩ (fun r => (∀ c : Dev Cert.OptAKernel.nD,
      r.2.mem ((c.tc : Thread Cert.OptAKernel.nD Cert.OptAKernel.τ).loc Cert.OptAKernel.main_arg0) = m ((c.tc : Thread Cert.OptAKernel.nD Cert.OptAKernel.τ).loc Cert.OptAKernel.main_arg0)
      ∧ r.2.mem ((c.tc : Thread Cert.OptAKernel.nD Cert.OptAKernel.τ).loc Cert.OptAKernel.main_arg1) = m ((c.tc : Thread Cert.OptAKernel.nD Cert.OptAKernel.τ).loc Cert.OptAKernel.main_arg1)
      ∧ r.2.mem ((c.tc : Thread Cert.OptAKernel.nD Cert.OptAKernel.τ).loc Cert.OptAKernel.main_arg2) = m ((c.tc : Thread Cert.OptAKernel.nD Cert.OptAKernel.τ).loc Cert.OptAKernel.main_arg2)
      ∧ r.2.mem ((c.tc : Thread Cert.OptAKernel.nD Cert.OptAKernel.τ).loc Cert.OptAKernel.main_arg3) = m ((c.tc : Thread Cert.OptAKernel.nD Cert.OptAKernel.τ).loc Cert.OptAKernel.main_arg3))
      ∧ r.2.sem = fun _ => 0)

def quiescent_OptAKernelIdeal [hOptAKernelIdeal : Cert.OptAKernelIdeal.Facts] : Prop :=
  ∀ (m : (ℓ : Loc Cert.OptAKernelIdeal.nD Cert.OptAKernelIdeal.τ Cert.OptAKernelIdeal.sig) → Buf (Elt Ideal) ℓ) (g : Dev Cert.OptAKernelIdeal.nD → PrngReg), Pre_OptAKernelIdeal m →
    θ_run (Cert.OptAKernelIdeal.defs (F := Ideal)) (onTc (τ := Cert.OptAKernelIdeal.τ) (Cert.OptAKernelIdeal.main (F := Ideal))) ⟨m, fun _ => 0, g⟩ (fun r => (∀ c : Dev Cert.OptAKernelIdeal.nD,
      r.2.mem ((c.tc : Thread Cert.OptAKernelIdeal.nD Cert.OptAKernelIdeal.τ).loc Cert.OptAKernelIdeal.main_arg0) = m ((c.tc : Thread Cert.OptAKernelIdeal.nD Cert.OptAKernelIdeal.τ).loc Cert.OptAKernelIdeal.main_arg0)
      ∧ r.2.mem ((c.tc : Thread Cert.OptAKernelIdeal.nD Cert.OptAKernelIdeal.τ).loc Cert.OptAKernelIdeal.main_arg1) = m ((c.tc : Thread Cert.OptAKernelIdeal.nD Cert.OptAKernelIdeal.τ).loc Cert.OptAKernelIdeal.main_arg1)
      ∧ r.2.mem ((c.tc : Thread Cert.OptAKernelIdeal.nD Cert.OptAKernelIdeal.τ).loc Cert.OptAKernelIdeal.main_arg2) = m ((c.tc : Thread Cert.OptAKernelIdeal.nD Cert.OptAKernelIdeal.τ).loc Cert.OptAKernelIdeal.main_arg2)
      ∧ r.2.mem ((c.tc : Thread Cert.OptAKernelIdeal.nD Cert.OptAKernelIdeal.τ).loc Cert.OptAKernelIdeal.main_arg3) = m ((c.tc : Thread Cert.OptAKernelIdeal.nD Cert.OptAKernelIdeal.τ).loc Cert.OptAKernelIdeal.main_arg3))
      ∧ r.2.sem = fun _ => 0)

def quiescent_OptAReferenceIdeal [hOptAReferenceIdeal : Cert.OptAReferenceIdeal.Facts] : Prop :=
  ∀ (m : (ℓ : Loc Cert.OptAReferenceIdeal.nD Cert.OptAReferenceIdeal.τ Cert.OptAReferenceIdeal.sig) → Buf (Elt Ideal) ℓ) (g : Dev Cert.OptAReferenceIdeal.nD → PrngReg), Pre_OptAReferenceIdeal m →
    θ_run (Cert.OptAReferenceIdeal.defs (F := Ideal)) (onTc (τ := Cert.OptAReferenceIdeal.τ) (Cert.OptAReferenceIdeal.main (F := Ideal))) ⟨m, fun _ => 0, g⟩ (fun r => (∀ c : Dev Cert.OptAReferenceIdeal.nD,
      r.2.mem ((c.tc : Thread Cert.OptAReferenceIdeal.nD Cert.OptAReferenceIdeal.τ).loc Cert.OptAReferenceIdeal.main_arg0) = m ((c.tc : Thread Cert.OptAReferenceIdeal.nD Cert.OptAReferenceIdeal.τ).loc Cert.OptAReferenceIdeal.main_arg0)
      ∧ r.2.mem ((c.tc : Thread Cert.OptAReferenceIdeal.nD Cert.OptAReferenceIdeal.τ).loc Cert.OptAReferenceIdeal.main_arg1) = m ((c.tc : Thread Cert.OptAReferenceIdeal.nD Cert.OptAReferenceIdeal.τ).loc Cert.OptAReferenceIdeal.main_arg1)
      ∧ r.2.mem ((c.tc : Thread Cert.OptAReferenceIdeal.nD Cert.OptAReferenceIdeal.τ).loc Cert.OptAReferenceIdeal.main_arg2) = m ((c.tc : Thread Cert.OptAReferenceIdeal.nD Cert.OptAReferenceIdeal.τ).loc Cert.OptAReferenceIdeal.main_arg2)
      ∧ r.2.mem ((c.tc : Thread Cert.OptAReferenceIdeal.nD Cert.OptAReferenceIdeal.τ).loc Cert.OptAReferenceIdeal.main_arg3) = m ((c.tc : Thread Cert.OptAReferenceIdeal.nD Cert.OptAReferenceIdeal.τ).loc Cert.OptAReferenceIdeal.main_arg3))
      ∧ r.2.sem = fun _ => 0)

def quiescent_OptStepKernel [hOptStepKernel : Cert.OptStepKernel.Facts] : Prop :=
  ∀ (m : (ℓ : Loc Cert.OptStepKernel.nD Cert.OptStepKernel.τ Cert.OptStepKernel.sig) → Buf (Elt Bits) ℓ) (g : Dev Cert.OptStepKernel.nD → PrngReg), Pre_OptStepKernel m →
    θ_run (Cert.OptStepKernel.defs (F := Bits)) (onTc (τ := Cert.OptStepKernel.τ) (Cert.OptStepKernel.main (F := Bits))) ⟨m, fun _ => 0, g⟩ (fun r => (∀ c : Dev Cert.OptStepKernel.nD,
      r.2.mem ((c.tc : Thread Cert.OptStepKernel.nD Cert.OptStepKernel.τ).loc Cert.OptStepKernel.main_arg0) = m ((c.tc : Thread Cert.OptStepKernel.nD Cert.OptStepKernel.τ).loc Cert.OptStepKernel.main_arg0)
      ∧ r.2.mem ((c.tc : Thread Cert.OptStepKernel.nD Cert.OptStepKernel.τ).loc Cert.OptStepKernel.main_arg1) = m ((c.tc : Thread Cert.OptStepKernel.nD Cert.OptStepKernel.τ).loc Cert.OptStepKernel.main_arg1)
      ∧ r.2.mem ((c.tc : Thread Cert.OptStepKernel.nD Cert.OptStepKernel.τ).loc Cert.OptStepKernel.main_arg2) = m ((c.tc : Thread Cert.OptStepKernel.nD Cert.OptStepKernel.τ).loc Cert.OptStepKernel.main_arg2)
      ∧ r.2.mem ((c.tc : Thread Cert.OptStepKernel.nD Cert.OptStepKernel.τ).loc Cert.OptStepKernel.main_arg3) = m ((c.tc : Thread Cert.OptStepKernel.nD Cert.OptStepKernel.τ).loc Cert.OptStepKernel.main_arg3))
      ∧ r.2.sem = fun _ => 0)

def quiescent_OptStepKernelIdeal [hOptStepKernelIdeal : Cert.OptStepKernelIdeal.Facts] : Prop :=
  ∀ (m : (ℓ : Loc Cert.OptStepKernelIdeal.nD Cert.OptStepKernelIdeal.τ Cert.OptStepKernelIdeal.sig) → Buf (Elt Ideal) ℓ) (g : Dev Cert.OptStepKernelIdeal.nD → PrngReg), Pre_OptStepKernelIdeal m →
    θ_run (Cert.OptStepKernelIdeal.defs (F := Ideal)) (onTc (τ := Cert.OptStepKernelIdeal.τ) (Cert.OptStepKernelIdeal.main (F := Ideal))) ⟨m, fun _ => 0, g⟩ (fun r => (∀ c : Dev Cert.OptStepKernelIdeal.nD,
      r.2.mem ((c.tc : Thread Cert.OptStepKernelIdeal.nD Cert.OptStepKernelIdeal.τ).loc Cert.OptStepKernelIdeal.main_arg0) = m ((c.tc : Thread Cert.OptStepKernelIdeal.nD Cert.OptStepKernelIdeal.τ).loc Cert.OptStepKernelIdeal.main_arg0)
      ∧ r.2.mem ((c.tc : Thread Cert.OptStepKernelIdeal.nD Cert.OptStepKernelIdeal.τ).loc Cert.OptStepKernelIdeal.main_arg1) = m ((c.tc : Thread Cert.OptStepKernelIdeal.nD Cert.OptStepKernelIdeal.τ).loc Cert.OptStepKernelIdeal.main_arg1)
      ∧ r.2.mem ((c.tc : Thread Cert.OptStepKernelIdeal.nD Cert.OptStepKernelIdeal.τ).loc Cert.OptStepKernelIdeal.main_arg2) = m ((c.tc : Thread Cert.OptStepKernelIdeal.nD Cert.OptStepKernelIdeal.τ).loc Cert.OptStepKernelIdeal.main_arg2)
      ∧ r.2.mem ((c.tc : Thread Cert.OptStepKernelIdeal.nD Cert.OptStepKernelIdeal.τ).loc Cert.OptStepKernelIdeal.main_arg3) = m ((c.tc : Thread Cert.OptStepKernelIdeal.nD Cert.OptStepKernelIdeal.τ).loc Cert.OptStepKernelIdeal.main_arg3))
      ∧ r.2.sem = fun _ => 0)

def quiescent_OptStepReferenceIdeal [hOptStepReferenceIdeal : Cert.OptStepReferenceIdeal.Facts] : Prop :=
  ∀ (m : (ℓ : Loc Cert.OptStepReferenceIdeal.nD Cert.OptStepReferenceIdeal.τ Cert.OptStepReferenceIdeal.sig) → Buf (Elt Ideal) ℓ) (g : Dev Cert.OptStepReferenceIdeal.nD → PrngReg), Pre_OptStepReferenceIdeal m →
    θ_run (Cert.OptStepReferenceIdeal.defs (F := Ideal)) (onTc (τ := Cert.OptStepReferenceIdeal.τ) (Cert.OptStepReferenceIdeal.main (F := Ideal))) ⟨m, fun _ => 0, g⟩ (fun r => (∀ c : Dev Cert.OptStepReferenceIdeal.nD,
      r.2.mem ((c.tc : Thread Cert.OptStepReferenceIdeal.nD Cert.OptStepReferenceIdeal.τ).loc Cert.OptStepReferenceIdeal.main_arg0) = m ((c.tc : Thread Cert.OptStepReferenceIdeal.nD Cert.OptStepReferenceIdeal.τ).loc Cert.OptStepReferenceIdeal.main_arg0)
      ∧ r.2.mem ((c.tc : Thread Cert.OptStepReferenceIdeal.nD Cert.OptStepReferenceIdeal.τ).loc Cert.OptStepReferenceIdeal.main_arg1) = m ((c.tc : Thread Cert.OptStepReferenceIdeal.nD Cert.OptStepReferenceIdeal.τ).loc Cert.OptStepReferenceIdeal.main_arg1)
      ∧ r.2.mem ((c.tc : Thread Cert.OptStepReferenceIdeal.nD Cert.OptStepReferenceIdeal.τ).loc Cert.OptStepReferenceIdeal.main_arg2) = m ((c.tc : Thread Cert.OptStepReferenceIdeal.nD Cert.OptStepReferenceIdeal.τ).loc Cert.OptStepReferenceIdeal.main_arg2)
      ∧ r.2.mem ((c.tc : Thread Cert.OptStepReferenceIdeal.nD Cert.OptStepReferenceIdeal.τ).loc Cert.OptStepReferenceIdeal.main_arg3) = m ((c.tc : Thread Cert.OptStepReferenceIdeal.nD Cert.OptStepReferenceIdeal.τ).loc Cert.OptStepReferenceIdeal.main_arg3))
      ∧ r.2.sem = fun _ => 0)

def quiescent_OptBKernel [hOptBKernel : Cert.OptBKernel.Facts] : Prop :=
  ∀ (m : (ℓ : Loc Cert.OptBKernel.nD Cert.OptBKernel.τ Cert.OptBKernel.sig) → Buf (Elt Bits) ℓ) (g : Dev Cert.OptBKernel.nD → PrngReg), Pre_OptBKernel m →
    θ_run (Cert.OptBKernel.defs (F := Bits)) (onTc (τ := Cert.OptBKernel.τ) (Cert.OptBKernel.main (F := Bits))) ⟨m, fun _ => 0, g⟩ (fun r => (∀ c : Dev Cert.OptBKernel.nD,
      r.2.mem ((c.tc : Thread Cert.OptBKernel.nD Cert.OptBKernel.τ).loc Cert.OptBKernel.main_arg0) = m ((c.tc : Thread Cert.OptBKernel.nD Cert.OptBKernel.τ).loc Cert.OptBKernel.main_arg0)
      ∧ r.2.mem ((c.tc : Thread Cert.OptBKernel.nD Cert.OptBKernel.τ).loc Cert.OptBKernel.main_arg1) = m ((c.tc : Thread Cert.OptBKernel.nD Cert.OptBKernel.τ).loc Cert.OptBKernel.main_arg1)
      ∧ r.2.mem ((c.tc : Thread Cert.OptBKernel.nD Cert.OptBKernel.τ).loc Cert.OptBKernel.main_arg2) = m ((c.tc : Thread Cert.OptBKernel.nD Cert.OptBKernel.τ).loc Cert.OptBKernel.main_arg2)
      ∧ r.2.mem ((c.tc : Thread Cert.OptBKernel.nD Cert.OptBKernel.τ).loc Cert.OptBKernel.main_arg3) = m ((c.tc : Thread Cert.OptBKernel.nD Cert.OptBKernel.τ).loc Cert.OptBKernel.main_arg3))
      ∧ r.2.sem = fun _ => 0)

def quiescent_OptBKernelIdeal [hOptBKernelIdeal : Cert.OptBKernelIdeal.Facts] : Prop :=
  ∀ (m : (ℓ : Loc Cert.OptBKernelIdeal.nD Cert.OptBKernelIdeal.τ Cert.OptBKernelIdeal.sig) → Buf (Elt Ideal) ℓ) (g : Dev Cert.OptBKernelIdeal.nD → PrngReg), Pre_OptBKernelIdeal m →
    θ_run (Cert.OptBKernelIdeal.defs (F := Ideal)) (onTc (τ := Cert.OptBKernelIdeal.τ) (Cert.OptBKernelIdeal.main (F := Ideal))) ⟨m, fun _ => 0, g⟩ (fun r => (∀ c : Dev Cert.OptBKernelIdeal.nD,
      r.2.mem ((c.tc : Thread Cert.OptBKernelIdeal.nD Cert.OptBKernelIdeal.τ).loc Cert.OptBKernelIdeal.main_arg0) = m ((c.tc : Thread Cert.OptBKernelIdeal.nD Cert.OptBKernelIdeal.τ).loc Cert.OptBKernelIdeal.main_arg0)
      ∧ r.2.mem ((c.tc : Thread Cert.OptBKernelIdeal.nD Cert.OptBKernelIdeal.τ).loc Cert.OptBKernelIdeal.main_arg1) = m ((c.tc : Thread Cert.OptBKernelIdeal.nD Cert.OptBKernelIdeal.τ).loc Cert.OptBKernelIdeal.main_arg1)
      ∧ r.2.mem ((c.tc : Thread Cert.OptBKernelIdeal.nD Cert.OptBKernelIdeal.τ).loc Cert.OptBKernelIdeal.main_arg2) = m ((c.tc : Thread Cert.OptBKernelIdeal.nD Cert.OptBKernelIdeal.τ).loc Cert.OptBKernelIdeal.main_arg2)
      ∧ r.2.mem ((c.tc : Thread Cert.OptBKernelIdeal.nD Cert.OptBKernelIdeal.τ).loc Cert.OptBKernelIdeal.main_arg3) = m ((c.tc : Thread Cert.OptBKernelIdeal.nD Cert.OptBKernelIdeal.τ).loc Cert.OptBKernelIdeal.main_arg3))
      ∧ r.2.sem = fun _ => 0)

def quiescent_OptBReferenceIdeal [hOptBReferenceIdeal : Cert.OptBReferenceIdeal.Facts] : Prop :=
  ∀ (m : (ℓ : Loc Cert.OptBReferenceIdeal.nD Cert.OptBReferenceIdeal.τ Cert.OptBReferenceIdeal.sig) → Buf (Elt Ideal) ℓ) (g : Dev Cert.OptBReferenceIdeal.nD → PrngReg), Pre_OptBReferenceIdeal m →
    θ_run (Cert.OptBReferenceIdeal.defs (F := Ideal)) (onTc (τ := Cert.OptBReferenceIdeal.τ) (Cert.OptBReferenceIdeal.main (F := Ideal))) ⟨m, fun _ => 0, g⟩ (fun r => (∀ c : Dev Cert.OptBReferenceIdeal.nD,
      r.2.mem ((c.tc : Thread Cert.OptBReferenceIdeal.nD Cert.OptBReferenceIdeal.τ).loc Cert.OptBReferenceIdeal.main_arg0) = m ((c.tc : Thread Cert.OptBReferenceIdeal.nD Cert.OptBReferenceIdeal.τ).loc Cert.OptBReferenceIdeal.main_arg0)
      ∧ r.2.mem ((c.tc : Thread Cert.OptBReferenceIdeal.nD Cert.OptBReferenceIdeal.τ).loc Cert.OptBReferenceIdeal.main_arg1) = m ((c.tc : Thread Cert.OptBReferenceIdeal.nD Cert.OptBReferenceIdeal.τ).loc Cert.OptBReferenceIdeal.main_arg1)
      ∧ r.2.mem ((c.tc : Thread Cert.OptBReferenceIdeal.nD Cert.OptBReferenceIdeal.τ).loc Cert.OptBReferenceIdeal.main_arg2) = m ((c.tc : Thread Cert.OptBReferenceIdeal.nD Cert.OptBReferenceIdeal.τ).loc Cert.OptBReferenceIdeal.main_arg2)
      ∧ r.2.mem ((c.tc : Thread Cert.OptBReferenceIdeal.nD Cert.OptBReferenceIdeal.τ).loc Cert.OptBReferenceIdeal.main_arg3) = m ((c.tc : Thread Cert.OptBReferenceIdeal.nD Cert.OptBReferenceIdeal.τ).loc Cert.OptBReferenceIdeal.main_arg3))
      ∧ r.2.sem = fun _ => 0)

def quiescent_OptCKernel [hOptCKernel : Cert.OptCKernel.Facts] : Prop :=
  ∀ (m : (ℓ : Loc Cert.OptCKernel.nD Cert.OptCKernel.τ Cert.OptCKernel.sig) → Buf (Elt Bits) ℓ) (g : Dev Cert.OptCKernel.nD → PrngReg), Pre_OptCKernel m →
    θ_run (Cert.OptCKernel.defs (F := Bits)) (onTc (τ := Cert.OptCKernel.τ) (Cert.OptCKernel.main (F := Bits))) ⟨m, fun _ => 0, g⟩ (fun r => (∀ c : Dev Cert.OptCKernel.nD,
      r.2.mem ((c.tc : Thread Cert.OptCKernel.nD Cert.OptCKernel.τ).loc Cert.OptCKernel.main_arg0) = m ((c.tc : Thread Cert.OptCKernel.nD Cert.OptCKernel.τ).loc Cert.OptCKernel.main_arg0)
      ∧ r.2.mem ((c.tc : Thread Cert.OptCKernel.nD Cert.OptCKernel.τ).loc Cert.OptCKernel.main_arg1) = m ((c.tc : Thread Cert.OptCKernel.nD Cert.OptCKernel.τ).loc Cert.OptCKernel.main_arg1)
      ∧ r.2.mem ((c.tc : Thread Cert.OptCKernel.nD Cert.OptCKernel.τ).loc Cert.OptCKernel.main_arg2) = m ((c.tc : Thread Cert.OptCKernel.nD Cert.OptCKernel.τ).loc Cert.OptCKernel.main_arg2)
      ∧ r.2.mem ((c.tc : Thread Cert.OptCKernel.nD Cert.OptCKernel.τ).loc Cert.OptCKernel.main_arg3) = m ((c.tc : Thread Cert.OptCKernel.nD Cert.OptCKernel.τ).loc Cert.OptCKernel.main_arg3))
      ∧ r.2.sem = fun _ => 0)

def quiescent_OptCKernelIdeal [hOptCKernelIdeal : Cert.OptCKernelIdeal.Facts] : Prop :=
  ∀ (m : (ℓ : Loc Cert.OptCKernelIdeal.nD Cert.OptCKernelIdeal.τ Cert.OptCKernelIdeal.sig) → Buf (Elt Ideal) ℓ) (g : Dev Cert.OptCKernelIdeal.nD → PrngReg), Pre_OptCKernelIdeal m →
    θ_run (Cert.OptCKernelIdeal.defs (F := Ideal)) (onTc (τ := Cert.OptCKernelIdeal.τ) (Cert.OptCKernelIdeal.main (F := Ideal))) ⟨m, fun _ => 0, g⟩ (fun r => (∀ c : Dev Cert.OptCKernelIdeal.nD,
      r.2.mem ((c.tc : Thread Cert.OptCKernelIdeal.nD Cert.OptCKernelIdeal.τ).loc Cert.OptCKernelIdeal.main_arg0) = m ((c.tc : Thread Cert.OptCKernelIdeal.nD Cert.OptCKernelIdeal.τ).loc Cert.OptCKernelIdeal.main_arg0)
      ∧ r.2.mem ((c.tc : Thread Cert.OptCKernelIdeal.nD Cert.OptCKernelIdeal.τ).loc Cert.OptCKernelIdeal.main_arg1) = m ((c.tc : Thread Cert.OptCKernelIdeal.nD Cert.OptCKernelIdeal.τ).loc Cert.OptCKernelIdeal.main_arg1)
      ∧ r.2.mem ((c.tc : Thread Cert.OptCKernelIdeal.nD Cert.OptCKernelIdeal.τ).loc Cert.OptCKernelIdeal.main_arg2) = m ((c.tc : Thread Cert.OptCKernelIdeal.nD Cert.OptCKernelIdeal.τ).loc Cert.OptCKernelIdeal.main_arg2)
      ∧ r.2.mem ((c.tc : Thread Cert.OptCKernelIdeal.nD Cert.OptCKernelIdeal.τ).loc Cert.OptCKernelIdeal.main_arg3) = m ((c.tc : Thread Cert.OptCKernelIdeal.nD Cert.OptCKernelIdeal.τ).loc Cert.OptCKernelIdeal.main_arg3))
      ∧ r.2.sem = fun _ => 0)

def quiescent_OptCReferenceIdeal [hOptCReferenceIdeal : Cert.OptCReferenceIdeal.Facts] : Prop :=
  ∀ (m : (ℓ : Loc Cert.OptCReferenceIdeal.nD Cert.OptCReferenceIdeal.τ Cert.OptCReferenceIdeal.sig) → Buf (Elt Ideal) ℓ) (g : Dev Cert.OptCReferenceIdeal.nD → PrngReg), Pre_OptCReferenceIdeal m →
    θ_run (Cert.OptCReferenceIdeal.defs (F := Ideal)) (onTc (τ := Cert.OptCReferenceIdeal.τ) (Cert.OptCReferenceIdeal.main (F := Ideal))) ⟨m, fun _ => 0, g⟩ (fun r => (∀ c : Dev Cert.OptCReferenceIdeal.nD,
      r.2.mem ((c.tc : Thread Cert.OptCReferenceIdeal.nD Cert.OptCReferenceIdeal.τ).loc Cert.OptCReferenceIdeal.main_arg0) = m ((c.tc : Thread Cert.OptCReferenceIdeal.nD Cert.OptCReferenceIdeal.τ).loc Cert.OptCReferenceIdeal.main_arg0)
      ∧ r.2.mem ((c.tc : Thread Cert.OptCReferenceIdeal.nD Cert.OptCReferenceIdeal.τ).loc Cert.OptCReferenceIdeal.main_arg1) = m ((c.tc : Thread Cert.OptCReferenceIdeal.nD Cert.OptCReferenceIdeal.τ).loc Cert.OptCReferenceIdeal.main_arg1)
      ∧ r.2.mem ((c.tc : Thread Cert.OptCReferenceIdeal.nD Cert.OptCReferenceIdeal.τ).loc Cert.OptCReferenceIdeal.main_arg2) = m ((c.tc : Thread Cert.OptCReferenceIdeal.nD Cert.OptCReferenceIdeal.τ).loc Cert.OptCReferenceIdeal.main_arg2)
      ∧ r.2.mem ((c.tc : Thread Cert.OptCReferenceIdeal.nD Cert.OptCReferenceIdeal.τ).loc Cert.OptCReferenceIdeal.main_arg3) = m ((c.tc : Thread Cert.OptCReferenceIdeal.nD Cert.OptCReferenceIdeal.τ).loc Cert.OptCReferenceIdeal.main_arg3))
      ∧ r.2.sem = fun _ => 0)

def quiescent_OptDKernel [hOptDKernel : Cert.OptDKernel.Facts] : Prop :=
  ∀ (m : (ℓ : Loc Cert.OptDKernel.nD Cert.OptDKernel.τ Cert.OptDKernel.sig) → Buf (Elt Bits) ℓ) (g : Dev Cert.OptDKernel.nD → PrngReg), Pre_OptDKernel m →
    θ_run (Cert.OptDKernel.defs (F := Bits)) (onTc (τ := Cert.OptDKernel.τ) (Cert.OptDKernel.main (F := Bits))) ⟨m, fun _ => 0, g⟩ (fun r => (∀ c : Dev Cert.OptDKernel.nD,
      r.2.mem ((c.tc : Thread Cert.OptDKernel.nD Cert.OptDKernel.τ).loc Cert.OptDKernel.main_arg0) = m ((c.tc : Thread Cert.OptDKernel.nD Cert.OptDKernel.τ).loc Cert.OptDKernel.main_arg0)
      ∧ r.2.mem ((c.tc : Thread Cert.OptDKernel.nD Cert.OptDKernel.τ).loc Cert.OptDKernel.main_arg1) = m ((c.tc : Thread Cert.OptDKernel.nD Cert.OptDKernel.τ).loc Cert.OptDKernel.main_arg1)
      ∧ r.2.mem ((c.tc : Thread Cert.OptDKernel.nD Cert.OptDKernel.τ).loc Cert.OptDKernel.main_arg2) = m ((c.tc : Thread Cert.OptDKernel.nD Cert.OptDKernel.τ).loc Cert.OptDKernel.main_arg2)
      ∧ r.2.mem ((c.tc : Thread Cert.OptDKernel.nD Cert.OptDKernel.τ).loc Cert.OptDKernel.main_arg3) = m ((c.tc : Thread Cert.OptDKernel.nD Cert.OptDKernel.τ).loc Cert.OptDKernel.main_arg3))
      ∧ r.2.sem = fun _ => 0)

def quiescent_OptDKernelIdeal [hOptDKernelIdeal : Cert.OptDKernelIdeal.Facts] : Prop :=
  ∀ (m : (ℓ : Loc Cert.OptDKernelIdeal.nD Cert.OptDKernelIdeal.τ Cert.OptDKernelIdeal.sig) → Buf (Elt Ideal) ℓ) (g : Dev Cert.OptDKernelIdeal.nD → PrngReg), Pre_OptDKernelIdeal m →
    θ_run (Cert.OptDKernelIdeal.defs (F := Ideal)) (onTc (τ := Cert.OptDKernelIdeal.τ) (Cert.OptDKernelIdeal.main (F := Ideal))) ⟨m, fun _ => 0, g⟩ (fun r => (∀ c : Dev Cert.OptDKernelIdeal.nD,
      r.2.mem ((c.tc : Thread Cert.OptDKernelIdeal.nD Cert.OptDKernelIdeal.τ).loc Cert.OptDKernelIdeal.main_arg0) = m ((c.tc : Thread Cert.OptDKernelIdeal.nD Cert.OptDKernelIdeal.τ).loc Cert.OptDKernelIdeal.main_arg0)
      ∧ r.2.mem ((c.tc : Thread Cert.OptDKernelIdeal.nD Cert.OptDKernelIdeal.τ).loc Cert.OptDKernelIdeal.main_arg1) = m ((c.tc : Thread Cert.OptDKernelIdeal.nD Cert.OptDKernelIdeal.τ).loc Cert.OptDKernelIdeal.main_arg1)
      ∧ r.2.mem ((c.tc : Thread Cert.OptDKernelIdeal.nD Cert.OptDKernelIdeal.τ).loc Cert.OptDKernelIdeal.main_arg2) = m ((c.tc : Thread Cert.OptDKernelIdeal.nD Cert.OptDKernelIdeal.τ).loc Cert.OptDKernelIdeal.main_arg2)
      ∧ r.2.mem ((c.tc : Thread Cert.OptDKernelIdeal.nD Cert.OptDKernelIdeal.τ).loc Cert.OptDKernelIdeal.main_arg3) = m ((c.tc : Thread Cert.OptDKernelIdeal.nD Cert.OptDKernelIdeal.τ).loc Cert.OptDKernelIdeal.main_arg3))
      ∧ r.2.sem = fun _ => 0)

def quiescent_OptDReferenceIdeal [hOptDReferenceIdeal : Cert.OptDReferenceIdeal.Facts] : Prop :=
  ∀ (m : (ℓ : Loc Cert.OptDReferenceIdeal.nD Cert.OptDReferenceIdeal.τ Cert.OptDReferenceIdeal.sig) → Buf (Elt Ideal) ℓ) (g : Dev Cert.OptDReferenceIdeal.nD → PrngReg), Pre_OptDReferenceIdeal m →
    θ_run (Cert.OptDReferenceIdeal.defs (F := Ideal)) (onTc (τ := Cert.OptDReferenceIdeal.τ) (Cert.OptDReferenceIdeal.main (F := Ideal))) ⟨m, fun _ => 0, g⟩ (fun r => (∀ c : Dev Cert.OptDReferenceIdeal.nD,
      r.2.mem ((c.tc : Thread Cert.OptDReferenceIdeal.nD Cert.OptDReferenceIdeal.τ).loc Cert.OptDReferenceIdeal.main_arg0) = m ((c.tc : Thread Cert.OptDReferenceIdeal.nD Cert.OptDReferenceIdeal.τ).loc Cert.OptDReferenceIdeal.main_arg0)
      ∧ r.2.mem ((c.tc : Thread Cert.OptDReferenceIdeal.nD Cert.OptDReferenceIdeal.τ).loc Cert.OptDReferenceIdeal.main_arg1) = m ((c.tc : Thread Cert.OptDReferenceIdeal.nD Cert.OptDReferenceIdeal.τ).loc Cert.OptDReferenceIdeal.main_arg1)
      ∧ r.2.mem ((c.tc : Thread Cert.OptDReferenceIdeal.nD Cert.OptDReferenceIdeal.τ).loc Cert.OptDReferenceIdeal.main_arg2) = m ((c.tc : Thread Cert.OptDReferenceIdeal.nD Cert.OptDReferenceIdeal.τ).loc Cert.OptDReferenceIdeal.main_arg2)
      ∧ r.2.mem ((c.tc : Thread Cert.OptDReferenceIdeal.nD Cert.OptDReferenceIdeal.τ).loc Cert.OptDReferenceIdeal.main_arg3) = m ((c.tc : Thread Cert.OptDReferenceIdeal.nD Cert.OptDReferenceIdeal.τ).loc Cert.OptDReferenceIdeal.main_arg3))
      ∧ r.2.sem = fun _ => 0)

def quiescent_OptQKernel [hOptQKernel : Cert.OptQKernel.Facts] : Prop :=
  ∀ (m : (ℓ : Loc Cert.OptQKernel.nD Cert.OptQKernel.τ Cert.OptQKernel.sig) → Buf (Elt Bits) ℓ) (g : Dev Cert.OptQKernel.nD → PrngReg), Pre_OptQKernel m →
    θ_run (Cert.OptQKernel.defs (F := Bits)) (onTc (τ := Cert.OptQKernel.τ) (Cert.OptQKernel.main (F := Bits))) ⟨m, fun _ => 0, g⟩ (fun r => (∀ c : Dev Cert.OptQKernel.nD,
      r.2.mem ((c.tc : Thread Cert.OptQKernel.nD Cert.OptQKernel.τ).loc Cert.OptQKernel.main_arg0) = m ((c.tc : Thread Cert.OptQKernel.nD Cert.OptQKernel.τ).loc Cert.OptQKernel.main_arg0)
      ∧ r.2.mem ((c.tc : Thread Cert.OptQKernel.nD Cert.OptQKernel.τ).loc Cert.OptQKernel.main_arg1) = m ((c.tc : Thread Cert.OptQKernel.nD Cert.OptQKernel.τ).loc Cert.OptQKernel.main_arg1)
      ∧ r.2.mem ((c.tc : Thread Cert.OptQKernel.nD Cert.OptQKernel.τ).loc Cert.OptQKernel.main_arg2) = m ((c.tc : Thread Cert.OptQKernel.nD Cert.OptQKernel.τ).loc Cert.OptQKernel.main_arg2)
      ∧ r.2.mem ((c.tc : Thread Cert.OptQKernel.nD Cert.OptQKernel.τ).loc Cert.OptQKernel.main_arg3) = m ((c.tc : Thread Cert.OptQKernel.nD Cert.OptQKernel.τ).loc Cert.OptQKernel.main_arg3))
      ∧ r.2.sem = fun _ => 0)

def quiescent_OptQKernelIdeal [hOptQKernelIdeal : Cert.OptQKernelIdeal.Facts] : Prop :=
  ∀ (m : (ℓ : Loc Cert.OptQKernelIdeal.nD Cert.OptQKernelIdeal.τ Cert.OptQKernelIdeal.sig) → Buf (Elt Ideal) ℓ) (g : Dev Cert.OptQKernelIdeal.nD → PrngReg), Pre_OptQKernelIdeal m →
    θ_run (Cert.OptQKernelIdeal.defs (F := Ideal)) (onTc (τ := Cert.OptQKernelIdeal.τ) (Cert.OptQKernelIdeal.main (F := Ideal))) ⟨m, fun _ => 0, g⟩ (fun r => (∀ c : Dev Cert.OptQKernelIdeal.nD,
      r.2.mem ((c.tc : Thread Cert.OptQKernelIdeal.nD Cert.OptQKernelIdeal.τ).loc Cert.OptQKernelIdeal.main_arg0) = m ((c.tc : Thread Cert.OptQKernelIdeal.nD Cert.OptQKernelIdeal.τ).loc Cert.OptQKernelIdeal.main_arg0)
      ∧ r.2.mem ((c.tc : Thread Cert.OptQKernelIdeal.nD Cert.OptQKernelIdeal.τ).loc Cert.OptQKernelIdeal.main_arg1) = m ((c.tc : Thread Cert.OptQKernelIdeal.nD Cert.OptQKernelIdeal.τ).loc Cert.OptQKernelIdeal.main_arg1)
      ∧ r.2.mem ((c.tc : Thread Cert.OptQKernelIdeal.nD Cert.OptQKernelIdeal.τ).loc Cert.OptQKernelIdeal.main_arg2) = m ((c.tc : Thread Cert.OptQKernelIdeal.nD Cert.OptQKernelIdeal.τ).loc Cert.OptQKernelIdeal.main_arg2)
      ∧ r.2.mem ((c.tc : Thread Cert.OptQKernelIdeal.nD Cert.OptQKernelIdeal.τ).loc Cert.OptQKernelIdeal.main_arg3) = m ((c.tc : Thread Cert.OptQKernelIdeal.nD Cert.OptQKernelIdeal.τ).loc Cert.OptQKernelIdeal.main_arg3))
      ∧ r.2.sem = fun _ => 0)

def quiescent_OptQReferenceIdeal [hOptQReferenceIdeal : Cert.OptQReferenceIdeal.Facts] : Prop :=
  ∀ (m : (ℓ : Loc Cert.OptQReferenceIdeal.nD Cert.OptQReferenceIdeal.τ Cert.OptQReferenceIdeal.sig) → Buf (Elt Ideal) ℓ) (g : Dev Cert.OptQReferenceIdeal.nD → PrngReg), Pre_OptQReferenceIdeal m →
    θ_run (Cert.OptQReferenceIdeal.defs (F := Ideal)) (onTc (τ := Cert.OptQReferenceIdeal.τ) (Cert.OptQReferenceIdeal.main (F := Ideal))) ⟨m, fun _ => 0, g⟩ (fun r => (∀ c : Dev Cert.OptQReferenceIdeal.nD,
      r.2.mem ((c.tc : Thread Cert.OptQReferenceIdeal.nD Cert.OptQReferenceIdeal.τ).loc Cert.OptQReferenceIdeal.main_arg0) = m ((c.tc : Thread Cert.OptQReferenceIdeal.nD Cert.OptQReferenceIdeal.τ).loc Cert.OptQReferenceIdeal.main_arg0)
      ∧ r.2.mem ((c.tc : Thread Cert.OptQReferenceIdeal.nD Cert.OptQReferenceIdeal.τ).loc Cert.OptQReferenceIdeal.main_arg1) = m ((c.tc : Thread Cert.OptQReferenceIdeal.nD Cert.OptQReferenceIdeal.τ).loc Cert.OptQReferenceIdeal.main_arg1)
      ∧ r.2.mem ((c.tc : Thread Cert.OptQReferenceIdeal.nD Cert.OptQReferenceIdeal.τ).loc Cert.OptQReferenceIdeal.main_arg2) = m ((c.tc : Thread Cert.OptQReferenceIdeal.nD Cert.OptQReferenceIdeal.τ).loc Cert.OptQReferenceIdeal.main_arg2)
      ∧ r.2.mem ((c.tc : Thread Cert.OptQReferenceIdeal.nD Cert.OptQReferenceIdeal.τ).loc Cert.OptQReferenceIdeal.main_arg3) = m ((c.tc : Thread Cert.OptQReferenceIdeal.nD Cert.OptQReferenceIdeal.τ).loc Cert.OptQReferenceIdeal.main_arg3))
      ∧ r.2.sem = fun _ => 0)

def quiescent_OptConvWKernel [hOptConvWKernel : Cert.OptConvWKernel.Facts] : Prop :=
  ∀ (m : (ℓ : Loc Cert.OptConvWKernel.nD Cert.OptConvWKernel.τ Cert.OptConvWKernel.sig) → Buf (Elt Bits) ℓ) (g : Dev Cert.OptConvWKernel.nD → PrngReg), Pre_OptConvWKernel m →
    θ_run (Cert.OptConvWKernel.defs (F := Bits)) (onTc (τ := Cert.OptConvWKernel.τ) (Cert.OptConvWKernel.main (F := Bits))) ⟨m, fun _ => 0, g⟩ (fun r => (∀ c : Dev Cert.OptConvWKernel.nD,
      r.2.mem ((c.tc : Thread Cert.OptConvWKernel.nD Cert.OptConvWKernel.τ).loc Cert.OptConvWKernel.main_arg0) = m ((c.tc : Thread Cert.OptConvWKernel.nD Cert.OptConvWKernel.τ).loc Cert.OptConvWKernel.main_arg0)
      ∧ r.2.mem ((c.tc : Thread Cert.OptConvWKernel.nD Cert.OptConvWKernel.τ).loc Cert.OptConvWKernel.main_arg1) = m ((c.tc : Thread Cert.OptConvWKernel.nD Cert.OptConvWKernel.τ).loc Cert.OptConvWKernel.main_arg1)
      ∧ r.2.mem ((c.tc : Thread Cert.OptConvWKernel.nD Cert.OptConvWKernel.τ).loc Cert.OptConvWKernel.main_arg2) = m ((c.tc : Thread Cert.OptConvWKernel.nD Cert.OptConvWKernel.τ).loc Cert.OptConvWKernel.main_arg2)
      ∧ r.2.mem ((c.tc : Thread Cert.OptConvWKernel.nD Cert.OptConvWKernel.τ).loc Cert.OptConvWKernel.main_arg3) = m ((c.tc : Thread Cert.OptConvWKernel.nD Cert.OptConvWKernel.τ).loc Cert.OptConvWKernel.main_arg3))
      ∧ r.2.sem = fun _ => 0)

def quiescent_OptConvWKernelIdeal [hOptConvWKernelIdeal : Cert.OptConvWKernelIdeal.Facts] : Prop :=
  ∀ (m : (ℓ : Loc Cert.OptConvWKernelIdeal.nD Cert.OptConvWKernelIdeal.τ Cert.OptConvWKernelIdeal.sig) → Buf (Elt Ideal) ℓ) (g : Dev Cert.OptConvWKernelIdeal.nD → PrngReg), Pre_OptConvWKernelIdeal m →
    θ_run (Cert.OptConvWKernelIdeal.defs (F := Ideal)) (onTc (τ := Cert.OptConvWKernelIdeal.τ) (Cert.OptConvWKernelIdeal.main (F := Ideal))) ⟨m, fun _ => 0, g⟩ (fun r => (∀ c : Dev Cert.OptConvWKernelIdeal.nD,
      r.2.mem ((c.tc : Thread Cert.OptConvWKernelIdeal.nD Cert.OptConvWKernelIdeal.τ).loc Cert.OptConvWKernelIdeal.main_arg0) = m ((c.tc : Thread Cert.OptConvWKernelIdeal.nD Cert.OptConvWKernelIdeal.τ).loc Cert.OptConvWKernelIdeal.main_arg0)
      ∧ r.2.mem ((c.tc : Thread Cert.OptConvWKernelIdeal.nD Cert.OptConvWKernelIdeal.τ).loc Cert.OptConvWKernelIdeal.main_arg1) = m ((c.tc : Thread Cert.OptConvWKernelIdeal.nD Cert.OptConvWKernelIdeal.τ).loc Cert.OptConvWKernelIdeal.main_arg1)
      ∧ r.2.mem ((c.tc : Thread Cert.OptConvWKernelIdeal.nD Cert.OptConvWKernelIdeal.τ).loc Cert.OptConvWKernelIdeal.main_arg2) = m ((c.tc : Thread Cert.OptConvWKernelIdeal.nD Cert.OptConvWKernelIdeal.τ).loc Cert.OptConvWKernelIdeal.main_arg2)
      ∧ r.2.mem ((c.tc : Thread Cert.OptConvWKernelIdeal.nD Cert.OptConvWKernelIdeal.τ).loc Cert.OptConvWKernelIdeal.main_arg3) = m ((c.tc : Thread Cert.OptConvWKernelIdeal.nD Cert.OptConvWKernelIdeal.τ).loc Cert.OptConvWKernelIdeal.main_arg3))
      ∧ r.2.sem = fun _ => 0)

def quiescent_OptConvWReferenceIdeal [hOptConvWReferenceIdeal : Cert.OptConvWReferenceIdeal.Facts] : Prop :=
  ∀ (m : (ℓ : Loc Cert.OptConvWReferenceIdeal.nD Cert.OptConvWReferenceIdeal.τ Cert.OptConvWReferenceIdeal.sig) → Buf (Elt Ideal) ℓ) (g : Dev Cert.OptConvWReferenceIdeal.nD → PrngReg), Pre_OptConvWReferenceIdeal m →
    θ_run (Cert.OptConvWReferenceIdeal.defs (F := Ideal)) (onTc (τ := Cert.OptConvWReferenceIdeal.τ) (Cert.OptConvWReferenceIdeal.main (F := Ideal))) ⟨m, fun _ => 0, g⟩ (fun r => (∀ c : Dev Cert.OptConvWReferenceIdeal.nD,
      r.2.mem ((c.tc : Thread Cert.OptConvWReferenceIdeal.nD Cert.OptConvWReferenceIdeal.τ).loc Cert.OptConvWReferenceIdeal.main_arg0) = m ((c.tc : Thread Cert.OptConvWReferenceIdeal.nD Cert.OptConvWReferenceIdeal.τ).loc Cert.OptConvWReferenceIdeal.main_arg0)
      ∧ r.2.mem ((c.tc : Thread Cert.OptConvWReferenceIdeal.nD Cert.OptConvWReferenceIdeal.τ).loc Cert.OptConvWReferenceIdeal.main_arg1) = m ((c.tc : Thread Cert.OptConvWReferenceIdeal.nD Cert.OptConvWReferenceIdeal.τ).loc Cert.OptConvWReferenceIdeal.main_arg1)
      ∧ r.2.mem ((c.tc : Thread Cert.OptConvWReferenceIdeal.nD Cert.OptConvWReferenceIdeal.τ).loc Cert.OptConvWReferenceIdeal.main_arg2) = m ((c.tc : Thread Cert.OptConvWReferenceIdeal.nD Cert.OptConvWReferenceIdeal.τ).loc Cert.OptConvWReferenceIdeal.main_arg2)
      ∧ r.2.mem ((c.tc : Thread Cert.OptConvWReferenceIdeal.nD Cert.OptConvWReferenceIdeal.τ).loc Cert.OptConvWReferenceIdeal.main_arg3) = m ((c.tc : Thread Cert.OptConvWReferenceIdeal.nD Cert.OptConvWReferenceIdeal.τ).loc Cert.OptConvWReferenceIdeal.main_arg3))
      ∧ r.2.sem = fun _ => 0)

def quiescent_OptConvBKernel [hOptConvBKernel : Cert.OptConvBKernel.Facts] : Prop :=
  ∀ (m : (ℓ : Loc Cert.OptConvBKernel.nD Cert.OptConvBKernel.τ Cert.OptConvBKernel.sig) → Buf (Elt Bits) ℓ) (g : Dev Cert.OptConvBKernel.nD → PrngReg), Pre_OptConvBKernel m →
    θ_run (Cert.OptConvBKernel.defs (F := Bits)) (onTc (τ := Cert.OptConvBKernel.τ) (Cert.OptConvBKernel.main (F := Bits))) ⟨m, fun _ => 0, g⟩ (fun r => (∀ c : Dev Cert.OptConvBKernel.nD,
      r.2.mem ((c.tc : Thread Cert.OptConvBKernel.nD Cert.OptConvBKernel.τ).loc Cert.OptConvBKernel.main_arg0) = m ((c.tc : Thread Cert.OptConvBKernel.nD Cert.OptConvBKernel.τ).loc Cert.OptConvBKernel.main_arg0)
      ∧ r.2.mem ((c.tc : Thread Cert.OptConvBKernel.nD Cert.OptConvBKernel.τ).loc Cert.OptConvBKernel.main_arg1) = m ((c.tc : Thread Cert.OptConvBKernel.nD Cert.OptConvBKernel.τ).loc Cert.OptConvBKernel.main_arg1)
      ∧ r.2.mem ((c.tc : Thread Cert.OptConvBKernel.nD Cert.OptConvBKernel.τ).loc Cert.OptConvBKernel.main_arg2) = m ((c.tc : Thread Cert.OptConvBKernel.nD Cert.OptConvBKernel.τ).loc Cert.OptConvBKernel.main_arg2)
      ∧ r.2.mem ((c.tc : Thread Cert.OptConvBKernel.nD Cert.OptConvBKernel.τ).loc Cert.OptConvBKernel.main_arg3) = m ((c.tc : Thread Cert.OptConvBKernel.nD Cert.OptConvBKernel.τ).loc Cert.OptConvBKernel.main_arg3))
      ∧ r.2.sem = fun _ => 0)

def quiescent_OptConvBKernelIdeal [hOptConvBKernelIdeal : Cert.OptConvBKernelIdeal.Facts] : Prop :=
  ∀ (m : (ℓ : Loc Cert.OptConvBKernelIdeal.nD Cert.OptConvBKernelIdeal.τ Cert.OptConvBKernelIdeal.sig) → Buf (Elt Ideal) ℓ) (g : Dev Cert.OptConvBKernelIdeal.nD → PrngReg), Pre_OptConvBKernelIdeal m →
    θ_run (Cert.OptConvBKernelIdeal.defs (F := Ideal)) (onTc (τ := Cert.OptConvBKernelIdeal.τ) (Cert.OptConvBKernelIdeal.main (F := Ideal))) ⟨m, fun _ => 0, g⟩ (fun r => (∀ c : Dev Cert.OptConvBKernelIdeal.nD,
      r.2.mem ((c.tc : Thread Cert.OptConvBKernelIdeal.nD Cert.OptConvBKernelIdeal.τ).loc Cert.OptConvBKernelIdeal.main_arg0) = m ((c.tc : Thread Cert.OptConvBKernelIdeal.nD Cert.OptConvBKernelIdeal.τ).loc Cert.OptConvBKernelIdeal.main_arg0)
      ∧ r.2.mem ((c.tc : Thread Cert.OptConvBKernelIdeal.nD Cert.OptConvBKernelIdeal.τ).loc Cert.OptConvBKernelIdeal.main_arg1) = m ((c.tc : Thread Cert.OptConvBKernelIdeal.nD Cert.OptConvBKernelIdeal.τ).loc Cert.OptConvBKernelIdeal.main_arg1)
      ∧ r.2.mem ((c.tc : Thread Cert.OptConvBKernelIdeal.nD Cert.OptConvBKernelIdeal.τ).loc Cert.OptConvBKernelIdeal.main_arg2) = m ((c.tc : Thread Cert.OptConvBKernelIdeal.nD Cert.OptConvBKernelIdeal.τ).loc Cert.OptConvBKernelIdeal.main_arg2)
      ∧ r.2.mem ((c.tc : Thread Cert.OptConvBKernelIdeal.nD Cert.OptConvBKernelIdeal.τ).loc Cert.OptConvBKernelIdeal.main_arg3) = m ((c.tc : Thread Cert.OptConvBKernelIdeal.nD Cert.OptConvBKernelIdeal.τ).loc Cert.OptConvBKernelIdeal.main_arg3))
      ∧ r.2.sem = fun _ => 0)

def quiescent_OptConvBReferenceIdeal [hOptConvBReferenceIdeal : Cert.OptConvBReferenceIdeal.Facts] : Prop :=
  ∀ (m : (ℓ : Loc Cert.OptConvBReferenceIdeal.nD Cert.OptConvBReferenceIdeal.τ Cert.OptConvBReferenceIdeal.sig) → Buf (Elt Ideal) ℓ) (g : Dev Cert.OptConvBReferenceIdeal.nD → PrngReg), Pre_OptConvBReferenceIdeal m →
    θ_run (Cert.OptConvBReferenceIdeal.defs (F := Ideal)) (onTc (τ := Cert.OptConvBReferenceIdeal.τ) (Cert.OptConvBReferenceIdeal.main (F := Ideal))) ⟨m, fun _ => 0, g⟩ (fun r => (∀ c : Dev Cert.OptConvBReferenceIdeal.nD,
      r.2.mem ((c.tc : Thread Cert.OptConvBReferenceIdeal.nD Cert.OptConvBReferenceIdeal.τ).loc Cert.OptConvBReferenceIdeal.main_arg0) = m ((c.tc : Thread Cert.OptConvBReferenceIdeal.nD Cert.OptConvBReferenceIdeal.τ).loc Cert.OptConvBReferenceIdeal.main_arg0)
      ∧ r.2.mem ((c.tc : Thread Cert.OptConvBReferenceIdeal.nD Cert.OptConvBReferenceIdeal.τ).loc Cert.OptConvBReferenceIdeal.main_arg1) = m ((c.tc : Thread Cert.OptConvBReferenceIdeal.nD Cert.OptConvBReferenceIdeal.τ).loc Cert.OptConvBReferenceIdeal.main_arg1)
      ∧ r.2.mem ((c.tc : Thread Cert.OptConvBReferenceIdeal.nD Cert.OptConvBReferenceIdeal.τ).loc Cert.OptConvBReferenceIdeal.main_arg2) = m ((c.tc : Thread Cert.OptConvBReferenceIdeal.nD Cert.OptConvBReferenceIdeal.τ).loc Cert.OptConvBReferenceIdeal.main_arg2)
      ∧ r.2.mem ((c.tc : Thread Cert.OptConvBReferenceIdeal.nD Cert.OptConvBReferenceIdeal.τ).loc Cert.OptConvBReferenceIdeal.main_arg3) = m ((c.tc : Thread Cert.OptConvBReferenceIdeal.nD Cert.OptConvBReferenceIdeal.τ).loc Cert.OptConvBReferenceIdeal.main_arg3))
      ∧ r.2.sem = fun _ => 0)

def quiescent_OptDtKernel [hOptDtKernel : Cert.OptDtKernel.Facts] : Prop :=
  ∀ (m : (ℓ : Loc Cert.OptDtKernel.nD Cert.OptDtKernel.τ Cert.OptDtKernel.sig) → Buf (Elt Bits) ℓ) (g : Dev Cert.OptDtKernel.nD → PrngReg), Pre_OptDtKernel m →
    θ_run (Cert.OptDtKernel.defs (F := Bits)) (onTc (τ := Cert.OptDtKernel.τ) (Cert.OptDtKernel.main (F := Bits))) ⟨m, fun _ => 0, g⟩ (fun r => (∀ c : Dev Cert.OptDtKernel.nD,
      r.2.mem ((c.tc : Thread Cert.OptDtKernel.nD Cert.OptDtKernel.τ).loc Cert.OptDtKernel.main_arg0) = m ((c.tc : Thread Cert.OptDtKernel.nD Cert.OptDtKernel.τ).loc Cert.OptDtKernel.main_arg0)
      ∧ r.2.mem ((c.tc : Thread Cert.OptDtKernel.nD Cert.OptDtKernel.τ).loc Cert.OptDtKernel.main_arg1) = m ((c.tc : Thread Cert.OptDtKernel.nD Cert.OptDtKernel.τ).loc Cert.OptDtKernel.main_arg1)
      ∧ r.2.mem ((c.tc : Thread Cert.OptDtKernel.nD Cert.OptDtKernel.τ).loc Cert.OptDtKernel.main_arg2) = m ((c.tc : Thread Cert.OptDtKernel.nD Cert.OptDtKernel.τ).loc Cert.OptDtKernel.main_arg2)
      ∧ r.2.mem ((c.tc : Thread Cert.OptDtKernel.nD Cert.OptDtKernel.τ).loc Cert.OptDtKernel.main_arg3) = m ((c.tc : Thread Cert.OptDtKernel.nD Cert.OptDtKernel.τ).loc Cert.OptDtKernel.main_arg3))
      ∧ r.2.sem = fun _ => 0)

def quiescent_OptDtKernelIdeal [hOptDtKernelIdeal : Cert.OptDtKernelIdeal.Facts] : Prop :=
  ∀ (m : (ℓ : Loc Cert.OptDtKernelIdeal.nD Cert.OptDtKernelIdeal.τ Cert.OptDtKernelIdeal.sig) → Buf (Elt Ideal) ℓ) (g : Dev Cert.OptDtKernelIdeal.nD → PrngReg), Pre_OptDtKernelIdeal m →
    θ_run (Cert.OptDtKernelIdeal.defs (F := Ideal)) (onTc (τ := Cert.OptDtKernelIdeal.τ) (Cert.OptDtKernelIdeal.main (F := Ideal))) ⟨m, fun _ => 0, g⟩ (fun r => (∀ c : Dev Cert.OptDtKernelIdeal.nD,
      r.2.mem ((c.tc : Thread Cert.OptDtKernelIdeal.nD Cert.OptDtKernelIdeal.τ).loc Cert.OptDtKernelIdeal.main_arg0) = m ((c.tc : Thread Cert.OptDtKernelIdeal.nD Cert.OptDtKernelIdeal.τ).loc Cert.OptDtKernelIdeal.main_arg0)
      ∧ r.2.mem ((c.tc : Thread Cert.OptDtKernelIdeal.nD Cert.OptDtKernelIdeal.τ).loc Cert.OptDtKernelIdeal.main_arg1) = m ((c.tc : Thread Cert.OptDtKernelIdeal.nD Cert.OptDtKernelIdeal.τ).loc Cert.OptDtKernelIdeal.main_arg1)
      ∧ r.2.mem ((c.tc : Thread Cert.OptDtKernelIdeal.nD Cert.OptDtKernelIdeal.τ).loc Cert.OptDtKernelIdeal.main_arg2) = m ((c.tc : Thread Cert.OptDtKernelIdeal.nD Cert.OptDtKernelIdeal.τ).loc Cert.OptDtKernelIdeal.main_arg2)
      ∧ r.2.mem ((c.tc : Thread Cert.OptDtKernelIdeal.nD Cert.OptDtKernelIdeal.τ).loc Cert.OptDtKernelIdeal.main_arg3) = m ((c.tc : Thread Cert.OptDtKernelIdeal.nD Cert.OptDtKernelIdeal.τ).loc Cert.OptDtKernelIdeal.main_arg3))
      ∧ r.2.sem = fun _ => 0)

def quiescent_OptDtReferenceIdeal [hOptDtReferenceIdeal : Cert.OptDtReferenceIdeal.Facts] : Prop :=
  ∀ (m : (ℓ : Loc Cert.OptDtReferenceIdeal.nD Cert.OptDtReferenceIdeal.τ Cert.OptDtReferenceIdeal.sig) → Buf (Elt Ideal) ℓ) (g : Dev Cert.OptDtReferenceIdeal.nD → PrngReg), Pre_OptDtReferenceIdeal m →
    θ_run (Cert.OptDtReferenceIdeal.defs (F := Ideal)) (onTc (τ := Cert.OptDtReferenceIdeal.τ) (Cert.OptDtReferenceIdeal.main (F := Ideal))) ⟨m, fun _ => 0, g⟩ (fun r => (∀ c : Dev Cert.OptDtReferenceIdeal.nD,
      r.2.mem ((c.tc : Thread Cert.OptDtReferenceIdeal.nD Cert.OptDtReferenceIdeal.τ).loc Cert.OptDtReferenceIdeal.main_arg0) = m ((c.tc : Thread Cert.OptDtReferenceIdeal.nD Cert.OptDtReferenceIdeal.τ).loc Cert.OptDtReferenceIdeal.main_arg0)
      ∧ r.2.mem ((c.tc : Thread Cert.OptDtReferenceIdeal.nD Cert.OptDtReferenceIdeal.τ).loc Cert.OptDtReferenceIdeal.main_arg1) = m ((c.tc : Thread Cert.OptDtReferenceIdeal.nD Cert.OptDtReferenceIdeal.τ).loc Cert.OptDtReferenceIdeal.main_arg1)
      ∧ r.2.mem ((c.tc : Thread Cert.OptDtReferenceIdeal.nD Cert.OptDtReferenceIdeal.τ).loc Cert.OptDtReferenceIdeal.main_arg2) = m ((c.tc : Thread Cert.OptDtReferenceIdeal.nD Cert.OptDtReferenceIdeal.τ).loc Cert.OptDtReferenceIdeal.main_arg2)
      ∧ r.2.mem ((c.tc : Thread Cert.OptDtReferenceIdeal.nD Cert.OptDtReferenceIdeal.τ).loc Cert.OptDtReferenceIdeal.main_arg3) = m ((c.tc : Thread Cert.OptDtReferenceIdeal.nD Cert.OptDtReferenceIdeal.τ).loc Cert.OptDtReferenceIdeal.main_arg3))
      ∧ r.2.sem = fun _ => 0)

def quiescent_OptSsdNormKernel [hOptSsdNormKernel : Cert.OptSsdNormKernel.Facts] : Prop :=
  ∀ (m : (ℓ : Loc Cert.OptSsdNormKernel.nD Cert.OptSsdNormKernel.τ Cert.OptSsdNormKernel.sig) → Buf (Elt Bits) ℓ) (g : Dev Cert.OptSsdNormKernel.nD → PrngReg), Pre_OptSsdNormKernel m →
    θ_run (Cert.OptSsdNormKernel.defs (F := Bits)) (onTc (τ := Cert.OptSsdNormKernel.τ) (Cert.OptSsdNormKernel.main (F := Bits))) ⟨m, fun _ => 0, g⟩ (fun r => (∀ c : Dev Cert.OptSsdNormKernel.nD,
      r.2.mem ((c.tc : Thread Cert.OptSsdNormKernel.nD Cert.OptSsdNormKernel.τ).loc Cert.OptSsdNormKernel.main_arg0) = m ((c.tc : Thread Cert.OptSsdNormKernel.nD Cert.OptSsdNormKernel.τ).loc Cert.OptSsdNormKernel.main_arg0)
      ∧ r.2.mem ((c.tc : Thread Cert.OptSsdNormKernel.nD Cert.OptSsdNormKernel.τ).loc Cert.OptSsdNormKernel.main_arg1) = m ((c.tc : Thread Cert.OptSsdNormKernel.nD Cert.OptSsdNormKernel.τ).loc Cert.OptSsdNormKernel.main_arg1)
      ∧ r.2.mem ((c.tc : Thread Cert.OptSsdNormKernel.nD Cert.OptSsdNormKernel.τ).loc Cert.OptSsdNormKernel.main_arg2) = m ((c.tc : Thread Cert.OptSsdNormKernel.nD Cert.OptSsdNormKernel.τ).loc Cert.OptSsdNormKernel.main_arg2)
      ∧ r.2.mem ((c.tc : Thread Cert.OptSsdNormKernel.nD Cert.OptSsdNormKernel.τ).loc Cert.OptSsdNormKernel.main_arg3) = m ((c.tc : Thread Cert.OptSsdNormKernel.nD Cert.OptSsdNormKernel.τ).loc Cert.OptSsdNormKernel.main_arg3))
      ∧ r.2.sem = fun _ => 0)

def quiescent_OptSsdNormKernelIdeal [hOptSsdNormKernelIdeal : Cert.OptSsdNormKernelIdeal.Facts] : Prop :=
  ∀ (m : (ℓ : Loc Cert.OptSsdNormKernelIdeal.nD Cert.OptSsdNormKernelIdeal.τ Cert.OptSsdNormKernelIdeal.sig) → Buf (Elt Ideal) ℓ) (g : Dev Cert.OptSsdNormKernelIdeal.nD → PrngReg), Pre_OptSsdNormKernelIdeal m →
    θ_run (Cert.OptSsdNormKernelIdeal.defs (F := Ideal)) (onTc (τ := Cert.OptSsdNormKernelIdeal.τ) (Cert.OptSsdNormKernelIdeal.main (F := Ideal))) ⟨m, fun _ => 0, g⟩ (fun r => (∀ c : Dev Cert.OptSsdNormKernelIdeal.nD,
      r.2.mem ((c.tc : Thread Cert.OptSsdNormKernelIdeal.nD Cert.OptSsdNormKernelIdeal.τ).loc Cert.OptSsdNormKernelIdeal.main_arg0) = m ((c.tc : Thread Cert.OptSsdNormKernelIdeal.nD Cert.OptSsdNormKernelIdeal.τ).loc Cert.OptSsdNormKernelIdeal.main_arg0)
      ∧ r.2.mem ((c.tc : Thread Cert.OptSsdNormKernelIdeal.nD Cert.OptSsdNormKernelIdeal.τ).loc Cert.OptSsdNormKernelIdeal.main_arg1) = m ((c.tc : Thread Cert.OptSsdNormKernelIdeal.nD Cert.OptSsdNormKernelIdeal.τ).loc Cert.OptSsdNormKernelIdeal.main_arg1)
      ∧ r.2.mem ((c.tc : Thread Cert.OptSsdNormKernelIdeal.nD Cert.OptSsdNormKernelIdeal.τ).loc Cert.OptSsdNormKernelIdeal.main_arg2) = m ((c.tc : Thread Cert.OptSsdNormKernelIdeal.nD Cert.OptSsdNormKernelIdeal.τ).loc Cert.OptSsdNormKernelIdeal.main_arg2)
      ∧ r.2.mem ((c.tc : Thread Cert.OptSsdNormKernelIdeal.nD Cert.OptSsdNormKernelIdeal.τ).loc Cert.OptSsdNormKernelIdeal.main_arg3) = m ((c.tc : Thread Cert.OptSsdNormKernelIdeal.nD Cert.OptSsdNormKernelIdeal.τ).loc Cert.OptSsdNormKernelIdeal.main_arg3))
      ∧ r.2.sem = fun _ => 0)

def quiescent_OptSsdNormReferenceIdeal [hOptSsdNormReferenceIdeal : Cert.OptSsdNormReferenceIdeal.Facts] : Prop :=
  ∀ (m : (ℓ : Loc Cert.OptSsdNormReferenceIdeal.nD Cert.OptSsdNormReferenceIdeal.τ Cert.OptSsdNormReferenceIdeal.sig) → Buf (Elt Ideal) ℓ) (g : Dev Cert.OptSsdNormReferenceIdeal.nD → PrngReg), Pre_OptSsdNormReferenceIdeal m →
    θ_run (Cert.OptSsdNormReferenceIdeal.defs (F := Ideal)) (onTc (τ := Cert.OptSsdNormReferenceIdeal.τ) (Cert.OptSsdNormReferenceIdeal.main (F := Ideal))) ⟨m, fun _ => 0, g⟩ (fun r => (∀ c : Dev Cert.OptSsdNormReferenceIdeal.nD,
      r.2.mem ((c.tc : Thread Cert.OptSsdNormReferenceIdeal.nD Cert.OptSsdNormReferenceIdeal.τ).loc Cert.OptSsdNormReferenceIdeal.main_arg0) = m ((c.tc : Thread Cert.OptSsdNormReferenceIdeal.nD Cert.OptSsdNormReferenceIdeal.τ).loc Cert.OptSsdNormReferenceIdeal.main_arg0)
      ∧ r.2.mem ((c.tc : Thread Cert.OptSsdNormReferenceIdeal.nD Cert.OptSsdNormReferenceIdeal.τ).loc Cert.OptSsdNormReferenceIdeal.main_arg1) = m ((c.tc : Thread Cert.OptSsdNormReferenceIdeal.nD Cert.OptSsdNormReferenceIdeal.τ).loc Cert.OptSsdNormReferenceIdeal.main_arg1)
      ∧ r.2.mem ((c.tc : Thread Cert.OptSsdNormReferenceIdeal.nD Cert.OptSsdNormReferenceIdeal.τ).loc Cert.OptSsdNormReferenceIdeal.main_arg2) = m ((c.tc : Thread Cert.OptSsdNormReferenceIdeal.nD Cert.OptSsdNormReferenceIdeal.τ).loc Cert.OptSsdNormReferenceIdeal.main_arg2)
      ∧ r.2.mem ((c.tc : Thread Cert.OptSsdNormReferenceIdeal.nD Cert.OptSsdNormReferenceIdeal.τ).loc Cert.OptSsdNormReferenceIdeal.main_arg3) = m ((c.tc : Thread Cert.OptSsdNormReferenceIdeal.nD Cert.OptSsdNormReferenceIdeal.τ).loc Cert.OptSsdNormReferenceIdeal.main_arg3))
      ∧ r.2.sem = fun _ => 0)

def quiescent_SumSmallKernel [hSumSmallKernel : Cert.SumSmallKernel.Facts] : Prop :=
  ∀ (m : (ℓ : Loc Cert.SumSmallKernel.nD Cert.SumSmallKernel.τ Cert.SumSmallKernel.sig) → Buf (Elt Bits) ℓ) (g : Dev Cert.SumSmallKernel.nD → PrngReg), Pre_SumSmallKernel m →
    θ_run (Cert.SumSmallKernel.defs (F := Bits)) (onTc (τ := Cert.SumSmallKernel.τ) (Cert.SumSmallKernel.main (F := Bits))) ⟨m, fun _ => 0, g⟩ (fun r => (∀ c : Dev Cert.SumSmallKernel.nD,
      r.2.mem ((c.tc : Thread Cert.SumSmallKernel.nD Cert.SumSmallKernel.τ).loc Cert.SumSmallKernel.main_arg0) = m ((c.tc : Thread Cert.SumSmallKernel.nD Cert.SumSmallKernel.τ).loc Cert.SumSmallKernel.main_arg0))
      ∧ r.2.sem = fun _ => 0)

def quiescent_SumSmallKernelIdeal [hSumSmallKernelIdeal : Cert.SumSmallKernelIdeal.Facts] : Prop :=
  ∀ (m : (ℓ : Loc Cert.SumSmallKernelIdeal.nD Cert.SumSmallKernelIdeal.τ Cert.SumSmallKernelIdeal.sig) → Buf (Elt Ideal) ℓ) (g : Dev Cert.SumSmallKernelIdeal.nD → PrngReg), Pre_SumSmallKernelIdeal m →
    θ_run (Cert.SumSmallKernelIdeal.defs (F := Ideal)) (onTc (τ := Cert.SumSmallKernelIdeal.τ) (Cert.SumSmallKernelIdeal.main (F := Ideal))) ⟨m, fun _ => 0, g⟩ (fun r => (∀ c : Dev Cert.SumSmallKernelIdeal.nD,
      r.2.mem ((c.tc : Thread Cert.SumSmallKernelIdeal.nD Cert.SumSmallKernelIdeal.τ).loc Cert.SumSmallKernelIdeal.main_arg0) = m ((c.tc : Thread Cert.SumSmallKernelIdeal.nD Cert.SumSmallKernelIdeal.τ).loc Cert.SumSmallKernelIdeal.main_arg0))
      ∧ r.2.sem = fun _ => 0)

def quiescent_SumSmallReferenceIdeal [hSumSmallReferenceIdeal : Cert.SumSmallReferenceIdeal.Facts] : Prop :=
  ∀ (m : (ℓ : Loc Cert.SumSmallReferenceIdeal.nD Cert.SumSmallReferenceIdeal.τ Cert.SumSmallReferenceIdeal.sig) → Buf (Elt Ideal) ℓ) (g : Dev Cert.SumSmallReferenceIdeal.nD → PrngReg), Pre_SumSmallReferenceIdeal m →
    θ_run (Cert.SumSmallReferenceIdeal.defs (F := Ideal)) (onTc (τ := Cert.SumSmallReferenceIdeal.τ) (Cert.SumSmallReferenceIdeal.main (F := Ideal))) ⟨m, fun _ => 0, g⟩ (fun r => (∀ c : Dev Cert.SumSmallReferenceIdeal.nD,
      r.2.mem ((c.tc : Thread Cert.SumSmallReferenceIdeal.nD Cert.SumSmallReferenceIdeal.τ).loc Cert.SumSmallReferenceIdeal.main_arg0) = m ((c.tc : Thread Cert.SumSmallReferenceIdeal.nD Cert.SumSmallReferenceIdeal.τ).loc Cert.SumSmallReferenceIdeal.main_arg0))
      ∧ r.2.sem = fun _ => 0)

def quiescent_LossHeadKernel [hLossHeadKernel : Cert.LossHeadKernel.Facts] : Prop :=
  ∀ (m : (ℓ : Loc Cert.LossHeadKernel.nD Cert.LossHeadKernel.τ Cert.LossHeadKernel.sig) → Buf (Elt Bits) ℓ) (g : Dev Cert.LossHeadKernel.nD → PrngReg), Pre_LossHeadKernel m →
    θ_run (Cert.LossHeadKernel.defs (F := Bits)) (onTc (τ := Cert.LossHeadKernel.τ) (Cert.LossHeadKernel.main (F := Bits))) ⟨m, fun _ => 0, g⟩ (fun r => (∀ c : Dev Cert.LossHeadKernel.nD,
      r.2.mem ((c.tc : Thread Cert.LossHeadKernel.nD Cert.LossHeadKernel.τ).loc Cert.LossHeadKernel.main_arg0) = m ((c.tc : Thread Cert.LossHeadKernel.nD Cert.LossHeadKernel.τ).loc Cert.LossHeadKernel.main_arg0)
      ∧ r.2.mem ((c.tc : Thread Cert.LossHeadKernel.nD Cert.LossHeadKernel.τ).loc Cert.LossHeadKernel.main_arg1) = m ((c.tc : Thread Cert.LossHeadKernel.nD Cert.LossHeadKernel.τ).loc Cert.LossHeadKernel.main_arg1))
      ∧ r.2.sem = fun _ => 0)

def quiescent_LossHeadKernelIdeal [hLossHeadKernelIdeal : Cert.LossHeadKernelIdeal.Facts] : Prop :=
  ∀ (m : (ℓ : Loc Cert.LossHeadKernelIdeal.nD Cert.LossHeadKernelIdeal.τ Cert.LossHeadKernelIdeal.sig) → Buf (Elt Ideal) ℓ) (g : Dev Cert.LossHeadKernelIdeal.nD → PrngReg), Pre_LossHeadKernelIdeal m →
    θ_run (Cert.LossHeadKernelIdeal.defs (F := Ideal)) (onTc (τ := Cert.LossHeadKernelIdeal.τ) (Cert.LossHeadKernelIdeal.main (F := Ideal))) ⟨m, fun _ => 0, g⟩ (fun r => (∀ c : Dev Cert.LossHeadKernelIdeal.nD,
      r.2.mem ((c.tc : Thread Cert.LossHeadKernelIdeal.nD Cert.LossHeadKernelIdeal.τ).loc Cert.LossHeadKernelIdeal.main_arg0) = m ((c.tc : Thread Cert.LossHeadKernelIdeal.nD Cert.LossHeadKernelIdeal.τ).loc Cert.LossHeadKernelIdeal.main_arg0)
      ∧ r.2.mem ((c.tc : Thread Cert.LossHeadKernelIdeal.nD Cert.LossHeadKernelIdeal.τ).loc Cert.LossHeadKernelIdeal.main_arg1) = m ((c.tc : Thread Cert.LossHeadKernelIdeal.nD Cert.LossHeadKernelIdeal.τ).loc Cert.LossHeadKernelIdeal.main_arg1))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1))
      ∧ r.2.sem = fun _ => 0)

def quiescent_NormFKernel [hNormFKernel : Cert.NormFKernel.Facts] : Prop :=
  ∀ (m : (ℓ : Loc Cert.NormFKernel.nD Cert.NormFKernel.τ Cert.NormFKernel.sig) → Buf (Elt Bits) ℓ) (g : Dev Cert.NormFKernel.nD → PrngReg), Pre_NormFKernel m →
    θ_run (Cert.NormFKernel.defs (F := Bits)) (onTc (τ := Cert.NormFKernel.τ) (Cert.NormFKernel.main (F := Bits))) ⟨m, fun _ => 0, g⟩ (fun r => (∀ c : Dev Cert.NormFKernel.nD,
      r.2.mem ((c.tc : Thread Cert.NormFKernel.nD Cert.NormFKernel.τ).loc Cert.NormFKernel.main_arg0) = m ((c.tc : Thread Cert.NormFKernel.nD Cert.NormFKernel.τ).loc Cert.NormFKernel.main_arg0)
      ∧ r.2.mem ((c.tc : Thread Cert.NormFKernel.nD Cert.NormFKernel.τ).loc Cert.NormFKernel.main_arg1) = m ((c.tc : Thread Cert.NormFKernel.nD Cert.NormFKernel.τ).loc Cert.NormFKernel.main_arg1))
      ∧ r.2.sem = fun _ => 0)

def quiescent_NormFKernelIdeal [hNormFKernelIdeal : Cert.NormFKernelIdeal.Facts] : Prop :=
  ∀ (m : (ℓ : Loc Cert.NormFKernelIdeal.nD Cert.NormFKernelIdeal.τ Cert.NormFKernelIdeal.sig) → Buf (Elt Ideal) ℓ) (g : Dev Cert.NormFKernelIdeal.nD → PrngReg), Pre_NormFKernelIdeal m →
    θ_run (Cert.NormFKernelIdeal.defs (F := Ideal)) (onTc (τ := Cert.NormFKernelIdeal.τ) (Cert.NormFKernelIdeal.main (F := Ideal))) ⟨m, fun _ => 0, g⟩ (fun r => (∀ c : Dev Cert.NormFKernelIdeal.nD,
      r.2.mem ((c.tc : Thread Cert.NormFKernelIdeal.nD Cert.NormFKernelIdeal.τ).loc Cert.NormFKernelIdeal.main_arg0) = m ((c.tc : Thread Cert.NormFKernelIdeal.nD Cert.NormFKernelIdeal.τ).loc Cert.NormFKernelIdeal.main_arg0)
      ∧ r.2.mem ((c.tc : Thread Cert.NormFKernelIdeal.nD Cert.NormFKernelIdeal.τ).loc Cert.NormFKernelIdeal.main_arg1) = m ((c.tc : Thread Cert.NormFKernelIdeal.nD Cert.NormFKernelIdeal.τ).loc Cert.NormFKernelIdeal.main_arg1))
      ∧ r.2.sem = fun _ => 0)

def quiescent_NormFReferenceIdeal [hNormFReferenceIdeal : Cert.NormFReferenceIdeal.Facts] : Prop :=
  ∀ (m : (ℓ : Loc Cert.NormFReferenceIdeal.nD Cert.NormFReferenceIdeal.τ Cert.NormFReferenceIdeal.sig) → Buf (Elt Ideal) ℓ) (g : Dev Cert.NormFReferenceIdeal.nD → PrngReg), Pre_NormFReferenceIdeal m →
    θ_run (Cert.NormFReferenceIdeal.defs (F := Ideal)) (onTc (τ := Cert.NormFReferenceIdeal.τ) (Cert.NormFReferenceIdeal.main (F := Ideal))) ⟨m, fun _ => 0, g⟩ (fun r => (∀ c : Dev Cert.NormFReferenceIdeal.nD,
      r.2.mem ((c.tc : Thread Cert.NormFReferenceIdeal.nD Cert.NormFReferenceIdeal.τ).loc Cert.NormFReferenceIdeal.main_arg0) = m ((c.tc : Thread Cert.NormFReferenceIdeal.nD Cert.NormFReferenceIdeal.τ).loc Cert.NormFReferenceIdeal.main_arg0)
      ∧ r.2.mem ((c.tc : Thread Cert.NormFReferenceIdeal.nD Cert.NormFReferenceIdeal.τ).loc Cert.NormFReferenceIdeal.main_arg1) = m ((c.tc : Thread Cert.NormFReferenceIdeal.nD Cert.NormFReferenceIdeal.τ).loc Cert.NormFReferenceIdeal.main_arg1))
      ∧ r.2.sem = fun _ => 0)

def quiescent_MergeFKernel [hMergeFKernel : Cert.MergeFKernel.Facts] : Prop :=
  ∀ (m : (ℓ : Loc Cert.MergeFKernel.nD Cert.MergeFKernel.τ Cert.MergeFKernel.sig) → Buf (Elt Bits) ℓ) (g : Dev Cert.MergeFKernel.nD → PrngReg), Pre_MergeFKernel m →
    θ_run (Cert.MergeFKernel.defs (F := Bits)) (onTc (τ := Cert.MergeFKernel.τ) (Cert.MergeFKernel.main (F := Bits))) ⟨m, fun _ => 0, g⟩ (fun r => (∀ c : Dev Cert.MergeFKernel.nD,
      r.2.mem ((c.tc : Thread Cert.MergeFKernel.nD Cert.MergeFKernel.τ).loc Cert.MergeFKernel.main_arg0) = m ((c.tc : Thread Cert.MergeFKernel.nD Cert.MergeFKernel.τ).loc Cert.MergeFKernel.main_arg0)
      ∧ r.2.mem ((c.tc : Thread Cert.MergeFKernel.nD Cert.MergeFKernel.τ).loc Cert.MergeFKernel.main_arg1) = m ((c.tc : Thread Cert.MergeFKernel.nD Cert.MergeFKernel.τ).loc Cert.MergeFKernel.main_arg1)
      ∧ r.2.mem ((c.tc : Thread Cert.MergeFKernel.nD Cert.MergeFKernel.τ).loc Cert.MergeFKernel.main_arg2) = m ((c.tc : Thread Cert.MergeFKernel.nD Cert.MergeFKernel.τ).loc Cert.MergeFKernel.main_arg2)
      ∧ r.2.mem ((c.tc : Thread Cert.MergeFKernel.nD Cert.MergeFKernel.τ).loc Cert.MergeFKernel.main_arg3) = m ((c.tc : Thread Cert.MergeFKernel.nD Cert.MergeFKernel.τ).loc Cert.MergeFKernel.main_arg3))
      ∧ r.2.sem = fun _ => 0)

def quiescent_MergeFKernelIdeal [hMergeFKernelIdeal : Cert.MergeFKernelIdeal.Facts] : Prop :=
  ∀ (m : (ℓ : Loc Cert.MergeFKernelIdeal.nD Cert.MergeFKernelIdeal.τ Cert.MergeFKernelIdeal.sig) → Buf (Elt Ideal) ℓ) (g : Dev Cert.MergeFKernelIdeal.nD → PrngReg), Pre_MergeFKernelIdeal m →
    θ_run (Cert.MergeFKernelIdeal.defs (F := Ideal)) (onTc (τ := Cert.MergeFKernelIdeal.τ) (Cert.MergeFKernelIdeal.main (F := Ideal))) ⟨m, fun _ => 0, g⟩ (fun r => (∀ c : Dev Cert.MergeFKernelIdeal.nD,
      r.2.mem ((c.tc : Thread Cert.MergeFKernelIdeal.nD Cert.MergeFKernelIdeal.τ).loc Cert.MergeFKernelIdeal.main_arg0) = m ((c.tc : Thread Cert.MergeFKernelIdeal.nD Cert.MergeFKernelIdeal.τ).loc Cert.MergeFKernelIdeal.main_arg0)
      ∧ r.2.mem ((c.tc : Thread Cert.MergeFKernelIdeal.nD Cert.MergeFKernelIdeal.τ).loc Cert.MergeFKernelIdeal.main_arg1) = m ((c.tc : Thread Cert.MergeFKernelIdeal.nD Cert.MergeFKernelIdeal.τ).loc Cert.MergeFKernelIdeal.main_arg1)
      ∧ r.2.mem ((c.tc : Thread Cert.MergeFKernelIdeal.nD Cert.MergeFKernelIdeal.τ).loc Cert.MergeFKernelIdeal.main_arg2) = m ((c.tc : Thread Cert.MergeFKernelIdeal.nD Cert.MergeFKernelIdeal.τ).loc Cert.MergeFKernelIdeal.main_arg2)
      ∧ r.2.mem ((c.tc : Thread Cert.MergeFKernelIdeal.nD Cert.MergeFKernelIdeal.τ).loc Cert.MergeFKernelIdeal.main_arg3) = m ((c.tc : Thread Cert.MergeFKernelIdeal.nD Cert.MergeFKernelIdeal.τ).loc Cert.MergeFKernelIdeal.main_arg3))
      ∧ r.2.sem = fun _ => 0)

def quiescent_MergeFReferenceIdeal [hMergeFReferenceIdeal : Cert.MergeFReferenceIdeal.Facts] : Prop :=
  ∀ (m : (ℓ : Loc Cert.MergeFReferenceIdeal.nD Cert.MergeFReferenceIdeal.τ Cert.MergeFReferenceIdeal.sig) → Buf (Elt Ideal) ℓ) (g : Dev Cert.MergeFReferenceIdeal.nD → PrngReg), Pre_MergeFReferenceIdeal m →
    θ_run (Cert.MergeFReferenceIdeal.defs (F := Ideal)) (onTc (τ := Cert.MergeFReferenceIdeal.τ) (Cert.MergeFReferenceIdeal.main (F := Ideal))) ⟨m, fun _ => 0, g⟩ (fun r => (∀ c : Dev Cert.MergeFReferenceIdeal.nD,
      r.2.mem ((c.tc : Thread Cert.MergeFReferenceIdeal.nD Cert.MergeFReferenceIdeal.τ).loc Cert.MergeFReferenceIdeal.main_arg0) = m ((c.tc : Thread Cert.MergeFReferenceIdeal.nD Cert.MergeFReferenceIdeal.τ).loc Cert.MergeFReferenceIdeal.main_arg0)
      ∧ r.2.mem ((c.tc : Thread Cert.MergeFReferenceIdeal.nD Cert.MergeFReferenceIdeal.τ).loc Cert.MergeFReferenceIdeal.main_arg1) = m ((c.tc : Thread Cert.MergeFReferenceIdeal.nD Cert.MergeFReferenceIdeal.τ).loc Cert.MergeFReferenceIdeal.main_arg1)
      ∧ r.2.mem ((c.tc : Thread Cert.MergeFReferenceIdeal.nD Cert.MergeFReferenceIdeal.τ).loc Cert.MergeFReferenceIdeal.main_arg2) = m ((c.tc : Thread Cert.MergeFReferenceIdeal.nD Cert.MergeFReferenceIdeal.τ).loc Cert.MergeFReferenceIdeal.main_arg2)
      ∧ r.2.mem ((c.tc : Thread Cert.MergeFReferenceIdeal.nD Cert.MergeFReferenceIdeal.τ).loc Cert.MergeFReferenceIdeal.main_arg3) = m ((c.tc : Thread Cert.MergeFReferenceIdeal.nD Cert.MergeFReferenceIdeal.τ).loc Cert.MergeFReferenceIdeal.main_arg3))
      ∧ r.2.sem = fun _ => 0)

def quiescent_GluFKernel [hGluFKernel : Cert.GluFKernel.Facts] : Prop :=
  ∀ (m : (ℓ : Loc Cert.GluFKernel.nD Cert.GluFKernel.τ Cert.GluFKernel.sig) → Buf (Elt Bits) ℓ) (g : Dev Cert.GluFKernel.nD → PrngReg), Pre_GluFKernel m →
    θ_run (Cert.GluFKernel.defs (F := Bits)) (onTc (τ := Cert.GluFKernel.τ) (Cert.GluFKernel.main (F := Bits))) ⟨m, fun _ => 0, g⟩ (fun r => (∀ c : Dev Cert.GluFKernel.nD,
      r.2.mem ((c.tc : Thread Cert.GluFKernel.nD Cert.GluFKernel.τ).loc Cert.GluFKernel.main_arg0) = m ((c.tc : Thread Cert.GluFKernel.nD Cert.GluFKernel.τ).loc Cert.GluFKernel.main_arg0)
      ∧ r.2.mem ((c.tc : Thread Cert.GluFKernel.nD Cert.GluFKernel.τ).loc Cert.GluFKernel.main_arg1) = m ((c.tc : Thread Cert.GluFKernel.nD Cert.GluFKernel.τ).loc Cert.GluFKernel.main_arg1)
      ∧ r.2.mem ((c.tc : Thread Cert.GluFKernel.nD Cert.GluFKernel.τ).loc Cert.GluFKernel.main_arg2) = m ((c.tc : Thread Cert.GluFKernel.nD Cert.GluFKernel.τ).loc Cert.GluFKernel.main_arg2)
      ∧ r.2.mem ((c.tc : Thread Cert.GluFKernel.nD Cert.GluFKernel.τ).loc Cert.GluFKernel.main_arg3) = m ((c.tc : Thread Cert.GluFKernel.nD Cert.GluFKernel.τ).loc Cert.GluFKernel.main_arg3))
      ∧ r.2.sem = fun _ => 0)

def quiescent_GluFKernelIdeal [hGluFKernelIdeal : Cert.GluFKernelIdeal.Facts] : Prop :=
  ∀ (m : (ℓ : Loc Cert.GluFKernelIdeal.nD Cert.GluFKernelIdeal.τ Cert.GluFKernelIdeal.sig) → Buf (Elt Ideal) ℓ) (g : Dev Cert.GluFKernelIdeal.nD → PrngReg), Pre_GluFKernelIdeal m →
    θ_run (Cert.GluFKernelIdeal.defs (F := Ideal)) (onTc (τ := Cert.GluFKernelIdeal.τ) (Cert.GluFKernelIdeal.main (F := Ideal))) ⟨m, fun _ => 0, g⟩ (fun r => (∀ c : Dev Cert.GluFKernelIdeal.nD,
      r.2.mem ((c.tc : Thread Cert.GluFKernelIdeal.nD Cert.GluFKernelIdeal.τ).loc Cert.GluFKernelIdeal.main_arg0) = m ((c.tc : Thread Cert.GluFKernelIdeal.nD Cert.GluFKernelIdeal.τ).loc Cert.GluFKernelIdeal.main_arg0)
      ∧ r.2.mem ((c.tc : Thread Cert.GluFKernelIdeal.nD Cert.GluFKernelIdeal.τ).loc Cert.GluFKernelIdeal.main_arg1) = m ((c.tc : Thread Cert.GluFKernelIdeal.nD Cert.GluFKernelIdeal.τ).loc Cert.GluFKernelIdeal.main_arg1)
      ∧ r.2.mem ((c.tc : Thread Cert.GluFKernelIdeal.nD Cert.GluFKernelIdeal.τ).loc Cert.GluFKernelIdeal.main_arg2) = m ((c.tc : Thread Cert.GluFKernelIdeal.nD Cert.GluFKernelIdeal.τ).loc Cert.GluFKernelIdeal.main_arg2)
      ∧ r.2.mem ((c.tc : Thread Cert.GluFKernelIdeal.nD Cert.GluFKernelIdeal.τ).loc Cert.GluFKernelIdeal.main_arg3) = m ((c.tc : Thread Cert.GluFKernelIdeal.nD Cert.GluFKernelIdeal.τ).loc Cert.GluFKernelIdeal.main_arg3))
      ∧ r.2.sem = fun _ => 0)

def quiescent_GluFReferenceIdeal [hGluFReferenceIdeal : Cert.GluFReferenceIdeal.Facts] : Prop :=
  ∀ (m : (ℓ : Loc Cert.GluFReferenceIdeal.nD Cert.GluFReferenceIdeal.τ Cert.GluFReferenceIdeal.sig) → Buf (Elt Ideal) ℓ) (g : Dev Cert.GluFReferenceIdeal.nD → PrngReg), Pre_GluFReferenceIdeal m →
    θ_run (Cert.GluFReferenceIdeal.defs (F := Ideal)) (onTc (τ := Cert.GluFReferenceIdeal.τ) (Cert.GluFReferenceIdeal.main (F := Ideal))) ⟨m, fun _ => 0, g⟩ (fun r => (∀ c : Dev Cert.GluFReferenceIdeal.nD,
      r.2.mem ((c.tc : Thread Cert.GluFReferenceIdeal.nD Cert.GluFReferenceIdeal.τ).loc Cert.GluFReferenceIdeal.main_arg0) = m ((c.tc : Thread Cert.GluFReferenceIdeal.nD Cert.GluFReferenceIdeal.τ).loc Cert.GluFReferenceIdeal.main_arg0)
      ∧ r.2.mem ((c.tc : Thread Cert.GluFReferenceIdeal.nD Cert.GluFReferenceIdeal.τ).loc Cert.GluFReferenceIdeal.main_arg1) = m ((c.tc : Thread Cert.GluFReferenceIdeal.nD Cert.GluFReferenceIdeal.τ).loc Cert.GluFReferenceIdeal.main_arg1)
      ∧ r.2.mem ((c.tc : Thread Cert.GluFReferenceIdeal.nD Cert.GluFReferenceIdeal.τ).loc Cert.GluFReferenceIdeal.main_arg2) = m ((c.tc : Thread Cert.GluFReferenceIdeal.nD Cert.GluFReferenceIdeal.τ).loc Cert.GluFReferenceIdeal.main_arg2)
      ∧ r.2.mem ((c.tc : Thread Cert.GluFReferenceIdeal.nD Cert.GluFReferenceIdeal.τ).loc Cert.GluFReferenceIdeal.main_arg3) = m ((c.tc : Thread Cert.GluFReferenceIdeal.nD Cert.GluFReferenceIdeal.τ).loc Cert.GluFReferenceIdeal.main_arg3))
      ∧ r.2.sem = fun _ => 0)

def quiescent_CombKernel [hCombKernel : Cert.CombKernel.Facts] : Prop :=
  ∀ (m : (ℓ : Loc Cert.CombKernel.nD Cert.CombKernel.τ Cert.CombKernel.sig) → Buf (Elt Bits) ℓ) (g : Dev Cert.CombKernel.nD → PrngReg), Pre_CombKernel m →
    θ_run (Cert.CombKernel.defs (F := Bits)) (onTc (τ := Cert.CombKernel.τ) (Cert.CombKernel.main (F := Bits))) ⟨m, fun _ => 0, g⟩ (fun r => (∀ c : Dev Cert.CombKernel.nD,
      r.2.mem ((c.tc : Thread Cert.CombKernel.nD Cert.CombKernel.τ).loc Cert.CombKernel.main_arg0) = m ((c.tc : Thread Cert.CombKernel.nD Cert.CombKernel.τ).loc Cert.CombKernel.main_arg0)
      ∧ r.2.mem ((c.tc : Thread Cert.CombKernel.nD Cert.CombKernel.τ).loc Cert.CombKernel.main_arg1) = m ((c.tc : Thread Cert.CombKernel.nD Cert.CombKernel.τ).loc Cert.CombKernel.main_arg1)
      ∧ r.2.mem ((c.tc : Thread Cert.CombKernel.nD Cert.CombKernel.τ).loc Cert.CombKernel.main_arg2) = m ((c.tc : Thread Cert.CombKernel.nD Cert.CombKernel.τ).loc Cert.CombKernel.main_arg2)
      ∧ r.2.mem ((c.tc : Thread Cert.CombKernel.nD Cert.CombKernel.τ).loc Cert.CombKernel.main_arg3) = m ((c.tc : Thread Cert.CombKernel.nD Cert.CombKernel.τ).loc Cert.CombKernel.main_arg3)
      ∧ r.2.mem ((c.tc : Thread Cert.CombKernel.nD Cert.CombKernel.τ).loc Cert.CombKernel.main_arg4) = m ((c.tc : Thread Cert.CombKernel.nD Cert.CombKernel.τ).loc Cert.CombKernel.main_arg4)
      ∧ r.2.mem ((c.tc : Thread Cert.CombKernel.nD Cert.CombKernel.τ).loc Cert.CombKernel.main_arg5) = m ((c.tc : Thread Cert.CombKernel.nD Cert.CombKernel.τ).loc Cert.CombKernel.main_arg5)
      ∧ r.2.mem ((c.tc : Thread Cert.CombKernel.nD Cert.CombKernel.τ).loc Cert.CombKernel.main_arg6) = m ((c.tc : Thread Cert.CombKernel.nD Cert.CombKernel.τ).loc Cert.CombKernel.main_arg6))
      ∧ r.2.sem = fun _ => 0)

def quiescent_CombKernelIdeal [hCombKernelIdeal : Cert.CombKernelIdeal.Facts] : Prop :=
  ∀ (m : (ℓ : Loc Cert.CombKernelIdeal.nD Cert.CombKernelIdeal.τ Cert.CombKernelIdeal.sig) → Buf (Elt Ideal) ℓ) (g : Dev Cert.CombKernelIdeal.nD → PrngReg), Pre_CombKernelIdeal m →
    θ_run (Cert.CombKernelIdeal.defs (F := Ideal)) (onTc (τ := Cert.CombKernelIdeal.τ) (Cert.CombKernelIdeal.main (F := Ideal))) ⟨m, fun _ => 0, g⟩ (fun r => (∀ c : Dev Cert.CombKernelIdeal.nD,
      r.2.mem ((c.tc : Thread Cert.CombKernelIdeal.nD Cert.CombKernelIdeal.τ).loc Cert.CombKernelIdeal.main_arg0) = m ((c.tc : Thread Cert.CombKernelIdeal.nD Cert.CombKernelIdeal.τ).loc Cert.CombKernelIdeal.main_arg0)
      ∧ r.2.mem ((c.tc : Thread Cert.CombKernelIdeal.nD Cert.CombKernelIdeal.τ).loc Cert.CombKernelIdeal.main_arg1) = m ((c.tc : Thread Cert.CombKernelIdeal.nD Cert.CombKernelIdeal.τ).loc Cert.CombKernelIdeal.main_arg1)
      ∧ r.2.mem ((c.tc : Thread Cert.CombKernelIdeal.nD Cert.CombKernelIdeal.τ).loc Cert.CombKernelIdeal.main_arg2) = m ((c.tc : Thread Cert.CombKernelIdeal.nD Cert.CombKernelIdeal.τ).loc Cert.CombKernelIdeal.main_arg2)
      ∧ r.2.mem ((c.tc : Thread Cert.CombKernelIdeal.nD Cert.CombKernelIdeal.τ).loc Cert.CombKernelIdeal.main_arg3) = m ((c.tc : Thread Cert.CombKernelIdeal.nD Cert.CombKernelIdeal.τ).loc Cert.CombKernelIdeal.main_arg3)
      ∧ r.2.mem ((c.tc : Thread Cert.CombKernelIdeal.nD Cert.CombKernelIdeal.τ).loc Cert.CombKernelIdeal.main_arg4) = m ((c.tc : Thread Cert.CombKernelIdeal.nD Cert.CombKernelIdeal.τ).loc Cert.CombKernelIdeal.main_arg4)
      ∧ r.2.mem ((c.tc : Thread Cert.CombKernelIdeal.nD Cert.CombKernelIdeal.τ).loc Cert.CombKernelIdeal.main_arg5) = m ((c.tc : Thread Cert.CombKernelIdeal.nD Cert.CombKernelIdeal.τ).loc Cert.CombKernelIdeal.main_arg5)
      ∧ r.2.mem ((c.tc : Thread Cert.CombKernelIdeal.nD Cert.CombKernelIdeal.τ).loc Cert.CombKernelIdeal.main_arg6) = m ((c.tc : Thread Cert.CombKernelIdeal.nD Cert.CombKernelIdeal.τ).loc Cert.CombKernelIdeal.main_arg6))
      ∧ r.2.sem = fun _ => 0)

def quiescent_CombKernelIdeal_pre_weights_finite [hCombKernelIdeal : Cert.CombKernelIdeal.Facts] [hPre_weights_finite : Cert.Pre_weights_finite.Facts] : Prop :=
  ∀ (m : (ℓ : Loc Cert.CombKernelIdeal.nD Cert.CombKernelIdeal.τ Cert.CombKernelIdeal.sig) → Buf (Elt Ideal) ℓ) (g : Dev Cert.CombKernelIdeal.nD → PrngReg), Pre_CombKernelIdeal_weights_finite m →
    θ_run (Cert.CombKernelIdeal.defs (F := Ideal)) (onTc (τ := Cert.CombKernelIdeal.τ) (Cert.CombKernelIdeal.main (F := Ideal))) ⟨m, fun _ => 0, g⟩ (fun r => (∀ c : Dev Cert.CombKernelIdeal.nD,
      r.2.mem ((c.tc : Thread Cert.CombKernelIdeal.nD Cert.CombKernelIdeal.τ).loc Cert.CombKernelIdeal.main_arg0) = m ((c.tc : Thread Cert.CombKernelIdeal.nD Cert.CombKernelIdeal.τ).loc Cert.CombKernelIdeal.main_arg0)
      ∧ r.2.mem ((c.tc : Thread Cert.CombKernelIdeal.nD Cert.CombKernelIdeal.τ).loc Cert.CombKernelIdeal.main_arg1) = m ((c.tc : Thread Cert.CombKernelIdeal.nD Cert.CombKernelIdeal.τ).loc Cert.CombKernelIdeal.main_arg1)
      ∧ r.2.mem ((c.tc : Thread Cert.CombKernelIdeal.nD Cert.CombKernelIdeal.τ).loc Cert.CombKernelIdeal.main_arg2) = m ((c.tc : Thread Cert.CombKernelIdeal.nD Cert.CombKernelIdeal.τ).loc Cert.CombKernelIdeal.main_arg2)
      ∧ r.2.mem ((c.tc : Thread Cert.CombKernelIdeal.nD Cert.CombKernelIdeal.τ).loc Cert.CombKernelIdeal.main_arg3) = m ((c.tc : Thread Cert.CombKernelIdeal.nD Cert.CombKernelIdeal.τ).loc Cert.CombKernelIdeal.main_arg3)
      ∧ r.2.mem ((c.tc : Thread Cert.CombKernelIdeal.nD Cert.CombKernelIdeal.τ).loc Cert.CombKernelIdeal.main_arg4) = m ((c.tc : Thread Cert.CombKernelIdeal.nD Cert.CombKernelIdeal.τ).loc Cert.CombKernelIdeal.main_arg4)
      ∧ r.2.mem ((c.tc : Thread Cert.CombKernelIdeal.nD Cert.CombKernelIdeal.τ).loc Cert.CombKernelIdeal.main_arg5) = m ((c.tc : Thread Cert.CombKernelIdeal.nD Cert.CombKernelIdeal.τ).loc Cert.CombKernelIdeal.main_arg5)
      ∧ r.2.mem ((c.tc : Thread Cert.CombKernelIdeal.nD Cert.CombKernelIdeal.τ).loc Cert.CombKernelIdeal.main_arg6) = m ((c.tc : Thread Cert.CombKernelIdeal.nD Cert.CombKernelIdeal.τ).loc Cert.CombKernelIdeal.main_arg6))
      ∧ r.2.sem = fun _ => 0)

def quiescent_CombReferenceIdeal [hCombReferenceIdeal : Cert.CombReferenceIdeal.Facts] : Prop :=
  ∀ (m : (ℓ : Loc Cert.CombReferenceIdeal.nD Cert.CombReferenceIdeal.τ Cert.CombReferenceIdeal.sig) → Buf (Elt Ideal) ℓ) (g : Dev Cert.CombReferenceIdeal.nD → PrngReg), Pre_CombReferenceIdeal m →
    θ_run (Cert.CombReferenceIdeal.defs (F := Ideal)) (onTc (τ := Cert.CombReferenceIdeal.τ) (Cert.CombReferenceIdeal.main (F := Ideal))) ⟨m, fun _ => 0, g⟩ (fun r => (∀ c : Dev Cert.CombReferenceIdeal.nD,
      r.2.mem ((c.tc : Thread Cert.CombReferenceIdeal.nD Cert.CombReferenceIdeal.τ).loc Cert.CombReferenceIdeal.main_arg0) = m ((c.tc : Thread Cert.CombReferenceIdeal.nD Cert.CombReferenceIdeal.τ).loc Cert.CombReferenceIdeal.main_arg0)
      ∧ r.2.mem ((c.tc : Thread Cert.CombReferenceIdeal.nD Cert.CombReferenceIdeal.τ).loc Cert.CombReferenceIdeal.main_arg1) = m ((c.tc : Thread Cert.CombReferenceIdeal.nD Cert.CombReferenceIdeal.τ).loc Cert.CombReferenceIdeal.main_arg1)
      ∧ r.2.mem ((c.tc : Thread Cert.CombReferenceIdeal.nD Cert.CombReferenceIdeal.τ).loc Cert.CombReferenceIdeal.main_arg2) = m ((c.tc : Thread Cert.CombReferenceIdeal.nD Cert.CombReferenceIdeal.τ).loc Cert.CombReferenceIdeal.main_arg2)
      ∧ r.2.mem ((c.tc : Thread Cert.CombReferenceIdeal.nD Cert.CombReferenceIdeal.τ).loc Cert.CombReferenceIdeal.main_arg3) = m ((c.tc : Thread Cert.CombReferenceIdeal.nD Cert.CombReferenceIdeal.τ).loc Cert.CombReferenceIdeal.main_arg3)
      ∧ r.2.mem ((c.tc : Thread Cert.CombReferenceIdeal.nD Cert.CombReferenceIdeal.τ).loc Cert.CombReferenceIdeal.main_arg4) = m ((c.tc : Thread Cert.CombReferenceIdeal.nD Cert.CombReferenceIdeal.τ).loc Cert.CombReferenceIdeal.main_arg4)
      ∧ r.2.mem ((c.tc : Thread Cert.CombReferenceIdeal.nD Cert.CombReferenceIdeal.τ).loc Cert.CombReferenceIdeal.main_arg5) = m ((c.tc : Thread Cert.CombReferenceIdeal.nD Cert.CombReferenceIdeal.τ).loc Cert.CombReferenceIdeal.main_arg5)
      ∧ r.2.mem ((c.tc : Thread Cert.CombReferenceIdeal.nD Cert.CombReferenceIdeal.τ).loc Cert.CombReferenceIdeal.main_arg6) = m ((c.tc : Thread Cert.CombReferenceIdeal.nD Cert.CombReferenceIdeal.τ).loc Cert.CombReferenceIdeal.main_arg6))
      ∧ r.2.sem = fun _ => 0)

def quiescent_CombReferenceIdeal_pre_weights_finite [hCombReferenceIdeal : Cert.CombReferenceIdeal.Facts] [hPre_weights_finite : Cert.Pre_weights_finite.Facts] : Prop :=
  ∀ (m : (ℓ : Loc Cert.CombReferenceIdeal.nD Cert.CombReferenceIdeal.τ Cert.CombReferenceIdeal.sig) → Buf (Elt Ideal) ℓ) (g : Dev Cert.CombReferenceIdeal.nD → PrngReg), Pre_CombReferenceIdeal_weights_finite m →
    θ_run (Cert.CombReferenceIdeal.defs (F := Ideal)) (onTc (τ := Cert.CombReferenceIdeal.τ) (Cert.CombReferenceIdeal.main (F := Ideal))) ⟨m, fun _ => 0, g⟩ (fun r => (∀ c : Dev Cert.CombReferenceIdeal.nD,
      r.2.mem ((c.tc : Thread Cert.CombReferenceIdeal.nD Cert.CombReferenceIdeal.τ).loc Cert.CombReferenceIdeal.main_arg0) = m ((c.tc : Thread Cert.CombReferenceIdeal.nD Cert.CombReferenceIdeal.τ).loc Cert.CombReferenceIdeal.main_arg0)
      ∧ r.2.mem ((c.tc : Thread Cert.CombReferenceIdeal.nD Cert.CombReferenceIdeal.τ).loc Cert.CombReferenceIdeal.main_arg1) = m ((c.tc : Thread Cert.CombReferenceIdeal.nD Cert.CombReferenceIdeal.τ).loc Cert.CombReferenceIdeal.main_arg1)
      ∧ r.2.mem ((c.tc : Thread Cert.CombReferenceIdeal.nD Cert.CombReferenceIdeal.τ).loc Cert.CombReferenceIdeal.main_arg2) = m ((c.tc : Thread Cert.CombReferenceIdeal.nD Cert.CombReferenceIdeal.τ).loc Cert.CombReferenceIdeal.main_arg2)
      ∧ r.2.mem ((c.tc : Thread Cert.CombReferenceIdeal.nD Cert.CombReferenceIdeal.τ).loc Cert.CombReferenceIdeal.main_arg3) = m ((c.tc : Thread Cert.CombReferenceIdeal.nD Cert.CombReferenceIdeal.τ).loc Cert.CombReferenceIdeal.main_arg3)
      ∧ r.2.mem ((c.tc : Thread Cert.CombReferenceIdeal.nD Cert.CombReferenceIdeal.τ).loc Cert.CombReferenceIdeal.main_arg4) = m ((c.tc : Thread Cert.CombReferenceIdeal.nD Cert.CombReferenceIdeal.τ).loc Cert.CombReferenceIdeal.main_arg4)
      ∧ r.2.mem ((c.tc : Thread Cert.CombReferenceIdeal.nD Cert.CombReferenceIdeal.τ).loc Cert.CombReferenceIdeal.main_arg5) = m ((c.tc : Thread Cert.CombReferenceIdeal.nD Cert.CombReferenceIdeal.τ).loc Cert.CombReferenceIdeal.main_arg5)
      ∧ r.2.mem ((c.tc : Thread Cert.CombReferenceIdeal.nD Cert.CombReferenceIdeal.τ).loc Cert.CombReferenceIdeal.main_arg6) = m ((c.tc : Thread Cert.CombReferenceIdeal.nD Cert.CombReferenceIdeal.τ).loc Cert.CombReferenceIdeal.main_arg6))
      ∧ r.2.sem = fun _ => 0)

def quiescent_CombBKernel [hCombBKernel : Cert.CombBKernel.Facts] : Prop :=
  ∀ (m : (ℓ : Loc Cert.CombBKernel.nD Cert.CombBKernel.τ Cert.CombBKernel.sig) → Buf (Elt Bits) ℓ) (g : Dev Cert.CombBKernel.nD → PrngReg), Pre_CombBKernel m →
    θ_run (Cert.CombBKernel.defs (F := Bits)) (onTc (τ := Cert.CombBKernel.τ) (Cert.CombBKernel.main (F := Bits))) ⟨m, fun _ => 0, g⟩ (fun r => (∀ c : Dev Cert.CombBKernel.nD,
      r.2.mem ((c.tc : Thread Cert.CombBKernel.nD Cert.CombBKernel.τ).loc Cert.CombBKernel.main_arg0) = m ((c.tc : Thread Cert.CombBKernel.nD Cert.CombBKernel.τ).loc Cert.CombBKernel.main_arg0)
      ∧ r.2.mem ((c.tc : Thread Cert.CombBKernel.nD Cert.CombBKernel.τ).loc Cert.CombBKernel.main_arg1) = m ((c.tc : Thread Cert.CombBKernel.nD Cert.CombBKernel.τ).loc Cert.CombBKernel.main_arg1)
      ∧ r.2.mem ((c.tc : Thread Cert.CombBKernel.nD Cert.CombBKernel.τ).loc Cert.CombBKernel.main_arg2) = m ((c.tc : Thread Cert.CombBKernel.nD Cert.CombBKernel.τ).loc Cert.CombBKernel.main_arg2)
      ∧ r.2.mem ((c.tc : Thread Cert.CombBKernel.nD Cert.CombBKernel.τ).loc Cert.CombBKernel.main_arg3) = m ((c.tc : Thread Cert.CombBKernel.nD Cert.CombBKernel.τ).loc Cert.CombBKernel.main_arg3)
      ∧ r.2.mem ((c.tc : Thread Cert.CombBKernel.nD Cert.CombBKernel.τ).loc Cert.CombBKernel.main_arg4) = m ((c.tc : Thread Cert.CombBKernel.nD Cert.CombBKernel.τ).loc Cert.CombBKernel.main_arg4)
      ∧ r.2.mem ((c.tc : Thread Cert.CombBKernel.nD Cert.CombBKernel.τ).loc Cert.CombBKernel.main_arg5) = m ((c.tc : Thread Cert.CombBKernel.nD Cert.CombBKernel.τ).loc Cert.CombBKernel.main_arg5)
      ∧ r.2.mem ((c.tc : Thread Cert.CombBKernel.nD Cert.CombBKernel.τ).loc Cert.CombBKernel.main_arg6) = m ((c.tc : Thread Cert.CombBKernel.nD Cert.CombBKernel.τ).loc Cert.CombBKernel.main_arg6)
      ∧ r.2.mem ((c.tc : Thread Cert.CombBKernel.nD Cert.CombBKernel.τ).loc Cert.CombBKernel.main_arg7) = m ((c.tc : Thread Cert.CombBKernel.nD Cert.CombBKernel.τ).loc Cert.CombBKernel.main_arg7))
      ∧ r.2.sem = fun _ => 0)

def quiescent_CombBKernelIdeal [hCombBKernelIdeal : Cert.CombBKernelIdeal.Facts] : Prop :=
  ∀ (m : (ℓ : Loc Cert.CombBKernelIdeal.nD Cert.CombBKernelIdeal.τ Cert.CombBKernelIdeal.sig) → Buf (Elt Ideal) ℓ) (g : Dev Cert.CombBKernelIdeal.nD → PrngReg), Pre_CombBKernelIdeal m →
    θ_run (Cert.CombBKernelIdeal.defs (F := Ideal)) (onTc (τ := Cert.CombBKernelIdeal.τ) (Cert.CombBKernelIdeal.main (F := Ideal))) ⟨m, fun _ => 0, g⟩ (fun r => (∀ c : Dev Cert.CombBKernelIdeal.nD,
      r.2.mem ((c.tc : Thread Cert.CombBKernelIdeal.nD Cert.CombBKernelIdeal.τ).loc Cert.CombBKernelIdeal.main_arg0) = m ((c.tc : Thread Cert.CombBKernelIdeal.nD Cert.CombBKernelIdeal.τ).loc Cert.CombBKernelIdeal.main_arg0)
      ∧ r.2.mem ((c.tc : Thread Cert.CombBKernelIdeal.nD Cert.CombBKernelIdeal.τ).loc Cert.CombBKernelIdeal.main_arg1) = m ((c.tc : Thread Cert.CombBKernelIdeal.nD Cert.CombBKernelIdeal.τ).loc Cert.CombBKernelIdeal.main_arg1)
      ∧ r.2.mem ((c.tc : Thread Cert.CombBKernelIdeal.nD Cert.CombBKernelIdeal.τ).loc Cert.CombBKernelIdeal.main_arg2) = m ((c.tc : Thread Cert.CombBKernelIdeal.nD Cert.CombBKernelIdeal.τ).loc Cert.CombBKernelIdeal.main_arg2)
      ∧ r.2.mem ((c.tc : Thread Cert.CombBKernelIdeal.nD Cert.CombBKernelIdeal.τ).loc Cert.CombBKernelIdeal.main_arg3) = m ((c.tc : Thread Cert.CombBKernelIdeal.nD Cert.CombBKernelIdeal.τ).loc Cert.CombBKernelIdeal.main_arg3)
      ∧ r.2.mem ((c.tc : Thread Cert.CombBKernelIdeal.nD Cert.CombBKernelIdeal.τ).loc Cert.CombBKernelIdeal.main_arg4) = m ((c.tc : Thread Cert.CombBKernelIdeal.nD Cert.CombBKernelIdeal.τ).loc Cert.CombBKernelIdeal.main_arg4)
      ∧ r.2.mem ((c.tc : Thread Cert.CombBKernelIdeal.nD Cert.CombBKernelIdeal.τ).loc Cert.CombBKernelIdeal.main_arg5) = m ((c.tc : Thread Cert.CombBKernelIdeal.nD Cert.CombBKernelIdeal.τ).loc Cert.CombBKernelIdeal.main_arg5)
      ∧ r.2.mem ((c.tc : Thread Cert.CombBKernelIdeal.nD Cert.CombBKernelIdeal.τ).loc Cert.CombBKernelIdeal.main_arg6) = m ((c.tc : Thread Cert.CombBKernelIdeal.nD Cert.CombBKernelIdeal.τ).loc Cert.CombBKernelIdeal.main_arg6)
      ∧ r.2.mem ((c.tc : Thread Cert.CombBKernelIdeal.nD Cert.CombBKernelIdeal.τ).loc Cert.CombBKernelIdeal.main_arg7) = m ((c.tc : Thread Cert.CombBKernelIdeal.nD Cert.CombBKernelIdeal.τ).loc Cert.CombBKernelIdeal.main_arg7))
      ∧ r.2.sem = fun _ => 0)

def quiescent_CombBKernelIdeal_pre_all_finite [hCombBKernelIdeal : Cert.CombBKernelIdeal.Facts] [hPre_all_finite : Cert.Pre_all_finite.Facts] : Prop :=
  ∀ (m : (ℓ : Loc Cert.CombBKernelIdeal.nD Cert.CombBKernelIdeal.τ Cert.CombBKernelIdeal.sig) → Buf (Elt Ideal) ℓ) (g : Dev Cert.CombBKernelIdeal.nD → PrngReg), Pre_CombBKernelIdeal_all_finite m →
    θ_run (Cert.CombBKernelIdeal.defs (F := Ideal)) (onTc (τ := Cert.CombBKernelIdeal.τ) (Cert.CombBKernelIdeal.main (F := Ideal))) ⟨m, fun _ => 0, g⟩ (fun r => (∀ c : Dev Cert.CombBKernelIdeal.nD,
      r.2.mem ((c.tc : Thread Cert.CombBKernelIdeal.nD Cert.CombBKernelIdeal.τ).loc Cert.CombBKernelIdeal.main_arg0) = m ((c.tc : Thread Cert.CombBKernelIdeal.nD Cert.CombBKernelIdeal.τ).loc Cert.CombBKernelIdeal.main_arg0)
      ∧ r.2.mem ((c.tc : Thread Cert.CombBKernelIdeal.nD Cert.CombBKernelIdeal.τ).loc Cert.CombBKernelIdeal.main_arg1) = m ((c.tc : Thread Cert.CombBKernelIdeal.nD Cert.CombBKernelIdeal.τ).loc Cert.CombBKernelIdeal.main_arg1)
      ∧ r.2.mem ((c.tc : Thread Cert.CombBKernelIdeal.nD Cert.CombBKernelIdeal.τ).loc Cert.CombBKernelIdeal.main_arg2) = m ((c.tc : Thread Cert.CombBKernelIdeal.nD Cert.CombBKernelIdeal.τ).loc Cert.CombBKernelIdeal.main_arg2)
      ∧ r.2.mem ((c.tc : Thread Cert.CombBKernelIdeal.nD Cert.CombBKernelIdeal.τ).loc Cert.CombBKernelIdeal.main_arg3) = m ((c.tc : Thread Cert.CombBKernelIdeal.nD Cert.CombBKernelIdeal.τ).loc Cert.CombBKernelIdeal.main_arg3)
      ∧ r.2.mem ((c.tc : Thread Cert.CombBKernelIdeal.nD Cert.CombBKernelIdeal.τ).loc Cert.CombBKernelIdeal.main_arg4) = m ((c.tc : Thread Cert.CombBKernelIdeal.nD Cert.CombBKernelIdeal.τ).loc Cert.CombBKernelIdeal.main_arg4)
      ∧ r.2.mem ((c.tc : Thread Cert.CombBKernelIdeal.nD Cert.CombBKernelIdeal.τ).loc Cert.CombBKernelIdeal.main_arg5) = m ((c.tc : Thread Cert.CombBKernelIdeal.nD Cert.CombBKernelIdeal.τ).loc Cert.CombBKernelIdeal.main_arg5)
      ∧ r.2.mem ((c.tc : Thread Cert.CombBKernelIdeal.nD Cert.CombBKernelIdeal.τ).loc Cert.CombBKernelIdeal.main_arg6) = m ((c.tc : Thread Cert.CombBKernelIdeal.nD Cert.CombBKernelIdeal.τ).loc Cert.CombBKernelIdeal.main_arg6)
      ∧ r.2.mem ((c.tc : Thread Cert.CombBKernelIdeal.nD Cert.CombBKernelIdeal.τ).loc Cert.CombBKernelIdeal.main_arg7) = m ((c.tc : Thread Cert.CombBKernelIdeal.nD Cert.CombBKernelIdeal.τ).loc Cert.CombBKernelIdeal.main_arg7))
      ∧ r.2.sem = fun _ => 0)

def quiescent_CombBReferenceIdeal [hCombBReferenceIdeal : Cert.CombBReferenceIdeal.Facts] : Prop :=
  ∀ (m : (ℓ : Loc Cert.CombBReferenceIdeal.nD Cert.CombBReferenceIdeal.τ Cert.CombBReferenceIdeal.sig) → Buf (Elt Ideal) ℓ) (g : Dev Cert.CombBReferenceIdeal.nD → PrngReg), Pre_CombBReferenceIdeal m →
    θ_run (Cert.CombBReferenceIdeal.defs (F := Ideal)) (onTc (τ := Cert.CombBReferenceIdeal.τ) (Cert.CombBReferenceIdeal.main (F := Ideal))) ⟨m, fun _ => 0, g⟩ (fun r => (∀ c : Dev Cert.CombBReferenceIdeal.nD,
      r.2.mem ((c.tc : Thread Cert.CombBReferenceIdeal.nD Cert.CombBReferenceIdeal.τ).loc Cert.CombBReferenceIdeal.main_arg0) = m ((c.tc : Thread Cert.CombBReferenceIdeal.nD Cert.CombBReferenceIdeal.τ).loc Cert.CombBReferenceIdeal.main_arg0)
      ∧ r.2.mem ((c.tc : Thread Cert.CombBReferenceIdeal.nD Cert.CombBReferenceIdeal.τ).loc Cert.CombBReferenceIdeal.main_arg1) = m ((c.tc : Thread Cert.CombBReferenceIdeal.nD Cert.CombBReferenceIdeal.τ).loc Cert.CombBReferenceIdeal.main_arg1)
      ∧ r.2.mem ((c.tc : Thread Cert.CombBReferenceIdeal.nD Cert.CombBReferenceIdeal.τ).loc Cert.CombBReferenceIdeal.main_arg2) = m ((c.tc : Thread Cert.CombBReferenceIdeal.nD Cert.CombBReferenceIdeal.τ).loc Cert.CombBReferenceIdeal.main_arg2)
      ∧ r.2.mem ((c.tc : Thread Cert.CombBReferenceIdeal.nD Cert.CombBReferenceIdeal.τ).loc Cert.CombBReferenceIdeal.main_arg3) = m ((c.tc : Thread Cert.CombBReferenceIdeal.nD Cert.CombBReferenceIdeal.τ).loc Cert.CombBReferenceIdeal.main_arg3)
      ∧ r.2.mem ((c.tc : Thread Cert.CombBReferenceIdeal.nD Cert.CombBReferenceIdeal.τ).loc Cert.CombBReferenceIdeal.main_arg4) = m ((c.tc : Thread Cert.CombBReferenceIdeal.nD Cert.CombBReferenceIdeal.τ).loc Cert.CombBReferenceIdeal.main_arg4)
      ∧ r.2.mem ((c.tc : Thread Cert.CombBReferenceIdeal.nD Cert.CombBReferenceIdeal.τ).loc Cert.CombBReferenceIdeal.main_arg5) = m ((c.tc : Thread Cert.CombBReferenceIdeal.nD Cert.CombBReferenceIdeal.τ).loc Cert.CombBReferenceIdeal.main_arg5)
      ∧ r.2.mem ((c.tc : Thread Cert.CombBReferenceIdeal.nD Cert.CombBReferenceIdeal.τ).loc Cert.CombBReferenceIdeal.main_arg6) = m ((c.tc : Thread Cert.CombBReferenceIdeal.nD Cert.CombBReferenceIdeal.τ).loc Cert.CombBReferenceIdeal.main_arg6)
      ∧ r.2.mem ((c.tc : Thread Cert.CombBReferenceIdeal.nD Cert.CombBReferenceIdeal.τ).loc Cert.CombBReferenceIdeal.main_arg7) = m ((c.tc : Thread Cert.CombBReferenceIdeal.nD Cert.CombBReferenceIdeal.τ).loc Cert.CombBReferenceIdeal.main_arg7))
      ∧ r.2.sem = fun _ => 0)

def quiescent_CombBReferenceIdeal_pre_all_finite [hCombBReferenceIdeal : Cert.CombBReferenceIdeal.Facts] [hPre_all_finite : Cert.Pre_all_finite.Facts] : Prop :=
  ∀ (m : (ℓ : Loc Cert.CombBReferenceIdeal.nD Cert.CombBReferenceIdeal.τ Cert.CombBReferenceIdeal.sig) → Buf (Elt Ideal) ℓ) (g : Dev Cert.CombBReferenceIdeal.nD → PrngReg), Pre_CombBReferenceIdeal_all_finite m →
    θ_run (Cert.CombBReferenceIdeal.defs (F := Ideal)) (onTc (τ := Cert.CombBReferenceIdeal.τ) (Cert.CombBReferenceIdeal.main (F := Ideal))) ⟨m, fun _ => 0, g⟩ (fun r => (∀ c : Dev Cert.CombBReferenceIdeal.nD,
      r.2.mem ((c.tc : Thread Cert.CombBReferenceIdeal.nD Cert.CombBReferenceIdeal.τ).loc Cert.CombBReferenceIdeal.main_arg0) = m ((c.tc : Thread Cert.CombBReferenceIdeal.nD Cert.CombBReferenceIdeal.τ).loc Cert.CombBReferenceIdeal.main_arg0)
      ∧ r.2.mem ((c.tc : Thread Cert.CombBReferenceIdeal.nD Cert.CombBReferenceIdeal.τ).loc Cert.CombBReferenceIdeal.main_arg1) = m ((c.tc : Thread Cert.CombBReferenceIdeal.nD Cert.CombBReferenceIdeal.τ).loc Cert.CombBReferenceIdeal.main_arg1)
      ∧ r.2.mem ((c.tc : Thread Cert.CombBReferenceIdeal.nD Cert.CombBReferenceIdeal.τ).loc Cert.CombBReferenceIdeal.main_arg2) = m ((c.tc : Thread Cert.CombBReferenceIdeal.nD Cert.CombBReferenceIdeal.τ).loc Cert.CombBReferenceIdeal.main_arg2)
      ∧ r.2.mem ((c.tc : Thread Cert.CombBReferenceIdeal.nD Cert.CombBReferenceIdeal.τ).loc Cert.CombBReferenceIdeal.main_arg3) = m ((c.tc : Thread Cert.CombBReferenceIdeal.nD Cert.CombBReferenceIdeal.τ).loc Cert.CombBReferenceIdeal.main_arg3)
      ∧ r.2.mem ((c.tc : Thread Cert.CombBReferenceIdeal.nD Cert.CombBReferenceIdeal.τ).loc Cert.CombBReferenceIdeal.main_arg4) = m ((c.tc : Thread Cert.CombBReferenceIdeal.nD Cert.CombBReferenceIdeal.τ).loc Cert.CombBReferenceIdeal.main_arg4)
      ∧ r.2.mem ((c.tc : Thread Cert.CombBReferenceIdeal.nD Cert.CombBReferenceIdeal.τ).loc Cert.CombBReferenceIdeal.main_arg5) = m ((c.tc : Thread Cert.CombBReferenceIdeal.nD Cert.CombBReferenceIdeal.τ).loc Cert.CombBReferenceIdeal.main_arg5)
      ∧ r.2.mem ((c.tc : Thread Cert.CombBReferenceIdeal.nD Cert.CombBReferenceIdeal.τ).loc Cert.CombBReferenceIdeal.main_arg6) = m ((c.tc : Thread Cert.CombBReferenceIdeal.nD Cert.CombBReferenceIdeal.τ).loc Cert.CombBReferenceIdeal.main_arg6)
      ∧ r.2.mem ((c.tc : Thread Cert.CombBReferenceIdeal.nD Cert.CombBReferenceIdeal.τ).loc Cert.CombBReferenceIdeal.main_arg7) = m ((c.tc : Thread Cert.CombBReferenceIdeal.nD Cert.CombBReferenceIdeal.τ).loc Cert.CombBReferenceIdeal.main_arg7))
      ∧ r.2.sem = fun _ => 0)

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)) →
    ∃ (v0 : (c : Dev Cert.MergeKernelIdeal.nD) → Buf (Elt Ideal) ((c.tc : Thread Cert.MergeKernelIdeal.nD Cert.MergeKernelIdeal.τ).loc Cert.MergeKernelIdeal.main_v0_0)) (v1 : (c : Dev Cert.MergeKernelIdeal.nD) → Buf (Elt Ideal) ((c.tc : Thread Cert.MergeKernelIdeal.nD Cert.MergeKernelIdeal.τ).loc Cert.MergeKernelIdeal.main_v0_1)) (v2 : (c : Dev Cert.MergeKernelIdeal.nD) → Buf (Elt Ideal) ((c.tc : Thread Cert.MergeKernelIdeal.nD Cert.MergeKernelIdeal.τ).loc Cert.MergeKernelIdeal.main_v0_2)) (v3 : (c : Dev Cert.MergeKernelIdeal.nD) → Buf (Elt Ideal) ((c.tc : Thread Cert.MergeKernelIdeal.nD Cert.MergeKernelIdeal.τ).loc Cert.MergeKernelIdeal.main_v0_3)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v0_0) = v0 c
          ∧ r.2.mem ((c.tc : Thread Cert.MergeKernelIdeal.nD Cert.MergeKernelIdeal.τ).loc Cert.MergeKernelIdeal.main_v0_1) = v1 c
          ∧ r.2.mem ((c.tc : Thread Cert.MergeKernelIdeal.nD Cert.MergeKernelIdeal.τ).loc Cert.MergeKernelIdeal.main_v0_2) = v2 c
          ∧ r.2.mem ((c.tc : Thread Cert.MergeKernelIdeal.nD Cert.MergeKernelIdeal.τ).loc Cert.MergeKernelIdeal.main_v0_3) = v3 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v39) = v0 c
          ∧ r.2.mem ((c.tc : Thread Cert.MergeReferenceIdeal.nD Cert.MergeReferenceIdeal.τ).loc Cert.MergeReferenceIdeal.main_v40) = v1 c
          ∧ r.2.mem ((c.tc : Thread Cert.MergeReferenceIdeal.nD Cert.MergeReferenceIdeal.τ).loc Cert.MergeReferenceIdeal.main_v41) = v2 c
          ∧ r.2.mem ((c.tc : Thread Cert.MergeReferenceIdeal.nD Cert.MergeReferenceIdeal.τ).loc Cert.MergeReferenceIdeal.main_v42) = v3 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_GluKernel_GluKernelIdeal : Prop :=
  True

def algebraic_GluKernelIdeal_GluReferenceIdeal [hGluKernelIdeal : Cert.GluKernelIdeal.Facts] [hGluReferenceIdeal : Cert.GluReferenceIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluKernelIdeal m →
    (∀ c : Dev Cert.GluKernelIdeal.nD,
      m' ((c.tc : Thread Cert.GluReferenceIdeal.nD Cert.GluReferenceIdeal.τ).loc Cert.GluReferenceIdeal.main_arg0) = m ((c.tc : Thread Cert.GluKernelIdeal.nD Cert.GluKernelIdeal.τ).loc Cert.GluKernelIdeal.main_arg0)
      ∧ m' ((c.tc : Thread Cert.GluReferenceIdeal.nD Cert.GluReferenceIdeal.τ).loc Cert.GluReferenceIdeal.main_arg1) = m ((c.tc : Thread Cert.GluKernelIdeal.nD Cert.GluKernelIdeal.τ).loc Cert.GluKernelIdeal.main_arg1)
      ∧ m' ((c.tc : Thread Cert.GluReferenceIdeal.nD Cert.GluReferenceIdeal.τ).loc Cert.GluReferenceIdeal.main_arg2) = m ((c.tc : Thread Cert.GluKernelIdeal.nD Cert.GluKernelIdeal.τ).loc Cert.GluKernelIdeal.main_arg2)
      ∧ m' ((c.tc : Thread Cert.GluReferenceIdeal.nD Cert.GluReferenceIdeal.τ).loc Cert.GluReferenceIdeal.main_arg3) = m ((c.tc : Thread Cert.GluKernelIdeal.nD Cert.GluKernelIdeal.τ).loc Cert.GluKernelIdeal.main_arg3)
      ∧ m' ((c.tc : Thread Cert.GluReferenceIdeal.nD Cert.GluReferenceIdeal.τ).loc Cert.GluReferenceIdeal.main_arg4) = m ((c.tc : Thread Cert.GluKernelIdeal.nD Cert.GluKernelIdeal.τ).loc Cert.GluKernelIdeal.main_arg4)) →
    ∃ (v0 : (c : Dev Cert.GluKernelIdeal.nD) → Buf (Elt Ideal) ((c.tc : Thread Cert.GluKernelIdeal.nD Cert.GluKernelIdeal.τ).loc Cert.GluKernelIdeal.main_v1_0)) (v1 : (c : Dev Cert.GluKernelIdeal.nD) → Buf (Elt Ideal) ((c.tc : Thread Cert.GluKernelIdeal.nD Cert.GluKernelIdeal.τ).loc Cert.GluKernelIdeal.main_v1_1)) (v2 : (c : Dev Cert.GluKernelIdeal.nD) → Buf (Elt Ideal) ((c.tc : Thread Cert.GluKernelIdeal.nD Cert.GluKernelIdeal.τ).loc Cert.GluKernelIdeal.main_v1_2)) (v3 : (c : Dev Cert.GluKernelIdeal.nD) → Buf (Elt Ideal) ((c.tc : Thread Cert.GluKernelIdeal.nD Cert.GluKernelIdeal.τ).loc Cert.GluKernelIdeal.main_v1_3)),
      θ_run (Cert.GluKernelIdeal.defs (F := Ideal)) (onTc (τ := Cert.GluKernelIdeal.τ) (Cert.GluKernelIdeal.main (F := Ideal))) ⟨m, fun _ => 0, g⟩ (fun r => ∀ c : Dev Cert.GluKernelIdeal.nD,
          r.2.mem ((c.tc : Thread Cert.GluKernelIdeal.nD Cert.GluKernelIdeal.τ).loc Cert.GluKernelIdeal.main_v1_0) = v0 c
          ∧ r.2.mem ((c.tc : Thread Cert.GluKernelIdeal.nD Cert.GluKernelIdeal.τ).loc Cert.GluKernelIdeal.main_v1_1) = v1 c
          ∧ r.2.mem ((c.tc : Thread Cert.GluKernelIdeal.nD Cert.GluKernelIdeal.τ).loc Cert.GluKernelIdeal.main_v1_2) = v2 c
          ∧ r.2.mem ((c.tc : Thread Cert.GluKernelIdeal.nD Cert.GluKernelIdeal.τ).loc Cert.GluKernelIdeal.main_v1_3) = v3 c
          ∧ r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
          ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
          ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
          ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3)
          ∧ r.2.mem ((c.tc : Thread Cert.GluKernelIdeal.nD Cert.GluKernelIdeal.τ).loc Cert.GluKernelIdeal.main_arg4) = m ((c.tc : Thread Cert.GluKernelIdeal.nD Cert.GluKernelIdeal.τ).loc Cert.GluKernelIdeal.main_arg4))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v20) = v0 c
          ∧ r.2.mem ((c.tc : Thread Cert.GluReferenceIdeal.nD Cert.GluReferenceIdeal.τ).loc Cert.GluReferenceIdeal.main_v25) = v1 c
          ∧ r.2.mem ((c.tc : Thread Cert.GluReferenceIdeal.nD Cert.GluReferenceIdeal.τ).loc Cert.GluReferenceIdeal.main_v26) = v2 c
          ∧ r.2.mem ((c.tc : Thread Cert.GluReferenceIdeal.nD Cert.GluReferenceIdeal.τ).loc Cert.GluReferenceIdeal.main_v27) = v3 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2)
          ∧ r.2.mem ((c.tc : Thread Cert.GluReferenceIdeal.nD Cert.GluReferenceIdeal.τ).loc Cert.GluReferenceIdeal.main_arg3) = m' ((c.tc : Thread Cert.GluReferenceIdeal.nD Cert.GluReferenceIdeal.τ).loc Cert.GluReferenceIdeal.main_arg3)
          ∧ r.2.mem ((c.tc : Thread Cert.GluReferenceIdeal.nD Cert.GluReferenceIdeal.τ).loc Cert.GluReferenceIdeal.main_arg4) = m' ((c.tc : Thread Cert.GluReferenceIdeal.nD Cert.GluReferenceIdeal.τ).loc Cert.GluReferenceIdeal.main_arg4))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)) →
    ∃ (v0 : (c : Dev Cert.NormKernelIdeal.nD) → Buf (Elt Ideal) ((c.tc : Thread Cert.NormKernelIdeal.nD Cert.NormKernelIdeal.τ).loc Cert.NormKernelIdeal.main_v1_0)) (v1 : (c : Dev Cert.NormKernelIdeal.nD) → Buf (Elt Ideal) ((c.tc : Thread Cert.NormKernelIdeal.nD Cert.NormKernelIdeal.τ).loc Cert.NormKernelIdeal.main_v1_1)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v1_0) = v0 c
          ∧ r.2.mem ((c.tc : Thread Cert.NormKernelIdeal.nD Cert.NormKernelIdeal.τ).loc Cert.NormKernelIdeal.main_v1_1) = v1 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v36) = v0 c
          ∧ r.2.mem ((c.tc : Thread Cert.NormReferenceIdeal.nD Cert.NormReferenceIdeal.τ).loc Cert.NormReferenceIdeal.main_v37) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_DHKernel_DHKernelIdeal : Prop :=
  True

def algebraic_DHKernelIdeal_DHReferenceIdeal [hDHKernelIdeal : Cert.DHKernelIdeal.Facts] [hDHReferenceIdeal : Cert.DHReferenceIdeal.Facts] : Prop :=
  ∀ (m : (ℓ : Loc Cert.DHKernelIdeal.nD Cert.DHKernelIdeal.τ Cert.DHKernelIdeal.sig) → Buf (Elt Ideal) ℓ) (g : Dev Cert.DHKernelIdeal.nD → PrngReg)
    (m' : (ℓ : Loc Cert.DHReferenceIdeal.nD Cert.DHReferenceIdeal.τ Cert.DHReferenceIdeal.sig) → Buf (Elt Ideal) ℓ) (g' : Dev Cert.DHReferenceIdeal.nD → PrngReg), Pre_DHKernelIdeal m →
    (∀ c : Dev Cert.DHKernelIdeal.nD,
      m' ((c.tc : Thread Cert.DHReferenceIdeal.nD Cert.DHReferenceIdeal.τ).loc Cert.DHReferenceIdeal.main_arg0) = m ((c.tc : Thread Cert.DHKernelIdeal.nD Cert.DHKernelIdeal.τ).loc Cert.DHKernelIdeal.main_arg0)
      ∧ m' ((c.tc : Thread Cert.DHReferenceIdeal.nD Cert.DHReferenceIdeal.τ).loc Cert.DHReferenceIdeal.main_arg1) = m ((c.tc : Thread Cert.DHKernelIdeal.nD Cert.DHKernelIdeal.τ).loc Cert.DHKernelIdeal.main_arg1)
      ∧ m' ((c.tc : Thread Cert.DHReferenceIdeal.nD Cert.DHReferenceIdeal.τ).loc Cert.DHReferenceIdeal.main_arg2) = m ((c.tc : Thread Cert.DHKernelIdeal.nD Cert.DHKernelIdeal.τ).loc Cert.DHKernelIdeal.main_arg2)
      ∧ m' ((c.tc : Thread Cert.DHReferenceIdeal.nD Cert.DHReferenceIdeal.τ).loc Cert.DHReferenceIdeal.main_arg3) = m ((c.tc : Thread Cert.DHKernelIdeal.nD Cert.DHKernelIdeal.τ).loc Cert.DHKernelIdeal.main_arg3)
      ∧ m' ((c.tc : Thread Cert.DHReferenceIdeal.nD Cert.DHReferenceIdeal.τ).loc Cert.DHReferenceIdeal.main_arg4) = m ((c.tc : Thread Cert.DHKernelIdeal.nD Cert.DHKernelIdeal.τ).loc Cert.DHKernelIdeal.main_arg4)
      ∧ m' ((c.tc : Thread Cert.DHReferenceIdeal.nD Cert.DHReferenceIdeal.τ).loc Cert.DHReferenceIdeal.main_arg5) = m ((c.tc : Thread Cert.DHKernelIdeal.nD Cert.DHKernelIdeal.τ).loc Cert.DHKernelIdeal.main_arg5)
      ∧ m' ((c.tc : Thread Cert.DHReferenceIdeal.nD Cert.DHReferenceIdeal.τ).loc Cert.DHReferenceIdeal.main_arg6) = m ((c.tc : Thread Cert.DHKernelIdeal.nD Cert.DHKernelIdeal.τ).loc Cert.DHKernelIdeal.main_arg6)
      ∧ m' ((c.tc : Thread Cert.DHReferenceIdeal.nD Cert.DHReferenceIdeal.τ).loc Cert.DHReferenceIdeal.main_arg7) = m ((c.tc : Thread Cert.DHKernelIdeal.nD Cert.DHKernelIdeal.τ).loc Cert.DHKernelIdeal.main_arg7)) →
    ∃ (v0 : (c : Dev Cert.DHKernelIdeal.nD) → Buf (Elt Ideal) ((c.tc : Thread Cert.DHKernelIdeal.nD Cert.DHKernelIdeal.τ).loc Cert.DHKernelIdeal.main_v0)),
      θ_run (Cert.DHKernelIdeal.defs (F := Ideal)) (onTc (τ := Cert.DHKernelIdeal.τ) (Cert.DHKernelIdeal.main (F := Ideal))) ⟨m, fun _ => 0, g⟩ (fun r => ∀ c : Dev Cert.DHKernelIdeal.nD,
          r.2.mem ((c.tc : Thread Cert.DHKernelIdeal.nD Cert.DHKernelIdeal.τ).loc Cert.DHKernelIdeal.main_v0) = v0 c
          ∧ r.2.mem ((c.tc : Thread Cert.DHKernelIdeal.nD Cert.DHKernelIdeal.τ).loc Cert.DHKernelIdeal.main_arg0) = m ((c.tc : Thread Cert.DHKernelIdeal.nD Cert.DHKernelIdeal.τ).loc Cert.DHKernelIdeal.main_arg0)
          ∧ r.2.mem ((c.tc : Thread Cert.DHKernelIdeal.nD Cert.DHKernelIdeal.τ).loc Cert.DHKernelIdeal.main_arg1) = m ((c.tc : Thread Cert.DHKernelIdeal.nD Cert.DHKernelIdeal.τ).loc Cert.DHKernelIdeal.main_arg1)
          ∧ r.2.mem ((c.tc : Thread Cert.DHKernelIdeal.nD Cert.DHKernelIdeal.τ).loc Cert.DHKernelIdeal.main_arg2) = m ((c.tc : Thread Cert.DHKernelIdeal.nD Cert.DHKernelIdeal.τ).loc Cert.DHKernelIdeal.main_arg2)
          ∧ r.2.mem ((c.tc : Thread Cert.DHKernelIdeal.nD Cert.DHKernelIdeal.τ).loc Cert.DHKernelIdeal.main_arg3) = m ((c.tc : Thread Cert.DHKernelIdeal.nD Cert.DHKernelIdeal.τ).loc Cert.DHKernelIdeal.main_arg3)
          ∧ r.2.mem ((c.tc : Thread Cert.DHKernelIdeal.nD Cert.DHKernelIdeal.τ).loc Cert.DHKernelIdeal.main_arg4) = m ((c.tc : Thread Cert.DHKernelIdeal.nD Cert.DHKernelIdeal.τ).loc Cert.DHKernelIdeal.main_arg4)
          ∧ r.2.mem ((c.tc : Thread Cert.DHKernelIdeal.nD Cert.DHKernelIdeal.τ).loc Cert.DHKernelIdeal.main_arg5) = m ((c.tc : Thread Cert.DHKernelIdeal.nD Cert.DHKernelIdeal.τ).loc Cert.DHKernelIdeal.main_arg5)
          ∧ r.2.mem ((c.tc : Thread Cert.DHKernelIdeal.nD Cert.DHKernelIdeal.τ).loc Cert.DHKernelIdeal.main_arg6) = m ((c.tc : Thread Cert.DHKernelIdeal.nD Cert.DHKernelIdeal.τ).loc Cert.DHKernelIdeal.main_arg6)
          ∧ r.2.mem ((c.tc : Thread Cert.DHKernelIdeal.nD Cert.DHKernelIdeal.τ).loc Cert.DHKernelIdeal.main_arg7) = m ((c.tc : Thread Cert.DHKernelIdeal.nD Cert.DHKernelIdeal.τ).loc Cert.DHKernelIdeal.main_arg7))
      ∧ θ_run (Cert.DHReferenceIdeal.defs (F := Ideal)) (onTc (τ := Cert.DHReferenceIdeal.τ) (Cert.DHReferenceIdeal.main (F := Ideal))) ⟨m', fun _ => 0, g'⟩ (fun r => ∀ c : Dev Cert.DHReferenceIdeal.nD,
          r.2.mem ((c.tc : Thread Cert.DHReferenceIdeal.nD Cert.DHReferenceIdeal.τ).loc Cert.DHReferenceIdeal.main_v19) = v0 c
          ∧ r.2.mem ((c.tc : Thread Cert.DHReferenceIdeal.nD Cert.DHReferenceIdeal.τ).loc Cert.DHReferenceIdeal.main_arg0) = m' ((c.tc : Thread Cert.DHReferenceIdeal.nD Cert.DHReferenceIdeal.τ).loc Cert.DHReferenceIdeal.main_arg0)
          ∧ r.2.mem ((c.tc : Thread Cert.DHReferenceIdeal.nD Cert.DHReferenceIdeal.τ).loc Cert.DHReferenceIdeal.main_arg1) = m' ((c.tc : Thread Cert.DHReferenceIdeal.nD Cert.DHReferenceIdeal.τ).loc Cert.DHReferenceIdeal.main_arg1)
          ∧ r.2.mem ((c.tc : Thread Cert.DHReferenceIdeal.nD Cert.DHReferenceIdeal.τ).loc Cert.DHReferenceIdeal.main_arg2) = m' ((c.tc : Thread Cert.DHReferenceIdeal.nD Cert.DHReferenceIdeal.τ).loc Cert.DHReferenceIdeal.main_arg2)
          ∧ r.2.mem ((c.tc : Thread Cert.DHReferenceIdeal.nD Cert.DHReferenceIdeal.τ).loc Cert.DHReferenceIdeal.main_arg3) = m' ((c.tc : Thread Cert.DHReferenceIdeal.nD Cert.DHReferenceIdeal.τ).loc Cert.DHReferenceIdeal.main_arg3)
          ∧ r.2.mem ((c.tc : Thread Cert.DHReferenceIdeal.nD Cert.DHReferenceIdeal.τ).loc Cert.DHReferenceIdeal.main_arg4) = m' ((c.tc : Thread Cert.DHReferenceIdeal.nD Cert.DHReferenceIdeal.τ).loc Cert.DHReferenceIdeal.main_arg4)
          ∧ r.2.mem ((c.tc : Thread Cert.DHReferenceIdeal.nD Cert.DHReferenceIdeal.τ).loc Cert.DHReferenceIdeal.main_arg5) = m' ((c.tc : Thread Cert.DHReferenceIdeal.nD Cert.DHReferenceIdeal.τ).loc Cert.DHReferenceIdeal.main_arg5)
          ∧ r.2.mem ((c.tc : Thread Cert.DHReferenceIdeal.nD Cert.DHReferenceIdeal.τ).loc Cert.DHReferenceIdeal.main_arg6) = m' ((c.tc : Thread Cert.DHReferenceIdeal.nD Cert.DHReferenceIdeal.τ).loc Cert.DHReferenceIdeal.main_arg6)
          ∧ r.2.mem ((c.tc : Thread Cert.DHReferenceIdeal.nD Cert.DHReferenceIdeal.τ).loc Cert.DHReferenceIdeal.main_arg7) = m' ((c.tc : Thread Cert.DHReferenceIdeal.nD Cert.DHReferenceIdeal.τ).loc Cert.DHReferenceIdeal.main_arg7))

def preserves_GWinAKernel_GWinAKernelIdeal : Prop :=
  True

def algebraic_GWinAKernelIdeal_GWinAReferenceIdeal [hGWinAKernelIdeal : Cert.GWinAKernelIdeal.Facts] [hGWinAReferenceIdeal : Cert.GWinAReferenceIdeal.Facts] : Prop :=
  ∀ (m : (ℓ : Loc Cert.GWinAKernelIdeal.nD Cert.GWinAKernelIdeal.τ Cert.GWinAKernelIdeal.sig) → Buf (Elt Ideal) ℓ) (g : Dev Cert.GWinAKernelIdeal.nD → PrngReg)
    (m' : (ℓ : Loc Cert.GWinAReferenceIdeal.nD Cert.GWinAReferenceIdeal.τ Cert.GWinAReferenceIdeal.sig) → Buf (Elt Ideal) ℓ) (g' : Dev Cert.GWinAReferenceIdeal.nD → PrngReg), Pre_GWinAKernelIdeal m →
    (∀ c : Dev Cert.GWinAKernelIdeal.nD,
      m' ((c.tc : Thread Cert.GWinAReferenceIdeal.nD Cert.GWinAReferenceIdeal.τ).loc Cert.GWinAReferenceIdeal.main_arg0) = m ((c.tc : Thread Cert.GWinAKernelIdeal.nD Cert.GWinAKernelIdeal.τ).loc Cert.GWinAKernelIdeal.main_arg0)
      ∧ m' ((c.tc : Thread Cert.GWinAReferenceIdeal.nD Cert.GWinAReferenceIdeal.τ).loc Cert.GWinAReferenceIdeal.main_arg1) = m ((c.tc : Thread Cert.GWinAKernelIdeal.nD Cert.GWinAKernelIdeal.τ).loc Cert.GWinAKernelIdeal.main_arg1)) →
    ∃ (v0 : (c : Dev Cert.GWinAKernelIdeal.nD) → Buf (Elt Ideal) ((c.tc : Thread Cert.GWinAKernelIdeal.nD Cert.GWinAKernelIdeal.τ).loc Cert.GWinAKernelIdeal.main_v0)),
      θ_run (Cert.GWinAKernelIdeal.defs (F := Ideal)) (onTc (τ := Cert.GWinAKernelIdeal.τ) (Cert.GWinAKernelIdeal.main (F := Ideal))) ⟨m, fun _ => 0, g⟩ (fun r => ∀ c : Dev Cert.GWinAKernelIdeal.nD,
          r.2.mem ((c.tc : Thread Cert.GWinAKernelIdeal.nD Cert.GWinAKernelIdeal.τ).loc Cert.GWinAKernelIdeal.main_v0) = v0 c
          ∧ r.2.mem ((c.tc : Thread Cert.GWinAKernelIdeal.nD Cert.GWinAKernelIdeal.τ).loc Cert.GWinAKernelIdeal.main_arg0) = m ((c.tc : Thread Cert.GWinAKernelIdeal.nD Cert.GWinAKernelIdeal.τ).loc Cert.GWinAKernelIdeal.main_arg0)
          ∧ r.2.mem ((c.tc : Thread Cert.GWinAKernelIdeal.nD Cert.GWinAKernelIdeal.τ).loc Cert.GWinAKernelIdeal.main_arg1) = m ((c.tc : Thread Cert.GWinAKernelIdeal.nD Cert.GWinAKernelIdeal.τ).loc Cert.GWinAKernelIdeal.main_arg1))
      ∧ θ_run (Cert.GWinAReferenceIdeal.defs (F := Ideal)) (onTc (τ := Cert.GWinAReferenceIdeal.τ) (Cert.GWinAReferenceIdeal.main (F := Ideal))) ⟨m', fun _ => 0, g'⟩ (fun r => ∀ c : Dev Cert.GWinAReferenceIdeal.nD,
          r.2.mem ((c.tc : Thread Cert.GWinAReferenceIdeal.nD Cert.GWinAReferenceIdeal.τ).loc Cert.GWinAReferenceIdeal.main_v6) = v0 c
          ∧ r.2.mem ((c.tc : Thread Cert.GWinAReferenceIdeal.nD Cert.GWinAReferenceIdeal.τ).loc Cert.GWinAReferenceIdeal.main_arg0) = m' ((c.tc : Thread Cert.GWinAReferenceIdeal.nD Cert.GWinAReferenceIdeal.τ).loc Cert.GWinAReferenceIdeal.main_arg0)
          ∧ r.2.mem ((c.tc : Thread Cert.GWinAReferenceIdeal.nD Cert.GWinAReferenceIdeal.τ).loc Cert.GWinAReferenceIdeal.main_arg1) = m' ((c.tc : Thread Cert.GWinAReferenceIdeal.nD Cert.GWinAReferenceIdeal.τ).loc Cert.GWinAReferenceIdeal.main_arg1))

def preserves_GWinQKernel_GWinQKernelIdeal : Prop :=
  True

def algebraic_GWinQKernelIdeal_GWinQReferenceIdeal [hGWinQKernelIdeal : Cert.GWinQKernelIdeal.Facts] [hGWinQReferenceIdeal : Cert.GWinQReferenceIdeal.Facts] : Prop :=
  ∀ (m : (ℓ : Loc Cert.GWinQKernelIdeal.nD Cert.GWinQKernelIdeal.τ Cert.GWinQKernelIdeal.sig) → Buf (Elt Ideal) ℓ) (g : Dev Cert.GWinQKernelIdeal.nD → PrngReg)
    (m' : (ℓ : Loc Cert.GWinQReferenceIdeal.nD Cert.GWinQReferenceIdeal.τ Cert.GWinQReferenceIdeal.sig) → Buf (Elt Ideal) ℓ) (g' : Dev Cert.GWinQReferenceIdeal.nD → PrngReg), Pre_GWinQKernelIdeal m →
    (∀ c : Dev Cert.GWinQKernelIdeal.nD,
      m' ((c.tc : Thread Cert.GWinQReferenceIdeal.nD Cert.GWinQReferenceIdeal.τ).loc Cert.GWinQReferenceIdeal.main_arg0) = m ((c.tc : Thread Cert.GWinQKernelIdeal.nD Cert.GWinQKernelIdeal.τ).loc Cert.GWinQKernelIdeal.main_arg0)
      ∧ m' ((c.tc : Thread Cert.GWinQReferenceIdeal.nD Cert.GWinQReferenceIdeal.τ).loc Cert.GWinQReferenceIdeal.main_arg1) = m ((c.tc : Thread Cert.GWinQKernelIdeal.nD Cert.GWinQKernelIdeal.τ).loc Cert.GWinQKernelIdeal.main_arg1)) →
    ∃ (v0 : (c : Dev Cert.GWinQKernelIdeal.nD) → Buf (Elt Ideal) ((c.tc : Thread Cert.GWinQKernelIdeal.nD Cert.GWinQKernelIdeal.τ).loc Cert.GWinQKernelIdeal.main_v0)),
      θ_run (Cert.GWinQKernelIdeal.defs (F := Ideal)) (onTc (τ := Cert.GWinQKernelIdeal.τ) (Cert.GWinQKernelIdeal.main (F := Ideal))) ⟨m, fun _ => 0, g⟩ (fun r => ∀ c : Dev Cert.GWinQKernelIdeal.nD,
          r.2.mem ((c.tc : Thread Cert.GWinQKernelIdeal.nD Cert.GWinQKernelIdeal.τ).loc Cert.GWinQKernelIdeal.main_v0) = v0 c
          ∧ r.2.mem ((c.tc : Thread Cert.GWinQKernelIdeal.nD Cert.GWinQKernelIdeal.τ).loc Cert.GWinQKernelIdeal.main_arg0) = m ((c.tc : Thread Cert.GWinQKernelIdeal.nD Cert.GWinQKernelIdeal.τ).loc Cert.GWinQKernelIdeal.main_arg0)
          ∧ r.2.mem ((c.tc : Thread Cert.GWinQKernelIdeal.nD Cert.GWinQKernelIdeal.τ).loc Cert.GWinQKernelIdeal.main_arg1) = m ((c.tc : Thread Cert.GWinQKernelIdeal.nD Cert.GWinQKernelIdeal.τ).loc Cert.GWinQKernelIdeal.main_arg1))
      ∧ θ_run (Cert.GWinQReferenceIdeal.defs (F := Ideal)) (onTc (τ := Cert.GWinQReferenceIdeal.τ) (Cert.GWinQReferenceIdeal.main (F := Ideal))) ⟨m', fun _ => 0, g'⟩ (fun r => ∀ c : Dev Cert.GWinQReferenceIdeal.nD,
          r.2.mem ((c.tc : Thread Cert.GWinQReferenceIdeal.nD Cert.GWinQReferenceIdeal.τ).loc Cert.GWinQReferenceIdeal.main_v6) = v0 c
          ∧ r.2.mem ((c.tc : Thread Cert.GWinQReferenceIdeal.nD Cert.GWinQReferenceIdeal.τ).loc Cert.GWinQReferenceIdeal.main_arg0) = m' ((c.tc : Thread Cert.GWinQReferenceIdeal.nD Cert.GWinQReferenceIdeal.τ).loc Cert.GWinQReferenceIdeal.main_arg0)
          ∧ r.2.mem ((c.tc : Thread Cert.GWinQReferenceIdeal.nD Cert.GWinQReferenceIdeal.τ).loc Cert.GWinQReferenceIdeal.main_arg1) = m' ((c.tc : Thread Cert.GWinQReferenceIdeal.nD Cert.GWinQReferenceIdeal.τ).loc Cert.GWinQReferenceIdeal.main_arg1))

def preserves_GWinGKernel_GWinGKernelIdeal : Prop :=
  True

def algebraic_GWinGKernelIdeal_GWinGReferenceIdeal [hGWinGKernelIdeal : Cert.GWinGKernelIdeal.Facts] [hGWinGReferenceIdeal : Cert.GWinGReferenceIdeal.Facts] : Prop :=
  ∀ (m : (ℓ : Loc Cert.GWinGKernelIdeal.nD Cert.GWinGKernelIdeal.τ Cert.GWinGKernelIdeal.sig) → Buf (Elt Ideal) ℓ) (g : Dev Cert.GWinGKernelIdeal.nD → PrngReg)
    (m' : (ℓ : Loc Cert.GWinGReferenceIdeal.nD Cert.GWinGReferenceIdeal.τ Cert.GWinGReferenceIdeal.sig) → Buf (Elt Ideal) ℓ) (g' : Dev Cert.GWinGReferenceIdeal.nD → PrngReg), Pre_GWinGKernelIdeal m →
    (∀ c : Dev Cert.GWinGKernelIdeal.nD,
      m' ((c.tc : Thread Cert.GWinGReferenceIdeal.nD Cert.GWinGReferenceIdeal.τ).loc Cert.GWinGReferenceIdeal.main_arg0) = m ((c.tc : Thread Cert.GWinGKernelIdeal.nD Cert.GWinGKernelIdeal.τ).loc Cert.GWinGKernelIdeal.main_arg0)
      ∧ m' ((c.tc : Thread Cert.GWinGReferenceIdeal.nD Cert.GWinGReferenceIdeal.τ).loc Cert.GWinGReferenceIdeal.main_arg1) = m ((c.tc : Thread Cert.GWinGKernelIdeal.nD Cert.GWinGKernelIdeal.τ).loc Cert.GWinGKernelIdeal.main_arg1)) →
    ∃ (v0 : (c : Dev Cert.GWinGKernelIdeal.nD) → Buf (Elt Ideal) ((c.tc : Thread Cert.GWinGKernelIdeal.nD Cert.GWinGKernelIdeal.τ).loc Cert.GWinGKernelIdeal.main_v0)),
      θ_run (Cert.GWinGKernelIdeal.defs (F := Ideal)) (onTc (τ := Cert.GWinGKernelIdeal.τ) (Cert.GWinGKernelIdeal.main (F := Ideal))) ⟨m, fun _ => 0, g⟩ (fun r => ∀ c : Dev Cert.GWinGKernelIdeal.nD,
          r.2.mem ((c.tc : Thread Cert.GWinGKernelIdeal.nD Cert.GWinGKernelIdeal.τ).loc Cert.GWinGKernelIdeal.main_v0) = v0 c
          ∧ r.2.mem ((c.tc : Thread Cert.GWinGKernelIdeal.nD Cert.GWinGKernelIdeal.τ).loc Cert.GWinGKernelIdeal.main_arg0) = m ((c.tc : Thread Cert.GWinGKernelIdeal.nD Cert.GWinGKernelIdeal.τ).loc Cert.GWinGKernelIdeal.main_arg0)
          ∧ r.2.mem ((c.tc : Thread Cert.GWinGKernelIdeal.nD Cert.GWinGKernelIdeal.τ).loc Cert.GWinGKernelIdeal.main_arg1) = m ((c.tc : Thread Cert.GWinGKernelIdeal.nD Cert.GWinGKernelIdeal.τ).loc Cert.GWinGKernelIdeal.main_arg1))
      ∧ θ_run (Cert.GWinGReferenceIdeal.defs (F := Ideal)) (onTc (τ := Cert.GWinGReferenceIdeal.τ) (Cert.GWinGReferenceIdeal.main (F := Ideal))) ⟨m', fun _ => 0, g'⟩ (fun r => ∀ c : Dev Cert.GWinGReferenceIdeal.nD,
          r.2.mem ((c.tc : Thread Cert.GWinGReferenceIdeal.nD Cert.GWinGReferenceIdeal.τ).loc Cert.GWinGReferenceIdeal.main_v6) = v0 c
          ∧ r.2.mem ((c.tc : Thread Cert.GWinGReferenceIdeal.nD Cert.GWinGReferenceIdeal.τ).loc Cert.GWinGReferenceIdeal.main_arg0) = m' ((c.tc : Thread Cert.GWinGReferenceIdeal.nD Cert.GWinGReferenceIdeal.τ).loc Cert.GWinGReferenceIdeal.main_arg0)
          ∧ r.2.mem ((c.tc : Thread Cert.GWinGReferenceIdeal.nD Cert.GWinGReferenceIdeal.τ).loc Cert.GWinGReferenceIdeal.main_arg1) = m' ((c.tc : Thread Cert.GWinGReferenceIdeal.nD Cert.GWinGReferenceIdeal.τ).loc Cert.GWinGReferenceIdeal.main_arg1))

def preserves_GWoutKernel_GWoutKernelIdeal : Prop :=
  True

def algebraic_GWoutKernelIdeal_GWoutReferenceIdeal [hGWoutKernelIdeal : Cert.GWoutKernelIdeal.Facts] [hGWoutReferenceIdeal : Cert.GWoutReferenceIdeal.Facts] : Prop :=
  ∀ (m : (ℓ : Loc Cert.GWoutKernelIdeal.nD Cert.GWoutKernelIdeal.τ Cert.GWoutKernelIdeal.sig) → Buf (Elt Ideal) ℓ) (g : Dev Cert.GWoutKernelIdeal.nD → PrngReg)
    (m' : (ℓ : Loc Cert.GWoutReferenceIdeal.nD Cert.GWoutReferenceIdeal.τ Cert.GWoutReferenceIdeal.sig) → Buf (Elt Ideal) ℓ) (g' : Dev Cert.GWoutReferenceIdeal.nD → PrngReg), Pre_GWoutKernelIdeal m →
    (∀ c : Dev Cert.GWoutKernelIdeal.nD,
      m' ((c.tc : Thread Cert.GWoutReferenceIdeal.nD Cert.GWoutReferenceIdeal.τ).loc Cert.GWoutReferenceIdeal.main_arg0) = m ((c.tc : Thread Cert.GWoutKernelIdeal.nD Cert.GWoutKernelIdeal.τ).loc Cert.GWoutKernelIdeal.main_arg0)
      ∧ m' ((c.tc : Thread Cert.GWoutReferenceIdeal.nD Cert.GWoutReferenceIdeal.τ).loc Cert.GWoutReferenceIdeal.main_arg1) = m ((c.tc : Thread Cert.GWoutKernelIdeal.nD Cert.GWoutKernelIdeal.τ).loc Cert.GWoutKernelIdeal.main_arg1)) →
    ∃ (v0 : (c : Dev Cert.GWoutKernelIdeal.nD) → Buf (Elt Ideal) ((c.tc : Thread Cert.GWoutKernelIdeal.nD Cert.GWoutKernelIdeal.τ).loc Cert.GWoutKernelIdeal.main_v0)),
      θ_run (Cert.GWoutKernelIdeal.defs (F := Ideal)) (onTc (τ := Cert.GWoutKernelIdeal.τ) (Cert.GWoutKernelIdeal.main (F := Ideal))) ⟨m, fun _ => 0, g⟩ (fun r => ∀ c : Dev Cert.GWoutKernelIdeal.nD,
          r.2.mem ((c.tc : Thread Cert.GWoutKernelIdeal.nD Cert.GWoutKernelIdeal.τ).loc Cert.GWoutKernelIdeal.main_v0) = v0 c
          ∧ r.2.mem ((c.tc : Thread Cert.GWoutKernelIdeal.nD Cert.GWoutKernelIdeal.τ).loc Cert.GWoutKernelIdeal.main_arg0) = m ((c.tc : Thread Cert.GWoutKernelIdeal.nD Cert.GWoutKernelIdeal.τ).loc Cert.GWoutKernelIdeal.main_arg0)
          ∧ r.2.mem ((c.tc : Thread Cert.GWoutKernelIdeal.nD Cert.GWoutKernelIdeal.τ).loc Cert.GWoutKernelIdeal.main_arg1) = m ((c.tc : Thread Cert.GWoutKernelIdeal.nD Cert.GWoutKernelIdeal.τ).loc Cert.GWoutKernelIdeal.main_arg1))
      ∧ θ_run (Cert.GWoutReferenceIdeal.defs (F := Ideal)) (onTc (τ := Cert.GWoutReferenceIdeal.τ) (Cert.GWoutReferenceIdeal.main (F := Ideal))) ⟨m', fun _ => 0, g'⟩ (fun r => ∀ c : Dev Cert.GWoutReferenceIdeal.nD,
          r.2.mem ((c.tc : Thread Cert.GWoutReferenceIdeal.nD Cert.GWoutReferenceIdeal.τ).loc Cert.GWoutReferenceIdeal.main_v5) = v0 c
          ∧ r.2.mem ((c.tc : Thread Cert.GWoutReferenceIdeal.nD Cert.GWoutReferenceIdeal.τ).loc Cert.GWoutReferenceIdeal.main_arg0) = m' ((c.tc : Thread Cert.GWoutReferenceIdeal.nD Cert.GWoutReferenceIdeal.τ).loc Cert.GWoutReferenceIdeal.main_arg0)
          ∧ r.2.mem ((c.tc : Thread Cert.GWoutReferenceIdeal.nD Cert.GWoutReferenceIdeal.τ).loc Cert.GWoutReferenceIdeal.main_arg1) = m' ((c.tc : Thread Cert.GWoutReferenceIdeal.nD Cert.GWoutReferenceIdeal.τ).loc Cert.GWoutReferenceIdeal.main_arg1))

def preserves_GProjAKernel_GProjAKernelIdeal : Prop :=
  True

def algebraic_GProjAKernelIdeal_GProjAReferenceIdeal [hGProjAKernelIdeal : Cert.GProjAKernelIdeal.Facts] [hGProjAReferenceIdeal : Cert.GProjAReferenceIdeal.Facts] : Prop :=
  ∀ (m : (ℓ : Loc Cert.GProjAKernelIdeal.nD Cert.GProjAKernelIdeal.τ Cert.GProjAKernelIdeal.sig) → Buf (Elt Ideal) ℓ) (g : Dev Cert.GProjAKernelIdeal.nD → PrngReg)
    (m' : (ℓ : Loc Cert.GProjAReferenceIdeal.nD Cert.GProjAReferenceIdeal.τ Cert.GProjAReferenceIdeal.sig) → Buf (Elt Ideal) ℓ) (g' : Dev Cert.GProjAReferenceIdeal.nD → PrngReg), Pre_GProjAKernelIdeal m →
    (∀ c : Dev Cert.GProjAKernelIdeal.nD,
      m' ((c.tc : Thread Cert.GProjAReferenceIdeal.nD Cert.GProjAReferenceIdeal.τ).loc Cert.GProjAReferenceIdeal.main_arg0) = m ((c.tc : Thread Cert.GProjAKernelIdeal.nD Cert.GProjAKernelIdeal.τ).loc Cert.GProjAKernelIdeal.main_arg0)
      ∧ m' ((c.tc : Thread Cert.GProjAReferenceIdeal.nD Cert.GProjAReferenceIdeal.τ).loc Cert.GProjAReferenceIdeal.main_arg1) = m ((c.tc : Thread Cert.GProjAKernelIdeal.nD Cert.GProjAKernelIdeal.τ).loc Cert.GProjAKernelIdeal.main_arg1)) →
    ∃ (v0 : (c : Dev Cert.GProjAKernelIdeal.nD) → Buf (Elt Ideal) ((c.tc : Thread Cert.GProjAKernelIdeal.nD Cert.GProjAKernelIdeal.τ).loc Cert.GProjAKernelIdeal.main_v0)),
      θ_run (Cert.GProjAKernelIdeal.defs (F := Ideal)) (onTc (τ := Cert.GProjAKernelIdeal.τ) (Cert.GProjAKernelIdeal.main (F := Ideal))) ⟨m, fun _ => 0, g⟩ (fun r => ∀ c : Dev Cert.GProjAKernelIdeal.nD,
          r.2.mem ((c.tc : Thread Cert.GProjAKernelIdeal.nD Cert.GProjAKernelIdeal.τ).loc Cert.GProjAKernelIdeal.main_v0) = v0 c
          ∧ r.2.mem ((c.tc : Thread Cert.GProjAKernelIdeal.nD Cert.GProjAKernelIdeal.τ).loc Cert.GProjAKernelIdeal.main_arg0) = m ((c.tc : Thread Cert.GProjAKernelIdeal.nD Cert.GProjAKernelIdeal.τ).loc Cert.GProjAKernelIdeal.main_arg0)
          ∧ r.2.mem ((c.tc : Thread Cert.GProjAKernelIdeal.nD Cert.GProjAKernelIdeal.τ).loc Cert.GProjAKernelIdeal.main_arg1) = m ((c.tc : Thread Cert.GProjAKernelIdeal.nD Cert.GProjAKernelIdeal.τ).loc Cert.GProjAKernelIdeal.main_arg1))
      ∧ θ_run (Cert.GProjAReferenceIdeal.defs (F := Ideal)) (onTc (τ := Cert.GProjAReferenceIdeal.τ) (Cert.GProjAReferenceIdeal.main (F := Ideal))) ⟨m', fun _ => 0, g'⟩ (fun r => ∀ c : Dev Cert.GProjAReferenceIdeal.nD,
          r.2.mem ((c.tc : Thread Cert.GProjAReferenceIdeal.nD Cert.GProjAReferenceIdeal.τ).loc Cert.GProjAReferenceIdeal.main_v6) = v0 c
          ∧ r.2.mem ((c.tc : Thread Cert.GProjAReferenceIdeal.nD Cert.GProjAReferenceIdeal.τ).loc Cert.GProjAReferenceIdeal.main_arg0) = m' ((c.tc : Thread Cert.GProjAReferenceIdeal.nD Cert.GProjAReferenceIdeal.τ).loc Cert.GProjAReferenceIdeal.main_arg0)
          ∧ r.2.mem ((c.tc : Thread Cert.GProjAReferenceIdeal.nD Cert.GProjAReferenceIdeal.τ).loc Cert.GProjAReferenceIdeal.main_arg1) = m' ((c.tc : Thread Cert.GProjAReferenceIdeal.nD Cert.GProjAReferenceIdeal.τ).loc Cert.GProjAReferenceIdeal.main_arg1))

def preserves_GProjBKernel_GProjBKernelIdeal : Prop :=
  True

def algebraic_GProjBKernelIdeal_GProjBReferenceIdeal [hGProjBKernelIdeal : Cert.GProjBKernelIdeal.Facts] [hGProjBReferenceIdeal : Cert.GProjBReferenceIdeal.Facts] : Prop :=
  ∀ (m : (ℓ : Loc Cert.GProjBKernelIdeal.nD Cert.GProjBKernelIdeal.τ Cert.GProjBKernelIdeal.sig) → Buf (Elt Ideal) ℓ) (g : Dev Cert.GProjBKernelIdeal.nD → PrngReg)
    (m' : (ℓ : Loc Cert.GProjBReferenceIdeal.nD Cert.GProjBReferenceIdeal.τ Cert.GProjBReferenceIdeal.sig) → Buf (Elt Ideal) ℓ) (g' : Dev Cert.GProjBReferenceIdeal.nD → PrngReg), Pre_GProjBKernelIdeal m →
    (∀ c : Dev Cert.GProjBKernelIdeal.nD,
      m' ((c.tc : Thread Cert.GProjBReferenceIdeal.nD Cert.GProjBReferenceIdeal.τ).loc Cert.GProjBReferenceIdeal.main_arg0) = m ((c.tc : Thread Cert.GProjBKernelIdeal.nD Cert.GProjBKernelIdeal.τ).loc Cert.GProjBKernelIdeal.main_arg0)
      ∧ m' ((c.tc : Thread Cert.GProjBReferenceIdeal.nD Cert.GProjBReferenceIdeal.τ).loc Cert.GProjBReferenceIdeal.main_arg1) = m ((c.tc : Thread Cert.GProjBKernelIdeal.nD Cert.GProjBKernelIdeal.τ).loc Cert.GProjBKernelIdeal.main_arg1)) →
    ∃ (v0 : (c : Dev Cert.GProjBKernelIdeal.nD) → Buf (Elt Ideal) ((c.tc : Thread Cert.GProjBKernelIdeal.nD Cert.GProjBKernelIdeal.τ).loc Cert.GProjBKernelIdeal.main_v0)),
      θ_run (Cert.GProjBKernelIdeal.defs (F := Ideal)) (onTc (τ := Cert.GProjBKernelIdeal.τ) (Cert.GProjBKernelIdeal.main (F := Ideal))) ⟨m, fun _ => 0, g⟩ (fun r => ∀ c : Dev Cert.GProjBKernelIdeal.nD,
          r.2.mem ((c.tc : Thread Cert.GProjBKernelIdeal.nD Cert.GProjBKernelIdeal.τ).loc Cert.GProjBKernelIdeal.main_v0) = v0 c
          ∧ r.2.mem ((c.tc : Thread Cert.GProjBKernelIdeal.nD Cert.GProjBKernelIdeal.τ).loc Cert.GProjBKernelIdeal.main_arg0) = m ((c.tc : Thread Cert.GProjBKernelIdeal.nD Cert.GProjBKernelIdeal.τ).loc Cert.GProjBKernelIdeal.main_arg0)
          ∧ r.2.mem ((c.tc : Thread Cert.GProjBKernelIdeal.nD Cert.GProjBKernelIdeal.τ).loc Cert.GProjBKernelIdeal.main_arg1) = m ((c.tc : Thread Cert.GProjBKernelIdeal.nD Cert.GProjBKernelIdeal.τ).loc Cert.GProjBKernelIdeal.main_arg1))
      ∧ θ_run (Cert.GProjBReferenceIdeal.defs (F := Ideal)) (onTc (τ := Cert.GProjBReferenceIdeal.τ) (Cert.GProjBReferenceIdeal.main (F := Ideal))) ⟨m', fun _ => 0, g'⟩ (fun r => ∀ c : Dev Cert.GProjBReferenceIdeal.nD,
          r.2.mem ((c.tc : Thread Cert.GProjBReferenceIdeal.nD Cert.GProjBReferenceIdeal.τ).loc Cert.GProjBReferenceIdeal.main_v6) = v0 c
          ∧ r.2.mem ((c.tc : Thread Cert.GProjBReferenceIdeal.nD Cert.GProjBReferenceIdeal.τ).loc Cert.GProjBReferenceIdeal.main_arg0) = m' ((c.tc : Thread Cert.GProjBReferenceIdeal.nD Cert.GProjBReferenceIdeal.τ).loc Cert.GProjBReferenceIdeal.main_arg0)
          ∧ r.2.mem ((c.tc : Thread Cert.GProjBReferenceIdeal.nD Cert.GProjBReferenceIdeal.τ).loc Cert.GProjBReferenceIdeal.main_arg1) = m' ((c.tc : Thread Cert.GProjBReferenceIdeal.nD Cert.GProjBReferenceIdeal.τ).loc Cert.GProjBReferenceIdeal.main_arg1))

def preserves_GProjCKernel_GProjCKernelIdeal : Prop :=
  True

def algebraic_GProjCKernelIdeal_GProjCReferenceIdeal [hGProjCKernelIdeal : Cert.GProjCKernelIdeal.Facts] [hGProjCReferenceIdeal : Cert.GProjCReferenceIdeal.Facts] : Prop :=
  ∀ (m : (ℓ : Loc Cert.GProjCKernelIdeal.nD Cert.GProjCKernelIdeal.τ Cert.GProjCKernelIdeal.sig) → Buf (Elt Ideal) ℓ) (g : Dev Cert.GProjCKernelIdeal.nD → PrngReg)
    (m' : (ℓ : Loc Cert.GProjCReferenceIdeal.nD Cert.GProjCReferenceIdeal.τ Cert.GProjCReferenceIdeal.sig) → Buf (Elt Ideal) ℓ) (g' : Dev Cert.GProjCReferenceIdeal.nD → PrngReg), Pre_GProjCKernelIdeal m →
    (∀ c : Dev Cert.GProjCKernelIdeal.nD,
      m' ((c.tc : Thread Cert.GProjCReferenceIdeal.nD Cert.GProjCReferenceIdeal.τ).loc Cert.GProjCReferenceIdeal.main_arg0) = m ((c.tc : Thread Cert.GProjCKernelIdeal.nD Cert.GProjCKernelIdeal.τ).loc Cert.GProjCKernelIdeal.main_arg0)
      ∧ m' ((c.tc : Thread Cert.GProjCReferenceIdeal.nD Cert.GProjCReferenceIdeal.τ).loc Cert.GProjCReferenceIdeal.main_arg1) = m ((c.tc : Thread Cert.GProjCKernelIdeal.nD Cert.GProjCKernelIdeal.τ).loc Cert.GProjCKernelIdeal.main_arg1)) →
    ∃ (v0 : (c : Dev Cert.GProjCKernelIdeal.nD) → Buf (Elt Ideal) ((c.tc : Thread Cert.GProjCKernelIdeal.nD Cert.GProjCKernelIdeal.τ).loc Cert.GProjCKernelIdeal.main_v0)),
      θ_run (Cert.GProjCKernelIdeal.defs (F := Ideal)) (onTc (τ := Cert.GProjCKernelIdeal.τ) (Cert.GProjCKernelIdeal.main (F := Ideal))) ⟨m, fun _ => 0, g⟩ (fun r => ∀ c : Dev Cert.GProjCKernelIdeal.nD,
          r.2.mem ((c.tc : Thread Cert.GProjCKernelIdeal.nD Cert.GProjCKernelIdeal.τ).loc Cert.GProjCKernelIdeal.main_v0) = v0 c
          ∧ r.2.mem ((c.tc : Thread Cert.GProjCKernelIdeal.nD Cert.GProjCKernelIdeal.τ).loc Cert.GProjCKernelIdeal.main_arg0) = m ((c.tc : Thread Cert.GProjCKernelIdeal.nD Cert.GProjCKernelIdeal.τ).loc Cert.GProjCKernelIdeal.main_arg0)
          ∧ r.2.mem ((c.tc : Thread Cert.GProjCKernelIdeal.nD Cert.GProjCKernelIdeal.τ).loc Cert.GProjCKernelIdeal.main_arg1) = m ((c.tc : Thread Cert.GProjCKernelIdeal.nD Cert.GProjCKernelIdeal.τ).loc Cert.GProjCKernelIdeal.main_arg1))
      ∧ θ_run (Cert.GProjCReferenceIdeal.defs (F := Ideal)) (onTc (τ := Cert.GProjCReferenceIdeal.τ) (Cert.GProjCReferenceIdeal.main (F := Ideal))) ⟨m', fun _ => 0, g'⟩ (fun r => ∀ c : Dev Cert.GProjCReferenceIdeal.nD,
          r.2.mem ((c.tc : Thread Cert.GProjCReferenceIdeal.nD Cert.GProjCReferenceIdeal.τ).loc Cert.GProjCReferenceIdeal.main_v6) = v0 c
          ∧ r.2.mem ((c.tc : Thread Cert.GProjCReferenceIdeal.nD Cert.GProjCReferenceIdeal.τ).loc Cert.GProjCReferenceIdeal.main_arg0) = m' ((c.tc : Thread Cert.GProjCReferenceIdeal.nD Cert.GProjCReferenceIdeal.τ).loc Cert.GProjCReferenceIdeal.main_arg0)
          ∧ r.2.mem ((c.tc : Thread Cert.GProjCReferenceIdeal.nD Cert.GProjCReferenceIdeal.τ).loc Cert.GProjCReferenceIdeal.main_arg1) = m' ((c.tc : Thread Cert.GProjCReferenceIdeal.nD Cert.GProjCReferenceIdeal.τ).loc Cert.GProjCReferenceIdeal.main_arg1))

def preserves_GGluKernel_GGluKernelIdeal : Prop :=
  True

def algebraic_GGluKernelIdeal_GGluReferenceIdeal [hGGluKernelIdeal : Cert.GGluKernelIdeal.Facts] [hGGluReferenceIdeal : Cert.GGluReferenceIdeal.Facts] : Prop :=
  ∀ (m : (ℓ : Loc Cert.GGluKernelIdeal.nD Cert.GGluKernelIdeal.τ Cert.GGluKernelIdeal.sig) → Buf (Elt Ideal) ℓ) (g : Dev Cert.GGluKernelIdeal.nD → PrngReg)
    (m' : (ℓ : Loc Cert.GGluReferenceIdeal.nD Cert.GGluReferenceIdeal.τ Cert.GGluReferenceIdeal.sig) → Buf (Elt Ideal) ℓ) (g' : Dev Cert.GGluReferenceIdeal.nD → PrngReg), Pre_GGluKernelIdeal m →
    (∀ c : Dev Cert.GGluKernelIdeal.nD,
      m' ((c.tc : Thread Cert.GGluReferenceIdeal.nD Cert.GGluReferenceIdeal.τ).loc Cert.GGluReferenceIdeal.main_arg0) = m ((c.tc : Thread Cert.GGluKernelIdeal.nD Cert.GGluKernelIdeal.τ).loc Cert.GGluKernelIdeal.main_arg0)
      ∧ m' ((c.tc : Thread Cert.GGluReferenceIdeal.nD Cert.GGluReferenceIdeal.τ).loc Cert.GGluReferenceIdeal.main_arg1) = m ((c.tc : Thread Cert.GGluKernelIdeal.nD Cert.GGluKernelIdeal.τ).loc Cert.GGluKernelIdeal.main_arg1)) →
    ∃ (v0 : (c : Dev Cert.GGluKernelIdeal.nD) → Buf (Elt Ideal) ((c.tc : Thread Cert.GGluKernelIdeal.nD Cert.GGluKernelIdeal.τ).loc Cert.GGluKernelIdeal.main_v0)),
      θ_run (Cert.GGluKernelIdeal.defs (F := Ideal)) (onTc (τ := Cert.GGluKernelIdeal.τ) (Cert.GGluKernelIdeal.main (F := Ideal))) ⟨m, fun _ => 0, g⟩ (fun r => ∀ c : Dev Cert.GGluKernelIdeal.nD,
          r.2.mem ((c.tc : Thread Cert.GGluKernelIdeal.nD Cert.GGluKernelIdeal.τ).loc Cert.GGluKernelIdeal.main_v0) = v0 c
          ∧ r.2.mem ((c.tc : Thread Cert.GGluKernelIdeal.nD Cert.GGluKernelIdeal.τ).loc Cert.GGluKernelIdeal.main_arg0) = m ((c.tc : Thread Cert.GGluKernelIdeal.nD Cert.GGluKernelIdeal.τ).loc Cert.GGluKernelIdeal.main_arg0)
          ∧ r.2.mem ((c.tc : Thread Cert.GGluKernelIdeal.nD Cert.GGluKernelIdeal.τ).loc Cert.GGluKernelIdeal.main_arg1) = m ((c.tc : Thread Cert.GGluKernelIdeal.nD Cert.GGluKernelIdeal.τ).loc Cert.GGluKernelIdeal.main_arg1))
      ∧ θ_run (Cert.GGluReferenceIdeal.defs (F := Ideal)) (onTc (τ := Cert.GGluReferenceIdeal.τ) (Cert.GGluReferenceIdeal.main (F := Ideal))) ⟨m', fun _ => 0, g'⟩ (fun r => ∀ c : Dev Cert.GGluReferenceIdeal.nD,
          r.2.mem ((c.tc : Thread Cert.GGluReferenceIdeal.nD Cert.GGluReferenceIdeal.τ).loc Cert.GGluReferenceIdeal.main_v5) = v0 c
          ∧ r.2.mem ((c.tc : Thread Cert.GGluReferenceIdeal.nD Cert.GGluReferenceIdeal.τ).loc Cert.GGluReferenceIdeal.main_arg0) = m' ((c.tc : Thread Cert.GGluReferenceIdeal.nD Cert.GGluReferenceIdeal.τ).loc Cert.GGluReferenceIdeal.main_arg0)
          ∧ r.2.mem ((c.tc : Thread Cert.GGluReferenceIdeal.nD Cert.GGluReferenceIdeal.τ).loc Cert.GGluReferenceIdeal.main_arg1) = m' ((c.tc : Thread Cert.GGluReferenceIdeal.nD Cert.GGluReferenceIdeal.τ).loc Cert.GGluReferenceIdeal.main_arg1))

def preserves_DMergedKernel_DMergedKernelIdeal : Prop :=
  True

def algebraic_DMergedKernelIdeal_DMergedReferenceIdeal [hDMergedKernelIdeal : Cert.DMergedKernelIdeal.Facts] [hDMergedReferenceIdeal : Cert.DMergedReferenceIdeal.Facts] : Prop :=
  ∀ (m : (ℓ : Loc Cert.DMergedKernelIdeal.nD Cert.DMergedKernelIdeal.τ Cert.DMergedKernelIdeal.sig) → Buf (Elt Ideal) ℓ) (g : Dev Cert.DMergedKernelIdeal.nD → PrngReg)
    (m' : (ℓ : Loc Cert.DMergedReferenceIdeal.nD Cert.DMergedReferenceIdeal.τ Cert.DMergedReferenceIdeal.sig) → Buf (Elt Ideal) ℓ) (g' : Dev Cert.DMergedReferenceIdeal.nD → PrngReg), Pre_DMergedKernelIdeal m →
    (∀ c : Dev Cert.DMergedKernelIdeal.nD,
      m' ((c.tc : Thread Cert.DMergedReferenceIdeal.nD Cert.DMergedReferenceIdeal.τ).loc Cert.DMergedReferenceIdeal.main_arg0) = m ((c.tc : Thread Cert.DMergedKernelIdeal.nD Cert.DMergedKernelIdeal.τ).loc Cert.DMergedKernelIdeal.main_arg0)
      ∧ m' ((c.tc : Thread Cert.DMergedReferenceIdeal.nD Cert.DMergedReferenceIdeal.τ).loc Cert.DMergedReferenceIdeal.main_arg1) = m ((c.tc : Thread Cert.DMergedKernelIdeal.nD Cert.DMergedKernelIdeal.τ).loc Cert.DMergedKernelIdeal.main_arg1)) →
    ∃ (v0 : (c : Dev Cert.DMergedKernelIdeal.nD) → Buf (Elt Ideal) ((c.tc : Thread Cert.DMergedKernelIdeal.nD Cert.DMergedKernelIdeal.τ).loc Cert.DMergedKernelIdeal.main_v0)),
      θ_run (Cert.DMergedKernelIdeal.defs (F := Ideal)) (onTc (τ := Cert.DMergedKernelIdeal.τ) (Cert.DMergedKernelIdeal.main (F := Ideal))) ⟨m, fun _ => 0, g⟩ (fun r => ∀ c : Dev Cert.DMergedKernelIdeal.nD,
          r.2.mem ((c.tc : Thread Cert.DMergedKernelIdeal.nD Cert.DMergedKernelIdeal.τ).loc Cert.DMergedKernelIdeal.main_v0) = v0 c
          ∧ r.2.mem ((c.tc : Thread Cert.DMergedKernelIdeal.nD Cert.DMergedKernelIdeal.τ).loc Cert.DMergedKernelIdeal.main_arg0) = m ((c.tc : Thread Cert.DMergedKernelIdeal.nD Cert.DMergedKernelIdeal.τ).loc Cert.DMergedKernelIdeal.main_arg0)
          ∧ r.2.mem ((c.tc : Thread Cert.DMergedKernelIdeal.nD Cert.DMergedKernelIdeal.τ).loc Cert.DMergedKernelIdeal.main_arg1) = m ((c.tc : Thread Cert.DMergedKernelIdeal.nD Cert.DMergedKernelIdeal.τ).loc Cert.DMergedKernelIdeal.main_arg1))
      ∧ θ_run (Cert.DMergedReferenceIdeal.defs (F := Ideal)) (onTc (τ := Cert.DMergedReferenceIdeal.τ) (Cert.DMergedReferenceIdeal.main (F := Ideal))) ⟨m', fun _ => 0, g'⟩ (fun r => ∀ c : Dev Cert.DMergedReferenceIdeal.nD,
          r.2.mem ((c.tc : Thread Cert.DMergedReferenceIdeal.nD Cert.DMergedReferenceIdeal.τ).loc Cert.DMergedReferenceIdeal.main_v3) = v0 c
          ∧ r.2.mem ((c.tc : Thread Cert.DMergedReferenceIdeal.nD Cert.DMergedReferenceIdeal.τ).loc Cert.DMergedReferenceIdeal.main_arg0) = m' ((c.tc : Thread Cert.DMergedReferenceIdeal.nD Cert.DMergedReferenceIdeal.τ).loc Cert.DMergedReferenceIdeal.main_arg0)
          ∧ r.2.mem ((c.tc : Thread Cert.DMergedReferenceIdeal.nD Cert.DMergedReferenceIdeal.τ).loc Cert.DMergedReferenceIdeal.main_arg1) = m' ((c.tc : Thread Cert.DMergedReferenceIdeal.nD Cert.DMergedReferenceIdeal.τ).loc Cert.DMergedReferenceIdeal.main_arg1))

def preserves_DYaKernel_DYaKernelIdeal : Prop :=
  True

def algebraic_DYaKernelIdeal_DYaReferenceIdeal [hDYaKernelIdeal : Cert.DYaKernelIdeal.Facts] [hDYaReferenceIdeal : Cert.DYaReferenceIdeal.Facts] : Prop :=
  ∀ (m : (ℓ : Loc Cert.DYaKernelIdeal.nD Cert.DYaKernelIdeal.τ Cert.DYaKernelIdeal.sig) → Buf (Elt Ideal) ℓ) (g : Dev Cert.DYaKernelIdeal.nD → PrngReg)
    (m' : (ℓ : Loc Cert.DYaReferenceIdeal.nD Cert.DYaReferenceIdeal.τ Cert.DYaReferenceIdeal.sig) → Buf (Elt Ideal) ℓ) (g' : Dev Cert.DYaReferenceIdeal.nD → PrngReg), Pre_DYaKernelIdeal m →
    (∀ c : Dev Cert.DYaKernelIdeal.nD,
      m' ((c.tc : Thread Cert.DYaReferenceIdeal.nD Cert.DYaReferenceIdeal.τ).loc Cert.DYaReferenceIdeal.main_arg0) = m ((c.tc : Thread Cert.DYaKernelIdeal.nD Cert.DYaKernelIdeal.τ).loc Cert.DYaKernelIdeal.main_arg0)
      ∧ m' ((c.tc : Thread Cert.DYaReferenceIdeal.nD Cert.DYaReferenceIdeal.τ).loc Cert.DYaReferenceIdeal.main_arg1) = m ((c.tc : Thread Cert.DYaKernelIdeal.nD Cert.DYaKernelIdeal.τ).loc Cert.DYaKernelIdeal.main_arg1)) →
    ∃ (v0 : (c : Dev Cert.DYaKernelIdeal.nD) → Buf (Elt Ideal) ((c.tc : Thread Cert.DYaKernelIdeal.nD Cert.DYaKernelIdeal.τ).loc Cert.DYaKernelIdeal.main_v0)),
      θ_run (Cert.DYaKernelIdeal.defs (F := Ideal)) (onTc (τ := Cert.DYaKernelIdeal.τ) (Cert.DYaKernelIdeal.main (F := Ideal))) ⟨m, fun _ => 0, g⟩ (fun r => ∀ c : Dev Cert.DYaKernelIdeal.nD,
          r.2.mem ((c.tc : Thread Cert.DYaKernelIdeal.nD Cert.DYaKernelIdeal.τ).loc Cert.DYaKernelIdeal.main_v0) = v0 c
          ∧ r.2.mem ((c.tc : Thread Cert.DYaKernelIdeal.nD Cert.DYaKernelIdeal.τ).loc Cert.DYaKernelIdeal.main_arg0) = m ((c.tc : Thread Cert.DYaKernelIdeal.nD Cert.DYaKernelIdeal.τ).loc Cert.DYaKernelIdeal.main_arg0)
          ∧ r.2.mem ((c.tc : Thread Cert.DYaKernelIdeal.nD Cert.DYaKernelIdeal.τ).loc Cert.DYaKernelIdeal.main_arg1) = m ((c.tc : Thread Cert.DYaKernelIdeal.nD Cert.DYaKernelIdeal.τ).loc Cert.DYaKernelIdeal.main_arg1))
      ∧ θ_run (Cert.DYaReferenceIdeal.defs (F := Ideal)) (onTc (τ := Cert.DYaReferenceIdeal.τ) (Cert.DYaReferenceIdeal.main (F := Ideal))) ⟨m', fun _ => 0, g'⟩ (fun r => ∀ c : Dev Cert.DYaReferenceIdeal.nD,
          r.2.mem ((c.tc : Thread Cert.DYaReferenceIdeal.nD Cert.DYaReferenceIdeal.τ).loc Cert.DYaReferenceIdeal.main_v4) = v0 c
          ∧ r.2.mem ((c.tc : Thread Cert.DYaReferenceIdeal.nD Cert.DYaReferenceIdeal.τ).loc Cert.DYaReferenceIdeal.main_arg0) = m' ((c.tc : Thread Cert.DYaReferenceIdeal.nD Cert.DYaReferenceIdeal.τ).loc Cert.DYaReferenceIdeal.main_arg0)
          ∧ r.2.mem ((c.tc : Thread Cert.DYaReferenceIdeal.nD Cert.DYaReferenceIdeal.τ).loc Cert.DYaReferenceIdeal.main_arg1) = m' ((c.tc : Thread Cert.DYaReferenceIdeal.nD Cert.DYaReferenceIdeal.τ).loc Cert.DYaReferenceIdeal.main_arg1))

def preserves_DYbKernel_DYbKernelIdeal : Prop :=
  True

def algebraic_DYbKernelIdeal_DYbReferenceIdeal [hDYbKernelIdeal : Cert.DYbKernelIdeal.Facts] [hDYbReferenceIdeal : Cert.DYbReferenceIdeal.Facts] : Prop :=
  ∀ (m : (ℓ : Loc Cert.DYbKernelIdeal.nD Cert.DYbKernelIdeal.τ Cert.DYbKernelIdeal.sig) → Buf (Elt Ideal) ℓ) (g : Dev Cert.DYbKernelIdeal.nD → PrngReg)
    (m' : (ℓ : Loc Cert.DYbReferenceIdeal.nD Cert.DYbReferenceIdeal.τ Cert.DYbReferenceIdeal.sig) → Buf (Elt Ideal) ℓ) (g' : Dev Cert.DYbReferenceIdeal.nD → PrngReg), Pre_DYbKernelIdeal m →
    (∀ c : Dev Cert.DYbKernelIdeal.nD,
      m' ((c.tc : Thread Cert.DYbReferenceIdeal.nD Cert.DYbReferenceIdeal.τ).loc Cert.DYbReferenceIdeal.main_arg0) = m ((c.tc : Thread Cert.DYbKernelIdeal.nD Cert.DYbKernelIdeal.τ).loc Cert.DYbKernelIdeal.main_arg0)
      ∧ m' ((c.tc : Thread Cert.DYbReferenceIdeal.nD Cert.DYbReferenceIdeal.τ).loc Cert.DYbReferenceIdeal.main_arg1) = m ((c.tc : Thread Cert.DYbKernelIdeal.nD Cert.DYbKernelIdeal.τ).loc Cert.DYbKernelIdeal.main_arg1)) →
    ∃ (v0 : (c : Dev Cert.DYbKernelIdeal.nD) → Buf (Elt Ideal) ((c.tc : Thread Cert.DYbKernelIdeal.nD Cert.DYbKernelIdeal.τ).loc Cert.DYbKernelIdeal.main_v0)),
      θ_run (Cert.DYbKernelIdeal.defs (F := Ideal)) (onTc (τ := Cert.DYbKernelIdeal.τ) (Cert.DYbKernelIdeal.main (F := Ideal))) ⟨m, fun _ => 0, g⟩ (fun r => ∀ c : Dev Cert.DYbKernelIdeal.nD,
          r.2.mem ((c.tc : Thread Cert.DYbKernelIdeal.nD Cert.DYbKernelIdeal.τ).loc Cert.DYbKernelIdeal.main_v0) = v0 c
          ∧ r.2.mem ((c.tc : Thread Cert.DYbKernelIdeal.nD Cert.DYbKernelIdeal.τ).loc Cert.DYbKernelIdeal.main_arg0) = m ((c.tc : Thread Cert.DYbKernelIdeal.nD Cert.DYbKernelIdeal.τ).loc Cert.DYbKernelIdeal.main_arg0)
          ∧ r.2.mem ((c.tc : Thread Cert.DYbKernelIdeal.nD Cert.DYbKernelIdeal.τ).loc Cert.DYbKernelIdeal.main_arg1) = m ((c.tc : Thread Cert.DYbKernelIdeal.nD Cert.DYbKernelIdeal.τ).loc Cert.DYbKernelIdeal.main_arg1))
      ∧ θ_run (Cert.DYbReferenceIdeal.defs (F := Ideal)) (onTc (τ := Cert.DYbReferenceIdeal.τ) (Cert.DYbReferenceIdeal.main (F := Ideal))) ⟨m', fun _ => 0, g'⟩ (fun r => ∀ c : Dev Cert.DYbReferenceIdeal.nD,
          r.2.mem ((c.tc : Thread Cert.DYbReferenceIdeal.nD Cert.DYbReferenceIdeal.τ).loc Cert.DYbReferenceIdeal.main_v4) = v0 c
          ∧ r.2.mem ((c.tc : Thread Cert.DYbReferenceIdeal.nD Cert.DYbReferenceIdeal.τ).loc Cert.DYbReferenceIdeal.main_arg0) = m' ((c.tc : Thread Cert.DYbReferenceIdeal.nD Cert.DYbReferenceIdeal.τ).loc Cert.DYbReferenceIdeal.main_arg0)
          ∧ r.2.mem ((c.tc : Thread Cert.DYbReferenceIdeal.nD Cert.DYbReferenceIdeal.τ).loc Cert.DYbReferenceIdeal.main_arg1) = m' ((c.tc : Thread Cert.DYbReferenceIdeal.nD Cert.DYbReferenceIdeal.τ).loc Cert.DYbReferenceIdeal.main_arg1))

def preserves_DYcKernel_DYcKernelIdeal : Prop :=
  True

def algebraic_DYcKernelIdeal_DYcReferenceIdeal [hDYcKernelIdeal : Cert.DYcKernelIdeal.Facts] [hDYcReferenceIdeal : Cert.DYcReferenceIdeal.Facts] : Prop :=
  ∀ (m : (ℓ : Loc Cert.DYcKernelIdeal.nD Cert.DYcKernelIdeal.τ Cert.DYcKernelIdeal.sig) → Buf (Elt Ideal) ℓ) (g : Dev Cert.DYcKernelIdeal.nD → PrngReg)
    (m' : (ℓ : Loc Cert.DYcReferenceIdeal.nD Cert.DYcReferenceIdeal.τ Cert.DYcReferenceIdeal.sig) → Buf (Elt Ideal) ℓ) (g' : Dev Cert.DYcReferenceIdeal.nD → PrngReg), Pre_DYcKernelIdeal m →
    (∀ c : Dev Cert.DYcKernelIdeal.nD,
      m' ((c.tc : Thread Cert.DYcReferenceIdeal.nD Cert.DYcReferenceIdeal.τ).loc Cert.DYcReferenceIdeal.main_arg0) = m ((c.tc : Thread Cert.DYcKernelIdeal.nD Cert.DYcKernelIdeal.τ).loc Cert.DYcKernelIdeal.main_arg0)
      ∧ m' ((c.tc : Thread Cert.DYcReferenceIdeal.nD Cert.DYcReferenceIdeal.τ).loc Cert.DYcReferenceIdeal.main_arg1) = m ((c.tc : Thread Cert.DYcKernelIdeal.nD Cert.DYcKernelIdeal.τ).loc Cert.DYcKernelIdeal.main_arg1)) →
    ∃ (v0 : (c : Dev Cert.DYcKernelIdeal.nD) → Buf (Elt Ideal) ((c.tc : Thread Cert.DYcKernelIdeal.nD Cert.DYcKernelIdeal.τ).loc Cert.DYcKernelIdeal.main_v0)),
      θ_run (Cert.DYcKernelIdeal.defs (F := Ideal)) (onTc (τ := Cert.DYcKernelIdeal.τ) (Cert.DYcKernelIdeal.main (F := Ideal))) ⟨m, fun _ => 0, g⟩ (fun r => ∀ c : Dev Cert.DYcKernelIdeal.nD,
          r.2.mem ((c.tc : Thread Cert.DYcKernelIdeal.nD Cert.DYcKernelIdeal.τ).loc Cert.DYcKernelIdeal.main_v0) = v0 c
          ∧ r.2.mem ((c.tc : Thread Cert.DYcKernelIdeal.nD Cert.DYcKernelIdeal.τ).loc Cert.DYcKernelIdeal.main_arg0) = m ((c.tc : Thread Cert.DYcKernelIdeal.nD Cert.DYcKernelIdeal.τ).loc Cert.DYcKernelIdeal.main_arg0)
          ∧ r.2.mem ((c.tc : Thread Cert.DYcKernelIdeal.nD Cert.DYcKernelIdeal.τ).loc Cert.DYcKernelIdeal.main_arg1) = m ((c.tc : Thread Cert.DYcKernelIdeal.nD Cert.DYcKernelIdeal.τ).loc Cert.DYcKernelIdeal.main_arg1))
      ∧ θ_run (Cert.DYcReferenceIdeal.defs (F := Ideal)) (onTc (τ := Cert.DYcReferenceIdeal.τ) (Cert.DYcReferenceIdeal.main (F := Ideal))) ⟨m', fun _ => 0, g'⟩ (fun r => ∀ c : Dev Cert.DYcReferenceIdeal.nD,
          r.2.mem ((c.tc : Thread Cert.DYcReferenceIdeal.nD Cert.DYcReferenceIdeal.τ).loc Cert.DYcReferenceIdeal.main_v4) = v0 c
          ∧ r.2.mem ((c.tc : Thread Cert.DYcReferenceIdeal.nD Cert.DYcReferenceIdeal.τ).loc Cert.DYcReferenceIdeal.main_arg0) = m' ((c.tc : Thread Cert.DYcReferenceIdeal.nD Cert.DYcReferenceIdeal.τ).loc Cert.DYcReferenceIdeal.main_arg0)
          ∧ r.2.mem ((c.tc : Thread Cert.DYcReferenceIdeal.nD Cert.DYcReferenceIdeal.τ).loc Cert.DYcReferenceIdeal.main_arg1) = m' ((c.tc : Thread Cert.DYcReferenceIdeal.nD Cert.DYcReferenceIdeal.τ).loc Cert.DYcReferenceIdeal.main_arg1))

def preserves_DGKernel_DGKernelIdeal : Prop :=
  True

def algebraic_DGKernelIdeal_DGReferenceIdeal [hDGKernelIdeal : Cert.DGKernelIdeal.Facts] [hDGReferenceIdeal : Cert.DGReferenceIdeal.Facts] : Prop :=
  ∀ (m : (ℓ : Loc Cert.DGKernelIdeal.nD Cert.DGKernelIdeal.τ Cert.DGKernelIdeal.sig) → Buf (Elt Ideal) ℓ) (g : Dev Cert.DGKernelIdeal.nD → PrngReg)
    (m' : (ℓ : Loc Cert.DGReferenceIdeal.nD Cert.DGReferenceIdeal.τ Cert.DGReferenceIdeal.sig) → Buf (Elt Ideal) ℓ) (g' : Dev Cert.DGReferenceIdeal.nD → PrngReg), Pre_DGKernelIdeal m →
    (∀ c : Dev Cert.DGKernelIdeal.nD,
      m' ((c.tc : Thread Cert.DGReferenceIdeal.nD Cert.DGReferenceIdeal.τ).loc Cert.DGReferenceIdeal.main_arg0) = m ((c.tc : Thread Cert.DGKernelIdeal.nD Cert.DGKernelIdeal.τ).loc Cert.DGKernelIdeal.main_arg0)
      ∧ m' ((c.tc : Thread Cert.DGReferenceIdeal.nD Cert.DGReferenceIdeal.τ).loc Cert.DGReferenceIdeal.main_arg1) = m ((c.tc : Thread Cert.DGKernelIdeal.nD Cert.DGKernelIdeal.τ).loc Cert.DGKernelIdeal.main_arg1)
      ∧ m' ((c.tc : Thread Cert.DGReferenceIdeal.nD Cert.DGReferenceIdeal.τ).loc Cert.DGReferenceIdeal.main_arg2) = m ((c.tc : Thread Cert.DGKernelIdeal.nD Cert.DGKernelIdeal.τ).loc Cert.DGKernelIdeal.main_arg2)) →
    ∃ (v0 : (c : Dev Cert.DGKernelIdeal.nD) → Buf (Elt Ideal) ((c.tc : Thread Cert.DGKernelIdeal.nD Cert.DGKernelIdeal.τ).loc Cert.DGKernelIdeal.main_v0)),
      θ_run (Cert.DGKernelIdeal.defs (F := Ideal)) (onTc (τ := Cert.DGKernelIdeal.τ) (Cert.DGKernelIdeal.main (F := Ideal))) ⟨m, fun _ => 0, g⟩ (fun r => ∀ c : Dev Cert.DGKernelIdeal.nD,
          r.2.mem ((c.tc : Thread Cert.DGKernelIdeal.nD Cert.DGKernelIdeal.τ).loc Cert.DGKernelIdeal.main_v0) = v0 c
          ∧ r.2.mem ((c.tc : Thread Cert.DGKernelIdeal.nD Cert.DGKernelIdeal.τ).loc Cert.DGKernelIdeal.main_arg0) = m ((c.tc : Thread Cert.DGKernelIdeal.nD Cert.DGKernelIdeal.τ).loc Cert.DGKernelIdeal.main_arg0)
          ∧ r.2.mem ((c.tc : Thread Cert.DGKernelIdeal.nD Cert.DGKernelIdeal.τ).loc Cert.DGKernelIdeal.main_arg1) = m ((c.tc : Thread Cert.DGKernelIdeal.nD Cert.DGKernelIdeal.τ).loc Cert.DGKernelIdeal.main_arg1)
          ∧ r.2.mem ((c.tc : Thread Cert.DGKernelIdeal.nD Cert.DGKernelIdeal.τ).loc Cert.DGKernelIdeal.main_arg2) = m ((c.tc : Thread Cert.DGKernelIdeal.nD Cert.DGKernelIdeal.τ).loc Cert.DGKernelIdeal.main_arg2))
      ∧ θ_run (Cert.DGReferenceIdeal.defs (F := Ideal)) (onTc (τ := Cert.DGReferenceIdeal.τ) (Cert.DGReferenceIdeal.main (F := Ideal))) ⟨m', fun _ => 0, g'⟩ (fun r => ∀ c : Dev Cert.DGReferenceIdeal.nD,
          r.2.mem ((c.tc : Thread Cert.DGReferenceIdeal.nD Cert.DGReferenceIdeal.τ).loc Cert.DGReferenceIdeal.main_v5) = v0 c
          ∧ r.2.mem ((c.tc : Thread Cert.DGReferenceIdeal.nD Cert.DGReferenceIdeal.τ).loc Cert.DGReferenceIdeal.main_arg0) = m' ((c.tc : Thread Cert.DGReferenceIdeal.nD Cert.DGReferenceIdeal.τ).loc Cert.DGReferenceIdeal.main_arg0)
          ∧ r.2.mem ((c.tc : Thread Cert.DGReferenceIdeal.nD Cert.DGReferenceIdeal.τ).loc Cert.DGReferenceIdeal.main_arg1) = m' ((c.tc : Thread Cert.DGReferenceIdeal.nD Cert.DGReferenceIdeal.τ).loc Cert.DGReferenceIdeal.main_arg1)
          ∧ r.2.mem ((c.tc : Thread Cert.DGReferenceIdeal.nD Cert.DGReferenceIdeal.τ).loc Cert.DGReferenceIdeal.main_arg2) = m' ((c.tc : Thread Cert.DGReferenceIdeal.nD Cert.DGReferenceIdeal.τ).loc Cert.DGReferenceIdeal.main_arg2))

def preserves_InAKernel_InAKernelIdeal : Prop :=
  True

def algebraic_InAKernelIdeal_InAReferenceIdeal [hInAKernelIdeal : Cert.InAKernelIdeal.Facts] [hInAReferenceIdeal : Cert.InAReferenceIdeal.Facts] : Prop :=
  ∀ (m : (ℓ : Loc Cert.InAKernelIdeal.nD Cert.InAKernelIdeal.τ Cert.InAKernelIdeal.sig) → Buf (Elt Ideal) ℓ) (g : Dev Cert.InAKernelIdeal.nD → PrngReg)
    (m' : (ℓ : Loc Cert.InAReferenceIdeal.nD Cert.InAReferenceIdeal.τ Cert.InAReferenceIdeal.sig) → Buf (Elt Ideal) ℓ) (g' : Dev Cert.InAReferenceIdeal.nD → PrngReg), Pre_InAKernelIdeal m →
    (∀ c : Dev Cert.InAKernelIdeal.nD,
      m' ((c.tc : Thread Cert.InAReferenceIdeal.nD Cert.InAReferenceIdeal.τ).loc Cert.InAReferenceIdeal.main_arg0) = m ((c.tc : Thread Cert.InAKernelIdeal.nD Cert.InAKernelIdeal.τ).loc Cert.InAKernelIdeal.main_arg0)
      ∧ m' ((c.tc : Thread Cert.InAReferenceIdeal.nD Cert.InAReferenceIdeal.τ).loc Cert.InAReferenceIdeal.main_arg1) = m ((c.tc : Thread Cert.InAKernelIdeal.nD Cert.InAKernelIdeal.τ).loc Cert.InAKernelIdeal.main_arg1)) →
    ∃ (v0 : (c : Dev Cert.InAKernelIdeal.nD) → Buf (Elt Ideal) ((c.tc : Thread Cert.InAKernelIdeal.nD Cert.InAKernelIdeal.τ).loc Cert.InAKernelIdeal.main_v0)),
      θ_run (Cert.InAKernelIdeal.defs (F := Ideal)) (onTc (τ := Cert.InAKernelIdeal.τ) (Cert.InAKernelIdeal.main (F := Ideal))) ⟨m, fun _ => 0, g⟩ (fun r => ∀ c : Dev Cert.InAKernelIdeal.nD,
          r.2.mem ((c.tc : Thread Cert.InAKernelIdeal.nD Cert.InAKernelIdeal.τ).loc Cert.InAKernelIdeal.main_v0) = v0 c
          ∧ r.2.mem ((c.tc : Thread Cert.InAKernelIdeal.nD Cert.InAKernelIdeal.τ).loc Cert.InAKernelIdeal.main_arg0) = m ((c.tc : Thread Cert.InAKernelIdeal.nD Cert.InAKernelIdeal.τ).loc Cert.InAKernelIdeal.main_arg0)
          ∧ r.2.mem ((c.tc : Thread Cert.InAKernelIdeal.nD Cert.InAKernelIdeal.τ).loc Cert.InAKernelIdeal.main_arg1) = m ((c.tc : Thread Cert.InAKernelIdeal.nD Cert.InAKernelIdeal.τ).loc Cert.InAKernelIdeal.main_arg1))
      ∧ θ_run (Cert.InAReferenceIdeal.defs (F := Ideal)) (onTc (τ := Cert.InAReferenceIdeal.τ) (Cert.InAReferenceIdeal.main (F := Ideal))) ⟨m', fun _ => 0, g'⟩ (fun r => ∀ c : Dev Cert.InAReferenceIdeal.nD,
          r.2.mem ((c.tc : Thread Cert.InAReferenceIdeal.nD Cert.InAReferenceIdeal.τ).loc Cert.InAReferenceIdeal.main_v2) = v0 c
          ∧ r.2.mem ((c.tc : Thread Cert.InAReferenceIdeal.nD Cert.InAReferenceIdeal.τ).loc Cert.InAReferenceIdeal.main_arg0) = m' ((c.tc : Thread Cert.InAReferenceIdeal.nD Cert.InAReferenceIdeal.τ).loc Cert.InAReferenceIdeal.main_arg0)
          ∧ r.2.mem ((c.tc : Thread Cert.InAReferenceIdeal.nD Cert.InAReferenceIdeal.τ).loc Cert.InAReferenceIdeal.main_arg1) = m' ((c.tc : Thread Cert.InAReferenceIdeal.nD Cert.InAReferenceIdeal.τ).loc Cert.InAReferenceIdeal.main_arg1))

def preserves_InQKernel_InQKernelIdeal : Prop :=
  True

def algebraic_InQKernelIdeal_InQReferenceIdeal [hInQKernelIdeal : Cert.InQKernelIdeal.Facts] [hInQReferenceIdeal : Cert.InQReferenceIdeal.Facts] : Prop :=
  ∀ (m : (ℓ : Loc Cert.InQKernelIdeal.nD Cert.InQKernelIdeal.τ Cert.InQKernelIdeal.sig) → Buf (Elt Ideal) ℓ) (g : Dev Cert.InQKernelIdeal.nD → PrngReg)
    (m' : (ℓ : Loc Cert.InQReferenceIdeal.nD Cert.InQReferenceIdeal.τ Cert.InQReferenceIdeal.sig) → Buf (Elt Ideal) ℓ) (g' : Dev Cert.InQReferenceIdeal.nD → PrngReg), Pre_InQKernelIdeal m →
    (∀ c : Dev Cert.InQKernelIdeal.nD,
      m' ((c.tc : Thread Cert.InQReferenceIdeal.nD Cert.InQReferenceIdeal.τ).loc Cert.InQReferenceIdeal.main_arg0) = m ((c.tc : Thread Cert.InQKernelIdeal.nD Cert.InQKernelIdeal.τ).loc Cert.InQKernelIdeal.main_arg0)
      ∧ m' ((c.tc : Thread Cert.InQReferenceIdeal.nD Cert.InQReferenceIdeal.τ).loc Cert.InQReferenceIdeal.main_arg1) = m ((c.tc : Thread Cert.InQKernelIdeal.nD Cert.InQKernelIdeal.τ).loc Cert.InQKernelIdeal.main_arg1)) →
    ∃ (v0 : (c : Dev Cert.InQKernelIdeal.nD) → Buf (Elt Ideal) ((c.tc : Thread Cert.InQKernelIdeal.nD Cert.InQKernelIdeal.τ).loc Cert.InQKernelIdeal.main_v0)),
      θ_run (Cert.InQKernelIdeal.defs (F := Ideal)) (onTc (τ := Cert.InQKernelIdeal.τ) (Cert.InQKernelIdeal.main (F := Ideal))) ⟨m, fun _ => 0, g⟩ (fun r => ∀ c : Dev Cert.InQKernelIdeal.nD,
          r.2.mem ((c.tc : Thread Cert.InQKernelIdeal.nD Cert.InQKernelIdeal.τ).loc Cert.InQKernelIdeal.main_v0) = v0 c
          ∧ r.2.mem ((c.tc : Thread Cert.InQKernelIdeal.nD Cert.InQKernelIdeal.τ).loc Cert.InQKernelIdeal.main_arg0) = m ((c.tc : Thread Cert.InQKernelIdeal.nD Cert.InQKernelIdeal.τ).loc Cert.InQKernelIdeal.main_arg0)
          ∧ r.2.mem ((c.tc : Thread Cert.InQKernelIdeal.nD Cert.InQKernelIdeal.τ).loc Cert.InQKernelIdeal.main_arg1) = m ((c.tc : Thread Cert.InQKernelIdeal.nD Cert.InQKernelIdeal.τ).loc Cert.InQKernelIdeal.main_arg1))
      ∧ θ_run (Cert.InQReferenceIdeal.defs (F := Ideal)) (onTc (τ := Cert.InQReferenceIdeal.τ) (Cert.InQReferenceIdeal.main (F := Ideal))) ⟨m', fun _ => 0, g'⟩ (fun r => ∀ c : Dev Cert.InQReferenceIdeal.nD,
          r.2.mem ((c.tc : Thread Cert.InQReferenceIdeal.nD Cert.InQReferenceIdeal.τ).loc Cert.InQReferenceIdeal.main_v2) = v0 c
          ∧ r.2.mem ((c.tc : Thread Cert.InQReferenceIdeal.nD Cert.InQReferenceIdeal.τ).loc Cert.InQReferenceIdeal.main_arg0) = m' ((c.tc : Thread Cert.InQReferenceIdeal.nD Cert.InQReferenceIdeal.τ).loc Cert.InQReferenceIdeal.main_arg0)
          ∧ r.2.mem ((c.tc : Thread Cert.InQReferenceIdeal.nD Cert.InQReferenceIdeal.τ).loc Cert.InQReferenceIdeal.main_arg1) = m' ((c.tc : Thread Cert.InQReferenceIdeal.nD Cert.InQReferenceIdeal.τ).loc Cert.InQReferenceIdeal.main_arg1))

def preserves_InGKernel_InGKernelIdeal : Prop :=
  True

def algebraic_InGKernelIdeal_InGReferenceIdeal [hInGKernelIdeal : Cert.InGKernelIdeal.Facts] [hInGReferenceIdeal : Cert.InGReferenceIdeal.Facts] : Prop :=
  ∀ (m : (ℓ : Loc Cert.InGKernelIdeal.nD Cert.InGKernelIdeal.τ Cert.InGKernelIdeal.sig) → Buf (Elt Ideal) ℓ) (g : Dev Cert.InGKernelIdeal.nD → PrngReg)
    (m' : (ℓ : Loc Cert.InGReferenceIdeal.nD Cert.InGReferenceIdeal.τ Cert.InGReferenceIdeal.sig) → Buf (Elt Ideal) ℓ) (g' : Dev Cert.InGReferenceIdeal.nD → PrngReg), Pre_InGKernelIdeal m →
    (∀ c : Dev Cert.InGKernelIdeal.nD,
      m' ((c.tc : Thread Cert.InGReferenceIdeal.nD Cert.InGReferenceIdeal.τ).loc Cert.InGReferenceIdeal.main_arg0) = m ((c.tc : Thread Cert.InGKernelIdeal.nD Cert.InGKernelIdeal.τ).loc Cert.InGKernelIdeal.main_arg0)
      ∧ m' ((c.tc : Thread Cert.InGReferenceIdeal.nD Cert.InGReferenceIdeal.τ).loc Cert.InGReferenceIdeal.main_arg1) = m ((c.tc : Thread Cert.InGKernelIdeal.nD Cert.InGKernelIdeal.τ).loc Cert.InGKernelIdeal.main_arg1)) →
    ∃ (v0 : (c : Dev Cert.InGKernelIdeal.nD) → Buf (Elt Ideal) ((c.tc : Thread Cert.InGKernelIdeal.nD Cert.InGKernelIdeal.τ).loc Cert.InGKernelIdeal.main_v0)),
      θ_run (Cert.InGKernelIdeal.defs (F := Ideal)) (onTc (τ := Cert.InGKernelIdeal.τ) (Cert.InGKernelIdeal.main (F := Ideal))) ⟨m, fun _ => 0, g⟩ (fun r => ∀ c : Dev Cert.InGKernelIdeal.nD,
          r.2.mem ((c.tc : Thread Cert.InGKernelIdeal.nD Cert.InGKernelIdeal.τ).loc Cert.InGKernelIdeal.main_v0) = v0 c
          ∧ r.2.mem ((c.tc : Thread Cert.InGKernelIdeal.nD Cert.InGKernelIdeal.τ).loc Cert.InGKernelIdeal.main_arg0) = m ((c.tc : Thread Cert.InGKernelIdeal.nD Cert.InGKernelIdeal.τ).loc Cert.InGKernelIdeal.main_arg0)
          ∧ r.2.mem ((c.tc : Thread Cert.InGKernelIdeal.nD Cert.InGKernelIdeal.τ).loc Cert.InGKernelIdeal.main_arg1) = m ((c.tc : Thread Cert.InGKernelIdeal.nD Cert.InGKernelIdeal.τ).loc Cert.InGKernelIdeal.main_arg1))
      ∧ θ_run (Cert.InGReferenceIdeal.defs (F := Ideal)) (onTc (τ := Cert.InGReferenceIdeal.τ) (Cert.InGReferenceIdeal.main (F := Ideal))) ⟨m', fun _ => 0, g'⟩ (fun r => ∀ c : Dev Cert.InGReferenceIdeal.nD,
          r.2.mem ((c.tc : Thread Cert.InGReferenceIdeal.nD Cert.InGReferenceIdeal.τ).loc Cert.InGReferenceIdeal.main_v2) = v0 c
          ∧ r.2.mem ((c.tc : Thread Cert.InGReferenceIdeal.nD Cert.InGReferenceIdeal.τ).loc Cert.InGReferenceIdeal.main_arg0) = m' ((c.tc : Thread Cert.InGReferenceIdeal.nD Cert.InGReferenceIdeal.τ).loc Cert.InGReferenceIdeal.main_arg0)
          ∧ r.2.mem ((c.tc : Thread Cert.InGReferenceIdeal.nD Cert.InGReferenceIdeal.τ).loc Cert.InGReferenceIdeal.main_arg1) = m' ((c.tc : Thread Cert.InGReferenceIdeal.nD Cert.InGReferenceIdeal.τ).loc Cert.InGReferenceIdeal.main_arg1))

def preserves_ProjAKernel_ProjAKernelIdeal : Prop :=
  True

def algebraic_ProjAKernelIdeal_ProjAReferenceIdeal [hProjAKernelIdeal : Cert.ProjAKernelIdeal.Facts] [hProjAReferenceIdeal : Cert.ProjAReferenceIdeal.Facts] : Prop :=
  ∀ (m : (ℓ : Loc Cert.ProjAKernelIdeal.nD Cert.ProjAKernelIdeal.τ Cert.ProjAKernelIdeal.sig) → Buf (Elt Ideal) ℓ) (g : Dev Cert.ProjAKernelIdeal.nD → PrngReg)
    (m' : (ℓ : Loc Cert.ProjAReferenceIdeal.nD Cert.ProjAReferenceIdeal.τ Cert.ProjAReferenceIdeal.sig) → Buf (Elt Ideal) ℓ) (g' : Dev Cert.ProjAReferenceIdeal.nD → PrngReg), Pre_ProjAKernelIdeal m →
    (∀ c : Dev Cert.ProjAKernelIdeal.nD,
      m' ((c.tc : Thread Cert.ProjAReferenceIdeal.nD Cert.ProjAReferenceIdeal.τ).loc Cert.ProjAReferenceIdeal.main_arg0) = m ((c.tc : Thread Cert.ProjAKernelIdeal.nD Cert.ProjAKernelIdeal.τ).loc Cert.ProjAKernelIdeal.main_arg0)
      ∧ m' ((c.tc : Thread Cert.ProjAReferenceIdeal.nD Cert.ProjAReferenceIdeal.τ).loc Cert.ProjAReferenceIdeal.main_arg1) = m ((c.tc : Thread Cert.ProjAKernelIdeal.nD Cert.ProjAKernelIdeal.τ).loc Cert.ProjAKernelIdeal.main_arg1)) →
    ∃ (v0 : (c : Dev Cert.ProjAKernelIdeal.nD) → Buf (Elt Ideal) ((c.tc : Thread Cert.ProjAKernelIdeal.nD Cert.ProjAKernelIdeal.τ).loc Cert.ProjAKernelIdeal.main_v0)),
      θ_run (Cert.ProjAKernelIdeal.defs (F := Ideal)) (onTc (τ := Cert.ProjAKernelIdeal.τ) (Cert.ProjAKernelIdeal.main (F := Ideal))) ⟨m, fun _ => 0, g⟩ (fun r => ∀ c : Dev Cert.ProjAKernelIdeal.nD,
          r.2.mem ((c.tc : Thread Cert.ProjAKernelIdeal.nD Cert.ProjAKernelIdeal.τ).loc Cert.ProjAKernelIdeal.main_v0) = v0 c
          ∧ r.2.mem ((c.tc : Thread Cert.ProjAKernelIdeal.nD Cert.ProjAKernelIdeal.τ).loc Cert.ProjAKernelIdeal.main_arg0) = m ((c.tc : Thread Cert.ProjAKernelIdeal.nD Cert.ProjAKernelIdeal.τ).loc Cert.ProjAKernelIdeal.main_arg0)
          ∧ r.2.mem ((c.tc : Thread Cert.ProjAKernelIdeal.nD Cert.ProjAKernelIdeal.τ).loc Cert.ProjAKernelIdeal.main_arg1) = m ((c.tc : Thread Cert.ProjAKernelIdeal.nD Cert.ProjAKernelIdeal.τ).loc Cert.ProjAKernelIdeal.main_arg1))
      ∧ θ_run (Cert.ProjAReferenceIdeal.defs (F := Ideal)) (onTc (τ := Cert.ProjAReferenceIdeal.τ) (Cert.ProjAReferenceIdeal.main (F := Ideal))) ⟨m', fun _ => 0, g'⟩ (fun r => ∀ c : Dev Cert.ProjAReferenceIdeal.nD,
          r.2.mem ((c.tc : Thread Cert.ProjAReferenceIdeal.nD Cert.ProjAReferenceIdeal.τ).loc Cert.ProjAReferenceIdeal.main_v2) = v0 c
          ∧ r.2.mem ((c.tc : Thread Cert.ProjAReferenceIdeal.nD Cert.ProjAReferenceIdeal.τ).loc Cert.ProjAReferenceIdeal.main_arg0) = m' ((c.tc : Thread Cert.ProjAReferenceIdeal.nD Cert.ProjAReferenceIdeal.τ).loc Cert.ProjAReferenceIdeal.main_arg0)
          ∧ r.2.mem ((c.tc : Thread Cert.ProjAReferenceIdeal.nD Cert.ProjAReferenceIdeal.τ).loc Cert.ProjAReferenceIdeal.main_arg1) = m' ((c.tc : Thread Cert.ProjAReferenceIdeal.nD Cert.ProjAReferenceIdeal.τ).loc Cert.ProjAReferenceIdeal.main_arg1))

def preserves_ProjBKernel_ProjBKernelIdeal : Prop :=
  True

def algebraic_ProjBKernelIdeal_ProjBReferenceIdeal [hProjBKernelIdeal : Cert.ProjBKernelIdeal.Facts] [hProjBReferenceIdeal : Cert.ProjBReferenceIdeal.Facts] : Prop :=
  ∀ (m : (ℓ : Loc Cert.ProjBKernelIdeal.nD Cert.ProjBKernelIdeal.τ Cert.ProjBKernelIdeal.sig) → Buf (Elt Ideal) ℓ) (g : Dev Cert.ProjBKernelIdeal.nD → PrngReg)
    (m' : (ℓ : Loc Cert.ProjBReferenceIdeal.nD Cert.ProjBReferenceIdeal.τ Cert.ProjBReferenceIdeal.sig) → Buf (Elt Ideal) ℓ) (g' : Dev Cert.ProjBReferenceIdeal.nD → PrngReg), Pre_ProjBKernelIdeal m →
    (∀ c : Dev Cert.ProjBKernelIdeal.nD,
      m' ((c.tc : Thread Cert.ProjBReferenceIdeal.nD Cert.ProjBReferenceIdeal.τ).loc Cert.ProjBReferenceIdeal.main_arg0) = m ((c.tc : Thread Cert.ProjBKernelIdeal.nD Cert.ProjBKernelIdeal.τ).loc Cert.ProjBKernelIdeal.main_arg0)
      ∧ m' ((c.tc : Thread Cert.ProjBReferenceIdeal.nD Cert.ProjBReferenceIdeal.τ).loc Cert.ProjBReferenceIdeal.main_arg1) = m ((c.tc : Thread Cert.ProjBKernelIdeal.nD Cert.ProjBKernelIdeal.τ).loc Cert.ProjBKernelIdeal.main_arg1)) →
    ∃ (v0 : (c : Dev Cert.ProjBKernelIdeal.nD) → Buf (Elt Ideal) ((c.tc : Thread Cert.ProjBKernelIdeal.nD Cert.ProjBKernelIdeal.τ).loc Cert.ProjBKernelIdeal.main_v0)),
      θ_run (Cert.ProjBKernelIdeal.defs (F := Ideal)) (onTc (τ := Cert.ProjBKernelIdeal.τ) (Cert.ProjBKernelIdeal.main (F := Ideal))) ⟨m, fun _ => 0, g⟩ (fun r => ∀ c : Dev Cert.ProjBKernelIdeal.nD,
          r.2.mem ((c.tc : Thread Cert.ProjBKernelIdeal.nD Cert.ProjBKernelIdeal.τ).loc Cert.ProjBKernelIdeal.main_v0) = v0 c
          ∧ r.2.mem ((c.tc : Thread Cert.ProjBKernelIdeal.nD Cert.ProjBKernelIdeal.τ).loc Cert.ProjBKernelIdeal.main_arg0) = m ((c.tc : Thread Cert.ProjBKernelIdeal.nD Cert.ProjBKernelIdeal.τ).loc Cert.ProjBKernelIdeal.main_arg0)
          ∧ r.2.mem ((c.tc : Thread Cert.ProjBKernelIdeal.nD Cert.ProjBKernelIdeal.τ).loc Cert.ProjBKernelIdeal.main_arg1) = m ((c.tc : Thread Cert.ProjBKernelIdeal.nD Cert.ProjBKernelIdeal.τ).loc Cert.ProjBKernelIdeal.main_arg1))
      ∧ θ_run (Cert.ProjBReferenceIdeal.defs (F := Ideal)) (onTc (τ := Cert.ProjBReferenceIdeal.τ) (Cert.ProjBReferenceIdeal.main (F := Ideal))) ⟨m', fun _ => 0, g'⟩ (fun r => ∀ c : Dev Cert.ProjBReferenceIdeal.nD,
          r.2.mem ((c.tc : Thread Cert.ProjBReferenceIdeal.nD Cert.ProjBReferenceIdeal.τ).loc Cert.ProjBReferenceIdeal.main_v2) = v0 c
          ∧ r.2.mem ((c.tc : Thread Cert.ProjBReferenceIdeal.nD Cert.ProjBReferenceIdeal.τ).loc Cert.ProjBReferenceIdeal.main_arg0) = m' ((c.tc : Thread Cert.ProjBReferenceIdeal.nD Cert.ProjBReferenceIdeal.τ).loc Cert.ProjBReferenceIdeal.main_arg0)
          ∧ r.2.mem ((c.tc : Thread Cert.ProjBReferenceIdeal.nD Cert.ProjBReferenceIdeal.τ).loc Cert.ProjBReferenceIdeal.main_arg1) = m' ((c.tc : Thread Cert.ProjBReferenceIdeal.nD Cert.ProjBReferenceIdeal.τ).loc Cert.ProjBReferenceIdeal.main_arg1))

def preserves_ProjCKernel_ProjCKernelIdeal : Prop :=
  True

def algebraic_ProjCKernelIdeal_ProjCReferenceIdeal [hProjCKernelIdeal : Cert.ProjCKernelIdeal.Facts] [hProjCReferenceIdeal : Cert.ProjCReferenceIdeal.Facts] : Prop :=
  ∀ (m : (ℓ : Loc Cert.ProjCKernelIdeal.nD Cert.ProjCKernelIdeal.τ Cert.ProjCKernelIdeal.sig) → Buf (Elt Ideal) ℓ) (g : Dev Cert.ProjCKernelIdeal.nD → PrngReg)
    (m' : (ℓ : Loc Cert.ProjCReferenceIdeal.nD Cert.ProjCReferenceIdeal.τ Cert.ProjCReferenceIdeal.sig) → Buf (Elt Ideal) ℓ) (g' : Dev Cert.ProjCReferenceIdeal.nD → PrngReg), Pre_ProjCKernelIdeal m →
    (∀ c : Dev Cert.ProjCKernelIdeal.nD,
      m' ((c.tc : Thread Cert.ProjCReferenceIdeal.nD Cert.ProjCReferenceIdeal.τ).loc Cert.ProjCReferenceIdeal.main_arg0) = m ((c.tc : Thread Cert.ProjCKernelIdeal.nD Cert.ProjCKernelIdeal.τ).loc Cert.ProjCKernelIdeal.main_arg0)
      ∧ m' ((c.tc : Thread Cert.ProjCReferenceIdeal.nD Cert.ProjCReferenceIdeal.τ).loc Cert.ProjCReferenceIdeal.main_arg1) = m ((c.tc : Thread Cert.ProjCKernelIdeal.nD Cert.ProjCKernelIdeal.τ).loc Cert.ProjCKernelIdeal.main_arg1)) →
    ∃ (v0 : (c : Dev Cert.ProjCKernelIdeal.nD) → Buf (Elt Ideal) ((c.tc : Thread Cert.ProjCKernelIdeal.nD Cert.ProjCKernelIdeal.τ).loc Cert.ProjCKernelIdeal.main_v0)),
      θ_run (Cert.ProjCKernelIdeal.defs (F := Ideal)) (onTc (τ := Cert.ProjCKernelIdeal.τ) (Cert.ProjCKernelIdeal.main (F := Ideal))) ⟨m, fun _ => 0, g⟩ (fun r => ∀ c : Dev Cert.ProjCKernelIdeal.nD,
          r.2.mem ((c.tc : Thread Cert.ProjCKernelIdeal.nD Cert.ProjCKernelIdeal.τ).loc Cert.ProjCKernelIdeal.main_v0) = v0 c
          ∧ r.2.mem ((c.tc : Thread Cert.ProjCKernelIdeal.nD Cert.ProjCKernelIdeal.τ).loc Cert.ProjCKernelIdeal.main_arg0) = m ((c.tc : Thread Cert.ProjCKernelIdeal.nD Cert.ProjCKernelIdeal.τ).loc Cert.ProjCKernelIdeal.main_arg0)
          ∧ r.2.mem ((c.tc : Thread Cert.ProjCKernelIdeal.nD Cert.ProjCKernelIdeal.τ).loc Cert.ProjCKernelIdeal.main_arg1) = m ((c.tc : Thread Cert.ProjCKernelIdeal.nD Cert.ProjCKernelIdeal.τ).loc Cert.ProjCKernelIdeal.main_arg1))
      ∧ θ_run (Cert.ProjCReferenceIdeal.defs (F := Ideal)) (onTc (τ := Cert.ProjCReferenceIdeal.τ) (Cert.ProjCReferenceIdeal.main (F := Ideal))) ⟨m', fun _ => 0, g'⟩ (fun r => ∀ c : Dev Cert.ProjCReferenceIdeal.nD,
          r.2.mem ((c.tc : Thread Cert.ProjCReferenceIdeal.nD Cert.ProjCReferenceIdeal.τ).loc Cert.ProjCReferenceIdeal.main_v2) = v0 c
          ∧ r.2.mem ((c.tc : Thread Cert.ProjCReferenceIdeal.nD Cert.ProjCReferenceIdeal.τ).loc Cert.ProjCReferenceIdeal.main_arg0) = m' ((c.tc : Thread Cert.ProjCReferenceIdeal.nD Cert.ProjCReferenceIdeal.τ).loc Cert.ProjCReferenceIdeal.main_arg0)
          ∧ r.2.mem ((c.tc : Thread Cert.ProjCReferenceIdeal.nD Cert.ProjCReferenceIdeal.τ).loc Cert.ProjCReferenceIdeal.main_arg1) = m' ((c.tc : Thread Cert.ProjCReferenceIdeal.nD Cert.ProjCReferenceIdeal.τ).loc Cert.ProjCReferenceIdeal.main_arg1))

def preserves_Glu1Kernel_Glu1KernelIdeal : Prop :=
  True

def algebraic_Glu1KernelIdeal_Glu1ReferenceIdeal [hGlu1KernelIdeal : Cert.Glu1KernelIdeal.Facts] [hGlu1ReferenceIdeal : Cert.Glu1ReferenceIdeal.Facts] : Prop :=
  ∀ (m : (ℓ : Loc Cert.Glu1KernelIdeal.nD Cert.Glu1KernelIdeal.τ Cert.Glu1KernelIdeal.sig) → Buf (Elt Ideal) ℓ) (g : Dev Cert.Glu1KernelIdeal.nD → PrngReg)
    (m' : (ℓ : Loc Cert.Glu1ReferenceIdeal.nD Cert.Glu1ReferenceIdeal.τ Cert.Glu1ReferenceIdeal.sig) → Buf (Elt Ideal) ℓ) (g' : Dev Cert.Glu1ReferenceIdeal.nD → PrngReg), Pre_Glu1KernelIdeal m →
    (∀ c : Dev Cert.Glu1KernelIdeal.nD,
      m' ((c.tc : Thread Cert.Glu1ReferenceIdeal.nD Cert.Glu1ReferenceIdeal.τ).loc Cert.Glu1ReferenceIdeal.main_arg0) = m ((c.tc : Thread Cert.Glu1KernelIdeal.nD Cert.Glu1KernelIdeal.τ).loc Cert.Glu1KernelIdeal.main_arg0)
      ∧ m' ((c.tc : Thread Cert.Glu1ReferenceIdeal.nD Cert.Glu1ReferenceIdeal.τ).loc Cert.Glu1ReferenceIdeal.main_arg1) = m ((c.tc : Thread Cert.Glu1KernelIdeal.nD Cert.Glu1KernelIdeal.τ).loc Cert.Glu1KernelIdeal.main_arg1)) →
    ∃ (v0 : (c : Dev Cert.Glu1KernelIdeal.nD) → Buf (Elt Ideal) ((c.tc : Thread Cert.Glu1KernelIdeal.nD Cert.Glu1KernelIdeal.τ).loc Cert.Glu1KernelIdeal.main_v0)),
      θ_run (Cert.Glu1KernelIdeal.defs (F := Ideal)) (onTc (τ := Cert.Glu1KernelIdeal.τ) (Cert.Glu1KernelIdeal.main (F := Ideal))) ⟨m, fun _ => 0, g⟩ (fun r => ∀ c : Dev Cert.Glu1KernelIdeal.nD,
          r.2.mem ((c.tc : Thread Cert.Glu1KernelIdeal.nD Cert.Glu1KernelIdeal.τ).loc Cert.Glu1KernelIdeal.main_v0) = v0 c
          ∧ r.2.mem ((c.tc : Thread Cert.Glu1KernelIdeal.nD Cert.Glu1KernelIdeal.τ).loc Cert.Glu1KernelIdeal.main_arg0) = m ((c.tc : Thread Cert.Glu1KernelIdeal.nD Cert.Glu1KernelIdeal.τ).loc Cert.Glu1KernelIdeal.main_arg0)
          ∧ r.2.mem ((c.tc : Thread Cert.Glu1KernelIdeal.nD Cert.Glu1KernelIdeal.τ).loc Cert.Glu1KernelIdeal.main_arg1) = m ((c.tc : Thread Cert.Glu1KernelIdeal.nD Cert.Glu1KernelIdeal.τ).loc Cert.Glu1KernelIdeal.main_arg1))
      ∧ θ_run (Cert.Glu1ReferenceIdeal.defs (F := Ideal)) (onTc (τ := Cert.Glu1ReferenceIdeal.τ) (Cert.Glu1ReferenceIdeal.main (F := Ideal))) ⟨m', fun _ => 0, g'⟩ (fun r => ∀ c : Dev Cert.Glu1ReferenceIdeal.nD,
          r.2.mem ((c.tc : Thread Cert.Glu1ReferenceIdeal.nD Cert.Glu1ReferenceIdeal.τ).loc Cert.Glu1ReferenceIdeal.main_v1) = v0 c
          ∧ r.2.mem ((c.tc : Thread Cert.Glu1ReferenceIdeal.nD Cert.Glu1ReferenceIdeal.τ).loc Cert.Glu1ReferenceIdeal.main_arg0) = m' ((c.tc : Thread Cert.Glu1ReferenceIdeal.nD Cert.Glu1ReferenceIdeal.τ).loc Cert.Glu1ReferenceIdeal.main_arg0)
          ∧ r.2.mem ((c.tc : Thread Cert.Glu1ReferenceIdeal.nD Cert.Glu1ReferenceIdeal.τ).loc Cert.Glu1ReferenceIdeal.main_arg1) = m' ((c.tc : Thread Cert.Glu1ReferenceIdeal.nD Cert.Glu1ReferenceIdeal.τ).loc Cert.Glu1ReferenceIdeal.main_arg1))

def preserves_WOutKernel_WOutKernelIdeal : Prop :=
  True

def algebraic_WOutKernelIdeal_WOutReferenceIdeal [hWOutKernelIdeal : Cert.WOutKernelIdeal.Facts] [hWOutReferenceIdeal : Cert.WOutReferenceIdeal.Facts] : Prop :=
  ∀ (m : (ℓ : Loc Cert.WOutKernelIdeal.nD Cert.WOutKernelIdeal.τ Cert.WOutKernelIdeal.sig) → Buf (Elt Ideal) ℓ) (g : Dev Cert.WOutKernelIdeal.nD → PrngReg)
    (m' : (ℓ : Loc Cert.WOutReferenceIdeal.nD Cert.WOutReferenceIdeal.τ Cert.WOutReferenceIdeal.sig) → Buf (Elt Ideal) ℓ) (g' : Dev Cert.WOutReferenceIdeal.nD → PrngReg), Pre_WOutKernelIdeal m →
    (∀ c : Dev Cert.WOutKernelIdeal.nD,
      m' ((c.tc : Thread Cert.WOutReferenceIdeal.nD Cert.WOutReferenceIdeal.τ).loc Cert.WOutReferenceIdeal.main_arg0) = m ((c.tc : Thread Cert.WOutKernelIdeal.nD Cert.WOutKernelIdeal.τ).loc Cert.WOutKernelIdeal.main_arg0)
      ∧ m' ((c.tc : Thread Cert.WOutReferenceIdeal.nD Cert.WOutReferenceIdeal.τ).loc Cert.WOutReferenceIdeal.main_arg1) = m ((c.tc : Thread Cert.WOutKernelIdeal.nD Cert.WOutKernelIdeal.τ).loc Cert.WOutKernelIdeal.main_arg1)
      ∧ m' ((c.tc : Thread Cert.WOutReferenceIdeal.nD Cert.WOutReferenceIdeal.τ).loc Cert.WOutReferenceIdeal.main_arg2) = m ((c.tc : Thread Cert.WOutKernelIdeal.nD Cert.WOutKernelIdeal.τ).loc Cert.WOutKernelIdeal.main_arg2)) →
    ∃ (v0 : (c : Dev Cert.WOutKernelIdeal.nD) → Buf (Elt Ideal) ((c.tc : Thread Cert.WOutKernelIdeal.nD Cert.WOutKernelIdeal.τ).loc Cert.WOutKernelIdeal.main_v0)),
      θ_run (Cert.WOutKernelIdeal.defs (F := Ideal)) (onTc (τ := Cert.WOutKernelIdeal.τ) (Cert.WOutKernelIdeal.main (F := Ideal))) ⟨m, fun _ => 0, g⟩ (fun r => ∀ c : Dev Cert.WOutKernelIdeal.nD,
          r.2.mem ((c.tc : Thread Cert.WOutKernelIdeal.nD Cert.WOutKernelIdeal.τ).loc Cert.WOutKernelIdeal.main_v0) = v0 c
          ∧ r.2.mem ((c.tc : Thread Cert.WOutKernelIdeal.nD Cert.WOutKernelIdeal.τ).loc Cert.WOutKernelIdeal.main_arg0) = m ((c.tc : Thread Cert.WOutKernelIdeal.nD Cert.WOutKernelIdeal.τ).loc Cert.WOutKernelIdeal.main_arg0)
          ∧ r.2.mem ((c.tc : Thread Cert.WOutKernelIdeal.nD Cert.WOutKernelIdeal.τ).loc Cert.WOutKernelIdeal.main_arg1) = m ((c.tc : Thread Cert.WOutKernelIdeal.nD Cert.WOutKernelIdeal.τ).loc Cert.WOutKernelIdeal.main_arg1)
          ∧ r.2.mem ((c.tc : Thread Cert.WOutKernelIdeal.nD Cert.WOutKernelIdeal.τ).loc Cert.WOutKernelIdeal.main_arg2) = m ((c.tc : Thread Cert.WOutKernelIdeal.nD Cert.WOutKernelIdeal.τ).loc Cert.WOutKernelIdeal.main_arg2))
      ∧ θ_run (Cert.WOutReferenceIdeal.defs (F := Ideal)) (onTc (τ := Cert.WOutReferenceIdeal.τ) (Cert.WOutReferenceIdeal.main (F := Ideal))) ⟨m', fun _ => 0, g'⟩ (fun r => ∀ c : Dev Cert.WOutReferenceIdeal.nD,
          r.2.mem ((c.tc : Thread Cert.WOutReferenceIdeal.nD Cert.WOutReferenceIdeal.τ).loc Cert.WOutReferenceIdeal.main_v3) = v0 c
          ∧ r.2.mem ((c.tc : Thread Cert.WOutReferenceIdeal.nD Cert.WOutReferenceIdeal.τ).loc Cert.WOutReferenceIdeal.main_arg0) = m' ((c.tc : Thread Cert.WOutReferenceIdeal.nD Cert.WOutReferenceIdeal.τ).loc Cert.WOutReferenceIdeal.main_arg0)
          ∧ r.2.mem ((c.tc : Thread Cert.WOutReferenceIdeal.nD Cert.WOutReferenceIdeal.τ).loc Cert.WOutReferenceIdeal.main_arg1) = m' ((c.tc : Thread Cert.WOutReferenceIdeal.nD Cert.WOutReferenceIdeal.τ).loc Cert.WOutReferenceIdeal.main_arg1)
          ∧ r.2.mem ((c.tc : Thread Cert.WOutReferenceIdeal.nD Cert.WOutReferenceIdeal.τ).loc Cert.WOutReferenceIdeal.main_arg2) = m' ((c.tc : Thread Cert.WOutReferenceIdeal.nD Cert.WOutReferenceIdeal.τ).loc Cert.WOutReferenceIdeal.main_arg2))

def preserves_OptWInKernel_OptWInKernelIdeal : Prop :=
  True

def algebraic_OptWInKernelIdeal_OptWInReferenceIdeal [hOptWInKernelIdeal : Cert.OptWInKernelIdeal.Facts] [hOptWInReferenceIdeal : Cert.OptWInReferenceIdeal.Facts] : Prop :=
  ∀ (m : (ℓ : Loc Cert.OptWInKernelIdeal.nD Cert.OptWInKernelIdeal.τ Cert.OptWInKernelIdeal.sig) → Buf (Elt Ideal) ℓ) (g : Dev Cert.OptWInKernelIdeal.nD → PrngReg)
    (m' : (ℓ : Loc Cert.OptWInReferenceIdeal.nD Cert.OptWInReferenceIdeal.τ Cert.OptWInReferenceIdeal.sig) → Buf (Elt Ideal) ℓ) (g' : Dev Cert.OptWInReferenceIdeal.nD → PrngReg), Pre_OptWInKernelIdeal m →
    (∀ c : Dev Cert.OptWInKernelIdeal.nD,
      m' ((c.tc : Thread Cert.OptWInReferenceIdeal.nD Cert.OptWInReferenceIdeal.τ).loc Cert.OptWInReferenceIdeal.main_arg0) = m ((c.tc : Thread Cert.OptWInKernelIdeal.nD Cert.OptWInKernelIdeal.τ).loc Cert.OptWInKernelIdeal.main_arg0)
      ∧ m' ((c.tc : Thread Cert.OptWInReferenceIdeal.nD Cert.OptWInReferenceIdeal.τ).loc Cert.OptWInReferenceIdeal.main_arg1) = m ((c.tc : Thread Cert.OptWInKernelIdeal.nD Cert.OptWInKernelIdeal.τ).loc Cert.OptWInKernelIdeal.main_arg1)
      ∧ m' ((c.tc : Thread Cert.OptWInReferenceIdeal.nD Cert.OptWInReferenceIdeal.τ).loc Cert.OptWInReferenceIdeal.main_arg2) = m ((c.tc : Thread Cert.OptWInKernelIdeal.nD Cert.OptWInKernelIdeal.τ).loc Cert.OptWInKernelIdeal.main_arg2)
      ∧ m' ((c.tc : Thread Cert.OptWInReferenceIdeal.nD Cert.OptWInReferenceIdeal.τ).loc Cert.OptWInReferenceIdeal.main_arg3) = m ((c.tc : Thread Cert.OptWInKernelIdeal.nD Cert.OptWInKernelIdeal.τ).loc Cert.OptWInKernelIdeal.main_arg3)
      ∧ m' ((c.tc : Thread Cert.OptWInReferenceIdeal.nD Cert.OptWInReferenceIdeal.τ).loc Cert.OptWInReferenceIdeal.main_arg4) = m ((c.tc : Thread Cert.OptWInKernelIdeal.nD Cert.OptWInKernelIdeal.τ).loc Cert.OptWInKernelIdeal.main_arg4)) →
    ∃ (v0 : (c : Dev Cert.OptWInKernelIdeal.nD) → Buf (Elt Ideal) ((c.tc : Thread Cert.OptWInKernelIdeal.nD Cert.OptWInKernelIdeal.τ).loc Cert.OptWInKernelIdeal.main_v0_0)) (v1 : (c : Dev Cert.OptWInKernelIdeal.nD) → Buf (Elt Ideal) ((c.tc : Thread Cert.OptWInKernelIdeal.nD Cert.OptWInKernelIdeal.τ).loc Cert.OptWInKernelIdeal.main_v0_1)) (v2 : (c : Dev Cert.OptWInKernelIdeal.nD) → Buf (Elt Ideal) ((c.tc : Thread Cert.OptWInKernelIdeal.nD Cert.OptWInKernelIdeal.τ).loc Cert.OptWInKernelIdeal.main_v0_2)) (v3 : (c : Dev Cert.OptWInKernelIdeal.nD) → Buf (Elt Ideal) ((c.tc : Thread Cert.OptWInKernelIdeal.nD Cert.OptWInKernelIdeal.τ).loc Cert.OptWInKernelIdeal.main_v0_3)),
      θ_run (Cert.OptWInKernelIdeal.defs (F := Ideal)) (onTc (τ := Cert.OptWInKernelIdeal.τ) (Cert.OptWInKernelIdeal.main (F := Ideal))) ⟨m, fun _ => 0, g⟩ (fun r => ∀ c : Dev Cert.OptWInKernelIdeal.nD,
          r.2.mem ((c.tc : Thread Cert.OptWInKernelIdeal.nD Cert.OptWInKernelIdeal.τ).loc Cert.OptWInKernelIdeal.main_v0_0) = v0 c
          ∧ r.2.mem ((c.tc : Thread Cert.OptWInKernelIdeal.nD Cert.OptWInKernelIdeal.τ).loc Cert.OptWInKernelIdeal.main_v0_1) = v1 c
          ∧ r.2.mem ((c.tc : Thread Cert.OptWInKernelIdeal.nD Cert.OptWInKernelIdeal.τ).loc Cert.OptWInKernelIdeal.main_v0_2) = v2 c
          ∧ r.2.mem ((c.tc : Thread Cert.OptWInKernelIdeal.nD Cert.OptWInKernelIdeal.τ).loc Cert.OptWInKernelIdeal.main_v0_3) = v3 c
          ∧ r.2.mem ((c.tc : Thread Cert.OptWInKernelIdeal.nD Cert.OptWInKernelIdeal.τ).loc Cert.OptWInKernelIdeal.main_arg0) = m ((c.tc : Thread Cert.OptWInKernelIdeal.nD Cert.OptWInKernelIdeal.τ).loc Cert.OptWInKernelIdeal.main_arg0)
          ∧ r.2.mem ((c.tc : Thread Cert.OptWInKernelIdeal.nD Cert.OptWInKernelIdeal.τ).loc Cert.OptWInKernelIdeal.main_arg1) = m ((c.tc : Thread Cert.OptWInKernelIdeal.nD Cert.OptWInKernelIdeal.τ).loc Cert.OptWInKernelIdeal.main_arg1)
          ∧ r.2.mem ((c.tc : Thread Cert.OptWInKernelIdeal.nD Cert.OptWInKernelIdeal.τ).loc Cert.OptWInKernelIdeal.main_arg2) = m ((c.tc : Thread Cert.OptWInKernelIdeal.nD Cert.OptWInKernelIdeal.τ).loc Cert.OptWInKernelIdeal.main_arg2)
          ∧ r.2.mem ((c.tc : Thread Cert.OptWInKernelIdeal.nD Cert.OptWInKernelIdeal.τ).loc Cert.OptWInKernelIdeal.main_arg3) = m ((c.tc : Thread Cert.OptWInKernelIdeal.nD Cert.OptWInKernelIdeal.τ).loc Cert.OptWInKernelIdeal.main_arg3)
          ∧ r.2.mem ((c.tc : Thread Cert.OptWInKernelIdeal.nD Cert.OptWInKernelIdeal.τ).loc Cert.OptWInKernelIdeal.main_arg4) = m ((c.tc : Thread Cert.OptWInKernelIdeal.nD Cert.OptWInKernelIdeal.τ).loc Cert.OptWInKernelIdeal.main_arg4))
      ∧ θ_run (Cert.OptWInReferenceIdeal.defs (F := Ideal)) (onTc (τ := Cert.OptWInReferenceIdeal.τ) (Cert.OptWInReferenceIdeal.main (F := Ideal))) ⟨m', fun _ => 0, g'⟩ (fun r => ∀ c : Dev Cert.OptWInReferenceIdeal.nD,
          r.2.mem ((c.tc : Thread Cert.OptWInReferenceIdeal.nD Cert.OptWInReferenceIdeal.τ).loc Cert.OptWInReferenceIdeal.main_v6) = v0 c
          ∧ r.2.mem ((c.tc : Thread Cert.OptWInReferenceIdeal.nD Cert.OptWInReferenceIdeal.τ).loc Cert.OptWInReferenceIdeal.main_v30) = v1 c
          ∧ r.2.mem ((c.tc : Thread Cert.OptWInReferenceIdeal.nD Cert.OptWInReferenceIdeal.τ).loc Cert.OptWInReferenceIdeal.main_v11) = v2 c
          ∧ r.2.mem ((c.tc : Thread Cert.OptWInReferenceIdeal.nD Cert.OptWInReferenceIdeal.τ).loc Cert.OptWInReferenceIdeal.main_v17) = v3 c
          ∧ r.2.mem ((c.tc : Thread Cert.OptWInReferenceIdeal.nD Cert.OptWInReferenceIdeal.τ).loc Cert.OptWInReferenceIdeal.main_arg0) = m' ((c.tc : Thread Cert.OptWInReferenceIdeal.nD Cert.OptWInReferenceIdeal.τ).loc Cert.OptWInReferenceIdeal.main_arg0)
          ∧ r.2.mem ((c.tc : Thread Cert.OptWInReferenceIdeal.nD Cert.OptWInReferenceIdeal.τ).loc Cert.OptWInReferenceIdeal.main_arg1) = m' ((c.tc : Thread Cert.OptWInReferenceIdeal.nD Cert.OptWInReferenceIdeal.τ).loc Cert.OptWInReferenceIdeal.main_arg1)
          ∧ r.2.mem ((c.tc : Thread Cert.OptWInReferenceIdeal.nD Cert.OptWInReferenceIdeal.τ).loc Cert.OptWInReferenceIdeal.main_arg2) = m' ((c.tc : Thread Cert.OptWInReferenceIdeal.nD Cert.OptWInReferenceIdeal.τ).loc Cert.OptWInReferenceIdeal.main_arg2)
          ∧ r.2.mem ((c.tc : Thread Cert.OptWInReferenceIdeal.nD Cert.OptWInReferenceIdeal.τ).loc Cert.OptWInReferenceIdeal.main_arg3) = m' ((c.tc : Thread Cert.OptWInReferenceIdeal.nD Cert.OptWInReferenceIdeal.τ).loc Cert.OptWInReferenceIdeal.main_arg3)
          ∧ r.2.mem ((c.tc : Thread Cert.OptWInReferenceIdeal.nD Cert.OptWInReferenceIdeal.τ).loc Cert.OptWInReferenceIdeal.main_arg4) = m' ((c.tc : Thread Cert.OptWInReferenceIdeal.nD Cert.OptWInReferenceIdeal.τ).loc Cert.OptWInReferenceIdeal.main_arg4))

def preserves_OptGluWKernel_OptGluWKernelIdeal : Prop :=
  True

def algebraic_OptGluWKernelIdeal_OptGluWReferenceIdeal [hOptGluWKernelIdeal : Cert.OptGluWKernelIdeal.Facts] [hOptGluWReferenceIdeal : Cert.OptGluWReferenceIdeal.Facts] : Prop :=
  ∀ (m : (ℓ : Loc Cert.OptGluWKernelIdeal.nD Cert.OptGluWKernelIdeal.τ Cert.OptGluWKernelIdeal.sig) → Buf (Elt Ideal) ℓ) (g : Dev Cert.OptGluWKernelIdeal.nD → PrngReg)
    (m' : (ℓ : Loc Cert.OptGluWReferenceIdeal.nD Cert.OptGluWReferenceIdeal.τ Cert.OptGluWReferenceIdeal.sig) → Buf (Elt Ideal) ℓ) (g' : Dev Cert.OptGluWReferenceIdeal.nD → PrngReg), Pre_OptGluWKernelIdeal m →
    (∀ c : Dev Cert.OptGluWKernelIdeal.nD,
      m' ((c.tc : Thread Cert.OptGluWReferenceIdeal.nD Cert.OptGluWReferenceIdeal.τ).loc Cert.OptGluWReferenceIdeal.main_arg0) = m ((c.tc : Thread Cert.OptGluWKernelIdeal.nD Cert.OptGluWKernelIdeal.τ).loc Cert.OptGluWKernelIdeal.main_arg0)
      ∧ m' ((c.tc : Thread Cert.OptGluWReferenceIdeal.nD Cert.OptGluWReferenceIdeal.τ).loc Cert.OptGluWReferenceIdeal.main_arg1) = m ((c.tc : Thread Cert.OptGluWKernelIdeal.nD Cert.OptGluWKernelIdeal.τ).loc Cert.OptGluWKernelIdeal.main_arg1)
      ∧ m' ((c.tc : Thread Cert.OptGluWReferenceIdeal.nD Cert.OptGluWReferenceIdeal.τ).loc Cert.OptGluWReferenceIdeal.main_arg2) = m ((c.tc : Thread Cert.OptGluWKernelIdeal.nD Cert.OptGluWKernelIdeal.τ).loc Cert.OptGluWKernelIdeal.main_arg2)
      ∧ m' ((c.tc : Thread Cert.OptGluWReferenceIdeal.nD Cert.OptGluWReferenceIdeal.τ).loc Cert.OptGluWReferenceIdeal.main_arg3) = m ((c.tc : Thread Cert.OptGluWKernelIdeal.nD Cert.OptGluWKernelIdeal.τ).loc Cert.OptGluWKernelIdeal.main_arg3)
      ∧ m' ((c.tc : Thread Cert.OptGluWReferenceIdeal.nD Cert.OptGluWReferenceIdeal.τ).loc Cert.OptGluWReferenceIdeal.main_arg4) = m ((c.tc : Thread Cert.OptGluWKernelIdeal.nD Cert.OptGluWKernelIdeal.τ).loc Cert.OptGluWKernelIdeal.main_arg4)) →
    ∃ (v0 : (c : Dev Cert.OptGluWKernelIdeal.nD) → Buf (Elt Ideal) ((c.tc : Thread Cert.OptGluWKernelIdeal.nD Cert.OptGluWKernelIdeal.τ).loc Cert.OptGluWKernelIdeal.main_v0_0)) (v1 : (c : Dev Cert.OptGluWKernelIdeal.nD) → Buf (Elt Ideal) ((c.tc : Thread Cert.OptGluWKernelIdeal.nD Cert.OptGluWKernelIdeal.τ).loc Cert.OptGluWKernelIdeal.main_v0_1)) (v2 : (c : Dev Cert.OptGluWKernelIdeal.nD) → Buf (Elt Ideal) ((c.tc : Thread Cert.OptGluWKernelIdeal.nD Cert.OptGluWKernelIdeal.τ).loc Cert.OptGluWKernelIdeal.main_v0_2)) (v3 : (c : Dev Cert.OptGluWKernelIdeal.nD) → Buf (Elt Ideal) ((c.tc : Thread Cert.OptGluWKernelIdeal.nD Cert.OptGluWKernelIdeal.τ).loc Cert.OptGluWKernelIdeal.main_v0_3)),
      θ_run (Cert.OptGluWKernelIdeal.defs (F := Ideal)) (onTc (τ := Cert.OptGluWKernelIdeal.τ) (Cert.OptGluWKernelIdeal.main (F := Ideal))) ⟨m, fun _ => 0, g⟩ (fun r => ∀ c : Dev Cert.OptGluWKernelIdeal.nD,
          r.2.mem ((c.tc : Thread Cert.OptGluWKernelIdeal.nD Cert.OptGluWKernelIdeal.τ).loc Cert.OptGluWKernelIdeal.main_v0_0) = v0 c
          ∧ r.2.mem ((c.tc : Thread Cert.OptGluWKernelIdeal.nD Cert.OptGluWKernelIdeal.τ).loc Cert.OptGluWKernelIdeal.main_v0_1) = v1 c
          ∧ r.2.mem ((c.tc : Thread Cert.OptGluWKernelIdeal.nD Cert.OptGluWKernelIdeal.τ).loc Cert.OptGluWKernelIdeal.main_v0_2) = v2 c
          ∧ r.2.mem ((c.tc : Thread Cert.OptGluWKernelIdeal.nD Cert.OptGluWKernelIdeal.τ).loc Cert.OptGluWKernelIdeal.main_v0_3) = v3 c
          ∧ r.2.mem ((c.tc : Thread Cert.OptGluWKernelIdeal.nD Cert.OptGluWKernelIdeal.τ).loc Cert.OptGluWKernelIdeal.main_arg0) = m ((c.tc : Thread Cert.OptGluWKernelIdeal.nD Cert.OptGluWKernelIdeal.τ).loc Cert.OptGluWKernelIdeal.main_arg0)
          ∧ r.2.mem ((c.tc : Thread Cert.OptGluWKernelIdeal.nD Cert.OptGluWKernelIdeal.τ).loc Cert.OptGluWKernelIdeal.main_arg1) = m ((c.tc : Thread Cert.OptGluWKernelIdeal.nD Cert.OptGluWKernelIdeal.τ).loc Cert.OptGluWKernelIdeal.main_arg1)
          ∧ r.2.mem ((c.tc : Thread Cert.OptGluWKernelIdeal.nD Cert.OptGluWKernelIdeal.τ).loc Cert.OptGluWKernelIdeal.main_arg2) = m ((c.tc : Thread Cert.OptGluWKernelIdeal.nD Cert.OptGluWKernelIdeal.τ).loc Cert.OptGluWKernelIdeal.main_arg2)
          ∧ r.2.mem ((c.tc : Thread Cert.OptGluWKernelIdeal.nD Cert.OptGluWKernelIdeal.τ).loc Cert.OptGluWKernelIdeal.main_arg3) = m ((c.tc : Thread Cert.OptGluWKernelIdeal.nD Cert.OptGluWKernelIdeal.τ).loc Cert.OptGluWKernelIdeal.main_arg3)
          ∧ r.2.mem ((c.tc : Thread Cert.OptGluWKernelIdeal.nD Cert.OptGluWKernelIdeal.τ).loc Cert.OptGluWKernelIdeal.main_arg4) = m ((c.tc : Thread Cert.OptGluWKernelIdeal.nD Cert.OptGluWKernelIdeal.τ).loc Cert.OptGluWKernelIdeal.main_arg4))
      ∧ θ_run (Cert.OptGluWReferenceIdeal.defs (F := Ideal)) (onTc (τ := Cert.OptGluWReferenceIdeal.τ) (Cert.OptGluWReferenceIdeal.main (F := Ideal))) ⟨m', fun _ => 0, g'⟩ (fun r => ∀ c : Dev Cert.OptGluWReferenceIdeal.nD,
          r.2.mem ((c.tc : Thread Cert.OptGluWReferenceIdeal.nD Cert.OptGluWReferenceIdeal.τ).loc Cert.OptGluWReferenceIdeal.main_v6) = v0 c
          ∧ r.2.mem ((c.tc : Thread Cert.OptGluWReferenceIdeal.nD Cert.OptGluWReferenceIdeal.τ).loc Cert.OptGluWReferenceIdeal.main_v30) = v1 c
          ∧ r.2.mem ((c.tc : Thread Cert.OptGluWReferenceIdeal.nD Cert.OptGluWReferenceIdeal.τ).loc Cert.OptGluWReferenceIdeal.main_v11) = v2 c
          ∧ r.2.mem ((c.tc : Thread Cert.OptGluWReferenceIdeal.nD Cert.OptGluWReferenceIdeal.τ).loc Cert.OptGluWReferenceIdeal.main_v17) = v3 c
          ∧ r.2.mem ((c.tc : Thread Cert.OptGluWReferenceIdeal.nD Cert.OptGluWReferenceIdeal.τ).loc Cert.OptGluWReferenceIdeal.main_arg0) = m' ((c.tc : Thread Cert.OptGluWReferenceIdeal.nD Cert.OptGluWReferenceIdeal.τ).loc Cert.OptGluWReferenceIdeal.main_arg0)
          ∧ r.2.mem ((c.tc : Thread Cert.OptGluWReferenceIdeal.nD Cert.OptGluWReferenceIdeal.τ).loc Cert.OptGluWReferenceIdeal.main_arg1) = m' ((c.tc : Thread Cert.OptGluWReferenceIdeal.nD Cert.OptGluWReferenceIdeal.τ).loc Cert.OptGluWReferenceIdeal.main_arg1)
          ∧ r.2.mem ((c.tc : Thread Cert.OptGluWReferenceIdeal.nD Cert.OptGluWReferenceIdeal.τ).loc Cert.OptGluWReferenceIdeal.main_arg2) = m' ((c.tc : Thread Cert.OptGluWReferenceIdeal.nD Cert.OptGluWReferenceIdeal.τ).loc Cert.OptGluWReferenceIdeal.main_arg2)
          ∧ r.2.mem ((c.tc : Thread Cert.OptGluWReferenceIdeal.nD Cert.OptGluWReferenceIdeal.τ).loc Cert.OptGluWReferenceIdeal.main_arg3) = m' ((c.tc : Thread Cert.OptGluWReferenceIdeal.nD Cert.OptGluWReferenceIdeal.τ).loc Cert.OptGluWReferenceIdeal.main_arg3)
          ∧ r.2.mem ((c.tc : Thread Cert.OptGluWReferenceIdeal.nD Cert.OptGluWReferenceIdeal.τ).loc Cert.OptGluWReferenceIdeal.main_arg4) = m' ((c.tc : Thread Cert.OptGluWReferenceIdeal.nD Cert.OptGluWReferenceIdeal.τ).loc Cert.OptGluWReferenceIdeal.main_arg4))

def preserves_OptWOutKernel_OptWOutKernelIdeal : Prop :=
  True

def algebraic_OptWOutKernelIdeal_OptWOutReferenceIdeal [hOptWOutKernelIdeal : Cert.OptWOutKernelIdeal.Facts] [hOptWOutReferenceIdeal : Cert.OptWOutReferenceIdeal.Facts] : Prop :=
  ∀ (m : (ℓ : Loc Cert.OptWOutKernelIdeal.nD Cert.OptWOutKernelIdeal.τ Cert.OptWOutKernelIdeal.sig) → Buf (Elt Ideal) ℓ) (g : Dev Cert.OptWOutKernelIdeal.nD → PrngReg)
    (m' : (ℓ : Loc Cert.OptWOutReferenceIdeal.nD Cert.OptWOutReferenceIdeal.τ Cert.OptWOutReferenceIdeal.sig) → Buf (Elt Ideal) ℓ) (g' : Dev Cert.OptWOutReferenceIdeal.nD → PrngReg), Pre_OptWOutKernelIdeal m →
    (∀ c : Dev Cert.OptWOutKernelIdeal.nD,
      m' ((c.tc : Thread Cert.OptWOutReferenceIdeal.nD Cert.OptWOutReferenceIdeal.τ).loc Cert.OptWOutReferenceIdeal.main_arg0) = m ((c.tc : Thread Cert.OptWOutKernelIdeal.nD Cert.OptWOutKernelIdeal.τ).loc Cert.OptWOutKernelIdeal.main_arg0)
      ∧ m' ((c.tc : Thread Cert.OptWOutReferenceIdeal.nD Cert.OptWOutReferenceIdeal.τ).loc Cert.OptWOutReferenceIdeal.main_arg1) = m ((c.tc : Thread Cert.OptWOutKernelIdeal.nD Cert.OptWOutKernelIdeal.τ).loc Cert.OptWOutKernelIdeal.main_arg1)
      ∧ m' ((c.tc : Thread Cert.OptWOutReferenceIdeal.nD Cert.OptWOutReferenceIdeal.τ).loc Cert.OptWOutReferenceIdeal.main_arg2) = m ((c.tc : Thread Cert.OptWOutKernelIdeal.nD Cert.OptWOutKernelIdeal.τ).loc Cert.OptWOutKernelIdeal.main_arg2)
      ∧ m' ((c.tc : Thread Cert.OptWOutReferenceIdeal.nD Cert.OptWOutReferenceIdeal.τ).loc Cert.OptWOutReferenceIdeal.main_arg3) = m ((c.tc : Thread Cert.OptWOutKernelIdeal.nD Cert.OptWOutKernelIdeal.τ).loc Cert.OptWOutKernelIdeal.main_arg3)
      ∧ m' ((c.tc : Thread Cert.OptWOutReferenceIdeal.nD Cert.OptWOutReferenceIdeal.τ).loc Cert.OptWOutReferenceIdeal.main_arg4) = m ((c.tc : Thread Cert.OptWOutKernelIdeal.nD Cert.OptWOutKernelIdeal.τ).loc Cert.OptWOutKernelIdeal.main_arg4)) →
    ∃ (v0 : (c : Dev Cert.OptWOutKernelIdeal.nD) → Buf (Elt Ideal) ((c.tc : Thread Cert.OptWOutKernelIdeal.nD Cert.OptWOutKernelIdeal.τ).loc Cert.OptWOutKernelIdeal.main_v0_0)) (v1 : (c : Dev Cert.OptWOutKernelIdeal.nD) → Buf (Elt Ideal) ((c.tc : Thread Cert.OptWOutKernelIdeal.nD Cert.OptWOutKernelIdeal.τ).loc Cert.OptWOutKernelIdeal.main_v0_1)) (v2 : (c : Dev Cert.OptWOutKernelIdeal.nD) → Buf (Elt Ideal) ((c.tc : Thread Cert.OptWOutKernelIdeal.nD Cert.OptWOutKernelIdeal.τ).loc Cert.OptWOutKernelIdeal.main_v0_2)) (v3 : (c : Dev Cert.OptWOutKernelIdeal.nD) → Buf (Elt Ideal) ((c.tc : Thread Cert.OptWOutKernelIdeal.nD Cert.OptWOutKernelIdeal.τ).loc Cert.OptWOutKernelIdeal.main_v0_3)),
      θ_run (Cert.OptWOutKernelIdeal.defs (F := Ideal)) (onTc (τ := Cert.OptWOutKernelIdeal.τ) (Cert.OptWOutKernelIdeal.main (F := Ideal))) ⟨m, fun _ => 0, g⟩ (fun r => ∀ c : Dev Cert.OptWOutKernelIdeal.nD,
          r.2.mem ((c.tc : Thread Cert.OptWOutKernelIdeal.nD Cert.OptWOutKernelIdeal.τ).loc Cert.OptWOutKernelIdeal.main_v0_0) = v0 c
          ∧ r.2.mem ((c.tc : Thread Cert.OptWOutKernelIdeal.nD Cert.OptWOutKernelIdeal.τ).loc Cert.OptWOutKernelIdeal.main_v0_1) = v1 c
          ∧ r.2.mem ((c.tc : Thread Cert.OptWOutKernelIdeal.nD Cert.OptWOutKernelIdeal.τ).loc Cert.OptWOutKernelIdeal.main_v0_2) = v2 c
          ∧ r.2.mem ((c.tc : Thread Cert.OptWOutKernelIdeal.nD Cert.OptWOutKernelIdeal.τ).loc Cert.OptWOutKernelIdeal.main_v0_3) = v3 c
          ∧ r.2.mem ((c.tc : Thread Cert.OptWOutKernelIdeal.nD Cert.OptWOutKernelIdeal.τ).loc Cert.OptWOutKernelIdeal.main_arg0) = m ((c.tc : Thread Cert.OptWOutKernelIdeal.nD Cert.OptWOutKernelIdeal.τ).loc Cert.OptWOutKernelIdeal.main_arg0)
          ∧ r.2.mem ((c.tc : Thread Cert.OptWOutKernelIdeal.nD Cert.OptWOutKernelIdeal.τ).loc Cert.OptWOutKernelIdeal.main_arg1) = m ((c.tc : Thread Cert.OptWOutKernelIdeal.nD Cert.OptWOutKernelIdeal.τ).loc Cert.OptWOutKernelIdeal.main_arg1)
          ∧ r.2.mem ((c.tc : Thread Cert.OptWOutKernelIdeal.nD Cert.OptWOutKernelIdeal.τ).loc Cert.OptWOutKernelIdeal.main_arg2) = m ((c.tc : Thread Cert.OptWOutKernelIdeal.nD Cert.OptWOutKernelIdeal.τ).loc Cert.OptWOutKernelIdeal.main_arg2)
          ∧ r.2.mem ((c.tc : Thread Cert.OptWOutKernelIdeal.nD Cert.OptWOutKernelIdeal.τ).loc Cert.OptWOutKernelIdeal.main_arg3) = m ((c.tc : Thread Cert.OptWOutKernelIdeal.nD Cert.OptWOutKernelIdeal.τ).loc Cert.OptWOutKernelIdeal.main_arg3)
          ∧ r.2.mem ((c.tc : Thread Cert.OptWOutKernelIdeal.nD Cert.OptWOutKernelIdeal.τ).loc Cert.OptWOutKernelIdeal.main_arg4) = m ((c.tc : Thread Cert.OptWOutKernelIdeal.nD Cert.OptWOutKernelIdeal.τ).loc Cert.OptWOutKernelIdeal.main_arg4))
      ∧ θ_run (Cert.OptWOutReferenceIdeal.defs (F := Ideal)) (onTc (τ := Cert.OptWOutReferenceIdeal.τ) (Cert.OptWOutReferenceIdeal.main (F := Ideal))) ⟨m', fun _ => 0, g'⟩ (fun r => ∀ c : Dev Cert.OptWOutReferenceIdeal.nD,
          r.2.mem ((c.tc : Thread Cert.OptWOutReferenceIdeal.nD Cert.OptWOutReferenceIdeal.τ).loc Cert.OptWOutReferenceIdeal.main_v6) = v0 c
          ∧ r.2.mem ((c.tc : Thread Cert.OptWOutReferenceIdeal.nD Cert.OptWOutReferenceIdeal.τ).loc Cert.OptWOutReferenceIdeal.main_v30) = v1 c
          ∧ r.2.mem ((c.tc : Thread Cert.OptWOutReferenceIdeal.nD Cert.OptWOutReferenceIdeal.τ).loc Cert.OptWOutReferenceIdeal.main_v11) = v2 c
          ∧ r.2.mem ((c.tc : Thread Cert.OptWOutReferenceIdeal.nD Cert.OptWOutReferenceIdeal.τ).loc Cert.OptWOutReferenceIdeal.main_v17) = v3 c
          ∧ r.2.mem ((c.tc : Thread Cert.OptWOutReferenceIdeal.nD Cert.OptWOutReferenceIdeal.τ).loc Cert.OptWOutReferenceIdeal.main_arg0) = m' ((c.tc : Thread Cert.OptWOutReferenceIdeal.nD Cert.OptWOutReferenceIdeal.τ).loc Cert.OptWOutReferenceIdeal.main_arg0)
          ∧ r.2.mem ((c.tc : Thread Cert.OptWOutReferenceIdeal.nD Cert.OptWOutReferenceIdeal.τ).loc Cert.OptWOutReferenceIdeal.main_arg1) = m' ((c.tc : Thread Cert.OptWOutReferenceIdeal.nD Cert.OptWOutReferenceIdeal.τ).loc Cert.OptWOutReferenceIdeal.main_arg1)
          ∧ r.2.mem ((c.tc : Thread Cert.OptWOutReferenceIdeal.nD Cert.OptWOutReferenceIdeal.τ).loc Cert.OptWOutReferenceIdeal.main_arg2) = m' ((c.tc : Thread Cert.OptWOutReferenceIdeal.nD Cert.OptWOutReferenceIdeal.τ).loc Cert.OptWOutReferenceIdeal.main_arg2)
          ∧ r.2.mem ((c.tc : Thread Cert.OptWOutReferenceIdeal.nD Cert.OptWOutReferenceIdeal.τ).loc Cert.OptWOutReferenceIdeal.main_arg3) = m' ((c.tc : Thread Cert.OptWOutReferenceIdeal.nD Cert.OptWOutReferenceIdeal.τ).loc Cert.OptWOutReferenceIdeal.main_arg3)
          ∧ r.2.mem ((c.tc : Thread Cert.OptWOutReferenceIdeal.nD Cert.OptWOutReferenceIdeal.τ).loc Cert.OptWOutReferenceIdeal.main_arg4) = m' ((c.tc : Thread Cert.OptWOutReferenceIdeal.nD Cert.OptWOutReferenceIdeal.τ).loc Cert.OptWOutReferenceIdeal.main_arg4))

def preserves_OptProjAKernel_OptProjAKernelIdeal : Prop :=
  True

def algebraic_OptProjAKernelIdeal_OptProjAReferenceIdeal [hOptProjAKernelIdeal : Cert.OptProjAKernelIdeal.Facts] [hOptProjAReferenceIdeal : Cert.OptProjAReferenceIdeal.Facts] : Prop :=
  ∀ (m : (ℓ : Loc Cert.OptProjAKernelIdeal.nD Cert.OptProjAKernelIdeal.τ Cert.OptProjAKernelIdeal.sig) → Buf (Elt Ideal) ℓ) (g : Dev Cert.OptProjAKernelIdeal.nD → PrngReg)
    (m' : (ℓ : Loc Cert.OptProjAReferenceIdeal.nD Cert.OptProjAReferenceIdeal.τ Cert.OptProjAReferenceIdeal.sig) → Buf (Elt Ideal) ℓ) (g' : Dev Cert.OptProjAReferenceIdeal.nD → PrngReg), Pre_OptProjAKernelIdeal m →
    (∀ c : Dev Cert.OptProjAKernelIdeal.nD,
      m' ((c.tc : Thread Cert.OptProjAReferenceIdeal.nD Cert.OptProjAReferenceIdeal.τ).loc Cert.OptProjAReferenceIdeal.main_arg0) = m ((c.tc : Thread Cert.OptProjAKernelIdeal.nD Cert.OptProjAKernelIdeal.τ).loc Cert.OptProjAKernelIdeal.main_arg0)
      ∧ m' ((c.tc : Thread Cert.OptProjAReferenceIdeal.nD Cert.OptProjAReferenceIdeal.τ).loc Cert.OptProjAReferenceIdeal.main_arg1) = m ((c.tc : Thread Cert.OptProjAKernelIdeal.nD Cert.OptProjAKernelIdeal.τ).loc Cert.OptProjAKernelIdeal.main_arg1)
      ∧ m' ((c.tc : Thread Cert.OptProjAReferenceIdeal.nD Cert.OptProjAReferenceIdeal.τ).loc Cert.OptProjAReferenceIdeal.main_arg2) = m ((c.tc : Thread Cert.OptProjAKernelIdeal.nD Cert.OptProjAKernelIdeal.τ).loc Cert.OptProjAKernelIdeal.main_arg2)
      ∧ m' ((c.tc : Thread Cert.OptProjAReferenceIdeal.nD Cert.OptProjAReferenceIdeal.τ).loc Cert.OptProjAReferenceIdeal.main_arg3) = m ((c.tc : Thread Cert.OptProjAKernelIdeal.nD Cert.OptProjAKernelIdeal.τ).loc Cert.OptProjAKernelIdeal.main_arg3)
      ∧ m' ((c.tc : Thread Cert.OptProjAReferenceIdeal.nD Cert.OptProjAReferenceIdeal.τ).loc Cert.OptProjAReferenceIdeal.main_arg4) = m ((c.tc : Thread Cert.OptProjAKernelIdeal.nD Cert.OptProjAKernelIdeal.τ).loc Cert.OptProjAKernelIdeal.main_arg4)) →
    ∃ (v0 : (c : Dev Cert.OptProjAKernelIdeal.nD) → Buf (Elt Ideal) ((c.tc : Thread Cert.OptProjAKernelIdeal.nD Cert.OptProjAKernelIdeal.τ).loc Cert.OptProjAKernelIdeal.main_v0_0)) (v1 : (c : Dev Cert.OptProjAKernelIdeal.nD) → Buf (Elt Ideal) ((c.tc : Thread Cert.OptProjAKernelIdeal.nD Cert.OptProjAKernelIdeal.τ).loc Cert.OptProjAKernelIdeal.main_v0_1)) (v2 : (c : Dev Cert.OptProjAKernelIdeal.nD) → Buf (Elt Ideal) ((c.tc : Thread Cert.OptProjAKernelIdeal.nD Cert.OptProjAKernelIdeal.τ).loc Cert.OptProjAKernelIdeal.main_v0_2)) (v3 : (c : Dev Cert.OptProjAKernelIdeal.nD) → Buf (Elt Ideal) ((c.tc : Thread Cert.OptProjAKernelIdeal.nD Cert.OptProjAKernelIdeal.τ).loc Cert.OptProjAKernelIdeal.main_v0_3)),
      θ_run (Cert.OptProjAKernelIdeal.defs (F := Ideal)) (onTc (τ := Cert.OptProjAKernelIdeal.τ) (Cert.OptProjAKernelIdeal.main (F := Ideal))) ⟨m, fun _ => 0, g⟩ (fun r => ∀ c : Dev Cert.OptProjAKernelIdeal.nD,
          r.2.mem ((c.tc : Thread Cert.OptProjAKernelIdeal.nD Cert.OptProjAKernelIdeal.τ).loc Cert.OptProjAKernelIdeal.main_v0_0) = v0 c
          ∧ r.2.mem ((c.tc : Thread Cert.OptProjAKernelIdeal.nD Cert.OptProjAKernelIdeal.τ).loc Cert.OptProjAKernelIdeal.main_v0_1) = v1 c
          ∧ r.2.mem ((c.tc : Thread Cert.OptProjAKernelIdeal.nD Cert.OptProjAKernelIdeal.τ).loc Cert.OptProjAKernelIdeal.main_v0_2) = v2 c
          ∧ r.2.mem ((c.tc : Thread Cert.OptProjAKernelIdeal.nD Cert.OptProjAKernelIdeal.τ).loc Cert.OptProjAKernelIdeal.main_v0_3) = v3 c
          ∧ r.2.mem ((c.tc : Thread Cert.OptProjAKernelIdeal.nD Cert.OptProjAKernelIdeal.τ).loc Cert.OptProjAKernelIdeal.main_arg0) = m ((c.tc : Thread Cert.OptProjAKernelIdeal.nD Cert.OptProjAKernelIdeal.τ).loc Cert.OptProjAKernelIdeal.main_arg0)
          ∧ r.2.mem ((c.tc : Thread Cert.OptProjAKernelIdeal.nD Cert.OptProjAKernelIdeal.τ).loc Cert.OptProjAKernelIdeal.main_arg1) = m ((c.tc : Thread Cert.OptProjAKernelIdeal.nD Cert.OptProjAKernelIdeal.τ).loc Cert.OptProjAKernelIdeal.main_arg1)
          ∧ r.2.mem ((c.tc : Thread Cert.OptProjAKernelIdeal.nD Cert.OptProjAKernelIdeal.τ).loc Cert.OptProjAKernelIdeal.main_arg2) = m ((c.tc : Thread Cert.OptProjAKernelIdeal.nD Cert.OptProjAKernelIdeal.τ).loc Cert.OptProjAKernelIdeal.main_arg2)
          ∧ r.2.mem ((c.tc : Thread Cert.OptProjAKernelIdeal.nD Cert.OptProjAKernelIdeal.τ).loc Cert.OptProjAKernelIdeal.main_arg3) = m ((c.tc : Thread Cert.OptProjAKernelIdeal.nD Cert.OptProjAKernelIdeal.τ).loc Cert.OptProjAKernelIdeal.main_arg3)
          ∧ r.2.mem ((c.tc : Thread Cert.OptProjAKernelIdeal.nD Cert.OptProjAKernelIdeal.τ).loc Cert.OptProjAKernelIdeal.main_arg4) = m ((c.tc : Thread Cert.OptProjAKernelIdeal.nD Cert.OptProjAKernelIdeal.τ).loc Cert.OptProjAKernelIdeal.main_arg4))
      ∧ θ_run (Cert.OptProjAReferenceIdeal.defs (F := Ideal)) (onTc (τ := Cert.OptProjAReferenceIdeal.τ) (Cert.OptProjAReferenceIdeal.main (F := Ideal))) ⟨m', fun _ => 0, g'⟩ (fun r => ∀ c : Dev Cert.OptProjAReferenceIdeal.nD,
          r.2.mem ((c.tc : Thread Cert.OptProjAReferenceIdeal.nD Cert.OptProjAReferenceIdeal.τ).loc Cert.OptProjAReferenceIdeal.main_v6) = v0 c
          ∧ r.2.mem ((c.tc : Thread Cert.OptProjAReferenceIdeal.nD Cert.OptProjAReferenceIdeal.τ).loc Cert.OptProjAReferenceIdeal.main_v30) = v1 c
          ∧ r.2.mem ((c.tc : Thread Cert.OptProjAReferenceIdeal.nD Cert.OptProjAReferenceIdeal.τ).loc Cert.OptProjAReferenceIdeal.main_v11) = v2 c
          ∧ r.2.mem ((c.tc : Thread Cert.OptProjAReferenceIdeal.nD Cert.OptProjAReferenceIdeal.τ).loc Cert.OptProjAReferenceIdeal.main_v17) = v3 c
          ∧ r.2.mem ((c.tc : Thread Cert.OptProjAReferenceIdeal.nD Cert.OptProjAReferenceIdeal.τ).loc Cert.OptProjAReferenceIdeal.main_arg0) = m' ((c.tc : Thread Cert.OptProjAReferenceIdeal.nD Cert.OptProjAReferenceIdeal.τ).loc Cert.OptProjAReferenceIdeal.main_arg0)
          ∧ r.2.mem ((c.tc : Thread Cert.OptProjAReferenceIdeal.nD Cert.OptProjAReferenceIdeal.τ).loc Cert.OptProjAReferenceIdeal.main_arg1) = m' ((c.tc : Thread Cert.OptProjAReferenceIdeal.nD Cert.OptProjAReferenceIdeal.τ).loc Cert.OptProjAReferenceIdeal.main_arg1)
          ∧ r.2.mem ((c.tc : Thread Cert.OptProjAReferenceIdeal.nD Cert.OptProjAReferenceIdeal.τ).loc Cert.OptProjAReferenceIdeal.main_arg2) = m' ((c.tc : Thread Cert.OptProjAReferenceIdeal.nD Cert.OptProjAReferenceIdeal.τ).loc Cert.OptProjAReferenceIdeal.main_arg2)
          ∧ r.2.mem ((c.tc : Thread Cert.OptProjAReferenceIdeal.nD Cert.OptProjAReferenceIdeal.τ).loc Cert.OptProjAReferenceIdeal.main_arg3) = m' ((c.tc : Thread Cert.OptProjAReferenceIdeal.nD Cert.OptProjAReferenceIdeal.τ).loc Cert.OptProjAReferenceIdeal.main_arg3)
          ∧ r.2.mem ((c.tc : Thread Cert.OptProjAReferenceIdeal.nD Cert.OptProjAReferenceIdeal.τ).loc Cert.OptProjAReferenceIdeal.main_arg4) = m' ((c.tc : Thread Cert.OptProjAReferenceIdeal.nD Cert.OptProjAReferenceIdeal.τ).loc Cert.OptProjAReferenceIdeal.main_arg4))

def preserves_OptProjBKernel_OptProjBKernelIdeal : Prop :=
  True

def algebraic_OptProjBKernelIdeal_OptProjBReferenceIdeal [hOptProjBKernelIdeal : Cert.OptProjBKernelIdeal.Facts] [hOptProjBReferenceIdeal : Cert.OptProjBReferenceIdeal.Facts] : Prop :=
  ∀ (m : (ℓ : Loc Cert.OptProjBKernelIdeal.nD Cert.OptProjBKernelIdeal.τ Cert.OptProjBKernelIdeal.sig) → Buf (Elt Ideal) ℓ) (g : Dev Cert.OptProjBKernelIdeal.nD → PrngReg)
    (m' : (ℓ : Loc Cert.OptProjBReferenceIdeal.nD Cert.OptProjBReferenceIdeal.τ Cert.OptProjBReferenceIdeal.sig) → Buf (Elt Ideal) ℓ) (g' : Dev Cert.OptProjBReferenceIdeal.nD → PrngReg), Pre_OptProjBKernelIdeal m →
    (∀ c : Dev Cert.OptProjBKernelIdeal.nD,
      m' ((c.tc : Thread Cert.OptProjBReferenceIdeal.nD Cert.OptProjBReferenceIdeal.τ).loc Cert.OptProjBReferenceIdeal.main_arg0) = m ((c.tc : Thread Cert.OptProjBKernelIdeal.nD Cert.OptProjBKernelIdeal.τ).loc Cert.OptProjBKernelIdeal.main_arg0)
      ∧ m' ((c.tc : Thread Cert.OptProjBReferenceIdeal.nD Cert.OptProjBReferenceIdeal.τ).loc Cert.OptProjBReferenceIdeal.main_arg1) = m ((c.tc : Thread Cert.OptProjBKernelIdeal.nD Cert.OptProjBKernelIdeal.τ).loc Cert.OptProjBKernelIdeal.main_arg1)
      ∧ m' ((c.tc : Thread Cert.OptProjBReferenceIdeal.nD Cert.OptProjBReferenceIdeal.τ).loc Cert.OptProjBReferenceIdeal.main_arg2) = m ((c.tc : Thread Cert.OptProjBKernelIdeal.nD Cert.OptProjBKernelIdeal.τ).loc Cert.OptProjBKernelIdeal.main_arg2)
      ∧ m' ((c.tc : Thread Cert.OptProjBReferenceIdeal.nD Cert.OptProjBReferenceIdeal.τ).loc Cert.OptProjBReferenceIdeal.main_arg3) = m ((c.tc : Thread Cert.OptProjBKernelIdeal.nD Cert.OptProjBKernelIdeal.τ).loc Cert.OptProjBKernelIdeal.main_arg3)
      ∧ m' ((c.tc : Thread Cert.OptProjBReferenceIdeal.nD Cert.OptProjBReferenceIdeal.τ).loc Cert.OptProjBReferenceIdeal.main_arg4) = m ((c.tc : Thread Cert.OptProjBKernelIdeal.nD Cert.OptProjBKernelIdeal.τ).loc Cert.OptProjBKernelIdeal.main_arg4)) →
    ∃ (v0 : (c : Dev Cert.OptProjBKernelIdeal.nD) → Buf (Elt Ideal) ((c.tc : Thread Cert.OptProjBKernelIdeal.nD Cert.OptProjBKernelIdeal.τ).loc Cert.OptProjBKernelIdeal.main_v0_0)) (v1 : (c : Dev Cert.OptProjBKernelIdeal.nD) → Buf (Elt Ideal) ((c.tc : Thread Cert.OptProjBKernelIdeal.nD Cert.OptProjBKernelIdeal.τ).loc Cert.OptProjBKernelIdeal.main_v0_1)) (v2 : (c : Dev Cert.OptProjBKernelIdeal.nD) → Buf (Elt Ideal) ((c.tc : Thread Cert.OptProjBKernelIdeal.nD Cert.OptProjBKernelIdeal.τ).loc Cert.OptProjBKernelIdeal.main_v0_2)) (v3 : (c : Dev Cert.OptProjBKernelIdeal.nD) → Buf (Elt Ideal) ((c.tc : Thread Cert.OptProjBKernelIdeal.nD Cert.OptProjBKernelIdeal.τ).loc Cert.OptProjBKernelIdeal.main_v0_3)),
      θ_run (Cert.OptProjBKernelIdeal.defs (F := Ideal)) (onTc (τ := Cert.OptProjBKernelIdeal.τ) (Cert.OptProjBKernelIdeal.main (F := Ideal))) ⟨m, fun _ => 0, g⟩ (fun r => ∀ c : Dev Cert.OptProjBKernelIdeal.nD,
          r.2.mem ((c.tc : Thread Cert.OptProjBKernelIdeal.nD Cert.OptProjBKernelIdeal.τ).loc Cert.OptProjBKernelIdeal.main_v0_0) = v0 c
          ∧ r.2.mem ((c.tc : Thread Cert.OptProjBKernelIdeal.nD Cert.OptProjBKernelIdeal.τ).loc Cert.OptProjBKernelIdeal.main_v0_1) = v1 c
          ∧ r.2.mem ((c.tc : Thread Cert.OptProjBKernelIdeal.nD Cert.OptProjBKernelIdeal.τ).loc Cert.OptProjBKernelIdeal.main_v0_2) = v2 c
          ∧ r.2.mem ((c.tc : Thread Cert.OptProjBKernelIdeal.nD Cert.OptProjBKernelIdeal.τ).loc Cert.OptProjBKernelIdeal.main_v0_3) = v3 c
          ∧ r.2.mem ((c.tc : Thread Cert.OptProjBKernelIdeal.nD Cert.OptProjBKernelIdeal.τ).loc Cert.OptProjBKernelIdeal.main_arg0) = m ((c.tc : Thread Cert.OptProjBKernelIdeal.nD Cert.OptProjBKernelIdeal.τ).loc Cert.OptProjBKernelIdeal.main_arg0)
          ∧ r.2.mem ((c.tc : Thread Cert.OptProjBKernelIdeal.nD Cert.OptProjBKernelIdeal.τ).loc Cert.OptProjBKernelIdeal.main_arg1) = m ((c.tc : Thread Cert.OptProjBKernelIdeal.nD Cert.OptProjBKernelIdeal.τ).loc Cert.OptProjBKernelIdeal.main_arg1)
          ∧ r.2.mem ((c.tc : Thread Cert.OptProjBKernelIdeal.nD Cert.OptProjBKernelIdeal.τ).loc Cert.OptProjBKernelIdeal.main_arg2) = m ((c.tc : Thread Cert.OptProjBKernelIdeal.nD Cert.OptProjBKernelIdeal.τ).loc Cert.OptProjBKernelIdeal.main_arg2)
          ∧ r.2.mem ((c.tc : Thread Cert.OptProjBKernelIdeal.nD Cert.OptProjBKernelIdeal.τ).loc Cert.OptProjBKernelIdeal.main_arg3) = m ((c.tc : Thread Cert.OptProjBKernelIdeal.nD Cert.OptProjBKernelIdeal.τ).loc Cert.OptProjBKernelIdeal.main_arg3)
          ∧ r.2.mem ((c.tc : Thread Cert.OptProjBKernelIdeal.nD Cert.OptProjBKernelIdeal.τ).loc Cert.OptProjBKernelIdeal.main_arg4) = m ((c.tc : Thread Cert.OptProjBKernelIdeal.nD Cert.OptProjBKernelIdeal.τ).loc Cert.OptProjBKernelIdeal.main_arg4))
      ∧ θ_run (Cert.OptProjBReferenceIdeal.defs (F := Ideal)) (onTc (τ := Cert.OptProjBReferenceIdeal.τ) (Cert.OptProjBReferenceIdeal.main (F := Ideal))) ⟨m', fun _ => 0, g'⟩ (fun r => ∀ c : Dev Cert.OptProjBReferenceIdeal.nD,
          r.2.mem ((c.tc : Thread Cert.OptProjBReferenceIdeal.nD Cert.OptProjBReferenceIdeal.τ).loc Cert.OptProjBReferenceIdeal.main_v6) = v0 c
          ∧ r.2.mem ((c.tc : Thread Cert.OptProjBReferenceIdeal.nD Cert.OptProjBReferenceIdeal.τ).loc Cert.OptProjBReferenceIdeal.main_v30) = v1 c
          ∧ r.2.mem ((c.tc : Thread Cert.OptProjBReferenceIdeal.nD Cert.OptProjBReferenceIdeal.τ).loc Cert.OptProjBReferenceIdeal.main_v11) = v2 c
          ∧ r.2.mem ((c.tc : Thread Cert.OptProjBReferenceIdeal.nD Cert.OptProjBReferenceIdeal.τ).loc Cert.OptProjBReferenceIdeal.main_v17) = v3 c
          ∧ r.2.mem ((c.tc : Thread Cert.OptProjBReferenceIdeal.nD Cert.OptProjBReferenceIdeal.τ).loc Cert.OptProjBReferenceIdeal.main_arg0) = m' ((c.tc : Thread Cert.OptProjBReferenceIdeal.nD Cert.OptProjBReferenceIdeal.τ).loc Cert.OptProjBReferenceIdeal.main_arg0)
          ∧ r.2.mem ((c.tc : Thread Cert.OptProjBReferenceIdeal.nD Cert.OptProjBReferenceIdeal.τ).loc Cert.OptProjBReferenceIdeal.main_arg1) = m' ((c.tc : Thread Cert.OptProjBReferenceIdeal.nD Cert.OptProjBReferenceIdeal.τ).loc Cert.OptProjBReferenceIdeal.main_arg1)
          ∧ r.2.mem ((c.tc : Thread Cert.OptProjBReferenceIdeal.nD Cert.OptProjBReferenceIdeal.τ).loc Cert.OptProjBReferenceIdeal.main_arg2) = m' ((c.tc : Thread Cert.OptProjBReferenceIdeal.nD Cert.OptProjBReferenceIdeal.τ).loc Cert.OptProjBReferenceIdeal.main_arg2)
          ∧ r.2.mem ((c.tc : Thread Cert.OptProjBReferenceIdeal.nD Cert.OptProjBReferenceIdeal.τ).loc Cert.OptProjBReferenceIdeal.main_arg3) = m' ((c.tc : Thread Cert.OptProjBReferenceIdeal.nD Cert.OptProjBReferenceIdeal.τ).loc Cert.OptProjBReferenceIdeal.main_arg3)
          ∧ r.2.mem ((c.tc : Thread Cert.OptProjBReferenceIdeal.nD Cert.OptProjBReferenceIdeal.τ).loc Cert.OptProjBReferenceIdeal.main_arg4) = m' ((c.tc : Thread Cert.OptProjBReferenceIdeal.nD Cert.OptProjBReferenceIdeal.τ).loc Cert.OptProjBReferenceIdeal.main_arg4))

def preserves_OptProjCKernel_OptProjCKernelIdeal : Prop :=
  True

def algebraic_OptProjCKernelIdeal_OptProjCReferenceIdeal [hOptProjCKernelIdeal : Cert.OptProjCKernelIdeal.Facts] [hOptProjCReferenceIdeal : Cert.OptProjCReferenceIdeal.Facts] : Prop :=
  ∀ (m : (ℓ : Loc Cert.OptProjCKernelIdeal.nD Cert.OptProjCKernelIdeal.τ Cert.OptProjCKernelIdeal.sig) → Buf (Elt Ideal) ℓ) (g : Dev Cert.OptProjCKernelIdeal.nD → PrngReg)
    (m' : (ℓ : Loc Cert.OptProjCReferenceIdeal.nD Cert.OptProjCReferenceIdeal.τ Cert.OptProjCReferenceIdeal.sig) → Buf (Elt Ideal) ℓ) (g' : Dev Cert.OptProjCReferenceIdeal.nD → PrngReg), Pre_OptProjCKernelIdeal m →
    (∀ c : Dev Cert.OptProjCKernelIdeal.nD,
      m' ((c.tc : Thread Cert.OptProjCReferenceIdeal.nD Cert.OptProjCReferenceIdeal.τ).loc Cert.OptProjCReferenceIdeal.main_arg0) = m ((c.tc : Thread Cert.OptProjCKernelIdeal.nD Cert.OptProjCKernelIdeal.τ).loc Cert.OptProjCKernelIdeal.main_arg0)
      ∧ m' ((c.tc : Thread Cert.OptProjCReferenceIdeal.nD Cert.OptProjCReferenceIdeal.τ).loc Cert.OptProjCReferenceIdeal.main_arg1) = m ((c.tc : Thread Cert.OptProjCKernelIdeal.nD Cert.OptProjCKernelIdeal.τ).loc Cert.OptProjCKernelIdeal.main_arg1)
      ∧ m' ((c.tc : Thread Cert.OptProjCReferenceIdeal.nD Cert.OptProjCReferenceIdeal.τ).loc Cert.OptProjCReferenceIdeal.main_arg2) = m ((c.tc : Thread Cert.OptProjCKernelIdeal.nD Cert.OptProjCKernelIdeal.τ).loc Cert.OptProjCKernelIdeal.main_arg2)
      ∧ m' ((c.tc : Thread Cert.OptProjCReferenceIdeal.nD Cert.OptProjCReferenceIdeal.τ).loc Cert.OptProjCReferenceIdeal.main_arg3) = m ((c.tc : Thread Cert.OptProjCKernelIdeal.nD Cert.OptProjCKernelIdeal.τ).loc Cert.OptProjCKernelIdeal.main_arg3)
      ∧ m' ((c.tc : Thread Cert.OptProjCReferenceIdeal.nD Cert.OptProjCReferenceIdeal.τ).loc Cert.OptProjCReferenceIdeal.main_arg4) = m ((c.tc : Thread Cert.OptProjCKernelIdeal.nD Cert.OptProjCKernelIdeal.τ).loc Cert.OptProjCKernelIdeal.main_arg4)) →
    ∃ (v0 : (c : Dev Cert.OptProjCKernelIdeal.nD) → Buf (Elt Ideal) ((c.tc : Thread Cert.OptProjCKernelIdeal.nD Cert.OptProjCKernelIdeal.τ).loc Cert.OptProjCKernelIdeal.main_v0_0)) (v1 : (c : Dev Cert.OptProjCKernelIdeal.nD) → Buf (Elt Ideal) ((c.tc : Thread Cert.OptProjCKernelIdeal.nD Cert.OptProjCKernelIdeal.τ).loc Cert.OptProjCKernelIdeal.main_v0_1)) (v2 : (c : Dev Cert.OptProjCKernelIdeal.nD) → Buf (Elt Ideal) ((c.tc : Thread Cert.OptProjCKernelIdeal.nD Cert.OptProjCKernelIdeal.τ).loc Cert.OptProjCKernelIdeal.main_v0_2)) (v3 : (c : Dev Cert.OptProjCKernelIdeal.nD) → Buf (Elt Ideal) ((c.tc : Thread Cert.OptProjCKernelIdeal.nD Cert.OptProjCKernelIdeal.τ).loc Cert.OptProjCKernelIdeal.main_v0_3)),
      θ_run (Cert.OptProjCKernelIdeal.defs (F := Ideal)) (onTc (τ := Cert.OptProjCKernelIdeal.τ) (Cert.OptProjCKernelIdeal.main (F := Ideal))) ⟨m, fun _ => 0, g⟩ (fun r => ∀ c : Dev Cert.OptProjCKernelIdeal.nD,
          r.2.mem ((c.tc : Thread Cert.OptProjCKernelIdeal.nD Cert.OptProjCKernelIdeal.τ).loc Cert.OptProjCKernelIdeal.main_v0_0) = v0 c
          ∧ r.2.mem ((c.tc : Thread Cert.OptProjCKernelIdeal.nD Cert.OptProjCKernelIdeal.τ).loc Cert.OptProjCKernelIdeal.main_v0_1) = v1 c
          ∧ r.2.mem ((c.tc : Thread Cert.OptProjCKernelIdeal.nD Cert.OptProjCKernelIdeal.τ).loc Cert.OptProjCKernelIdeal.main_v0_2) = v2 c
          ∧ r.2.mem ((c.tc : Thread Cert.OptProjCKernelIdeal.nD Cert.OptProjCKernelIdeal.τ).loc Cert.OptProjCKernelIdeal.main_v0_3) = v3 c
          ∧ r.2.mem ((c.tc : Thread Cert.OptProjCKernelIdeal.nD Cert.OptProjCKernelIdeal.τ).loc Cert.OptProjCKernelIdeal.main_arg0) = m ((c.tc : Thread Cert.OptProjCKernelIdeal.nD Cert.OptProjCKernelIdeal.τ).loc Cert.OptProjCKernelIdeal.main_arg0)
          ∧ r.2.mem ((c.tc : Thread Cert.OptProjCKernelIdeal.nD Cert.OptProjCKernelIdeal.τ).loc Cert.OptProjCKernelIdeal.main_arg1) = m ((c.tc : Thread Cert.OptProjCKernelIdeal.nD Cert.OptProjCKernelIdeal.τ).loc Cert.OptProjCKernelIdeal.main_arg1)
          ∧ r.2.mem ((c.tc : Thread Cert.OptProjCKernelIdeal.nD Cert.OptProjCKernelIdeal.τ).loc Cert.OptProjCKernelIdeal.main_arg2) = m ((c.tc : Thread Cert.OptProjCKernelIdeal.nD Cert.OptProjCKernelIdeal.τ).loc Cert.OptProjCKernelIdeal.main_arg2)
          ∧ r.2.mem ((c.tc : Thread Cert.OptProjCKernelIdeal.nD Cert.OptProjCKernelIdeal.τ).loc Cert.OptProjCKernelIdeal.main_arg3) = m ((c.tc : Thread Cert.OptProjCKernelIdeal.nD Cert.OptProjCKernelIdeal.τ).loc Cert.OptProjCKernelIdeal.main_arg3)
          ∧ r.2.mem ((c.tc : Thread Cert.OptProjCKernelIdeal.nD Cert.OptProjCKernelIdeal.τ).loc Cert.OptProjCKernelIdeal.main_arg4) = m ((c.tc : Thread Cert.OptProjCKernelIdeal.nD Cert.OptProjCKernelIdeal.τ).loc Cert.OptProjCKernelIdeal.main_arg4))
      ∧ θ_run (Cert.OptProjCReferenceIdeal.defs (F := Ideal)) (onTc (τ := Cert.OptProjCReferenceIdeal.τ) (Cert.OptProjCReferenceIdeal.main (F := Ideal))) ⟨m', fun _ => 0, g'⟩ (fun r => ∀ c : Dev Cert.OptProjCReferenceIdeal.nD,
          r.2.mem ((c.tc : Thread Cert.OptProjCReferenceIdeal.nD Cert.OptProjCReferenceIdeal.τ).loc Cert.OptProjCReferenceIdeal.main_v6) = v0 c
          ∧ r.2.mem ((c.tc : Thread Cert.OptProjCReferenceIdeal.nD Cert.OptProjCReferenceIdeal.τ).loc Cert.OptProjCReferenceIdeal.main_v30) = v1 c
          ∧ r.2.mem ((c.tc : Thread Cert.OptProjCReferenceIdeal.nD Cert.OptProjCReferenceIdeal.τ).loc Cert.OptProjCReferenceIdeal.main_v11) = v2 c
          ∧ r.2.mem ((c.tc : Thread Cert.OptProjCReferenceIdeal.nD Cert.OptProjCReferenceIdeal.τ).loc Cert.OptProjCReferenceIdeal.main_v17) = v3 c
          ∧ r.2.mem ((c.tc : Thread Cert.OptProjCReferenceIdeal.nD Cert.OptProjCReferenceIdeal.τ).loc Cert.OptProjCReferenceIdeal.main_arg0) = m' ((c.tc : Thread Cert.OptProjCReferenceIdeal.nD Cert.OptProjCReferenceIdeal.τ).loc Cert.OptProjCReferenceIdeal.main_arg0)
          ∧ r.2.mem ((c.tc : Thread Cert.OptProjCReferenceIdeal.nD Cert.OptProjCReferenceIdeal.τ).loc Cert.OptProjCReferenceIdeal.main_arg1) = m' ((c.tc : Thread Cert.OptProjCReferenceIdeal.nD Cert.OptProjCReferenceIdeal.τ).loc Cert.OptProjCReferenceIdeal.main_arg1)
          ∧ r.2.mem ((c.tc : Thread Cert.OptProjCReferenceIdeal.nD Cert.OptProjCReferenceIdeal.τ).loc Cert.OptProjCReferenceIdeal.main_arg2) = m' ((c.tc : Thread Cert.OptProjCReferenceIdeal.nD Cert.OptProjCReferenceIdeal.τ).loc Cert.OptProjCReferenceIdeal.main_arg2)
          ∧ r.2.mem ((c.tc : Thread Cert.OptProjCReferenceIdeal.nD Cert.OptProjCReferenceIdeal.τ).loc Cert.OptProjCReferenceIdeal.main_arg3) = m' ((c.tc : Thread Cert.OptProjCReferenceIdeal.nD Cert.OptProjCReferenceIdeal.τ).loc Cert.OptProjCReferenceIdeal.main_arg3)
          ∧ r.2.mem ((c.tc : Thread Cert.OptProjCReferenceIdeal.nD Cert.OptProjCReferenceIdeal.τ).loc Cert.OptProjCReferenceIdeal.main_arg4) = m' ((c.tc : Thread Cert.OptProjCReferenceIdeal.nD Cert.OptProjCReferenceIdeal.τ).loc Cert.OptProjCReferenceIdeal.main_arg4))

def preserves_OptNormKernel_OptNormKernelIdeal : Prop :=
  True

def algebraic_OptNormKernelIdeal_OptNormReferenceIdeal [hOptNormKernelIdeal : Cert.OptNormKernelIdeal.Facts] [hOptNormReferenceIdeal : Cert.OptNormReferenceIdeal.Facts] : Prop :=
  ∀ (m : (ℓ : Loc Cert.OptNormKernelIdeal.nD Cert.OptNormKernelIdeal.τ Cert.OptNormKernelIdeal.sig) → Buf (Elt Ideal) ℓ) (g : Dev Cert.OptNormKernelIdeal.nD → PrngReg)
    (m' : (ℓ : Loc Cert.OptNormReferenceIdeal.nD Cert.OptNormReferenceIdeal.τ Cert.OptNormReferenceIdeal.sig) → Buf (Elt Ideal) ℓ) (g' : Dev Cert.OptNormReferenceIdeal.nD → PrngReg), Pre_OptNormKernelIdeal m →
    (∀ c : Dev Cert.OptNormKernelIdeal.nD,
      m' ((c.tc : Thread Cert.OptNormReferenceIdeal.nD Cert.OptNormReferenceIdeal.τ).loc Cert.OptNormReferenceIdeal.main_arg0) = m ((c.tc : Thread Cert.OptNormKernelIdeal.nD Cert.OptNormKernelIdeal.τ).loc Cert.OptNormKernelIdeal.main_arg0)
      ∧ m' ((c.tc : Thread Cert.OptNormReferenceIdeal.nD Cert.OptNormReferenceIdeal.τ).loc Cert.OptNormReferenceIdeal.main_arg1) = m ((c.tc : Thread Cert.OptNormKernelIdeal.nD Cert.OptNormKernelIdeal.τ).loc Cert.OptNormKernelIdeal.main_arg1)
      ∧ m' ((c.tc : Thread Cert.OptNormReferenceIdeal.nD Cert.OptNormReferenceIdeal.τ).loc Cert.OptNormReferenceIdeal.main_arg2) = m ((c.tc : Thread Cert.OptNormKernelIdeal.nD Cert.OptNormKernelIdeal.τ).loc Cert.OptNormKernelIdeal.main_arg2)
      ∧ m' ((c.tc : Thread Cert.OptNormReferenceIdeal.nD Cert.OptNormReferenceIdeal.τ).loc Cert.OptNormReferenceIdeal.main_arg3) = m ((c.tc : Thread Cert.OptNormKernelIdeal.nD Cert.OptNormKernelIdeal.τ).loc Cert.OptNormKernelIdeal.main_arg3)) →
    ∃ (v0 : (c : Dev Cert.OptNormKernelIdeal.nD) → Buf (Elt Ideal) ((c.tc : Thread Cert.OptNormKernelIdeal.nD Cert.OptNormKernelIdeal.τ).loc Cert.OptNormKernelIdeal.main_v1_0)) (v1 : (c : Dev Cert.OptNormKernelIdeal.nD) → Buf (Elt Ideal) ((c.tc : Thread Cert.OptNormKernelIdeal.nD Cert.OptNormKernelIdeal.τ).loc Cert.OptNormKernelIdeal.main_v1_1)) (v2 : (c : Dev Cert.OptNormKernelIdeal.nD) → Buf (Elt Ideal) ((c.tc : Thread Cert.OptNormKernelIdeal.nD Cert.OptNormKernelIdeal.τ).loc Cert.OptNormKernelIdeal.main_v1_2)) (v3 : (c : Dev Cert.OptNormKernelIdeal.nD) → Buf (Elt Ideal) ((c.tc : Thread Cert.OptNormKernelIdeal.nD Cert.OptNormKernelIdeal.τ).loc Cert.OptNormKernelIdeal.main_v1_3)),
      θ_run (Cert.OptNormKernelIdeal.defs (F := Ideal)) (onTc (τ := Cert.OptNormKernelIdeal.τ) (Cert.OptNormKernelIdeal.main (F := Ideal))) ⟨m, fun _ => 0, g⟩ (fun r => ∀ c : Dev Cert.OptNormKernelIdeal.nD,
          r.2.mem ((c.tc : Thread Cert.OptNormKernelIdeal.nD Cert.OptNormKernelIdeal.τ).loc Cert.OptNormKernelIdeal.main_v1_0) = v0 c
          ∧ r.2.mem ((c.tc : Thread Cert.OptNormKernelIdeal.nD Cert.OptNormKernelIdeal.τ).loc Cert.OptNormKernelIdeal.main_v1_1) = v1 c
          ∧ r.2.mem ((c.tc : Thread Cert.OptNormKernelIdeal.nD Cert.OptNormKernelIdeal.τ).loc Cert.OptNormKernelIdeal.main_v1_2) = v2 c
          ∧ r.2.mem ((c.tc : Thread Cert.OptNormKernelIdeal.nD Cert.OptNormKernelIdeal.τ).loc Cert.OptNormKernelIdeal.main_v1_3) = v3 c
          ∧ r.2.mem ((c.tc : Thread Cert.OptNormKernelIdeal.nD Cert.OptNormKernelIdeal.τ).loc Cert.OptNormKernelIdeal.main_arg0) = m ((c.tc : Thread Cert.OptNormKernelIdeal.nD Cert.OptNormKernelIdeal.τ).loc Cert.OptNormKernelIdeal.main_arg0)
          ∧ r.2.mem ((c.tc : Thread Cert.OptNormKernelIdeal.nD Cert.OptNormKernelIdeal.τ).loc Cert.OptNormKernelIdeal.main_arg1) = m ((c.tc : Thread Cert.OptNormKernelIdeal.nD Cert.OptNormKernelIdeal.τ).loc Cert.OptNormKernelIdeal.main_arg1)
          ∧ r.2.mem ((c.tc : Thread Cert.OptNormKernelIdeal.nD Cert.OptNormKernelIdeal.τ).loc Cert.OptNormKernelIdeal.main_arg2) = m ((c.tc : Thread Cert.OptNormKernelIdeal.nD Cert.OptNormKernelIdeal.τ).loc Cert.OptNormKernelIdeal.main_arg2)
          ∧ r.2.mem ((c.tc : Thread Cert.OptNormKernelIdeal.nD Cert.OptNormKernelIdeal.τ).loc Cert.OptNormKernelIdeal.main_arg3) = m ((c.tc : Thread Cert.OptNormKernelIdeal.nD Cert.OptNormKernelIdeal.τ).loc Cert.OptNormKernelIdeal.main_arg3))
      ∧ θ_run (Cert.OptNormReferenceIdeal.defs (F := Ideal)) (onTc (τ := Cert.OptNormReferenceIdeal.τ) (Cert.OptNormReferenceIdeal.main (F := Ideal))) ⟨m', fun _ => 0, g'⟩ (fun r => ∀ c : Dev Cert.OptNormReferenceIdeal.nD,
          r.2.mem ((c.tc : Thread Cert.OptNormReferenceIdeal.nD Cert.OptNormReferenceIdeal.τ).loc Cert.OptNormReferenceIdeal.main_arg1) = v0 c
          ∧ r.2.mem ((c.tc : Thread Cert.OptNormReferenceIdeal.nD Cert.OptNormReferenceIdeal.τ).loc Cert.OptNormReferenceIdeal.main_v23) = v1 c
          ∧ r.2.mem ((c.tc : Thread Cert.OptNormReferenceIdeal.nD Cert.OptNormReferenceIdeal.τ).loc Cert.OptNormReferenceIdeal.main_v4) = v2 c
          ∧ r.2.mem ((c.tc : Thread Cert.OptNormReferenceIdeal.nD Cert.OptNormReferenceIdeal.τ).loc Cert.OptNormReferenceIdeal.main_v10) = v3 c
          ∧ r.2.mem ((c.tc : Thread Cert.OptNormReferenceIdeal.nD Cert.OptNormReferenceIdeal.τ).loc Cert.OptNormReferenceIdeal.main_arg0) = m' ((c.tc : Thread Cert.OptNormReferenceIdeal.nD Cert.OptNormReferenceIdeal.τ).loc Cert.OptNormReferenceIdeal.main_arg0)
          ∧ r.2.mem ((c.tc : Thread Cert.OptNormReferenceIdeal.nD Cert.OptNormReferenceIdeal.τ).loc Cert.OptNormReferenceIdeal.main_arg1) = m' ((c.tc : Thread Cert.OptNormReferenceIdeal.nD Cert.OptNormReferenceIdeal.τ).loc Cert.OptNormReferenceIdeal.main_arg1)
          ∧ r.2.mem ((c.tc : Thread Cert.OptNormReferenceIdeal.nD Cert.OptNormReferenceIdeal.τ).loc Cert.OptNormReferenceIdeal.main_arg2) = m' ((c.tc : Thread Cert.OptNormReferenceIdeal.nD Cert.OptNormReferenceIdeal.τ).loc Cert.OptNormReferenceIdeal.main_arg2)
          ∧ r.2.mem ((c.tc : Thread Cert.OptNormReferenceIdeal.nD Cert.OptNormReferenceIdeal.τ).loc Cert.OptNormReferenceIdeal.main_arg3) = m' ((c.tc : Thread Cert.OptNormReferenceIdeal.nD Cert.OptNormReferenceIdeal.τ).loc Cert.OptNormReferenceIdeal.main_arg3))

def preserves_OptAKernel_OptAKernelIdeal : Prop :=
  True

def algebraic_OptAKernelIdeal_OptAReferenceIdeal [hOptAKernelIdeal : Cert.OptAKernelIdeal.Facts] [hOptAReferenceIdeal : Cert.OptAReferenceIdeal.Facts] : Prop :=
  ∀ (m : (ℓ : Loc Cert.OptAKernelIdeal.nD Cert.OptAKernelIdeal.τ Cert.OptAKernelIdeal.sig) → Buf (Elt Ideal) ℓ) (g : Dev Cert.OptAKernelIdeal.nD → PrngReg)
    (m' : (ℓ : Loc Cert.OptAReferenceIdeal.nD Cert.OptAReferenceIdeal.τ Cert.OptAReferenceIdeal.sig) → Buf (Elt Ideal) ℓ) (g' : Dev Cert.OptAReferenceIdeal.nD → PrngReg), Pre_OptAKernelIdeal m →
    (∀ c : Dev Cert.OptAKernelIdeal.nD,
      m' ((c.tc : Thread Cert.OptAReferenceIdeal.nD Cert.OptAReferenceIdeal.τ).loc Cert.OptAReferenceIdeal.main_arg0) = m ((c.tc : Thread Cert.OptAKernelIdeal.nD Cert.OptAKernelIdeal.τ).loc Cert.OptAKernelIdeal.main_arg0)
      ∧ m' ((c.tc : Thread Cert.OptAReferenceIdeal.nD Cert.OptAReferenceIdeal.τ).loc Cert.OptAReferenceIdeal.main_arg1) = m ((c.tc : Thread Cert.OptAKernelIdeal.nD Cert.OptAKernelIdeal.τ).loc Cert.OptAKernelIdeal.main_arg1)
      ∧ m' ((c.tc : Thread Cert.OptAReferenceIdeal.nD Cert.OptAReferenceIdeal.τ).loc Cert.OptAReferenceIdeal.main_arg2) = m ((c.tc : Thread Cert.OptAKernelIdeal.nD Cert.OptAKernelIdeal.τ).loc Cert.OptAKernelIdeal.main_arg2)
      ∧ m' ((c.tc : Thread Cert.OptAReferenceIdeal.nD Cert.OptAReferenceIdeal.τ).loc Cert.OptAReferenceIdeal.main_arg3) = m ((c.tc : Thread Cert.OptAKernelIdeal.nD Cert.OptAKernelIdeal.τ).loc Cert.OptAKernelIdeal.main_arg3)) →
    ∃ (v0 : (c : Dev Cert.OptAKernelIdeal.nD) → Buf (Elt Ideal) ((c.tc : Thread Cert.OptAKernelIdeal.nD Cert.OptAKernelIdeal.τ).loc Cert.OptAKernelIdeal.main_v5_0)) (v1 : (c : Dev Cert.OptAKernelIdeal.nD) → Buf (Elt Ideal) ((c.tc : Thread Cert.OptAKernelIdeal.nD Cert.OptAKernelIdeal.τ).loc Cert.OptAKernelIdeal.main_v5_1)) (v2 : (c : Dev Cert.OptAKernelIdeal.nD) → Buf (Elt Ideal) ((c.tc : Thread Cert.OptAKernelIdeal.nD Cert.OptAKernelIdeal.τ).loc Cert.OptAKernelIdeal.main_v5_2)) (v3 : (c : Dev Cert.OptAKernelIdeal.nD) → Buf (Elt Ideal) ((c.tc : Thread Cert.OptAKernelIdeal.nD Cert.OptAKernelIdeal.τ).loc Cert.OptAKernelIdeal.main_v5_3)),
      θ_run (Cert.OptAKernelIdeal.defs (F := Ideal)) (onTc (τ := Cert.OptAKernelIdeal.τ) (Cert.OptAKernelIdeal.main (F := Ideal))) ⟨m, fun _ => 0, g⟩ (fun r => ∀ c : Dev Cert.OptAKernelIdeal.nD,
          r.2.mem ((c.tc : Thread Cert.OptAKernelIdeal.nD Cert.OptAKernelIdeal.τ).loc Cert.OptAKernelIdeal.main_v5_0) = v0 c
          ∧ r.2.mem ((c.tc : Thread Cert.OptAKernelIdeal.nD Cert.OptAKernelIdeal.τ).loc Cert.OptAKernelIdeal.main_v5_1) = v1 c
          ∧ r.2.mem ((c.tc : Thread Cert.OptAKernelIdeal.nD Cert.OptAKernelIdeal.τ).loc Cert.OptAKernelIdeal.main_v5_2) = v2 c
          ∧ r.2.mem ((c.tc : Thread Cert.OptAKernelIdeal.nD Cert.OptAKernelIdeal.τ).loc Cert.OptAKernelIdeal.main_v5_3) = v3 c
          ∧ r.2.mem ((c.tc : Thread Cert.OptAKernelIdeal.nD Cert.OptAKernelIdeal.τ).loc Cert.OptAKernelIdeal.main_arg0) = m ((c.tc : Thread Cert.OptAKernelIdeal.nD Cert.OptAKernelIdeal.τ).loc Cert.OptAKernelIdeal.main_arg0)
          ∧ r.2.mem ((c.tc : Thread Cert.OptAKernelIdeal.nD Cert.OptAKernelIdeal.τ).loc Cert.OptAKernelIdeal.main_arg1) = m ((c.tc : Thread Cert.OptAKernelIdeal.nD Cert.OptAKernelIdeal.τ).loc Cert.OptAKernelIdeal.main_arg1)
          ∧ r.2.mem ((c.tc : Thread Cert.OptAKernelIdeal.nD Cert.OptAKernelIdeal.τ).loc Cert.OptAKernelIdeal.main_arg2) = m ((c.tc : Thread Cert.OptAKernelIdeal.nD Cert.OptAKernelIdeal.τ).loc Cert.OptAKernelIdeal.main_arg2)
          ∧ r.2.mem ((c.tc : Thread Cert.OptAKernelIdeal.nD Cert.OptAKernelIdeal.τ).loc Cert.OptAKernelIdeal.main_arg3) = m ((c.tc : Thread Cert.OptAKernelIdeal.nD Cert.OptAKernelIdeal.τ).loc Cert.OptAKernelIdeal.main_arg3))
      ∧ θ_run (Cert.OptAReferenceIdeal.defs (F := Ideal)) (onTc (τ := Cert.OptAReferenceIdeal.τ) (Cert.OptAReferenceIdeal.main (F := Ideal))) ⟨m', fun _ => 0, g'⟩ (fun r => ∀ c : Dev Cert.OptAReferenceIdeal.nD,
          r.2.mem ((c.tc : Thread Cert.OptAReferenceIdeal.nD Cert.OptAReferenceIdeal.τ).loc Cert.OptAReferenceIdeal.main_v24) = v0 c
          ∧ r.2.mem ((c.tc : Thread Cert.OptAReferenceIdeal.nD Cert.OptAReferenceIdeal.τ).loc Cert.OptAReferenceIdeal.main_v25) = v1 c
          ∧ r.2.mem ((c.tc : Thread Cert.OptAReferenceIdeal.nD Cert.OptAReferenceIdeal.τ).loc Cert.OptAReferenceIdeal.main_v26) = v2 c
          ∧ r.2.mem ((c.tc : Thread Cert.OptAReferenceIdeal.nD Cert.OptAReferenceIdeal.τ).loc Cert.OptAReferenceIdeal.main_v27) = v3 c
          ∧ r.2.mem ((c.tc : Thread Cert.OptAReferenceIdeal.nD Cert.OptAReferenceIdeal.τ).loc Cert.OptAReferenceIdeal.main_arg0) = m' ((c.tc : Thread Cert.OptAReferenceIdeal.nD Cert.OptAReferenceIdeal.τ).loc Cert.OptAReferenceIdeal.main_arg0)
          ∧ r.2.mem ((c.tc : Thread Cert.OptAReferenceIdeal.nD Cert.OptAReferenceIdeal.τ).loc Cert.OptAReferenceIdeal.main_arg1) = m' ((c.tc : Thread Cert.OptAReferenceIdeal.nD Cert.OptAReferenceIdeal.τ).loc Cert.OptAReferenceIdeal.main_arg1)
          ∧ r.2.mem ((c.tc : Thread Cert.OptAReferenceIdeal.nD Cert.OptAReferenceIdeal.τ).loc Cert.OptAReferenceIdeal.main_arg2) = m' ((c.tc : Thread Cert.OptAReferenceIdeal.nD Cert.OptAReferenceIdeal.τ).loc Cert.OptAReferenceIdeal.main_arg2)
          ∧ r.2.mem ((c.tc : Thread Cert.OptAReferenceIdeal.nD Cert.OptAReferenceIdeal.τ).loc Cert.OptAReferenceIdeal.main_arg3) = m' ((c.tc : Thread Cert.OptAReferenceIdeal.nD Cert.OptAReferenceIdeal.τ).loc Cert.OptAReferenceIdeal.main_arg3))

def preserves_OptStepKernel_OptStepKernelIdeal : Prop :=
  True

def algebraic_OptStepKernelIdeal_OptStepReferenceIdeal [hOptStepKernelIdeal : Cert.OptStepKernelIdeal.Facts] [hOptStepReferenceIdeal : Cert.OptStepReferenceIdeal.Facts] : Prop :=
  ∀ (m : (ℓ : Loc Cert.OptStepKernelIdeal.nD Cert.OptStepKernelIdeal.τ Cert.OptStepKernelIdeal.sig) → Buf (Elt Ideal) ℓ) (g : Dev Cert.OptStepKernelIdeal.nD → PrngReg)
    (m' : (ℓ : Loc Cert.OptStepReferenceIdeal.nD Cert.OptStepReferenceIdeal.τ Cert.OptStepReferenceIdeal.sig) → Buf (Elt Ideal) ℓ) (g' : Dev Cert.OptStepReferenceIdeal.nD → PrngReg), Pre_OptStepKernelIdeal m →
    (∀ c : Dev Cert.OptStepKernelIdeal.nD,
      m' ((c.tc : Thread Cert.OptStepReferenceIdeal.nD Cert.OptStepReferenceIdeal.τ).loc Cert.OptStepReferenceIdeal.main_arg0) = m ((c.tc : Thread Cert.OptStepKernelIdeal.nD Cert.OptStepKernelIdeal.τ).loc Cert.OptStepKernelIdeal.main_arg0)
      ∧ m' ((c.tc : Thread Cert.OptStepReferenceIdeal.nD Cert.OptStepReferenceIdeal.τ).loc Cert.OptStepReferenceIdeal.main_arg1) = m ((c.tc : Thread Cert.OptStepKernelIdeal.nD Cert.OptStepKernelIdeal.τ).loc Cert.OptStepKernelIdeal.main_arg1)
      ∧ m' ((c.tc : Thread Cert.OptStepReferenceIdeal.nD Cert.OptStepReferenceIdeal.τ).loc Cert.OptStepReferenceIdeal.main_arg2) = m ((c.tc : Thread Cert.OptStepKernelIdeal.nD Cert.OptStepKernelIdeal.τ).loc Cert.OptStepKernelIdeal.main_arg2)
      ∧ m' ((c.tc : Thread Cert.OptStepReferenceIdeal.nD Cert.OptStepReferenceIdeal.τ).loc Cert.OptStepReferenceIdeal.main_arg3) = m ((c.tc : Thread Cert.OptStepKernelIdeal.nD Cert.OptStepKernelIdeal.τ).loc Cert.OptStepKernelIdeal.main_arg3)) →
    ∃ (v0 : (c : Dev Cert.OptStepKernelIdeal.nD) → Buf (Elt Ideal) ((c.tc : Thread Cert.OptStepKernelIdeal.nD Cert.OptStepKernelIdeal.τ).loc Cert.OptStepKernelIdeal.main_v1_0)) (v1 : (c : Dev Cert.OptStepKernelIdeal.nD) → Buf (Elt Ideal) ((c.tc : Thread Cert.OptStepKernelIdeal.nD Cert.OptStepKernelIdeal.τ).loc Cert.OptStepKernelIdeal.main_v1_1)) (v2 : (c : Dev Cert.OptStepKernelIdeal.nD) → Buf (Elt Ideal) ((c.tc : Thread Cert.OptStepKernelIdeal.nD Cert.OptStepKernelIdeal.τ).loc Cert.OptStepKernelIdeal.main_v1_2)) (v3 : (c : Dev Cert.OptStepKernelIdeal.nD) → Buf (Elt Ideal) ((c.tc : Thread Cert.OptStepKernelIdeal.nD Cert.OptStepKernelIdeal.τ).loc Cert.OptStepKernelIdeal.main_v1_3)),
      θ_run (Cert.OptStepKernelIdeal.defs (F := Ideal)) (onTc (τ := Cert.OptStepKernelIdeal.τ) (Cert.OptStepKernelIdeal.main (F := Ideal))) ⟨m, fun _ => 0, g⟩ (fun r => ∀ c : Dev Cert.OptStepKernelIdeal.nD,
          r.2.mem ((c.tc : Thread Cert.OptStepKernelIdeal.nD Cert.OptStepKernelIdeal.τ).loc Cert.OptStepKernelIdeal.main_v1_0) = v0 c
          ∧ r.2.mem ((c.tc : Thread Cert.OptStepKernelIdeal.nD Cert.OptStepKernelIdeal.τ).loc Cert.OptStepKernelIdeal.main_v1_1) = v1 c
          ∧ r.2.mem ((c.tc : Thread Cert.OptStepKernelIdeal.nD Cert.OptStepKernelIdeal.τ).loc Cert.OptStepKernelIdeal.main_v1_2) = v2 c
          ∧ r.2.mem ((c.tc : Thread Cert.OptStepKernelIdeal.nD Cert.OptStepKernelIdeal.τ).loc Cert.OptStepKernelIdeal.main_v1_3) = v3 c
          ∧ r.2.mem ((c.tc : Thread Cert.OptStepKernelIdeal.nD Cert.OptStepKernelIdeal.τ).loc Cert.OptStepKernelIdeal.main_arg0) = m ((c.tc : Thread Cert.OptStepKernelIdeal.nD Cert.OptStepKernelIdeal.τ).loc Cert.OptStepKernelIdeal.main_arg0)
          ∧ r.2.mem ((c.tc : Thread Cert.OptStepKernelIdeal.nD Cert.OptStepKernelIdeal.τ).loc Cert.OptStepKernelIdeal.main_arg1) = m ((c.tc : Thread Cert.OptStepKernelIdeal.nD Cert.OptStepKernelIdeal.τ).loc Cert.OptStepKernelIdeal.main_arg1)
          ∧ r.2.mem ((c.tc : Thread Cert.OptStepKernelIdeal.nD Cert.OptStepKernelIdeal.τ).loc Cert.OptStepKernelIdeal.main_arg2) = m ((c.tc : Thread Cert.OptStepKernelIdeal.nD Cert.OptStepKernelIdeal.τ).loc Cert.OptStepKernelIdeal.main_arg2)
          ∧ r.2.mem ((c.tc : Thread Cert.OptStepKernelIdeal.nD Cert.OptStepKernelIdeal.τ).loc Cert.OptStepKernelIdeal.main_arg3) = m ((c.tc : Thread Cert.OptStepKernelIdeal.nD Cert.OptStepKernelIdeal.τ).loc Cert.OptStepKernelIdeal.main_arg3))
      ∧ θ_run (Cert.OptStepReferenceIdeal.defs (F := Ideal)) (onTc (τ := Cert.OptStepReferenceIdeal.τ) (Cert.OptStepReferenceIdeal.main (F := Ideal))) ⟨m', fun _ => 0, g'⟩ (fun r => ∀ c : Dev Cert.OptStepReferenceIdeal.nD,
          r.2.mem ((c.tc : Thread Cert.OptStepReferenceIdeal.nD Cert.OptStepReferenceIdeal.τ).loc Cert.OptStepReferenceIdeal.main_arg1) = v0 c
          ∧ r.2.mem ((c.tc : Thread Cert.OptStepReferenceIdeal.nD Cert.OptStepReferenceIdeal.τ).loc Cert.OptStepReferenceIdeal.main_v23) = v1 c
          ∧ r.2.mem ((c.tc : Thread Cert.OptStepReferenceIdeal.nD Cert.OptStepReferenceIdeal.τ).loc Cert.OptStepReferenceIdeal.main_v4) = v2 c
          ∧ r.2.mem ((c.tc : Thread Cert.OptStepReferenceIdeal.nD Cert.OptStepReferenceIdeal.τ).loc Cert.OptStepReferenceIdeal.main_v10) = v3 c
          ∧ r.2.mem ((c.tc : Thread Cert.OptStepReferenceIdeal.nD Cert.OptStepReferenceIdeal.τ).loc Cert.OptStepReferenceIdeal.main_arg0) = m' ((c.tc : Thread Cert.OptStepReferenceIdeal.nD Cert.OptStepReferenceIdeal.τ).loc Cert.OptStepReferenceIdeal.main_arg0)
          ∧ r.2.mem ((c.tc : Thread Cert.OptStepReferenceIdeal.nD Cert.OptStepReferenceIdeal.τ).loc Cert.OptStepReferenceIdeal.main_arg1) = m' ((c.tc : Thread Cert.OptStepReferenceIdeal.nD Cert.OptStepReferenceIdeal.τ).loc Cert.OptStepReferenceIdeal.main_arg1)
          ∧ r.2.mem ((c.tc : Thread Cert.OptStepReferenceIdeal.nD Cert.OptStepReferenceIdeal.τ).loc Cert.OptStepReferenceIdeal.main_arg2) = m' ((c.tc : Thread Cert.OptStepReferenceIdeal.nD Cert.OptStepReferenceIdeal.τ).loc Cert.OptStepReferenceIdeal.main_arg2)
          ∧ r.2.mem ((c.tc : Thread Cert.OptStepReferenceIdeal.nD Cert.OptStepReferenceIdeal.τ).loc Cert.OptStepReferenceIdeal.main_arg3) = m' ((c.tc : Thread Cert.OptStepReferenceIdeal.nD Cert.OptStepReferenceIdeal.τ).loc Cert.OptStepReferenceIdeal.main_arg3))

def preserves_OptBKernel_OptBKernelIdeal : Prop :=
  True

def algebraic_OptBKernelIdeal_OptBReferenceIdeal [hOptBKernelIdeal : Cert.OptBKernelIdeal.Facts] [hOptBReferenceIdeal : Cert.OptBReferenceIdeal.Facts] : Prop :=
  ∀ (m : (ℓ : Loc Cert.OptBKernelIdeal.nD Cert.OptBKernelIdeal.τ Cert.OptBKernelIdeal.sig) → Buf (Elt Ideal) ℓ) (g : Dev Cert.OptBKernelIdeal.nD → PrngReg)
    (m' : (ℓ : Loc Cert.OptBReferenceIdeal.nD Cert.OptBReferenceIdeal.τ Cert.OptBReferenceIdeal.sig) → Buf (Elt Ideal) ℓ) (g' : Dev Cert.OptBReferenceIdeal.nD → PrngReg), Pre_OptBKernelIdeal m →
    (∀ c : Dev Cert.OptBKernelIdeal.nD,
      m' ((c.tc : Thread Cert.OptBReferenceIdeal.nD Cert.OptBReferenceIdeal.τ).loc Cert.OptBReferenceIdeal.main_arg0) = m ((c.tc : Thread Cert.OptBKernelIdeal.nD Cert.OptBKernelIdeal.τ).loc Cert.OptBKernelIdeal.main_arg0)
      ∧ m' ((c.tc : Thread Cert.OptBReferenceIdeal.nD Cert.OptBReferenceIdeal.τ).loc Cert.OptBReferenceIdeal.main_arg1) = m ((c.tc : Thread Cert.OptBKernelIdeal.nD Cert.OptBKernelIdeal.τ).loc Cert.OptBKernelIdeal.main_arg1)
      ∧ m' ((c.tc : Thread Cert.OptBReferenceIdeal.nD Cert.OptBReferenceIdeal.τ).loc Cert.OptBReferenceIdeal.main_arg2) = m ((c.tc : Thread Cert.OptBKernelIdeal.nD Cert.OptBKernelIdeal.τ).loc Cert.OptBKernelIdeal.main_arg2)
      ∧ m' ((c.tc : Thread Cert.OptBReferenceIdeal.nD Cert.OptBReferenceIdeal.τ).loc Cert.OptBReferenceIdeal.main_arg3) = m ((c.tc : Thread Cert.OptBKernelIdeal.nD Cert.OptBKernelIdeal.τ).loc Cert.OptBKernelIdeal.main_arg3)) →
    ∃ (v0 : (c : Dev Cert.OptBKernelIdeal.nD) → Buf (Elt Ideal) ((c.tc : Thread Cert.OptBKernelIdeal.nD Cert.OptBKernelIdeal.τ).loc Cert.OptBKernelIdeal.main_v5_0)) (v1 : (c : Dev Cert.OptBKernelIdeal.nD) → Buf (Elt Ideal) ((c.tc : Thread Cert.OptBKernelIdeal.nD Cert.OptBKernelIdeal.τ).loc Cert.OptBKernelIdeal.main_v5_1)) (v2 : (c : Dev Cert.OptBKernelIdeal.nD) → Buf (Elt Ideal) ((c.tc : Thread Cert.OptBKernelIdeal.nD Cert.OptBKernelIdeal.τ).loc Cert.OptBKernelIdeal.main_v5_2)) (v3 : (c : Dev Cert.OptBKernelIdeal.nD) → Buf (Elt Ideal) ((c.tc : Thread Cert.OptBKernelIdeal.nD Cert.OptBKernelIdeal.τ).loc Cert.OptBKernelIdeal.main_v5_3)),
      θ_run (Cert.OptBKernelIdeal.defs (F := Ideal)) (onTc (τ := Cert.OptBKernelIdeal.τ) (Cert.OptBKernelIdeal.main (F := Ideal))) ⟨m, fun _ => 0, g⟩ (fun r => ∀ c : Dev Cert.OptBKernelIdeal.nD,
          r.2.mem ((c.tc : Thread Cert.OptBKernelIdeal.nD Cert.OptBKernelIdeal.τ).loc Cert.OptBKernelIdeal.main_v5_0) = v0 c
          ∧ r.2.mem ((c.tc : Thread Cert.OptBKernelIdeal.nD Cert.OptBKernelIdeal.τ).loc Cert.OptBKernelIdeal.main_v5_1) = v1 c
          ∧ r.2.mem ((c.tc : Thread Cert.OptBKernelIdeal.nD Cert.OptBKernelIdeal.τ).loc Cert.OptBKernelIdeal.main_v5_2) = v2 c
          ∧ r.2.mem ((c.tc : Thread Cert.OptBKernelIdeal.nD Cert.OptBKernelIdeal.τ).loc Cert.OptBKernelIdeal.main_v5_3) = v3 c
          ∧ r.2.mem ((c.tc : Thread Cert.OptBKernelIdeal.nD Cert.OptBKernelIdeal.τ).loc Cert.OptBKernelIdeal.main_arg0) = m ((c.tc : Thread Cert.OptBKernelIdeal.nD Cert.OptBKernelIdeal.τ).loc Cert.OptBKernelIdeal.main_arg0)
          ∧ r.2.mem ((c.tc : Thread Cert.OptBKernelIdeal.nD Cert.OptBKernelIdeal.τ).loc Cert.OptBKernelIdeal.main_arg1) = m ((c.tc : Thread Cert.OptBKernelIdeal.nD Cert.OptBKernelIdeal.τ).loc Cert.OptBKernelIdeal.main_arg1)
          ∧ r.2.mem ((c.tc : Thread Cert.OptBKernelIdeal.nD Cert.OptBKernelIdeal.τ).loc Cert.OptBKernelIdeal.main_arg2) = m ((c.tc : Thread Cert.OptBKernelIdeal.nD Cert.OptBKernelIdeal.τ).loc Cert.OptBKernelIdeal.main_arg2)
          ∧ r.2.mem ((c.tc : Thread Cert.OptBKernelIdeal.nD Cert.OptBKernelIdeal.τ).loc Cert.OptBKernelIdeal.main_arg3) = m ((c.tc : Thread Cert.OptBKernelIdeal.nD Cert.OptBKernelIdeal.τ).loc Cert.OptBKernelIdeal.main_arg3))
      ∧ θ_run (Cert.OptBReferenceIdeal.defs (F := Ideal)) (onTc (τ := Cert.OptBReferenceIdeal.τ) (Cert.OptBReferenceIdeal.main (F := Ideal))) ⟨m', fun _ => 0, g'⟩ (fun r => ∀ c : Dev Cert.OptBReferenceIdeal.nD,
          r.2.mem ((c.tc : Thread Cert.OptBReferenceIdeal.nD Cert.OptBReferenceIdeal.τ).loc Cert.OptBReferenceIdeal.main_v24) = v0 c
          ∧ r.2.mem ((c.tc : Thread Cert.OptBReferenceIdeal.nD Cert.OptBReferenceIdeal.τ).loc Cert.OptBReferenceIdeal.main_v25) = v1 c
          ∧ r.2.mem ((c.tc : Thread Cert.OptBReferenceIdeal.nD Cert.OptBReferenceIdeal.τ).loc Cert.OptBReferenceIdeal.main_v26) = v2 c
          ∧ r.2.mem ((c.tc : Thread Cert.OptBReferenceIdeal.nD Cert.OptBReferenceIdeal.τ).loc Cert.OptBReferenceIdeal.main_v27) = v3 c
          ∧ r.2.mem ((c.tc : Thread Cert.OptBReferenceIdeal.nD Cert.OptBReferenceIdeal.τ).loc Cert.OptBReferenceIdeal.main_arg0) = m' ((c.tc : Thread Cert.OptBReferenceIdeal.nD Cert.OptBReferenceIdeal.τ).loc Cert.OptBReferenceIdeal.main_arg0)
          ∧ r.2.mem ((c.tc : Thread Cert.OptBReferenceIdeal.nD Cert.OptBReferenceIdeal.τ).loc Cert.OptBReferenceIdeal.main_arg1) = m' ((c.tc : Thread Cert.OptBReferenceIdeal.nD Cert.OptBReferenceIdeal.τ).loc Cert.OptBReferenceIdeal.main_arg1)
          ∧ r.2.mem ((c.tc : Thread Cert.OptBReferenceIdeal.nD Cert.OptBReferenceIdeal.τ).loc Cert.OptBReferenceIdeal.main_arg2) = m' ((c.tc : Thread Cert.OptBReferenceIdeal.nD Cert.OptBReferenceIdeal.τ).loc Cert.OptBReferenceIdeal.main_arg2)
          ∧ r.2.mem ((c.tc : Thread Cert.OptBReferenceIdeal.nD Cert.OptBReferenceIdeal.τ).loc Cert.OptBReferenceIdeal.main_arg3) = m' ((c.tc : Thread Cert.OptBReferenceIdeal.nD Cert.OptBReferenceIdeal.τ).loc Cert.OptBReferenceIdeal.main_arg3))

def preserves_OptCKernel_OptCKernelIdeal : Prop :=
  True

def algebraic_OptCKernelIdeal_OptCReferenceIdeal [hOptCKernelIdeal : Cert.OptCKernelIdeal.Facts] [hOptCReferenceIdeal : Cert.OptCReferenceIdeal.Facts] : Prop :=
  ∀ (m : (ℓ : Loc Cert.OptCKernelIdeal.nD Cert.OptCKernelIdeal.τ Cert.OptCKernelIdeal.sig) → Buf (Elt Ideal) ℓ) (g : Dev Cert.OptCKernelIdeal.nD → PrngReg)
    (m' : (ℓ : Loc Cert.OptCReferenceIdeal.nD Cert.OptCReferenceIdeal.τ Cert.OptCReferenceIdeal.sig) → Buf (Elt Ideal) ℓ) (g' : Dev Cert.OptCReferenceIdeal.nD → PrngReg), Pre_OptCKernelIdeal m →
    (∀ c : Dev Cert.OptCKernelIdeal.nD,
      m' ((c.tc : Thread Cert.OptCReferenceIdeal.nD Cert.OptCReferenceIdeal.τ).loc Cert.OptCReferenceIdeal.main_arg0) = m ((c.tc : Thread Cert.OptCKernelIdeal.nD Cert.OptCKernelIdeal.τ).loc Cert.OptCKernelIdeal.main_arg0)
      ∧ m' ((c.tc : Thread Cert.OptCReferenceIdeal.nD Cert.OptCReferenceIdeal.τ).loc Cert.OptCReferenceIdeal.main_arg1) = m ((c.tc : Thread Cert.OptCKernelIdeal.nD Cert.OptCKernelIdeal.τ).loc Cert.OptCKernelIdeal.main_arg1)
      ∧ m' ((c.tc : Thread Cert.OptCReferenceIdeal.nD Cert.OptCReferenceIdeal.τ).loc Cert.OptCReferenceIdeal.main_arg2) = m ((c.tc : Thread Cert.OptCKernelIdeal.nD Cert.OptCKernelIdeal.τ).loc Cert.OptCKernelIdeal.main_arg2)
      ∧ m' ((c.tc : Thread Cert.OptCReferenceIdeal.nD Cert.OptCReferenceIdeal.τ).loc Cert.OptCReferenceIdeal.main_arg3) = m ((c.tc : Thread Cert.OptCKernelIdeal.nD Cert.OptCKernelIdeal.τ).loc Cert.OptCKernelIdeal.main_arg3)) →
    ∃ (v0 : (c : Dev Cert.OptCKernelIdeal.nD) → Buf (Elt Ideal) ((c.tc : Thread Cert.OptCKernelIdeal.nD Cert.OptCKernelIdeal.τ).loc Cert.OptCKernelIdeal.main_v5_0)) (v1 : (c : Dev Cert.OptCKernelIdeal.nD) → Buf (Elt Ideal) ((c.tc : Thread Cert.OptCKernelIdeal.nD Cert.OptCKernelIdeal.τ).loc Cert.OptCKernelIdeal.main_v5_1)) (v2 : (c : Dev Cert.OptCKernelIdeal.nD) → Buf (Elt Ideal) ((c.tc : Thread Cert.OptCKernelIdeal.nD Cert.OptCKernelIdeal.τ).loc Cert.OptCKernelIdeal.main_v5_2)) (v3 : (c : Dev Cert.OptCKernelIdeal.nD) → Buf (Elt Ideal) ((c.tc : Thread Cert.OptCKernelIdeal.nD Cert.OptCKernelIdeal.τ).loc Cert.OptCKernelIdeal.main_v5_3)),
      θ_run (Cert.OptCKernelIdeal.defs (F := Ideal)) (onTc (τ := Cert.OptCKernelIdeal.τ) (Cert.OptCKernelIdeal.main (F := Ideal))) ⟨m, fun _ => 0, g⟩ (fun r => ∀ c : Dev Cert.OptCKernelIdeal.nD,
          r.2.mem ((c.tc : Thread Cert.OptCKernelIdeal.nD Cert.OptCKernelIdeal.τ).loc Cert.OptCKernelIdeal.main_v5_0) = v0 c
          ∧ r.2.mem ((c.tc : Thread Cert.OptCKernelIdeal.nD Cert.OptCKernelIdeal.τ).loc Cert.OptCKernelIdeal.main_v5_1) = v1 c
          ∧ r.2.mem ((c.tc : Thread Cert.OptCKernelIdeal.nD Cert.OptCKernelIdeal.τ).loc Cert.OptCKernelIdeal.main_v5_2) = v2 c
          ∧ r.2.mem ((c.tc : Thread Cert.OptCKernelIdeal.nD Cert.OptCKernelIdeal.τ).loc Cert.OptCKernelIdeal.main_v5_3) = v3 c
          ∧ r.2.mem ((c.tc : Thread Cert.OptCKernelIdeal.nD Cert.OptCKernelIdeal.τ).loc Cert.OptCKernelIdeal.main_arg0) = m ((c.tc : Thread Cert.OptCKernelIdeal.nD Cert.OptCKernelIdeal.τ).loc Cert.OptCKernelIdeal.main_arg0)
          ∧ r.2.mem ((c.tc : Thread Cert.OptCKernelIdeal.nD Cert.OptCKernelIdeal.τ).loc Cert.OptCKernelIdeal.main_arg1) = m ((c.tc : Thread Cert.OptCKernelIdeal.nD Cert.OptCKernelIdeal.τ).loc Cert.OptCKernelIdeal.main_arg1)
          ∧ r.2.mem ((c.tc : Thread Cert.OptCKernelIdeal.nD Cert.OptCKernelIdeal.τ).loc Cert.OptCKernelIdeal.main_arg2) = m ((c.tc : Thread Cert.OptCKernelIdeal.nD Cert.OptCKernelIdeal.τ).loc Cert.OptCKernelIdeal.main_arg2)
          ∧ r.2.mem ((c.tc : Thread Cert.OptCKernelIdeal.nD Cert.OptCKernelIdeal.τ).loc Cert.OptCKernelIdeal.main_arg3) = m ((c.tc : Thread Cert.OptCKernelIdeal.nD Cert.OptCKernelIdeal.τ).loc Cert.OptCKernelIdeal.main_arg3))
      ∧ θ_run (Cert.OptCReferenceIdeal.defs (F := Ideal)) (onTc (τ := Cert.OptCReferenceIdeal.τ) (Cert.OptCReferenceIdeal.main (F := Ideal))) ⟨m', fun _ => 0, g'⟩ (fun r => ∀ c : Dev Cert.OptCReferenceIdeal.nD,
          r.2.mem ((c.tc : Thread Cert.OptCReferenceIdeal.nD Cert.OptCReferenceIdeal.τ).loc Cert.OptCReferenceIdeal.main_v24) = v0 c
          ∧ r.2.mem ((c.tc : Thread Cert.OptCReferenceIdeal.nD Cert.OptCReferenceIdeal.τ).loc Cert.OptCReferenceIdeal.main_v25) = v1 c
          ∧ r.2.mem ((c.tc : Thread Cert.OptCReferenceIdeal.nD Cert.OptCReferenceIdeal.τ).loc Cert.OptCReferenceIdeal.main_v26) = v2 c
          ∧ r.2.mem ((c.tc : Thread Cert.OptCReferenceIdeal.nD Cert.OptCReferenceIdeal.τ).loc Cert.OptCReferenceIdeal.main_v27) = v3 c
          ∧ r.2.mem ((c.tc : Thread Cert.OptCReferenceIdeal.nD Cert.OptCReferenceIdeal.τ).loc Cert.OptCReferenceIdeal.main_arg0) = m' ((c.tc : Thread Cert.OptCReferenceIdeal.nD Cert.OptCReferenceIdeal.τ).loc Cert.OptCReferenceIdeal.main_arg0)
          ∧ r.2.mem ((c.tc : Thread Cert.OptCReferenceIdeal.nD Cert.OptCReferenceIdeal.τ).loc Cert.OptCReferenceIdeal.main_arg1) = m' ((c.tc : Thread Cert.OptCReferenceIdeal.nD Cert.OptCReferenceIdeal.τ).loc Cert.OptCReferenceIdeal.main_arg1)
          ∧ r.2.mem ((c.tc : Thread Cert.OptCReferenceIdeal.nD Cert.OptCReferenceIdeal.τ).loc Cert.OptCReferenceIdeal.main_arg2) = m' ((c.tc : Thread Cert.OptCReferenceIdeal.nD Cert.OptCReferenceIdeal.τ).loc Cert.OptCReferenceIdeal.main_arg2)
          ∧ r.2.mem ((c.tc : Thread Cert.OptCReferenceIdeal.nD Cert.OptCReferenceIdeal.τ).loc Cert.OptCReferenceIdeal.main_arg3) = m' ((c.tc : Thread Cert.OptCReferenceIdeal.nD Cert.OptCReferenceIdeal.τ).loc Cert.OptCReferenceIdeal.main_arg3))

def preserves_OptDKernel_OptDKernelIdeal : Prop :=
  True

def algebraic_OptDKernelIdeal_OptDReferenceIdeal [hOptDKernelIdeal : Cert.OptDKernelIdeal.Facts] [hOptDReferenceIdeal : Cert.OptDReferenceIdeal.Facts] : Prop :=
  ∀ (m : (ℓ : Loc Cert.OptDKernelIdeal.nD Cert.OptDKernelIdeal.τ Cert.OptDKernelIdeal.sig) → Buf (Elt Ideal) ℓ) (g : Dev Cert.OptDKernelIdeal.nD → PrngReg)
    (m' : (ℓ : Loc Cert.OptDReferenceIdeal.nD Cert.OptDReferenceIdeal.τ Cert.OptDReferenceIdeal.sig) → Buf (Elt Ideal) ℓ) (g' : Dev Cert.OptDReferenceIdeal.nD → PrngReg), Pre_OptDKernelIdeal m →
    (∀ c : Dev Cert.OptDKernelIdeal.nD,
      m' ((c.tc : Thread Cert.OptDReferenceIdeal.nD Cert.OptDReferenceIdeal.τ).loc Cert.OptDReferenceIdeal.main_arg0) = m ((c.tc : Thread Cert.OptDKernelIdeal.nD Cert.OptDKernelIdeal.τ).loc Cert.OptDKernelIdeal.main_arg0)
      ∧ m' ((c.tc : Thread Cert.OptDReferenceIdeal.nD Cert.OptDReferenceIdeal.τ).loc Cert.OptDReferenceIdeal.main_arg1) = m ((c.tc : Thread Cert.OptDKernelIdeal.nD Cert.OptDKernelIdeal.τ).loc Cert.OptDKernelIdeal.main_arg1)
      ∧ m' ((c.tc : Thread Cert.OptDReferenceIdeal.nD Cert.OptDReferenceIdeal.τ).loc Cert.OptDReferenceIdeal.main_arg2) = m ((c.tc : Thread Cert.OptDKernelIdeal.nD Cert.OptDKernelIdeal.τ).loc Cert.OptDKernelIdeal.main_arg2)
      ∧ m' ((c.tc : Thread Cert.OptDReferenceIdeal.nD Cert.OptDReferenceIdeal.τ).loc Cert.OptDReferenceIdeal.main_arg3) = m ((c.tc : Thread Cert.OptDKernelIdeal.nD Cert.OptDKernelIdeal.τ).loc Cert.OptDKernelIdeal.main_arg3)) →
    ∃ (v0 : (c : Dev Cert.OptDKernelIdeal.nD) → Buf (Elt Ideal) ((c.tc : Thread Cert.OptDKernelIdeal.nD Cert.OptDKernelIdeal.τ).loc Cert.OptDKernelIdeal.main_v1_0)) (v1 : (c : Dev Cert.OptDKernelIdeal.nD) → Buf (Elt Ideal) ((c.tc : Thread Cert.OptDKernelIdeal.nD Cert.OptDKernelIdeal.τ).loc Cert.OptDKernelIdeal.main_v1_1)) (v2 : (c : Dev Cert.OptDKernelIdeal.nD) → Buf (Elt Ideal) ((c.tc : Thread Cert.OptDKernelIdeal.nD Cert.OptDKernelIdeal.τ).loc Cert.OptDKernelIdeal.main_v1_2)) (v3 : (c : Dev Cert.OptDKernelIdeal.nD) → Buf (Elt Ideal) ((c.tc : Thread Cert.OptDKernelIdeal.nD Cert.OptDKernelIdeal.τ).loc Cert.OptDKernelIdeal.main_v1_3)),
      θ_run (Cert.OptDKernelIdeal.defs (F := Ideal)) (onTc (τ := Cert.OptDKernelIdeal.τ) (Cert.OptDKernelIdeal.main (F := Ideal))) ⟨m, fun _ => 0, g⟩ (fun r => ∀ c : Dev Cert.OptDKernelIdeal.nD,
          r.2.mem ((c.tc : Thread Cert.OptDKernelIdeal.nD Cert.OptDKernelIdeal.τ).loc Cert.OptDKernelIdeal.main_v1_0) = v0 c
          ∧ r.2.mem ((c.tc : Thread Cert.OptDKernelIdeal.nD Cert.OptDKernelIdeal.τ).loc Cert.OptDKernelIdeal.main_v1_1) = v1 c
          ∧ r.2.mem ((c.tc : Thread Cert.OptDKernelIdeal.nD Cert.OptDKernelIdeal.τ).loc Cert.OptDKernelIdeal.main_v1_2) = v2 c
          ∧ r.2.mem ((c.tc : Thread Cert.OptDKernelIdeal.nD Cert.OptDKernelIdeal.τ).loc Cert.OptDKernelIdeal.main_v1_3) = v3 c
          ∧ r.2.mem ((c.tc : Thread Cert.OptDKernelIdeal.nD Cert.OptDKernelIdeal.τ).loc Cert.OptDKernelIdeal.main_arg0) = m ((c.tc : Thread Cert.OptDKernelIdeal.nD Cert.OptDKernelIdeal.τ).loc Cert.OptDKernelIdeal.main_arg0)
          ∧ r.2.mem ((c.tc : Thread Cert.OptDKernelIdeal.nD Cert.OptDKernelIdeal.τ).loc Cert.OptDKernelIdeal.main_arg1) = m ((c.tc : Thread Cert.OptDKernelIdeal.nD Cert.OptDKernelIdeal.τ).loc Cert.OptDKernelIdeal.main_arg1)
          ∧ r.2.mem ((c.tc : Thread Cert.OptDKernelIdeal.nD Cert.OptDKernelIdeal.τ).loc Cert.OptDKernelIdeal.main_arg2) = m ((c.tc : Thread Cert.OptDKernelIdeal.nD Cert.OptDKernelIdeal.τ).loc Cert.OptDKernelIdeal.main_arg2)
          ∧ r.2.mem ((c.tc : Thread Cert.OptDKernelIdeal.nD Cert.OptDKernelIdeal.τ).loc Cert.OptDKernelIdeal.main_arg3) = m ((c.tc : Thread Cert.OptDKernelIdeal.nD Cert.OptDKernelIdeal.τ).loc Cert.OptDKernelIdeal.main_arg3))
      ∧ θ_run (Cert.OptDReferenceIdeal.defs (F := Ideal)) (onTc (τ := Cert.OptDReferenceIdeal.τ) (Cert.OptDReferenceIdeal.main (F := Ideal))) ⟨m', fun _ => 0, g'⟩ (fun r => ∀ c : Dev Cert.OptDReferenceIdeal.nD,
          r.2.mem ((c.tc : Thread Cert.OptDReferenceIdeal.nD Cert.OptDReferenceIdeal.τ).loc Cert.OptDReferenceIdeal.main_arg1) = v0 c
          ∧ r.2.mem ((c.tc : Thread Cert.OptDReferenceIdeal.nD Cert.OptDReferenceIdeal.τ).loc Cert.OptDReferenceIdeal.main_v23) = v1 c
          ∧ r.2.mem ((c.tc : Thread Cert.OptDReferenceIdeal.nD Cert.OptDReferenceIdeal.τ).loc Cert.OptDReferenceIdeal.main_v4) = v2 c
          ∧ r.2.mem ((c.tc : Thread Cert.OptDReferenceIdeal.nD Cert.OptDReferenceIdeal.τ).loc Cert.OptDReferenceIdeal.main_v10) = v3 c
          ∧ r.2.mem ((c.tc : Thread Cert.OptDReferenceIdeal.nD Cert.OptDReferenceIdeal.τ).loc Cert.OptDReferenceIdeal.main_arg0) = m' ((c.tc : Thread Cert.OptDReferenceIdeal.nD Cert.OptDReferenceIdeal.τ).loc Cert.OptDReferenceIdeal.main_arg0)
          ∧ r.2.mem ((c.tc : Thread Cert.OptDReferenceIdeal.nD Cert.OptDReferenceIdeal.τ).loc Cert.OptDReferenceIdeal.main_arg1) = m' ((c.tc : Thread Cert.OptDReferenceIdeal.nD Cert.OptDReferenceIdeal.τ).loc Cert.OptDReferenceIdeal.main_arg1)
          ∧ r.2.mem ((c.tc : Thread Cert.OptDReferenceIdeal.nD Cert.OptDReferenceIdeal.τ).loc Cert.OptDReferenceIdeal.main_arg2) = m' ((c.tc : Thread Cert.OptDReferenceIdeal.nD Cert.OptDReferenceIdeal.τ).loc Cert.OptDReferenceIdeal.main_arg2)
          ∧ r.2.mem ((c.tc : Thread Cert.OptDReferenceIdeal.nD Cert.OptDReferenceIdeal.τ).loc Cert.OptDReferenceIdeal.main_arg3) = m' ((c.tc : Thread Cert.OptDReferenceIdeal.nD Cert.OptDReferenceIdeal.τ).loc Cert.OptDReferenceIdeal.main_arg3))

def preserves_OptQKernel_OptQKernelIdeal : Prop :=
  True

def algebraic_OptQKernelIdeal_OptQReferenceIdeal [hOptQKernelIdeal : Cert.OptQKernelIdeal.Facts] [hOptQReferenceIdeal : Cert.OptQReferenceIdeal.Facts] : Prop :=
  ∀ (m : (ℓ : Loc Cert.OptQKernelIdeal.nD Cert.OptQKernelIdeal.τ Cert.OptQKernelIdeal.sig) → Buf (Elt Ideal) ℓ) (g : Dev Cert.OptQKernelIdeal.nD → PrngReg)
    (m' : (ℓ : Loc Cert.OptQReferenceIdeal.nD Cert.OptQReferenceIdeal.τ Cert.OptQReferenceIdeal.sig) → Buf (Elt Ideal) ℓ) (g' : Dev Cert.OptQReferenceIdeal.nD → PrngReg), Pre_OptQKernelIdeal m →
    (∀ c : Dev Cert.OptQKernelIdeal.nD,
      m' ((c.tc : Thread Cert.OptQReferenceIdeal.nD Cert.OptQReferenceIdeal.τ).loc Cert.OptQReferenceIdeal.main_arg0) = m ((c.tc : Thread Cert.OptQKernelIdeal.nD Cert.OptQKernelIdeal.τ).loc Cert.OptQKernelIdeal.main_arg0)
      ∧ m' ((c.tc : Thread Cert.OptQReferenceIdeal.nD Cert.OptQReferenceIdeal.τ).loc Cert.OptQReferenceIdeal.main_arg1) = m ((c.tc : Thread Cert.OptQKernelIdeal.nD Cert.OptQKernelIdeal.τ).loc Cert.OptQKernelIdeal.main_arg1)
      ∧ m' ((c.tc : Thread Cert.OptQReferenceIdeal.nD Cert.OptQReferenceIdeal.τ).loc Cert.OptQReferenceIdeal.main_arg2) = m ((c.tc : Thread Cert.OptQKernelIdeal.nD Cert.OptQKernelIdeal.τ).loc Cert.OptQKernelIdeal.main_arg2)
      ∧ m' ((c.tc : Thread Cert.OptQReferenceIdeal.nD Cert.OptQReferenceIdeal.τ).loc Cert.OptQReferenceIdeal.main_arg3) = m ((c.tc : Thread Cert.OptQKernelIdeal.nD Cert.OptQKernelIdeal.τ).loc Cert.OptQKernelIdeal.main_arg3)) →
    ∃ (v0 : (c : Dev Cert.OptQKernelIdeal.nD) → Buf (Elt Ideal) ((c.tc : Thread Cert.OptQKernelIdeal.nD Cert.OptQKernelIdeal.τ).loc Cert.OptQKernelIdeal.main_v1_0)) (v1 : (c : Dev Cert.OptQKernelIdeal.nD) → Buf (Elt Ideal) ((c.tc : Thread Cert.OptQKernelIdeal.nD Cert.OptQKernelIdeal.τ).loc Cert.OptQKernelIdeal.main_v1_1)) (v2 : (c : Dev Cert.OptQKernelIdeal.nD) → Buf (Elt Ideal) ((c.tc : Thread Cert.OptQKernelIdeal.nD Cert.OptQKernelIdeal.τ).loc Cert.OptQKernelIdeal.main_v1_2)) (v3 : (c : Dev Cert.OptQKernelIdeal.nD) → Buf (Elt Ideal) ((c.tc : Thread Cert.OptQKernelIdeal.nD Cert.OptQKernelIdeal.τ).loc Cert.OptQKernelIdeal.main_v1_3)),
      θ_run (Cert.OptQKernelIdeal.defs (F := Ideal)) (onTc (τ := Cert.OptQKernelIdeal.τ) (Cert.OptQKernelIdeal.main (F := Ideal))) ⟨m, fun _ => 0, g⟩ (fun r => ∀ c : Dev Cert.OptQKernelIdeal.nD,
          r.2.mem ((c.tc : Thread Cert.OptQKernelIdeal.nD Cert.OptQKernelIdeal.τ).loc Cert.OptQKernelIdeal.main_v1_0) = v0 c
          ∧ r.2.mem ((c.tc : Thread Cert.OptQKernelIdeal.nD Cert.OptQKernelIdeal.τ).loc Cert.OptQKernelIdeal.main_v1_1) = v1 c
          ∧ r.2.mem ((c.tc : Thread Cert.OptQKernelIdeal.nD Cert.OptQKernelIdeal.τ).loc Cert.OptQKernelIdeal.main_v1_2) = v2 c
          ∧ r.2.mem ((c.tc : Thread Cert.OptQKernelIdeal.nD Cert.OptQKernelIdeal.τ).loc Cert.OptQKernelIdeal.main_v1_3) = v3 c
          ∧ r.2.mem ((c.tc : Thread Cert.OptQKernelIdeal.nD Cert.OptQKernelIdeal.τ).loc Cert.OptQKernelIdeal.main_arg0) = m ((c.tc : Thread Cert.OptQKernelIdeal.nD Cert.OptQKernelIdeal.τ).loc Cert.OptQKernelIdeal.main_arg0)
          ∧ r.2.mem ((c.tc : Thread Cert.OptQKernelIdeal.nD Cert.OptQKernelIdeal.τ).loc Cert.OptQKernelIdeal.main_arg1) = m ((c.tc : Thread Cert.OptQKernelIdeal.nD Cert.OptQKernelIdeal.τ).loc Cert.OptQKernelIdeal.main_arg1)
          ∧ r.2.mem ((c.tc : Thread Cert.OptQKernelIdeal.nD Cert.OptQKernelIdeal.τ).loc Cert.OptQKernelIdeal.main_arg2) = m ((c.tc : Thread Cert.OptQKernelIdeal.nD Cert.OptQKernelIdeal.τ).loc Cert.OptQKernelIdeal.main_arg2)
          ∧ r.2.mem ((c.tc : Thread Cert.OptQKernelIdeal.nD Cert.OptQKernelIdeal.τ).loc Cert.OptQKernelIdeal.main_arg3) = m ((c.tc : Thread Cert.OptQKernelIdeal.nD Cert.OptQKernelIdeal.τ).loc Cert.OptQKernelIdeal.main_arg3))
      ∧ θ_run (Cert.OptQReferenceIdeal.defs (F := Ideal)) (onTc (τ := Cert.OptQReferenceIdeal.τ) (Cert.OptQReferenceIdeal.main (F := Ideal))) ⟨m', fun _ => 0, g'⟩ (fun r => ∀ c : Dev Cert.OptQReferenceIdeal.nD,
          r.2.mem ((c.tc : Thread Cert.OptQReferenceIdeal.nD Cert.OptQReferenceIdeal.τ).loc Cert.OptQReferenceIdeal.main_arg1) = v0 c
          ∧ r.2.mem ((c.tc : Thread Cert.OptQReferenceIdeal.nD Cert.OptQReferenceIdeal.τ).loc Cert.OptQReferenceIdeal.main_v23) = v1 c
          ∧ r.2.mem ((c.tc : Thread Cert.OptQReferenceIdeal.nD Cert.OptQReferenceIdeal.τ).loc Cert.OptQReferenceIdeal.main_v4) = v2 c
          ∧ r.2.mem ((c.tc : Thread Cert.OptQReferenceIdeal.nD Cert.OptQReferenceIdeal.τ).loc Cert.OptQReferenceIdeal.main_v10) = v3 c
          ∧ r.2.mem ((c.tc : Thread Cert.OptQReferenceIdeal.nD Cert.OptQReferenceIdeal.τ).loc Cert.OptQReferenceIdeal.main_arg0) = m' ((c.tc : Thread Cert.OptQReferenceIdeal.nD Cert.OptQReferenceIdeal.τ).loc Cert.OptQReferenceIdeal.main_arg0)
          ∧ r.2.mem ((c.tc : Thread Cert.OptQReferenceIdeal.nD Cert.OptQReferenceIdeal.τ).loc Cert.OptQReferenceIdeal.main_arg1) = m' ((c.tc : Thread Cert.OptQReferenceIdeal.nD Cert.OptQReferenceIdeal.τ).loc Cert.OptQReferenceIdeal.main_arg1)
          ∧ r.2.mem ((c.tc : Thread Cert.OptQReferenceIdeal.nD Cert.OptQReferenceIdeal.τ).loc Cert.OptQReferenceIdeal.main_arg2) = m' ((c.tc : Thread Cert.OptQReferenceIdeal.nD Cert.OptQReferenceIdeal.τ).loc Cert.OptQReferenceIdeal.main_arg2)
          ∧ r.2.mem ((c.tc : Thread Cert.OptQReferenceIdeal.nD Cert.OptQReferenceIdeal.τ).loc Cert.OptQReferenceIdeal.main_arg3) = m' ((c.tc : Thread Cert.OptQReferenceIdeal.nD Cert.OptQReferenceIdeal.τ).loc Cert.OptQReferenceIdeal.main_arg3))

def preserves_OptConvWKernel_OptConvWKernelIdeal : Prop :=
  True

def algebraic_OptConvWKernelIdeal_OptConvWReferenceIdeal [hOptConvWKernelIdeal : Cert.OptConvWKernelIdeal.Facts] [hOptConvWReferenceIdeal : Cert.OptConvWReferenceIdeal.Facts] : Prop :=
  ∀ (m : (ℓ : Loc Cert.OptConvWKernelIdeal.nD Cert.OptConvWKernelIdeal.τ Cert.OptConvWKernelIdeal.sig) → Buf (Elt Ideal) ℓ) (g : Dev Cert.OptConvWKernelIdeal.nD → PrngReg)
    (m' : (ℓ : Loc Cert.OptConvWReferenceIdeal.nD Cert.OptConvWReferenceIdeal.τ Cert.OptConvWReferenceIdeal.sig) → Buf (Elt Ideal) ℓ) (g' : Dev Cert.OptConvWReferenceIdeal.nD → PrngReg), Pre_OptConvWKernelIdeal m →
    (∀ c : Dev Cert.OptConvWKernelIdeal.nD,
      m' ((c.tc : Thread Cert.OptConvWReferenceIdeal.nD Cert.OptConvWReferenceIdeal.τ).loc Cert.OptConvWReferenceIdeal.main_arg0) = m ((c.tc : Thread Cert.OptConvWKernelIdeal.nD Cert.OptConvWKernelIdeal.τ).loc Cert.OptConvWKernelIdeal.main_arg0)
      ∧ m' ((c.tc : Thread Cert.OptConvWReferenceIdeal.nD Cert.OptConvWReferenceIdeal.τ).loc Cert.OptConvWReferenceIdeal.main_arg1) = m ((c.tc : Thread Cert.OptConvWKernelIdeal.nD Cert.OptConvWKernelIdeal.τ).loc Cert.OptConvWKernelIdeal.main_arg1)
      ∧ m' ((c.tc : Thread Cert.OptConvWReferenceIdeal.nD Cert.OptConvWReferenceIdeal.τ).loc Cert.OptConvWReferenceIdeal.main_arg2) = m ((c.tc : Thread Cert.OptConvWKernelIdeal.nD Cert.OptConvWKernelIdeal.τ).loc Cert.OptConvWKernelIdeal.main_arg2)
      ∧ m' ((c.tc : Thread Cert.OptConvWReferenceIdeal.nD Cert.OptConvWReferenceIdeal.τ).loc Cert.OptConvWReferenceIdeal.main_arg3) = m ((c.tc : Thread Cert.OptConvWKernelIdeal.nD Cert.OptConvWKernelIdeal.τ).loc Cert.OptConvWKernelIdeal.main_arg3)) →
    ∃ (v0 : (c : Dev Cert.OptConvWKernelIdeal.nD) → Buf (Elt Ideal) ((c.tc : Thread Cert.OptConvWKernelIdeal.nD Cert.OptConvWKernelIdeal.τ).loc Cert.OptConvWKernelIdeal.main_v5_0)) (v1 : (c : Dev Cert.OptConvWKernelIdeal.nD) → Buf (Elt Ideal) ((c.tc : Thread Cert.OptConvWKernelIdeal.nD Cert.OptConvWKernelIdeal.τ).loc Cert.OptConvWKernelIdeal.main_v5_1)) (v2 : (c : Dev Cert.OptConvWKernelIdeal.nD) → Buf (Elt Ideal) ((c.tc : Thread Cert.OptConvWKernelIdeal.nD Cert.OptConvWKernelIdeal.τ).loc Cert.OptConvWKernelIdeal.main_v5_2)) (v3 : (c : Dev Cert.OptConvWKernelIdeal.nD) → Buf (Elt Ideal) ((c.tc : Thread Cert.OptConvWKernelIdeal.nD Cert.OptConvWKernelIdeal.τ).loc Cert.OptConvWKernelIdeal.main_v5_3)),
      θ_run (Cert.OptConvWKernelIdeal.defs (F := Ideal)) (onTc (τ := Cert.OptConvWKernelIdeal.τ) (Cert.OptConvWKernelIdeal.main (F := Ideal))) ⟨m, fun _ => 0, g⟩ (fun r => ∀ c : Dev Cert.OptConvWKernelIdeal.nD,
          r.2.mem ((c.tc : Thread Cert.OptConvWKernelIdeal.nD Cert.OptConvWKernelIdeal.τ).loc Cert.OptConvWKernelIdeal.main_v5_0) = v0 c
          ∧ r.2.mem ((c.tc : Thread Cert.OptConvWKernelIdeal.nD Cert.OptConvWKernelIdeal.τ).loc Cert.OptConvWKernelIdeal.main_v5_1) = v1 c
          ∧ r.2.mem ((c.tc : Thread Cert.OptConvWKernelIdeal.nD Cert.OptConvWKernelIdeal.τ).loc Cert.OptConvWKernelIdeal.main_v5_2) = v2 c
          ∧ r.2.mem ((c.tc : Thread Cert.OptConvWKernelIdeal.nD Cert.OptConvWKernelIdeal.τ).loc Cert.OptConvWKernelIdeal.main_v5_3) = v3 c
          ∧ r.2.mem ((c.tc : Thread Cert.OptConvWKernelIdeal.nD Cert.OptConvWKernelIdeal.τ).loc Cert.OptConvWKernelIdeal.main_arg0) = m ((c.tc : Thread Cert.OptConvWKernelIdeal.nD Cert.OptConvWKernelIdeal.τ).loc Cert.OptConvWKernelIdeal.main_arg0)
          ∧ r.2.mem ((c.tc : Thread Cert.OptConvWKernelIdeal.nD Cert.OptConvWKernelIdeal.τ).loc Cert.OptConvWKernelIdeal.main_arg1) = m ((c.tc : Thread Cert.OptConvWKernelIdeal.nD Cert.OptConvWKernelIdeal.τ).loc Cert.OptConvWKernelIdeal.main_arg1)
          ∧ r.2.mem ((c.tc : Thread Cert.OptConvWKernelIdeal.nD Cert.OptConvWKernelIdeal.τ).loc Cert.OptConvWKernelIdeal.main_arg2) = m ((c.tc : Thread Cert.OptConvWKernelIdeal.nD Cert.OptConvWKernelIdeal.τ).loc Cert.OptConvWKernelIdeal.main_arg2)
          ∧ r.2.mem ((c.tc : Thread Cert.OptConvWKernelIdeal.nD Cert.OptConvWKernelIdeal.τ).loc Cert.OptConvWKernelIdeal.main_arg3) = m ((c.tc : Thread Cert.OptConvWKernelIdeal.nD Cert.OptConvWKernelIdeal.τ).loc Cert.OptConvWKernelIdeal.main_arg3))
      ∧ θ_run (Cert.OptConvWReferenceIdeal.defs (F := Ideal)) (onTc (τ := Cert.OptConvWReferenceIdeal.τ) (Cert.OptConvWReferenceIdeal.main (F := Ideal))) ⟨m', fun _ => 0, g'⟩ (fun r => ∀ c : Dev Cert.OptConvWReferenceIdeal.nD,
          r.2.mem ((c.tc : Thread Cert.OptConvWReferenceIdeal.nD Cert.OptConvWReferenceIdeal.τ).loc Cert.OptConvWReferenceIdeal.main_v24) = v0 c
          ∧ r.2.mem ((c.tc : Thread Cert.OptConvWReferenceIdeal.nD Cert.OptConvWReferenceIdeal.τ).loc Cert.OptConvWReferenceIdeal.main_v25) = v1 c
          ∧ r.2.mem ((c.tc : Thread Cert.OptConvWReferenceIdeal.nD Cert.OptConvWReferenceIdeal.τ).loc Cert.OptConvWReferenceIdeal.main_v26) = v2 c
          ∧ r.2.mem ((c.tc : Thread Cert.OptConvWReferenceIdeal.nD Cert.OptConvWReferenceIdeal.τ).loc Cert.OptConvWReferenceIdeal.main_v27) = v3 c
          ∧ r.2.mem ((c.tc : Thread Cert.OptConvWReferenceIdeal.nD Cert.OptConvWReferenceIdeal.τ).loc Cert.OptConvWReferenceIdeal.main_arg0) = m' ((c.tc : Thread Cert.OptConvWReferenceIdeal.nD Cert.OptConvWReferenceIdeal.τ).loc Cert.OptConvWReferenceIdeal.main_arg0)
          ∧ r.2.mem ((c.tc : Thread Cert.OptConvWReferenceIdeal.nD Cert.OptConvWReferenceIdeal.τ).loc Cert.OptConvWReferenceIdeal.main_arg1) = m' ((c.tc : Thread Cert.OptConvWReferenceIdeal.nD Cert.OptConvWReferenceIdeal.τ).loc Cert.OptConvWReferenceIdeal.main_arg1)
          ∧ r.2.mem ((c.tc : Thread Cert.OptConvWReferenceIdeal.nD Cert.OptConvWReferenceIdeal.τ).loc Cert.OptConvWReferenceIdeal.main_arg2) = m' ((c.tc : Thread Cert.OptConvWReferenceIdeal.nD Cert.OptConvWReferenceIdeal.τ).loc Cert.OptConvWReferenceIdeal.main_arg2)
          ∧ r.2.mem ((c.tc : Thread Cert.OptConvWReferenceIdeal.nD Cert.OptConvWReferenceIdeal.τ).loc Cert.OptConvWReferenceIdeal.main_arg3) = m' ((c.tc : Thread Cert.OptConvWReferenceIdeal.nD Cert.OptConvWReferenceIdeal.τ).loc Cert.OptConvWReferenceIdeal.main_arg3))

def preserves_OptConvBKernel_OptConvBKernelIdeal : Prop :=
  True

def algebraic_OptConvBKernelIdeal_OptConvBReferenceIdeal [hOptConvBKernelIdeal : Cert.OptConvBKernelIdeal.Facts] [hOptConvBReferenceIdeal : Cert.OptConvBReferenceIdeal.Facts] : Prop :=
  ∀ (m : (ℓ : Loc Cert.OptConvBKernelIdeal.nD Cert.OptConvBKernelIdeal.τ Cert.OptConvBKernelIdeal.sig) → Buf (Elt Ideal) ℓ) (g : Dev Cert.OptConvBKernelIdeal.nD → PrngReg)
    (m' : (ℓ : Loc Cert.OptConvBReferenceIdeal.nD Cert.OptConvBReferenceIdeal.τ Cert.OptConvBReferenceIdeal.sig) → Buf (Elt Ideal) ℓ) (g' : Dev Cert.OptConvBReferenceIdeal.nD → PrngReg), Pre_OptConvBKernelIdeal m →
    (∀ c : Dev Cert.OptConvBKernelIdeal.nD,
      m' ((c.tc : Thread Cert.OptConvBReferenceIdeal.nD Cert.OptConvBReferenceIdeal.τ).loc Cert.OptConvBReferenceIdeal.main_arg0) = m ((c.tc : Thread Cert.OptConvBKernelIdeal.nD Cert.OptConvBKernelIdeal.τ).loc Cert.OptConvBKernelIdeal.main_arg0)
      ∧ m' ((c.tc : Thread Cert.OptConvBReferenceIdeal.nD Cert.OptConvBReferenceIdeal.τ).loc Cert.OptConvBReferenceIdeal.main_arg1) = m ((c.tc : Thread Cert.OptConvBKernelIdeal.nD Cert.OptConvBKernelIdeal.τ).loc Cert.OptConvBKernelIdeal.main_arg1)
      ∧ m' ((c.tc : Thread Cert.OptConvBReferenceIdeal.nD Cert.OptConvBReferenceIdeal.τ).loc Cert.OptConvBReferenceIdeal.main_arg2) = m ((c.tc : Thread Cert.OptConvBKernelIdeal.nD Cert.OptConvBKernelIdeal.τ).loc Cert.OptConvBKernelIdeal.main_arg2)
      ∧ m' ((c.tc : Thread Cert.OptConvBReferenceIdeal.nD Cert.OptConvBReferenceIdeal.τ).loc Cert.OptConvBReferenceIdeal.main_arg3) = m ((c.tc : Thread Cert.OptConvBKernelIdeal.nD Cert.OptConvBKernelIdeal.τ).loc Cert.OptConvBKernelIdeal.main_arg3)) →
    ∃ (v0 : (c : Dev Cert.OptConvBKernelIdeal.nD) → Buf (Elt Ideal) ((c.tc : Thread Cert.OptConvBKernelIdeal.nD Cert.OptConvBKernelIdeal.τ).loc Cert.OptConvBKernelIdeal.main_v1_0)) (v1 : (c : Dev Cert.OptConvBKernelIdeal.nD) → Buf (Elt Ideal) ((c.tc : Thread Cert.OptConvBKernelIdeal.nD Cert.OptConvBKernelIdeal.τ).loc Cert.OptConvBKernelIdeal.main_v1_1)) (v2 : (c : Dev Cert.OptConvBKernelIdeal.nD) → Buf (Elt Ideal) ((c.tc : Thread Cert.OptConvBKernelIdeal.nD Cert.OptConvBKernelIdeal.τ).loc Cert.OptConvBKernelIdeal.main_v1_2)) (v3 : (c : Dev Cert.OptConvBKernelIdeal.nD) → Buf (Elt Ideal) ((c.tc : Thread Cert.OptConvBKernelIdeal.nD Cert.OptConvBKernelIdeal.τ).loc Cert.OptConvBKernelIdeal.main_v1_3)),
      θ_run (Cert.OptConvBKernelIdeal.defs (F := Ideal)) (onTc (τ := Cert.OptConvBKernelIdeal.τ) (Cert.OptConvBKernelIdeal.main (F := Ideal))) ⟨m, fun _ => 0, g⟩ (fun r => ∀ c : Dev Cert.OptConvBKernelIdeal.nD,
          r.2.mem ((c.tc : Thread Cert.OptConvBKernelIdeal.nD Cert.OptConvBKernelIdeal.τ).loc Cert.OptConvBKernelIdeal.main_v1_0) = v0 c
          ∧ r.2.mem ((c.tc : Thread Cert.OptConvBKernelIdeal.nD Cert.OptConvBKernelIdeal.τ).loc Cert.OptConvBKernelIdeal.main_v1_1) = v1 c
          ∧ r.2.mem ((c.tc : Thread Cert.OptConvBKernelIdeal.nD Cert.OptConvBKernelIdeal.τ).loc Cert.OptConvBKernelIdeal.main_v1_2) = v2 c
          ∧ r.2.mem ((c.tc : Thread Cert.OptConvBKernelIdeal.nD Cert.OptConvBKernelIdeal.τ).loc Cert.OptConvBKernelIdeal.main_v1_3) = v3 c
          ∧ r.2.mem ((c.tc : Thread Cert.OptConvBKernelIdeal.nD Cert.OptConvBKernelIdeal.τ).loc Cert.OptConvBKernelIdeal.main_arg0) = m ((c.tc : Thread Cert.OptConvBKernelIdeal.nD Cert.OptConvBKernelIdeal.τ).loc Cert.OptConvBKernelIdeal.main_arg0)
          ∧ r.2.mem ((c.tc : Thread Cert.OptConvBKernelIdeal.nD Cert.OptConvBKernelIdeal.τ).loc Cert.OptConvBKernelIdeal.main_arg1) = m ((c.tc : Thread Cert.OptConvBKernelIdeal.nD Cert.OptConvBKernelIdeal.τ).loc Cert.OptConvBKernelIdeal.main_arg1)
          ∧ r.2.mem ((c.tc : Thread Cert.OptConvBKernelIdeal.nD Cert.OptConvBKernelIdeal.τ).loc Cert.OptConvBKernelIdeal.main_arg2) = m ((c.tc : Thread Cert.OptConvBKernelIdeal.nD Cert.OptConvBKernelIdeal.τ).loc Cert.OptConvBKernelIdeal.main_arg2)
          ∧ r.2.mem ((c.tc : Thread Cert.OptConvBKernelIdeal.nD Cert.OptConvBKernelIdeal.τ).loc Cert.OptConvBKernelIdeal.main_arg3) = m ((c.tc : Thread Cert.OptConvBKernelIdeal.nD Cert.OptConvBKernelIdeal.τ).loc Cert.OptConvBKernelIdeal.main_arg3))
      ∧ θ_run (Cert.OptConvBReferenceIdeal.defs (F := Ideal)) (onTc (τ := Cert.OptConvBReferenceIdeal.τ) (Cert.OptConvBReferenceIdeal.main (F := Ideal))) ⟨m', fun _ => 0, g'⟩ (fun r => ∀ c : Dev Cert.OptConvBReferenceIdeal.nD,
          r.2.mem ((c.tc : Thread Cert.OptConvBReferenceIdeal.nD Cert.OptConvBReferenceIdeal.τ).loc Cert.OptConvBReferenceIdeal.main_arg1) = v0 c
          ∧ r.2.mem ((c.tc : Thread Cert.OptConvBReferenceIdeal.nD Cert.OptConvBReferenceIdeal.τ).loc Cert.OptConvBReferenceIdeal.main_v23) = v1 c
          ∧ r.2.mem ((c.tc : Thread Cert.OptConvBReferenceIdeal.nD Cert.OptConvBReferenceIdeal.τ).loc Cert.OptConvBReferenceIdeal.main_v4) = v2 c
          ∧ r.2.mem ((c.tc : Thread Cert.OptConvBReferenceIdeal.nD Cert.OptConvBReferenceIdeal.τ).loc Cert.OptConvBReferenceIdeal.main_v10) = v3 c
          ∧ r.2.mem ((c.tc : Thread Cert.OptConvBReferenceIdeal.nD Cert.OptConvBReferenceIdeal.τ).loc Cert.OptConvBReferenceIdeal.main_arg0) = m' ((c.tc : Thread Cert.OptConvBReferenceIdeal.nD Cert.OptConvBReferenceIdeal.τ).loc Cert.OptConvBReferenceIdeal.main_arg0)
          ∧ r.2.mem ((c.tc : Thread Cert.OptConvBReferenceIdeal.nD Cert.OptConvBReferenceIdeal.τ).loc Cert.OptConvBReferenceIdeal.main_arg1) = m' ((c.tc : Thread Cert.OptConvBReferenceIdeal.nD Cert.OptConvBReferenceIdeal.τ).loc Cert.OptConvBReferenceIdeal.main_arg1)
          ∧ r.2.mem ((c.tc : Thread Cert.OptConvBReferenceIdeal.nD Cert.OptConvBReferenceIdeal.τ).loc Cert.OptConvBReferenceIdeal.main_arg2) = m' ((c.tc : Thread Cert.OptConvBReferenceIdeal.nD Cert.OptConvBReferenceIdeal.τ).loc Cert.OptConvBReferenceIdeal.main_arg2)
          ∧ r.2.mem ((c.tc : Thread Cert.OptConvBReferenceIdeal.nD Cert.OptConvBReferenceIdeal.τ).loc Cert.OptConvBReferenceIdeal.main_arg3) = m' ((c.tc : Thread Cert.OptConvBReferenceIdeal.nD Cert.OptConvBReferenceIdeal.τ).loc Cert.OptConvBReferenceIdeal.main_arg3))

def preserves_OptDtKernel_OptDtKernelIdeal : Prop :=
  True

def algebraic_OptDtKernelIdeal_OptDtReferenceIdeal [hOptDtKernelIdeal : Cert.OptDtKernelIdeal.Facts] [hOptDtReferenceIdeal : Cert.OptDtReferenceIdeal.Facts] : Prop :=
  ∀ (m : (ℓ : Loc Cert.OptDtKernelIdeal.nD Cert.OptDtKernelIdeal.τ Cert.OptDtKernelIdeal.sig) → Buf (Elt Ideal) ℓ) (g : Dev Cert.OptDtKernelIdeal.nD → PrngReg)
    (m' : (ℓ : Loc Cert.OptDtReferenceIdeal.nD Cert.OptDtReferenceIdeal.τ Cert.OptDtReferenceIdeal.sig) → Buf (Elt Ideal) ℓ) (g' : Dev Cert.OptDtReferenceIdeal.nD → PrngReg), Pre_OptDtKernelIdeal m →
    (∀ c : Dev Cert.OptDtKernelIdeal.nD,
      m' ((c.tc : Thread Cert.OptDtReferenceIdeal.nD Cert.OptDtReferenceIdeal.τ).loc Cert.OptDtReferenceIdeal.main_arg0) = m ((c.tc : Thread Cert.OptDtKernelIdeal.nD Cert.OptDtKernelIdeal.τ).loc Cert.OptDtKernelIdeal.main_arg0)
      ∧ m' ((c.tc : Thread Cert.OptDtReferenceIdeal.nD Cert.OptDtReferenceIdeal.τ).loc Cert.OptDtReferenceIdeal.main_arg1) = m ((c.tc : Thread Cert.OptDtKernelIdeal.nD Cert.OptDtKernelIdeal.τ).loc Cert.OptDtKernelIdeal.main_arg1)
      ∧ m' ((c.tc : Thread Cert.OptDtReferenceIdeal.nD Cert.OptDtReferenceIdeal.τ).loc Cert.OptDtReferenceIdeal.main_arg2) = m ((c.tc : Thread Cert.OptDtKernelIdeal.nD Cert.OptDtKernelIdeal.τ).loc Cert.OptDtKernelIdeal.main_arg2)
      ∧ m' ((c.tc : Thread Cert.OptDtReferenceIdeal.nD Cert.OptDtReferenceIdeal.τ).loc Cert.OptDtReferenceIdeal.main_arg3) = m ((c.tc : Thread Cert.OptDtKernelIdeal.nD Cert.OptDtKernelIdeal.τ).loc Cert.OptDtKernelIdeal.main_arg3)) →
    ∃ (v0 : (c : Dev Cert.OptDtKernelIdeal.nD) → Buf (Elt Ideal) ((c.tc : Thread Cert.OptDtKernelIdeal.nD Cert.OptDtKernelIdeal.τ).loc Cert.OptDtKernelIdeal.main_v1_0)) (v1 : (c : Dev Cert.OptDtKernelIdeal.nD) → Buf (Elt Ideal) ((c.tc : Thread Cert.OptDtKernelIdeal.nD Cert.OptDtKernelIdeal.τ).loc Cert.OptDtKernelIdeal.main_v1_1)) (v2 : (c : Dev Cert.OptDtKernelIdeal.nD) → Buf (Elt Ideal) ((c.tc : Thread Cert.OptDtKernelIdeal.nD Cert.OptDtKernelIdeal.τ).loc Cert.OptDtKernelIdeal.main_v1_2)) (v3 : (c : Dev Cert.OptDtKernelIdeal.nD) → Buf (Elt Ideal) ((c.tc : Thread Cert.OptDtKernelIdeal.nD Cert.OptDtKernelIdeal.τ).loc Cert.OptDtKernelIdeal.main_v1_3)),
      θ_run (Cert.OptDtKernelIdeal.defs (F := Ideal)) (onTc (τ := Cert.OptDtKernelIdeal.τ) (Cert.OptDtKernelIdeal.main (F := Ideal))) ⟨m, fun _ => 0, g⟩ (fun r => ∀ c : Dev Cert.OptDtKernelIdeal.nD,
          r.2.mem ((c.tc : Thread Cert.OptDtKernelIdeal.nD Cert.OptDtKernelIdeal.τ).loc Cert.OptDtKernelIdeal.main_v1_0) = v0 c
          ∧ r.2.mem ((c.tc : Thread Cert.OptDtKernelIdeal.nD Cert.OptDtKernelIdeal.τ).loc Cert.OptDtKernelIdeal.main_v1_1) = v1 c
          ∧ r.2.mem ((c.tc : Thread Cert.OptDtKernelIdeal.nD Cert.OptDtKernelIdeal.τ).loc Cert.OptDtKernelIdeal.main_v1_2) = v2 c
          ∧ r.2.mem ((c.tc : Thread Cert.OptDtKernelIdeal.nD Cert.OptDtKernelIdeal.τ).loc Cert.OptDtKernelIdeal.main_v1_3) = v3 c
          ∧ r.2.mem ((c.tc : Thread Cert.OptDtKernelIdeal.nD Cert.OptDtKernelIdeal.τ).loc Cert.OptDtKernelIdeal.main_arg0) = m ((c.tc : Thread Cert.OptDtKernelIdeal.nD Cert.OptDtKernelIdeal.τ).loc Cert.OptDtKernelIdeal.main_arg0)
          ∧ r.2.mem ((c.tc : Thread Cert.OptDtKernelIdeal.nD Cert.OptDtKernelIdeal.τ).loc Cert.OptDtKernelIdeal.main_arg1) = m ((c.tc : Thread Cert.OptDtKernelIdeal.nD Cert.OptDtKernelIdeal.τ).loc Cert.OptDtKernelIdeal.main_arg1)
          ∧ r.2.mem ((c.tc : Thread Cert.OptDtKernelIdeal.nD Cert.OptDtKernelIdeal.τ).loc Cert.OptDtKernelIdeal.main_arg2) = m ((c.tc : Thread Cert.OptDtKernelIdeal.nD Cert.OptDtKernelIdeal.τ).loc Cert.OptDtKernelIdeal.main_arg2)
          ∧ r.2.mem ((c.tc : Thread Cert.OptDtKernelIdeal.nD Cert.OptDtKernelIdeal.τ).loc Cert.OptDtKernelIdeal.main_arg3) = m ((c.tc : Thread Cert.OptDtKernelIdeal.nD Cert.OptDtKernelIdeal.τ).loc Cert.OptDtKernelIdeal.main_arg3))
      ∧ θ_run (Cert.OptDtReferenceIdeal.defs (F := Ideal)) (onTc (τ := Cert.OptDtReferenceIdeal.τ) (Cert.OptDtReferenceIdeal.main (F := Ideal))) ⟨m', fun _ => 0, g'⟩ (fun r => ∀ c : Dev Cert.OptDtReferenceIdeal.nD,
          r.2.mem ((c.tc : Thread Cert.OptDtReferenceIdeal.nD Cert.OptDtReferenceIdeal.τ).loc Cert.OptDtReferenceIdeal.main_arg1) = v0 c
          ∧ r.2.mem ((c.tc : Thread Cert.OptDtReferenceIdeal.nD Cert.OptDtReferenceIdeal.τ).loc Cert.OptDtReferenceIdeal.main_v23) = v1 c
          ∧ r.2.mem ((c.tc : Thread Cert.OptDtReferenceIdeal.nD Cert.OptDtReferenceIdeal.τ).loc Cert.OptDtReferenceIdeal.main_v4) = v2 c
          ∧ r.2.mem ((c.tc : Thread Cert.OptDtReferenceIdeal.nD Cert.OptDtReferenceIdeal.τ).loc Cert.OptDtReferenceIdeal.main_v10) = v3 c
          ∧ r.2.mem ((c.tc : Thread Cert.OptDtReferenceIdeal.nD Cert.OptDtReferenceIdeal.τ).loc Cert.OptDtReferenceIdeal.main_arg0) = m' ((c.tc : Thread Cert.OptDtReferenceIdeal.nD Cert.OptDtReferenceIdeal.τ).loc Cert.OptDtReferenceIdeal.main_arg0)
          ∧ r.2.mem ((c.tc : Thread Cert.OptDtReferenceIdeal.nD Cert.OptDtReferenceIdeal.τ).loc Cert.OptDtReferenceIdeal.main_arg1) = m' ((c.tc : Thread Cert.OptDtReferenceIdeal.nD Cert.OptDtReferenceIdeal.τ).loc Cert.OptDtReferenceIdeal.main_arg1)
          ∧ r.2.mem ((c.tc : Thread Cert.OptDtReferenceIdeal.nD Cert.OptDtReferenceIdeal.τ).loc Cert.OptDtReferenceIdeal.main_arg2) = m' ((c.tc : Thread Cert.OptDtReferenceIdeal.nD Cert.OptDtReferenceIdeal.τ).loc Cert.OptDtReferenceIdeal.main_arg2)
          ∧ r.2.mem ((c.tc : Thread Cert.OptDtReferenceIdeal.nD Cert.OptDtReferenceIdeal.τ).loc Cert.OptDtReferenceIdeal.main_arg3) = m' ((c.tc : Thread Cert.OptDtReferenceIdeal.nD Cert.OptDtReferenceIdeal.τ).loc Cert.OptDtReferenceIdeal.main_arg3))

def preserves_OptSsdNormKernel_OptSsdNormKernelIdeal : Prop :=
  True

def algebraic_OptSsdNormKernelIdeal_OptSsdNormReferenceIdeal [hOptSsdNormKernelIdeal : Cert.OptSsdNormKernelIdeal.Facts] [hOptSsdNormReferenceIdeal : Cert.OptSsdNormReferenceIdeal.Facts] : Prop :=
  ∀ (m : (ℓ : Loc Cert.OptSsdNormKernelIdeal.nD Cert.OptSsdNormKernelIdeal.τ Cert.OptSsdNormKernelIdeal.sig) → Buf (Elt Ideal) ℓ) (g : Dev Cert.OptSsdNormKernelIdeal.nD → PrngReg)
    (m' : (ℓ : Loc Cert.OptSsdNormReferenceIdeal.nD Cert.OptSsdNormReferenceIdeal.τ Cert.OptSsdNormReferenceIdeal.sig) → Buf (Elt Ideal) ℓ) (g' : Dev Cert.OptSsdNormReferenceIdeal.nD → PrngReg), Pre_OptSsdNormKernelIdeal m →
    (∀ c : Dev Cert.OptSsdNormKernelIdeal.nD,
      m' ((c.tc : Thread Cert.OptSsdNormReferenceIdeal.nD Cert.OptSsdNormReferenceIdeal.τ).loc Cert.OptSsdNormReferenceIdeal.main_arg0) = m ((c.tc : Thread Cert.OptSsdNormKernelIdeal.nD Cert.OptSsdNormKernelIdeal.τ).loc Cert.OptSsdNormKernelIdeal.main_arg0)
      ∧ m' ((c.tc : Thread Cert.OptSsdNormReferenceIdeal.nD Cert.OptSsdNormReferenceIdeal.τ).loc Cert.OptSsdNormReferenceIdeal.main_arg1) = m ((c.tc : Thread Cert.OptSsdNormKernelIdeal.nD Cert.OptSsdNormKernelIdeal.τ).loc Cert.OptSsdNormKernelIdeal.main_arg1)
      ∧ m' ((c.tc : Thread Cert.OptSsdNormReferenceIdeal.nD Cert.OptSsdNormReferenceIdeal.τ).loc Cert.OptSsdNormReferenceIdeal.main_arg2) = m ((c.tc : Thread Cert.OptSsdNormKernelIdeal.nD Cert.OptSsdNormKernelIdeal.τ).loc Cert.OptSsdNormKernelIdeal.main_arg2)
      ∧ m' ((c.tc : Thread Cert.OptSsdNormReferenceIdeal.nD Cert.OptSsdNormReferenceIdeal.τ).loc Cert.OptSsdNormReferenceIdeal.main_arg3) = m ((c.tc : Thread Cert.OptSsdNormKernelIdeal.nD Cert.OptSsdNormKernelIdeal.τ).loc Cert.OptSsdNormKernelIdeal.main_arg3)) →
    ∃ (v0 : (c : Dev Cert.OptSsdNormKernelIdeal.nD) → Buf (Elt Ideal) ((c.tc : Thread Cert.OptSsdNormKernelIdeal.nD Cert.OptSsdNormKernelIdeal.τ).loc Cert.OptSsdNormKernelIdeal.main_v1_0)) (v1 : (c : Dev Cert.OptSsdNormKernelIdeal.nD) → Buf (Elt Ideal) ((c.tc : Thread Cert.OptSsdNormKernelIdeal.nD Cert.OptSsdNormKernelIdeal.τ).loc Cert.OptSsdNormKernelIdeal.main_v1_1)) (v2 : (c : Dev Cert.OptSsdNormKernelIdeal.nD) → Buf (Elt Ideal) ((c.tc : Thread Cert.OptSsdNormKernelIdeal.nD Cert.OptSsdNormKernelIdeal.τ).loc Cert.OptSsdNormKernelIdeal.main_v1_2)) (v3 : (c : Dev Cert.OptSsdNormKernelIdeal.nD) → Buf (Elt Ideal) ((c.tc : Thread Cert.OptSsdNormKernelIdeal.nD Cert.OptSsdNormKernelIdeal.τ).loc Cert.OptSsdNormKernelIdeal.main_v1_3)),
      θ_run (Cert.OptSsdNormKernelIdeal.defs (F := Ideal)) (onTc (τ := Cert.OptSsdNormKernelIdeal.τ) (Cert.OptSsdNormKernelIdeal.main (F := Ideal))) ⟨m, fun _ => 0, g⟩ (fun r => ∀ c : Dev Cert.OptSsdNormKernelIdeal.nD,
          r.2.mem ((c.tc : Thread Cert.OptSsdNormKernelIdeal.nD Cert.OptSsdNormKernelIdeal.τ).loc Cert.OptSsdNormKernelIdeal.main_v1_0) = v0 c
          ∧ r.2.mem ((c.tc : Thread Cert.OptSsdNormKernelIdeal.nD Cert.OptSsdNormKernelIdeal.τ).loc Cert.OptSsdNormKernelIdeal.main_v1_1) = v1 c
          ∧ r.2.mem ((c.tc : Thread Cert.OptSsdNormKernelIdeal.nD Cert.OptSsdNormKernelIdeal.τ).loc Cert.OptSsdNormKernelIdeal.main_v1_2) = v2 c
          ∧ r.2.mem ((c.tc : Thread Cert.OptSsdNormKernelIdeal.nD Cert.OptSsdNormKernelIdeal.τ).loc Cert.OptSsdNormKernelIdeal.main_v1_3) = v3 c
          ∧ r.2.mem ((c.tc : Thread Cert.OptSsdNormKernelIdeal.nD Cert.OptSsdNormKernelIdeal.τ).loc Cert.OptSsdNormKernelIdeal.main_arg0) = m ((c.tc : Thread Cert.OptSsdNormKernelIdeal.nD Cert.OptSsdNormKernelIdeal.τ).loc Cert.OptSsdNormKernelIdeal.main_arg0)
          ∧ r.2.mem ((c.tc : Thread Cert.OptSsdNormKernelIdeal.nD Cert.OptSsdNormKernelIdeal.τ).loc Cert.OptSsdNormKernelIdeal.main_arg1) = m ((c.tc : Thread Cert.OptSsdNormKernelIdeal.nD Cert.OptSsdNormKernelIdeal.τ).loc Cert.OptSsdNormKernelIdeal.main_arg1)
          ∧ r.2.mem ((c.tc : Thread Cert.OptSsdNormKernelIdeal.nD Cert.OptSsdNormKernelIdeal.τ).loc Cert.OptSsdNormKernelIdeal.main_arg2) = m ((c.tc : Thread Cert.OptSsdNormKernelIdeal.nD Cert.OptSsdNormKernelIdeal.τ).loc Cert.OptSsdNormKernelIdeal.main_arg2)
          ∧ r.2.mem ((c.tc : Thread Cert.OptSsdNormKernelIdeal.nD Cert.OptSsdNormKernelIdeal.τ).loc Cert.OptSsdNormKernelIdeal.main_arg3) = m ((c.tc : Thread Cert.OptSsdNormKernelIdeal.nD Cert.OptSsdNormKernelIdeal.τ).loc Cert.OptSsdNormKernelIdeal.main_arg3))
      ∧ θ_run (Cert.OptSsdNormReferenceIdeal.defs (F := Ideal)) (onTc (τ := Cert.OptSsdNormReferenceIdeal.τ) (Cert.OptSsdNormReferenceIdeal.main (F := Ideal))) ⟨m', fun _ => 0, g'⟩ (fun r => ∀ c : Dev Cert.OptSsdNormReferenceIdeal.nD,
          r.2.mem ((c.tc : Thread Cert.OptSsdNormReferenceIdeal.nD Cert.OptSsdNormReferenceIdeal.τ).loc Cert.OptSsdNormReferenceIdeal.main_arg1) = v0 c
          ∧ r.2.mem ((c.tc : Thread Cert.OptSsdNormReferenceIdeal.nD Cert.OptSsdNormReferenceIdeal.τ).loc Cert.OptSsdNormReferenceIdeal.main_v23) = v1 c
          ∧ r.2.mem ((c.tc : Thread Cert.OptSsdNormReferenceIdeal.nD Cert.OptSsdNormReferenceIdeal.τ).loc Cert.OptSsdNormReferenceIdeal.main_v4) = v2 c
          ∧ r.2.mem ((c.tc : Thread Cert.OptSsdNormReferenceIdeal.nD Cert.OptSsdNormReferenceIdeal.τ).loc Cert.OptSsdNormReferenceIdeal.main_v10) = v3 c
          ∧ r.2.mem ((c.tc : Thread Cert.OptSsdNormReferenceIdeal.nD Cert.OptSsdNormReferenceIdeal.τ).loc Cert.OptSsdNormReferenceIdeal.main_arg0) = m' ((c.tc : Thread Cert.OptSsdNormReferenceIdeal.nD Cert.OptSsdNormReferenceIdeal.τ).loc Cert.OptSsdNormReferenceIdeal.main_arg0)
          ∧ r.2.mem ((c.tc : Thread Cert.OptSsdNormReferenceIdeal.nD Cert.OptSsdNormReferenceIdeal.τ).loc Cert.OptSsdNormReferenceIdeal.main_arg1) = m' ((c.tc : Thread Cert.OptSsdNormReferenceIdeal.nD Cert.OptSsdNormReferenceIdeal.τ).loc Cert.OptSsdNormReferenceIdeal.main_arg1)
          ∧ r.2.mem ((c.tc : Thread Cert.OptSsdNormReferenceIdeal.nD Cert.OptSsdNormReferenceIdeal.τ).loc Cert.OptSsdNormReferenceIdeal.main_arg2) = m' ((c.tc : Thread Cert.OptSsdNormReferenceIdeal.nD Cert.OptSsdNormReferenceIdeal.τ).loc Cert.OptSsdNormReferenceIdeal.main_arg2)
          ∧ r.2.mem ((c.tc : Thread Cert.OptSsdNormReferenceIdeal.nD Cert.OptSsdNormReferenceIdeal.τ).loc Cert.OptSsdNormReferenceIdeal.main_arg3) = m' ((c.tc : Thread Cert.OptSsdNormReferenceIdeal.nD Cert.OptSsdNormReferenceIdeal.τ).loc Cert.OptSsdNormReferenceIdeal.main_arg3))

def preserves_SumSmallKernel_SumSmallKernelIdeal : Prop :=
  True

def algebraic_SumSmallKernelIdeal_SumSmallReferenceIdeal [hSumSmallKernelIdeal : Cert.SumSmallKernelIdeal.Facts] [hSumSmallReferenceIdeal : Cert.SumSmallReferenceIdeal.Facts] : Prop :=
  ∀ (m : (ℓ : Loc Cert.SumSmallKernelIdeal.nD Cert.SumSmallKernelIdeal.τ Cert.SumSmallKernelIdeal.sig) → Buf (Elt Ideal) ℓ) (g : Dev Cert.SumSmallKernelIdeal.nD → PrngReg)
    (m' : (ℓ : Loc Cert.SumSmallReferenceIdeal.nD Cert.SumSmallReferenceIdeal.τ Cert.SumSmallReferenceIdeal.sig) → Buf (Elt Ideal) ℓ) (g' : Dev Cert.SumSmallReferenceIdeal.nD → PrngReg), Pre_SumSmallKernelIdeal m →
    (∀ c : Dev Cert.SumSmallKernelIdeal.nD,
      m' ((c.tc : Thread Cert.SumSmallReferenceIdeal.nD Cert.SumSmallReferenceIdeal.τ).loc Cert.SumSmallReferenceIdeal.main_arg0) = m ((c.tc : Thread Cert.SumSmallKernelIdeal.nD Cert.SumSmallKernelIdeal.τ).loc Cert.SumSmallKernelIdeal.main_arg0)) →
    ∃ (v0 : (c : Dev Cert.SumSmallKernelIdeal.nD) → Buf (Elt Ideal) ((c.tc : Thread Cert.SumSmallKernelIdeal.nD Cert.SumSmallKernelIdeal.τ).loc Cert.SumSmallKernelIdeal.main_v0)),
      θ_run (Cert.SumSmallKernelIdeal.defs (F := Ideal)) (onTc (τ := Cert.SumSmallKernelIdeal.τ) (Cert.SumSmallKernelIdeal.main (F := Ideal))) ⟨m, fun _ => 0, g⟩ (fun r => ∀ c : Dev Cert.SumSmallKernelIdeal.nD,
          r.2.mem ((c.tc : Thread Cert.SumSmallKernelIdeal.nD Cert.SumSmallKernelIdeal.τ).loc Cert.SumSmallKernelIdeal.main_v0) = v0 c
          ∧ r.2.mem ((c.tc : Thread Cert.SumSmallKernelIdeal.nD Cert.SumSmallKernelIdeal.τ).loc Cert.SumSmallKernelIdeal.main_arg0) = m ((c.tc : Thread Cert.SumSmallKernelIdeal.nD Cert.SumSmallKernelIdeal.τ).loc Cert.SumSmallKernelIdeal.main_arg0))
      ∧ θ_run (Cert.SumSmallReferenceIdeal.defs (F := Ideal)) (onTc (τ := Cert.SumSmallReferenceIdeal.τ) (Cert.SumSmallReferenceIdeal.main (F := Ideal))) ⟨m', fun _ => 0, g'⟩ (fun r => ∀ c : Dev Cert.SumSmallReferenceIdeal.nD,
          r.2.mem ((c.tc : Thread Cert.SumSmallReferenceIdeal.nD Cert.SumSmallReferenceIdeal.τ).loc Cert.SumSmallReferenceIdeal.main_v0) = v0 c
          ∧ r.2.mem ((c.tc : Thread Cert.SumSmallReferenceIdeal.nD Cert.SumSmallReferenceIdeal.τ).loc Cert.SumSmallReferenceIdeal.main_arg0) = m' ((c.tc : Thread Cert.SumSmallReferenceIdeal.nD Cert.SumSmallReferenceIdeal.τ).loc Cert.SumSmallReferenceIdeal.main_arg0))

def preserves_LossHeadKernel_LossHeadKernelIdeal : Prop :=
  True

def algebraic_LossHeadKernelIdeal_LossHeadReferenceIdeal [hLossHeadKernelIdeal : Cert.LossHeadKernelIdeal.Facts] [hLossHeadReferenceIdeal : Cert.LossHeadReferenceIdeal.Facts] : Prop :=
  ∀ (m : (ℓ : Loc Cert.LossHeadKernelIdeal.nD Cert.LossHeadKernelIdeal.τ Cert.LossHeadKernelIdeal.sig) → Buf (Elt Ideal) ℓ) (g : Dev Cert.LossHeadKernelIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadKernelIdeal m →
    (∀ c : Dev Cert.LossHeadKernelIdeal.nD,
      m' ((c.tc : Thread Cert.LossHeadReferenceIdeal.nD Cert.LossHeadReferenceIdeal.τ).loc Cert.LossHeadReferenceIdeal.main_arg0) = m ((c.tc : Thread Cert.LossHeadKernelIdeal.nD Cert.LossHeadKernelIdeal.τ).loc Cert.LossHeadKernelIdeal.main_arg0)
      ∧ m' ((c.tc : Thread Cert.LossHeadReferenceIdeal.nD Cert.LossHeadReferenceIdeal.τ).loc Cert.LossHeadReferenceIdeal.main_arg1) = m ((c.tc : Thread Cert.LossHeadKernelIdeal.nD Cert.LossHeadKernelIdeal.τ).loc Cert.LossHeadKernelIdeal.main_arg1)) →
    ∃ (v0 : (c : Dev Cert.LossHeadKernelIdeal.nD) → Buf (Elt Ideal) ((c.tc : Thread Cert.LossHeadKernelIdeal.nD Cert.LossHeadKernelIdeal.τ).loc Cert.LossHeadKernelIdeal.main_v0_0)) (v1 : (c : Dev Cert.LossHeadKernelIdeal.nD) → Buf (Elt Ideal) ((c.tc : Thread Cert.LossHeadKernelIdeal.nD Cert.LossHeadKernelIdeal.τ).loc Cert.LossHeadKernelIdeal.main_v0_1)),
      θ_run (Cert.LossHeadKernelIdeal.defs (F := Ideal)) (onTc (τ := Cert.LossHeadKernelIdeal.τ) (Cert.LossHeadKernelIdeal.main (F := Ideal))) ⟨m, fun _ => 0, g⟩ (fun r => ∀ c : Dev Cert.LossHeadKernelIdeal.nD,
          r.2.mem ((c.tc : Thread Cert.LossHeadKernelIdeal.nD Cert.LossHeadKernelIdeal.τ).loc Cert.LossHeadKernelIdeal.main_v0_0) = v0 c
          ∧ r.2.mem ((c.tc : Thread Cert.LossHeadKernelIdeal.nD Cert.LossHeadKernelIdeal.τ).loc Cert.LossHeadKernelIdeal.main_v0_1) = v1 c
          ∧ r.2.mem ((c.tc : Thread Cert.LossHeadKernelIdeal.nD Cert.LossHeadKernelIdeal.τ).loc Cert.LossHeadKernelIdeal.main_arg0) = m ((c.tc : Thread Cert.LossHeadKernelIdeal.nD Cert.LossHeadKernelIdeal.τ).loc Cert.LossHeadKernelIdeal.main_arg0)
          ∧ r.2.mem ((c.tc : Thread Cert.LossHeadKernelIdeal.nD Cert.LossHeadKernelIdeal.τ).loc Cert.LossHeadKernelIdeal.main_arg1) = m ((c.tc : Thread Cert.LossHeadKernelIdeal.nD Cert.LossHeadKernelIdeal.τ).loc Cert.LossHeadKernelIdeal.main_arg1))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v14) = v0 c
          ∧ r.2.mem ((c.tc : Thread Cert.LossHeadReferenceIdeal.nD Cert.LossHeadReferenceIdeal.τ).loc Cert.LossHeadReferenceIdeal.main_v15) = v1 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1))

def preserves_NormFKernel_NormFKernelIdeal : Prop :=
  True

def algebraic_NormFKernelIdeal_NormFReferenceIdeal [hNormFKernelIdeal : Cert.NormFKernelIdeal.Facts] [hNormFReferenceIdeal : Cert.NormFReferenceIdeal.Facts] : Prop :=
  ∀ (m : (ℓ : Loc Cert.NormFKernelIdeal.nD Cert.NormFKernelIdeal.τ Cert.NormFKernelIdeal.sig) → Buf (Elt Ideal) ℓ) (g : Dev Cert.NormFKernelIdeal.nD → PrngReg)
    (m' : (ℓ : Loc Cert.NormFReferenceIdeal.nD Cert.NormFReferenceIdeal.τ Cert.NormFReferenceIdeal.sig) → Buf (Elt Ideal) ℓ) (g' : Dev Cert.NormFReferenceIdeal.nD → PrngReg), Pre_NormFKernelIdeal m →
    (∀ c : Dev Cert.NormFKernelIdeal.nD,
      m' ((c.tc : Thread Cert.NormFReferenceIdeal.nD Cert.NormFReferenceIdeal.τ).loc Cert.NormFReferenceIdeal.main_arg0) = m ((c.tc : Thread Cert.NormFKernelIdeal.nD Cert.NormFKernelIdeal.τ).loc Cert.NormFKernelIdeal.main_arg0)
      ∧ m' ((c.tc : Thread Cert.NormFReferenceIdeal.nD Cert.NormFReferenceIdeal.τ).loc Cert.NormFReferenceIdeal.main_arg1) = m ((c.tc : Thread Cert.NormFKernelIdeal.nD Cert.NormFKernelIdeal.τ).loc Cert.NormFKernelIdeal.main_arg1)) →
    ∃ (v0 : (c : Dev Cert.NormFKernelIdeal.nD) → Buf (Elt Ideal) ((c.tc : Thread Cert.NormFKernelIdeal.nD Cert.NormFKernelIdeal.τ).loc Cert.NormFKernelIdeal.main_v1)),
      θ_run (Cert.NormFKernelIdeal.defs (F := Ideal)) (onTc (τ := Cert.NormFKernelIdeal.τ) (Cert.NormFKernelIdeal.main (F := Ideal))) ⟨m, fun _ => 0, g⟩ (fun r => ∀ c : Dev Cert.NormFKernelIdeal.nD,
          r.2.mem ((c.tc : Thread Cert.NormFKernelIdeal.nD Cert.NormFKernelIdeal.τ).loc Cert.NormFKernelIdeal.main_v1) = v0 c
          ∧ r.2.mem ((c.tc : Thread Cert.NormFKernelIdeal.nD Cert.NormFKernelIdeal.τ).loc Cert.NormFKernelIdeal.main_arg0) = m ((c.tc : Thread Cert.NormFKernelIdeal.nD Cert.NormFKernelIdeal.τ).loc Cert.NormFKernelIdeal.main_arg0)
          ∧ r.2.mem ((c.tc : Thread Cert.NormFKernelIdeal.nD Cert.NormFKernelIdeal.τ).loc Cert.NormFKernelIdeal.main_arg1) = m ((c.tc : Thread Cert.NormFKernelIdeal.nD Cert.NormFKernelIdeal.τ).loc Cert.NormFKernelIdeal.main_arg1))
      ∧ θ_run (Cert.NormFReferenceIdeal.defs (F := Ideal)) (onTc (τ := Cert.NormFReferenceIdeal.τ) (Cert.NormFReferenceIdeal.main (F := Ideal))) ⟨m', fun _ => 0, g'⟩ (fun r => ∀ c : Dev Cert.NormFReferenceIdeal.nD,
          r.2.mem ((c.tc : Thread Cert.NormFReferenceIdeal.nD Cert.NormFReferenceIdeal.τ).loc Cert.NormFReferenceIdeal.main_v13) = v0 c
          ∧ r.2.mem ((c.tc : Thread Cert.NormFReferenceIdeal.nD Cert.NormFReferenceIdeal.τ).loc Cert.NormFReferenceIdeal.main_arg0) = m' ((c.tc : Thread Cert.NormFReferenceIdeal.nD Cert.NormFReferenceIdeal.τ).loc Cert.NormFReferenceIdeal.main_arg0)
          ∧ r.2.mem ((c.tc : Thread Cert.NormFReferenceIdeal.nD Cert.NormFReferenceIdeal.τ).loc Cert.NormFReferenceIdeal.main_arg1) = m' ((c.tc : Thread Cert.NormFReferenceIdeal.nD Cert.NormFReferenceIdeal.τ).loc Cert.NormFReferenceIdeal.main_arg1))

def preserves_MergeFKernel_MergeFKernelIdeal : Prop :=
  True

def algebraic_MergeFKernelIdeal_MergeFReferenceIdeal [hMergeFKernelIdeal : Cert.MergeFKernelIdeal.Facts] [hMergeFReferenceIdeal : Cert.MergeFReferenceIdeal.Facts] : Prop :=
  ∀ (m : (ℓ : Loc Cert.MergeFKernelIdeal.nD Cert.MergeFKernelIdeal.τ Cert.MergeFKernelIdeal.sig) → Buf (Elt Ideal) ℓ) (g : Dev Cert.MergeFKernelIdeal.nD → PrngReg)
    (m' : (ℓ : Loc Cert.MergeFReferenceIdeal.nD Cert.MergeFReferenceIdeal.τ Cert.MergeFReferenceIdeal.sig) → Buf (Elt Ideal) ℓ) (g' : Dev Cert.MergeFReferenceIdeal.nD → PrngReg), Pre_MergeFKernelIdeal m →
    (∀ c : Dev Cert.MergeFKernelIdeal.nD,
      m' ((c.tc : Thread Cert.MergeFReferenceIdeal.nD Cert.MergeFReferenceIdeal.τ).loc Cert.MergeFReferenceIdeal.main_arg0) = m ((c.tc : Thread Cert.MergeFKernelIdeal.nD Cert.MergeFKernelIdeal.τ).loc Cert.MergeFKernelIdeal.main_arg0)
      ∧ m' ((c.tc : Thread Cert.MergeFReferenceIdeal.nD Cert.MergeFReferenceIdeal.τ).loc Cert.MergeFReferenceIdeal.main_arg1) = m ((c.tc : Thread Cert.MergeFKernelIdeal.nD Cert.MergeFKernelIdeal.τ).loc Cert.MergeFKernelIdeal.main_arg1)
      ∧ m' ((c.tc : Thread Cert.MergeFReferenceIdeal.nD Cert.MergeFReferenceIdeal.τ).loc Cert.MergeFReferenceIdeal.main_arg2) = m ((c.tc : Thread Cert.MergeFKernelIdeal.nD Cert.MergeFKernelIdeal.τ).loc Cert.MergeFKernelIdeal.main_arg2)
      ∧ m' ((c.tc : Thread Cert.MergeFReferenceIdeal.nD Cert.MergeFReferenceIdeal.τ).loc Cert.MergeFReferenceIdeal.main_arg3) = m ((c.tc : Thread Cert.MergeFKernelIdeal.nD Cert.MergeFKernelIdeal.τ).loc Cert.MergeFKernelIdeal.main_arg3)) →
    ∃ (v0 : (c : Dev Cert.MergeFKernelIdeal.nD) → Buf (Elt Ideal) ((c.tc : Thread Cert.MergeFKernelIdeal.nD Cert.MergeFKernelIdeal.τ).loc Cert.MergeFKernelIdeal.main_v0)),
      θ_run (Cert.MergeFKernelIdeal.defs (F := Ideal)) (onTc (τ := Cert.MergeFKernelIdeal.τ) (Cert.MergeFKernelIdeal.main (F := Ideal))) ⟨m, fun _ => 0, g⟩ (fun r => ∀ c : Dev Cert.MergeFKernelIdeal.nD,
          r.2.mem ((c.tc : Thread Cert.MergeFKernelIdeal.nD Cert.MergeFKernelIdeal.τ).loc Cert.MergeFKernelIdeal.main_v0) = v0 c
          ∧ r.2.mem ((c.tc : Thread Cert.MergeFKernelIdeal.nD Cert.MergeFKernelIdeal.τ).loc Cert.MergeFKernelIdeal.main_arg0) = m ((c.tc : Thread Cert.MergeFKernelIdeal.nD Cert.MergeFKernelIdeal.τ).loc Cert.MergeFKernelIdeal.main_arg0)
          ∧ r.2.mem ((c.tc : Thread Cert.MergeFKernelIdeal.nD Cert.MergeFKernelIdeal.τ).loc Cert.MergeFKernelIdeal.main_arg1) = m ((c.tc : Thread Cert.MergeFKernelIdeal.nD Cert.MergeFKernelIdeal.τ).loc Cert.MergeFKernelIdeal.main_arg1)
          ∧ r.2.mem ((c.tc : Thread Cert.MergeFKernelIdeal.nD Cert.MergeFKernelIdeal.τ).loc Cert.MergeFKernelIdeal.main_arg2) = m ((c.tc : Thread Cert.MergeFKernelIdeal.nD Cert.MergeFKernelIdeal.τ).loc Cert.MergeFKernelIdeal.main_arg2)
          ∧ r.2.mem ((c.tc : Thread Cert.MergeFKernelIdeal.nD Cert.MergeFKernelIdeal.τ).loc Cert.MergeFKernelIdeal.main_arg3) = m ((c.tc : Thread Cert.MergeFKernelIdeal.nD Cert.MergeFKernelIdeal.τ).loc Cert.MergeFKernelIdeal.main_arg3))
      ∧ θ_run (Cert.MergeFReferenceIdeal.defs (F := Ideal)) (onTc (τ := Cert.MergeFReferenceIdeal.τ) (Cert.MergeFReferenceIdeal.main (F := Ideal))) ⟨m', fun _ => 0, g'⟩ (fun r => ∀ c : Dev Cert.MergeFReferenceIdeal.nD,
          r.2.mem ((c.tc : Thread Cert.MergeFReferenceIdeal.nD Cert.MergeFReferenceIdeal.τ).loc Cert.MergeFReferenceIdeal.main_v18) = v0 c
          ∧ r.2.mem ((c.tc : Thread Cert.MergeFReferenceIdeal.nD Cert.MergeFReferenceIdeal.τ).loc Cert.MergeFReferenceIdeal.main_arg0) = m' ((c.tc : Thread Cert.MergeFReferenceIdeal.nD Cert.MergeFReferenceIdeal.τ).loc Cert.MergeFReferenceIdeal.main_arg0)
          ∧ r.2.mem ((c.tc : Thread Cert.MergeFReferenceIdeal.nD Cert.MergeFReferenceIdeal.τ).loc Cert.MergeFReferenceIdeal.main_arg1) = m' ((c.tc : Thread Cert.MergeFReferenceIdeal.nD Cert.MergeFReferenceIdeal.τ).loc Cert.MergeFReferenceIdeal.main_arg1)
          ∧ r.2.mem ((c.tc : Thread Cert.MergeFReferenceIdeal.nD Cert.MergeFReferenceIdeal.τ).loc Cert.MergeFReferenceIdeal.main_arg2) = m' ((c.tc : Thread Cert.MergeFReferenceIdeal.nD Cert.MergeFReferenceIdeal.τ).loc Cert.MergeFReferenceIdeal.main_arg2)
          ∧ r.2.mem ((c.tc : Thread Cert.MergeFReferenceIdeal.nD Cert.MergeFReferenceIdeal.τ).loc Cert.MergeFReferenceIdeal.main_arg3) = m' ((c.tc : Thread Cert.MergeFReferenceIdeal.nD Cert.MergeFReferenceIdeal.τ).loc Cert.MergeFReferenceIdeal.main_arg3))

def preserves_GluFKernel_GluFKernelIdeal : Prop :=
  True

def algebraic_GluFKernelIdeal_GluFReferenceIdeal [hGluFKernelIdeal : Cert.GluFKernelIdeal.Facts] [hGluFReferenceIdeal : Cert.GluFReferenceIdeal.Facts] : Prop :=
  ∀ (m : (ℓ : Loc Cert.GluFKernelIdeal.nD Cert.GluFKernelIdeal.τ Cert.GluFKernelIdeal.sig) → Buf (Elt Ideal) ℓ) (g : Dev Cert.GluFKernelIdeal.nD → PrngReg)
    (m' : (ℓ : Loc Cert.GluFReferenceIdeal.nD Cert.GluFReferenceIdeal.τ Cert.GluFReferenceIdeal.sig) → Buf (Elt Ideal) ℓ) (g' : Dev Cert.GluFReferenceIdeal.nD → PrngReg), Pre_GluFKernelIdeal m →
    (∀ c : Dev Cert.GluFKernelIdeal.nD,
      m' ((c.tc : Thread Cert.GluFReferenceIdeal.nD Cert.GluFReferenceIdeal.τ).loc Cert.GluFReferenceIdeal.main_arg0) = m ((c.tc : Thread Cert.GluFKernelIdeal.nD Cert.GluFKernelIdeal.τ).loc Cert.GluFKernelIdeal.main_arg0)
      ∧ m' ((c.tc : Thread Cert.GluFReferenceIdeal.nD Cert.GluFReferenceIdeal.τ).loc Cert.GluFReferenceIdeal.main_arg1) = m ((c.tc : Thread Cert.GluFKernelIdeal.nD Cert.GluFKernelIdeal.τ).loc Cert.GluFKernelIdeal.main_arg1)
      ∧ m' ((c.tc : Thread Cert.GluFReferenceIdeal.nD Cert.GluFReferenceIdeal.τ).loc Cert.GluFReferenceIdeal.main_arg2) = m ((c.tc : Thread Cert.GluFKernelIdeal.nD Cert.GluFKernelIdeal.τ).loc Cert.GluFKernelIdeal.main_arg2)
      ∧ m' ((c.tc : Thread Cert.GluFReferenceIdeal.nD Cert.GluFReferenceIdeal.τ).loc Cert.GluFReferenceIdeal.main_arg3) = m ((c.tc : Thread Cert.GluFKernelIdeal.nD Cert.GluFKernelIdeal.τ).loc Cert.GluFKernelIdeal.main_arg3)) →
    ∃ (v0 : (c : Dev Cert.GluFKernelIdeal.nD) → Buf (Elt Ideal) ((c.tc : Thread Cert.GluFKernelIdeal.nD Cert.GluFKernelIdeal.τ).loc Cert.GluFKernelIdeal.main_v1)),
      θ_run (Cert.GluFKernelIdeal.defs (F := Ideal)) (onTc (τ := Cert.GluFKernelIdeal.τ) (Cert.GluFKernelIdeal.main (F := Ideal))) ⟨m, fun _ => 0, g⟩ (fun r => ∀ c : Dev Cert.GluFKernelIdeal.nD,
          r.2.mem ((c.tc : Thread Cert.GluFKernelIdeal.nD Cert.GluFKernelIdeal.τ).loc Cert.GluFKernelIdeal.main_v1) = v0 c
          ∧ r.2.mem ((c.tc : Thread Cert.GluFKernelIdeal.nD Cert.GluFKernelIdeal.τ).loc Cert.GluFKernelIdeal.main_arg0) = m ((c.tc : Thread Cert.GluFKernelIdeal.nD Cert.GluFKernelIdeal.τ).loc Cert.GluFKernelIdeal.main_arg0)
          ∧ r.2.mem ((c.tc : Thread Cert.GluFKernelIdeal.nD Cert.GluFKernelIdeal.τ).loc Cert.GluFKernelIdeal.main_arg1) = m ((c.tc : Thread Cert.GluFKernelIdeal.nD Cert.GluFKernelIdeal.τ).loc Cert.GluFKernelIdeal.main_arg1)
          ∧ r.2.mem ((c.tc : Thread Cert.GluFKernelIdeal.nD Cert.GluFKernelIdeal.τ).loc Cert.GluFKernelIdeal.main_arg2) = m ((c.tc : Thread Cert.GluFKernelIdeal.nD Cert.GluFKernelIdeal.τ).loc Cert.GluFKernelIdeal.main_arg2)
          ∧ r.2.mem ((c.tc : Thread Cert.GluFKernelIdeal.nD Cert.GluFKernelIdeal.τ).loc Cert.GluFKernelIdeal.main_arg3) = m ((c.tc : Thread Cert.GluFKernelIdeal.nD Cert.GluFKernelIdeal.τ).loc Cert.GluFKernelIdeal.main_arg3))
      ∧ θ_run (Cert.GluFReferenceIdeal.defs (F := Ideal)) (onTc (τ := Cert.GluFReferenceIdeal.τ) (Cert.GluFReferenceIdeal.main (F := Ideal))) ⟨m', fun _ => 0, g'⟩ (fun r => ∀ c : Dev Cert.GluFReferenceIdeal.nD,
          r.2.mem ((c.tc : Thread Cert.GluFReferenceIdeal.nD Cert.GluFReferenceIdeal.τ).loc Cert.GluFReferenceIdeal.main_v13) = v0 c
          ∧ r.2.mem ((c.tc : Thread Cert.GluFReferenceIdeal.nD Cert.GluFReferenceIdeal.τ).loc Cert.GluFReferenceIdeal.main_arg0) = m' ((c.tc : Thread Cert.GluFReferenceIdeal.nD Cert.GluFReferenceIdeal.τ).loc Cert.GluFReferenceIdeal.main_arg0)
          ∧ r.2.mem ((c.tc : Thread Cert.GluFReferenceIdeal.nD Cert.GluFReferenceIdeal.τ).loc Cert.GluFReferenceIdeal.main_arg1) = m' ((c.tc : Thread Cert.GluFReferenceIdeal.nD Cert.GluFReferenceIdeal.τ).loc Cert.GluFReferenceIdeal.main_arg1)
          ∧ r.2.mem ((c.tc : Thread Cert.GluFReferenceIdeal.nD Cert.GluFReferenceIdeal.τ).loc Cert.GluFReferenceIdeal.main_arg2) = m' ((c.tc : Thread Cert.GluFReferenceIdeal.nD Cert.GluFReferenceIdeal.τ).loc Cert.GluFReferenceIdeal.main_arg2)
          ∧ r.2.mem ((c.tc : Thread Cert.GluFReferenceIdeal.nD Cert.GluFReferenceIdeal.τ).loc Cert.GluFReferenceIdeal.main_arg3) = m' ((c.tc : Thread Cert.GluFReferenceIdeal.nD Cert.GluFReferenceIdeal.τ).loc Cert.GluFReferenceIdeal.main_arg3))

def preserves_CombKernel_CombKernelIdeal : Prop :=
  True

def algebraic_CombKernelIdeal_CombReferenceIdeal_pre_weights_finite [hCombKernelIdeal : Cert.CombKernelIdeal.Facts] [hCombReferenceIdeal : Cert.CombReferenceIdeal.Facts] [hPre_weights_finite : Cert.Pre_weights_finite.Facts] : Prop :=
  ∀ (m : (ℓ : Loc Cert.CombKernelIdeal.nD Cert.CombKernelIdeal.τ Cert.CombKernelIdeal.sig) → Buf (Elt Ideal) ℓ) (g : Dev Cert.CombKernelIdeal.nD → PrngReg)
    (m' : (ℓ : Loc Cert.CombReferenceIdeal.nD Cert.CombReferenceIdeal.τ Cert.CombReferenceIdeal.sig) → Buf (Elt Ideal) ℓ) (g' : Dev Cert.CombReferenceIdeal.nD → PrngReg), Pre_CombKernelIdeal_weights_finite m →
    (∀ c : Dev Cert.CombKernelIdeal.nD,
      m' ((c.tc : Thread Cert.CombReferenceIdeal.nD Cert.CombReferenceIdeal.τ).loc Cert.CombReferenceIdeal.main_arg0) = m ((c.tc : Thread Cert.CombKernelIdeal.nD Cert.CombKernelIdeal.τ).loc Cert.CombKernelIdeal.main_arg0)
      ∧ m' ((c.tc : Thread Cert.CombReferenceIdeal.nD Cert.CombReferenceIdeal.τ).loc Cert.CombReferenceIdeal.main_arg1) = m ((c.tc : Thread Cert.CombKernelIdeal.nD Cert.CombKernelIdeal.τ).loc Cert.CombKernelIdeal.main_arg1)
      ∧ m' ((c.tc : Thread Cert.CombReferenceIdeal.nD Cert.CombReferenceIdeal.τ).loc Cert.CombReferenceIdeal.main_arg2) = m ((c.tc : Thread Cert.CombKernelIdeal.nD Cert.CombKernelIdeal.τ).loc Cert.CombKernelIdeal.main_arg2)
      ∧ m' ((c.tc : Thread Cert.CombReferenceIdeal.nD Cert.CombReferenceIdeal.τ).loc Cert.CombReferenceIdeal.main_arg3) = m ((c.tc : Thread Cert.CombKernelIdeal.nD Cert.CombKernelIdeal.τ).loc Cert.CombKernelIdeal.main_arg3)
      ∧ m' ((c.tc : Thread Cert.CombReferenceIdeal.nD Cert.CombReferenceIdeal.τ).loc Cert.CombReferenceIdeal.main_arg4) = m ((c.tc : Thread Cert.CombKernelIdeal.nD Cert.CombKernelIdeal.τ).loc Cert.CombKernelIdeal.main_arg4)
      ∧ m' ((c.tc : Thread Cert.CombReferenceIdeal.nD Cert.CombReferenceIdeal.τ).loc Cert.CombReferenceIdeal.main_arg5) = m ((c.tc : Thread Cert.CombKernelIdeal.nD Cert.CombKernelIdeal.τ).loc Cert.CombKernelIdeal.main_arg5)
      ∧ m' ((c.tc : Thread Cert.CombReferenceIdeal.nD Cert.CombReferenceIdeal.τ).loc Cert.CombReferenceIdeal.main_arg6) = m ((c.tc : Thread Cert.CombKernelIdeal.nD Cert.CombKernelIdeal.τ).loc Cert.CombKernelIdeal.main_arg6)) →
    ∃ (v0 : (c : Dev Cert.CombKernelIdeal.nD) → Buf (Elt Ideal) ((c.tc : Thread Cert.CombKernelIdeal.nD Cert.CombKernelIdeal.τ).loc Cert.CombKernelIdeal.main_v0)),
      θ_run (Cert.CombKernelIdeal.defs (F := Ideal)) (onTc (τ := Cert.CombKernelIdeal.τ) (Cert.CombKernelIdeal.main (F := Ideal))) ⟨m, fun _ => 0, g⟩ (fun r => ∀ c : Dev Cert.CombKernelIdeal.nD,
          r.2.mem ((c.tc : Thread Cert.CombKernelIdeal.nD Cert.CombKernelIdeal.τ).loc Cert.CombKernelIdeal.main_v0) = v0 c
          ∧ r.2.mem ((c.tc : Thread Cert.CombKernelIdeal.nD Cert.CombKernelIdeal.τ).loc Cert.CombKernelIdeal.main_arg0) = m ((c.tc : Thread Cert.CombKernelIdeal.nD Cert.CombKernelIdeal.τ).loc Cert.CombKernelIdeal.main_arg0)
          ∧ r.2.mem ((c.tc : Thread Cert.CombKernelIdeal.nD Cert.CombKernelIdeal.τ).loc Cert.CombKernelIdeal.main_arg1) = m ((c.tc : Thread Cert.CombKernelIdeal.nD Cert.CombKernelIdeal.τ).loc Cert.CombKernelIdeal.main_arg1)
          ∧ r.2.mem ((c.tc : Thread Cert.CombKernelIdeal.nD Cert.CombKernelIdeal.τ).loc Cert.CombKernelIdeal.main_arg2) = m ((c.tc : Thread Cert.CombKernelIdeal.nD Cert.CombKernelIdeal.τ).loc Cert.CombKernelIdeal.main_arg2)
          ∧ r.2.mem ((c.tc : Thread Cert.CombKernelIdeal.nD Cert.CombKernelIdeal.τ).loc Cert.CombKernelIdeal.main_arg3) = m ((c.tc : Thread Cert.CombKernelIdeal.nD Cert.CombKernelIdeal.τ).loc Cert.CombKernelIdeal.main_arg3)
          ∧ r.2.mem ((c.tc : Thread Cert.CombKernelIdeal.nD Cert.CombKernelIdeal.τ).loc Cert.CombKernelIdeal.main_arg4) = m ((c.tc : Thread Cert.CombKernelIdeal.nD Cert.CombKernelIdeal.τ).loc Cert.CombKernelIdeal.main_arg4)
          ∧ r.2.mem ((c.tc : Thread Cert.CombKernelIdeal.nD Cert.CombKernelIdeal.τ).loc Cert.CombKernelIdeal.main_arg5) = m ((c.tc : Thread Cert.CombKernelIdeal.nD Cert.CombKernelIdeal.τ).loc Cert.CombKernelIdeal.main_arg5)
          ∧ r.2.mem ((c.tc : Thread Cert.CombKernelIdeal.nD Cert.CombKernelIdeal.τ).loc Cert.CombKernelIdeal.main_arg6) = m ((c.tc : Thread Cert.CombKernelIdeal.nD Cert.CombKernelIdeal.τ).loc Cert.CombKernelIdeal.main_arg6))
      ∧ θ_run (Cert.CombReferenceIdeal.defs (F := Ideal)) (onTc (τ := Cert.CombReferenceIdeal.τ) (Cert.CombReferenceIdeal.main (F := Ideal))) ⟨m', fun _ => 0, g'⟩ (fun r => ∀ c : Dev Cert.CombReferenceIdeal.nD,
          r.2.mem ((c.tc : Thread Cert.CombReferenceIdeal.nD Cert.CombReferenceIdeal.τ).loc Cert.CombReferenceIdeal.main_v24) = v0 c
          ∧ r.2.mem ((c.tc : Thread Cert.CombReferenceIdeal.nD Cert.CombReferenceIdeal.τ).loc Cert.CombReferenceIdeal.main_arg0) = m' ((c.tc : Thread Cert.CombReferenceIdeal.nD Cert.CombReferenceIdeal.τ).loc Cert.CombReferenceIdeal.main_arg0)
          ∧ r.2.mem ((c.tc : Thread Cert.CombReferenceIdeal.nD Cert.CombReferenceIdeal.τ).loc Cert.CombReferenceIdeal.main_arg1) = m' ((c.tc : Thread Cert.CombReferenceIdeal.nD Cert.CombReferenceIdeal.τ).loc Cert.CombReferenceIdeal.main_arg1)
          ∧ r.2.mem ((c.tc : Thread Cert.CombReferenceIdeal.nD Cert.CombReferenceIdeal.τ).loc Cert.CombReferenceIdeal.main_arg2) = m' ((c.tc : Thread Cert.CombReferenceIdeal.nD Cert.CombReferenceIdeal.τ).loc Cert.CombReferenceIdeal.main_arg2)
          ∧ r.2.mem ((c.tc : Thread Cert.CombReferenceIdeal.nD Cert.CombReferenceIdeal.τ).loc Cert.CombReferenceIdeal.main_arg3) = m' ((c.tc : Thread Cert.CombReferenceIdeal.nD Cert.CombReferenceIdeal.τ).loc Cert.CombReferenceIdeal.main_arg3)
          ∧ r.2.mem ((c.tc : Thread Cert.CombReferenceIdeal.nD Cert.CombReferenceIdeal.τ).loc Cert.CombReferenceIdeal.main_arg4) = m' ((c.tc : Thread Cert.CombReferenceIdeal.nD Cert.CombReferenceIdeal.τ).loc Cert.CombReferenceIdeal.main_arg4)
          ∧ r.2.mem ((c.tc : Thread Cert.CombReferenceIdeal.nD Cert.CombReferenceIdeal.τ).loc Cert.CombReferenceIdeal.main_arg5) = m' ((c.tc : Thread Cert.CombReferenceIdeal.nD Cert.CombReferenceIdeal.τ).loc Cert.CombReferenceIdeal.main_arg5)
          ∧ r.2.mem ((c.tc : Thread Cert.CombReferenceIdeal.nD Cert.CombReferenceIdeal.τ).loc Cert.CombReferenceIdeal.main_arg6) = m' ((c.tc : Thread Cert.CombReferenceIdeal.nD Cert.CombReferenceIdeal.τ).loc Cert.CombReferenceIdeal.main_arg6))

def preserves_CombBKernel_CombBKernelIdeal : Prop :=
  True

def algebraic_CombBKernelIdeal_CombBReferenceIdeal_pre_all_finite [hCombBKernelIdeal : Cert.CombBKernelIdeal.Facts] [hCombBReferenceIdeal : Cert.CombBReferenceIdeal.Facts] [hPre_all_finite : Cert.Pre_all_finite.Facts] : Prop :=
  ∀ (m : (ℓ : Loc Cert.CombBKernelIdeal.nD Cert.CombBKernelIdeal.τ Cert.CombBKernelIdeal.sig) → Buf (Elt Ideal) ℓ) (g : Dev Cert.CombBKernelIdeal.nD → PrngReg)
    (m' : (ℓ : Loc Cert.CombBReferenceIdeal.nD Cert.CombBReferenceIdeal.τ Cert.CombBReferenceIdeal.sig) → Buf (Elt Ideal) ℓ) (g' : Dev Cert.CombBReferenceIdeal.nD → PrngReg), Pre_CombBKernelIdeal_all_finite m →
    (∀ c : Dev Cert.CombBKernelIdeal.nD,
      m' ((c.tc : Thread Cert.CombBReferenceIdeal.nD Cert.CombBReferenceIdeal.τ).loc Cert.CombBReferenceIdeal.main_arg0) = m ((c.tc : Thread Cert.CombBKernelIdeal.nD Cert.CombBKernelIdeal.τ).loc Cert.CombBKernelIdeal.main_arg0)
      ∧ m' ((c.tc : Thread Cert.CombBReferenceIdeal.nD Cert.CombBReferenceIdeal.τ).loc Cert.CombBReferenceIdeal.main_arg1) = m ((c.tc : Thread Cert.CombBKernelIdeal.nD Cert.CombBKernelIdeal.τ).loc Cert.CombBKernelIdeal.main_arg1)
      ∧ m' ((c.tc : Thread Cert.CombBReferenceIdeal.nD Cert.CombBReferenceIdeal.τ).loc Cert.CombBReferenceIdeal.main_arg2) = m ((c.tc : Thread Cert.CombBKernelIdeal.nD Cert.CombBKernelIdeal.τ).loc Cert.CombBKernelIdeal.main_arg2)
      ∧ m' ((c.tc : Thread Cert.CombBReferenceIdeal.nD Cert.CombBReferenceIdeal.τ).loc Cert.CombBReferenceIdeal.main_arg3) = m ((c.tc : Thread Cert.CombBKernelIdeal.nD Cert.CombBKernelIdeal.τ).loc Cert.CombBKernelIdeal.main_arg3)
      ∧ m' ((c.tc : Thread Cert.CombBReferenceIdeal.nD Cert.CombBReferenceIdeal.τ).loc Cert.CombBReferenceIdeal.main_arg4) = m ((c.tc : Thread Cert.CombBKernelIdeal.nD Cert.CombBKernelIdeal.τ).loc Cert.CombBKernelIdeal.main_arg4)
      ∧ m' ((c.tc : Thread Cert.CombBReferenceIdeal.nD Cert.CombBReferenceIdeal.τ).loc Cert.CombBReferenceIdeal.main_arg5) = m ((c.tc : Thread Cert.CombBKernelIdeal.nD Cert.CombBKernelIdeal.τ).loc Cert.CombBKernelIdeal.main_arg5)
      ∧ m' ((c.tc : Thread Cert.CombBReferenceIdeal.nD Cert.CombBReferenceIdeal.τ).loc Cert.CombBReferenceIdeal.main_arg6) = m ((c.tc : Thread Cert.CombBKernelIdeal.nD Cert.CombBKernelIdeal.τ).loc Cert.CombBKernelIdeal.main_arg6)
      ∧ m' ((c.tc : Thread Cert.CombBReferenceIdeal.nD Cert.CombBReferenceIdeal.τ).loc Cert.CombBReferenceIdeal.main_arg7) = m ((c.tc : Thread Cert.CombBKernelIdeal.nD Cert.CombBKernelIdeal.τ).loc Cert.CombBKernelIdeal.main_arg7)) →
    ∃ (v0 : (c : Dev Cert.CombBKernelIdeal.nD) → Buf (Elt Ideal) ((c.tc : Thread Cert.CombBKernelIdeal.nD Cert.CombBKernelIdeal.τ).loc Cert.CombBKernelIdeal.main_v0_0)) (v1 : (c : Dev Cert.CombBKernelIdeal.nD) → Buf (Elt Ideal) ((c.tc : Thread Cert.CombBKernelIdeal.nD Cert.CombBKernelIdeal.τ).loc Cert.CombBKernelIdeal.main_v0_1)) (v2 : (c : Dev Cert.CombBKernelIdeal.nD) → Buf (Elt Ideal) ((c.tc : Thread Cert.CombBKernelIdeal.nD Cert.CombBKernelIdeal.τ).loc Cert.CombBKernelIdeal.main_v0_2)) (v3 : (c : Dev Cert.CombBKernelIdeal.nD) → Buf (Elt Ideal) ((c.tc : Thread Cert.CombBKernelIdeal.nD Cert.CombBKernelIdeal.τ).loc Cert.CombBKernelIdeal.main_v0_3)) (v4 : (c : Dev Cert.CombBKernelIdeal.nD) → Buf (Elt Ideal) ((c.tc : Thread Cert.CombBKernelIdeal.nD Cert.CombBKernelIdeal.τ).loc Cert.CombBKernelIdeal.main_v0_4)) (v5 : (c : Dev Cert.CombBKernelIdeal.nD) → Buf (Elt Ideal) ((c.tc : Thread Cert.CombBKernelIdeal.nD Cert.CombBKernelIdeal.τ).loc Cert.CombBKernelIdeal.main_v0_5)) (v6 : (c : Dev Cert.CombBKernelIdeal.nD) → Buf (Elt Ideal) ((c.tc : Thread Cert.CombBKernelIdeal.nD Cert.CombBKernelIdeal.τ).loc Cert.CombBKernelIdeal.main_v0_6)),
      θ_run (Cert.CombBKernelIdeal.defs (F := Ideal)) (onTc (τ := Cert.CombBKernelIdeal.τ) (Cert.CombBKernelIdeal.main (F := Ideal))) ⟨m, fun _ => 0, g⟩ (fun r => ∀ c : Dev Cert.CombBKernelIdeal.nD,
          r.2.mem ((c.tc : Thread Cert.CombBKernelIdeal.nD Cert.CombBKernelIdeal.τ).loc Cert.CombBKernelIdeal.main_v0_0) = v0 c
          ∧ r.2.mem ((c.tc : Thread Cert.CombBKernelIdeal.nD Cert.CombBKernelIdeal.τ).loc Cert.CombBKernelIdeal.main_v0_1) = v1 c
          ∧ r.2.mem ((c.tc : Thread Cert.CombBKernelIdeal.nD Cert.CombBKernelIdeal.τ).loc Cert.CombBKernelIdeal.main_v0_2) = v2 c
          ∧ r.2.mem ((c.tc : Thread Cert.CombBKernelIdeal.nD Cert.CombBKernelIdeal.τ).loc Cert.CombBKernelIdeal.main_v0_3) = v3 c
          ∧ r.2.mem ((c.tc : Thread Cert.CombBKernelIdeal.nD Cert.CombBKernelIdeal.τ).loc Cert.CombBKernelIdeal.main_v0_4) = v4 c
          ∧ r.2.mem ((c.tc : Thread Cert.CombBKernelIdeal.nD Cert.CombBKernelIdeal.τ).loc Cert.CombBKernelIdeal.main_v0_5) = v5 c
          ∧ r.2.mem ((c.tc : Thread Cert.CombBKernelIdeal.nD Cert.CombBKernelIdeal.τ).loc Cert.CombBKernelIdeal.main_v0_6) = v6 c
          ∧ r.2.mem ((c.tc : Thread Cert.CombBKernelIdeal.nD Cert.CombBKernelIdeal.τ).loc Cert.CombBKernelIdeal.main_arg0) = m ((c.tc : Thread Cert.CombBKernelIdeal.nD Cert.CombBKernelIdeal.τ).loc Cert.CombBKernelIdeal.main_arg0)
          ∧ r.2.mem ((c.tc : Thread Cert.CombBKernelIdeal.nD Cert.CombBKernelIdeal.τ).loc Cert.CombBKernelIdeal.main_arg1) = m ((c.tc : Thread Cert.CombBKernelIdeal.nD Cert.CombBKernelIdeal.τ).loc Cert.CombBKernelIdeal.main_arg1)
          ∧ r.2.mem ((c.tc : Thread Cert.CombBKernelIdeal.nD Cert.CombBKernelIdeal.τ).loc Cert.CombBKernelIdeal.main_arg2) = m ((c.tc : Thread Cert.CombBKernelIdeal.nD Cert.CombBKernelIdeal.τ).loc Cert.CombBKernelIdeal.main_arg2)
          ∧ r.2.mem ((c.tc : Thread Cert.CombBKernelIdeal.nD Cert.CombBKernelIdeal.τ).loc Cert.CombBKernelIdeal.main_arg3) = m ((c.tc : Thread Cert.CombBKernelIdeal.nD Cert.CombBKernelIdeal.τ).loc Cert.CombBKernelIdeal.main_arg3)
          ∧ r.2.mem ((c.tc : Thread Cert.CombBKernelIdeal.nD Cert.CombBKernelIdeal.τ).loc Cert.CombBKernelIdeal.main_arg4) = m ((c.tc : Thread Cert.CombBKernelIdeal.nD Cert.CombBKernelIdeal.τ).loc Cert.CombBKernelIdeal.main_arg4)
          ∧ r.2.mem ((c.tc : Thread Cert.CombBKernelIdeal.nD Cert.CombBKernelIdeal.τ).loc Cert.CombBKernelIdeal.main_arg5) = m ((c.tc : Thread Cert.CombBKernelIdeal.nD Cert.CombBKernelIdeal.τ).loc Cert.CombBKernelIdeal.main_arg5)
          ∧ r.2.mem ((c.tc : Thread Cert.CombBKernelIdeal.nD Cert.CombBKernelIdeal.τ).loc Cert.CombBKernelIdeal.main_arg6) = m ((c.tc : Thread Cert.CombBKernelIdeal.nD Cert.CombBKernelIdeal.τ).loc Cert.CombBKernelIdeal.main_arg6)
          ∧ r.2.mem ((c.tc : Thread Cert.CombBKernelIdeal.nD Cert.CombBKernelIdeal.τ).loc Cert.CombBKernelIdeal.main_arg7) = m ((c.tc : Thread Cert.CombBKernelIdeal.nD Cert.CombBKernelIdeal.τ).loc Cert.CombBKernelIdeal.main_arg7))
      ∧ θ_run (Cert.CombBReferenceIdeal.defs (F := Ideal)) (onTc (τ := Cert.CombBReferenceIdeal.τ) (Cert.CombBReferenceIdeal.main (F := Ideal))) ⟨m', fun _ => 0, g'⟩ (fun r => ∀ c : Dev Cert.CombBReferenceIdeal.nD,
          r.2.mem ((c.tc : Thread Cert.CombBReferenceIdeal.nD Cert.CombBReferenceIdeal.τ).loc Cert.CombBReferenceIdeal.main_v48) = v0 c
          ∧ r.2.mem ((c.tc : Thread Cert.CombBReferenceIdeal.nD Cert.CombBReferenceIdeal.τ).loc Cert.CombBReferenceIdeal.main_v66) = v1 c
          ∧ r.2.mem ((c.tc : Thread Cert.CombBReferenceIdeal.nD Cert.CombBReferenceIdeal.τ).loc Cert.CombBReferenceIdeal.main_v50) = v2 c
          ∧ r.2.mem ((c.tc : Thread Cert.CombBReferenceIdeal.nD Cert.CombBReferenceIdeal.τ).loc Cert.CombBReferenceIdeal.main_v68) = v3 c
          ∧ r.2.mem ((c.tc : Thread Cert.CombBReferenceIdeal.nD Cert.CombBReferenceIdeal.τ).loc Cert.CombBReferenceIdeal.main_v52) = v4 c
          ∧ r.2.mem ((c.tc : Thread Cert.CombBReferenceIdeal.nD Cert.CombBReferenceIdeal.τ).loc Cert.CombBReferenceIdeal.main_v70) = v5 c
          ∧ r.2.mem ((c.tc : Thread Cert.CombBReferenceIdeal.nD Cert.CombBReferenceIdeal.τ).loc Cert.CombBReferenceIdeal.main_v71) = v6 c
          ∧ r.2.mem ((c.tc : Thread Cert.CombBReferenceIdeal.nD Cert.CombBReferenceIdeal.τ).loc Cert.CombBReferenceIdeal.main_arg0) = m' ((c.tc : Thread Cert.CombBReferenceIdeal.nD Cert.CombBReferenceIdeal.τ).loc Cert.CombBReferenceIdeal.main_arg0)
          ∧ r.2.mem ((c.tc : Thread Cert.CombBReferenceIdeal.nD Cert.CombBReferenceIdeal.τ).loc Cert.CombBReferenceIdeal.main_arg1) = m' ((c.tc : Thread Cert.CombBReferenceIdeal.nD Cert.CombBReferenceIdeal.τ).loc Cert.CombBReferenceIdeal.main_arg1)
          ∧ r.2.mem ((c.tc : Thread Cert.CombBReferenceIdeal.nD Cert.CombBReferenceIdeal.τ).loc Cert.CombBReferenceIdeal.main_arg2) = m' ((c.tc : Thread Cert.CombBReferenceIdeal.nD Cert.CombBReferenceIdeal.τ).loc Cert.CombBReferenceIdeal.main_arg2)
          ∧ r.2.mem ((c.tc : Thread Cert.CombBReferenceIdeal.nD Cert.CombBReferenceIdeal.τ).loc Cert.CombBReferenceIdeal.main_arg3) = m' ((c.tc : Thread Cert.CombBReferenceIdeal.nD Cert.CombBReferenceIdeal.τ).loc Cert.CombBReferenceIdeal.main_arg3)
          ∧ r.2.mem ((c.tc : Thread Cert.CombBReferenceIdeal.nD Cert.CombBReferenceIdeal.τ).loc Cert.CombBReferenceIdeal.main_arg4) = m' ((c.tc : Thread Cert.CombBReferenceIdeal.nD Cert.CombBReferenceIdeal.τ).loc Cert.CombBReferenceIdeal.main_arg4)
          ∧ r.2.mem ((c.tc : Thread Cert.CombBReferenceIdeal.nD Cert.CombBReferenceIdeal.τ).loc Cert.CombBReferenceIdeal.main_arg5) = m' ((c.tc : Thread Cert.CombBReferenceIdeal.nD Cert.CombBReferenceIdeal.τ).loc Cert.CombBReferenceIdeal.main_arg5)
          ∧ r.2.mem ((c.tc : Thread Cert.CombBReferenceIdeal.nD Cert.CombBReferenceIdeal.τ).loc Cert.CombBReferenceIdeal.main_arg6) = m' ((c.tc : Thread Cert.CombBReferenceIdeal.nD Cert.CombBReferenceIdeal.τ).loc Cert.CombBReferenceIdeal.main_arg6)
          ∧ r.2.mem ((c.tc : Thread Cert.CombBReferenceIdeal.nD Cert.CombBReferenceIdeal.τ).loc Cert.CombBReferenceIdeal.main_arg7) = m' ((c.tc : Thread Cert.CombBReferenceIdeal.nD Cert.CombBReferenceIdeal.τ).loc Cert.CombBReferenceIdeal.main_arg7))

def Claim : Prop :=
  ∃ (hMergeKernel : Cert.MergeKernel.Facts) (hMergeKernelIdeal : Cert.MergeKernelIdeal.Facts) (hMergeReferenceIdeal : Cert.MergeReferenceIdeal.Facts) (hGluKernel : Cert.GluKernel.Facts) (hGluKernelIdeal : Cert.GluKernelIdeal.Facts) (hGluReferenceIdeal : Cert.GluReferenceIdeal.Facts) (hNormKernel : Cert.NormKernel.Facts) (hNormKernelIdeal : Cert.NormKernelIdeal.Facts) (hNormReferenceIdeal : Cert.NormReferenceIdeal.Facts) (hDHKernel : Cert.DHKernel.Facts) (hDHKernelIdeal : Cert.DHKernelIdeal.Facts) (hDHReferenceIdeal : Cert.DHReferenceIdeal.Facts) (hGWinAKernel : Cert.GWinAKernel.Facts) (hGWinAKernelIdeal : Cert.GWinAKernelIdeal.Facts) (hGWinAReferenceIdeal : Cert.GWinAReferenceIdeal.Facts) (hGWinQKernel : Cert.GWinQKernel.Facts) (hGWinQKernelIdeal : Cert.GWinQKernelIdeal.Facts) (hGWinQReferenceIdeal : Cert.GWinQReferenceIdeal.Facts) (hGWinGKernel : Cert.GWinGKernel.Facts) (hGWinGKernelIdeal : Cert.GWinGKernelIdeal.Facts) (hGWinGReferenceIdeal : Cert.GWinGReferenceIdeal.Facts) (hGWoutKernel : Cert.GWoutKernel.Facts) (hGWoutKernelIdeal : Cert.GWoutKernelIdeal.Facts) (hGWoutReferenceIdeal : Cert.GWoutReferenceIdeal.Facts) (hGProjAKernel : Cert.GProjAKernel.Facts) (hGProjAKernelIdeal : Cert.GProjAKernelIdeal.Facts) (hGProjAReferenceIdeal : Cert.GProjAReferenceIdeal.Facts) (hGProjBKernel : Cert.GProjBKernel.Facts) (hGProjBKernelIdeal : Cert.GProjBKernelIdeal.Facts) (hGProjBReferenceIdeal : Cert.GProjBReferenceIdeal.Facts) (hGProjCKernel : Cert.GProjCKernel.Facts) (hGProjCKernelIdeal : Cert.GProjCKernelIdeal.Facts) (hGProjCReferenceIdeal : Cert.GProjCReferenceIdeal.Facts) (hGGluKernel : Cert.GGluKernel.Facts) (hGGluKernelIdeal : Cert.GGluKernelIdeal.Facts) (hGGluReferenceIdeal : Cert.GGluReferenceIdeal.Facts) (hDMergedKernel : Cert.DMergedKernel.Facts) (hDMergedKernelIdeal : Cert.DMergedKernelIdeal.Facts) (hDMergedReferenceIdeal : Cert.DMergedReferenceIdeal.Facts) (hDYaKernel : Cert.DYaKernel.Facts) (hDYaKernelIdeal : Cert.DYaKernelIdeal.Facts) (hDYaReferenceIdeal : Cert.DYaReferenceIdeal.Facts) (hDYbKernel : Cert.DYbKernel.Facts) (hDYbKernelIdeal : Cert.DYbKernelIdeal.Facts) (hDYbReferenceIdeal : Cert.DYbReferenceIdeal.Facts) (hDYcKernel : Cert.DYcKernel.Facts) (hDYcKernelIdeal : Cert.DYcKernelIdeal.Facts) (hDYcReferenceIdeal : Cert.DYcReferenceIdeal.Facts) (hDGKernel : Cert.DGKernel.Facts) (hDGKernelIdeal : Cert.DGKernelIdeal.Facts) (hDGReferenceIdeal : Cert.DGReferenceIdeal.Facts) (hInAKernel : Cert.InAKernel.Facts) (hInAKernelIdeal : Cert.InAKernelIdeal.Facts) (hInAReferenceIdeal : Cert.InAReferenceIdeal.Facts) (hInQKernel : Cert.InQKernel.Facts) (hInQKernelIdeal : Cert.InQKernelIdeal.Facts) (hInQReferenceIdeal : Cert.InQReferenceIdeal.Facts) (hInGKernel : Cert.InGKernel.Facts) (hInGKernelIdeal : Cert.InGKernelIdeal.Facts) (hInGReferenceIdeal : Cert.InGReferenceIdeal.Facts) (hProjAKernel : Cert.ProjAKernel.Facts) (hProjAKernelIdeal : Cert.ProjAKernelIdeal.Facts) (hProjAReferenceIdeal : Cert.ProjAReferenceIdeal.Facts) (hProjBKernel : Cert.ProjBKernel.Facts) (hProjBKernelIdeal : Cert.ProjBKernelIdeal.Facts) (hProjBReferenceIdeal : Cert.ProjBReferenceIdeal.Facts) (hProjCKernel : Cert.ProjCKernel.Facts) (hProjCKernelIdeal : Cert.ProjCKernelIdeal.Facts) (hProjCReferenceIdeal : Cert.ProjCReferenceIdeal.Facts) (hGlu1Kernel : Cert.Glu1Kernel.Facts) (hGlu1KernelIdeal : Cert.Glu1KernelIdeal.Facts) (hGlu1ReferenceIdeal : Cert.Glu1ReferenceIdeal.Facts) (hWOutKernel : Cert.WOutKernel.Facts) (hWOutKernelIdeal : Cert.WOutKernelIdeal.Facts) (hWOutReferenceIdeal : Cert.WOutReferenceIdeal.Facts) (hOptWInKernel : Cert.OptWInKernel.Facts) (hOptWInKernelIdeal : Cert.OptWInKernelIdeal.Facts) (hOptWInReferenceIdeal : Cert.OptWInReferenceIdeal.Facts) (hOptGluWKernel : Cert.OptGluWKernel.Facts) (hOptGluWKernelIdeal : Cert.OptGluWKernelIdeal.Facts) (hOptGluWReferenceIdeal : Cert.OptGluWReferenceIdeal.Facts) (hOptWOutKernel : Cert.OptWOutKernel.Facts) (hOptWOutKernelIdeal : Cert.OptWOutKernelIdeal.Facts) (hOptWOutReferenceIdeal : Cert.OptWOutReferenceIdeal.Facts) (hOptProjAKernel : Cert.OptProjAKernel.Facts) (hOptProjAKernelIdeal : Cert.OptProjAKernelIdeal.Facts) (hOptProjAReferenceIdeal : Cert.OptProjAReferenceIdeal.Facts) (hOptProjBKernel : Cert.OptProjBKernel.Facts) (hOptProjBKernelIdeal : Cert.OptProjBKernelIdeal.Facts) (hOptProjBReferenceIdeal : Cert.OptProjBReferenceIdeal.Facts) (hOptProjCKernel : Cert.OptProjCKernel.Facts) (hOptProjCKernelIdeal : Cert.OptProjCKernelIdeal.Facts) (hOptProjCReferenceIdeal : Cert.OptProjCReferenceIdeal.Facts) (hOptNormKernel : Cert.OptNormKernel.Facts) (hOptNormKernelIdeal : Cert.OptNormKernelIdeal.Facts) (hOptNormReferenceIdeal : Cert.OptNormReferenceIdeal.Facts) (hOptAKernel : Cert.OptAKernel.Facts) (hOptAKernelIdeal : Cert.OptAKernelIdeal.Facts) (hOptAReferenceIdeal : Cert.OptAReferenceIdeal.Facts) (hOptStepKernel : Cert.OptStepKernel.Facts) (hOptStepKernelIdeal : Cert.OptStepKernelIdeal.Facts) (hOptStepReferenceIdeal : Cert.OptStepReferenceIdeal.Facts) (hOptBKernel : Cert.OptBKernel.Facts) (hOptBKernelIdeal : Cert.OptBKernelIdeal.Facts) (hOptBReferenceIdeal : Cert.OptBReferenceIdeal.Facts) (hOptCKernel : Cert.OptCKernel.Facts) (hOptCKernelIdeal : Cert.OptCKernelIdeal.Facts) (hOptCReferenceIdeal : Cert.OptCReferenceIdeal.Facts) (hOptDKernel : Cert.OptDKernel.Facts) (hOptDKernelIdeal : Cert.OptDKernelIdeal.Facts) (hOptDReferenceIdeal : Cert.OptDReferenceIdeal.Facts) (hOptQKernel : Cert.OptQKernel.Facts) (hOptQKernelIdeal : Cert.OptQKernelIdeal.Facts) (hOptQReferenceIdeal : Cert.OptQReferenceIdeal.Facts) (hOptConvWKernel : Cert.OptConvWKernel.Facts) (hOptConvWKernelIdeal : Cert.OptConvWKernelIdeal.Facts) (hOptConvWReferenceIdeal : Cert.OptConvWReferenceIdeal.Facts) (hOptConvBKernel : Cert.OptConvBKernel.Facts) (hOptConvBKernelIdeal : Cert.OptConvBKernelIdeal.Facts) (hOptConvBReferenceIdeal : Cert.OptConvBReferenceIdeal.Facts) (hOptDtKernel : Cert.OptDtKernel.Facts) (hOptDtKernelIdeal : Cert.OptDtKernelIdeal.Facts) (hOptDtReferenceIdeal : Cert.OptDtReferenceIdeal.Facts) (hOptSsdNormKernel : Cert.OptSsdNormKernel.Facts) (hOptSsdNormKernelIdeal : Cert.OptSsdNormKernelIdeal.Facts) (hOptSsdNormReferenceIdeal : Cert.OptSsdNormReferenceIdeal.Facts) (hSumSmallKernel : Cert.SumSmallKernel.Facts) (hSumSmallKernelIdeal : Cert.SumSmallKernelIdeal.Facts) (hSumSmallReferenceIdeal : Cert.SumSmallReferenceIdeal.Facts) (hLossHeadKernel : Cert.LossHeadKernel.Facts) (hLossHeadKernelIdeal : Cert.LossHeadKernelIdeal.Facts) (hLossHeadReferenceIdeal : Cert.LossHeadReferenceIdeal.Facts) (hNormFKernel : Cert.NormFKernel.Facts) (hNormFKernelIdeal : Cert.NormFKernelIdeal.Facts) (hNormFReferenceIdeal : Cert.NormFReferenceIdeal.Facts) (hMergeFKernel : Cert.MergeFKernel.Facts) (hMergeFKernelIdeal : Cert.MergeFKernelIdeal.Facts) (hMergeFReferenceIdeal : Cert.MergeFReferenceIdeal.Facts) (hGluFKernel : Cert.GluFKernel.Facts) (hGluFKernelIdeal : Cert.GluFKernelIdeal.Facts) (hGluFReferenceIdeal : Cert.GluFReferenceIdeal.Facts) (hCombKernel : Cert.CombKernel.Facts) (hCombKernelIdeal : Cert.CombKernelIdeal.Facts) (hCombReferenceIdeal : Cert.CombReferenceIdeal.Facts) (hCombBKernel : Cert.CombBKernel.Facts) (hCombBKernelIdeal : Cert.CombBKernelIdeal.Facts) (hCombBReferenceIdeal : Cert.CombBReferenceIdeal.Facts) (hPre_weights_finite : Cert.Pre_weights_finite.Facts) (hPre_all_finite : Cert.Pre_all_finite.Facts),
    quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_GluKernel (hGluKernel := hGluKernel)
    ∧ quiescent_GluKernelIdeal (hGluKernelIdeal := hGluKernelIdeal)
    ∧ quiescent_GluReferenceIdeal (hGluReferenceIdeal := hGluReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_DHKernel (hDHKernel := hDHKernel)
    ∧ quiescent_DHKernelIdeal (hDHKernelIdeal := hDHKernelIdeal)
    ∧ quiescent_DHReferenceIdeal (hDHReferenceIdeal := hDHReferenceIdeal)
    ∧ quiescent_GWinAKernel (hGWinAKernel := hGWinAKernel)
    ∧ quiescent_GWinAKernelIdeal (hGWinAKernelIdeal := hGWinAKernelIdeal)
    ∧ quiescent_GWinAReferenceIdeal (hGWinAReferenceIdeal := hGWinAReferenceIdeal)
    ∧ quiescent_GWinQKernel (hGWinQKernel := hGWinQKernel)
    ∧ quiescent_GWinQKernelIdeal (hGWinQKernelIdeal := hGWinQKernelIdeal)
    ∧ quiescent_GWinQReferenceIdeal (hGWinQReferenceIdeal := hGWinQReferenceIdeal)
    ∧ quiescent_GWinGKernel (hGWinGKernel := hGWinGKernel)
    ∧ quiescent_GWinGKernelIdeal (hGWinGKernelIdeal := hGWinGKernelIdeal)
    ∧ quiescent_GWinGReferenceIdeal (hGWinGReferenceIdeal := hGWinGReferenceIdeal)
    ∧ quiescent_GWoutKernel (hGWoutKernel := hGWoutKernel)
    ∧ quiescent_GWoutKernelIdeal (hGWoutKernelIdeal := hGWoutKernelIdeal)
    ∧ quiescent_GWoutReferenceIdeal (hGWoutReferenceIdeal := hGWoutReferenceIdeal)
    ∧ quiescent_GProjAKernel (hGProjAKernel := hGProjAKernel)
    ∧ quiescent_GProjAKernelIdeal (hGProjAKernelIdeal := hGProjAKernelIdeal)
    ∧ quiescent_GProjAReferenceIdeal (hGProjAReferenceIdeal := hGProjAReferenceIdeal)
    ∧ quiescent_GProjBKernel (hGProjBKernel := hGProjBKernel)
    ∧ quiescent_GProjBKernelIdeal (hGProjBKernelIdeal := hGProjBKernelIdeal)
    ∧ quiescent_GProjBReferenceIdeal (hGProjBReferenceIdeal := hGProjBReferenceIdeal)
    ∧ quiescent_GProjCKernel (hGProjCKernel := hGProjCKernel)
    ∧ quiescent_GProjCKernelIdeal (hGProjCKernelIdeal := hGProjCKernelIdeal)
    ∧ quiescent_GProjCReferenceIdeal (hGProjCReferenceIdeal := hGProjCReferenceIdeal)
    ∧ quiescent_GGluKernel (hGGluKernel := hGGluKernel)
    ∧ quiescent_GGluKernelIdeal (hGGluKernelIdeal := hGGluKernelIdeal)
    ∧ quiescent_GGluReferenceIdeal (hGGluReferenceIdeal := hGGluReferenceIdeal)
    ∧ quiescent_DMergedKernel (hDMergedKernel := hDMergedKernel)
    ∧ quiescent_DMergedKernelIdeal (hDMergedKernelIdeal := hDMergedKernelIdeal)
    ∧ quiescent_DMergedReferenceIdeal (hDMergedReferenceIdeal := hDMergedReferenceIdeal)
    ∧ quiescent_DYaKernel (hDYaKernel := hDYaKernel)
    ∧ quiescent_DYaKernelIdeal (hDYaKernelIdeal := hDYaKernelIdeal)
    ∧ quiescent_DYaReferenceIdeal (hDYaReferenceIdeal := hDYaReferenceIdeal)
    ∧ quiescent_DYbKernel (hDYbKernel := hDYbKernel)
    ∧ quiescent_DYbKernelIdeal (hDYbKernelIdeal := hDYbKernelIdeal)
    ∧ quiescent_DYbReferenceIdeal (hDYbReferenceIdeal := hDYbReferenceIdeal)
    ∧ quiescent_DYcKernel (hDYcKernel := hDYcKernel)
    ∧ quiescent_DYcKernelIdeal (hDYcKernelIdeal := hDYcKernelIdeal)
    ∧ quiescent_DYcReferenceIdeal (hDYcReferenceIdeal := hDYcReferenceIdeal)
    ∧ quiescent_DGKernel (hDGKernel := hDGKernel)
    ∧ quiescent_DGKernelIdeal (hDGKernelIdeal := hDGKernelIdeal)
    ∧ quiescent_DGReferenceIdeal (hDGReferenceIdeal := hDGReferenceIdeal)
    ∧ quiescent_InAKernel (hInAKernel := hInAKernel)
    ∧ quiescent_InAKernelIdeal (hInAKernelIdeal := hInAKernelIdeal)
    ∧ quiescent_InAReferenceIdeal (hInAReferenceIdeal := hInAReferenceIdeal)
    ∧ quiescent_InQKernel (hInQKernel := hInQKernel)
    ∧ quiescent_InQKernelIdeal (hInQKernelIdeal := hInQKernelIdeal)
    ∧ quiescent_InQReferenceIdeal (hInQReferenceIdeal := hInQReferenceIdeal)
    ∧ quiescent_InGKernel (hInGKernel := hInGKernel)
    ∧ quiescent_InGKernelIdeal (hInGKernelIdeal := hInGKernelIdeal)
    ∧ quiescent_InGReferenceIdeal (hInGReferenceIdeal := hInGReferenceIdeal)
    ∧ quiescent_ProjAKernel (hProjAKernel := hProjAKernel)
    ∧ quiescent_ProjAKernelIdeal (hProjAKernelIdeal := hProjAKernelIdeal)
    ∧ quiescent_ProjAReferenceIdeal (hProjAReferenceIdeal := hProjAReferenceIdeal)
    ∧ quiescent_ProjBKernel (hProjBKernel := hProjBKernel)
    ∧ quiescent_ProjBKernelIdeal (hProjBKernelIdeal := hProjBKernelIdeal)
    ∧ quiescent_ProjBReferenceIdeal (hProjBReferenceIdeal := hProjBReferenceIdeal)
    ∧ quiescent_ProjCKernel (hProjCKernel := hProjCKernel)
    ∧ quiescent_ProjCKernelIdeal (hProjCKernelIdeal := hProjCKernelIdeal)
    ∧ quiescent_ProjCReferenceIdeal (hProjCReferenceIdeal := hProjCReferenceIdeal)
    ∧ quiescent_Glu1Kernel (hGlu1Kernel := hGlu1Kernel)
    ∧ quiescent_Glu1KernelIdeal (hGlu1KernelIdeal := hGlu1KernelIdeal)
    ∧ quiescent_Glu1ReferenceIdeal (hGlu1ReferenceIdeal := hGlu1ReferenceIdeal)
    ∧ quiescent_WOutKernel (hWOutKernel := hWOutKernel)
    ∧ quiescent_WOutKernelIdeal (hWOutKernelIdeal := hWOutKernelIdeal)
    ∧ quiescent_WOutReferenceIdeal (hWOutReferenceIdeal := hWOutReferenceIdeal)
    ∧ quiescent_OptWInKernel (hOptWInKernel := hOptWInKernel)
    ∧ quiescent_OptWInKernelIdeal (hOptWInKernelIdeal := hOptWInKernelIdeal)
    ∧ quiescent_OptWInReferenceIdeal (hOptWInReferenceIdeal := hOptWInReferenceIdeal)
    ∧ quiescent_OptGluWKernel (hOptGluWKernel := hOptGluWKernel)
    ∧ quiescent_OptGluWKernelIdeal (hOptGluWKernelIdeal := hOptGluWKernelIdeal)
    ∧ quiescent_OptGluWReferenceIdeal (hOptGluWReferenceIdeal := hOptGluWReferenceIdeal)
    ∧ quiescent_OptWOutKernel (hOptWOutKernel := hOptWOutKernel)
    ∧ quiescent_OptWOutKernelIdeal (hOptWOutKernelIdeal := hOptWOutKernelIdeal)
    ∧ quiescent_OptWOutReferenceIdeal (hOptWOutReferenceIdeal := hOptWOutReferenceIdeal)
    ∧ quiescent_OptProjAKernel (hOptProjAKernel := hOptProjAKernel)
    ∧ quiescent_OptProjAKernelIdeal (hOptProjAKernelIdeal := hOptProjAKernelIdeal)
    ∧ quiescent_OptProjAReferenceIdeal (hOptProjAReferenceIdeal := hOptProjAReferenceIdeal)
    ∧ quiescent_OptProjBKernel (hOptProjBKernel := hOptProjBKernel)
    ∧ quiescent_OptProjBKernelIdeal (hOptProjBKernelIdeal := hOptProjBKernelIdeal)
    ∧ quiescent_OptProjBReferenceIdeal (hOptProjBReferenceIdeal := hOptProjBReferenceIdeal)
    ∧ quiescent_OptProjCKernel (hOptProjCKernel := hOptProjCKernel)
    ∧ quiescent_OptProjCKernelIdeal (hOptProjCKernelIdeal := hOptProjCKernelIdeal)
    ∧ quiescent_OptProjCReferenceIdeal (hOptProjCReferenceIdeal := hOptProjCReferenceIdeal)
    ∧ quiescent_OptNormKernel (hOptNormKernel := hOptNormKernel)
    ∧ quiescent_OptNormKernelIdeal (hOptNormKernelIdeal := hOptNormKernelIdeal)
    ∧ quiescent_OptNormReferenceIdeal (hOptNormReferenceIdeal := hOptNormReferenceIdeal)
    ∧ quiescent_OptAKernel (hOptAKernel := hOptAKernel)
    ∧ quiescent_OptAKernelIdeal (hOptAKernelIdeal := hOptAKernelIdeal)
    ∧ quiescent_OptAReferenceIdeal (hOptAReferenceIdeal := hOptAReferenceIdeal)
    ∧ quiescent_OptStepKernel (hOptStepKernel := hOptStepKernel)
    ∧ quiescent_OptStepKernelIdeal (hOptStepKernelIdeal := hOptStepKernelIdeal)
    ∧ quiescent_OptStepReferenceIdeal (hOptStepReferenceIdeal := hOptStepReferenceIdeal)
    ∧ quiescent_OptBKernel (hOptBKernel := hOptBKernel)
    ∧ quiescent_OptBKernelIdeal (hOptBKernelIdeal := hOptBKernelIdeal)
    ∧ quiescent_OptBReferenceIdeal (hOptBReferenceIdeal := hOptBReferenceIdeal)
    ∧ quiescent_OptCKernel (hOptCKernel := hOptCKernel)
    ∧ quiescent_OptCKernelIdeal (hOptCKernelIdeal := hOptCKernelIdeal)
    ∧ quiescent_OptCReferenceIdeal (hOptCReferenceIdeal := hOptCReferenceIdeal)
    ∧ quiescent_OptDKernel (hOptDKernel := hOptDKernel)
    ∧ quiescent_OptDKernelIdeal (hOptDKernelIdeal := hOptDKernelIdeal)
    ∧ quiescent_OptDReferenceIdeal (hOptDReferenceIdeal := hOptDReferenceIdeal)
    ∧ quiescent_OptQKernel (hOptQKernel := hOptQKernel)
    ∧ quiescent_OptQKernelIdeal (hOptQKernelIdeal := hOptQKernelIdeal)
    ∧ quiescent_OptQReferenceIdeal (hOptQReferenceIdeal := hOptQReferenceIdeal)
    ∧ quiescent_OptConvWKernel (hOptConvWKernel := hOptConvWKernel)
    ∧ quiescent_OptConvWKernelIdeal (hOptConvWKernelIdeal := hOptConvWKernelIdeal)
    ∧ quiescent_OptConvWReferenceIdeal (hOptConvWReferenceIdeal := hOptConvWReferenceIdeal)
    ∧ quiescent_OptConvBKernel (hOptConvBKernel := hOptConvBKernel)
    ∧ quiescent_OptConvBKernelIdeal (hOptConvBKernelIdeal := hOptConvBKernelIdeal)
    ∧ quiescent_OptConvBReferenceIdeal (hOptConvBReferenceIdeal := hOptConvBReferenceIdeal)
    ∧ quiescent_OptDtKernel (hOptDtKernel := hOptDtKernel)
    ∧ quiescent_OptDtKernelIdeal (hOptDtKernelIdeal := hOptDtKernelIdeal)
    ∧ quiescent_OptDtReferenceIdeal (hOptDtReferenceIdeal := hOptDtReferenceIdeal)
    ∧ quiescent_OptSsdNormKernel (hOptSsdNormKernel := hOptSsdNormKernel)
    ∧ quiescent_OptSsdNormKernelIdeal (hOptSsdNormKernelIdeal := hOptSsdNormKernelIdeal)
    ∧ quiescent_OptSsdNormReferenceIdeal (hOptSsdNormReferenceIdeal := hOptSsdNormReferenceIdeal)
    ∧ quiescent_SumSmallKernel (hSumSmallKernel := hSumSmallKernel)
    ∧ quiescent_SumSmallKernelIdeal (hSumSmallKernelIdeal := hSumSmallKernelIdeal)
    ∧ quiescent_SumSmallReferenceIdeal (hSumSmallReferenceIdeal := hSumSmallReferenceIdeal)
    ∧ quiescent_LossHeadKernel (hLossHeadKernel := hLossHeadKernel)
    ∧ quiescent_LossHeadKernelIdeal (hLossHeadKernelIdeal := hLossHeadKernelIdeal)
    ∧ quiescent_LossHeadReferenceIdeal (hLossHeadReferenceIdeal := hLossHeadReferenceIdeal)
    ∧ quiescent_NormFKernel (hNormFKernel := hNormFKernel)
    ∧ quiescent_NormFKernelIdeal (hNormFKernelIdeal := hNormFKernelIdeal)
    ∧ quiescent_NormFReferenceIdeal (hNormFReferenceIdeal := hNormFReferenceIdeal)
    ∧ quiescent_MergeFKernel (hMergeFKernel := hMergeFKernel)
    ∧ quiescent_MergeFKernelIdeal (hMergeFKernelIdeal := hMergeFKernelIdeal)
    ∧ quiescent_MergeFReferenceIdeal (hMergeFReferenceIdeal := hMergeFReferenceIdeal)
    ∧ quiescent_GluFKernel (hGluFKernel := hGluFKernel)
    ∧ quiescent_GluFKernelIdeal (hGluFKernelIdeal := hGluFKernelIdeal)
    ∧ quiescent_GluFReferenceIdeal (hGluFReferenceIdeal := hGluFReferenceIdeal)
    ∧ quiescent_CombKernel (hCombKernel := hCombKernel)
    ∧ quiescent_CombKernelIdeal (hCombKernelIdeal := hCombKernelIdeal)
    ∧ quiescent_CombKernelIdeal_pre_weights_finite (hCombKernelIdeal := hCombKernelIdeal) (hPre_weights_finite := hPre_weights_finite)
    ∧ quiescent_CombReferenceIdeal (hCombReferenceIdeal := hCombReferenceIdeal)
    ∧ quiescent_CombReferenceIdeal_pre_weights_finite (hCombReferenceIdeal := hCombReferenceIdeal) (hPre_weights_finite := hPre_weights_finite)
    ∧ quiescent_CombBKernel (hCombBKernel := hCombBKernel)
    ∧ quiescent_CombBKernelIdeal (hCombBKernelIdeal := hCombBKernelIdeal)
    ∧ quiescent_CombBKernelIdeal_pre_all_finite (hCombBKernelIdeal := hCombBKernelIdeal) (hPre_all_finite := hPre_all_finite)
    ∧ quiescent_CombBReferenceIdeal (hCombBReferenceIdeal := hCombBReferenceIdeal)
    ∧ quiescent_CombBReferenceIdeal_pre_all_finite (hCombBReferenceIdeal := hCombBReferenceIdeal) (hPre_all_finite := hPre_all_finite)
    ∧ preserves_MergeKernel_MergeKernelIdeal
    ∧ algebraic_MergeKernelIdeal_MergeReferenceIdeal (hMergeKernelIdeal := hMergeKernelIdeal) (hMergeReferenceIdeal := hMergeReferenceIdeal)
    ∧ preserves_GluKernel_GluKernelIdeal
    ∧ algebraic_GluKernelIdeal_GluReferenceIdeal (hGluKernelIdeal := hGluKernelIdeal) (hGluReferenceIdeal := hGluReferenceIdeal)
    ∧ preserves_NormKernel_NormKernelIdeal
    ∧ algebraic_NormKernelIdeal_NormReferenceIdeal (hNormKernelIdeal := hNormKernelIdeal) (hNormReferenceIdeal := hNormReferenceIdeal)
    ∧ preserves_DHKernel_DHKernelIdeal
    ∧ algebraic_DHKernelIdeal_DHReferenceIdeal (hDHKernelIdeal := hDHKernelIdeal) (hDHReferenceIdeal := hDHReferenceIdeal)
    ∧ preserves_GWinAKernel_GWinAKernelIdeal
    ∧ algebraic_GWinAKernelIdeal_GWinAReferenceIdeal (hGWinAKernelIdeal := hGWinAKernelIdeal) (hGWinAReferenceIdeal := hGWinAReferenceIdeal)
    ∧ preserves_GWinQKernel_GWinQKernelIdeal
    ∧ algebraic_GWinQKernelIdeal_GWinQReferenceIdeal (hGWinQKernelIdeal := hGWinQKernelIdeal) (hGWinQReferenceIdeal := hGWinQReferenceIdeal)
    ∧ preserves_GWinGKernel_GWinGKernelIdeal
    ∧ algebraic_GWinGKernelIdeal_GWinGReferenceIdeal (hGWinGKernelIdeal := hGWinGKernelIdeal) (hGWinGReferenceIdeal := hGWinGReferenceIdeal)
    ∧ preserves_GWoutKernel_GWoutKernelIdeal
    ∧ algebraic_GWoutKernelIdeal_GWoutReferenceIdeal (hGWoutKernelIdeal := hGWoutKernelIdeal) (hGWoutReferenceIdeal := hGWoutReferenceIdeal)
    ∧ preserves_GProjAKernel_GProjAKernelIdeal
    ∧ algebraic_GProjAKernelIdeal_GProjAReferenceIdeal (hGProjAKernelIdeal := hGProjAKernelIdeal) (hGProjAReferenceIdeal := hGProjAReferenceIdeal)
    ∧ preserves_GProjBKernel_GProjBKernelIdeal
    ∧ algebraic_GProjBKernelIdeal_GProjBReferenceIdeal (hGProjBKernelIdeal := hGProjBKernelIdeal) (hGProjBReferenceIdeal := hGProjBReferenceIdeal)
    ∧ preserves_GProjCKernel_GProjCKernelIdeal
    ∧ algebraic_GProjCKernelIdeal_GProjCReferenceIdeal (hGProjCKernelIdeal := hGProjCKernelIdeal) (hGProjCReferenceIdeal := hGProjCReferenceIdeal)
    ∧ preserves_GGluKernel_GGluKernelIdeal
    ∧ algebraic_GGluKernelIdeal_GGluReferenceIdeal (hGGluKernelIdeal := hGGluKernelIdeal) (hGGluReferenceIdeal := hGGluReferenceIdeal)
    ∧ preserves_DMergedKernel_DMergedKernelIdeal
    ∧ algebraic_DMergedKernelIdeal_DMergedReferenceIdeal (hDMergedKernelIdeal := hDMergedKernelIdeal) (hDMergedReferenceIdeal := hDMergedReferenceIdeal)
    ∧ preserves_DYaKernel_DYaKernelIdeal
    ∧ algebraic_DYaKernelIdeal_DYaReferenceIdeal (hDYaKernelIdeal := hDYaKernelIdeal) (hDYaReferenceIdeal := hDYaReferenceIdeal)
    ∧ preserves_DYbKernel_DYbKernelIdeal
    ∧ algebraic_DYbKernelIdeal_DYbReferenceIdeal (hDYbKernelIdeal := hDYbKernelIdeal) (hDYbReferenceIdeal := hDYbReferenceIdeal)
    ∧ preserves_DYcKernel_DYcKernelIdeal
    ∧ algebraic_DYcKernelIdeal_DYcReferenceIdeal (hDYcKernelIdeal := hDYcKernelIdeal) (hDYcReferenceIdeal := hDYcReferenceIdeal)
    ∧ preserves_DGKernel_DGKernelIdeal
    ∧ algebraic_DGKernelIdeal_DGReferenceIdeal (hDGKernelIdeal := hDGKernelIdeal) (hDGReferenceIdeal := hDGReferenceIdeal)
    ∧ preserves_InAKernel_InAKernelIdeal
    ∧ algebraic_InAKernelIdeal_InAReferenceIdeal (hInAKernelIdeal := hInAKernelIdeal) (hInAReferenceIdeal := hInAReferenceIdeal)
    ∧ preserves_InQKernel_InQKernelIdeal
    ∧ algebraic_InQKernelIdeal_InQReferenceIdeal (hInQKernelIdeal := hInQKernelIdeal) (hInQReferenceIdeal := hInQReferenceIdeal)
    ∧ preserves_InGKernel_InGKernelIdeal
    ∧ algebraic_InGKernelIdeal_InGReferenceIdeal (hInGKernelIdeal := hInGKernelIdeal) (hInGReferenceIdeal := hInGReferenceIdeal)
    ∧ preserves_ProjAKernel_ProjAKernelIdeal
    ∧ algebraic_ProjAKernelIdeal_ProjAReferenceIdeal (hProjAKernelIdeal := hProjAKernelIdeal) (hProjAReferenceIdeal := hProjAReferenceIdeal)
    ∧ preserves_ProjBKernel_ProjBKernelIdeal
    ∧ algebraic_ProjBKernelIdeal_ProjBReferenceIdeal (hProjBKernelIdeal := hProjBKernelIdeal) (hProjBReferenceIdeal := hProjBReferenceIdeal)
    ∧ preserves_ProjCKernel_ProjCKernelIdeal
    ∧ algebraic_ProjCKernelIdeal_ProjCReferenceIdeal (hProjCKernelIdeal := hProjCKernelIdeal) (hProjCReferenceIdeal := hProjCReferenceIdeal)
    ∧ preserves_Glu1Kernel_Glu1KernelIdeal
    ∧ algebraic_Glu1KernelIdeal_Glu1ReferenceIdeal (hGlu1KernelIdeal := hGlu1KernelIdeal) (hGlu1ReferenceIdeal := hGlu1ReferenceIdeal)
    ∧ preserves_WOutKernel_WOutKernelIdeal
    ∧ algebraic_WOutKernelIdeal_WOutReferenceIdeal (hWOutKernelIdeal := hWOutKernelIdeal) (hWOutReferenceIdeal := hWOutReferenceIdeal)
    ∧ preserves_OptWInKernel_OptWInKernelIdeal
    ∧ algebraic_OptWInKernelIdeal_OptWInReferenceIdeal (hOptWInKernelIdeal := hOptWInKernelIdeal) (hOptWInReferenceIdeal := hOptWInReferenceIdeal)
    ∧ preserves_OptGluWKernel_OptGluWKernelIdeal
    ∧ algebraic_OptGluWKernelIdeal_OptGluWReferenceIdeal (hOptGluWKernelIdeal := hOptGluWKernelIdeal) (hOptGluWReferenceIdeal := hOptGluWReferenceIdeal)
    ∧ preserves_OptWOutKernel_OptWOutKernelIdeal
    ∧ algebraic_OptWOutKernelIdeal_OptWOutReferenceIdeal (hOptWOutKernelIdeal := hOptWOutKernelIdeal) (hOptWOutReferenceIdeal := hOptWOutReferenceIdeal)
    ∧ preserves_OptProjAKernel_OptProjAKernelIdeal
    ∧ algebraic_OptProjAKernelIdeal_OptProjAReferenceIdeal (hOptProjAKernelIdeal := hOptProjAKernelIdeal) (hOptProjAReferenceIdeal := hOptProjAReferenceIdeal)
    ∧ preserves_OptProjBKernel_OptProjBKernelIdeal
    ∧ algebraic_OptProjBKernelIdeal_OptProjBReferenceIdeal (hOptProjBKernelIdeal := hOptProjBKernelIdeal) (hOptProjBReferenceIdeal := hOptProjBReferenceIdeal)
    ∧ preserves_OptProjCKernel_OptProjCKernelIdeal
    ∧ algebraic_OptProjCKernelIdeal_OptProjCReferenceIdeal (hOptProjCKernelIdeal := hOptProjCKernelIdeal) (hOptProjCReferenceIdeal := hOptProjCReferenceIdeal)
    ∧ preserves_OptNormKernel_OptNormKernelIdeal
    ∧ algebraic_OptNormKernelIdeal_OptNormReferenceIdeal (hOptNormKernelIdeal := hOptNormKernelIdeal) (hOptNormReferenceIdeal := hOptNormReferenceIdeal)
    ∧ preserves_OptAKernel_OptAKernelIdeal
    ∧ algebraic_OptAKernelIdeal_OptAReferenceIdeal (hOptAKernelIdeal := hOptAKernelIdeal) (hOptAReferenceIdeal := hOptAReferenceIdeal)
    ∧ preserves_OptStepKernel_OptStepKernelIdeal
    ∧ algebraic_OptStepKernelIdeal_OptStepReferenceIdeal (hOptStepKernelIdeal := hOptStepKernelIdeal) (hOptStepReferenceIdeal := hOptStepReferenceIdeal)
    ∧ preserves_OptBKernel_OptBKernelIdeal
    ∧ algebraic_OptBKernelIdeal_OptBReferenceIdeal (hOptBKernelIdeal := hOptBKernelIdeal) (hOptBReferenceIdeal := hOptBReferenceIdeal)
    ∧ preserves_OptCKernel_OptCKernelIdeal
    ∧ algebraic_OptCKernelIdeal_OptCReferenceIdeal (hOptCKernelIdeal := hOptCKernelIdeal) (hOptCReferenceIdeal := hOptCReferenceIdeal)
    ∧ preserves_OptDKernel_OptDKernelIdeal
    ∧ algebraic_OptDKernelIdeal_OptDReferenceIdeal (hOptDKernelIdeal := hOptDKernelIdeal) (hOptDReferenceIdeal := hOptDReferenceIdeal)
    ∧ preserves_OptQKernel_OptQKernelIdeal
    ∧ algebraic_OptQKernelIdeal_OptQReferenceIdeal (hOptQKernelIdeal := hOptQKernelIdeal) (hOptQReferenceIdeal := hOptQReferenceIdeal)
    ∧ preserves_OptConvWKernel_OptConvWKernelIdeal
    ∧ algebraic_OptConvWKernelIdeal_OptConvWReferenceIdeal (hOptConvWKernelIdeal := hOptConvWKernelIdeal) (hOptConvWReferenceIdeal := hOptConvWReferenceIdeal)
    ∧ preserves_OptConvBKernel_OptConvBKernelIdeal
    ∧ algebraic_OptConvBKernelIdeal_OptConvBReferenceIdeal (hOptConvBKernelIdeal := hOptConvBKernelIdeal) (hOptConvBReferenceIdeal := hOptConvBReferenceIdeal)
    ∧ preserves_OptDtKernel_OptDtKernelIdeal
    ∧ algebraic_OptDtKernelIdeal_OptDtReferenceIdeal (hOptDtKernelIdeal := hOptDtKernelIdeal) (hOptDtReferenceIdeal := hOptDtReferenceIdeal)
    ∧ preserves_OptSsdNormKernel_OptSsdNormKernelIdeal
    ∧ algebraic_OptSsdNormKernelIdeal_OptSsdNormReferenceIdeal (hOptSsdNormKernelIdeal := hOptSsdNormKernelIdeal) (hOptSsdNormReferenceIdeal := hOptSsdNormReferenceIdeal)
    ∧ preserves_SumSmallKernel_SumSmallKernelIdeal
    ∧ algebraic_SumSmallKernelIdeal_SumSmallReferenceIdeal (hSumSmallKernelIdeal := hSumSmallKernelIdeal) (hSumSmallReferenceIdeal := hSumSmallReferenceIdeal)
    ∧ preserves_LossHeadKernel_LossHeadKernelIdeal
    ∧ algebraic_LossHeadKernelIdeal_LossHeadReferenceIdeal (hLossHeadKernelIdeal := hLossHeadKernelIdeal) (hLossHeadReferenceIdeal := hLossHeadReferenceIdeal)
    ∧ preserves_NormFKernel_NormFKernelIdeal
    ∧ algebraic_NormFKernelIdeal_NormFReferenceIdeal (hNormFKernelIdeal := hNormFKernelIdeal) (hNormFReferenceIdeal := hNormFReferenceIdeal)
    ∧ preserves_MergeFKernel_MergeFKernelIdeal
    ∧ algebraic_MergeFKernelIdeal_MergeFReferenceIdeal (hMergeFKernelIdeal := hMergeFKernelIdeal) (hMergeFReferenceIdeal := hMergeFReferenceIdeal)
    ∧ preserves_GluFKernel_GluFKernelIdeal
    ∧ algebraic_GluFKernelIdeal_GluFReferenceIdeal (hGluFKernelIdeal := hGluFKernelIdeal) (hGluFReferenceIdeal := hGluFReferenceIdeal)
    ∧ preserves_CombKernel_CombKernelIdeal
    ∧ algebraic_CombKernelIdeal_CombReferenceIdeal_pre_weights_finite (hCombKernelIdeal := hCombKernelIdeal) (hCombReferenceIdeal := hCombReferenceIdeal) (hPre_weights_finite := hPre_weights_finite)
    ∧ preserves_CombBKernel_CombBKernelIdeal
    ∧ algebraic_CombBKernelIdeal_CombBReferenceIdeal_pre_all_finite (hCombBKernelIdeal := hCombBKernelIdeal) (hCombBReferenceIdeal := hCombBReferenceIdeal) (hPre_all_finite := hPre_all_finite)
-- ==== Pre_all_finite.lean ====
abbrev S8192x256 : Shape := ⟨2, ![8192, 256]⟩
abbrev S8192x2304 : Shape := ⟨2, ![8192, 2304]⟩
abbrev S_ : Shape := ⟨0, ![]⟩

class Facts : Prop where
  slices_S8192x2304_S8192x256_0_1280 : S8192x2304.Slices ![0, 1280] S8192x256
  bcast_S_S8192x256 : S_.BroadcastsInDim S8192x256 (![] : Fin 0 → Fin S8192x256.rank)

variable [Facts]

def fn_part2 {F : FTy → Type} [FloatOps F] (main_arg7 : FVec F S8192x256 .f32) (main_v0 : FVec F S8192x256 .f32) (main_v5 : IVec S8192x256 1) (main_v10 : IVec S8192x256 1) (main_v15 : IVec S8192x256 1) (main_v20 : IVec S8192x256 1) (main_v25 : IVec S8192x256 1) (main_v30 : IVec S8192x256 1) (main_v32 : IVec S8192x256 1) (main_v33 : FVec F S8192x256 .f32) : IVec S8192x256 1 :=
  let main_v34 : IVec S8192x256 1 := cmpf .ogt main_v0 main_v33
  let main_v35 : IVec S8192x256 1 := andi main_v32 main_v34
  let main_cst_13 : FVec F S_ .f32 := constant S_ .f32 0x7F800000#32
  let main_v36 : FVec F S8192x256 .f32 := broadcastInDim S8192x256 ![] bcast_S_S8192x256 main_cst_13
  let main_v37 : IVec S8192x256 1 := cmpf .olt main_arg7 main_v36
  let main_cst_14 : FVec F S_ .f32 := constant S_ .f32 0xFF800000#32
  let main_v38 : FVec F S8192x256 .f32 := broadcastInDim S8192x256 ![] bcast_S_S8192x256 main_cst_14
  let main_v39 : IVec S8192x256 1 := cmpf .ogt main_arg7 main_v38
  let main_v40 : IVec S8192x256 1 := andi main_v37 main_v39
  let main_v41 : IVec S8192x256 1 := andi main_v5 main_v10
  let main_v42 : IVec S8192x256 1 := andi main_v41 main_v15
  let main_v43 : IVec S8192x256 1 := andi main_v42 main_v20
  let main_v44 : IVec S8192x256 1 := andi main_v43 main_v25
  let main_v45 : IVec S8192x256 1 := andi main_v44 main_v30
  let main_v46 : IVec S8192x256 1 := andi main_v45 main_v35
  let main_v47 : IVec S8192x256 1 := andi main_v46 main_v40
  main_v47

def fn_part1 {F : FTy → Type} [FloatOps F] (main_arg3 : FVec F S8192x256 .f32) (main_arg4 : FVec F S8192x256 .f32) (main_arg5 : FVec F S8192x256 .f32) (main_arg7 : FVec F S8192x256 .f32) (main_v0 : FVec F S8192x256 .f32) (main_v5 : IVec S8192x256 1) (main_v10 : IVec S8192x256 1) (main_v15 : IVec S8192x256 1) (main_v16 : FVec F S8192x256 .f32) : IVec S8192x256 1 :=
  let main_v17 : IVec S8192x256 1 := cmpf .olt main_arg3 main_v16
  let main_cst_6 : FVec F S_ .f32 := constant S_ .f32 0xFF800000#32
  let main_v18 : FVec F S8192x256 .f32 := broadcastInDim S8192x256 ![] bcast_S_S8192x256 main_cst_6
  let main_v19 : IVec S8192x256 1 := cmpf .ogt main_arg3 main_v18
  let main_v20 : IVec S8192x256 1 := andi main_v17 main_v19
  let main_cst_7 : FVec F S_ .f32 := constant S_ .f32 0x7F800000#32
  let main_v21 : FVec F S8192x256 .f32 := broadcastInDim S8192x256 ![] bcast_S_S8192x256 main_cst_7
  let main_v22 : IVec S8192x256 1 := cmpf .olt main_arg4 main_v21
  let main_cst_8 : FVec F S_ .f32 := constant S_ .f32 0xFF800000#32
  let main_v23 : FVec F S8192x256 .f32 := broadcastInDim S8192x256 ![] bcast_S_S8192x256 main_cst_8
  let main_v24 : IVec S8192x256 1 := cmpf .ogt main_arg4 main_v23
  let main_v25 : IVec S8192x256 1 := andi main_v22 main_v24
  let main_cst_9 : FVec F S_ .f32 := constant S_ .f32 0x7F800000#32
  let main_v26 : FVec F S8192x256 .f32 := broadcastInDim S8192x256 ![] bcast_S_S8192x256 main_cst_9
  let main_v27 : IVec S8192x256 1 := cmpf .olt main_arg5 main_v26
  let main_cst_10 : FVec F S_ .f32 := constant S_ .f32 0xFF800000#32
  let main_v28 : FVec F S8192x256 .f32 := broadcastInDim S8192x256 ![] bcast_S_S8192x256 main_cst_10
  let main_v29 : IVec S8192x256 1 := cmpf .ogt main_arg5 main_v28
  let main_v30 : IVec S8192x256 1 := andi main_v27 main_v29
  let main_cst_11 : FVec F S_ .f32 := constant S_ .f32 0x7F800000#32
  let main_v31 : FVec F S8192x256 .f32 := broadcastInDim S8192x256 ![] bcast_S_S8192x256 main_cst_11
  let main_v32 : IVec S8192x256 1 := cmpf .olt main_v0 main_v31
  let main_cst_12 : FVec F S_ .f32 := constant S_ .f32 0xFF800000#32
  let main_v33 : FVec F S8192x256 .f32 := broadcastInDim S8192x256 ![] bcast_S_S8192x256 main_cst_12
  fn_part2 (F := F) main_arg7 main_v0 main_v5 main_v10 main_v15 main_v20 main_v25 main_v30 main_v32 main_v33

def fn {F : FTy → Type} [FloatOps F] (main_arg0 : FVec F S8192x256 .f32) (main_arg1 : FVec F S8192x256 .f32) (main_arg2 : FVec F S8192x256 .f32) (main_arg3 : FVec F S8192x256 .f32) (main_arg4 : FVec F S8192x256 .f32) (main_arg5 : FVec F S8192x256 .f32) (main_arg6 : FVec F S8192x2304 .f32) (main_arg7 : FVec F S8192x256 .f32) : IVec S8192x256 1 :=
  let main_v0 : FVec F S8192x256 .f32 := (extractStridedSlice S8192x256 ![0, 1280] · slices_S8192x2304_S8192x256_0_1280) main_arg6
  let main_cst : FVec F S_ .f32 := constant S_ .f32 0x7F800000#32
  let main_v1 : FVec F S8192x256 .f32 := broadcastInDim S8192x256 ![] bcast_S_S8192x256 main_cst
  let main_v2 : IVec S8192x256 1 := cmpf .olt main_arg0 main_v1
  let main_cst_0 : FVec F S_ .f32 := constant S_ .f32 0xFF800000#32
  let main_v3 : FVec F S8192x256 .f32 := broadcastInDim S8192x256 ![] bcast_S_S8192x256 main_cst_0
  let main_v4 : IVec S8192x256 1 := cmpf .ogt main_arg0 main_v3
  let main_v5 : IVec S8192x256 1 := andi main_v2 main_v4
  let main_cst_1 : FVec F S_ .f32 := constant S_ .f32 0x7F800000#32
  let main_v6 : FVec F S8192x256 .f32 := broadcastInDim S8192x256 ![] bcast_S_S8192x256 main_cst_1
  let main_v7 : IVec S8192x256 1 := cmpf .olt main_arg1 main_v6
  let main_cst_2 : FVec F S_ .f32 := constant S_ .f32 0xFF800000#32
  let main_v8 : FVec F S8192x256 .f32 := broadcastInDim S8192x256 ![] bcast_S_S8192x256 main_cst_2
  let main_v9 : IVec S8192x256 1 := cmpf .ogt main_arg1 main_v8
  let main_v10 : IVec S8192x256 1 := andi main_v7 main_v9
  let main_cst_3 : FVec F S_ .f32 := constant S_ .f32 0x7F800000#32
  let main_v11 : FVec F S8192x256 .f32 := broadcastInDim S8192x256 ![] bcast_S_S8192x256 main_cst_3
  let main_v12 : IVec S8192x256 1 := cmpf .olt main_arg2 main_v11
  let main_cst_4 : FVec F S_ .f32 := constant S_ .f32 0xFF800000#32
  let main_v13 : FVec F S8192x256 .f32 := broadcastInDim S8192x256 ![] bcast_S_S8192x256 main_cst_4
  let main_v14 : IVec S8192x256 1 := cmpf .ogt main_arg2 main_v13
  let main_v15 : IVec S8192x256 1 := andi main_v12 main_v14
  let main_cst_5 : FVec F S_ .f32 := constant S_ .f32 0x7F800000#32
  let main_v16 : FVec F S8192x256 .f32 := broadcastInDim S8192x256 ![] bcast_S_S8192x256 main_cst_5
  fn_part1 (F := F) main_arg3 main_arg4 main_arg5 main_arg7 main_v0 main_v5 main_v10 main_v15 main_v16
-- ==== Pre_weights_finite.lean ====
abbrev S8192x256 : Shape := ⟨2, ![8192, 256]⟩
abbrev S8192x2304 : Shape := ⟨2, ![8192, 2304]⟩
abbrev S_ : Shape := ⟨0, ![]⟩

class Facts : Prop where
  bcast_S_S8192x256 : S_.BroadcastsInDim S8192x256 (![] : Fin 0 → Fin S8192x256.rank)

variable [Facts]

def fn {F : FTy → Type} [FloatOps F] (main_arg0 : FVec F S8192x256 .f32) (main_arg1 : FVec F S8192x256 .f32) (main_arg2 : FVec F S8192x256 .f32) (main_arg3 : FVec F S8192x256 .f32) (main_arg4 : FVec F S8192x256 .f32) (main_arg5 : FVec F S8192x256 .f32) (main_arg6 : FVec F S8192x2304 .f32) : IVec S8192x256 1 :=
  let main_cst : FVec F S_ .f32 := constant S_ .f32 0x7F800000#32
  let main_v0 : FVec F S8192x256 .f32 := broadcastInDim S8192x256 ![] bcast_S_S8192x256 main_cst
  let main_v1 : IVec S8192x256 1 := cmpf .olt main_arg1 main_v0
  let main_cst_0 : FVec F S_ .f32 := constant S_ .f32 0xFF800000#32
  let main_v2 : FVec F S8192x256 .f32 := broadcastInDim S8192x256 ![] bcast_S_S8192x256 main_cst_0
  let main_v3 : IVec S8192x256 1 := cmpf .ogt main_arg1 main_v2
  let main_v4 : IVec S8192x256 1 := andi main_v1 main_v3
  let main_cst_1 : FVec F S_ .f32 := constant S_ .f32 0x7F800000#32
  let main_v5 : FVec F S8192x256 .f32 := broadcastInDim S8192x256 ![] bcast_S_S8192x256 main_cst_1
  let main_v6 : IVec S8192x256 1 := cmpf .olt main_arg3 main_v5
  let main_cst_2 : FVec F S_ .f32 := constant S_ .f32 0xFF800000#32
  let main_v7 : FVec F S8192x256 .f32 := broadcastInDim S8192x256 ![] bcast_S_S8192x256 main_cst_2
  let main_v8 : IVec S8192x256 1 := cmpf .ogt main_arg3 main_v7
  let main_v9 : IVec S8192x256 1 := andi main_v6 main_v8
  let main_v10 : IVec S8192x256 1 := andi main_v4 main_v9
  let main_cst_3 : FVec F S_ .f32 := constant S_ .f32 0x7F800000#32
  let main_v11 : FVec F S8192x256 .f32 := broadcastInDim S8192x256 ![] bcast_S_S8192x256 main_cst_3
  let main_v12 : IVec S8192x256 1 := cmpf .olt main_arg5 main_v11
  let main_cst_4 : FVec F S_ .f32 := constant S_ .f32 0xFF800000#32
  let main_v13 : FVec F S8192x256 .f32 := broadcastInDim S8192x256 ![] bcast_S_S8192x256 main_cst_4
  let main_v14 : IVec S8192x256 1 := cmpf .ogt main_arg5 main_v13
  let main_v15 : IVec S8192x256 1 := andi main_v12 main_v14
  let main_v16 : IVec S8192x256 1 := andi main_v10 main_v15
  main_v16
-- ==== MergeKernel.lean ====
abbrev S8192x1024 : Shape := ⟨2, ![8192, 1024]⟩
abbrev S8192x3072 : Shape := ⟨2, ![8192, 3072]⟩
abbrev S256x1024 : Shape := ⟨2, ![256, 1024]⟩
abbrev S256x3072 : Shape := ⟨2, ![256, 3072]⟩
abbrev S256x2048 : Shape := ⟨2, ![256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x3072, .f32⟩
  | .hbm, ⟨4, _⟩ => ⟨S8192x1024, .f32⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x3072, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x3072, .f32⟩
  | .local _ .vmem, ⟨7, _⟩ => ⟨S256x3072, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x3072, .bf16⟩
  | .local _ .vmem, ⟨17, _⟩ => ⟨S256x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeReferenceIdeal.lean ====
abbrev S8192x1024 : Shape := ⟨2, ![8192, 1024]⟩
abbrev S8192x3072 : Shape := ⟨2, ![8192, 3072]⟩
abbrev S_ : Shape := ⟨0, ![]⟩
abbrev S8192x3x1024 : Shape := ⟨3, ![8192, 3, 1024]⟩
abbrev S8192x1x1024 : Shape := ⟨3, ![8192, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S_, .f32⟩
  | .hbm, ⟨8, _⟩ => ⟨S8192x3072, .f32⟩
  | .hbm, ⟨9, _⟩ => ⟨S8192x3072, .f32⟩
  | .hbm, ⟨10, _⟩ => ⟨S_, .f32⟩
  | .hbm, ⟨11, _⟩ => ⟨S8192x3072, .f32⟩
  | .hbm, ⟨12, _⟩ => ⟨S8192x3072, .f32⟩
  | .hbm, ⟨13, _⟩ => ⟨S_, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S8192x3x1024, .f32⟩
  | .hbm, ⟨18, _⟩ => ⟨S8192x1x1024, .f32⟩
  | .hbm, ⟨19, _⟩ => ⟨S8192x1024, .f32⟩
  | .hbm, ⟨20, _⟩ => ⟨S8192x1024, .f32⟩
  | .hbm, ⟨21, _⟩ => ⟨S8192x1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1x1024, .f32⟩
  | .hbm, ⟨34, _⟩ => ⟨S_, .f32⟩
  | .hbm, ⟨35, _⟩ => ⟨S8192x3x1024, .f32⟩
  | .hbm, ⟨36, _⟩ => ⟨S8192x1024, .f32⟩
  | .hbm, ⟨37, _⟩ => ⟨S8192x1024, .f32⟩
  | .hbm, ⟨38, _⟩ => ⟨S8192x1x1024, .f32⟩
  | .hbm, ⟨39, _⟩ => ⟨S_, .f32⟩
  | .hbm, ⟨40, _⟩ => ⟨S8192x3x1024, .f32⟩
  | .hbm, ⟨41, _⟩ => ⟨S8192x3x1024, .f32⟩
  | .hbm, ⟨42, _⟩ => ⟨S8192x1024, .f32⟩
  | .hbm, ⟨43, _⟩ => ⟨S8192x1024, .f32⟩
  | .hbm, ⟨44, _⟩ => ⟨S8192x1x1024, .f32⟩
  | .hbm, ⟨45, _⟩ => ⟨S_, .f32⟩
  | .hbm, ⟨46, _⟩ => ⟨S8192x3x1024, .f32⟩
  | .hbm, ⟨47, _⟩ => ⟨S8192x3x1024, .f32⟩
  | .hbm, ⟨48, _⟩ => ⟨S8192x3072, .f32⟩
  | .hbm, ⟨49, _⟩ => ⟨S8192x3072, .f32⟩
  | .hbm, ⟨50, _⟩ => ⟨S8192x1024, .bf16⟩
  | .hbm, ⟨51, _⟩ => ⟨S8192x1024, .bf16⟩
  | .hbm, ⟨52, _⟩ => ⟨S8192x1024, .bf16⟩
  | .hbm, ⟨53, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== GluKernel.lean ====
abbrev S8192x512 : Shape := ⟨2, ![8192, 512]⟩
abbrev S8192x1152 : Shape := ⟨2, ![8192, 1152]⟩
abbrev S512 : Shape := ⟨1, ![512]⟩
abbrev S1x512 : Shape := ⟨2, ![1, 512]⟩
abbrev S512x512 : Shape := ⟨2, ![512, 512]⟩

abbrev nBuf : Space → Nat
  | .hbm => 10
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1152, .f32⟩
  | .hbm, ⟨3, _⟩ => ⟨S512, .f32⟩
  | .hbm, ⟨4, _⟩ => ⟨S8192x512, .f32⟩
  | .hbm, ⟨5, _⟩ => ⟨S1x512, .f32⟩
  | .hbm, ⟨6, _⟩ => ⟨S8192x512, .f32⟩
  | .hbm, ⟨7, _⟩ => ⟨S8192x512, .bf16⟩
  | .hbm, ⟨8, _⟩ => ⟨S8192x512, .bf16⟩
  | .hbm, ⟨9, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GluReferenceIdeal.lean ====
abbrev S8192x512 : Shape := ⟨2, ![8192, 512]⟩
abbrev S8192x1152 : Shape := ⟨2, ![8192, 1152]⟩
abbrev S512 : Shape := ⟨1, ![512]⟩
abbrev S1x512 : Shape := ⟨2, ![1, 512]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1152, .f32⟩
  | .hbm, ⟨3, _⟩ => ⟨S512, .f32⟩
  | .hbm, ⟨4, _⟩ => ⟨S8192x512, .f32⟩
  | .hbm, ⟨5, _⟩ => ⟨S8192x512, .f32⟩
  | .hbm, ⟨6, _⟩ => ⟨S1x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192x512, .f32⟩
  | .hbm, ⟨29, _⟩ => ⟨S8192x512, .f32⟩
  | .hbm, ⟨30, _⟩ => ⟨S_, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S512, .f32⟩
  | .hbm, ⟨47, _⟩ => ⟨S1x512, .f32⟩
  | .hbm, ⟨48, _⟩ => ⟨S_, .f32⟩
  | .hbm, ⟨49, _⟩ => ⟨S512, .f32⟩
  | .hbm, ⟨50, _⟩ => ⟨S8192x512, .bf16⟩
  | .hbm, ⟨51, _⟩ => ⟨S8192x512, .bf16⟩
  | .hbm, ⟨52, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v14_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v14_1 : Ref sig .tc := ⟨.hbm, 33, rfl⟩
abbrev main_v14_0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩
abbrev main_cst_3 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩

abbrev nD : Nat := 1
abbrev τ : Topo := Topo.v7x

variable {F : FTy → Type} [FloatOps F]
-- ==== NormKernel.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== DHKernel.lean ====
abbrev S1024x1152 : Shape := ⟨2, ![1024, 1152]⟩
abbrev S1024x2304 : Shape := ⟨2, ![1024, 2304]⟩
abbrev S1024x3072 : Shape := ⟨2, ![1024, 3072]⟩
abbrev S8192x1152 : Shape := ⟨2, ![8192, 1152]⟩
abbrev S8192x2304 : Shape := ⟨2, ![8192, 2304]⟩
abbrev S8192x3072 : Shape := ⟨2, ![8192, 3072]⟩
abbrev S8192x1024 : Shape := ⟨2, ![8192, 1024]⟩
abbrev S1024x384 : Shape := ⟨2, ![1024, 384]⟩
abbrev S1024x768 : Shape := ⟨2, ![1024, 768]⟩
abbrev S1024x1024 : Shape := ⟨2, ![1024, 1024]⟩

abbrev nBuf : Space → Nat
  | .hbm => 9
  | .vmem => 19
  | .smem => 0
  | _ => 0

abbrev bufTy : (tb : Table) → Fin (tcTables nBuf tb) → BufTy
  | .hbm, ⟨0, _⟩ => ⟨S1024x1152, .bf16⟩
  | .hbm, ⟨1, _⟩ => ⟨S1024x2304, .bf16⟩
  | .hbm, ⟨2, _⟩ => ⟨S1024x2304, .bf16⟩
  | .hbm, ⟨3, _⟩ => ⟨S1024x3072, .bf16⟩
  | .hbm, ⟨4, _⟩ => ⟨S8192x1152, .bf16⟩
  | .hbm, ⟨5, _⟩ => ⟨S8192x2304, .bf16⟩
  | .hbm, ⟨6, _⟩ => ⟨S8192x2304, .bf16⟩
  | .hbm, ⟨7, _⟩ => ⟨S8192x3072, .bf16⟩
  | .hbm, ⟨8, _⟩ => ⟨S8192x1024, .f32⟩
  | .local _ .vmem, ⟨0, _⟩ => ⟨S1024x384, .bf16⟩
  | .local _ .vmem, ⟨1, _⟩ => ⟨S1024x384, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1024x384, .bf16⟩
  | .local _ .vmem, ⟨9, _⟩ => ⟨S1024x384, .bf16⟩
  | .local _ .vmem, ⟨10, _⟩ => ⟨S1024x768, .bf16⟩
  | .local _ .vmem, ⟨11, _⟩ => ⟨S1024x768, .bf16⟩
  | .local _ .vmem, ⟨12, _⟩ => ⟨S1024x768, .bf16⟩
  | .local _ .vmem, ⟨13, _⟩ => ⟨S1024x768, .bf16⟩
  | .local _ .vmem, ⟨14, _⟩ => ⟨S1024x768, .bf16⟩
  | .local _ .vmem, ⟨15, _⟩ => ⟨S1024x768, .bf16⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | _, _ => ⟨S1024x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 13], ![false, false]⟩

def k0_cond6 (i : grid0.Coords) : BitVec 1 :=
  let arg1 : BitVec 32 := BitVec.ofNat 32 (i 1).val
  let c12_i32 : BitVec 32 := 12#32
  let v23 : BitVec 1 := Scalar.cmpi .eq arg1 c12_i32
  let v24 : BitVec 32 := Scalar.extui v23
  let c0_i32_9 : BitVec 32 := 0#32
  let v25 : BitVec 1 := Scalar.cmpi .ne v24 c0_i32_9
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  let c0_i32_2 : BitVec 32 := 0#32
  ![c0_i32_1.toNat, v2.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_7 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== DHReferenceIdeal.lean ====
abbrev S1024x1152 : Shape := ⟨2, ![1024, 1152]⟩
abbrev S1024x2304 : Shape := ⟨2, ![1024, 2304]⟩
abbrev S1024x3072 : Shape := ⟨2, ![1024, 3072]⟩
abbrev S8192x1152 : Shape := ⟨2, ![8192, 1152]⟩
abbrev S8192x2304 : Shape := ⟨2, ![8192, 2304]⟩
abbrev S8192x3072 : Shape := ⟨2, ![8192, 3072]⟩
abbrev S_ : Shape := ⟨0, ![]⟩
abbrev S8192x1024 : Shape := ⟨2, ![8192, 1024]⟩

abbrev nBuf : Space → Nat
  | .hbm => 29
  | .vmem => 0
  | .smem => 0
  | _ => 0

abbrev bufTy : (tb : Table) → Fin (tcTables nBuf tb) → BufTy
  | .hbm, ⟨0, _⟩ => ⟨S1024x1152, .bf16⟩
  | .hbm, ⟨1, _⟩ => ⟨S1024x2304, .bf16⟩
  | .hbm, ⟨2, _⟩ => ⟨S1024x2304, .bf16⟩
  | .hbm, ⟨3, _⟩ => ⟨S1024x3072, .bf16⟩
  | .hbm, ⟨4, _⟩ => ⟨S8192x1152, .bf16⟩
  | .hbm, ⟨5, _⟩ => ⟨S8192x2304, .bf16⟩
  | .hbm, ⟨6, _⟩ => ⟨S8192x2304, .bf16⟩
  | .hbm, ⟨7, _⟩ => ⟨S8192x3072, .bf16⟩
  | .hbm, ⟨8, _⟩ => ⟨S_, .f32⟩
  | .hbm, ⟨9, _⟩ => ⟨S8192x1024, .f32⟩
  | .hbm, ⟨10, _⟩ => ⟨S1024x1152, .f32⟩
  | .hbm, ⟨11, _⟩ => ⟨S8192x1152, .f32⟩
  | .hbm, ⟨12, _⟩ => ⟨S1024x2304, .f32⟩
  | .hbm, ⟨13, _⟩ => ⟨S8192x2304, .f32⟩
  | .hbm, ⟨14, _⟩ => ⟨S1024x2304, .f32⟩
  | .hbm, ⟨15, _⟩ => ⟨S8192x2304, .f32⟩
  | .hbm, ⟨16, _⟩ => ⟨S1024x3072, .f32⟩
  | .hbm, ⟨17, _⟩ => ⟨S8192x3072, .f32⟩
  | .hbm, ⟨18, _⟩ => ⟨S8192x1152, .f32⟩
  | .hbm, ⟨19, _⟩ => ⟨S8192x2304, .f32⟩
  | .hbm, ⟨20, _⟩ => ⟨S8192x2304, .f32⟩
  | .hbm, ⟨21, _⟩ => ⟨S8192x3072, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | _, _ => ⟨S1024x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== GWinAKernel.lean ====
abbrev S8192x1024 : Shape := ⟨2, ![8192, 1024]⟩
abbrev S8192x1152 : Shape := ⟨2, ![8192, 1152]⟩
abbrev S1024x1152 : Shape := ⟨2, ![1024, 1152]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1152, .bf16⟩
  | .hbm, ⟨2, _⟩ => ⟨S1024x1152, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .bf16⟩
  | .local _ .vmem, ⟨5, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GWinAReferenceIdeal.lean ====
abbrev S8192x1024 : Shape := ⟨2, ![8192, 1024]⟩
abbrev S8192x1152 : Shape := ⟨2, ![8192, 1152]⟩
abbrev S_ : Shape := ⟨0, ![]⟩
abbrev S1024x1152 : Shape := ⟨2, ![1024, 1152]⟩
abbrev S1152x1024 : Shape := ⟨2, ![1152, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1152, .bf16⟩
  | .hbm, ⟨2, _⟩ => ⟨S_, .f32⟩
  | .hbm, ⟨3, _⟩ => ⟨S1024x1152, .f32⟩
  | .hbm, ⟨4, _⟩ => ⟨S8192x1024, .f32⟩
  | .hbm, ⟨5, _⟩ => ⟨S8192x1152, .f32⟩
  | .hbm, ⟨6, _⟩ => ⟨S8192x1152, .f32⟩
  | .hbm, ⟨7, _⟩ => ⟨S1152x1024, .f32⟩
  | .hbm, ⟨8, _⟩ => ⟨S1024x1152, .f32⟩
  | .hbm, ⟨9, _⟩ => ⟨S1024x1152, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GWinQKernel.lean ====
abbrev S8192x1024 : Shape := ⟨2, ![8192, 1024]⟩
abbrev S8192x2304 : Shape := ⟨2, ![8192, 2304]⟩
abbrev S1024x2304 : Shape := ⟨2, ![1024, 2304]⟩
abbrev S1024x1024 : Shape := ⟨2, ![1024, 1024]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2304, .bf16⟩
  | .hbm, ⟨2, _⟩ => ⟨S1024x2304, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GWinQReferenceIdeal.lean ====
abbrev S8192x1024 : Shape := ⟨2, ![8192, 1024]⟩
abbrev S8192x2304 : Shape := ⟨2, ![8192, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2304, .bf16⟩
  | .hbm, ⟨2, _⟩ => ⟨S_, .f32⟩
  | .hbm, ⟨3, _⟩ => ⟨S1024x2304, .f32⟩
  | .hbm, ⟨4, _⟩ => ⟨S8192x1024, .f32⟩
  | .hbm, ⟨5, _⟩ => ⟨S8192x2304, .f32⟩
  | .hbm, ⟨6, _⟩ => ⟨S8192x2304, .f32⟩
  | .hbm, ⟨7, _⟩ => ⟨S2304x1024, .f32⟩
  | .hbm, ⟨8, _⟩ => ⟨S1024x2304, .f32⟩
  | .hbm, ⟨9, _⟩ => ⟨S1024x2304, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GWinGKernel.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GWinGReferenceIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GWoutKernel.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GWoutReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GProjAKernel.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GProjAReferenceIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GProjBKernel.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GProjBReferenceIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x256, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GProjCKernel.lean ====
abbrev S8192x768 : Shape := ⟨2, ![8192, 768]⟩
abbrev S8192x1024 : Shape := ⟨2, ![8192, 1024]⟩
abbrev S768x1024 : Shape := ⟨2, ![768, 1024]⟩
abbrev S1024x768 : Shape := ⟨2, ![1024, 768]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x768, .bf16⟩
  | .hbm, ⟨1, _⟩ => ⟨S8192x1024, .bf16⟩
  | .hbm, ⟨2, _⟩ => ⟨S768x1024, .bf16⟩
  | .local _ .vmem, ⟨0, _⟩ => ⟨S1024x768, .bf16⟩
  | .local _ .vmem, ⟨1, _⟩ => ⟨S1024x768, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .bf16⟩
  | .local _ .vmem, ⟨5, _⟩ => ⟨S768x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GProjCReferenceIdeal.lean ====
abbrev S8192x768 : Shape := ⟨2, ![8192, 768]⟩
abbrev S8192x1024 : Shape := ⟨2, ![8192, 1024]⟩
abbrev S_ : Shape := ⟨0, ![]⟩
abbrev S768x1024 : Shape := ⟨2, ![768, 1024]⟩
abbrev S1024x768 : Shape := ⟨2, ![1024, 768]⟩

abbrev nBuf : Space → Nat
  | .hbm => 10
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x1024, .bf16⟩
  | .hbm, ⟨2, _⟩ => ⟨S_, .f32⟩
  | .hbm, ⟨3, _⟩ => ⟨S768x1024, .f32⟩
  | .hbm, ⟨4, _⟩ => ⟨S8192x768, .f32⟩
  | .hbm, ⟨5, _⟩ => ⟨S8192x1024, .f32⟩
  | .hbm, ⟨6, _⟩ => ⟨S8192x1024, .f32⟩
  | .hbm, ⟨7, _⟩ => ⟨S1024x768, .f32⟩
  | .hbm, ⟨8, _⟩ => ⟨S768x1024, .f32⟩
  | .hbm, ⟨9, _⟩ => ⟨S768x1024, .bf16⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GGluKernel.lean ====
abbrev S8192x512 : Shape := ⟨2, ![8192, 512]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x512, .bf16⟩
  | .hbm, ⟨2, _⟩ => ⟨S512x512, .bf16⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GGluReferenceIdeal.lean ====
abbrev S8192x512 : Shape := ⟨2, ![8192, 512]⟩
abbrev S_ : Shape := ⟨0, ![]⟩
abbrev S512x512 : Shape := ⟨2, ![512, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .bf16⟩
  | .hbm, ⟨2, _⟩ => ⟨S_, .f32⟩
  | .hbm, ⟨3, _⟩ => ⟨S512x512, .f32⟩
  | .hbm, ⟨4, _⟩ => ⟨S8192x512, .f32⟩
  | .hbm, ⟨5, _⟩ => ⟨S8192x512, .f32⟩
  | .hbm, ⟨6, _⟩ => ⟨S512x512, .f32⟩
  | .hbm, ⟨7, _⟩ => ⟨S512x512, .f32⟩
  | .hbm, ⟨8, _⟩ => ⟨S512x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DMergedKernel.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMergedReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DYaKernel.lean ====
abbrev S8192x1024 : Shape := ⟨2, ![8192, 1024]⟩
abbrev S512x1024 : Shape := ⟨2, ![512, 1024]⟩
abbrev S8192x512 : Shape := ⟨2, ![8192, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYaReferenceIdeal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DYbKernel.lean ====
abbrev S8192x1024 : Shape := ⟨2, ![8192, 1024]⟩
abbrev S256x1024 : Shape := ⟨2, ![256, 1024]⟩
abbrev S8192x256 : Shape := ⟨2, ![8192, 256]⟩
abbrev S512x1024 : Shape := ⟨2, ![512, 1024]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S8192x256, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S512x256, .f32⟩
  | .local _ .vmem, ⟨4, _⟩ => ⟨S512x256, .f32⟩
  | .local _ .vmem, ⟨5, _⟩ => ⟨S512x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYbReferenceIdeal.lean ====
abbrev S8192x1024 : Shape := ⟨2, ![8192, 1024]⟩
abbrev S256x1024 : Shape := ⟨2, ![256, 1024]⟩
abbrev S_ : Shape := ⟨0, ![]⟩
abbrev S8192x256 : Shape := ⟨2, ![8192, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S_, .f32⟩
  | .hbm, ⟨3, _⟩ => ⟨S8192x256, .f32⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S8192x256, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DYcKernel.lean ====
abbrev S8192x1024 : Shape := ⟨2, ![8192, 1024]⟩
abbrev S768x1024 : Shape := ⟨2, ![768, 1024]⟩
abbrev S8192x768 : Shape := ⟨2, ![8192, 768]⟩
abbrev S512x1024 : Shape := ⟨2, ![512, 1024]⟩
abbrev S512x768 : Shape := ⟨2, ![512, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S768x1024, .bf16⟩
  | .hbm, ⟨2, _⟩ => ⟨S8192x768, .f32⟩
  | .local _ .vmem, ⟨0, _⟩ => ⟨S512x1024, .bf16⟩
  | .local _ .vmem, ⟨1, _⟩ => ⟨S512x1024, .bf16⟩
  | .local _ .vmem, ⟨2, _⟩ => ⟨S768x1024, .bf16⟩
  | .local _ .vmem, ⟨3, _⟩ => ⟨S512x768, .f32⟩
  | .local _ .vmem, ⟨4, _⟩ => ⟨S512x768, .f32⟩
  | .local _ .vmem, ⟨5, _⟩ => ⟨S512x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYcReferenceIdeal.lean ====
abbrev S8192x1024 : Shape := ⟨2, ![8192, 1024]⟩
abbrev S768x1024 : Shape := ⟨2, ![768, 1024]⟩
abbrev S_ : Shape := ⟨0, ![]⟩
abbrev S8192x768 : Shape := ⟨2, ![8192, 768]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S768x1024, .bf16⟩
  | .hbm, ⟨2, _⟩ => ⟨S_, .f32⟩
  | .hbm, ⟨3, _⟩ => ⟨S8192x768, .f32⟩
  | .hbm, ⟨4, _⟩ => ⟨S768x1024, .f32⟩
  | .hbm, ⟨5, _⟩ => ⟨S8192x1024, .f32⟩
  | .hbm, ⟨6, _⟩ => ⟨S8192x1024, .f32⟩
  | .hbm, ⟨7, _⟩ => ⟨S8192x768, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DGKernel.lean ====
abbrev S8192x512 : Shape := ⟨2, ![8192, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S512x512, .bf16⟩
  | .hbm, ⟨2, _⟩ => ⟨S8192x512, .f32⟩
  | .hbm, ⟨3, _⟩ => ⟨S8192x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DGReferenceIdeal.lean ====
abbrev S8192x512 : Shape := ⟨2, ![8192, 512]⟩
abbrev S512x512 : Shape := ⟨2, ![512, 512]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x512, .bf16⟩
  | .hbm, ⟨2, _⟩ => ⟨S8192x512, .f32⟩
  | .hbm, ⟨3, _⟩ => ⟨S_, .f32⟩
  | .hbm, ⟨4, _⟩ => ⟨S8192x512, .f32⟩
  | .hbm, ⟨5, _⟩ => ⟨S512x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InAKernel.lean ====
abbrev S8192x1024 : Shape := ⟨2, ![8192, 1024]⟩
abbrev S1024x1152 : Shape := ⟨2, ![1024, 1152]⟩
abbrev S8192x1152 : Shape := ⟨2, ![8192, 1152]⟩
abbrev S512x1024 : Shape := ⟨2, ![512, 1024]⟩
abbrev S512x1152 : Shape := ⟨2, ![512, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1152, .bf16⟩
  | .hbm, ⟨2, _⟩ => ⟨S8192x1152, .f32⟩
  | .local _ .vmem, ⟨0, _⟩ => ⟨S512x1024, .bf16⟩
  | .local _ .vmem, ⟨1, _⟩ => ⟨S512x1024, .bf16⟩
  | .local _ .vmem, ⟨2, _⟩ => ⟨S1024x1152, .bf16⟩
  | .local _ .vmem, ⟨3, _⟩ => ⟨S512x1152, .f32⟩
  | .local _ .vmem, ⟨4, _⟩ => ⟨S512x1152, .f32⟩
  | .local _ .vmem, ⟨5, _⟩ => ⟨S512x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InAReferenceIdeal.lean ====
abbrev S8192x1024 : Shape := ⟨2, ![8192, 1024]⟩
abbrev S1024x1152 : Shape := ⟨2, ![1024, 1152]⟩
abbrev S8192x1152 : Shape := ⟨2, ![8192, 1152]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1152, .bf16⟩
  | .hbm, ⟨2, _⟩ => ⟨S8192x1024, .f32⟩
  | .hbm, ⟨3, _⟩ => ⟨S1024x1152, .f32⟩
  | .hbm, ⟨4, _⟩ => ⟨S8192x1152, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InQKernel.lean ====
abbrev S8192x1024 : Shape := ⟨2, ![8192, 1024]⟩
abbrev S1024x2304 : Shape := ⟨2, ![1024, 2304]⟩
abbrev S8192x2304 : Shape := ⟨2, ![8192, 2304]⟩
abbrev S512x1024 : Shape := ⟨2, ![512, 1024]⟩
abbrev S1024x1152 : Shape := ⟨2, ![1024, 1152]⟩
abbrev S512x1152 : Shape := ⟨2, ![512, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2304, .bf16⟩
  | .hbm, ⟨2, _⟩ => ⟨S8192x2304, .f32⟩
  | .local _ .vmem, ⟨0, _⟩ => ⟨S512x1024, .bf16⟩
  | .local _ .vmem, ⟨1, _⟩ => ⟨S512x1024, .bf16⟩
  | .local _ .vmem, ⟨2, _⟩ => ⟨S1024x1152, .bf16⟩
  | .local _ .vmem, ⟨3, _⟩ => ⟨S1024x1152, .bf16⟩
  | .local _ .vmem, ⟨4, _⟩ => ⟨S512x1152, .f32⟩
  | .local _ .vmem, ⟨5, _⟩ => ⟨S512x1152, .f32⟩
  | .local _ .vmem, ⟨6, _⟩ => ⟨S512x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InQReferenceIdeal.lean ====
abbrev S8192x1024 : Shape := ⟨2, ![8192, 1024]⟩
abbrev S1024x2304 : Shape := ⟨2, ![1024, 2304]⟩
abbrev S8192x2304 : Shape := ⟨2, ![8192, 2304]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2304, .bf16⟩
  | .hbm, ⟨2, _⟩ => ⟨S8192x1024, .f32⟩
  | .hbm, ⟨3, _⟩ => ⟨S1024x2304, .f32⟩
  | .hbm, ⟨4, _⟩ => ⟨S8192x2304, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InGKernel.lean ====
abbrev S8192x1024 : Shape := ⟨2, ![8192, 1024]⟩
abbrev S1024x3072 : Shape := ⟨2, ![1024, 3072]⟩
abbrev S8192x3072 : Shape := ⟨2, ![8192, 3072]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGReferenceIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjAKernel.lean ====
abbrev S8192x512 : Shape := ⟨2, ![8192, 512]⟩
abbrev S512x1024 : Shape := ⟨2, ![512, 1024]⟩
abbrev S8192x1024 : Shape := ⟨2, ![8192, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjAReferenceIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjBKernel.lean ====
abbrev S8192x256 : Shape := ⟨2, ![8192, 256]⟩
abbrev S256x1024 : Shape := ⟨2, ![256, 1024]⟩
abbrev S8192x1024 : Shape := ⟨2, ![8192, 1024]⟩
abbrev S512x256 : Shape := ⟨2, ![512, 256]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x1024, .f32⟩
  | .local _ .vmem, ⟨0, _⟩ => ⟨S512x256, .bf16⟩
  | .local _ .vmem, ⟨1, _⟩ => ⟨S512x256, .bf16⟩
  | .local _ .vmem, ⟨2, _⟩ => ⟨S256x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBReferenceIdeal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x256, .f32⟩
  | .hbm, ⟨3, _⟩ => ⟨S256x1024, .f32⟩
  | .hbm, ⟨4, _⟩ => ⟨S8192x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjCKernel.lean ====
abbrev S8192x768 : Shape := ⟨2, ![8192, 768]⟩
abbrev S768x1024 : Shape := ⟨2, ![768, 1024]⟩
abbrev S8192x1024 : Shape := ⟨2, ![8192, 1024]⟩
abbrev S512x768 : Shape := ⟨2, ![512, 768]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x768, .bf16⟩
  | .hbm, ⟨1, _⟩ => ⟨S768x1024, .bf16⟩
  | .hbm, ⟨2, _⟩ => ⟨S8192x1024, .f32⟩
  | .local _ .vmem, ⟨0, _⟩ => ⟨S512x768, .bf16⟩
  | .local _ .vmem, ⟨1, _⟩ => ⟨S512x768, .bf16⟩
  | .local _ .vmem, ⟨2, _⟩ => ⟨S768x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjCReferenceIdeal.lean ====
abbrev S8192x768 : Shape := ⟨2, ![8192, 768]⟩
abbrev S768x1024 : Shape := ⟨2, ![768, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S768x1024, .bf16⟩
  | .hbm, ⟨2, _⟩ => ⟨S8192x768, .f32⟩
  | .hbm, ⟨3, _⟩ => ⟨S768x1024, .f32⟩
  | .hbm, ⟨4, _⟩ => ⟨S8192x1024, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Glu1Kernel.lean ====
abbrev S8192x512 : Shape := ⟨2, ![8192, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x512, .bf16⟩
  | .hbm, ⟨2, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Glu1ReferenceIdeal.lean ====
abbrev S8192x512 : Shape := ⟨2, ![8192, 512]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x512, .bf16⟩
  | .hbm, ⟨2, _⟩ => ⟨S512x512, .f32⟩
  | .hbm, ⟨3, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== WOutKernel.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WOutReferenceIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OptWInKernel.lean ====
abbrev S2x128x8716 : Shape := ⟨3, ![2, 128, 8716]⟩
abbrev S8x128x8716 : Shape := ⟨3, ![8, 128, 8716]⟩
abbrev S1x8x8716 : Shape := ⟨3, ![1, 8, 8716]⟩
abbrev S8x8x8716 : Shape := ⟨3, ![8, 8, 8716]⟩
abbrev S8x8716 : Shape := ⟨2, ![8, 8716]⟩

abbrev nBuf : Space → Nat
  | .hbm => 9
  | .vmem => 18
  | .smem => 0
  | _ => 0

abbrev bufTy : (tb : Table) → Fin (tcTables nBuf tb) → BufTy
  | .hbm, ⟨0, _⟩ => ⟨S2x128x8716, .f32⟩
  | .hbm, ⟨1, _⟩ => ⟨S8x128x8716, .bf16⟩
  | .hbm, ⟨2, _⟩ => ⟨S8x128x8716, .bf16⟩
  | .hbm, ⟨3, _⟩ => ⟨S2x128x8716, .f32⟩
  | .hbm, ⟨4, _⟩ => ⟨S2x128x8716, .f32⟩
  | .hbm, ⟨5, _⟩ => ⟨S2x128x8716, .f32⟩
  | .hbm, ⟨6, _⟩ => ⟨S2x128x8716, .f32⟩
  | .hbm, ⟨7, _⟩ => ⟨S2x128x8716, .f32⟩
  | .hbm, ⟨8, _⟩ => ⟨S2x128x8716, .f32⟩
  | .local _ .vmem, ⟨0, _⟩ => ⟨S1x8x8716, .f32⟩
  | .local _ .vmem, ⟨1, _⟩ => ⟨S1x8x8716, .f32⟩
  | .local _ .vmem, ⟨2, _⟩ => ⟨S8x8x8716, .bf16⟩
  | .local _ .vmem, ⟨3, _⟩ => ⟨S8x8x8716, .bf16⟩
  | .local _ .vmem, ⟨4, _⟩ => ⟨S8x8x8716, .bf16⟩
  | .local _ .vmem, ⟨5, _⟩ => ⟨S8x8x8716, .bf16⟩
  | .local _ .vmem, ⟨6, _⟩ => ⟨S1x8x8716, .f32⟩
  | .local _ .vmem, ⟨7, _⟩ => ⟨S1x8x8716, .f32⟩
  | .local _ .vmem, ⟨8, _⟩ => ⟨S1x8x8716, .f32⟩
  | .local _ .vmem, ⟨9, _⟩ => ⟨S1x8x8716, .f32⟩
  | .local _ .vmem, ⟨10, _⟩ => ⟨S1x8x8716, .f32⟩
  | .local _ .vmem, ⟨11, _⟩ => ⟨S1x8x8716, .f32⟩
  | .local _ .vmem, ⟨12, _⟩ => ⟨S1x8x8716, .f32⟩
  | .local _ .vmem, ⟨13, _⟩ => ⟨S1x8x8716, .f32⟩
  | .local _ .vmem, ⟨14, _⟩ => ⟨S1x8x8716, .f32⟩
  | .local _ .vmem, ⟨15, _⟩ => ⟨S1x8x8716, .f32⟩
  | .local _ .vmem, ⟨16, _⟩ => ⟨S1x8x8716, .f32⟩
  | .local _ .vmem, ⟨17, _⟩ => ⟨S1x8x8716, .f32⟩
  | _, _ => ⟨S2x128x8716, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x8716 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x8x8716 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x8x8716 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x8716 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x8716 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x8716 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x8716 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x8716 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x8716 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OptWInReferenceIdeal.lean ====
abbrev S2x128x8716 : Shape := ⟨3, ![2, 128, 8716]⟩
abbrev S8x128x8716 : Shape := ⟨3, ![8, 128, 8716]⟩
abbrev S_ : Shape := ⟨0, ![]⟩
abbrev S128x8716 : Shape := ⟨2, ![128, 8716]⟩
abbrev S1x128x8716 : Shape := ⟨3, ![1, 128, 8716]⟩

abbrev nBuf : Space → Nat
  | .hbm => 47
  | .vmem => 0
  | .smem => 0
  | _ => 0

abbrev bufTy : (tb : Table) → Fin (tcTables nBuf tb) → BufTy
  | .hbm, ⟨0, _⟩ => ⟨S2x128x8716, .f32⟩
  | .hbm, ⟨1, _⟩ => ⟨S8x128x8716, .bf16⟩
  | .hbm, ⟨2, _⟩ => ⟨S8x128x8716, .bf16⟩
  | .hbm, ⟨3, _⟩ => ⟨S2x128x8716, .f32⟩
  | .hbm, ⟨4, _⟩ => ⟨S2x128x8716, .f32⟩
  | .hbm, ⟨5, _⟩ => ⟨S8x128x8716, .f32⟩
  | .hbm, ⟨6, _⟩ => ⟨S_, .f32⟩
  | .hbm, ⟨7, _⟩ => ⟨S128x8716, .f32⟩
  | .hbm, ⟨8, _⟩ => ⟨S8x128x8716, .f32⟩
  | .hbm, ⟨9, _⟩ => ⟨S_, .f32⟩
  | .hbm, ⟨10, _⟩ => ⟨S128x8716, .f32⟩
  | .hbm, ⟨11, _⟩ => ⟨S1x128x8716, .f32⟩
  | .hbm, ⟨12, _⟩ => ⟨S1x128x8716, .f32⟩
  | .hbm, ⟨13, _⟩ => ⟨S2x128x8716, .f32⟩
  | .hbm, ⟨14, _⟩ => ⟨S_, .f32⟩
  | .hbm, ⟨15, _⟩ => ⟨S2x128x8716, .f32⟩
  | .hbm, ⟨16, _⟩ => ⟨S2x128x8716, .f32⟩
  | .hbm, ⟨17, _⟩ => ⟨S_, .f32⟩
  | .hbm, ⟨18, _⟩ => ⟨S2x128x8716, .f32⟩
  | .hbm, ⟨19, _⟩ => ⟨S2x128x8716, .f32⟩
  | .hbm, ⟨20, _⟩ => ⟨S2x128x8716, .f32⟩
  | .hbm, ⟨21, _⟩ => ⟨S_, .f32⟩
  | .hbm, ⟨22, _⟩ => ⟨S2x128x8716, .f32⟩
  | .hbm, ⟨23, _⟩ => ⟨S2x128x8716, .f32⟩
  | .hbm, ⟨24, _⟩ => ⟨S2x128x8716, .f32⟩
  | .hbm, ⟨25, _⟩ => ⟨S_, .f32⟩
  | .hbm, ⟨26, _⟩ => ⟨S2x128x8716, .f32⟩
  | .hbm, ⟨27, _⟩ => ⟨S2x128x8716, .f32⟩
  | .hbm, ⟨28, _⟩ => ⟨S2x128x8716, .f32⟩
  | .hbm, ⟨29, _⟩ => ⟨S_, .f32⟩
  | .hbm, ⟨30, _⟩ => ⟨S2x128x8716, .f32⟩
  | .hbm, ⟨31, _⟩ => ⟨S2x128x8716, .f32⟩
  | .hbm, ⟨32, _⟩ => ⟨S_, .f32⟩
  | .hbm, ⟨33, _⟩ => ⟨S2x128x8716, .f32⟩
  | .hbm, ⟨34, _⟩ => ⟨S2x128x8716, .f32⟩
  | .hbm, ⟨35, _⟩ => ⟨S2x128x8716, .f32⟩
  | .hbm, ⟨36, _⟩ => ⟨S_, .f32⟩
  | .hbm, ⟨37, _⟩ => ⟨S2x128x8716, .f32⟩
  | .hbm, ⟨38, _⟩ => ⟨S2x128x8716, .f32⟩
  | .hbm, ⟨39, _⟩ => ⟨S2x128x8716, .f32⟩
  | .hbm, ⟨40, _⟩ => ⟨S_, .f32⟩
  | .hbm, ⟨41, _⟩ => ⟨S2x128x8716, .f32⟩
  | .hbm, ⟨42, _⟩ => ⟨S2x128x8716, .f32⟩
  | .hbm, ⟨43, _⟩ => ⟨S2x128x8716, .f32⟩
  | .hbm, ⟨44, _⟩ => ⟨S_, .f32⟩
  | .hbm, ⟨45, _⟩ => ⟨S2x128x8716, .f32⟩
  | .hbm, ⟨46, _⟩ => ⟨S2x128x8716, .f32⟩
  | _, _ => ⟨S2x128x8716, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== OptGluWKernel.lean ====
abbrev S2x64x512 : Shape := ⟨3, ![2, 64, 512]⟩
abbrev S8x64x512 : Shape := ⟨3, ![8, 64, 512]⟩
abbrev S1x32x512 : Shape := ⟨3, ![1, 32, 512]⟩
abbrev S8x32x512 : Shape := ⟨3, ![8, 32, 512]⟩
abbrev S32x512 : Shape := ⟨2, ![32, 512]⟩

abbrev nBuf : Space → Nat
  | .hbm => 9
  | .vmem => 18
  | .smem => 0
  | _ => 0

abbrev bufTy : (tb : Table) → Fin (tcTables nBuf tb) → BufTy
  | .hbm, ⟨0, _⟩ => ⟨S2x64x512, .f32⟩
  | .hbm, ⟨1, _⟩ => ⟨S8x64x512, .bf16⟩
  | .hbm, ⟨2, _⟩ => ⟨S8x64x512, .bf16⟩
  | .hbm, ⟨3, _⟩ => ⟨S2x64x512, .f32⟩
  | .hbm, ⟨4, _⟩ => ⟨S2x64x512, .f32⟩
  | .hbm, ⟨5, _⟩ => ⟨S2x64x512, .f32⟩
  | .hbm, ⟨6, _⟩ => ⟨S2x64x512, .f32⟩
  | .hbm, ⟨7, _⟩ => ⟨S2x64x512, .f32⟩
  | .hbm, ⟨8, _⟩ => ⟨S2x64x512, .f32⟩
  | .local _ .vmem, ⟨0, _⟩ => ⟨S1x32x512, .f32⟩
  | .local _ .vmem, ⟨1, _⟩ => ⟨S1x32x512, .f32⟩
  | .local _ .vmem, ⟨2, _⟩ => ⟨S8x32x512, .bf16⟩
  | .local _ .vmem, ⟨3, _⟩ => ⟨S8x32x512, .bf16⟩
  | .local _ .vmem, ⟨4, _⟩ => ⟨S8x32x512, .bf16⟩
  | .local _ .vmem, ⟨5, _⟩ => ⟨S8x32x512, .bf16⟩
  | .local _ .vmem, ⟨6, _⟩ => ⟨S1x32x512, .f32⟩
  | .local _ .vmem, ⟨7, _⟩ => ⟨S1x32x512, .f32⟩
  | .local _ .vmem, ⟨8, _⟩ => ⟨S1x32x512, .f32⟩
  | .local _ .vmem, ⟨9, _⟩ => ⟨S1x32x512, .f32⟩
  | .local _ .vmem, ⟨10, _⟩ => ⟨S1x32x512, .f32⟩
  | .local _ .vmem, ⟨11, _⟩ => ⟨S1x32x512, .f32⟩
  | .local _ .vmem, ⟨12, _⟩ => ⟨S1x32x512, .f32⟩
  | .local _ .vmem, ⟨13, _⟩ => ⟨S1x32x512, .f32⟩
  | .local _ .vmem, ⟨14, _⟩ => ⟨S1x32x512, .f32⟩
  | .local _ .vmem, ⟨15, _⟩ => ⟨S1x32x512, .f32⟩
  | .local _ .vmem, ⟨16, _⟩ => ⟨S1x32x512, .f32⟩
  | .local _ .vmem, ⟨17, _⟩ => ⟨S1x32x512, .f32⟩
  | _, _ => ⟨S2x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OptGluWReferenceIdeal.lean ====
abbrev S2x64x512 : Shape := ⟨3, ![2, 64, 512]⟩
abbrev S8x64x512 : Shape := ⟨3, ![8, 64, 512]⟩
abbrev S_ : Shape := ⟨0, ![]⟩
abbrev S64x512 : Shape := ⟨2, ![64, 512]⟩
abbrev S1x64x512 : Shape := ⟨3, ![1, 64, 512]⟩

abbrev nBuf : Space → Nat
  | .hbm => 47
  | .vmem => 0
  | .smem => 0
  | _ => 0

abbrev bufTy : (tb : Table) → Fin (tcTables nBuf tb) → BufTy
  | .hbm, ⟨0, _⟩ => ⟨S2x64x512, .f32⟩
  | .hbm, ⟨1, _⟩ => ⟨S8x64x512, .bf16⟩
  | .hbm, ⟨2, _⟩ => ⟨S8x64x512, .bf16⟩
  | .hbm, ⟨3, _⟩ => ⟨S2x64x512, .f32⟩
  | .hbm, ⟨4, _⟩ => ⟨S2x64x512, .f32⟩
  | .hbm, ⟨5, _⟩ => ⟨S8x64x512, .f32⟩
  | .hbm, ⟨6, _⟩ => ⟨S_, .f32⟩
  | .hbm, ⟨7, _⟩ => ⟨S64x512, .f32⟩
  | .hbm, ⟨8, _⟩ => ⟨S8x64x512, .f32⟩
  | .hbm, ⟨9, _⟩ => ⟨S_, .f32⟩
  | .hbm, ⟨10, _⟩ => ⟨S64x512, .f32⟩
  | .hbm, ⟨11, _⟩ => ⟨S1x64x512, .f32⟩
  | .hbm, ⟨12, _⟩ => ⟨S1x64x512, .f32⟩
  | .hbm, ⟨13, _⟩ => ⟨S2x64x512, .f32⟩
  | .hbm, ⟨14, _⟩ => ⟨S_, .f32⟩
  | .hbm, ⟨15, _⟩ => ⟨S2x64x512, .f32⟩
  | .hbm, ⟨16, _⟩ => ⟨S2x64x512, .f32⟩
  | .hbm, ⟨17, _⟩ => ⟨S_, .f32⟩
  | .hbm, ⟨18, _⟩ => ⟨S2x64x512, .f32⟩
  | .hbm, ⟨19, _⟩ => ⟨S2x64x512, .f32⟩
  | .hbm, ⟨20, _⟩ => ⟨S2x64x512, .f32⟩
  | .hbm, ⟨21, _⟩ => ⟨S_, .f32⟩
  | .hbm, ⟨22, _⟩ => ⟨S2x64x512, .f32⟩
  | .hbm, ⟨23, _⟩ => ⟨S2x64x512, .f32⟩
  | .hbm, ⟨24, _⟩ => ⟨S2x64x512, .f32⟩
  | .hbm, ⟨25, _⟩ => ⟨S_, .f32⟩
  | .hbm, ⟨26, _⟩ => ⟨S2x64x512, .f32⟩
  | .hbm, ⟨27, _⟩ => ⟨S2x64x512, .f32⟩
  | .hbm, ⟨28, _⟩ => ⟨S2x64x512, .f32⟩
  | .hbm, ⟨29, _⟩ => ⟨S_, .f32⟩
  | .hbm, ⟨30, _⟩ => ⟨S2x64x512, .f32⟩
  | .hbm, ⟨31, _⟩ => ⟨S2x64x512, .f32⟩
  | .hbm, ⟨32, _⟩ => ⟨S_, .f32⟩
  | .hbm, ⟨33, _⟩ => ⟨S2x64x512, .f32⟩
  | .hbm, ⟨34, _⟩ => ⟨S2x64x512, .f32⟩
  | .hbm, ⟨35, _⟩ => ⟨S2x64x512, .f32⟩
  | .hbm, ⟨36, _⟩ => ⟨S_, .f32⟩
  | .hbm, ⟨37, _⟩ => ⟨S2x64x512, .f32⟩
  | .hbm, ⟨38, _⟩ => ⟨S2x64x512, .f32⟩
  | .hbm, ⟨39, _⟩ => ⟨S2x64x512, .f32⟩
  | .hbm, ⟨40, _⟩ => ⟨S_, .f32⟩
  | .hbm, ⟨41, _⟩ => ⟨S2x64x512, .f32⟩
  | .hbm, ⟨42, _⟩ => ⟨S2x64x512, .f32⟩
  | .hbm, ⟨43, _⟩ => ⟨S2x64x512, .f32⟩
  | .hbm, ⟨44, _⟩ => ⟨S_, .f32⟩
  | .hbm, ⟨45, _⟩ => ⟨S2x64x512, .f32⟩
  | .hbm, ⟨46, _⟩ => ⟨S2x64x512, .f32⟩
  | _, _ => ⟨S2x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== OptWOutKernel.lean ====
abbrev S2x128x1024 : Shape := ⟨3, ![2, 128, 1024]⟩
abbrev S8x128x1024 : Shape := ⟨3, ![8, 128, 1024]⟩
abbrev S1x64x1024 : Shape := ⟨3, ![1, 64, 1024]⟩
abbrev S8x64x1024 : Shape := ⟨3, ![8, 64, 1024]⟩
abbrev S64x1024 : Shape := ⟨2, ![64, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x128x1024, .f32⟩
  | .hbm, ⟨1, _⟩ => ⟨S8x128x1024, .bf16⟩
  | .hbm, ⟨2, _⟩ => ⟨S8x128x1024, .bf16⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S1x64x1024, .f32⟩
  | .local _ .vmem, ⟨1, _⟩ => ⟨S1x64x1024, .f32⟩
  | .local _ .vmem, ⟨2, _⟩ => ⟨S8x64x1024, .bf16⟩
  | .local _ .vmem, ⟨3, _⟩ => ⟨S8x64x1024, .bf16⟩
  | .local _ .vmem, ⟨4, _⟩ => ⟨S8x64x1024, .bf16⟩
  | .local _ .vmem, ⟨5, _⟩ => ⟨S8x64x1024, .bf16⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OptWOutReferenceIdeal.lean ====
abbrev S2x128x1024 : Shape := ⟨3, ![2, 128, 1024]⟩
abbrev S8x128x1024 : Shape := ⟨3, ![8, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S8x128x1024, .bf16⟩
  | .hbm, ⟨2, _⟩ => ⟨S8x128x1024, .bf16⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== OptProjAKernel.lean ====
abbrev S2x512x128 : Shape := ⟨3, ![2, 512, 128]⟩
abbrev S8x512x128 : Shape := ⟨3, ![8, 512, 128]⟩
abbrev S1x256x128 : Shape := ⟨3, ![1, 256, 128]⟩
abbrev S8x256x128 : Shape := ⟨3, ![8, 256, 128]⟩
abbrev S256x128 : Shape := ⟨2, ![256, 128]⟩

abbrev nBuf : Space → Nat
  | .hbm => 9
  | .vmem => 18
  | .smem => 0
  | _ => 0

abbrev bufTy : (tb : Table) → Fin (tcTables nBuf tb) → BufTy
  | .hbm, ⟨0, _⟩ => ⟨S2x512x128, .f32⟩
  | .hbm, ⟨1, _⟩ => ⟨S8x512x128, .bf16⟩
  | .hbm, ⟨2, _⟩ => ⟨S8x512x128, .bf16⟩
  | .hbm, ⟨3, _⟩ => ⟨S2x512x128, .f32⟩
  | .hbm, ⟨4, _⟩ => ⟨S2x512x128, .f32⟩
  | .hbm, ⟨5, _⟩ => ⟨S2x512x128, .f32⟩
  | .hbm, ⟨6, _⟩ => ⟨S2x512x128, .f32⟩
  | .hbm, ⟨7, _⟩ => ⟨S2x512x128, .f32⟩
  | .hbm, ⟨8, _⟩ => ⟨S2x512x128, .f32⟩
  | .local _ .vmem, ⟨0, _⟩ => ⟨S1x256x128, .f32⟩
  | .local _ .vmem, ⟨1, _⟩ => ⟨S1x256x128, .f32⟩
  | .local _ .vmem, ⟨2, _⟩ => ⟨S8x256x128, .bf16⟩
  | .local _ .vmem, ⟨3, _⟩ => ⟨S8x256x128, .bf16⟩
  | .local _ .vmem, ⟨4, _⟩ => ⟨S8x256x128, .bf16⟩
  | .local _ .vmem, ⟨5, _⟩ => ⟨S8x256x128, .bf16⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | _, _ => ⟨S2x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OptProjAReferenceIdeal.lean ====
abbrev S2x512x128 : Shape := ⟨3, ![2, 512, 128]⟩
abbrev S8x512x128 : Shape := ⟨3, ![8, 512, 128]⟩
abbrev S_ : Shape := ⟨0, ![]⟩
abbrev S512x128 : Shape := ⟨2, ![512, 128]⟩
abbrev S1x512x128 : Shape := ⟨3, ![1, 512, 128]⟩

abbrev nBuf : Space → Nat
  | .hbm => 47
  | .vmem => 0
  | .smem => 0
  | _ => 0

abbrev bufTy : (tb : Table) → Fin (tcTables nBuf tb) → BufTy
  | .hbm, ⟨0, _⟩ => ⟨S2x512x128, .f32⟩
  | .hbm, ⟨1, _⟩ => ⟨S8x512x128, .bf16⟩
  | .hbm, ⟨2, _⟩ => ⟨S8x512x128, .bf16⟩
  | .hbm, ⟨3, _⟩ => ⟨S2x512x128, .f32⟩
  | .hbm, ⟨4, _⟩ => ⟨S2x512x128, .f32⟩
  | .hbm, ⟨5, _⟩ => ⟨S8x512x128, .f32⟩
  | .hbm, ⟨6, _⟩ => ⟨S_, .f32⟩
  | .hbm, ⟨7, _⟩ => ⟨S512x128, .f32⟩
  | .hbm, ⟨8, _⟩ => ⟨S8x512x128, .f32⟩
  | .hbm, ⟨9, _⟩ => ⟨S_, .f32⟩
  | .hbm, ⟨10, _⟩ => ⟨S512x128, .f32⟩
  | .hbm, ⟨11, _⟩ => ⟨S1x512x128, .f32⟩
  | .hbm, ⟨12, _⟩ => ⟨S1x512x128, .f32⟩
  | .hbm, ⟨13, _⟩ => ⟨S2x512x128, .f32⟩
  | .hbm, ⟨14, _⟩ => ⟨S_, .f32⟩
  | .hbm, ⟨15, _⟩ => ⟨S2x512x128, .f32⟩
  | .hbm, ⟨16, _⟩ => ⟨S2x512x128, .f32⟩
  | .hbm, ⟨17, _⟩ => ⟨S_, .f32⟩
  | .hbm, ⟨18, _⟩ => ⟨S2x512x128, .f32⟩
  | .hbm, ⟨19, _⟩ => ⟨S2x512x128, .f32⟩
  | .hbm, ⟨20, _⟩ => ⟨S2x512x128, .f32⟩
  | .hbm, ⟨21, _⟩ => ⟨S_, .f32⟩
  | .hbm, ⟨22, _⟩ => ⟨S2x512x128, .f32⟩
  | .hbm, ⟨23, _⟩ => ⟨S2x512x128, .f32⟩
  | .hbm, ⟨24, _⟩ => ⟨S2x512x128, .f32⟩
  | .hbm, ⟨25, _⟩ => ⟨S_, .f32⟩
  | .hbm, ⟨26, _⟩ => ⟨S2x512x128, .f32⟩
  | .hbm, ⟨27, _⟩ => ⟨S2x512x128, .f32⟩
  | .hbm, ⟨28, _⟩ => ⟨S2x512x128, .f32⟩
  | .hbm, ⟨29, _⟩ => ⟨S_, .f32⟩
  | .hbm, ⟨30, _⟩ => ⟨S2x512x128, .f32⟩
  | .hbm, ⟨31, _⟩ => ⟨S2x512x128, .f32⟩
  | .hbm, ⟨32, _⟩ => ⟨S_, .f32⟩
  | .hbm, ⟨33, _⟩ => ⟨S2x512x128, .f32⟩
  | .hbm, ⟨34, _⟩ => ⟨S2x512x128, .f32⟩
  | .hbm, ⟨35, _⟩ => ⟨S2x512x128, .f32⟩
  | .hbm, ⟨36, _⟩ => ⟨S_, .f32⟩
  | .hbm, ⟨37, _⟩ => ⟨S2x512x128, .f32⟩
  | .hbm, ⟨38, _⟩ => ⟨S2x512x128, .f32⟩
  | .hbm, ⟨39, _⟩ => ⟨S2x512x128, .f32⟩
  | .hbm, ⟨40, _⟩ => ⟨S_, .f32⟩
  | .hbm, ⟨41, _⟩ => ⟨S2x512x128, .f32⟩
  | .hbm, ⟨42, _⟩ => ⟨S2x512x128, .f32⟩
  | .hbm, ⟨43, _⟩ => ⟨S2x512x128, .f32⟩
  | .hbm, ⟨44, _⟩ => ⟨S_, .f32⟩
  | .hbm, ⟨45, _⟩ => ⟨S2x512x128, .f32⟩
  | .hbm, ⟨46, _⟩ => ⟨S2x512x128, .f32⟩
  | _, _ => ⟨S2x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== OptProjBKernel.lean ====
abbrev S2x256x128 : Shape := ⟨3, ![2, 256, 128]⟩
abbrev S8x256x128 : Shape := ⟨3, ![8, 256, 128]⟩
abbrev S1x128x128 : Shape := ⟨3, ![1, 128, 128]⟩
abbrev S8x128x128 : Shape := ⟨3, ![8, 128, 128]⟩
abbrev S128x128 : Shape := ⟨2, ![128, 128]⟩

abbrev nBuf : Space → Nat
  | .hbm => 9
  | .vmem => 18
  | .smem => 0
  | _ => 0

abbrev bufTy : (tb : Table) → Fin (tcTables nBuf tb) → BufTy
  | .hbm, ⟨0, _⟩ => ⟨S2x256x128, .f32⟩
  | .hbm, ⟨1, _⟩ => ⟨S8x256x128, .bf16⟩
  | .hbm, ⟨2, _⟩ => ⟨S8x256x128, .bf16⟩
  | .hbm, ⟨3, _⟩ => ⟨S2x256x128, .f32⟩
  | .hbm, ⟨4, _⟩ => ⟨S2x256x128, .f32⟩
  | .hbm, ⟨5, _⟩ => ⟨S2x256x128, .f32⟩
  | .hbm, ⟨6, _⟩ => ⟨S2x256x128, .f32⟩
  | .hbm, ⟨7, _⟩ => ⟨S2x256x128, .f32⟩
  | .hbm, ⟨8, _⟩ => ⟨S2x256x128, .f32⟩
  | .local _ .vmem, ⟨0, _⟩ => ⟨S1x128x128, .f32⟩
  | .local _ .vmem, ⟨1, _⟩ => ⟨S1x128x128, .f32⟩
  | .local _ .vmem, ⟨2, _⟩ => ⟨S8x128x128, .bf16⟩
  | .local _ .vmem, ⟨3, _⟩ => ⟨S8x128x128, .bf16⟩
  | .local _ .vmem, ⟨4, _⟩ => ⟨S8x128x128, .bf16⟩
  | .local _ .vmem, ⟨5, _⟩ => ⟨S8x128x128, .bf16⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x128x128, .f32⟩
  | .local _ .vmem, ⟨17, _⟩ => ⟨S1x128x128, .f32⟩
  | _, _ => ⟨S2x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OptProjBReferenceIdeal.lean ====
abbrev S2x256x128 : Shape := ⟨3, ![2, 256, 128]⟩
abbrev S8x256x128 : Shape := ⟨3, ![8, 256, 128]⟩
abbrev S_ : Shape := ⟨0, ![]⟩
abbrev S256x128 : Shape := ⟨2, ![256, 128]⟩
abbrev S1x256x128 : Shape := ⟨3, ![1, 256, 128]⟩

abbrev nBuf : Space → Nat
  | .hbm => 47
  | .vmem => 0
  | .smem => 0
  | _ => 0

abbrev bufTy : (tb : Table) → Fin (tcTables nBuf tb) → BufTy
  | .hbm, ⟨0, _⟩ => ⟨S2x256x128, .f32⟩
  | .hbm, ⟨1, _⟩ => ⟨S8x256x128, .bf16⟩
  | .hbm, ⟨2, _⟩ => ⟨S8x256x128, .bf16⟩
  | .hbm, ⟨3, _⟩ => ⟨S2x256x128, .f32⟩
  | .hbm, ⟨4, _⟩ => ⟨S2x256x128, .f32⟩
  | .hbm, ⟨5, _⟩ => ⟨S8x256x128, .f32⟩
  | .hbm, ⟨6, _⟩ => ⟨S_, .f32⟩
  | .hbm, ⟨7, _⟩ => ⟨S256x128, .f32⟩
  | .hbm, ⟨8, _⟩ => ⟨S8x256x128, .f32⟩
  | .hbm, ⟨9, _⟩ => ⟨S_, .f32⟩
  | .hbm, ⟨10, _⟩ => ⟨S256x128, .f32⟩
  | .hbm, ⟨11, _⟩ => ⟨S1x256x128, .f32⟩
  | .hbm, ⟨12, _⟩ => ⟨S1x256x128, .f32⟩
  | .hbm, ⟨13, _⟩ => ⟨S2x256x128, .f32⟩
  | .hbm, ⟨14, _⟩ => ⟨S_, .f32⟩
  | .hbm, ⟨15, _⟩ => ⟨S2x256x128, .f32⟩
  | .hbm, ⟨16, _⟩ => ⟨S2x256x128, .f32⟩
  | .hbm, ⟨17, _⟩ => ⟨S_, .f32⟩
  | .hbm, ⟨18, _⟩ => ⟨S2x256x128, .f32⟩
  | .hbm, ⟨19, _⟩ => ⟨S2x256x128, .f32⟩
  | .hbm, ⟨20, _⟩ => ⟨S2x256x128, .f32⟩
  | .hbm, ⟨21, _⟩ => ⟨S_, .f32⟩
  | .hbm, ⟨22, _⟩ => ⟨S2x256x128, .f32⟩
  | .hbm, ⟨23, _⟩ => ⟨S2x256x128, .f32⟩
  | .hbm, ⟨24, _⟩ => ⟨S2x256x128, .f32⟩
  | .hbm, ⟨25, _⟩ => ⟨S_, .f32⟩
  | .hbm, ⟨26, _⟩ => ⟨S2x256x128, .f32⟩
  | .hbm, ⟨27, _⟩ => ⟨S2x256x128, .f32⟩
  | .hbm, ⟨28, _⟩ => ⟨S2x256x128, .f32⟩
  | .hbm, ⟨29, _⟩ => ⟨S_, .f32⟩
  | .hbm, ⟨30, _⟩ => ⟨S2x256x128, .f32⟩
  | .hbm, ⟨31, _⟩ => ⟨S2x256x128, .f32⟩
  | .hbm, ⟨32, _⟩ => ⟨S_, .f32⟩
  | .hbm, ⟨33, _⟩ => ⟨S2x256x128, .f32⟩
  | .hbm, ⟨34, _⟩ => ⟨S2x256x128, .f32⟩
  | .hbm, ⟨35, _⟩ => ⟨S2x256x128, .f32⟩
  | .hbm, ⟨36, _⟩ => ⟨S_, .f32⟩
  | .hbm, ⟨37, _⟩ => ⟨S2x256x128, .f32⟩
  | .hbm, ⟨38, _⟩ => ⟨S2x256x128, .f32⟩
  | .hbm, ⟨39, _⟩ => ⟨S2x256x128, .f32⟩
  | .hbm, ⟨40, _⟩ => ⟨S_, .f32⟩
  | .hbm, ⟨41, _⟩ => ⟨S2x256x128, .f32⟩
  | .hbm, ⟨42, _⟩ => ⟨S2x256x128, .f32⟩
  | .hbm, ⟨43, _⟩ => ⟨S2x256x128, .f32⟩
  | .hbm, ⟨44, _⟩ => ⟨S_, .f32⟩
  | .hbm, ⟨45, _⟩ => ⟨S2x256x128, .f32⟩
  | .hbm, ⟨46, _⟩ => ⟨S2x256x128, .f32⟩
  | _, _ => ⟨S2x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== OptProjCKernel.lean ====
abbrev S2x768x128 : Shape := ⟨3, ![2, 768, 128]⟩
abbrev S8x768x128 : Shape := ⟨3, ![8, 768, 128]⟩
abbrev S1x384x128 : Shape := ⟨3, ![1, 384, 128]⟩
abbrev S8x384x128 : Shape := ⟨3, ![8, 384, 128]⟩
abbrev S384x128 : Shape := ⟨2, ![384, 128]⟩

abbrev nBuf : Space → Nat
  | .hbm => 9
  | .vmem => 18
  | .smem => 0
  | _ => 0

abbrev bufTy : (tb : Table) → Fin (tcTables nBuf tb) → BufTy
  | .hbm, ⟨0, _⟩ => ⟨S2x768x128, .f32⟩
  | .hbm, ⟨1, _⟩ => ⟨S8x768x128, .bf16⟩
  | .hbm, ⟨2, _⟩ => ⟨S8x768x128, .bf16⟩
  | .hbm, ⟨3, _⟩ => ⟨S2x768x128, .f32⟩
  | .hbm, ⟨4, _⟩ => ⟨S2x768x128, .f32⟩
  | .hbm, ⟨5, _⟩ => ⟨S2x768x128, .f32⟩
  | .hbm, ⟨6, _⟩ => ⟨S2x768x128, .f32⟩
  | .hbm, ⟨7, _⟩ => ⟨S2x768x128, .f32⟩
  | .hbm, ⟨8, _⟩ => ⟨S2x768x128, .f32⟩
  | .local _ .vmem, ⟨0, _⟩ => ⟨S1x384x128, .f32⟩
  | .local _ .vmem, ⟨1, _⟩ => ⟨S1x384x128, .f32⟩
  | .local _ .vmem, ⟨2, _⟩ => ⟨S8x384x128, .bf16⟩
  | .local _ .vmem, ⟨3, _⟩ => ⟨S8x384x128, .bf16⟩
  | .local _ .vmem, ⟨4, _⟩ => ⟨S8x384x128, .bf16⟩
  | .local _ .vmem, ⟨5, _⟩ => ⟨S8x384x128, .bf16⟩
  | .local _ .vmem, ⟨6, _⟩ => ⟨S1x384x128, .f32⟩
  | .local _ .vmem, ⟨7, _⟩ => ⟨S1x384x128, .f32⟩
  | .local _ .vmem, ⟨8, _⟩ => ⟨S1x384x128, .f32⟩
  | .local _ .vmem, ⟨9, _⟩ => ⟨S1x384x128, .f32⟩
  | .local _ .vmem, ⟨10, _⟩ => ⟨S1x384x128, .f32⟩
  | .local _ .vmem, ⟨11, _⟩ => ⟨S1x384x128, .f32⟩
  | .local _ .vmem, ⟨12, _⟩ => ⟨S1x384x128, .f32⟩
  | .local _ .vmem, ⟨13, _⟩ => ⟨S1x384x128, .f32⟩
  | .local _ .vmem, ⟨14, _⟩ => ⟨S1x384x128, .f32⟩
  | .local _ .vmem, ⟨15, _⟩ => ⟨S1x384x128, .f32⟩
  | .local _ .vmem, ⟨16, _⟩ => ⟨S1x384x128, .f32⟩
  | .local _ .vmem, ⟨17, _⟩ => ⟨S1x384x128, .f32⟩
  | _, _ => ⟨S2x768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x384x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OptProjCReferenceIdeal.lean ====
abbrev S2x768x128 : Shape := ⟨3, ![2, 768, 128]⟩
abbrev S8x768x128 : Shape := ⟨3, ![8, 768, 128]⟩
abbrev S_ : Shape := ⟨0, ![]⟩
abbrev S768x128 : Shape := ⟨2, ![768, 128]⟩
abbrev S1x768x128 : Shape := ⟨3, ![1, 768, 128]⟩

abbrev nBuf : Space → Nat
  | .hbm => 47
  | .vmem => 0
  | .smem => 0
  | _ => 0

abbrev bufTy : (tb : Table) → Fin (tcTables nBuf tb) → BufTy
  | .hbm, ⟨0, _⟩ => ⟨S2x768x128, .f32⟩
  | .hbm, ⟨1, _⟩ => ⟨S8x768x128, .bf16⟩
  | .hbm, ⟨2, _⟩ => ⟨S8x768x128, .bf16⟩
  | .hbm, ⟨3, _⟩ => ⟨S2x768x128, .f32⟩
  | .hbm, ⟨4, _⟩ => ⟨S2x768x128, .f32⟩
  | .hbm, ⟨5, _⟩ => ⟨S8x768x128, .f32⟩
  | .hbm, ⟨6, _⟩ => ⟨S_, .f32⟩
  | .hbm, ⟨7, _⟩ => ⟨S768x128, .f32⟩
  | .hbm, ⟨8, _⟩ => ⟨S8x768x128, .f32⟩
  | .hbm, ⟨9, _⟩ => ⟨S_, .f32⟩
  | .hbm, ⟨10, _⟩ => ⟨S768x128, .f32⟩
  | .hbm, ⟨11, _⟩ => ⟨S1x768x128, .f32⟩
  | .hbm, ⟨12, _⟩ => ⟨S1x768x128, .f32⟩
  | .hbm, ⟨13, _⟩ => ⟨S2x768x128, .f32⟩
  | .hbm, ⟨14, _⟩ => ⟨S_, .f32⟩
  | .hbm, ⟨15, _⟩ => ⟨S2x768x128, .f32⟩
  | .hbm, ⟨16, _⟩ => ⟨S2x768x128, .f32⟩
  | .hbm, ⟨17, _⟩ => ⟨S_, .f32⟩
  | .hbm, ⟨18, _⟩ => ⟨S2x768x128, .f32⟩
  | .hbm, ⟨19, _⟩ => ⟨S2x768x128, .f32⟩
  | .hbm, ⟨20, _⟩ => ⟨S2x768x128, .f32⟩
  | .hbm, ⟨21, _⟩ => ⟨S_, .f32⟩
  | .hbm, ⟨22, _⟩ => ⟨S2x768x128, .f32⟩
  | .hbm, ⟨23, _⟩ => ⟨S2x768x128, .f32⟩
  | .hbm, ⟨24, _⟩ => ⟨S2x768x128, .f32⟩
  | .hbm, ⟨25, _⟩ => ⟨S_, .f32⟩
  | .hbm, ⟨26, _⟩ => ⟨S2x768x128, .f32⟩
  | .hbm, ⟨27, _⟩ => ⟨S2x768x128, .f32⟩
  | .hbm, ⟨28, _⟩ => ⟨S2x768x128, .f32⟩
  | .hbm, ⟨29, _⟩ => ⟨S_, .f32⟩
  | .hbm, ⟨30, _⟩ => ⟨S2x768x128, .f32⟩
  | .hbm, ⟨31, _⟩ => ⟨S2x768x128, .f32⟩
  | .hbm, ⟨32, _⟩ => ⟨S_, .f32⟩
  | .hbm, ⟨33, _⟩ => ⟨S2x768x128, .f32⟩
  | .hbm, ⟨34, _⟩ => ⟨S2x768x128, .f32⟩
  | .hbm, ⟨35, _⟩ => ⟨S2x768x128, .f32⟩
  | .hbm, ⟨36, _⟩ => ⟨S_, .f32⟩
  | .hbm, ⟨37, _⟩ => ⟨S2x768x128, .f32⟩
  | .hbm, ⟨38, _⟩ => ⟨S2x768x128, .f32⟩
  | .hbm, ⟨39, _⟩ => ⟨S2x768x128, .f32⟩
  | .hbm, ⟨40, _⟩ => ⟨S_, .f32⟩
  | .hbm, ⟨41, _⟩ => ⟨S2x768x128, .f32⟩
  | .hbm, ⟨42, _⟩ => ⟨S2x768x128, .f32⟩
  | .hbm, ⟨43, _⟩ => ⟨S2x768x128, .f32⟩
  | .hbm, ⟨44, _⟩ => ⟨S_, .f32⟩
  | .hbm, ⟨45, _⟩ => ⟨S2x768x128, .f32⟩
  | .hbm, ⟨46, _⟩ => ⟨S2x768x128, .f32⟩
  | _, _ => ⟨S2x768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== OptNormKernel.lean ====
abbrev S2x1024 : Shape := ⟨2, ![2, 1024]⟩
abbrev S1x2x1024 : Shape := ⟨3, ![1, 2, 1024]⟩

abbrev nBuf : Space → Nat
  | .hbm => 9
  | .vmem => 8
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S1x2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .local _ .vmem, ⟨0, _⟩ => ⟨S2x1024, .f32⟩
  | .local _ .vmem, ⟨1, _⟩ => ⟨S1x2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== OptNormReferenceIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== OptAKernel.lean ====
abbrev S2x32x64 : Shape := ⟨3, ![2, 32, 64]⟩
abbrev S1x2x32x64 : Shape := ⟨4, ![1, 2, 32, 64]⟩
abbrev S64x64 : Shape := ⟨2, ![64, 64]⟩
abbrev S1x64x64 : Shape := ⟨3, ![1, 64, 64]⟩
abbrev S32x64 : Shape := ⟨2, ![32, 64]⟩
abbrev S1x32x64 : Shape := ⟨3, ![1, 32, 64]⟩

abbrev nBuf : Space → Nat
  | .hbm => 13
  | .vmem => 16
  | .smem => 0
  | _ => 0

abbrev bufTy : (tb : Table) → Fin (tcTables nBuf tb) → BufTy
  | .hbm, ⟨0, _⟩ => ⟨S2x32x64, .f32⟩
  | .hbm, ⟨1, _⟩ => ⟨S2x32x64, .f32⟩
  | .hbm, ⟨2, _⟩ => ⟨S2x32x64, .f32⟩
  | .hbm, ⟨3, _⟩ => ⟨S2x32x64, .f32⟩
  | .hbm, ⟨4, _⟩ => ⟨S1x2x32x64, .f32⟩
  | .hbm, ⟨5, _⟩ => ⟨S64x64, .f32⟩
  | .hbm, ⟨6, _⟩ => ⟨S1x64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .local _ .vmem, ⟨0, _⟩ => ⟨S32x64, .f32⟩
  | .local _ .vmem, ⟨1, _⟩ => ⟨S32x64, .f32⟩
  | .local _ .vmem, ⟨2, _⟩ => ⟨S1x32x64, .f32⟩
  | .local _ .vmem, ⟨3, _⟩ => ⟨S1x32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | .local _ .vmem, ⟨7, _⟩ => ⟨S32x64, .f32⟩
  | .local _ .vmem, ⟨8, _⟩ => ⟨S32x64, .f32⟩
  | .local _ .vmem, ⟨9, _⟩ => ⟨S32x64, .f32⟩
  | .local _ .vmem, ⟨10, _⟩ => ⟨S32x64, .f32⟩
  | .local _ .vmem, ⟨11, _⟩ => ⟨S32x64, .f32⟩
  | .local _ .vmem, ⟨12, _⟩ => ⟨S32x64, .f32⟩
  | .local _ .vmem, ⟨13, _⟩ => ⟨S32x64, .f32⟩
  | .local _ .vmem, ⟨14, _⟩ => ⟨S32x64, .f32⟩
  | .local _ .vmem, ⟨15, _⟩ => ⟨S32x64, .f32⟩
  | _, _ => ⟨S2x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OptAReferenceIdeal.lean ====
abbrev S2x32x64 : Shape := ⟨3, ![2, 32, 64]⟩
abbrev S_ : Shape := ⟨0, ![]⟩
abbrev S64x64 : Shape := ⟨2, ![64, 64]⟩

abbrev nBuf : Space → Nat
  | .hbm => 41
  | .vmem => 0
  | .smem => 0
  | _ => 0

abbrev bufTy : (tb : Table) → Fin (tcTables nBuf tb) → BufTy
  | .hbm, ⟨0, _⟩ => ⟨S2x32x64, .f32⟩
  | .hbm, ⟨1, _⟩ => ⟨S2x32x64, .f32⟩
  | .hbm, ⟨2, _⟩ => ⟨S2x32x64, .f32⟩
  | .hbm, ⟨3, _⟩ => ⟨S2x32x64, .f32⟩
  | .hbm, ⟨4, _⟩ => ⟨S_, .f32⟩
  | .hbm, ⟨5, _⟩ => ⟨S2x32x64, .f32⟩
  | .hbm, ⟨6, _⟩ => ⟨S2x32x64, .f32⟩
  | .hbm, ⟨7, _⟩ => ⟨S_, .f32⟩
  | .hbm, ⟨8, _⟩ => ⟨S2x32x64, .f32⟩
  | .hbm, ⟨9, _⟩ => ⟨S2x32x64, .f32⟩
  | .hbm, ⟨10, _⟩ => ⟨S2x32x64, .f32⟩
  | .hbm, ⟨11, _⟩ => ⟨S_, .f32⟩
  | .hbm, ⟨12, _⟩ => ⟨S2x32x64, .f32⟩
  | .hbm, ⟨13, _⟩ => ⟨S2x32x64, .f32⟩
  | .hbm, ⟨14, _⟩ => ⟨S2x32x64, .f32⟩
  | .hbm, ⟨15, _⟩ => ⟨S_, .f32⟩
  | .hbm, ⟨16, _⟩ => ⟨S2x32x64, .f32⟩
  | .hbm, ⟨17, _⟩ => ⟨S2x32x64, .f32⟩
  | .hbm, ⟨18, _⟩ => ⟨S2x32x64, .f32⟩
  | .hbm, ⟨19, _⟩ => ⟨S_, .f32⟩
  | .hbm, ⟨20, _⟩ => ⟨S2x32x64, .f32⟩
  | .hbm, ⟨21, _⟩ => ⟨S2x32x64, .f32⟩
  | .hbm, ⟨22, _⟩ => ⟨S_, .f32⟩
  | .hbm, ⟨23, _⟩ => ⟨S2x32x64, .f32⟩
  | .hbm, ⟨24, _⟩ => ⟨S2x32x64, .f32⟩
  | .hbm, ⟨25, _⟩ => ⟨S2x32x64, .f32⟩
  | .hbm, ⟨26, _⟩ => ⟨S_, .f32⟩
  | .hbm, ⟨27, _⟩ => ⟨S2x32x64, .f32⟩
  | .hbm, ⟨28, _⟩ => ⟨S2x32x64, .f32⟩
  | .hbm, ⟨29, _⟩ => ⟨S2x32x64, .f32⟩
  | .hbm, ⟨30, _⟩ => ⟨S_, .f32⟩
  | .hbm, ⟨31, _⟩ => ⟨S2x32x64, .f32⟩
  | .hbm, ⟨32, _⟩ => ⟨S2x32x64, .f32⟩
  | .hbm, ⟨33, _⟩ => ⟨S2x32x64, .f32⟩
  | .hbm, ⟨34, _⟩ => ⟨S_, .f32⟩
  | .hbm, ⟨35, _⟩ => ⟨S2x32x64, .f32⟩
  | .hbm, ⟨36, _⟩ => ⟨S2x32x64, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S64x64, .f32⟩
  | _, _ => ⟨S2x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== OptStepKernel.lean ====
abbrev S2x32 : Shape := ⟨2, ![2, 32]⟩
abbrev S1x2x32 : Shape := ⟨3, ![1, 2, 32]⟩

abbrev nBuf : Space → Nat
  | .hbm => 9
  | .vmem => 8
  | .smem => 0
  | _ => 0

abbrev bufTy : (tb : Table) → Fin (tcTables nBuf tb) → BufTy
  | .hbm, ⟨0, _⟩ => ⟨S2x32, .f32⟩
  | .hbm, ⟨1, _⟩ => ⟨S2x32, .f32⟩
  | .hbm, ⟨2, _⟩ => ⟨S2x32, .f32⟩
  | .hbm, ⟨3, _⟩ => ⟨S2x32, .f32⟩
  | .hbm, ⟨4, _⟩ => ⟨S1x2x32, .f32⟩
  | .hbm, ⟨5, _⟩ => ⟨S2x32, .f32⟩
  | .hbm, ⟨6, _⟩ => ⟨S2x32, .f32⟩
  | .hbm, ⟨7, _⟩ => ⟨S2x32, .f32⟩
  | .hbm, ⟨8, _⟩ => ⟨S2x32, .f32⟩
  | .local _ .vmem, ⟨0, _⟩ => ⟨S2x32, .f32⟩
  | .local _ .vmem, ⟨1, _⟩ => ⟨S1x2x32, .f32⟩
  | .local _ .vmem, ⟨2, _⟩ => ⟨S2x32, .f32⟩
  | .local _ .vmem, ⟨3, _⟩ => ⟨S2x32, .f32⟩
  | .local _ .vmem, ⟨4, _⟩ => ⟨S2x32, .f32⟩
  | .local _ .vmem, ⟨5, _⟩ => ⟨S2x32, .f32⟩
  | .local _ .vmem, ⟨6, _⟩ => ⟨S2x32, .f32⟩
  | .local _ .vmem, ⟨7, _⟩ => ⟨S2x32, .f32⟩
  | _, _ => ⟨S2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== OptStepReferenceIdeal.lean ====
abbrev S2x32 : Shape := ⟨2, ![2, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x32, .f32⟩
  | .hbm, ⟨1, _⟩ => ⟨S2x32, .f32⟩
  | .hbm, ⟨2, _⟩ => ⟨S2x32, .f32⟩
  | .hbm, ⟨3, _⟩ => ⟨S2x32, .f32⟩
  | .hbm, ⟨4, _⟩ => ⟨S_, .f32⟩
  | .hbm, ⟨5, _⟩ => ⟨S2x32, .f32⟩
  | .hbm, ⟨6, _⟩ => ⟨S2x32, .f32⟩
  | .hbm, ⟨7, _⟩ => ⟨S_, .f32⟩
  | .hbm, ⟨8, _⟩ => ⟨S2x32, .f32⟩
  | .hbm, ⟨9, _⟩ => ⟨S2x32, .f32⟩
  | .hbm, ⟨10, _⟩ => ⟨S2x32, .f32⟩
  | .hbm, ⟨11, _⟩ => ⟨S_, .f32⟩
  | .hbm, ⟨12, _⟩ => ⟨S2x32, .f32⟩
  | .hbm, ⟨13, _⟩ => ⟨S2x32, .f32⟩
  | .hbm, ⟨14, _⟩ => ⟨S2x32, .f32⟩
  | .hbm, ⟨15, _⟩ => ⟨S_, .f32⟩
  | .hbm, ⟨16, _⟩ => ⟨S2x32, .f32⟩
  | .hbm, ⟨17, _⟩ => ⟨S2x32, .f32⟩
  | .hbm, ⟨18, _⟩ => ⟨S2x32, .f32⟩
  | .hbm, ⟨19, _⟩ => ⟨S_, .f32⟩
  | .hbm, ⟨20, _⟩ => ⟨S2x32, .f32⟩
  | .hbm, ⟨21, _⟩ => ⟨S2x32, .f32⟩
  | .hbm, ⟨22, _⟩ => ⟨S_, .f32⟩
  | .hbm, ⟨23, _⟩ => ⟨S2x32, .f32⟩
  | .hbm, ⟨24, _⟩ => ⟨S2x32, .f32⟩
  | .hbm, ⟨25, _⟩ => ⟨S2x32, .f32⟩
  | .hbm, ⟨26, _⟩ => ⟨S_, .f32⟩
  | .hbm, ⟨27, _⟩ => ⟨S2x32, .f32⟩
  | .hbm, ⟨28, _⟩ => ⟨S2x32, .f32⟩
  | .hbm, ⟨29, _⟩ => ⟨S2x32, .f32⟩
  | .hbm, ⟨30, _⟩ => ⟨S_, .f32⟩
  | .hbm, ⟨31, _⟩ => ⟨S2x32, .f32⟩
  | .hbm, ⟨32, _⟩ => ⟨S2x32, .f32⟩
  | .hbm, ⟨33, _⟩ => ⟨S2x32, .f32⟩
  | .hbm, ⟨34, _⟩ => ⟨S_, .f32⟩
  | .hbm, ⟨35, _⟩ => ⟨S2x32, .f32⟩
  | .hbm, ⟨36, _⟩ => ⟨S2x32, .f32⟩
  | _, _ => ⟨S2x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== OptBKernel.lean ====
abbrev S2x32x64x16 : Shape := ⟨4, ![2, 32, 64, 16]⟩
abbrev S1x2x32x64x16 : Shape := ⟨5, ![1, 2, 32, 64, 16]⟩
abbrev S4096x16 : Shape := ⟨2, ![4096, 16]⟩
abbrev S1x4096x16 : Shape := ⟨3, ![1, 4096, 16]⟩
abbrev S2048x16 : Shape := ⟨2, ![2048, 16]⟩
abbrev S1x2048x16 : Shape := ⟨3, ![1, 2048, 16]⟩

abbrev nBuf : Space → Nat
  | .hbm => 13
  | .vmem => 16
  | .smem => 0
  | _ => 0

abbrev bufTy : (tb : Table) → Fin (tcTables nBuf tb) → BufTy
  | .hbm, ⟨0, _⟩ => ⟨S2x32x64x16, .f32⟩
  | .hbm, ⟨1, _⟩ => ⟨S2x32x64x16, .f32⟩
  | .hbm, ⟨2, _⟩ => ⟨S2x32x64x16, .f32⟩
  | .hbm, ⟨3, _⟩ => ⟨S2x32x64x16, .f32⟩
  | .hbm, ⟨4, _⟩ => ⟨S1x2x32x64x16, .f32⟩
  | .hbm, ⟨5, _⟩ => ⟨S4096x16, .f32⟩
  | .hbm, ⟨6, _⟩ => ⟨S1x4096x16, .f32⟩
  | .hbm, ⟨7, _⟩ => ⟨S4096x16, .f32⟩
  | .hbm, ⟨8, _⟩ => ⟨S4096x16, .f32⟩
  | .hbm, ⟨9, _⟩ => ⟨S4096x16, .f32⟩
  | .hbm, ⟨10, _⟩ => ⟨S4096x16, .f32⟩
  | .hbm, ⟨11, _⟩ => ⟨S4096x16, .f32⟩
  | .hbm, ⟨12, _⟩ => ⟨S4096x16, .f32⟩
  | .local _ .vmem, ⟨0, _⟩ => ⟨S2048x16, .f32⟩
  | .local _ .vmem, ⟨1, _⟩ => ⟨S2048x16, .f32⟩
  | .local _ .vmem, ⟨2, _⟩ => ⟨S1x2048x16, .f32⟩
  | .local _ .vmem, ⟨3, _⟩ => ⟨S1x2048x16, .f32⟩
  | .local _ .vmem, ⟨4, _⟩ => ⟨S2048x16, .f32⟩
  | .local _ .vmem, ⟨5, _⟩ => ⟨S2048x16, .f32⟩
  | .local _ .vmem, ⟨6, _⟩ => ⟨S2048x16, .f32⟩
  | .local _ .vmem, ⟨7, _⟩ => ⟨S2048x16, .f32⟩
  | .local _ .vmem, ⟨8, _⟩ => ⟨S2048x16, .f32⟩
  | .local _ .vmem, ⟨9, _⟩ => ⟨S2048x16, .f32⟩
  | .local _ .vmem, ⟨10, _⟩ => ⟨S2048x16, .f32⟩
  | .local _ .vmem, ⟨11, _⟩ => ⟨S2048x16, .f32⟩
  | .local _ .vmem, ⟨12, _⟩ => ⟨S2048x16, .f32⟩
  | .local _ .vmem, ⟨13, _⟩ => ⟨S2048x16, .f32⟩
  | .local _ .vmem, ⟨14, _⟩ => ⟨S2048x16, .f32⟩
  | .local _ .vmem, ⟨15, _⟩ => ⟨S2048x16, .f32⟩
  | _, _ => ⟨S2x32x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OptBReferenceIdeal.lean ====
abbrev S2x32x64x16 : Shape := ⟨4, ![2, 32, 64, 16]⟩
abbrev S_ : Shape := ⟨0, ![]⟩
abbrev S4096x16 : Shape := ⟨2, ![4096, 16]⟩

abbrev nBuf : Space → Nat
  | .hbm => 41
  | .vmem => 0
  | .smem => 0
  | _ => 0

abbrev bufTy : (tb : Table) → Fin (tcTables nBuf tb) → BufTy
  | .hbm, ⟨0, _⟩ => ⟨S2x32x64x16, .f32⟩
  | .hbm, ⟨1, _⟩ => ⟨S2x32x64x16, .f32⟩
  | .hbm, ⟨2, _⟩ => ⟨S2x32x64x16, .f32⟩
  | .hbm, ⟨3, _⟩ => ⟨S2x32x64x16, .f32⟩
  | .hbm, ⟨4, _⟩ => ⟨S_, .f32⟩
  | .hbm, ⟨5, _⟩ => ⟨S2x32x64x16, .f32⟩
  | .hbm, ⟨6, _⟩ => ⟨S2x32x64x16, .f32⟩
  | .hbm, ⟨7, _⟩ => ⟨S_, .f32⟩
  | .hbm, ⟨8, _⟩ => ⟨S2x32x64x16, .f32⟩
  | .hbm, ⟨9, _⟩ => ⟨S2x32x64x16, .f32⟩
  | .hbm, ⟨10, _⟩ => ⟨S2x32x64x16, .f32⟩
  | .hbm, ⟨11, _⟩ => ⟨S_, .f32⟩
  | .hbm, ⟨12, _⟩ => ⟨S2x32x64x16, .f32⟩
  | .hbm, ⟨13, _⟩ => ⟨S2x32x64x16, .f32⟩
  | .hbm, ⟨14, _⟩ => ⟨S2x32x64x16, .f32⟩
  | .hbm, ⟨15, _⟩ => ⟨S_, .f32⟩
  | .hbm, ⟨16, _⟩ => ⟨S2x32x64x16, .f32⟩
  | .hbm, ⟨17, _⟩ => ⟨S2x32x64x16, .f32⟩
  | .hbm, ⟨18, _⟩ => ⟨S2x32x64x16, .f32⟩
  | .hbm, ⟨19, _⟩ => ⟨S_, .f32⟩
  | .hbm, ⟨20, _⟩ => ⟨S2x32x64x16, .f32⟩
  | .hbm, ⟨21, _⟩ => ⟨S2x32x64x16, .f32⟩
  | .hbm, ⟨22, _⟩ => ⟨S_, .f32⟩
  | .hbm, ⟨23, _⟩ => ⟨S2x32x64x16, .f32⟩
  | .hbm, ⟨24, _⟩ => ⟨S2x32x64x16, .f32⟩
  | .hbm, ⟨25, _⟩ => ⟨S2x32x64x16, .f32⟩
  | .hbm, ⟨26, _⟩ => ⟨S_, .f32⟩
  | .hbm, ⟨27, _⟩ => ⟨S2x32x64x16, .f32⟩
  | .hbm, ⟨28, _⟩ => ⟨S2x32x64x16, .f32⟩
  | .hbm, ⟨29, _⟩ => ⟨S2x32x64x16, .f32⟩
  | .hbm, ⟨30, _⟩ => ⟨S_, .f32⟩
  | .hbm, ⟨31, _⟩ => ⟨S2x32x64x16, .f32⟩
  | .hbm, ⟨32, _⟩ => ⟨S2x32x64x16, .f32⟩
  | .hbm, ⟨33, _⟩ => ⟨S2x32x64x16, .f32⟩
  | .hbm, ⟨34, _⟩ => ⟨S_, .f32⟩
  | .hbm, ⟨35, _⟩ => ⟨S2x32x64x16, .f32⟩
  | .hbm, ⟨36, _⟩ => ⟨S2x32x64x16, .f32⟩
  | .hbm, ⟨37, _⟩ => ⟨S4096x16, .f32⟩
  | .hbm, ⟨38, _⟩ => ⟨S4096x16, .f32⟩
  | .hbm, ⟨39, _⟩ => ⟨S4096x16, .f32⟩
  | .hbm, ⟨40, _⟩ => ⟨S4096x16, .f32⟩
  | _, _ => ⟨S2x32x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== OptCKernel.lean ====
abbrev S2x32x16x64 : Shape := ⟨4, ![2, 32, 16, 64]⟩
abbrev S1x2x32x16x64 : Shape := ⟨5, ![1, 2, 32, 16, 64]⟩
abbrev S1024x64 : Shape := ⟨2, ![1024, 64]⟩
abbrev S1x1024x64 : Shape := ⟨3, ![1, 1024, 64]⟩
abbrev S512x64 : Shape := ⟨2, ![512, 64]⟩
abbrev S1x512x64 : Shape := ⟨3, ![1, 512, 64]⟩

abbrev nBuf : Space → Nat
  | .hbm => 13
  | .vmem => 16
  | .smem => 0
  | _ => 0

abbrev bufTy : (tb : Table) → Fin (tcTables nBuf tb) → BufTy
  | .hbm, ⟨0, _⟩ => ⟨S2x32x16x64, .f32⟩
  | .hbm, ⟨1, _⟩ => ⟨S2x32x16x64, .f32⟩
  | .hbm, ⟨2, _⟩ => ⟨S2x32x16x64, .f32⟩
  | .hbm, ⟨3, _⟩ => ⟨S2x32x16x64, .f32⟩
  | .hbm, ⟨4, _⟩ => ⟨S1x2x32x16x64, .f32⟩
  | .hbm, ⟨5, _⟩ => ⟨S1024x64, .f32⟩
  | .hbm, ⟨6, _⟩ => ⟨S1x1024x64, .f32⟩
  | .hbm, ⟨7, _⟩ => ⟨S1024x64, .f32⟩
  | .hbm, ⟨8, _⟩ => ⟨S1024x64, .f32⟩
  | .hbm, ⟨9, _⟩ => ⟨S1024x64, .f32⟩
  | .hbm, ⟨10, _⟩ => ⟨S1024x64, .f32⟩
  | .hbm, ⟨11, _⟩ => ⟨S1024x64, .f32⟩
  | .hbm, ⟨12, _⟩ => ⟨S1024x64, .f32⟩
  | .local _ .vmem, ⟨0, _⟩ => ⟨S512x64, .f32⟩
  | .local _ .vmem, ⟨1, _⟩ => ⟨S512x64, .f32⟩
  | .local _ .vmem, ⟨2, _⟩ => ⟨S1x512x64, .f32⟩
  | .local _ .vmem, ⟨3, _⟩ => ⟨S1x512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | .local _ .vmem, ⟨14, _⟩ => ⟨S512x64, .f32⟩
  | .local _ .vmem, ⟨15, _⟩ => ⟨S512x64, .f32⟩
  | _, _ => ⟨S2x32x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OptCReferenceIdeal.lean ====
abbrev S2x32x16x64 : Shape := ⟨4, ![2, 32, 16, 64]⟩
abbrev S_ : Shape := ⟨0, ![]⟩
abbrev S1024x64 : Shape := ⟨2, ![1024, 64]⟩

abbrev nBuf : Space → Nat
  | .hbm => 41
  | .vmem => 0
  | .smem => 0
  | _ => 0

abbrev bufTy : (tb : Table) → Fin (tcTables nBuf tb) → BufTy
  | .hbm, ⟨0, _⟩ => ⟨S2x32x16x64, .f32⟩
  | .hbm, ⟨1, _⟩ => ⟨S2x32x16x64, .f32⟩
  | .hbm, ⟨2, _⟩ => ⟨S2x32x16x64, .f32⟩
  | .hbm, ⟨3, _⟩ => ⟨S2x32x16x64, .f32⟩
  | .hbm, ⟨4, _⟩ => ⟨S_, .f32⟩
  | .hbm, ⟨5, _⟩ => ⟨S2x32x16x64, .f32⟩
  | .hbm, ⟨6, _⟩ => ⟨S2x32x16x64, .f32⟩
  | .hbm, ⟨7, _⟩ => ⟨S_, .f32⟩
  | .hbm, ⟨8, _⟩ => ⟨S2x32x16x64, .f32⟩
  | .hbm, ⟨9, _⟩ => ⟨S2x32x16x64, .f32⟩
  | .hbm, ⟨10, _⟩ => ⟨S2x32x16x64, .f32⟩
  | .hbm, ⟨11, _⟩ => ⟨S_, .f32⟩
  | .hbm, ⟨12, _⟩ => ⟨S2x32x16x64, .f32⟩
  | .hbm, ⟨13, _⟩ => ⟨S2x32x16x64, .f32⟩
  | .hbm, ⟨14, _⟩ => ⟨S2x32x16x64, .f32⟩
  | .hbm, ⟨15, _⟩ => ⟨S_, .f32⟩
  | .hbm, ⟨16, _⟩ => ⟨S2x32x16x64, .f32⟩
  | .hbm, ⟨17, _⟩ => ⟨S2x32x16x64, .f32⟩
  | .hbm, ⟨18, _⟩ => ⟨S2x32x16x64, .f32⟩
  | .hbm, ⟨19, _⟩ => ⟨S_, .f32⟩
  | .hbm, ⟨20, _⟩ => ⟨S2x32x16x64, .f32⟩
  | .hbm, ⟨21, _⟩ => ⟨S2x32x16x64, .f32⟩
  | .hbm, ⟨22, _⟩ => ⟨S_, .f32⟩
  | .hbm, ⟨23, _⟩ => ⟨S2x32x16x64, .f32⟩
  | .hbm, ⟨24, _⟩ => ⟨S2x32x16x64, .f32⟩
  | .hbm, ⟨25, _⟩ => ⟨S2x32x16x64, .f32⟩
  | .hbm, ⟨26, _⟩ => ⟨S_, .f32⟩
  | .hbm, ⟨27, _⟩ => ⟨S2x32x16x64, .f32⟩
  | .hbm, ⟨28, _⟩ => ⟨S2x32x16x64, .f32⟩
  | .hbm, ⟨29, _⟩ => ⟨S2x32x16x64, .f32⟩
  | .hbm, ⟨30, _⟩ => ⟨S_, .f32⟩
  | .hbm, ⟨31, _⟩ => ⟨S2x32x16x64, .f32⟩
  | .hbm, ⟨32, _⟩ => ⟨S2x32x16x64, .f32⟩
  | .hbm, ⟨33, _⟩ => ⟨S2x32x16x64, .f32⟩
  | .hbm, ⟨34, _⟩ => ⟨S_, .f32⟩
  | .hbm, ⟨35, _⟩ => ⟨S2x32x16x64, .f32⟩
  | .hbm, ⟨36, _⟩ => ⟨S2x32x16x64, .f32⟩
  | .hbm, ⟨37, _⟩ => ⟨S1024x64, .f32⟩
  | .hbm, ⟨38, _⟩ => ⟨S1024x64, .f32⟩
  | .hbm, ⟨39, _⟩ => ⟨S1024x64, .f32⟩
  | .hbm, ⟨40, _⟩ => ⟨S1024x64, .f32⟩
  | _, _ => ⟨S2x32x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== OptDKernel.lean ====
abbrev S2x512 : Shape := ⟨2, ![2, 512]⟩
abbrev S1x2x512 : Shape := ⟨3, ![1, 2, 512]⟩

abbrev nBuf : Space → Nat
  | .hbm => 9
  | .vmem => 8
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S1x2x512, .f32⟩
  | .hbm, ⟨5, _⟩ => ⟨S2x512, .f32⟩
  | .hbm, ⟨6, _⟩ => ⟨S2x512, .f32⟩
  | .hbm, ⟨7, _⟩ => ⟨S2x512, .f32⟩
  | .hbm, ⟨8, _⟩ => ⟨S2x512, .f32⟩
  | .local _ .vmem, ⟨0, _⟩ => ⟨S2x512, .f32⟩
  | .local _ .vmem, ⟨1, _⟩ => ⟨S1x2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | .local _ .vmem, ⟨7, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== OptDReferenceIdeal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== OptQKernel.lean ====
abbrev S2x64 : Shape := ⟨2, ![2, 64]⟩
abbrev S1x2x64 : Shape := ⟨3, ![1, 2, 64]⟩

abbrev nBuf : Space → Nat
  | .hbm => 9
  | .vmem => 8
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S1x2x64, .f32⟩
  | .hbm, ⟨5, _⟩ => ⟨S2x64, .f32⟩
  | .hbm, ⟨6, _⟩ => ⟨S2x64, .f32⟩
  | .hbm, ⟨7, _⟩ => ⟨S2x64, .f32⟩
  | .hbm, ⟨8, _⟩ => ⟨S2x64, .f32⟩
  | .local _ .vmem, ⟨0, _⟩ => ⟨S2x64, .f32⟩
  | .local _ .vmem, ⟨1, _⟩ => ⟨S1x2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | .local _ .vmem, ⟨7, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== OptQReferenceIdeal.lean ====
abbrev S2x64 : Shape := ⟨2, ![2, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S_, .f32⟩
  | .hbm, ⟨5, _⟩ => ⟨S2x64, .f32⟩
  | .hbm, ⟨6, _⟩ => ⟨S2x64, .f32⟩
  | .hbm, ⟨7, _⟩ => ⟨S_, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S_, .f32⟩
  | .hbm, ⟨12, _⟩ => ⟨S2x64, .f32⟩
  | .hbm, ⟨13, _⟩ => ⟨S2x64, .f32⟩
  | .hbm, ⟨14, _⟩ => ⟨S2x64, .f32⟩
  | .hbm, ⟨15, _⟩ => ⟨S_, .f32⟩
  | .hbm, ⟨16, _⟩ => ⟨S2x64, .f32⟩
  | .hbm, ⟨17, _⟩ => ⟨S2x64, .f32⟩
  | .hbm, ⟨18, _⟩ => ⟨S2x64, .f32⟩
  | .hbm, ⟨19, _⟩ => ⟨S_, .f32⟩
  | .hbm, ⟨20, _⟩ => ⟨S2x64, .f32⟩
  | .hbm, ⟨21, _⟩ => ⟨S2x64, .f32⟩
  | .hbm, ⟨22, _⟩ => ⟨S_, .f32⟩
  | .hbm, ⟨23, _⟩ => ⟨S2x64, .f32⟩
  | .hbm, ⟨24, _⟩ => ⟨S2x64, .f32⟩
  | .hbm, ⟨25, _⟩ => ⟨S2x64, .f32⟩
  | .hbm, ⟨26, _⟩ => ⟨S_, .f32⟩
  | .hbm, ⟨27, _⟩ => ⟨S2x64, .f32⟩
  | .hbm, ⟨28, _⟩ => ⟨S2x64, .f32⟩
  | .hbm, ⟨29, _⟩ => ⟨S2x64, .f32⟩
  | .hbm, ⟨30, _⟩ => ⟨S_, .f32⟩
  | .hbm, ⟨31, _⟩ => ⟨S2x64, .f32⟩
  | .hbm, ⟨32, _⟩ => ⟨S2x64, .f32⟩
  | .hbm, ⟨33, _⟩ => ⟨S2x64, .f32⟩
  | .hbm, ⟨34, _⟩ => ⟨S_, .f32⟩
  | .hbm, ⟨35, _⟩ => ⟨S2x64, .f32⟩
  | .hbm, ⟨36, _⟩ => ⟨S2x64, .f32⟩
  | _, _ => ⟨S2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== OptConvWKernel.lean ====
abbrev S2x4x160 : Shape := ⟨3, ![2, 4, 160]⟩
abbrev S1x2x4x160 : Shape := ⟨4, ![1, 2, 4, 160]⟩
abbrev S8x160 : Shape := ⟨2, ![8, 160]⟩
abbrev S1x8x160 : Shape := ⟨3, ![1, 8, 160]⟩

abbrev nBuf : Space → Nat
  | .hbm => 13
  | .vmem => 8
  | .smem => 0
  | _ => 0

abbrev bufTy : (tb : Table) → Fin (tcTables nBuf tb) → BufTy
  | .hbm, ⟨0, _⟩ => ⟨S2x4x160, .f32⟩
  | .hbm, ⟨1, _⟩ => ⟨S2x4x160, .f32⟩
  | .hbm, ⟨2, _⟩ => ⟨S2x4x160, .f32⟩
  | .hbm, ⟨3, _⟩ => ⟨S2x4x160, .f32⟩
  | .hbm, ⟨4, _⟩ => ⟨S1x2x4x160, .f32⟩
  | .hbm, ⟨5, _⟩ => ⟨S8x160, .f32⟩
  | .hbm, ⟨6, _⟩ => ⟨S1x8x160, .f32⟩
  | .hbm, ⟨7, _⟩ => ⟨S8x160, .f32⟩
  | .hbm, ⟨8, _⟩ => ⟨S8x160, .f32⟩
  | .hbm, ⟨9, _⟩ => ⟨S8x160, .f32⟩
  | .hbm, ⟨10, _⟩ => ⟨S8x160, .f32⟩
  | .hbm, ⟨11, _⟩ => ⟨S8x160, .f32⟩
  | .hbm, ⟨12, _⟩ => ⟨S8x160, .f32⟩
  | .local _ .vmem, ⟨0, _⟩ => ⟨S8x160, .f32⟩
  | .local _ .vmem, ⟨1, _⟩ => ⟨S1x8x160, .f32⟩
  | .local _ .vmem, ⟨2, _⟩ => ⟨S8x160, .f32⟩
  | .local _ .vmem, ⟨3, _⟩ => ⟨S8x160, .f32⟩
  | .local _ .vmem, ⟨4, _⟩ => ⟨S8x160, .f32⟩
  | .local _ .vmem, ⟨5, _⟩ => ⟨S8x160, .f32⟩
  | .local _ .vmem, ⟨6, _⟩ => ⟨S8x160, .f32⟩
  | .local _ .vmem, ⟨7, _⟩ => ⟨S8x160, .f32⟩
  | _, _ => ⟨S2x4x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x160 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== OptConvWReferenceIdeal.lean ====
abbrev S2x4x160 : Shape := ⟨3, ![2, 4, 160]⟩
abbrev S_ : Shape := ⟨0, ![]⟩
abbrev S8x160 : Shape := ⟨2, ![8, 160]⟩

abbrev nBuf : Space → Nat
  | .hbm => 41
  | .vmem => 0
  | .smem => 0
  | _ => 0

abbrev bufTy : (tb : Table) → Fin (tcTables nBuf tb) → BufTy
  | .hbm, ⟨0, _⟩ => ⟨S2x4x160, .f32⟩
  | .hbm, ⟨1, _⟩ => ⟨S2x4x160, .f32⟩
  | .hbm, ⟨2, _⟩ => ⟨S2x4x160, .f32⟩
  | .hbm, ⟨3, _⟩ => ⟨S2x4x160, .f32⟩
  | .hbm, ⟨4, _⟩ => ⟨S_, .f32⟩
  | .hbm, ⟨5, _⟩ => ⟨S2x4x160, .f32⟩
  | .hbm, ⟨6, _⟩ => ⟨S2x4x160, .f32⟩
  | .hbm, ⟨7, _⟩ => ⟨S_, .f32⟩
  | .hbm, ⟨8, _⟩ => ⟨S2x4x160, .f32⟩
  | .hbm, ⟨9, _⟩ => ⟨S2x4x160, .f32⟩
  | .hbm, ⟨10, _⟩ => ⟨S2x4x160, .f32⟩
  | .hbm, ⟨11, _⟩ => ⟨S_, .f32⟩
  | .hbm, ⟨12, _⟩ => ⟨S2x4x160, .f32⟩
  | .hbm, ⟨13, _⟩ => ⟨S2x4x160, .f32⟩
  | .hbm, ⟨14, _⟩ => ⟨S2x4x160, .f32⟩
  | .hbm, ⟨15, _⟩ => ⟨S_, .f32⟩
  | .hbm, ⟨16, _⟩ => ⟨S2x4x160, .f32⟩
  | .hbm, ⟨17, _⟩ => ⟨S2x4x160, .f32⟩
  | .hbm, ⟨18, _⟩ => ⟨S2x4x160, .f32⟩
  | .hbm, ⟨19, _⟩ => ⟨S_, .f32⟩
  | .hbm, ⟨20, _⟩ => ⟨S2x4x160, .f32⟩
  | .hbm, ⟨21, _⟩ => ⟨S2x4x160, .f32⟩
  | .hbm, ⟨22, _⟩ => ⟨S_, .f32⟩
  | .hbm, ⟨23, _⟩ => ⟨S2x4x160, .f32⟩
  | .hbm, ⟨24, _⟩ => ⟨S2x4x160, .f32⟩
  | .hbm, ⟨25, _⟩ => ⟨S2x4x160, .f32⟩
  | .hbm, ⟨26, _⟩ => ⟨S_, .f32⟩
  | .hbm, ⟨27, _⟩ => ⟨S2x4x160, .f32⟩
  | .hbm, ⟨28, _⟩ => ⟨S2x4x160, .f32⟩
  | .hbm, ⟨29, _⟩ => ⟨S2x4x160, .f32⟩
  | .hbm, ⟨30, _⟩ => ⟨S_, .f32⟩
  | .hbm, ⟨31, _⟩ => ⟨S2x4x160, .f32⟩
  | .hbm, ⟨32, _⟩ => ⟨S2x4x160, .f32⟩
  | .hbm, ⟨33, _⟩ => ⟨S2x4x160, .f32⟩
  | .hbm, ⟨34, _⟩ => ⟨S_, .f32⟩
  | .hbm, ⟨35, _⟩ => ⟨S2x4x160, .f32⟩
  | .hbm, ⟨36, _⟩ => ⟨S2x4x160, .f32⟩
  | .hbm, ⟨37, _⟩ => ⟨S8x160, .f32⟩
  | .hbm, ⟨38, _⟩ => ⟨S8x160, .f32⟩
  | .hbm, ⟨39, _⟩ => ⟨S8x160, .f32⟩
  | .hbm, ⟨40, _⟩ => ⟨S8x160, .f32⟩
  | _, _ => ⟨S2x4x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== OptConvBKernel.lean ====
abbrev S2x1280 : Shape := ⟨2, ![2, 1280]⟩
abbrev S1x2x1280 : Shape := ⟨3, ![1, 2, 1280]⟩

abbrev nBuf : Space → Nat
  | .hbm => 9
  | .vmem => 8
  | .smem => 0
  | _ => 0

abbrev bufTy : (tb : Table) → Fin (tcTables nBuf tb) → BufTy
  | .hbm, ⟨0, _⟩ => ⟨S2x1280, .f32⟩
  | .hbm, ⟨1, _⟩ => ⟨S2x1280, .f32⟩
  | .hbm, ⟨2, _⟩ => ⟨S2x1280, .f32⟩
  | .hbm, ⟨3, _⟩ => ⟨S2x1280, .f32⟩
  | .hbm, ⟨4, _⟩ => ⟨S1x2x1280, .f32⟩
  | .hbm, ⟨5, _⟩ => ⟨S2x1280, .f32⟩
  | .hbm, ⟨6, _⟩ => ⟨S2x1280, .f32⟩
  | .hbm, ⟨7, _⟩ => ⟨S2x1280, .f32⟩
  | .hbm, ⟨8, _⟩ => ⟨S2x1280, .f32⟩
  | .local _ .vmem, ⟨0, _⟩ => ⟨S2x1280, .f32⟩
  | .local _ .vmem, ⟨1, _⟩ => ⟨S1x2x1280, .f32⟩
  | .local _ .vmem, ⟨2, _⟩ => ⟨S2x1280, .f32⟩
  | .local _ .vmem, ⟨3, _⟩ => ⟨S2x1280, .f32⟩
  | .local _ .vmem, ⟨4, _⟩ => ⟨S2x1280, .f32⟩
  | .local _ .vmem, ⟨5, _⟩ => ⟨S2x1280, .f32⟩
  | .local _ .vmem, ⟨6, _⟩ => ⟨S2x1280, .f32⟩
  | .local _ .vmem, ⟨7, _⟩ => ⟨S2x1280, .f32⟩
  | _, _ => ⟨S2x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== OptConvBReferenceIdeal.lean ====
abbrev S2x1280 : Shape := ⟨2, ![2, 1280]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1280, .f32⟩
  | .hbm, ⟨1, _⟩ => ⟨S2x1280, .f32⟩
  | .hbm, ⟨2, _⟩ => ⟨S2x1280, .f32⟩
  | .hbm, ⟨3, _⟩ => ⟨S2x1280, .f32⟩
  | .hbm, ⟨4, _⟩ => ⟨S_, .f32⟩
  | .hbm, ⟨5, _⟩ => ⟨S2x1280, .f32⟩
  | .hbm, ⟨6, _⟩ => ⟨S2x1280, .f32⟩
  | .hbm, ⟨7, _⟩ => ⟨S_, .f32⟩
  | .hbm, ⟨8, _⟩ => ⟨S2x1280, .f32⟩
  | .hbm, ⟨9, _⟩ => ⟨S2x1280, .f32⟩
  | .hbm, ⟨10, _⟩ => ⟨S2x1280, .f32⟩
  | .hbm, ⟨11, _⟩ => ⟨S_, .f32⟩
  | .hbm, ⟨12, _⟩ => ⟨S2x1280, .f32⟩
  | .hbm, ⟨13, _⟩ => ⟨S2x1280, .f32⟩
  | .hbm, ⟨14, _⟩ => ⟨S2x1280, .f32⟩
  | .hbm, ⟨15, _⟩ => ⟨S_, .f32⟩
  | .hbm, ⟨16, _⟩ => ⟨S2x1280, .f32⟩
  | .hbm, ⟨17, _⟩ => ⟨S2x1280, .f32⟩
  | .hbm, ⟨18, _⟩ => ⟨S2x1280, .f32⟩
  | .hbm, ⟨19, _⟩ => ⟨S_, .f32⟩
  | .hbm, ⟨20, _⟩ => ⟨S2x1280, .f32⟩
  | .hbm, ⟨21, _⟩ => ⟨S2x1280, .f32⟩
  | .hbm, ⟨22, _⟩ => ⟨S_, .f32⟩
  | .hbm, ⟨23, _⟩ => ⟨S2x1280, .f32⟩
  | .hbm, ⟨24, _⟩ => ⟨S2x1280, .f32⟩
  | .hbm, ⟨25, _⟩ => ⟨S2x1280, .f32⟩
  | .hbm, ⟨26, _⟩ => ⟨S_, .f32⟩
  | .hbm, ⟨27, _⟩ => ⟨S2x1280, .f32⟩
  | .hbm, ⟨28, _⟩ => ⟨S2x1280, .f32⟩
  | .hbm, ⟨29, _⟩ => ⟨S2x1280, .f32⟩
  | .hbm, ⟨30, _⟩ => ⟨S_, .f32⟩
  | .hbm, ⟨31, _⟩ => ⟨S2x1280, .f32⟩
  | .hbm, ⟨32, _⟩ => ⟨S2x1280, .f32⟩
  | .hbm, ⟨33, _⟩ => ⟨S2x1280, .f32⟩
  | .hbm, ⟨34, _⟩ => ⟨S_, .f32⟩
  | .hbm, ⟨35, _⟩ => ⟨S2x1280, .f32⟩
  | .hbm, ⟨36, _⟩ => ⟨S2x1280, .f32⟩
  | _, _ => ⟨S2x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== OptDtKernel.lean ====
abbrev S2x12 : Shape := ⟨2, ![2, 12]⟩
abbrev S1x2x12 : Shape := ⟨3, ![1, 2, 12]⟩

abbrev nBuf : Space → Nat
  | .hbm => 9
  | .vmem => 8
  | .smem => 0
  | _ => 0

abbrev bufTy : (tb : Table) → Fin (tcTables nBuf tb) → BufTy
  | .hbm, ⟨0, _⟩ => ⟨S2x12, .f32⟩
  | .hbm, ⟨1, _⟩ => ⟨S2x12, .f32⟩
  | .hbm, ⟨2, _⟩ => ⟨S2x12, .f32⟩
  | .hbm, ⟨3, _⟩ => ⟨S2x12, .f32⟩
  | .hbm, ⟨4, _⟩ => ⟨S1x2x12, .f32⟩
  | .hbm, ⟨5, _⟩ => ⟨S2x12, .f32⟩
  | .hbm, ⟨6, _⟩ => ⟨S2x12, .f32⟩
  | .hbm, ⟨7, _⟩ => ⟨S2x12, .f32⟩
  | .hbm, ⟨8, _⟩ => ⟨S2x12, .f32⟩
  | .local _ .vmem, ⟨0, _⟩ => ⟨S2x12, .f32⟩
  | .local _ .vmem, ⟨1, _⟩ => ⟨S1x2x12, .f32⟩
  | .local _ .vmem, ⟨2, _⟩ => ⟨S2x12, .f32⟩
  | .local _ .vmem, ⟨3, _⟩ => ⟨S2x12, .f32⟩
  | .local _ .vmem, ⟨4, _⟩ => ⟨S2x12, .f32⟩
  | .local _ .vmem, ⟨5, _⟩ => ⟨S2x12, .f32⟩
  | .local _ .vmem, ⟨6, _⟩ => ⟨S2x12, .f32⟩
  | .local _ .vmem, ⟨7, _⟩ => ⟨S2x12, .f32⟩
  | _, _ => ⟨S2x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== OptDtReferenceIdeal.lean ====
abbrev S2x12 : Shape := ⟨2, ![2, 12]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x12, .f32⟩
  | .hbm, ⟨1, _⟩ => ⟨S2x12, .f32⟩
  | .hbm, ⟨2, _⟩ => ⟨S2x12, .f32⟩
  | .hbm, ⟨3, _⟩ => ⟨S2x12, .f32⟩
  | .hbm, ⟨4, _⟩ => ⟨S_, .f32⟩
  | .hbm, ⟨5, _⟩ => ⟨S2x12, .f32⟩
  | .hbm, ⟨6, _⟩ => ⟨S2x12, .f32⟩
  | .hbm, ⟨7, _⟩ => ⟨S_, .f32⟩
  | .hbm, ⟨8, _⟩ => ⟨S2x12, .f32⟩
  | .hbm, ⟨9, _⟩ => ⟨S2x12, .f32⟩
  | .hbm, ⟨10, _⟩ => ⟨S2x12, .f32⟩
  | .hbm, ⟨11, _⟩ => ⟨S_, .f32⟩
  | .hbm, ⟨12, _⟩ => ⟨S2x12, .f32⟩
  | .hbm, ⟨13, _⟩ => ⟨S2x12, .f32⟩
  | .hbm, ⟨14, _⟩ => ⟨S2x12, .f32⟩
  | .hbm, ⟨15, _⟩ => ⟨S_, .f32⟩
  | .hbm, ⟨16, _⟩ => ⟨S2x12, .f32⟩
  | .hbm, ⟨17, _⟩ => ⟨S2x12, .f32⟩
  | .hbm, ⟨18, _⟩ => ⟨S2x12, .f32⟩
  | .hbm, ⟨19, _⟩ => ⟨S_, .f32⟩
  | .hbm, ⟨20, _⟩ => ⟨S2x12, .f32⟩
  | .hbm, ⟨21, _⟩ => ⟨S2x12, .f32⟩
  | .hbm, ⟨22, _⟩ => ⟨S_, .f32⟩
  | .hbm, ⟨23, _⟩ => ⟨S2x12, .f32⟩
  | .hbm, ⟨24, _⟩ => ⟨S2x12, .f32⟩
  | .hbm, ⟨25, _⟩ => ⟨S2x12, .f32⟩
  | .hbm, ⟨26, _⟩ => ⟨S_, .f32⟩
  | .hbm, ⟨27, _⟩ => ⟨S2x12, .f32⟩
  | .hbm, ⟨28, _⟩ => ⟨S2x12, .f32⟩
  | .hbm, ⟨29, _⟩ => ⟨S2x12, .f32⟩
  | .hbm, ⟨30, _⟩ => ⟨S_, .f32⟩
  | .hbm, ⟨31, _⟩ => ⟨S2x12, .f32⟩
  | .hbm, ⟨32, _⟩ => ⟨S2x12, .f32⟩
  | .hbm, ⟨33, _⟩ => ⟨S2x12, .f32⟩
  | .hbm, ⟨34, _⟩ => ⟨S_, .f32⟩
  | .hbm, ⟨35, _⟩ => ⟨S2x12, .f32⟩
  | .hbm, ⟨36, _⟩ => ⟨S2x12, .f32⟩
  | _, _ => ⟨S2x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== OptSsdNormKernel.lean ====
abbrev S2x768 : Shape := ⟨2, ![2, 768]⟩
abbrev S1x2x768 : Shape := ⟨3, ![1, 2, 768]⟩

abbrev nBuf : Space → Nat
  | .hbm => 9
  | .vmem => 8
  | .smem => 0
  | _ => 0

abbrev bufTy : (tb : Table) → Fin (tcTables nBuf tb) → BufTy
  | .hbm, ⟨0, _⟩ => ⟨S2x768, .f32⟩
  | .hbm, ⟨1, _⟩ => ⟨S2x768, .f32⟩
  | .hbm, ⟨2, _⟩ => ⟨S2x768, .f32⟩
  | .hbm, ⟨3, _⟩ => ⟨S2x768, .f32⟩
  | .hbm, ⟨4, _⟩ => ⟨S1x2x768, .f32⟩
  | .hbm, ⟨5, _⟩ => ⟨S2x768, .f32⟩
  | .hbm, ⟨6, _⟩ => ⟨S2x768, .f32⟩
  | .hbm, ⟨7, _⟩ => ⟨S2x768, .f32⟩
  | .hbm, ⟨8, _⟩ => ⟨S2x768, .f32⟩
  | .local _ .vmem, ⟨0, _⟩ => ⟨S2x768, .f32⟩
  | .local _ .vmem, ⟨1, _⟩ => ⟨S1x2x768, .f32⟩
  | .local _ .vmem, ⟨2, _⟩ => ⟨S2x768, .f32⟩
  | .local _ .vmem, ⟨3, _⟩ => ⟨S2x768, .f32⟩
  | .local _ .vmem, ⟨4, _⟩ => ⟨S2x768, .f32⟩
  | .local _ .vmem, ⟨5, _⟩ => ⟨S2x768, .f32⟩
  | .local _ .vmem, ⟨6, _⟩ => ⟨S2x768, .f32⟩
  | .local _ .vmem, ⟨7, _⟩ => ⟨S2x768, .f32⟩
  | _, _ => ⟨S2x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== OptSsdNormReferenceIdeal.lean ====
abbrev S2x768 : Shape := ⟨2, ![2, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x768, .f32⟩
  | .hbm, ⟨1, _⟩ => ⟨S2x768, .f32⟩
  | .hbm, ⟨2, _⟩ => ⟨S2x768, .f32⟩
  | .hbm, ⟨3, _⟩ => ⟨S2x768, .f32⟩
  | .hbm, ⟨4, _⟩ => ⟨S_, .f32⟩
  | .hbm, ⟨5, _⟩ => ⟨S2x768, .f32⟩
  | .hbm, ⟨6, _⟩ => ⟨S2x768, .f32⟩
  | .hbm, ⟨7, _⟩ => ⟨S_, .f32⟩
  | .hbm, ⟨8, _⟩ => ⟨S2x768, .f32⟩
  | .hbm, ⟨9, _⟩ => ⟨S2x768, .f32⟩
  | .hbm, ⟨10, _⟩ => ⟨S2x768, .f32⟩
  | .hbm, ⟨11, _⟩ => ⟨S_, .f32⟩
  | .hbm, ⟨12, _⟩ => ⟨S2x768, .f32⟩
  | .hbm, ⟨13, _⟩ => ⟨S2x768, .f32⟩
  | .hbm, ⟨14, _⟩ => ⟨S2x768, .f32⟩
  | .hbm, ⟨15, _⟩ => ⟨S_, .f32⟩
  | .hbm, ⟨16, _⟩ => ⟨S2x768, .f32⟩
  | .hbm, ⟨17, _⟩ => ⟨S2x768, .f32⟩
  | .hbm, ⟨18, _⟩ => ⟨S2x768, .f32⟩
  | .hbm, ⟨19, _⟩ => ⟨S_, .f32⟩
  | .hbm, ⟨20, _⟩ => ⟨S2x768, .f32⟩
  | .hbm, ⟨21, _⟩ => ⟨S2x768, .f32⟩
  | .hbm, ⟨22, _⟩ => ⟨S_, .f32⟩
  | .hbm, ⟨23, _⟩ => ⟨S2x768, .f32⟩
  | .hbm, ⟨24, _⟩ => ⟨S2x768, .f32⟩
  | .hbm, ⟨25, _⟩ => ⟨S2x768, .f32⟩
  | .hbm, ⟨26, _⟩ => ⟨S_, .f32⟩
  | .hbm, ⟨27, _⟩ => ⟨S2x768, .f32⟩
  | .hbm, ⟨28, _⟩ => ⟨S2x768, .f32⟩
  | .hbm, ⟨29, _⟩ => ⟨S2x768, .f32⟩
  | .hbm, ⟨30, _⟩ => ⟨S_, .f32⟩
  | .hbm, ⟨31, _⟩ => ⟨S2x768, .f32⟩
  | .hbm, ⟨32, _⟩ => ⟨S2x768, .f32⟩
  | .hbm, ⟨33, _⟩ => ⟨S2x768, .f32⟩
  | .hbm, ⟨34, _⟩ => ⟨S_, .f32⟩
  | .hbm, ⟨35, _⟩ => ⟨S2x768, .f32⟩
  | .hbm, ⟨36, _⟩ => ⟨S2x768, .f32⟩
  | _, _ => ⟨S2x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSmallKernel.lean ====
abbrev S8x2304x128 : Shape := ⟨3, ![8, 2304, 128]⟩
abbrev S2304x128 : Shape := ⟨2, ![2304, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2304x128, .f32⟩
  | .hbm, ⟨1, _⟩ => ⟨S2304x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | _, _ => ⟨S8x2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSmallReferenceIdeal.lean ====
abbrev S8x2304x128 : Shape := ⟨3, ![8, 2304, 128]⟩
abbrev S_ : Shape := ⟨0, ![]⟩
abbrev S2304x128 : Shape := ⟨2, ![2304, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2304x128, .f32⟩
  | .hbm, ⟨1, _⟩ => ⟨S_, .f32⟩
  | .hbm, ⟨2, _⟩ => ⟨S2304x128, .f32⟩
  | _, _ => ⟨S8x2304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LossHeadKernel.lean ====
abbrev S8192x1024 : Shape := ⟨2, ![8192, 1024]⟩
abbrev S8x128 : Shape := ⟨2, ![8, 128]⟩
abbrev S512x1024 : Shape := ⟨2, ![512, 1024]⟩
abbrev S8x1024 : Shape := ⟨2, ![8, 1024]⟩
abbrev S64x8x1024 : Shape := ⟨3, ![64, 8, 1024]⟩
abbrev S1x8x1024 : Shape := ⟨3, ![1, 8, 1024]⟩
abbrev S1 : Shape := ⟨1, ![1]⟩
abbrev S1x1x1 : Shape := ⟨3, ![1, 1, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | .local _ .vmem, ⟨7, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v17 : BitVec 1 := Scalar.cmpi .eq arg0 c15_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadReferenceIdeal.lean ====
abbrev S8192x1024 : Shape := ⟨2, ![8192, 1024]⟩
abbrev S_ : Shape := ⟨0, ![]⟩
abbrev S8192 : Shape := ⟨1, ![8192]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== NormFKernel.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MergeFKernel.lean ====
abbrev S8192x1024 : Shape := ⟨2, ![8192, 1024]⟩
abbrev S8192x3072 : Shape := ⟨2, ![8192, 3072]⟩
abbrev S256x1024 : Shape := ⟨2, ![256, 1024]⟩
abbrev S256x3072 : Shape := ⟨2, ![256, 3072]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x3072, .f32⟩
  | .hbm, ⟨4, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x3072, .f32⟩
  | .local _ .vmem, ⟨7, _⟩ => ⟨S256x3072, .f32⟩
  | .local _ .vmem, ⟨8, _⟩ => ⟨S256x1024, .bf16⟩
  | .local _ .vmem, ⟨9, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeFReferenceIdeal.lean ====
abbrev S8192x1024 : Shape := ⟨2, ![8192, 1024]⟩
abbrev S8192x3072 : Shape := ⟨2, ![8192, 3072]⟩
abbrev S_ : Shape := ⟨0, ![]⟩
abbrev S8192x3x1024 : Shape := ⟨3, ![8192, 3, 1024]⟩
abbrev S8192x1x1024 : Shape := ⟨3, ![8192, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x3072, .f32⟩
  | .hbm, ⟨4, _⟩ => ⟨S8192x3072, .f32⟩
  | .hbm, ⟨5, _⟩ => ⟨S8192x3072, .f32⟩
  | .hbm, ⟨6, _⟩ => ⟨S_, .f32⟩
  | .hbm, ⟨7, _⟩ => ⟨S8192x3072, .f32⟩
  | .hbm, ⟨8, _⟩ => ⟨S8192x3072, .f32⟩
  | .hbm, ⟨9, _⟩ => ⟨S_, .f32⟩
  | .hbm, ⟨10, _⟩ => ⟨S8192x3072, .f32⟩
  | .hbm, ⟨11, _⟩ => ⟨S8192x3072, .f32⟩
  | .hbm, ⟨12, _⟩ => ⟨S8192x3x1024, .f32⟩
  | .hbm, ⟨13, _⟩ => ⟨S8192x1x1024, .f32⟩
  | .hbm, ⟨14, _⟩ => ⟨S8192x1024, .f32⟩
  | .hbm, ⟨15, _⟩ => ⟨S8192x1024, .f32⟩
  | .hbm, ⟨16, _⟩ => ⟨S8192x1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== GluFKernel.lean ====
abbrev S8192x512 : Shape := ⟨2, ![8192, 512]⟩
abbrev S8192x1152 : Shape := ⟨2, ![8192, 1152]⟩
abbrev S512 : Shape := ⟨1, ![512]⟩
abbrev S1x512 : Shape := ⟨2, ![1, 512]⟩
abbrev S512x512 : Shape := ⟨2, ![512, 512]⟩

abbrev nBuf : Space → Nat
  | .hbm => 6
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1152, .f32⟩
  | .hbm, ⟨3, _⟩ => ⟨S512, .f32⟩
  | .hbm, ⟨4, _⟩ => ⟨S1x512, .f32⟩
  | .hbm, ⟨5, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .bf16⟩
  | .local _ .vmem, ⟨8, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GluFReferenceIdeal.lean ====
abbrev S8192x512 : Shape := ⟨2, ![8192, 512]⟩
abbrev S8192x1152 : Shape := ⟨2, ![8192, 1152]⟩
abbrev S512 : Shape := ⟨1, ![512]⟩
abbrev S1x512 : Shape := ⟨2, ![1, 512]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1152, .f32⟩
  | .hbm, ⟨3, _⟩ => ⟨S512, .f32⟩
  | .hbm, ⟨4, _⟩ => ⟨S1x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩

abbrev nD : Nat := 1
abbrev τ : Topo := Topo.v7x

variable {F : FTy → Type} [FloatOps F]
-- ==== CombKernel.lean ====
abbrev S8192x256 : Shape := ⟨2, ![8192, 256]⟩
abbrev S8192x2304 : Shape := ⟨2, ![8192, 2304]⟩
abbrev S512x256 : Shape := ⟨2, ![512, 256]⟩

abbrev nBuf : Space → Nat
  | .hbm => 8
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x2304, .f32⟩
  | .hbm, ⟨7, _⟩ => ⟨S8192x256, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .bf16⟩
  | .local _ .vmem, ⟨15, _⟩ => ⟨S512x256, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CombReferenceIdeal.lean ====
abbrev S8192x256 : Shape := ⟨2, ![8192, 256]⟩
abbrev S8192x2304 : Shape := ⟨2, ![8192, 2304]⟩
abbrev S1x8192x256 : Shape := ⟨3, ![1, 8192, 256]⟩
abbrev S3x8192x256 : Shape := ⟨3, ![3, 8192, 256]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x2304, .f32⟩
  | .hbm, ⟨7, _⟩ => ⟨S8192x256, .f32⟩
  | .hbm, ⟨8, _⟩ => ⟨S1x8192x256, .f32⟩
  | .hbm, ⟨9, _⟩ => ⟨S1x8192x256, .f32⟩
  | .hbm, ⟨10, _⟩ => ⟨S1x8192x256, .f32⟩
  | .hbm, ⟨11, _⟩ => ⟨S3x8192x256, .f32⟩
  | .hbm, ⟨12, _⟩ => ⟨S_, .f32⟩
  | .hbm, ⟨13, _⟩ => ⟨S8192x256, .f32⟩
  | .hbm, ⟨14, _⟩ => ⟨S_, .f32⟩
  | .hbm, ⟨15, _⟩ => ⟨S8192x256, .f32⟩
  | .hbm, ⟨16, _⟩ => ⟨S8192x256, .f32⟩
  | .hbm, ⟨17, _⟩ => ⟨S1x8192x256, .f32⟩
  | .hbm, ⟨18, _⟩ => ⟨S3x8192x256, .f32⟩
  | .hbm, ⟨19, _⟩ => ⟨S3x8192x256, .f32⟩
  | .hbm, ⟨20, _⟩ => ⟨S3x8192x256, .f32⟩
  | .hbm, ⟨21, _⟩ => ⟨S_, .f32⟩
  | .hbm, ⟨22, _⟩ => ⟨S8192x256, .f32⟩
  | .hbm, ⟨23, _⟩ => ⟨S1x8192x256, .f32⟩
  | .hbm, ⟨24, _⟩ => ⟨S3x8192x256, .f32⟩
  | .hbm, ⟨25, _⟩ => ⟨S3x8192x256, .f32⟩
  | .hbm, ⟨26, _⟩ => ⟨S1x8192x256, .f32⟩
  | .hbm, ⟨27, _⟩ => ⟨S1x8192x256, .f32⟩
  | .hbm, ⟨28, _⟩ => ⟨S1x8192x256, .f32⟩
  | .hbm, ⟨29, _⟩ => ⟨S3x8192x256, .f32⟩
  | .hbm, ⟨30, _⟩ => ⟨S3x8192x256, .f32⟩
  | .hbm, ⟨31, _⟩ => ⟨S_, .f32⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S_, .f32⟩
  | .hbm, ⟨36, _⟩ => ⟨S8192x256, .f32⟩
  | .hbm, ⟨37, _⟩ => ⟨S8192x256, .f32⟩
  | .hbm, ⟨38, _⟩ => ⟨S_, .f32⟩
  | .hbm, ⟨39, _⟩ => ⟨S8192x256, .f32⟩
  | .hbm, ⟨40, _⟩ => ⟨S8192x256, .f32⟩
  | .hbm, ⟨41, _⟩ => ⟨S8192x256, .f32⟩
  | .hbm, ⟨42, _⟩ => ⟨S8192x256, .f32⟩
  | .hbm, ⟨43, _⟩ => ⟨S8192x256, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩

abbrev nD : Nat := 1
abbrev τ : Topo := Topo.v7x

variable {F : FTy → Type} [FloatOps F]
-- ==== CombBKernel.lean ====
abbrev S8192x256 : Shape := ⟨2, ![8192, 256]⟩
abbrev S8192x2304 : Shape := ⟨2, ![8192, 2304]⟩
abbrev S512x256 : Shape := ⟨2, ![512, 256]⟩

abbrev nBuf : Space → Nat
  | .hbm => 15
  | .vmem => 30
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x2304, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S8192x256, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S512x256, .f32⟩
  | .local _ .vmem, ⟨27, _⟩ => ⟨S512x256, .f32⟩
  | .local _ .vmem, ⟨28, _⟩ => ⟨S512x256, .bf16⟩
  | .local _ .vmem, ⟨29, _⟩ => ⟨S512x256, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== CombBReferenceIdeal.lean ====
abbrev S8192x256 : Shape := ⟨2, ![8192, 256]⟩
abbrev S8192x2304 : Shape := ⟨2, ![8192, 2304]⟩
abbrev S1x8192x256 : Shape := ⟨3, ![1, 8192, 256]⟩
abbrev S3x8192x256 : Shape := ⟨3, ![3, 8192, 256]⟩
abbrev S_ : Shape := ⟨0, ![]⟩

abbrev nBuf : Space → Nat
  | .hbm => 108
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x2304, .f32⟩
  | .hbm, ⟨7, _⟩ => ⟨S8192x256, .f32⟩
  | .hbm, ⟨8, _⟩ => ⟨S8192x256, .f32⟩
  | .hbm, ⟨9, _⟩ => ⟨S1x8192x256, .f32⟩
  | .hbm, ⟨10, _⟩ => ⟨S1x8192x256, .f32⟩
  | .hbm, ⟨11, _⟩ => ⟨S1x8192x256, .f32⟩
  | .hbm, ⟨12, _⟩ => ⟨S3x8192x256, .f32⟩
  | .hbm, ⟨13, _⟩ => ⟨S_, .f32⟩
  | .hbm, ⟨14, _⟩ => ⟨S8192x256, .f32⟩
  | .hbm, ⟨15, _⟩ => ⟨S1x8192x256, .f32⟩
  | .hbm, ⟨16, _⟩ => ⟨S3x8192x256, .f32⟩
  | .hbm, ⟨17, _⟩ => ⟨S3x8192x256, .i1⟩
  | .hbm, ⟨18, _⟩ => ⟨S3x8192x256, .f32⟩
  | .hbm, ⟨19, _⟩ => ⟨S_, .f32⟩
  | .hbm, ⟨20, _⟩ => ⟨S8192x256, .f32⟩
  | .hbm, ⟨21, _⟩ => ⟨S_, .f32⟩
  | .hbm, ⟨22, _⟩ => ⟨S8192x256, .f32⟩
  | .hbm, ⟨23, _⟩ => ⟨S8192x256, .f32⟩
  | .hbm, ⟨24, _⟩ => ⟨S_, .f32⟩
  | .hbm, ⟨25, _⟩ => ⟨S8192x256, .f32⟩
  | .hbm, ⟨26, _⟩ => ⟨S8192x256, .i1⟩
  | .hbm, ⟨27, _⟩ => ⟨S_, .f32⟩
  | .hbm, ⟨28, _⟩ => ⟨S8192x256, .f32⟩
  | .hbm, ⟨29, _⟩ => ⟨S8192x256, .i1⟩
  | .hbm, ⟨30, _⟩ => ⟨S_, .f32⟩
  | .hbm, ⟨31, _⟩ => ⟨S8192x256, .f32⟩
  | .hbm, ⟨32, _⟩ => ⟨S_, .f32⟩
  | .hbm, ⟨33, _⟩ => ⟨S8192x256, .f32⟩
  | .hbm, ⟨34, _⟩ => ⟨S_, .f32⟩
  | .hbm, ⟨35, _⟩ => ⟨S8192x256, .f32⟩
  | .hbm, ⟨36, _⟩ => ⟨S8192x256, .f32⟩
  | .hbm, ⟨37, _⟩ => ⟨S8192x256, .f32⟩
  | .hbm, ⟨38, _⟩ => ⟨S1x8192x256, .f32⟩
  | .hbm, ⟨39, _⟩ => ⟨S3x8192x256, .f32⟩
  | .hbm, ⟨40, _⟩ => ⟨S3x8192x256, .f32⟩
  | .hbm, ⟨41, _⟩ => ⟨S3x8192x256, .f32⟩
  | .hbm, ⟨42, _⟩ => ⟨S_, .f32⟩
  | .hbm, ⟨43, _⟩ => ⟨S8192x256, .f32⟩
  | .hbm, ⟨44, _⟩ => ⟨S1x8192x256, .f32⟩
  | .hbm, ⟨45, _⟩ => ⟨S3x8192x256, .f32⟩
  | .hbm, ⟨46, _⟩ => ⟨S3x8192x256, .f32⟩
  | .hbm, ⟨47, _⟩ => ⟨S1x8192x256, .f32⟩
  | .hbm, ⟨48, _⟩ => ⟨S_, .f32⟩
  | .hbm, ⟨49, _⟩ => ⟨S1x8192x256, .f32⟩
  | .hbm, ⟨50, _⟩ => ⟨S1x8192x256, .f32⟩
  | .hbm, ⟨51, _⟩ => ⟨S1x8192x256, .f32⟩
  | .hbm, ⟨52, _⟩ => ⟨S1x8192x256, .f32⟩
  | .hbm, ⟨53, _⟩ => ⟨S1x8192x256, .f32⟩
  | .hbm, ⟨54, _⟩ => ⟨S3x8192x256, .f32⟩
  | .hbm, ⟨55, _⟩ => ⟨S3x8192x256, .f32⟩
  | .hbm, ⟨56, _⟩ => ⟨S_, .f32⟩
  | .hbm, ⟨57, _⟩ => ⟨S8192x256, .f32⟩
  | .hbm, ⟨58, _⟩ => ⟨S8192x256, .f32⟩
  | .hbm, ⟨59, _⟩ => ⟨S8192x256, .f32⟩
  | .hbm, ⟨60, _⟩ => ⟨S_, .f32⟩
  | .hbm, ⟨61, _⟩ => ⟨S8192x256, .f32⟩
  | .hbm, ⟨62, _⟩ => ⟨S8192x256, .f32⟩
  | .hbm, ⟨63, _⟩ => ⟨S_, .f32⟩
  | .hbm, ⟨64, _⟩ => ⟨S8192x256, .f32⟩
  | .hbm, ⟨65, _⟩ => ⟨S8192x256, .f32⟩
  | .hbm, ⟨66, _⟩ => ⟨S_, .f32⟩
  | .hbm, ⟨67, _⟩ => ⟨S8192x256, .f32⟩
  | .hbm, ⟨68, _⟩ => ⟨S8192x256, .f32⟩
  | .hbm, ⟨69, _⟩ => ⟨S8192x256, .f32⟩
  | .hbm, ⟨70, _⟩ => ⟨S8192x256, .f32⟩
  | .hbm, ⟨71, _⟩ => ⟨S8192x256, .f32⟩
  | .hbm, ⟨72, _⟩ => ⟨S8192x256, .f32⟩
  | .hbm, ⟨73, _⟩ => ⟨S8192x256, .f32⟩
  | .hbm, ⟨74, _⟩ => ⟨S8192x256, .f32⟩
  | .hbm, ⟨75, _⟩ => ⟨S8192x256, .f32⟩
  | .hbm, ⟨76, _⟩ => ⟨S8192x256, .f32⟩
  | .hbm, ⟨77, _⟩ => ⟨S8192x256, .f32⟩
  | .hbm, ⟨78, _⟩ => ⟨S3x8192x256, .f32⟩
  | .hbm, ⟨79, _⟩ => ⟨S3x8192x256, .f32⟩
  | .hbm, ⟨80, _⟩ => ⟨S3x8192x256, .f32⟩
  | .hbm, ⟨81, _⟩ => ⟨S1x8192x256, .f32⟩
  | .hbm, ⟨82, _⟩ => ⟨S8192x256, .f32⟩
  | .hbm, ⟨83, _⟩ => ⟨S1x8192x256, .f32⟩
  | .hbm, ⟨84, _⟩ => ⟨S8192x256, .f32⟩
  | .hbm, ⟨85, _⟩ => ⟨S1x8192x256, .f32⟩
  | .hbm, ⟨86, _⟩ => ⟨S8192x256, .f32⟩
  | .hbm, ⟨87, _⟩ => ⟨S3x8192x256, .f32⟩
  | .hbm, ⟨88, _⟩ => ⟨S3x8192x256, .f32⟩
  | .hbm, ⟨89, _⟩ => ⟨S3x8192x256, .f32⟩
  | .hbm, ⟨90, _⟩ => ⟨S_, .f32⟩
  | .hbm, ⟨91, _⟩ => ⟨S8192x256, .f32⟩
  | .hbm, ⟨92, _⟩ => ⟨S1x8192x256, .f32⟩
  | .hbm, ⟨93, _⟩ => ⟨S1x8192x256, .f32⟩
  | .hbm, ⟨94, _⟩ => ⟨S3x8192x256, .f32⟩
  | .hbm, ⟨95, _⟩ => ⟨S3x8192x256, .f32⟩
  | .hbm, ⟨96, _⟩ => ⟨S_, .f32⟩
  | .hbm, ⟨97, _⟩ => ⟨S8192x256, .f32⟩
  | .hbm, ⟨98, _⟩ => ⟨S3x8192x256, .f32⟩
  | .hbm, ⟨99, _⟩ => ⟨S3x8192x256, .f32⟩
  | .hbm, ⟨100, _⟩ => ⟨S3x8192x256, .f32⟩
  | .hbm, ⟨101, _⟩ => ⟨S1x8192x256, .f32⟩
  | .hbm, ⟨102, _⟩ => ⟨S8192x256, .f32⟩
  | .hbm, ⟨103, _⟩ => ⟨S1x8192x256, .f32⟩
  | .hbm, ⟨104, _⟩ => ⟨S8192x256, .f32⟩
  | .hbm, ⟨105, _⟩ => ⟨S1x8192x256, .f32⟩
  | .hbm, ⟨106, _⟩ => ⟨S8192x256, .f32⟩
  | .hbm, ⟨107, _⟩ => ⟨S8192x256, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_v39_2 : Ref sig .tc := ⟨.hbm, 65, rfl⟩
abbrev main_call0_cst_1 : Ref sig .tc := ⟨.hbm, 66, rfl⟩
abbrev main_call0_v6 : Ref sig .tc := ⟨.hbm, 67, rfl⟩
abbrev main_call0_v7 : Ref sig .tc := ⟨.hbm, 68, rfl⟩
abbrev main_v39_1 : Ref sig .tc := ⟨.hbm, 69, rfl⟩
abbrev main_v39_0 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_10 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_11 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩

abbrev nD : Nat := 1
abbrev τ : Topo := Topo.v7x

variable {F : FTy → Type} [FloatOps F]
-- ==== Proof.Merge.lean ====
/-
  The four gradients of the gated merge, array against array over the reals.

  The kernel walks over 32 blocks of 256 tokens. At each it writes the rows of the four gradients that belong to these
  tokens. Here every result array of the kernel is shown equal to the reference's own term over the arguments.
-/
module

public import proofs.«01_k».proof.Defs
public import proofs.«01_k».proof.Proof.Gen.MergeKernelIdeal.Frame
public import proofs.«01_k».proof.Proof.Gen.MergeKernelIdeal.Value
public import proofs.«01_k».proof.Proof.Gen.MergeReferenceIdeal
public import proofs.«01_k».proof.Proof.Gen.MergeReferenceIdeal.Run
public import proofs.«01_k».proof.Proof.Gen.MergeReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Merge

open Cert.MergeKernelIdeal Cert.MergeKernelIdeal.Gen Idealize.ShloMosaic Idealize.ShloMosaic.TcCoe Idealize.SL.Sem
open Idealize.ShloMosaic.Pipeline (Dat)
open Cert.MergeReferenceIdeal.Read

variable (m : (ℓ : Loc nD τ sig) → Buf (Elt Ideal) ℓ)

/-- Block `t` of every window is the `t`-th block of 256 rows, over the whole width. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

/-- The gradient of the first branch. -/
theorem grad_a (c : Dev nD) : (dats m 0 c).arrAt 5 cfg0.N
    = val_main_v39 (F := Ideal) (m ((c : Thread nD τ).loc main_arg3)) (m ((c : Thread nD τ).loc main_arg4)) := by
  refine (dats m 0 c).arrAt_eq_of_covers 5 _ (by decide +kernel) fun t _ y => ?_
  blk_simp
  rw [after0_5]; frame_out
  rw [← val_main_v39_eq]
  unfold_payloads
  pointwise [Ideal.logistic]
  blk_point [iblk, V, idx t]

/-- The gradient of the second branch. -/
theorem grad_b (c : Dev nD) : (dats m 0 c).arrAt 6 cfg0.N
    = val_main_v40 (F := Ideal) (m ((c : Thread nD τ).loc main_arg3)) (m ((c : Thread nD τ).loc main_arg4)) := by
  refine (dats m 0 c).arrAt_eq_of_covers 6 _ (by decide +kernel) fun t _ y => ?_
  blk_simp
  rw [after0_6]; frame_out
  rw [← val_main_v40_eq]
  unfold_payloads
  pointwise [Ideal.logistic]
  blk_point [iblk, V, idx t]

/-- The gradient of the third branch. -/
theorem grad_c (c : Dev nD) : (dats m 0 c).arrAt 7 cfg0.N
    = val_main_v41 (F := Ideal) (m ((c : Thread nD τ).loc main_arg3)) (m ((c : Thread nD τ).loc main_arg4)) := by
  refine (dats m 0 c).arrAt_eq_of_covers 7 _ (by decide +kernel) fun t _ y => ?_
  blk_simp
  rw [after0_7]; frame_out
  rw [← val_main_v41_eq]
  unfold_payloads
  pointwise [Ideal.logistic]
  blk_point [iblk, V, idx t]

/-- The gradient of the gates before the sigmoid. -/
theorem grad_gates (c : Dev nD) : (dats m 0 c).arrAt 8 cfg0.N
    = val_main_v42 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]; frame_out
  rw [← val_main_v42_eq]
  unfold_payloads
  pointwise [Ideal.logistic]
  have h1 : (((View.whole main_v0_3).slice (win0_8.rect t)).emb y 1).val = (y 1).val := by
    blk_simp [idx t]
  have hy : (y 1).val < 3072 := (y 1).isLt
  blk_point [iblk, V, idx t]
  all_goals (exfalso; omega)

/-- The reference runs, keeps its arguments, and declares no semaphore that could end nonzero. -/
theorem frame_reference : Cert.quiescent_MergeReferenceIdeal (hMergeReferenceIdeal := Cert.MergeReferenceIdeal.Gen.facts) :=
  fun m g _ => (θ_run (Cert.MergeReferenceIdeal.defs (F := Ideal)) _ _).mono
    (fun r h => ⟨fun c => (h c).2.2.2.2, sem_eq_zero_of_no_sems (by decide) r.2⟩)
    (Cert.MergeReferenceIdeal.Value.run (F := Ideal) m g)

/-- From equal arguments the kernel's four gradients are the reference's. -/
theorem algebraic : Cert.algebraic_MergeKernelIdeal_MergeReferenceIdeal (hMergeKernelIdeal := Cert.MergeKernelIdeal.Gen.facts)
    (hMergeReferenceIdeal := Cert.MergeReferenceIdeal.Gen.facts) := by
  intro m g m' g' _ hargs
  refine ⟨_, _, _, _, Cert.MergeKernelIdeal.Value.run_blocks (F := Ideal) m g, ?_⟩
  refine (θ_run (Cert.MergeReferenceIdeal.defs (F := Ideal)) _ _).mono (fun r h c => ?_)
    (Cert.MergeReferenceIdeal.Value.run (F := Ideal) m' g')
  obtain ⟨h0, h1, h2, h3, hk⟩ := h c
  obtain ⟨e0, e1, e2, e3, e4⟩ := hargs c
  refine ⟨h0.trans ?_, h1.trans ?_, h2.trans ?_, h3.trans ?_, hk⟩
  · rw [e3, e4]; exact (val_main_v39_eq _ _).trans (grad_a m c).symm
  · rw [e3, e4]; exact (val_main_v40_eq _ _).trans (grad_b m c).symm
  · rw [e3, e4]; exact (val_main_v41_eq _ _).trans (grad_c m c).symm
  · rw [e0, e1, e2, e3, e4]; exact (val_main_v42_eq _ _ _ _ _).trans (grad_gates m c).symm

end Cert.Merge

end
-- ==== Proof.Glu.lean ====
/-
  The gradient of the gated unit, over the reals: those of its three arrays and that of the bias.

  The kernel walks over 16 blocks of 512 tokens. At each it writes the rows of three gradients, and adds what the block
  contributes to the bias, which it clears at the first block. The reference does this over all tokens at once.
-/
module

public import proofs.«01_k».proof.Defs
public import proofs.«01_k».proof.Proof.Gen.GluKernelIdeal.Frame
public import proofs.«01_k».proof.Proof.Gen.GluKernelIdeal.Value
public import proofs.«01_k».proof.Proof.Gen.GluReferenceIdeal
public import proofs.«01_k».proof.Proof.Gen.GluReferenceIdeal.Run
public import proofs.«01_k».proof.Proof.Gen.GluReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Glu

open Cert.GluKernelIdeal Cert.GluKernelIdeal.Gen Idealize.ShloMosaic Idealize.ShloMosaic.TcCoe Idealize.SL.Sem
open Idealize.ShloMosaic.Pipeline (Dat)
open Cert.GluReferenceIdeal.Read

variable (m : (ℓ : Loc nD τ sig) → Buf (Elt Ideal) ℓ)

/-- The blocks the windows read and write at point `t`. The third window reads the second half of the first 1024 columns. -/
theorem idx : ∀ t : Fin cfg0.N, win0_0.index t = ![t.val, 0] ∧ win0_1.index t = ![t.val, 0] ∧ win0_2.index t = ![t.val, 1]
    ∧ win0_3.index t = ![0, 0] ∧ win0_4.index t = ![t.val, 0] ∧ win0_5.index t = ![t.val, 0] ∧ win0_6.index t = ![t.val, 0]
    ∧ win0_7.index t = ![t.val, 0] ∧ win0_8.index t = ![0, 0] :=
  (by decide +kernel : ∀ t : Fin grid0.N, _)

/-- The block of the third window: rows of the second half of the first 1024 columns. -/
def half (c : Dev nD) (t : Fin cfg0.N) : FVec Ideal S512x512 .f32 := fun y =>
  m ((c : Thread nD τ).loc main_arg2) (ix2 ⟨t.val * 512 + (y 0).val, by have := lt_of_lt_of_eq t.isLt N_0; have := (y 0).isLt; dsimp at this; omega⟩
    ⟨512 + (y 1).val, by have := (y 1).isLt; dsimp at this; omega⟩)

/-- No block of the third window leaves its array, so the window holds exactly that block. -/
theorem window2 (c : Dev nD) (t : Fin cfg0.N) : X0_2 m c t = half m c t := by
  funext y
  unfold X0_2 Pipeline.Window.fill half
  rw [dif_pos (moved0_2 t y)]
  blk_point [iblk, V, idx t]

/-- The rows of the three gradients are the same functions of the blocks at every point. -/
theorem rows (c : Dev nD) (t : Fin cfg0.N) :
    (outsAt0 m c t.val t.isLt).1 = k0_pay6 (F := Ideal) (iblk m c 1 t) (half m c t) (iblk m c 3 t) (iblk m c 4 t)
    ∧ (outsAt0 m c t.val t.isLt).2.1
      = k0_pay9 (F := Ideal) (iblk m c 0 t) (iblk m c 1 t) (half m c t) (iblk m c 3 t) (iblk m c 4 t)
    ∧ (outsAt0 m c t.val t.isLt).2.2.1
      = k0_pay10 (F := Ideal) (iblk m c 0 t) (iblk m c 1 t) (half m c t) (iblk m c 3 t) (iblk m c 4 t) := by
  by_cases h : t.val % 16 = 0
  · rw [outsAt0_A m c t h]; refine ⟨?_, ?_, ?_⟩ <;> frame_out <;> rw [window2]
  · rw [outsAt0_B m c t h]; refine ⟨?_, ?_, ?_⟩ <;> frame_out <;> rw [window2]

/-- The gradient of the input of the unit. -/
theorem grad_g (c : Dev nD) : (dats m 0 c).arrAt 5 cfg0.N
    = val_main_v20 (F := Ideal) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5, (rows m c t).1, ← val_main_v20_eq]
  unfold_payloads
  pointwise [Ideal.logistic, half]
  blk_point [iblk, V, idx t]

/-- The gradient of the product under the gate. -/
theorem grad_glu (c : Dev nD) : (dats m 0 c).arrAt 6 cfg0.N
    = val_main_v25 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6, (rows m c t).2.1, ← val_main_v25_eq]
  unfold_payloads
  pointwise [Ideal.logistic, half]
  blk_point [iblk, V, idx t]

/-- The gradient of the second half of the piece. -/
theorem grad_z (c : Dev nD) : (dats m 0 c).arrAt 7 cfg0.N
    = val_main_v26 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7, (rows m c t).2.2, ← val_main_v26_eq]
  unfold_payloads
  pointwise [Ideal.logistic, half]
  blk_point [iblk, V, idx t]

/-- The bias's gradient is cleared with zeros. -/
theorem cleared (j : S1x512.Idx) : k0_pay1 (F := Ideal) j = 0 := by pointwise [k0_pay1]

/-- One step adds what its 512 tokens contribute. -/
theorem step (g u z : FVec Ideal S512x512 .f32) (b : FVec Ideal S1x512 .f32) (d : FVec Ideal S512x512 .f32)
    (acc : FVec Ideal S1x512 .f32) (j : S1x512.Idx) :
    k0_pay2 (F := Ideal) (k0_pay8 g u z b d) acc j = acc j + ∑ r : Fin 512, k0_pay7 (F := Ideal) g u z b d (ix2 r (j 1)) := by
  pointwise [k0_pay2, k0_pay8]

/-- The gradient of the bias. -/
theorem grad_b (c : Dev nD) : (dats m 0 c).arrAt 8 cfg0.N
    = val_main_v27 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 8 _ (by decide +kernel) fun t hf y => ?_
  have h15 := (flush0_8 t).mp hf
  blk_simp
  rw [after0_8,
    Pipeline.eq_sum_fin_of_reset_step_apply_of_flush (fun n h => (outsAt0 m c n h).2.2.2) 16 (fun _ => 0) _
      (fun t h j => by rw [outsAt0_A m c t h]; frame_out; rw [window2, step, cleared])
      (fun t h j => by rw [outsAt0_B m c t h]; frame_out; rw [window2, step])
      t h15 _, zero_add, ← val_main_v27_eq]
  pointwise
  rw [Fin.sum_univ_one]
  refine Fin.sum_mul_add_congr fun s k hl => ?_
  unfold_payloads
  pointwise [Ideal.logistic, half]
  blk_point [iblk, V, idx t, idx ⟨_, Pipeline.run_point_lt_of_flush t h15 s⟩]

/-- The reference runs, keeps its arguments, and declares no semaphore that could end nonzero. -/
theorem frame_reference : Cert.quiescent_GluReferenceIdeal (hGluReferenceIdeal := Cert.GluReferenceIdeal.Gen.facts) :=
  fun m g _ => (θ_run (Cert.GluReferenceIdeal.defs (F := Ideal)) _ _).mono
    (fun r h => ⟨fun c => (h c).2.2.2.2, sem_eq_zero_of_no_sems (by decide) r.2⟩)
    (Cert.GluReferenceIdeal.Value.run (F := Ideal) m g)

/-- From equal arguments the kernel's four gradients are the reference's. -/
theorem algebraic : Cert.algebraic_GluKernelIdeal_GluReferenceIdeal (hGluKernelIdeal := Cert.GluKernelIdeal.Gen.facts)
    (hGluReferenceIdeal := Cert.GluReferenceIdeal.Gen.facts) := by
  intro m g m' g' _ hargs
  refine ⟨_, _, _, _, Cert.GluKernelIdeal.Value.run_blocks (F := Ideal) m g, ?_⟩
  refine (θ_run (Cert.GluReferenceIdeal.defs (F := Ideal)) _ _).mono (fun r h c => ?_)
    (Cert.GluReferenceIdeal.Value.run (F := Ideal) m' g')
  obtain ⟨h0, h1, h2, h3, hk⟩ := h c
  obtain ⟨e0, e1, e2, e3, e4⟩ := hargs c
  refine ⟨h0.trans ?_, h1.trans ?_, h2.trans ?_, h3.trans ?_, hk⟩
  · rw [e1, e2, e3, e4]; exact (val_main_v20_eq _ _ _ _).trans (grad_g m c).symm
  · rw [e0, e1, e2, e3, e4]; exact (val_main_v25_eq _ _ _ _ _).trans (grad_glu m c).symm
  · rw [e0, e1, e2, e3, e4]; exact (val_main_v26_eq _ _ _ _ _).trans (grad_z m c).symm
  · rw [e0, e1, e2, e3, e4]; exact (val_main_v27_eq _ _ _ _ _).trans (grad_b m c).symm

end Cert.Glu

end
-- ==== Proof.Norm.lean ====
/-
  The gradient of the RMS norm, over the reals: the gradient of the stream and that of the weight.

  The kernel walks over 16 blocks of 512 tokens. At each it writes the rows of the first gradient, and adds what the block
  contributes to the second one, which it clears at the first block. The reference does both over all tokens at once.
-/
module

public import proofs.«01_k».proof.Defs
public import proofs.«01_k».proof.Proof.Gen.NormKernelIdeal.Frame
public import proofs.«01_k».proof.Proof.Gen.NormKernelIdeal.Value
public import proofs.«01_k».proof.Proof.Gen.NormReferenceIdeal
public import proofs.«01_k».proof.Proof.Gen.NormReferenceIdeal.Run
public import proofs.«01_k».proof.Proof.Gen.NormReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Norm

open Cert.NormKernelIdeal Cert.NormKernelIdeal.Gen Idealize.ShloMosaic Idealize.ShloMosaic.TcCoe Idealize.SL.Sem
open Idealize.ShloMosaic.Pipeline (Dat)
open Cert.NormReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

/-- The rows of the first gradient are one and the same function of the blocks at every point. -/
theorem rows (c : Dev nD) (t : Fin cfg0.N) : (outsAt0 m c t.val t.isLt).1
    = k0_pay6 (F := Ideal) (iblk m c 0 t) (iblk m c 1 t) (iblk m c 2 t) (iblk m c 3 t) := by
  by_cases h : t.val % 16 = 0
  · rw [outsAt0_A m c t h]; frame_out
  · rw [outsAt0_B m c t h]; frame_out

/-- The stream's own term may stand first or last. -/
theorem reorder (a b c d : EReal) : b + c + d + a = a + b + c + d := by abel

/-- The gradient of the stream. -/
theorem grad_x (c : Dev nD) : (dats m 0 c).arrAt 4 cfg0.N
    = val_main_v36 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4, rows, ← val_main_v36_eq]
  unfold_payloads
  pointwise
  refine (reorder _ _ _ _).trans ?_
  blk_point [iblk, V, idx t]

/-- The weight's gradient is cleared with zeros. -/
theorem cleared (j : S1x1024.Idx) : k0_pay1 (F := Ideal) j = 0 := by pointwise [k0_pay1]

/-- One step adds what its 512 tokens contribute. -/
theorem step (x d : FVec Ideal S512x1024 .f32) (acc : FVec Ideal S1x1024 .f32) (j : S1x1024.Idx) :
    k0_pay2 (F := Ideal) (k0_pay5 x d) acc j
      = acc j + ∑ r : Fin 512, x (ix2 r (j 1)) * k0_pay4 (F := Ideal) x (ix2 r 0) * d (ix2 r (j 1)) := by
  pointwise [k0_pay2, k0_pay5]

/-- The gradient of the weight. -/
theorem grad_w (c : Dev nD) : (dats m 0 c).arrAt 5 cfg0.N
    = val_main_v37 (F := Ideal) (m ((c : Thread nD τ).loc main_arg0)) (m ((c : Thread nD τ).loc main_arg2)) := by
  refine (dats m 0 c).arrAt_eq_of_covers 5 _ (by decide +kernel) fun t hf y => ?_
  have h15 := (flush0_5 t).mp hf
  blk_simp
  rw [after0_5,
    Pipeline.eq_sum_fin_of_reset_step_apply_of_flush (fun n h => (outsAt0 m c n h).2) 16 (fun _ => 0) _
      (fun t h j => by rw [outsAt0_A m c t h]; frame_out; rw [step, cleared])
      (fun t h j => by rw [outsAt0_B m c t h]; frame_out; rw [step])
      t h15 _, zero_add, ← val_main_v37_eq]
  pointwise
  rw [Fin.sum_univ_one]
  refine Fin.sum_mul_add_congr fun s k hl => ?_
  unfold_payloads
  pointwise
  blk_point [iblk, V, idx t, idx ⟨_, Pipeline.run_point_lt_of_flush t h15 s⟩]

/-- The reference runs, keeps its arguments, and declares no semaphore that could end nonzero. -/
theorem frame_reference : Cert.quiescent_NormReferenceIdeal (hNormReferenceIdeal := Cert.NormReferenceIdeal.Gen.facts) :=
  fun m g _ => (θ_run (Cert.NormReferenceIdeal.defs (F := Ideal)) _ _).mono
    (fun r h => ⟨fun c => (h c).2.2, sem_eq_zero_of_no_sems (by decide) r.2⟩)
    (Cert.NormReferenceIdeal.Value.run (F := Ideal) m g)

/-- From equal arguments the kernel's two gradients are the reference's. -/
theorem algebraic : Cert.algebraic_NormKernelIdeal_NormReferenceIdeal (hNormKernelIdeal := Cert.NormKernelIdeal.Gen.facts)
    (hNormReferenceIdeal := Cert.NormReferenceIdeal.Gen.facts) := by
  intro m g m' g' _ hargs
  refine ⟨_, _, Cert.NormKernelIdeal.Value.run_blocks (F := Ideal) m g, ?_⟩
  refine (θ_run (Cert.NormReferenceIdeal.defs (F := Ideal)) _ _).mono (fun r h c => ?_)
    (Cert.NormReferenceIdeal.Value.run (F := Ideal) m' g')
  obtain ⟨h0, h1, hk⟩ := h c
  obtain ⟨e0, e1, e2, e3⟩ := hargs c
  refine ⟨h0.trans ?_, h1.trans ?_, hk⟩
  · rw [e0, e1, e2, e3]; exact (val_main_v36_eq _ _ _ _).trans (grad_x m c).symm
  · rw [e0, e2]; exact (val_main_v37_eq _ _).trans (grad_w m c).symm

end Cert.Norm

end
-- ==== Proof.DH.lean ====
/-
  The gradient of the normed stream, over the reals: a sum of four products with the transposed pieces of the input projection.

  The kernel walks over 13 steps for every block of 1024 tokens: three steps for each of the first three pieces, four for the
  gates. It sums in a buffer that it clears at the first step and writes out at the last one. The reference contracts every
  piece at once and adds the four products.
-/
module

public import proofs.«01_k».proof.Defs
public import proofs.«01_k».proof.Proof.Gen.DHKernelIdeal.Frame
public import proofs.«01_k».proof.Proof.Gen.DHReferenceIdeal
public import proofs.«01_k».proof.Proof.Gen.DHReferenceIdeal.Run
public import proofs.«01_k».proof.Proof.Gen.DHReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.DH

open Cert.DHKernelIdeal Cert.DHKernelIdeal.Gen Idealize.ShloMosaic Idealize.ShloMosaic.TcCoe Idealize.SL.Sem
open Idealize.ShloMosaic.Pipeline (Dat)
open Cert.DHReferenceIdeal.Read

variable (m : (ℓ : Loc nD τ sig) → Buf (Elt Ideal) ℓ)

/-- The blocks read while the first piece is summed. -/
theorem idx_a : ∀ t : Fin cfg0.N, t.val % 13 ≤ 2 →
    win0_0.index t = ![t.val / 13, t.val % 13] ∧ win0_4.index t = ![0, t.val % 13] :=
  (by decide +kernel : ∀ t : Fin grid0.N, _)

/-- The blocks read while the second piece is summed. -/
theorem idx_q : ∀ t : Fin cfg0.N, 3 ≤ t.val % 13 ∧ t.val % 13 ≤ 5 →
    win0_1.index t = ![t.val / 13, t.val % 13 - 3] ∧ win0_5.index t = ![0, t.val % 13 - 3] :=
  (by decide +kernel : ∀ t : Fin grid0.N, _)

/-- The blocks read while the third piece is summed. -/
theorem idx_c : ∀ t : Fin cfg0.N, 6 ≤ t.val % 13 ∧ t.val % 13 ≤ 8 →
    win0_2.index t = ![t.val / 13, t.val % 13 - 6] ∧ win0_6.index t = ![0, t.val % 13 - 6] :=
  (by decide +kernel : ∀ t : Fin grid0.N, _)

/-- The blocks read while the gates are summed. -/
theorem idx_g : ∀ t : Fin cfg0.N, 9 ≤ t.val % 13 →
    win0_3.index t = ![t.val / 13, t.val % 13 - 9] ∧ win0_7.index t = ![0, t.val % 13 - 9] :=
  (by decide +kernel : ∀ t : Fin grid0.N, _)

/-- The block written at point `t`. -/
theorem idx_out : ∀ t : Fin cfg0.N, win0_8.index t = ![t.val / 13, 0] :=
  (by decide +kernel : ∀ t : Fin grid0.N, _)

/-- The product of a block of rows with the transpose of a block of a weight, 384 columns wide. -/
def contract384 (d w : FVec Ideal S1024x384 .bf16) (j : S1024x1024.Idx) : EReal :=
  ∑ k : Fin 384, d (ix2 (j 0) k) * w (ix2 (j 1) k)

/-- The same, 768 columns wide. -/
def contract768 (d w : FVec Ideal S1024x768 .bf16) (j : S1024x1024.Idx) : EReal :=
  ∑ k : Fin 768, d (ix2 (j 0) k) * w (ix2 (j 1) k)

/-- What point `t` adds to the buffer. -/
def part (c : Dev nD) (t : Fin cfg0.N) (j : S1024x1024.Idx) : EReal :=
  if t.val % 13 ≤ 2 then contract384 (iblk m c 0 t) (iblk m c 4 t) j
  else if t.val % 13 ≤ 5 then contract768 (iblk m c 1 t) (iblk m c 5 t) j
  else if t.val % 13 ≤ 8 then contract768 (iblk m c 2 t) (iblk m c 6 t) j
  else contract768 (iblk m c 3 t) (iblk m c 7 t) j

/-- The buffer is cleared with zeros. -/
theorem cleared (j : S1024x1024.Idx) : k0_pay1 (F := Ideal) j = 0 := by pointwise [k0_pay1]

/-- A step of the first piece. -/
theorem step_a (acc : FVec Ideal S1024x1024 .f32) (d w : FVec Ideal S1024x384 .bf16) (j : S1024x1024.Idx) :
    k0_pay2 (F := Ideal) acc d w j = acc j + contract384 d w j := by pointwise [k0_pay2, contract384]

/-- A step of the second piece. -/
theorem step_q (acc : FVec Ideal S1024x1024 .f32) (d w : FVec Ideal S1024x768 .bf16) (j : S1024x1024.Idx) :
    k0_pay3 (F := Ideal) acc d w j = acc j + contract768 d w j := by pointwise [k0_pay3, contract768]

/-- A step of the third piece. -/
theorem step_c (acc : FVec Ideal S1024x1024 .f32) (d w : FVec Ideal S1024x768 .bf16) (j : S1024x1024.Idx) :
    k0_pay4 (F := Ideal) acc d w j = acc j + contract768 d w j := by pointwise [k0_pay4, contract768]

/-- A step of the gates. -/
theorem step_g (acc : FVec Ideal S1024x1024 .f32) (d w : FVec Ideal S1024x768 .bf16) (j : S1024x1024.Idx) :
    k0_pay5 (F := Ideal) acc d w j = acc j + contract768 d w j := by pointwise [k0_pay5, contract768]

/-- The first step of a run clears the buffer and adds its part. -/
theorem first (c : Dev nD) (t : Fin cfg0.N) (h : t.val % 13 = 0) (j : S1024x1024.Idx) :
    (outsAt0 m c t.val t.isLt).2 j = 0 + part m c t j := by
  rw [outsAt0_A m c t h (by omega) (by omega) (by omega) (by omega) (by omega)]
  frame_out
  rw [step_a, cleared, part, if_pos (by omega)]

/-- Every further step adds its part to what the point before left. -/
theorem further (c : Dev nD) (t : Fin cfg0.N) (h : ¬t.val % 13 = 0) (j : S1024x1024.Idx) :
    (outsAt0 m c t.val t.isLt).2 j
      = (outsAt0 m c (t.val - 1) (Nat.lt_of_le_of_lt (Nat.sub_le _ _) t.isLt)).2 j + part m c t j := by
  by_cases h2 : t.val % 13 ≤ 2
  · rw [outsAt0_B m c t h h2 (by omega) (by omega) (by omega) (by omega)]
    frame_out
    rw [step_a, read_unread_whole, part, if_pos h2]
  by_cases h5 : t.val % 13 ≤ 5
  · rw [outsAt0_C m c t h h2 (by omega) (by omega) (by omega) (by omega)]
    frame_out
    rw [step_q, read_unread_whole, part, if_neg h2, if_pos h5]
  by_cases h8 : t.val % 13 ≤ 8
  · rw [outsAt0_D m c t h h2 (by omega) (by omega) (by omega) (by omega)]
    frame_out
    rw [step_c, read_unread_whole, part, if_neg h2, if_neg h5, if_pos h8]
  by_cases h12 : t.val % 13 = 12
  · rw [outsAt0_F m c t h h2 (by omega) (by omega) (by omega) h12]
    frame_out
    rw [step_g, read_unread_whole, part, if_neg h2, if_neg h5, if_neg h8]
  · rw [outsAt0_E m c t h h2 (by omega) (by omega) (by omega) h12]
    frame_out
    rw [step_g, read_unread_whole, part, if_neg h2, if_neg h5, if_neg h8]

/-- At the last step of a run the block written out is the buffer. -/
theorem written (c : Dev nD) (t : Fin cfg0.N) (h : t.val % 13 = 12) (j : S1024x1024.Idx) :
    (outsAt0 m c t.val t.isLt).1 j = (outsAt0 m c t.val t.isLt).2 j := by
  rw [outsAt0_F m c t (by omega) (by omega) (by omega) (by omega) (by omega) h]
  frame_out

/-- The thirteen steps, piece by piece. -/
theorem pieces (f : Fin 13 → EReal) : ∑ s, f s
    = (((∑ s : Fin 4, f ⟨9 + s.val, by omega⟩) + ∑ s : Fin 3, f ⟨6 + s.val, by omega⟩)
        + ∑ s : Fin 3, f ⟨3 + s.val, by omega⟩) + ∑ s : Fin 3, f ⟨s.val, by omega⟩ := by
  simp only [Fin.sum_univ_succ, Fin.sum_univ_zero]
  simp only [Fin.isValue, Fin.val_zero, Fin.val_succ]
  simp
  abel

/-- Point `n` of the run that ends at `t`. -/
def runPoint (t : Fin cfg0.N) (h : t.val % 13 = 12) (n : ℕ) (hn : n < 13) : Fin cfg0.N :=
  ⟨13 * (t.val / 13) + n, Pipeline.run_point_lt_of_flush t h ⟨n, hn⟩⟩

/-- The steps of the first piece: the part each adds. -/
theorem part_a (c : Dev nD) (t : Fin cfg0.N) (h : t.val % 13 ≤ 2) (j : S1024x1024.Idx) :
    part m c t j = contract384 (iblk m c 0 t) (iblk m c 4 t) j := by
  rw [part, if_pos h]

/-- The steps of the first piece: together they contract its whole width. -/
theorem sum_a (c : Dev nD) (t : Fin cfg0.N) (h : t.val % 13 = 12) (y : S1024x1024.Idx) :
    ∑ s : Fin 3, part m c (runPoint t h (s.val) (by omega)) y
      = val_main_v18 (F := Ideal) (m ((c : Thread nD τ).loc main_arg0)) (m ((c : Thread nD τ).loc main_arg4)) ((win0_8.blk t).view.emb y) := by
  have hs (s : Fin 3) : (runPoint t h (s.val) (by omega)).val % 13 ≤ 2 := by
    dsimp only [runPoint]; omega
  refine (Fin.sum_fin_congr fun s => part_a m c _ (hs s) y).trans ?_
  unfold contract384
  pointwise [val_main_v18, val_main_v9, val_main_v1]
  refine Fin.sum_mul_add_congr fun s k hl => ?_
  have hi := idx_a (runPoint t h (s.val) (by omega)) (hs s)
  dsimp only [runPoint] at hi
  blk_point [iblk, V, runPoint, hi, idx_out t]

/-- The steps of the second piece: the part each adds. -/
theorem part_q (c : Dev nD) (t : Fin cfg0.N) (h : 3 ≤ t.val % 13 ∧ t.val % 13 ≤ 5) (j : S1024x1024.Idx) :
    part m c t j = contract768 (iblk m c 1 t) (iblk m c 5 t) j := by
  rw [part, if_neg (by omega), if_pos h.2]

/-- The steps of the second piece: together they contract its whole width. -/
theorem sum_q (c : Dev nD) (t : Fin cfg0.N) (h : t.val % 13 = 12) (y : S1024x1024.Idx) :
    ∑ s : Fin 3, part m c (runPoint t h (3 + s.val) (by omega)) y
      = val_main_v16 (F := Ideal) (m ((c : Thread nD τ).loc main_arg1)) (m ((c : Thread nD τ).loc main_arg5)) ((win0_8.blk t).view.emb y) := by
  have hs (s : Fin 3) : 3 ≤ (runPoint t h (3 + s.val) (by omega)).val % 13 ∧ (runPoint t h (3 + s.val) (by omega)).val % 13 ≤ 5 := by
    dsimp only [runPoint]; omega
  refine (Fin.sum_fin_congr fun s => part_q m c _ (hs s) y).trans ?_
  unfold contract768
  pointwise [val_main_v16, val_main_v10, val_main_v3]
  refine Fin.sum_mul_add_congr fun s k hl => ?_
  have hi := idx_q (runPoint t h (3 + s.val) (by omega)) (hs s)
  dsimp only [runPoint] at hi
  blk_point [iblk, V, runPoint, hi, idx_out t]

/-- The steps of the third piece: the part each adds. -/
theorem part_c (c : Dev nD) (t : Fin cfg0.N) (h : 6 ≤ t.val % 13 ∧ t.val % 13 ≤ 8) (j : S1024x1024.Idx) :
    part m c t j = contract768 (iblk m c 2 t) (iblk m c 6 t) j := by
  rw [part, if_neg (by omega), if_neg (by omega), if_pos h.2]

/-- The steps of the third piece: together they contract its whole width. -/
theorem sum_c (c : Dev nD) (t : Fin cfg0.N) (h : t.val % 13 = 12) (y : S1024x1024.Idx) :
    ∑ s : Fin 3, part m c (runPoint t h (6 + s.val) (by omega)) y
      = val_main_v14 (F := Ideal) (m ((c : Thread nD τ).loc main_arg2)) (m ((c : Thread nD τ).loc main_arg6)) ((win0_8.blk t).view.emb y) := by
  have hs (s : Fin 3) : 6 ≤ (runPoint t h (6 + s.val) (by omega)).val % 13 ∧ (runPoint t h (6 + s.val) (by omega)).val % 13 ≤ 8 := by
    dsimp only [runPoint]; omega
  refine (Fin.sum_fin_congr fun s => part_c m c _ (hs s) y).trans ?_
  unfold contract768
  pointwise [val_main_v14, val_main_v11, val_main_v5]
  refine Fin.sum_mul_add_congr fun s k hl => ?_
  have hi := idx_c (runPoint t h (6 + s.val) (by omega)) (hs s)
  dsimp only [runPoint] at hi
  blk_point [iblk, V, runPoint, hi, idx_out t]

/-- The steps of the gates: the part each adds. -/
theorem part_g (c : Dev nD) (t : Fin cfg0.N) (h : 9 ≤ t.val % 13) (j : S1024x1024.Idx) :
    part m c t j = contract768 (iblk m c 3 t) (iblk m c 7 t) j := by
  rw [part, if_neg (by omega), if_neg (by omega), if_neg (by omega)]

/-- The steps of the gates: together they contract its whole width. -/
theorem sum_g (c : Dev nD) (t : Fin cfg0.N) (h : t.val % 13 = 12) (y : S1024x1024.Idx) :
    ∑ s : Fin 4, part m c (runPoint t h (9 + s.val) (by omega)) y
      = val_main_v13 (F := Ideal) (m ((c : Thread nD τ).loc main_arg3)) (m ((c : Thread nD τ).loc main_arg7)) ((win0_8.blk t).view.emb y) := by
  have hs (s : Fin 4) : 9 ≤ (runPoint t h (9 + s.val) (by omega)).val % 13 := by
    dsimp only [runPoint]; omega
  refine (Fin.sum_fin_congr fun s => part_g m c _ (hs s) y).trans ?_
  unfold contract768
  pointwise [val_main_v13, val_main_v12, val_main_v7]
  refine Fin.sum_mul_add_congr fun s k hl => ?_
  have hi := idx_g (runPoint t h (9 + s.val) (by omega)) (hs s)
  dsimp only [runPoint] at hi
  blk_point [iblk, V, runPoint, hi, idx_out t]

/-- The result array after the run. -/
theorem value (c : Dev nD) : (dats m 0 c).arrAt 8 cfg0.N
    = val_main_v19 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dats m 0 c).arrAt_eq_of_covers 8 _ (by decide +kernel) fun t hf y => ?_
  have h12 := (flush0_8 t).mp hf
  blk_simp
  rw [after0_8, written m c t h12,
    Pipeline.eq_sum_fin_of_reset_step_apply_of_flush (fun n h => (outsAt0 m c n h).2) 13 (fun _ => 0) (part m c)
      (first m c) (further m c) t h12 _, zero_add]
  refine (pieces _).trans ?_
  rw [val_main_v19_apply, val_main_v17_apply, val_main_v15_apply, ← sum_a m c t h12 y, ← sum_q m c t h12 y,
    ← sum_c m c t h12 y, ← sum_g m c t h12 y]
  rfl

/-- The kernel's run: the result array as the frame's run leaves it, the arguments unchanged. -/
theorem run (g : Dev nD → PrngReg) : θ_run defs (onTc (τ := τ) (main (F := Ideal))) ⟨m, fun _ => 0, g⟩ fun r => ∀ c : Dev nD,
    r.2.mem ((c : Thread nD τ).loc main_v0) = (dats m 0 c).arrAt 8 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) :=
  (θ_run defs _ _).mono (fun r h c =>
    ⟨(h c).1 8,
      ((h c).1 4).trans (((dats m 0 c).arrAt_in 4 rfl _).trans ((A_eq m c 4).trans (V_main_arg0 m c))),
      ((h c).1 5).trans (((dats m 0 c).arrAt_in 5 rfl _).trans ((A_eq m c 5).trans (V_main_arg1 m c))),
      ((h c).1 6).trans (((dats m 0 c).arrAt_in 6 rfl _).trans ((A_eq m c 6).trans (V_main_arg2 m c))),
      ((h c).1 7).trans (((dats m 0 c).arrAt_in 7 rfl _).trans ((A_eq m c 7).trans (V_main_arg3 m c))),
      ((h c).1 0).trans (((dats m 0 c).arrAt_in 0 rfl _).trans ((A_eq m c 0).trans (V_main_arg4 m c))),
      ((h c).1 1).trans (((dats m 0 c).arrAt_in 1 rfl _).trans ((A_eq m c 1).trans (V_main_arg5 m c))),
      ((h c).1 2).trans (((dats m 0 c).arrAt_in 2 rfl _).trans ((A_eq m c 2).trans (V_main_arg6 m c))),
      ((h c).1 3).trans (((dats m 0 c).arrAt_in 3 rfl _).trans ((A_eq m c 3).trans (V_main_arg7 m c)))⟩)
    (run_main m g)

/-- The reference runs, keeps its arguments, and declares no semaphore that could end nonzero. -/
theorem frame_reference : Cert.quiescent_DHReferenceIdeal (hDHReferenceIdeal := Cert.DHReferenceIdeal.Gen.facts) :=
  fun m g _ => (θ_run (Cert.DHReferenceIdeal.defs (F := Ideal)) _ _).mono
    (fun r h => ⟨fun c => (h c).2, sem_eq_zero_of_no_sems (by decide) r.2⟩)
    (Cert.DHReferenceIdeal.Value.run (F := Ideal) m g)

/-- From equal arguments the kernel's result is the reference's. -/
theorem algebraic : Cert.algebraic_DHKernelIdeal_DHReferenceIdeal (hDHKernelIdeal := Cert.DHKernelIdeal.Gen.facts)
    (hDHReferenceIdeal := Cert.DHReferenceIdeal.Gen.facts) := by
  intro m g m' g' _ hargs
  refine ⟨_, run m g, ?_⟩
  refine (θ_run (Cert.DHReferenceIdeal.defs (F := Ideal)) _ _).mono (fun r h c => ?_)
    (Cert.DHReferenceIdeal.Value.run (F := Ideal) m' g')
  obtain ⟨h0, hk⟩ := h c
  obtain ⟨e0, e1, e2, e3, e4, e5, e6, e7⟩ := hargs c
  refine ⟨h0.trans ?_, hk⟩
  rw [e0, e1, e2, e3, e4, e5, e6, e7]
  exact (val_main_v19_eq _ _ _ _ _ _ _ _).trans (value m c).symm

end Cert.DH

end
-- ==== Proof.GWinA.lean ====
/-
  The gradient of the first piece of the input projection: the kernel's result array is the reference's, over the reals.

  The kernel walks over the 8192 tokens in eight steps of 1024. It sums the eight products in a buffer that it clears at the
  first step, and writes the sum out at the last one. The reference contracts all tokens at once.
-/
module

public import proofs.«01_k».proof.Defs
public import proofs.«01_k».proof.Proof.Gen.GWinAKernelIdeal.Frame
public import proofs.«01_k».proof.Proof.Gen.GWinAKernelIdeal.Value
public import proofs.«01_k».proof.Proof.Gen.GWinAReferenceIdeal
public import proofs.«01_k».proof.Proof.Gen.GWinAReferenceIdeal.Run
public import proofs.«01_k».proof.Proof.Gen.GWinAReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.GWinA

open Cert.GWinAKernelIdeal Cert.GWinAKernelIdeal.Gen Idealize.ShloMosaic Idealize.ShloMosaic.TcCoe Idealize.SL.Sem
open Idealize.ShloMosaic.Pipeline (Dat)
open Cert.GWinAReferenceIdeal.Read

variable (m : (ℓ : Loc nD τ sig) → Buf (Elt Ideal) ℓ)

/-- The blocks the windows read and write at point `t`. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The buffer is cleared with zeros. -/
theorem cleared (j : S1024x1152.Idx) : k0_pay1 (F := Ideal) j = 0 := by pointwise [k0_pay1]

/-- One step adds the product over its 1024 tokens. -/
theorem step (x : FVec Ideal S1024x1024 .bf16) (d : FVec Ideal S1024x1152 .bf16) (acc : FVec Ideal S1024x1152 .f32) (j : S1024x1152.Idx) :
    k0_pay2 (F := Ideal) x d acc j = acc j + ∑ k : Fin 1024, x (ix2 k (j 0)) * d (ix2 k (j 1)) := by pointwise [k0_pay2]

/-- At the last step of a run the block written out is the buffer. -/
theorem written (c : Dev nD) (t : Fin cfg0.N) (h7 : t.val % 8 = 7) (j : S1024x1152.Idx) :
    (outsAt0 m c t.val t.isLt).1 j = (outsAt0 m c t.val t.isLt).2 j := by
  rw [outsAt0_C m c t (by omega) h7]; frame_out; pointwise [k0_pay3]

/-- The result array after the run. -/
theorem value (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, written m c t h7,
    Pipeline.eq_sum_fin_of_reset_step_apply_of_flush (fun n h => (outsAt0 m c n h).2) 8 (fun _ => 0) _
      (fun t h j => by rw [outsAt0_A m c t h (by omega)]; frame_out; rw [step, cleared])
      (fun t h j => by
        by_cases h1 : t.val % 8 = 7
        · rw [outsAt0_C m c t h h1]; frame_out; rw [step, read_unread_whole]
        · rw [outsAt0_B m c t h h1]; frame_out; rw [step, read_unread_whole])
      t h7 _, zero_add]
  pointwise [val_main_v6, val_main_v5, val_main_v4, val_main_v3, val_main_v2, val_main_v1, val_main_v0]
  refine Fin.sum_mul_add_congr fun s k hl => ?_
  refine (@mul_comm EReal _ _ _).trans ?_
  blk_point [iblk, V, idx t, idx ⟨_, Pipeline.run_point_lt_of_flush t h7 s⟩]

/-- The reference runs, keeps its arguments, and declares no semaphore that could end nonzero. -/
theorem frame_reference : Cert.quiescent_GWinAReferenceIdeal (hGWinAReferenceIdeal := Cert.GWinAReferenceIdeal.Gen.facts) :=
  fun m g _ => (θ_run (Cert.GWinAReferenceIdeal.defs (F := Ideal)) _ _).mono
    (fun r h => ⟨fun c => (h c).2, sem_eq_zero_of_no_sems (by decide) r.2⟩)
    (Cert.GWinAReferenceIdeal.Value.run (F := Ideal) m g)

/-- From equal arguments the kernel's result is the reference's. -/
theorem algebraic : Cert.algebraic_GWinAKernelIdeal_GWinAReferenceIdeal (hGWinAKernelIdeal := Cert.GWinAKernelIdeal.Gen.facts)
    (hGWinAReferenceIdeal := Cert.GWinAReferenceIdeal.Gen.facts) := by
  intro m g m' g' _ hargs
  refine ⟨_, Cert.GWinAKernelIdeal.Value.run_blocks (F := Ideal) m g, ?_⟩
  refine (θ_run (Cert.GWinAReferenceIdeal.defs (F := Ideal)) _ _).mono (fun r h c => ?_)
    (Cert.GWinAReferenceIdeal.Value.run (F := Ideal) m' g')
  obtain ⟨h0, hk⟩ := h c
  obtain ⟨e0, e1⟩ := hargs c
  refine ⟨h0.trans ?_, hk⟩
  rw [e0, e1]
  exact (val_main_v6_eq _ _).trans (value m c).symm

end Cert.GWinA

end
-- ==== Proof.GWinQ.lean ====
/-
  The gradient of the second and the third piece of the input projection: the kernel's result array is the reference's, over the reals.

  The kernel walks over the 8192 tokens in eight steps of 1024. It sums the eight products in a buffer that it clears at the
  first step, and writes the sum out at the last one. The reference contracts all tokens at once.
-/
module

public import proofs.«01_k».proof.Defs
public import proofs.«01_k».proof.Proof.Gen.GWinQKernelIdeal.Frame
public import proofs.«01_k».proof.Proof.Gen.GWinQKernelIdeal.Value
public import proofs.«01_k».proof.Proof.Gen.GWinQReferenceIdeal
public import proofs.«01_k».proof.Proof.Gen.GWinQReferenceIdeal.Run
public import proofs.«01_k».proof.Proof.Gen.GWinQReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.GWinQ

open Cert.GWinQKernelIdeal Cert.GWinQKernelIdeal.Gen Idealize.ShloMosaic Idealize.ShloMosaic.TcCoe Idealize.SL.Sem
open Idealize.ShloMosaic.Pipeline (Dat)
open Cert.GWinQReferenceIdeal.Read

variable (m : (ℓ : Loc nD τ sig) → Buf (Elt Ideal) ℓ)

/-- The blocks the windows read and write at point `t`. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The buffer is cleared with zeros. -/
theorem cleared (j : S1024x1152.Idx) : k0_pay1 (F := Ideal) j = 0 := by pointwise [k0_pay1]

/-- One step adds the product over its 1024 tokens. -/
theorem step (x : FVec Ideal S1024x1024 .bf16) (d : FVec Ideal S1024x1152 .bf16) (acc : FVec Ideal S1024x1152 .f32) (j : S1024x1152.Idx) :
    k0_pay2 (F := Ideal) x d acc j = acc j + ∑ k : Fin 1024, x (ix2 k (j 0)) * d (ix2 k (j 1)) := by pointwise [k0_pay2]

/-- At the last step of a run the block written out is the buffer. -/
theorem written (c : Dev nD) (t : Fin cfg0.N) (h7 : t.val % 8 = 7) (j : S1024x1152.Idx) :
    (outsAt0 m c t.val t.isLt).1 j = (outsAt0 m c t.val t.isLt).2 j := by
  rw [outsAt0_C m c t (by omega) h7]; frame_out; pointwise [k0_pay3]

/-- The result array after the run. -/
theorem value (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, written m c t h7,
    Pipeline.eq_sum_fin_of_reset_step_apply_of_flush (fun n h => (outsAt0 m c n h).2) 8 (fun _ => 0) _
      (fun t h j => by rw [outsAt0_A m c t h (by omega)]; frame_out; rw [step, cleared])
      (fun t h j => by
        by_cases h1 : t.val % 8 = 7
        · rw [outsAt0_C m c t h h1]; frame_out; rw [step, read_unread_whole]
        · rw [outsAt0_B m c t h h1]; frame_out; rw [step, read_unread_whole])
      t h7 _, zero_add]
  pointwise [val_main_v6, val_main_v5, val_main_v4, val_main_v3, val_main_v2, val_main_v1, val_main_v0]
  refine Fin.sum_mul_add_congr fun s k hl => ?_
  refine (@mul_comm EReal _ _ _).trans ?_
  blk_point [iblk, V, idx t, idx ⟨_, Pipeline.run_point_lt_of_flush t h7 s⟩]

/-- The reference runs, keeps its arguments, and declares no semaphore that could end nonzero. -/
theorem frame_reference : Cert.quiescent_GWinQReferenceIdeal (hGWinQReferenceIdeal := Cert.GWinQReferenceIdeal.Gen.facts) :=
  fun m g _ => (θ_run (Cert.GWinQReferenceIdeal.defs (F := Ideal)) _ _).mono
    (fun r h => ⟨fun c => (h c).2, sem_eq_zero_of_no_sems (by decide) r.2⟩)
    (Cert.GWinQReferenceIdeal.Value.run (F := Ideal) m g)

/-- From equal arguments the kernel's result is the reference's. -/
theorem algebraic : Cert.algebraic_GWinQKernelIdeal_GWinQReferenceIdeal (hGWinQKernelIdeal := Cert.GWinQKernelIdeal.Gen.facts)
    (hGWinQReferenceIdeal := Cert.GWinQReferenceIdeal.Gen.facts) := by
  intro m g m' g' _ hargs
  refine ⟨_, Cert.GWinQKernelIdeal.Value.run_blocks (F := Ideal) m g, ?_⟩
  refine (θ_run (Cert.GWinQReferenceIdeal.defs (F := Ideal)) _ _).mono (fun r h c => ?_)
    (Cert.GWinQReferenceIdeal.Value.run (F := Ideal) m' g')
  obtain ⟨h0, hk⟩ := h c
  obtain ⟨e0, e1⟩ := hargs c
  refine ⟨h0.trans ?_, hk⟩
  rw [e0, e1]
  exact (val_main_v6_eq _ _).trans (value m c).symm

end Cert.GWinQ

end
-- ==== Proof.GWinG.lean ====
/-
  The gradient of the gates of the input projection: the kernel's result array is the reference's, over the reals.

  The kernel walks over the 8192 tokens in eight steps of 1024. It sums the eight products in a buffer that it clears at the
  first step, and writes the sum out at the last one. The reference contracts all tokens at once.
-/
module

public import proofs.«01_k».proof.Defs
public import proofs.«01_k».proof.Proof.Gen.GWinGKernelIdeal.Frame
public import proofs.«01_k».proof.Proof.Gen.GWinGKernelIdeal.Value
public import proofs.«01_k».proof.Proof.Gen.GWinGReferenceIdeal
public import proofs.«01_k».proof.Proof.Gen.GWinGReferenceIdeal.Run
public import proofs.«01_k».proof.Proof.Gen.GWinGReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.GWinG

open Cert.GWinGKernelIdeal Cert.GWinGKernelIdeal.Gen Idealize.ShloMosaic Idealize.ShloMosaic.TcCoe Idealize.SL.Sem
open Idealize.ShloMosaic.Pipeline (Dat)
open Cert.GWinGReferenceIdeal.Read

variable (m : (ℓ : Loc nD τ sig) → Buf (Elt Ideal) ℓ)

/-- The blocks the windows read and write at point `t`. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The buffer is cleared with zeros. -/
theorem cleared (j : S1024x1024.Idx) : k0_pay1 (F := Ideal) j = 0 := by pointwise [k0_pay1]

/-- One step adds the product over its 1024 tokens. -/
theorem step (x : FVec Ideal S1024x1024 .bf16) (d : FVec Ideal S1024x1024 .bf16) (acc : FVec Ideal S1024x1024 .f32) (j : S1024x1024.Idx) :
    k0_pay2 (F := Ideal) x d acc j = acc j + ∑ k : Fin 1024, x (ix2 k (j 0)) * d (ix2 k (j 1)) := by pointwise [k0_pay2]

/-- At the last step of a run the block written out is the buffer. -/
theorem written (c : Dev nD) (t : Fin cfg0.N) (h7 : t.val % 8 = 7) (j : S1024x1024.Idx) :
    (outsAt0 m c t.val t.isLt).1 j = (outsAt0 m c t.val t.isLt).2 j := by
  rw [outsAt0_C m c t (by omega) h7]; frame_out; pointwise [k0_pay3]

/-- The result array after the run. -/
theorem value (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, written m c t h7,
    Pipeline.eq_sum_fin_of_reset_step_apply_of_flush (fun n h => (outsAt0 m c n h).2) 8 (fun _ => 0) _
      (fun t h j => by rw [outsAt0_A m c t h (by omega)]; frame_out; rw [step, cleared])
      (fun t h j => by
        by_cases h1 : t.val % 8 = 7
        · rw [outsAt0_C m c t h h1]; frame_out; rw [step, read_unread_whole]
        · rw [outsAt0_B m c t h h1]; frame_out; rw [step, read_unread_whole])
      t h7 _, zero_add]
  pointwise [val_main_v6, val_main_v5, val_main_v4, val_main_v3, val_main_v2, val_main_v1, val_main_v0]
  refine Fin.sum_mul_add_congr fun s k hl => ?_
  refine (@mul_comm EReal _ _ _).trans ?_
  blk_point [iblk, V, idx t, idx ⟨_, Pipeline.run_point_lt_of_flush t h7 s⟩]

/-- The reference runs, keeps its arguments, and declares no semaphore that could end nonzero. -/
theorem frame_reference : Cert.quiescent_GWinGReferenceIdeal (hGWinGReferenceIdeal := Cert.GWinGReferenceIdeal.Gen.facts) :=
  fun m g _ => (θ_run (Cert.GWinGReferenceIdeal.defs (F := Ideal)) _ _).mono
    (fun r h => ⟨fun c => (h c).2, sem_eq_zero_of_no_sems (by decide) r.2⟩)
    (Cert.GWinGReferenceIdeal.Value.run (F := Ideal) m g)

/-- From equal arguments the kernel's result is the reference's. -/
theorem algebraic : Cert.algebraic_GWinGKernelIdeal_GWinGReferenceIdeal (hGWinGKernelIdeal := Cert.GWinGKernelIdeal.Gen.facts)
    (hGWinGReferenceIdeal := Cert.GWinGReferenceIdeal.Gen.facts) := by
  intro m g m' g' _ hargs
  refine ⟨_, Cert.GWinGKernelIdeal.Value.run_blocks (F := Ideal) m g, ?_⟩
  refine (θ_run (Cert.GWinGReferenceIdeal.defs (F := Ideal)) _ _).mono (fun r h c => ?_)
    (Cert.GWinGReferenceIdeal.Value.run (F := Ideal) m' g')
  obtain ⟨h0, hk⟩ := h c
  obtain ⟨e0, e1⟩ := hargs c
  refine ⟨h0.trans ?_, hk⟩
  rw [e0, e1]
  exact (val_main_v6_eq _ _).trans (value m c).symm

end Cert.GWinG

end
-- ==== Proof.GWout.lean ====
/-
  The gradient of the output projection of the layer: the kernel's result array is the reference's, over the reals.

  The kernel walks over the 8192 tokens in eight steps of 1024. It sums the eight products in a buffer that it clears at the
  first step, and writes the sum out at the last one. The reference contracts all tokens at once.
-/
module

public import proofs.«01_k».proof.Defs
public import proofs.«01_k».proof.Proof.Gen.GWoutKernelIdeal.Frame
public import proofs.«01_k».proof.Proof.Gen.GWoutKernelIdeal.Value
public import proofs.«01_k».proof.Proof.Gen.GWoutReferenceIdeal
public import proofs.«01_k».proof.Proof.Gen.GWoutReferenceIdeal.Run
public import proofs.«01_k».proof.Proof.Gen.GWoutReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.GWout

open Cert.GWoutKernelIdeal Cert.GWoutKernelIdeal.Gen Idealize.ShloMosaic Idealize.ShloMosaic.TcCoe Idealize.SL.Sem
open Idealize.ShloMosaic.Pipeline (Dat)
open Cert.GWoutReferenceIdeal.Read

variable (m : (ℓ : Loc nD τ sig) → Buf (Elt Ideal) ℓ)

/-- The blocks the windows read and write at point `t`. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The buffer is cleared with zeros. -/
theorem cleared (j : S1024x1024.Idx) : k0_pay1 (F := Ideal) j = 0 := by pointwise [k0_pay1]

/-- One step adds the product over its 1024 tokens. -/
theorem step (x : FVec Ideal S1024x1024 .bf16) (d : FVec Ideal S1024x1024 .f32) (acc : FVec Ideal S1024x1024 .f32) (j : S1024x1024.Idx) :
    k0_pay2 (F := Ideal) x d acc j = acc j + ∑ k : Fin 1024, x (ix2 k (j 0)) * d (ix2 k (j 1)) := by pointwise [k0_pay2]

/-- At the last step of a run the block written out is the buffer. -/
theorem written (c : Dev nD) (t : Fin cfg0.N) (h7 : t.val % 8 = 7) (j : S1024x1024.Idx) :
    (outsAt0 m c t.val t.isLt).1 j = (outsAt0 m c t.val t.isLt).2 j := by
  rw [outsAt0_C m c t (by omega) h7]; frame_out; pointwise [k0_pay3]

/-- The result array after the run. -/
theorem value (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, written m c t h7,
    Pipeline.eq_sum_fin_of_reset_step_apply_of_flush (fun n h => (outsAt0 m c n h).2) 8 (fun _ => 0) _
      (fun t h j => by rw [outsAt0_A m c t h (by omega)]; frame_out; rw [step, cleared])
      (fun t h j => by
        by_cases h1 : t.val % 8 = 7
        · rw [outsAt0_C m c t h h1]; frame_out; rw [step, read_unread_whole]
        · rw [outsAt0_B m c t h h1]; frame_out; rw [step, read_unread_whole])
      t h7 _, zero_add]
  pointwise [val_main_v5, val_main_v4, val_main_v3, val_main_v2, val_main_v1, val_main_v0]
  refine Fin.sum_mul_add_congr fun s k hl => ?_
  refine (@mul_comm EReal _ _ _).trans ?_
  blk_point [iblk, V, idx t, idx ⟨_, Pipeline.run_point_lt_of_flush t h7 s⟩]

/-- The reference runs, keeps its arguments, and declares no semaphore that could end nonzero. -/
theorem frame_reference : Cert.quiescent_GWoutReferenceIdeal (hGWoutReferenceIdeal := Cert.GWoutReferenceIdeal.Gen.facts) :=
  fun m g _ => (θ_run (Cert.GWoutReferenceIdeal.defs (F := Ideal)) _ _).mono
    (fun r h => ⟨fun c => (h c).2, sem_eq_zero_of_no_sems (by decide) r.2⟩)
    (Cert.GWoutReferenceIdeal.Value.run (F := Ideal) m g)

/-- From equal arguments the kernel's result is the reference's. -/
theorem algebraic : Cert.algebraic_GWoutKernelIdeal_GWoutReferenceIdeal (hGWoutKernelIdeal := Cert.GWoutKernelIdeal.Gen.facts)
    (hGWoutReferenceIdeal := Cert.GWoutReferenceIdeal.Gen.facts) := by
  intro m g m' g' _ hargs
  refine ⟨_, Cert.GWoutKernelIdeal.Value.run_blocks (F := Ideal) m g, ?_⟩
  refine (θ_run (Cert.GWoutReferenceIdeal.defs (F := Ideal)) _ _).mono (fun r h c => ?_)
    (Cert.GWoutReferenceIdeal.Value.run (F := Ideal) m' g')
  obtain ⟨h0, hk⟩ := h c
  obtain ⟨e0, e1⟩ := hargs c
  refine ⟨h0.trans ?_, hk⟩
  rw [e0, e1]
  exact (val_main_v5_eq _ _).trans (value m c).symm

end Cert.GWout

end
-- ==== Proof.GProjA.lean ====
/-
  The gradient of the output projection of branch a: the kernel's result array is the reference's, over the reals.

  The kernel walks over the 8192 tokens in eight steps of 1024. It sums the eight products in a buffer that it clears at the
  first step, and writes the sum out at the last one. The reference contracts all tokens at once.
-/
module

public import proofs.«01_k».proof.Defs
public import proofs.«01_k».proof.Proof.Gen.GProjAKernelIdeal.Frame
public import proofs.«01_k».proof.Proof.Gen.GProjAKernelIdeal.Value
public import proofs.«01_k».proof.Proof.Gen.GProjAReferenceIdeal
public import proofs.«01_k».proof.Proof.Gen.GProjAReferenceIdeal.Run
public import proofs.«01_k».proof.Proof.Gen.GProjAReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.GProjA

open Cert.GProjAKernelIdeal Cert.GProjAKernelIdeal.Gen Idealize.ShloMosaic Idealize.ShloMosaic.TcCoe Idealize.SL.Sem
open Idealize.ShloMosaic.Pipeline (Dat)
open Cert.GProjAReferenceIdeal.Read

variable (m : (ℓ : Loc nD τ sig) → Buf (Elt Ideal) ℓ)

/-- The blocks the windows read and write at point `t`. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The buffer is cleared with zeros. -/
theorem cleared (j : S512x1024.Idx) : k0_pay1 (F := Ideal) j = 0 := by pointwise [k0_pay1]

/-- One step adds the product over its 1024 tokens. -/
theorem step (x : FVec Ideal S1024x512 .bf16) (d : FVec Ideal S1024x1024 .bf16) (acc : FVec Ideal S512x1024 .f32) (j : S512x1024.Idx) :
    k0_pay2 (F := Ideal) x d acc j = acc j + ∑ k : Fin 1024, x (ix2 k (j 0)) * d (ix2 k (j 1)) := by pointwise [k0_pay2]

/-- At the last step of a run the block written out is the buffer. -/
theorem written (c : Dev nD) (t : Fin cfg0.N) (h7 : t.val % 8 = 7) (j : S512x1024.Idx) :
    (outsAt0 m c t.val t.isLt).1 j = (outsAt0 m c t.val t.isLt).2 j := by
  rw [outsAt0_C m c t (by omega) h7]; frame_out; pointwise [k0_pay3]

/-- The result array after the run. -/
theorem value (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, written m c t h7,
    Pipeline.eq_sum_fin_of_reset_step_apply_of_flush (fun n h => (outsAt0 m c n h).2) 8 (fun _ => 0) _
      (fun t h j => by rw [outsAt0_A m c t h (by omega)]; frame_out; rw [step, cleared])
      (fun t h j => by
        by_cases h1 : t.val % 8 = 7
        · rw [outsAt0_C m c t h h1]; frame_out; rw [step, read_unread_whole]
        · rw [outsAt0_B m c t h h1]; frame_out; rw [step, read_unread_whole])
      t h7 _, zero_add]
  pointwise [val_main_v6, val_main_v5, val_main_v4, val_main_v3, val_main_v2, val_main_v1, val_main_v0]
  refine Fin.sum_mul_add_congr fun s k hl => ?_
  refine (@mul_comm EReal _ _ _).trans ?_
  blk_point [iblk, V, idx t, idx ⟨_, Pipeline.run_point_lt_of_flush t h7 s⟩]

/-- The reference runs, keeps its arguments, and declares no semaphore that could end nonzero. -/
theorem frame_reference : Cert.quiescent_GProjAReferenceIdeal (hGProjAReferenceIdeal := Cert.GProjAReferenceIdeal.Gen.facts) :=
  fun m g _ => (θ_run (Cert.GProjAReferenceIdeal.defs (F := Ideal)) _ _).mono
    (fun r h => ⟨fun c => (h c).2, sem_eq_zero_of_no_sems (by decide) r.2⟩)
    (Cert.GProjAReferenceIdeal.Value.run (F := Ideal) m g)

/-- From equal arguments the kernel's result is the reference's. -/
theorem algebraic : Cert.algebraic_GProjAKernelIdeal_GProjAReferenceIdeal (hGProjAKernelIdeal := Cert.GProjAKernelIdeal.Gen.facts)
    (hGProjAReferenceIdeal := Cert.GProjAReferenceIdeal.Gen.facts) := by
  intro m g m' g' _ hargs
  refine ⟨_, Cert.GProjAKernelIdeal.Value.run_blocks (F := Ideal) m g, ?_⟩
  refine (θ_run (Cert.GProjAReferenceIdeal.defs (F := Ideal)) _ _).mono (fun r h c => ?_)
    (Cert.GProjAReferenceIdeal.Value.run (F := Ideal) m' g')
  obtain ⟨h0, hk⟩ := h c
  obtain ⟨e0, e1⟩ := hargs c
  refine ⟨h0.trans ?_, hk⟩
  rw [e0, e1]
  exact (val_main_v6_eq _ _).trans (value m c).symm

end Cert.GProjA

end
-- ==== Proof.GProjB.lean ====
/-
  The gradient of the output projection of branch b: the kernel's result array is the reference's, over the reals.

  The kernel walks over the 8192 tokens in eight steps of 1024. It sums the eight products in a buffer that it clears at the
  first step, and writes the sum out at the last one. The reference contracts all tokens at once.
-/
module

public import proofs.«01_k».proof.Defs
public import proofs.«01_k».proof.Proof.Gen.GProjBKernelIdeal.Frame
public import proofs.«01_k».proof.Proof.Gen.GProjBKernelIdeal.Value
public import proofs.«01_k».proof.Proof.Gen.GProjBReferenceIdeal
public import proofs.«01_k».proof.Proof.Gen.GProjBReferenceIdeal.Run
public import proofs.«01_k».proof.Proof.Gen.GProjBReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.GProjB

open Cert.GProjBKernelIdeal Cert.GProjBKernelIdeal.Gen Idealize.ShloMosaic Idealize.ShloMosaic.TcCoe Idealize.SL.Sem
open Idealize.ShloMosaic.Pipeline (Dat)
open Cert.GProjBReferenceIdeal.Read

variable (m : (ℓ : Loc nD τ sig) → Buf (Elt Ideal) ℓ)

/-- The blocks the windows read and write at point `t`. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The buffer is cleared with zeros. -/
theorem cleared (j : S256x1024.Idx) : k0_pay1 (F := Ideal) j = 0 := by pointwise [k0_pay1]

/-- One step adds the product over its 1024 tokens. -/
theorem step (x : FVec Ideal S1024x256 .bf16) (d : FVec Ideal S1024x1024 .bf16) (acc : FVec Ideal S256x1024 .f32) (j : S256x1024.Idx) :
    k0_pay2 (F := Ideal) x d acc j = acc j + ∑ k : Fin 1024, x (ix2 k (j 0)) * d (ix2 k (j 1)) := by pointwise [k0_pay2]

/-- At the last step of a run the block written out is the buffer. -/
theorem written (c : Dev nD) (t : Fin cfg0.N) (h7 : t.val % 8 = 7) (j : S256x1024.Idx) :
    (outsAt0 m c t.val t.isLt).1 j = (outsAt0 m c t.val t.isLt).2 j := by
  rw [outsAt0_C m c t (by omega) h7]; frame_out; pointwise [k0_pay3]

/-- The result array after the run. -/
theorem value (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, written m c t h7,
    Pipeline.eq_sum_fin_of_reset_step_apply_of_flush (fun n h => (outsAt0 m c n h).2) 8 (fun _ => 0) _
      (fun t h j => by rw [outsAt0_A m c t h (by omega)]; frame_out; rw [step, cleared])
      (fun t h j => by
        by_cases h1 : t.val % 8 = 7
        · rw [outsAt0_C m c t h h1]; frame_out; rw [step, read_unread_whole]
        · rw [outsAt0_B m c t h h1]; frame_out; rw [step, read_unread_whole])
      t h7 _, zero_add]
  pointwise [val_main_v6, val_main_v5, val_main_v4, val_main_v3, val_main_v2, val_main_v1, val_main_v0]
  refine Fin.sum_mul_add_congr fun s k hl => ?_
  refine (@mul_comm EReal _ _ _).trans ?_
  blk_point [iblk, V, idx t, idx ⟨_, Pipeline.run_point_lt_of_flush t h7 s⟩]

/-- The reference runs, keeps its arguments, and declares no semaphore that could end nonzero. -/
theorem frame_reference : Cert.quiescent_GProjBReferenceIdeal (hGProjBReferenceIdeal := Cert.GProjBReferenceIdeal.Gen.facts) :=
  fun m g _ => (θ_run (Cert.GProjBReferenceIdeal.defs (F := Ideal)) _ _).mono
    (fun r h => ⟨fun c => (h c).2, sem_eq_zero_of_no_sems (by decide) r.2⟩)
    (Cert.GProjBReferenceIdeal.Value.run (F := Ideal) m g)

/-- From equal arguments the kernel's result is the reference's. -/
theorem algebraic : Cert.algebraic_GProjBKernelIdeal_GProjBReferenceIdeal (hGProjBKernelIdeal := Cert.GProjBKernelIdeal.Gen.facts)
    (hGProjBReferenceIdeal := Cert.GProjBReferenceIdeal.Gen.facts) := by
  intro m g m' g' _ hargs
  refine ⟨_, Cert.GProjBKernelIdeal.Value.run_blocks (F := Ideal) m g, ?_⟩
  refine (θ_run (Cert.GProjBReferenceIdeal.defs (F := Ideal)) _ _).mono (fun r h c => ?_)
    (Cert.GProjBReferenceIdeal.Value.run (F := Ideal) m' g')
  obtain ⟨h0, hk⟩ := h c
  obtain ⟨e0, e1⟩ := hargs c
  refine ⟨h0.trans ?_, hk⟩
  rw [e0, e1]
  exact (val_main_v6_eq _ _).trans (value m c).symm

end Cert.GProjB

end
-- ==== Proof.GProjC.lean ====
/-
  The gradient of the output projection of branch c: the kernel's result array is the reference's, over the reals.

  The kernel walks over the 8192 tokens in eight steps of 1024. It sums the eight products in a buffer that it clears at the
  first step, and writes the sum out at the last one. The reference contracts all tokens at once.
-/
module

public import proofs.«01_k».proof.Defs
public import proofs.«01_k».proof.Proof.Gen.GProjCKernelIdeal.Frame
public import proofs.«01_k».proof.Proof.Gen.GProjCKernelIdeal.Value
public import proofs.«01_k».proof.Proof.Gen.GProjCReferenceIdeal
public import proofs.«01_k».proof.Proof.Gen.GProjCReferenceIdeal.Run
public import proofs.«01_k».proof.Proof.Gen.GProjCReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.GProjC

open Cert.GProjCKernelIdeal Cert.GProjCKernelIdeal.Gen Idealize.ShloMosaic Idealize.ShloMosaic.TcCoe Idealize.SL.Sem
open Idealize.ShloMosaic.Pipeline (Dat)
open Cert.GProjCReferenceIdeal.Read

variable (m : (ℓ : Loc nD τ sig) → Buf (Elt Ideal) ℓ)

/-- The blocks the windows read and write at point `t`. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The buffer is cleared with zeros. -/
theorem cleared (j : S768x1024.Idx) : k0_pay1 (F := Ideal) j = 0 := by pointwise [k0_pay1]

/-- One step adds the product over its 1024 tokens. -/
theorem step (x : FVec Ideal S1024x768 .bf16) (d : FVec Ideal S1024x1024 .bf16) (acc : FVec Ideal S768x1024 .f32) (j : S768x1024.Idx) :
    k0_pay2 (F := Ideal) x d acc j = acc j + ∑ k : Fin 1024, x (ix2 k (j 0)) * d (ix2 k (j 1)) := by pointwise [k0_pay2]

/-- At the last step of a run the block written out is the buffer. -/
theorem written (c : Dev nD) (t : Fin cfg0.N) (h7 : t.val % 8 = 7) (j : S768x1024.Idx) :
    (outsAt0 m c t.val t.isLt).1 j = (outsAt0 m c t.val t.isLt).2 j := by
  rw [outsAt0_C m c t (by omega) h7]; frame_out; pointwise [k0_pay3]

/-- The result array after the run. -/
theorem value (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, written m c t h7,
    Pipeline.eq_sum_fin_of_reset_step_apply_of_flush (fun n h => (outsAt0 m c n h).2) 8 (fun _ => 0) _
      (fun t h j => by rw [outsAt0_A m c t h (by omega)]; frame_out; rw [step, cleared])
      (fun t h j => by
        by_cases h1 : t.val % 8 = 7
        · rw [outsAt0_C m c t h h1]; frame_out; rw [step, read_unread_whole]
        · rw [outsAt0_B m c t h h1]; frame_out; rw [step, read_unread_whole])
      t h7 _, zero_add]
  pointwise [val_main_v6, val_main_v5, val_main_v4, val_main_v3, val_main_v2, val_main_v1, val_main_v0]
  refine Fin.sum_mul_add_congr fun s k hl => ?_
  refine (@mul_comm EReal _ _ _).trans ?_
  blk_point [iblk, V, idx t, idx ⟨_, Pipeline.run_point_lt_of_flush t h7 s⟩]

/-- The reference runs, keeps its arguments, and declares no semaphore that could end nonzero. -/
theorem frame_reference : Cert.quiescent_GProjCReferenceIdeal (hGProjCReferenceIdeal := Cert.GProjCReferenceIdeal.Gen.facts) :=
  fun m g _ => (θ_run (Cert.GProjCReferenceIdeal.defs (F := Ideal)) _ _).mono
    (fun r h => ⟨fun c => (h c).2, sem_eq_zero_of_no_sems (by decide) r.2⟩)
    (Cert.GProjCReferenceIdeal.Value.run (F := Ideal) m g)

/-- From equal arguments the kernel's result is the reference's. -/
theorem algebraic : Cert.algebraic_GProjCKernelIdeal_GProjCReferenceIdeal (hGProjCKernelIdeal := Cert.GProjCKernelIdeal.Gen.facts)
    (hGProjCReferenceIdeal := Cert.GProjCReferenceIdeal.Gen.facts) := by
  intro m g m' g' _ hargs
  refine ⟨_, Cert.GProjCKernelIdeal.Value.run_blocks (F := Ideal) m g, ?_⟩
  refine (θ_run (Cert.GProjCReferenceIdeal.defs (F := Ideal)) _ _).mono (fun r h c => ?_)
    (Cert.GProjCReferenceIdeal.Value.run (F := Ideal) m' g')
  obtain ⟨h0, hk⟩ := h c
  obtain ⟨e0, e1⟩ := hargs c
  refine ⟨h0.trans ?_, hk⟩
  rw [e0, e1]
  exact (val_main_v6_eq _ _).trans (value m c).symm

end Cert.GProjC

end
-- ==== Proof.GGlu.lean ====
/-
  The gradient of the weight of the gated unit: the kernel's result array is the reference's, over the reals.

  The kernel walks over the 8192 tokens in eight steps of 1024. It sums the eight products in a buffer that it clears at the
  first step, and writes the sum out at the last one. The reference contracts all tokens at once.
-/
module

public import proofs.«01_k».proof.Defs
public import proofs.«01_k».proof.Proof.Gen.GGluKernelIdeal.Frame
public import proofs.«01_k».proof.Proof.Gen.GGluKernelIdeal.Value
public import proofs.«01_k».proof.Proof.Gen.GGluReferenceIdeal
public import proofs.«01_k».proof.Proof.Gen.GGluReferenceIdeal.Run
public import proofs.«01_k».proof.Proof.Gen.GGluReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.GGlu

open Cert.GGluKernelIdeal Cert.GGluKernelIdeal.Gen Idealize.ShloMosaic Idealize.ShloMosaic.TcCoe Idealize.SL.Sem
open Idealize.ShloMosaic.Pipeline (Dat)
open Cert.GGluReferenceIdeal.Read

variable (m : (ℓ : Loc nD τ sig) → Buf (Elt Ideal) ℓ)

/-- The blocks the windows read and write at point `t`. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The buffer is cleared with zeros. -/
theorem cleared (j : S512x512.Idx) : k0_pay1 (F := Ideal) j = 0 := by pointwise [k0_pay1]

/-- One step adds the product over its 1024 tokens. -/
theorem step (x : FVec Ideal S1024x512 .f32) (d : FVec Ideal S1024x512 .bf16) (acc : FVec Ideal S512x512 .f32) (j : S512x512.Idx) :
    k0_pay2 (F := Ideal) x d acc j = acc j + ∑ k : Fin 1024, x (ix2 k (j 0)) * d (ix2 k (j 1)) := by pointwise [k0_pay2]

/-- At the last step of a run the block written out is the buffer. -/
theorem written (c : Dev nD) (t : Fin cfg0.N) (h7 : t.val % 8 = 7) (j : S512x512.Idx) :
    (outsAt0 m c t.val t.isLt).1 j = (outsAt0 m c t.val t.isLt).2 j := by
  rw [outsAt0_C m c t (by omega) h7]; frame_out; pointwise [k0_pay3]

/-- The result array after the run. -/
theorem value (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, written m c t h7,
    Pipeline.eq_sum_fin_of_reset_step_apply_of_flush (fun n h => (outsAt0 m c n h).2) 8 (fun _ => 0) _
      (fun t h j => by rw [outsAt0_A m c t h (by omega)]; frame_out; rw [step, cleared])
      (fun t h j => by
        by_cases h1 : t.val % 8 = 7
        · rw [outsAt0_C m c t h h1]; frame_out; rw [step, read_unread_whole]
        · rw [outsAt0_B m c t h h1]; frame_out; rw [step, read_unread_whole])
      t h7 _, zero_add]
  pointwise [val_main_v5, val_main_v4, val_main_v3, val_main_v2, val_main_v1, val_main_v0]
  refine Fin.sum_mul_add_congr fun s k hl => ?_
  refine (@mul_comm EReal _ _ _).trans ?_
  blk_point [iblk, V, idx t, idx ⟨_, Pipeline.run_point_lt_of_flush t h7 s⟩]

/-- The reference runs, keeps its arguments, and declares no semaphore that could end nonzero. -/
theorem frame_reference : Cert.quiescent_GGluReferenceIdeal (hGGluReferenceIdeal := Cert.GGluReferenceIdeal.Gen.facts) :=
  fun m g _ => (θ_run (Cert.GGluReferenceIdeal.defs (F := Ideal)) _ _).mono
    (fun r h => ⟨fun c => (h c).2, sem_eq_zero_of_no_sems (by decide) r.2⟩)
    (Cert.GGluReferenceIdeal.Value.run (F := Ideal) m g)

/-- From equal arguments the kernel's result is the reference's. -/
theorem algebraic : Cert.algebraic_GGluKernelIdeal_GGluReferenceIdeal (hGGluKernelIdeal := Cert.GGluKernelIdeal.Gen.facts)
    (hGGluReferenceIdeal := Cert.GGluReferenceIdeal.Gen.facts) := by
  intro m g m' g' _ hargs
  refine ⟨_, Cert.GGluKernelIdeal.Value.run_blocks (F := Ideal) m g, ?_⟩
  refine (θ_run (Cert.GGluReferenceIdeal.defs (F := Ideal)) _ _).mono (fun r h c => ?_)
    (Cert.GGluReferenceIdeal.Value.run (F := Ideal) m' g')
  obtain ⟨h0, hk⟩ := h c
  obtain ⟨e0, e1⟩ := hargs c
  refine ⟨h0.trans ?_, hk⟩
  rw [e0, e1]
  exact (val_main_v5_eq _ _).trans (value m c).symm

end Cert.GGlu

end
-- ==== Proof.DMerged.lean ====
/-
  The gradient of the merged branches: the kernel's result array is the reference's, over the reals.

  Every point of the grid multiplies a block of 512 rows with one block of columns and writes its own block of the result.
-/
module

public import proofs.«01_k».proof.Defs
public import proofs.«01_k».proof.Proof.Gen.DMergedKernelIdeal.Frame
public import proofs.«01_k».proof.Proof.Gen.DMergedKernelIdeal.Value
public import proofs.«01_k».proof.Proof.Gen.DMergedReferenceIdeal
public import proofs.«01_k».proof.Proof.Gen.DMergedReferenceIdeal.Run
public import proofs.«01_k».proof.Proof.Gen.DMergedReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.DMerged

open Cert.DMergedKernelIdeal Cert.DMergedKernelIdeal.Gen Idealize.ShloMosaic Idealize.ShloMosaic.TcCoe Idealize.SL.Sem
open Idealize.ShloMosaic.Pipeline (Dat)
open Cert.DMergedReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![0, 0] ∧ win0_2.index t = ![t.val, 0] :=
  (by decide +kernel : ∀ t : Fin grid0.N, _)

/-- The result array after the run. -/
theorem value (c : Dev nD) : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay1, val_main_v3, val_main_v2, val_main_v1, val_main_v0]
  blk_point [iblk, V, idx t]

/-- The reference runs, keeps its arguments, and declares no semaphore that could end nonzero. -/
theorem frame_reference : Cert.quiescent_DMergedReferenceIdeal (hDMergedReferenceIdeal := Cert.DMergedReferenceIdeal.Gen.facts) :=
  fun m g _ => (θ_run (Cert.DMergedReferenceIdeal.defs (F := Ideal)) _ _).mono
    (fun r h => ⟨fun c => (h c).2, sem_eq_zero_of_no_sems (by decide) r.2⟩)
    (Cert.DMergedReferenceIdeal.Value.run (F := Ideal) m g)

/-- From equal arguments the kernel's result is the reference's. -/
theorem algebraic : Cert.algebraic_DMergedKernelIdeal_DMergedReferenceIdeal (hDMergedKernelIdeal := Cert.DMergedKernelIdeal.Gen.facts)
    (hDMergedReferenceIdeal := Cert.DMergedReferenceIdeal.Gen.facts) := by
  intro m g m' g' _ hargs
  refine ⟨_, Cert.DMergedKernelIdeal.Value.run_blocks (F := Ideal) m g, ?_⟩
  refine (θ_run (Cert.DMergedReferenceIdeal.defs (F := Ideal)) _ _).mono (fun r h c => ?_)
    (Cert.DMergedReferenceIdeal.Value.run (F := Ideal) m' g')
  obtain ⟨h0, hk⟩ := h c
  obtain ⟨e0, e1⟩ := hargs c
  refine ⟨h0.trans ?_, hk⟩
  rw [e0, e1]
  exact (val_main_v3_eq _ _).trans (value m c).symm

end Cert.DMerged

end
-- ==== Proof.DYa.lean ====
/-
  The gradient of the output of branch a: the kernel's result array is the reference's, over the reals.

  Every point of the grid multiplies a block of 512 rows with one block of columns and writes its own block of the result.
-/
module

public import proofs.«01_k».proof.Defs
public import proofs.«01_k».proof.Proof.Gen.DYaKernelIdeal.Frame
public import proofs.«01_k».proof.Proof.Gen.DYaKernelIdeal.Value
public import proofs.«01_k».proof.Proof.Gen.DYaReferenceIdeal
public import proofs.«01_k».proof.Proof.Gen.DYaReferenceIdeal.Run
public import proofs.«01_k».proof.Proof.Gen.DYaReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.DYa

open Cert.DYaKernelIdeal Cert.DYaKernelIdeal.Gen Idealize.ShloMosaic Idealize.ShloMosaic.TcCoe Idealize.SL.Sem
open Idealize.ShloMosaic.Pipeline (Dat)
open Cert.DYaReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![0, 0] ∧ win0_2.index t = ![t.val, 0] :=
  (by decide +kernel : ∀ t : Fin grid0.N, _)

/-- The result array after the run. -/
theorem value (c : Dev nD) : (dats m 0 c).arrAt 2 cfg0.N = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay1, val_main_v4, val_main_v3, val_main_v2, val_main_v1, val_main_v0]
  blk_point [iblk, V, idx t]

/-- The reference runs, keeps its arguments, and declares no semaphore that could end nonzero. -/
theorem frame_reference : Cert.quiescent_DYaReferenceIdeal (hDYaReferenceIdeal := Cert.DYaReferenceIdeal.Gen.facts) :=
  fun m g _ => (θ_run (Cert.DYaReferenceIdeal.defs (F := Ideal)) _ _).mono
    (fun r h => ⟨fun c => (h c).2, sem_eq_zero_of_no_sems (by decide) r.2⟩)
    (Cert.DYaReferenceIdeal.Value.run (F := Ideal) m g)

/-- From equal arguments the kernel's result is the reference's. -/
theorem algebraic : Cert.algebraic_DYaKernelIdeal_DYaReferenceIdeal (hDYaKernelIdeal := Cert.DYaKernelIdeal.Gen.facts)
    (hDYaReferenceIdeal := Cert.DYaReferenceIdeal.Gen.facts) := by
  intro m g m' g' _ hargs
  refine ⟨_, Cert.DYaKernelIdeal.Value.run_blocks (F := Ideal) m g, ?_⟩
  refine (θ_run (Cert.DYaReferenceIdeal.defs (F := Ideal)) _ _).mono (fun r h c => ?_)
    (Cert.DYaReferenceIdeal.Value.run (F := Ideal) m' g')
  obtain ⟨h0, hk⟩ := h c
  obtain ⟨e0, e1⟩ := hargs c
  refine ⟨h0.trans ?_, hk⟩
  rw [e0, e1]
  exact (val_main_v4_eq _ _).trans (value m c).symm

end Cert.DYa

end
-- ==== Proof.DYb.lean ====
/-
  The gradient of the output of branch b: the kernel's result array is the reference's, over the reals.

  Every point of the grid multiplies a block of 512 rows with one block of columns and writes its own block of the result.
-/
module

public import proofs.«01_k».proof.Defs
public import proofs.«01_k».proof.Proof.Gen.DYbKernelIdeal.Frame
public import proofs.«01_k».proof.Proof.Gen.DYbKernelIdeal.Value
public import proofs.«01_k».proof.Proof.Gen.DYbReferenceIdeal
public import proofs.«01_k».proof.Proof.Gen.DYbReferenceIdeal.Run
public import proofs.«01_k».proof.Proof.Gen.DYbReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.DYb

open Cert.DYbKernelIdeal Cert.DYbKernelIdeal.Gen Idealize.ShloMosaic Idealize.ShloMosaic.TcCoe Idealize.SL.Sem
open Idealize.ShloMosaic.Pipeline (Dat)
open Cert.DYbReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![0, 0] ∧ win0_2.index t = ![t.val, 0] :=
  (by decide +kernel : ∀ t : Fin grid0.N, _)

/-- The result array after the run. -/
theorem value (c : Dev nD) : (dats m 0 c).arrAt 2 cfg0.N = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay1, val_main_v4, val_main_v3, val_main_v2, val_main_v1, val_main_v0]
  blk_point [iblk, V, idx t]

/-- The reference runs, keeps its arguments, and declares no semaphore that could end nonzero. -/
theorem frame_reference : Cert.quiescent_DYbReferenceIdeal (hDYbReferenceIdeal := Cert.DYbReferenceIdeal.Gen.facts) :=
  fun m g _ => (θ_run (Cert.DYbReferenceIdeal.defs (F := Ideal)) _ _).mono
    (fun r h => ⟨fun c => (h c).2, sem_eq_zero_of_no_sems (by decide) r.2⟩)
    (Cert.DYbReferenceIdeal.Value.run (F := Ideal) m g)

/-- From equal arguments the kernel's result is the reference's. -/
theorem algebraic : Cert.algebraic_DYbKernelIdeal_DYbReferenceIdeal (hDYbKernelIdeal := Cert.DYbKernelIdeal.Gen.facts)
    (hDYbReferenceIdeal := Cert.DYbReferenceIdeal.Gen.facts) := by
  intro m g m' g' _ hargs
  refine ⟨_, Cert.DYbKernelIdeal.Value.run_blocks (F := Ideal) m g, ?_⟩
  refine (θ_run (Cert.DYbReferenceIdeal.defs (F := Ideal)) _ _).mono (fun r h c => ?_)
    (Cert.DYbReferenceIdeal.Value.run (F := Ideal) m' g')
  obtain ⟨h0, hk⟩ := h c
  obtain ⟨e0, e1⟩ := hargs c
  refine ⟨h0.trans ?_, hk⟩
  rw [e0, e1]
  exact (val_main_v4_eq _ _).trans (value m c).symm

end Cert.DYb

end
-- ==== Proof.DYc.lean ====
/-
  The gradient of the output of branch c: the kernel's result array is the reference's, over the reals.

  Every point of the grid multiplies a block of 512 rows with one block of columns and writes its own block of the result.
-/
module

public import proofs.«01_k».proof.Defs
public import proofs.«01_k».proof.Proof.Gen.DYcKernelIdeal.Frame
public import proofs.«01_k».proof.Proof.Gen.DYcKernelIdeal.Value
public import proofs.«01_k».proof.Proof.Gen.DYcReferenceIdeal
public import proofs.«01_k».proof.Proof.Gen.DYcReferenceIdeal.Run
public import proofs.«01_k».proof.Proof.Gen.DYcReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.DYc

open Cert.DYcKernelIdeal Cert.DYcKernelIdeal.Gen Idealize.ShloMosaic Idealize.ShloMosaic.TcCoe Idealize.SL.Sem
open Idealize.ShloMosaic.Pipeline (Dat)
open Cert.DYcReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![0, 0] ∧ win0_2.index t = ![t.val, 0] :=
  (by decide +kernel : ∀ t : Fin grid0.N, _)

/-- The result array after the run. -/
theorem value (c : Dev nD) : (dats m 0 c).arrAt 2 cfg0.N = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay1, val_main_v4, val_main_v3, val_main_v2, val_main_v1, val_main_v0]
  blk_point [iblk, V, idx t]

/-- The reference runs, keeps its arguments, and declares no semaphore that could end nonzero. -/
theorem frame_reference : Cert.quiescent_DYcReferenceIdeal (hDYcReferenceIdeal := Cert.DYcReferenceIdeal.Gen.facts) :=
  fun m g _ => (θ_run (Cert.DYcReferenceIdeal.defs (F := Ideal)) _ _).mono
    (fun r h => ⟨fun c => (h c).2, sem_eq_zero_of_no_sems (by decide) r.2⟩)
    (Cert.DYcReferenceIdeal.Value.run (F := Ideal) m g)

/-- From equal arguments the kernel's result is the reference's. -/
theorem algebraic : Cert.algebraic_DYcKernelIdeal_DYcReferenceIdeal (hDYcKernelIdeal := Cert.DYcKernelIdeal.Gen.facts)
    (hDYcReferenceIdeal := Cert.DYcReferenceIdeal.Gen.facts) := by
  intro m g m' g' _ hargs
  refine ⟨_, Cert.DYcKernelIdeal.Value.run_blocks (F := Ideal) m g, ?_⟩
  refine (θ_run (Cert.DYcReferenceIdeal.defs (F := Ideal)) _ _).mono (fun r h c => ?_)
    (Cert.DYcReferenceIdeal.Value.run (F := Ideal) m' g')
  obtain ⟨h0, hk⟩ := h c
  obtain ⟨e0, e1⟩ := hargs c
  refine ⟨h0.trans ?_, hk⟩
  rw [e0, e1]
  exact (val_main_v4_eq _ _).trans (value m c).symm

end Cert.DYc

end
-- ==== Proof.DG.lean ====
/-
  The gradient of the gated unit, added to the other part: the kernel's result array is the reference's, over the reals.

  Every point of the grid multiplies a block of 512 rows with one block of columns and writes its own block of the result.
-/
module

public import proofs.«01_k».proof.Defs
public import proofs.«01_k».proof.Proof.Gen.DGKernelIdeal.Frame
public import proofs.«01_k».proof.Proof.Gen.DGKernelIdeal.Value
public import proofs.«01_k».proof.Proof.Gen.DGReferenceIdeal
public import proofs.«01_k».proof.Proof.Gen.DGReferenceIdeal.Run
public import proofs.«01_k».proof.Proof.Gen.DGReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.DG

open Cert.DGKernelIdeal Cert.DGKernelIdeal.Gen Idealize.ShloMosaic Idealize.ShloMosaic.TcCoe Idealize.SL.Sem
open Idealize.ShloMosaic.Pipeline (Dat)
open Cert.DGReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The result array after the run. -/
theorem value (c : Dev nD) : (dats m 0 c).arrAt 3 cfg0.N = val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0; frame_out
  pointwise [k0_pay1, val_main_v5, val_main_v4, val_main_v3, val_main_v2, val_main_v1, val_main_v0]
  blk_point [iblk, V, idx t]

/-- The reference runs, keeps its arguments, and declares no semaphore that could end nonzero. -/
theorem frame_reference : Cert.quiescent_DGReferenceIdeal (hDGReferenceIdeal := Cert.DGReferenceIdeal.Gen.facts) :=
  fun m g _ => (θ_run (Cert.DGReferenceIdeal.defs (F := Ideal)) _ _).mono
    (fun r h => ⟨fun c => (h c).2, sem_eq_zero_of_no_sems (by decide) r.2⟩)
    (Cert.DGReferenceIdeal.Value.run (F := Ideal) m g)

/-- From equal arguments the kernel's result is the reference's. -/
theorem algebraic : Cert.algebraic_DGKernelIdeal_DGReferenceIdeal (hDGKernelIdeal := Cert.DGKernelIdeal.Gen.facts)
    (hDGReferenceIdeal := Cert.DGReferenceIdeal.Gen.facts) := by
  intro m g m' g' _ hargs
  refine ⟨_, Cert.DGKernelIdeal.Value.run_blocks (F := Ideal) m g, ?_⟩
  refine (θ_run (Cert.DGReferenceIdeal.defs (F := Ideal)) _ _).mono (fun r h c => ?_)
    (Cert.DGReferenceIdeal.Value.run (F := Ideal) m' g')
  obtain ⟨h0, hk⟩ := h c
  obtain ⟨e0, e1, e2⟩ := hargs c
  refine ⟨h0.trans ?_, hk⟩
  rw [e0, e1, e2]
  exact (val_main_v5_eq _ _ _).trans (value m c).symm

end Cert.DG

end
-- ==== Proof.InA.lean ====
/-
  The first piece of the input projection: the kernel's result array is the reference's, over the reals.

  Every point of the grid multiplies a block of 512 rows with one block of columns and writes its own block of the result.
-/
module

public import proofs.«01_k».proof.Defs
public import proofs.«01_k».proof.Proof.Gen.InAKernelIdeal.Frame
public import proofs.«01_k».proof.Proof.Gen.InAKernelIdeal.Value
public import proofs.«01_k».proof.Proof.Gen.InAReferenceIdeal
public import proofs.«01_k».proof.Proof.Gen.InAReferenceIdeal.Run
public import proofs.«01_k».proof.Proof.Gen.InAReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.InA

open Cert.InAKernelIdeal Cert.InAKernelIdeal.Gen Idealize.ShloMosaic Idealize.ShloMosaic.TcCoe Idealize.SL.Sem
open Idealize.ShloMosaic.Pipeline (Dat)
open Cert.InAReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![0, 0] ∧ win0_2.index t = ![t.val, 0] :=
  (by decide +kernel : ∀ t : Fin grid0.N, _)

/-- The result array after the run. -/
theorem value (c : Dev nD) : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay1, val_main_v2, val_main_v1, val_main_v0]
  blk_point [iblk, V, idx t]

/-- The reference runs, keeps its arguments, and declares no semaphore that could end nonzero. -/
theorem frame_reference : Cert.quiescent_InAReferenceIdeal (hInAReferenceIdeal := Cert.InAReferenceIdeal.Gen.facts) :=
  fun m g _ => (θ_run (Cert.InAReferenceIdeal.defs (F := Ideal)) _ _).mono
    (fun r h => ⟨fun c => (h c).2, sem_eq_zero_of_no_sems (by decide) r.2⟩)
    (Cert.InAReferenceIdeal.Value.run (F := Ideal) m g)

/-- From equal arguments the kernel's result is the reference's. -/
theorem algebraic : Cert.algebraic_InAKernelIdeal_InAReferenceIdeal (hInAKernelIdeal := Cert.InAKernelIdeal.Gen.facts)
    (hInAReferenceIdeal := Cert.InAReferenceIdeal.Gen.facts) := by
  intro m g m' g' _ hargs
  refine ⟨_, Cert.InAKernelIdeal.Value.run_blocks (F := Ideal) m g, ?_⟩
  refine (θ_run (Cert.InAReferenceIdeal.defs (F := Ideal)) _ _).mono (fun r h c => ?_)
    (Cert.InAReferenceIdeal.Value.run (F := Ideal) m' g')
  obtain ⟨h0, hk⟩ := h c
  obtain ⟨e0, e1⟩ := hargs c
  refine ⟨h0.trans ?_, hk⟩
  rw [e0, e1]
  exact (val_main_v2_eq _ _).trans (value m c).symm

end Cert.InA

end
-- ==== Proof.InQ.lean ====
/-
  The second and the third piece of the input projection: the kernel's result array is the reference's, over the reals.

  Every point of the grid multiplies a block of 512 rows with one block of columns and writes its own block of the result.
-/
module

public import proofs.«01_k».proof.Defs
public import proofs.«01_k».proof.Proof.Gen.InQKernelIdeal.Frame
public import proofs.«01_k».proof.Proof.Gen.InQKernelIdeal.Value
public import proofs.«01_k».proof.Proof.Gen.InQReferenceIdeal
public import proofs.«01_k».proof.Proof.Gen.InQReferenceIdeal.Run
public import proofs.«01_k».proof.Proof.Gen.InQReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.InQ

open Cert.InQKernelIdeal Cert.InQKernelIdeal.Gen Idealize.ShloMosaic Idealize.ShloMosaic.TcCoe Idealize.SL.Sem
open Idealize.ShloMosaic.Pipeline (Dat)
open Cert.InQReferenceIdeal.Read

variable (m : (ℓ : Loc nD τ sig) → Buf (Elt Ideal) ℓ)

/-- The blocks the windows read and write at point `t`. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The result array after the run. -/
theorem value (c : Dev nD) : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay1, val_main_v2, val_main_v1, val_main_v0]
  blk_point [iblk, V, idx t]

/-- The reference runs, keeps its arguments, and declares no semaphore that could end nonzero. -/
theorem frame_reference : Cert.quiescent_InQReferenceIdeal (hInQReferenceIdeal := Cert.InQReferenceIdeal.Gen.facts) :=
  fun m g _ => (θ_run (Cert.InQReferenceIdeal.defs (F := Ideal)) _ _).mono
    (fun r h => ⟨fun c => (h c).2, sem_eq_zero_of_no_sems (by decide) r.2⟩)
    (Cert.InQReferenceIdeal.Value.run (F := Ideal) m g)

/-- From equal arguments the kernel's result is the reference's. -/
theorem algebraic : Cert.algebraic_InQKernelIdeal_InQReferenceIdeal (hInQKernelIdeal := Cert.InQKernelIdeal.Gen.facts)
    (hInQReferenceIdeal := Cert.InQReferenceIdeal.Gen.facts) := by
  intro m g m' g' _ hargs
  refine ⟨_, Cert.InQKernelIdeal.Value.run_blocks (F := Ideal) m g, ?_⟩
  refine (θ_run (Cert.InQReferenceIdeal.defs (F := Ideal)) _ _).mono (fun r h c => ?_)
    (Cert.InQReferenceIdeal.Value.run (F := Ideal) m' g')
  obtain ⟨h0, hk⟩ := h c
  obtain ⟨e0, e1⟩ := hargs c
  refine ⟨h0.trans ?_, hk⟩
  rw [e0, e1]
  exact (val_main_v2_eq _ _).trans (value m c).symm

end Cert.InQ

end
-- ==== Proof.InG.lean ====
/-
  The gates of the input projection: the kernel's result array is the reference's, over the reals.

  Every point of the grid multiplies a block of 512 rows with one block of columns and writes its own block of the result.
-/
module

public import proofs.«01_k».proof.Defs
public import proofs.«01_k».proof.Proof.Gen.InGKernelIdeal.Frame
public import proofs.«01_k».proof.Proof.Gen.InGKernelIdeal.Value
public import proofs.«01_k».proof.Proof.Gen.InGReferenceIdeal
public import proofs.«01_k».proof.Proof.Gen.InGReferenceIdeal.Run
public import proofs.«01_k».proof.Proof.Gen.InGReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.InG

open Cert.InGKernelIdeal Cert.InGKernelIdeal.Gen Idealize.ShloMosaic Idealize.ShloMosaic.TcCoe Idealize.SL.Sem
open Idealize.ShloMosaic.Pipeline (Dat)
open Cert.InGReferenceIdeal.Read

variable (m : (ℓ : Loc nD τ sig) → Buf (Elt Ideal) ℓ)

/-- The blocks the windows read and write at point `t`. -/
theorem idx : ∀ t : Fin cfg0.N, win0_0.index t = ![t.val / 3, 0] ∧ win0_1.index t = ![0, t.val % 3] ∧ win0_2.index t = ![t.val / 3, t.val % 3] :=
  (by decide +kernel : ∀ t : Fin grid0.N, _)

/-- The result array after the run. -/
theorem value (c : Dev nD) : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay1, val_main_v2, val_main_v1, val_main_v0]
  blk_point [iblk, V, idx t]

/-- The reference runs, keeps its arguments, and declares no semaphore that could end nonzero. -/
theorem frame_reference : Cert.quiescent_InGReferenceIdeal (hInGReferenceIdeal := Cert.InGReferenceIdeal.Gen.facts) :=
  fun m g _ => (θ_run (Cert.InGReferenceIdeal.defs (F := Ideal)) _ _).mono
    (fun r h => ⟨fun c => (h c).2, sem_eq_zero_of_no_sems (by decide) r.2⟩)
    (Cert.InGReferenceIdeal.Value.run (F := Ideal) m g)

/-- From equal arguments the kernel's result is the reference's. -/
theorem algebraic : Cert.algebraic_InGKernelIdeal_InGReferenceIdeal (hInGKernelIdeal := Cert.InGKernelIdeal.Gen.facts)
    (hInGReferenceIdeal := Cert.InGReferenceIdeal.Gen.facts) := by
  intro m g m' g' _ hargs
  refine ⟨_, Cert.InGKernelIdeal.Value.run_blocks (F := Ideal) m g, ?_⟩
  refine (θ_run (Cert.InGReferenceIdeal.defs (F := Ideal)) _ _).mono (fun r h c => ?_)
    (Cert.InGReferenceIdeal.Value.run (F := Ideal) m' g')
  obtain ⟨h0, hk⟩ := h c
  obtain ⟨e0, e1⟩ := hargs c
  refine ⟨h0.trans ?_, hk⟩
  rw [e0, e1]
  exact (val_main_v2_eq _ _).trans (value m c).symm

end Cert.InG

end
-- ==== Proof.ProjA.lean ====
/-
  The output projection of branch a: the kernel's result array is the reference's, over the reals.

  Every point of the grid multiplies a block of 512 rows with one block of columns and writes its own block of the result.
-/
module

public import proofs.«01_k».proof.Defs
public import proofs.«01_k».proof.Proof.Gen.ProjAKernelIdeal.Frame
public import proofs.«01_k».proof.Proof.Gen.ProjAKernelIdeal.Value
public import proofs.«01_k».proof.Proof.Gen.ProjAReferenceIdeal
public import proofs.«01_k».proof.Proof.Gen.ProjAReferenceIdeal.Run
public import proofs.«01_k».proof.Proof.Gen.ProjAReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.ProjA

open Cert.ProjAKernelIdeal Cert.ProjAKernelIdeal.Gen Idealize.ShloMosaic Idealize.ShloMosaic.TcCoe Idealize.SL.Sem
open Idealize.ShloMosaic.Pipeline (Dat)
open Cert.ProjAReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![0, 0] ∧ win0_2.index t = ![t.val, 0] :=
  (by decide +kernel : ∀ t : Fin grid0.N, _)

/-- The result array after the run. -/
theorem value (c : Dev nD) : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay1, val_main_v2, val_main_v1, val_main_v0]
  blk_point [iblk, V, idx t]

/-- The reference runs, keeps its arguments, and declares no semaphore that could end nonzero. -/
theorem frame_reference : Cert.quiescent_ProjAReferenceIdeal (hProjAReferenceIdeal := Cert.ProjAReferenceIdeal.Gen.facts) :=
  fun m g _ => (θ_run (Cert.ProjAReferenceIdeal.defs (F := Ideal)) _ _).mono
    (fun r h => ⟨fun c => (h c).2, sem_eq_zero_of_no_sems (by decide) r.2⟩)
    (Cert.ProjAReferenceIdeal.Value.run (F := Ideal) m g)

/-- From equal arguments the kernel's result is the reference's. -/
theorem algebraic : Cert.algebraic_ProjAKernelIdeal_ProjAReferenceIdeal (hProjAKernelIdeal := Cert.ProjAKernelIdeal.Gen.facts)
    (hProjAReferenceIdeal := Cert.ProjAReferenceIdeal.Gen.facts) := by
  intro m g m' g' _ hargs
  refine ⟨_, Cert.ProjAKernelIdeal.Value.run_blocks (F := Ideal) m g, ?_⟩
  refine (θ_run (Cert.ProjAReferenceIdeal.defs (F := Ideal)) _ _).mono (fun r h c => ?_)
    (Cert.ProjAReferenceIdeal.Value.run (F := Ideal) m' g')
  obtain ⟨h0, hk⟩ := h c
  obtain ⟨e0, e1⟩ := hargs c
  refine ⟨h0.trans ?_, hk⟩
  rw [e0, e1]
  exact (val_main_v2_eq _ _).trans (value m c).symm

end Cert.ProjA

end
-- ==== Proof.ProjB.lean ====
/-
  The output projection of branch b: the kernel's result array is the reference's, over the reals.

  Every point of the grid multiplies a block of 512 rows with one block of columns and writes its own block of the result.
-/
module

public import proofs.«01_k».proof.Defs
public import proofs.«01_k».proof.Proof.Gen.ProjBKernelIdeal.Frame
public import proofs.«01_k».proof.Proof.Gen.ProjBKernelIdeal.Value
public import proofs.«01_k».proof.Proof.Gen.ProjBReferenceIdeal
public import proofs.«01_k».proof.Proof.Gen.ProjBReferenceIdeal.Run
public import proofs.«01_k».proof.Proof.Gen.ProjBReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.ProjB

open Cert.ProjBKernelIdeal Cert.ProjBKernelIdeal.Gen Idealize.ShloMosaic Idealize.ShloMosaic.TcCoe Idealize.SL.Sem
open Idealize.ShloMosaic.Pipeline (Dat)
open Cert.ProjBReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![0, 0] ∧ win0_2.index t = ![t.val, 0] :=
  (by decide +kernel : ∀ t : Fin grid0.N, _)

/-- The result array after the run. -/
theorem value (c : Dev nD) : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay1, val_main_v2, val_main_v1, val_main_v0]
  blk_point [iblk, V, idx t]

/-- The reference runs, keeps its arguments, and declares no semaphore that could end nonzero. -/
theorem frame_reference : Cert.quiescent_ProjBReferenceIdeal (hProjBReferenceIdeal := Cert.ProjBReferenceIdeal.Gen.facts) :=
  fun m g _ => (θ_run (Cert.ProjBReferenceIdeal.defs (F := Ideal)) _ _).mono
    (fun r h => ⟨fun c => (h c).2, sem_eq_zero_of_no_sems (by decide) r.2⟩)
    (Cert.ProjBReferenceIdeal.Value.run (F := Ideal) m g)

/-- From equal arguments the kernel's result is the reference's. -/
theorem algebraic : Cert.algebraic_ProjBKernelIdeal_ProjBReferenceIdeal (hProjBKernelIdeal := Cert.ProjBKernelIdeal.Gen.facts)
    (hProjBReferenceIdeal := Cert.ProjBReferenceIdeal.Gen.facts) := by
  intro m g m' g' _ hargs
  refine ⟨_, Cert.ProjBKernelIdeal.Value.run_blocks (F := Ideal) m g, ?_⟩
  refine (θ_run (Cert.ProjBReferenceIdeal.defs (F := Ideal)) _ _).mono (fun r h c => ?_)
    (Cert.ProjBReferenceIdeal.Value.run (F := Ideal) m' g')
  obtain ⟨h0, hk⟩ := h c
  obtain ⟨e0, e1⟩ := hargs c
  refine ⟨h0.trans ?_, hk⟩
  rw [e0, e1]
  exact (val_main_v2_eq _ _).trans (value m c).symm

end Cert.ProjB

end
-- ==== Proof.ProjC.lean ====
/-
  The output projection of branch c: the kernel's result array is the reference's, over the reals.

  Every point of the grid multiplies a block of 512 rows with one block of columns and writes its own block of the result.
-/
module

public import proofs.«01_k».proof.Defs
public import proofs.«01_k».proof.Proof.Gen.ProjCKernelIdeal.Frame
public import proofs.«01_k».proof.Proof.Gen.ProjCKernelIdeal.Value
public import proofs.«01_k».proof.Proof.Gen.ProjCReferenceIdeal
public import proofs.«01_k».proof.Proof.Gen.ProjCReferenceIdeal.Run
public import proofs.«01_k».proof.Proof.Gen.ProjCReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.ProjC

open Cert.ProjCKernelIdeal Cert.ProjCKernelIdeal.Gen Idealize.ShloMosaic Idealize.ShloMosaic.TcCoe Idealize.SL.Sem
open Idealize.ShloMosaic.Pipeline (Dat)
open Cert.ProjCReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![0, 0] ∧ win0_2.index t = ![t.val, 0] :=
  (by decide +kernel : ∀ t : Fin grid0.N, _)

/-- The result array after the run. -/
theorem value (c : Dev nD) : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay1, val_main_v2, val_main_v1, val_main_v0]
  blk_point [iblk, V, idx t]

/-- The reference runs, keeps its arguments, and declares no semaphore that could end nonzero. -/
theorem frame_reference : Cert.quiescent_ProjCReferenceIdeal (hProjCReferenceIdeal := Cert.ProjCReferenceIdeal.Gen.facts) :=
  fun m g _ => (θ_run (Cert.ProjCReferenceIdeal.defs (F := Ideal)) _ _).mono
    (fun r h => ⟨fun c => (h c).2, sem_eq_zero_of_no_sems (by decide) r.2⟩)
    (Cert.ProjCReferenceIdeal.Value.run (F := Ideal) m g)

/-- From equal arguments the kernel's result is the reference's. -/
theorem algebraic : Cert.algebraic_ProjCKernelIdeal_ProjCReferenceIdeal (hProjCKernelIdeal := Cert.ProjCKernelIdeal.Gen.facts)
    (hProjCReferenceIdeal := Cert.ProjCReferenceIdeal.Gen.facts) := by
  intro m g m' g' _ hargs
  refine ⟨_, Cert.ProjCKernelIdeal.Value.run_blocks (F := Ideal) m g, ?_⟩
  refine (θ_run (Cert.ProjCReferenceIdeal.defs (F := Ideal)) _ _).mono (fun r h c => ?_)
    (Cert.ProjCReferenceIdeal.Value.run (F := Ideal) m' g')
  obtain ⟨h0, hk⟩ := h c
  obtain ⟨e0, e1⟩ := hargs c
  refine ⟨h0.trans ?_, hk⟩
  rw [e0, e1]
  exact (val_main_v2_eq _ _).trans (value m c).symm

end Cert.ProjC

end
-- ==== Proof.Glu1.lean ====
/-
  The product under the gate of branch a: the kernel's result array is the reference's, over the reals.

  Every point of the grid multiplies a block of 512 rows with one block of columns and writes its own block of the result.
-/
module

public import proofs.«01_k».proof.Defs
public import proofs.«01_k».proof.Proof.Gen.Glu1KernelIdeal.Frame
public import proofs.«01_k».proof.Proof.Gen.Glu1KernelIdeal.Value
public import proofs.«01_k».proof.Proof.Gen.Glu1ReferenceIdeal
public import proofs.«01_k».proof.Proof.Gen.Glu1ReferenceIdeal.Run
public import proofs.«01_k».proof.Proof.Gen.Glu1ReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Glu1

open Cert.Glu1KernelIdeal Cert.Glu1KernelIdeal.Gen Idealize.ShloMosaic Idealize.ShloMosaic.TcCoe Idealize.SL.Sem
open Idealize.ShloMosaic.Pipeline (Dat)
open Cert.Glu1ReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![0, 0] ∧ win0_2.index t = ![t.val, 0] :=
  (by decide +kernel : ∀ t : Fin grid0.N, _)

/-- The result array after the run. -/
theorem value (c : Dev nD) : (dats m 0 c).arrAt 2 cfg0.N = val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay1, val_main_v1, val_main_v0]
  blk_point [iblk, V, idx t]

/-- The reference runs, keeps its arguments, and declares no semaphore that could end nonzero. -/
theorem frame_reference : Cert.quiescent_Glu1ReferenceIdeal (hGlu1ReferenceIdeal := Cert.Glu1ReferenceIdeal.Gen.facts) :=
  fun m g _ => (θ_run (Cert.Glu1ReferenceIdeal.defs (F := Ideal)) _ _).mono
    (fun r h => ⟨fun c => (h c).2, sem_eq_zero_of_no_sems (by decide) r.2⟩)
    (Cert.Glu1ReferenceIdeal.Value.run (F := Ideal) m g)

/-- From equal arguments the kernel's result is the reference's. -/
theorem algebraic : Cert.algebraic_Glu1KernelIdeal_Glu1ReferenceIdeal (hGlu1KernelIdeal := Cert.Glu1KernelIdeal.Gen.facts)
    (hGlu1ReferenceIdeal := Cert.Glu1ReferenceIdeal.Gen.facts) := by
  intro m g m' g' _ hargs
  refine ⟨_, Cert.Glu1KernelIdeal.Value.run_blocks (F := Ideal) m g, ?_⟩
  refine (θ_run (Cert.Glu1ReferenceIdeal.defs (F := Ideal)) _ _).mono (fun r h c => ?_)
    (Cert.Glu1ReferenceIdeal.Value.run (F := Ideal) m' g')
  obtain ⟨h0, hk⟩ := h c
  obtain ⟨e0, e1⟩ := hargs c
  refine ⟨h0.trans ?_, hk⟩
  rw [e0, e1]
  exact (val_main_v1_eq _ _).trans (value m c).symm

end Cert.Glu1

end
-- ==== Proof.WOut.lean ====
/-
  The output projection of the layer, added to the stream: the kernel's result array is the reference's, over the reals.

  Every point of the grid multiplies a block of 512 rows with one block of columns and writes its own block of the result.
-/
module

public import proofs.«01_k».proof.Defs
public import proofs.«01_k».proof.Proof.Gen.WOutKernelIdeal.Frame
public import proofs.«01_k».proof.Proof.Gen.WOutKernelIdeal.Value
public import proofs.«01_k».proof.Proof.Gen.WOutReferenceIdeal
public import proofs.«01_k».proof.Proof.Gen.WOutReferenceIdeal.Run
public import proofs.«01_k».proof.Proof.Gen.WOutReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.WOut

open Cert.WOutKernelIdeal Cert.WOutKernelIdeal.Gen Idealize.ShloMosaic Idealize.ShloMosaic.TcCoe Idealize.SL.Sem
open Idealize.ShloMosaic.Pipeline (Dat)
open Cert.WOutReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The result array after the run. -/
theorem value (c : Dev nD) : (dats m 0 c).arrAt 3 cfg0.N = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0; frame_out
  pointwise [k0_pay1, val_main_v3, val_main_v2, val_main_v1, val_main_v0]
  blk_point [iblk, V, idx t]

/-- The reference runs, keeps its arguments, and declares no semaphore that could end nonzero. -/
theorem frame_reference : Cert.quiescent_WOutReferenceIdeal (hWOutReferenceIdeal := Cert.WOutReferenceIdeal.Gen.facts) :=
  fun m g _ => (θ_run (Cert.WOutReferenceIdeal.defs (F := Ideal)) _ _).mono
    (fun r h => ⟨fun c => (h c).2, sem_eq_zero_of_no_sems (by decide) r.2⟩)
    (Cert.WOutReferenceIdeal.Value.run (F := Ideal) m g)

/-- From equal arguments the kernel's result is the reference's. -/
theorem algebraic : Cert.algebraic_WOutKernelIdeal_WOutReferenceIdeal (hWOutKernelIdeal := Cert.WOutKernelIdeal.Gen.facts)
    (hWOutReferenceIdeal := Cert.WOutReferenceIdeal.Gen.facts) := by
  intro m g m' g' _ hargs
  refine ⟨_, Cert.WOutKernelIdeal.Value.run_blocks (F := Ideal) m g, ?_⟩
  refine (θ_run (Cert.WOutReferenceIdeal.defs (F := Ideal)) _ _).mono (fun r h c => ?_)
    (Cert.WOutReferenceIdeal.Value.run (F := Ideal) m' g')
  obtain ⟨h0, hk⟩ := h c
  obtain ⟨e0, e1, e2⟩ := hargs c
  refine ⟨h0.trans ?_, hk⟩
  rw [e0, e1, e2]
  exact (val_main_v3_eq _ _ _).trans (value m c).symm

end Cert.WOut

end
-- ==== Proof.OptWIn.lean ====
/-
  AdamW's step for 3 of both layers: each layer's gradient is the sum of the devices' parts.
-/
module

public import proofs.«01_k».proof.Defs
public import proofs.«01_k».proof.Proof.Gen.OptWInKernelIdeal.Frame
public import proofs.«01_k».proof.Proof.Gen.OptWInKernelIdeal.Value
public import proofs.«01_k».proof.Proof.Gen.OptWInReferenceIdeal
public import proofs.«01_k».proof.Proof.Gen.OptWInReferenceIdeal.Run
public import proofs.«01_k».proof.Proof.Gen.OptWInReferenceIdeal.Read
public import Idealize.ShloMosaic.Lib.Pipeline.ReadBack
public import Idealize.ShloMosaic.Lib.Pipeline.ValueKit
public import Idealize.ShloMosaic.Lib.Pointwise

@[expose] public section

noncomputable section

namespace Cert.OptWIn

open Idealize.ShloMosaic Idealize.ShloMosaic.TcCoe Idealize.SL.Sem
open Cert.OptWInKernelIdeal Cert.OptWInKernelIdeal.Gen
open Cert.OptWInReferenceIdeal.Read

variable (m : (ℓ : Loc nD τ sig) → Buf (Elt Ideal) ℓ)

/-- The blocks the windows read and write at point `t`. -/
theorem idx : ∀ t : Fin cfg0.N, win0_0.index t = ![t.val / 16, t.val % 16, 0]
    ∧ win0_1.index t = ![0, if t.val / 16 = 0 then t.val % 16 else 0, 0] ∧ win0_2.index t = ![0, if t.val / 16 = 1 then t.val % 16 else 0, 0]
    ∧ win0_3.index t = ![t.val / 16, t.val % 16, 0] ∧ win0_4.index t = ![t.val / 16, t.val % 16, 0]
    ∧ win0_5.index t = ![t.val / 16, t.val % 16, 0] ∧ win0_6.index t = ![t.val / 16, t.val % 16, 0]
    ∧ win0_7.index t = ![t.val / 16, t.val % 16, 0] ∧ win0_8.index t = ![t.val / 16, t.val % 16, 0] :=
  (by decide +kernel : ∀ t : Fin grid0.N, _)

/-- The layer a point works on. -/
theorem layer : ∀ t : Fin cfg0.N, (grid0.coords t 0).val = t.val / 16 :=
  (by decide +kernel : ∀ t : Fin grid0.N, _)

/-- The sum of the devices' parts at one place. -/
def slots (x : Cert.OptWInReferenceIdeal.S8x128x8716.Idx → EReal) (i : Cert.OptWInReferenceIdeal.S128x8716.Idx) : EReal :=
  x (ix3 0 (i 0) (i 1)) + x (ix3 1 (i 0) (i 1)) + x (ix3 2 (i 0) (i 1)) + x (ix3 3 (i 0) (i 1))
    + x (ix3 4 (i 0) (i 1)) + x (ix3 5 (i 0) (i 1)) + x (ix3 6 (i 0) (i 1)) + x (ix3 7 (i 0) (i 1))

/-- A layer's gradient in the reference is that sum. -/
theorem sum_slots (x : Cert.OptWInReferenceIdeal.S8x128x8716.Idx → EReal) (i) : val_main_v1 (F := Ideal) x i = slots x i := by
  rw [val_main_v1_apply, Fin.sum_univ_eight]
  pointwise [val_main_v0, val_main_cst, slots]
  blk_point [idx_main_v1]

/-- The first layer's gradient. -/
theorem first (x y : Cert.OptWInReferenceIdeal.S8x128x8716.Idx → EReal) (i : Cert.OptWInReferenceIdeal.S2x128x8716.Idx) (h : (i 0).val = 0) :
    val_main_v6 (F := Ideal) x y i = slots x (ix2 (i 1) (i 2)) := by
  unfold val_main_v6
  refine (concatenate_pair_apply_left (s₁ := Cert.OptWInReferenceIdeal.S1x128x8716) (s₂ := Cert.OptWInReferenceIdeal.S1x128x8716) _ (val_main_v4 (F := Ideal) x) (val_main_v5 (F := Ideal) y) _ i rfl
    (ix3 0 (i 1) (i 2)) (fun b => ?_)).trans ((val_main_v4_apply (F := Ideal) x _).trans (sum_slots x _))
  match b with
  | ⟨0, _⟩ => exact h.symm
  | ⟨1, _⟩ => rfl
  | ⟨2, _⟩ => rfl

/-- The second layer's gradient. -/
theorem second (x y : Cert.OptWInReferenceIdeal.S8x128x8716.Idx → EReal) (i : Cert.OptWInReferenceIdeal.S2x128x8716.Idx) (h : (i 0).val = 1) :
    val_main_v6 (F := Ideal) x y i = slots y (ix2 (i 1) (i 2)) := by
  unfold val_main_v6
  refine (concatenate_pair_apply_right (s₁ := Cert.OptWInReferenceIdeal.S1x128x8716) (s₂ := Cert.OptWInReferenceIdeal.S1x128x8716) _ (val_main_v4 (F := Ideal) x) (val_main_v5 (F := Ideal) y) _ i rfl rfl
    (ix3 0 (i 1) (i 2)) (fun b hb => ?_) ?_).trans ((val_main_v5_apply (F := Ideal) y _).trans (sum_slots y _))
  · match b, hb with
    | ⟨0, _⟩, hb => exact absurd rfl hb
    | ⟨1, _⟩, _ => rfl
    | ⟨2, _⟩, _ => rfl
  · exact h.symm

/-- What the kernel's choice takes in the first layer. -/
theorem select_first {α : Type} (a b : α) : Scalar.select (Scalar.cmpi .eq (BitVec.ofNat 32 0) 1#32) a b = b := rfl

/-- What the kernel's choice takes in the second layer. -/
theorem select_second {α : Type} (a b : α) : Scalar.select (Scalar.cmpi .eq (BitVec.ofNat 32 1) 1#32) a b = a := rfl

/-- The block of the gradient a point computes is the reference's. -/
theorem grad_block (c : Dev nD) (t : Fin cfg0.N) (x0 x3 x4) :
    k0_pay9 (F := Ideal) (grid0.coords t) x0 (iblk m c 1 t) (iblk m c 2 t) x3 x4
      = fun j => val_main_v6 (F := Ideal) (m ((c : Thread nD τ).loc main_arg1)) (m ((c : Thread nD τ).loc main_arg2))
          ((win0_5.blk t).view.emb (ix3 0 (j 0) (j 1))) := by
  funext j
  have ht : t.val < 32 := t.isLt
  unfold k0_pay9
  unfold_payloads
  rcases (by omega : t.val / 16 = 0 ∨ t.val / 16 = 1) with h | h
  · rw [first _ _ _ (by blk_simp [idx t, h]; rfl), layer t, h, select_first]
    pointwise [slots]
    blk_point [iblk, V, idx t, h]
    all_goals rw [if_pos trivial]
  · rw [second _ _ _ (by blk_simp [idx t, h]; rfl), layer t, h, select_second]
    pointwise [slots]
    blk_point [iblk, V, idx t, h]
    all_goals rw [if_pos trivial]

/-- The gradient: the sum of the devices' parts. -/
theorem grad (c : Dev nD) : (dats m 0 c).arrAt 5 cfg0.N = val_main_v6 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  rw [grad_block]
  unfold_payloads
  pointwise
  blk_point [iblk, V, idx t]

/-- The change of the weight. -/
theorem delta (c : Dev nD) : (dats m 0 c).arrAt 6 cfg0.N = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  rw [grad_block]
  unfold_payloads
  pointwise [val_main_cst_1, val_main_v7, val_main_v8, val_main_cst_2, val_main_v9, val_main_v10, val_main_v11, val_main_cst_3, val_main_v12, val_main_v13,
      val_main_v14, val_main_cst_4, val_main_v15, val_main_v16, val_main_v17, val_main_cst_5, val_main_v18, val_main_v19, val_main_cst_6, val_main_v20,
      val_main_v21, val_main_v22, val_main_cst_7, val_main_v23, val_main_v24, val_main_v25, val_main_cst_8, val_main_v26, val_main_v27, val_main_v28,
      val_main_cst_9, val_main_v29, val_main_v30]
  blk_point [iblk, V, idx t]

/-- The new first moment. -/
theorem new_m (c : Dev nD) : (dats m 0 c).arrAt 7 cfg0.N = val_main_v11 (F := Ideal) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  frame_out
  rw [grad_block]
  unfold_payloads
  pointwise [val_main_cst_1, val_main_v7, val_main_v8, val_main_cst_2, val_main_v9, val_main_v10, val_main_v11, val_main_cst_3, val_main_v12, val_main_v13,
      val_main_v14, val_main_cst_4, val_main_v15, val_main_v16, val_main_v17, val_main_cst_5, val_main_v18, val_main_v19, val_main_cst_6, val_main_v20,
      val_main_v21, val_main_v22, val_main_cst_7, val_main_v23, val_main_v24, val_main_v25, val_main_cst_8, val_main_v26, val_main_v27, val_main_v28,
      val_main_cst_9, val_main_v29, val_main_v30]
  blk_point [iblk, V, idx t]

/-- The new second moment. -/
theorem new_v (c : Dev nD) : (dats m 0 c).arrAt 8 cfg0.N = val_main_v17 (F := Ideal) (m ((c : Thread nD τ).loc main_arg1)) (m ((c : Thread nD τ).loc main_arg2)) (m ((c : Thread nD τ).loc main_arg4)) := by
  refine (dats m 0 c).arrAt_eq_of_covers 8 _ (by decide +kernel) fun t _ y => ?_
  blk_simp
  rw [after0_8]
  frame_out
  rw [grad_block]
  unfold_payloads
  pointwise [val_main_cst_1, val_main_v7, val_main_v8, val_main_cst_2, val_main_v9, val_main_v10, val_main_v11, val_main_cst_3, val_main_v12, val_main_v13,
      val_main_v14, val_main_cst_4, val_main_v15, val_main_v16, val_main_v17, val_main_cst_5, val_main_v18, val_main_v19, val_main_cst_6, val_main_v20,
      val_main_v21, val_main_v22, val_main_cst_7, val_main_v23, val_main_v24, val_main_v25, val_main_cst_8, val_main_v26, val_main_v27, val_main_v28,
      val_main_cst_9, val_main_v29, val_main_v30]
  blk_point [iblk, V, idx t]

/-- The reference runs, keeps its arguments, and declares no semaphore that could end nonzero. -/
theorem frame_reference : Cert.quiescent_OptWInReferenceIdeal (hOptWInReferenceIdeal := Cert.OptWInReferenceIdeal.Gen.facts) :=
  fun m g _ => (θ_run (Cert.OptWInReferenceIdeal.defs (F := Ideal)) _ _).mono
    (fun r h => ⟨fun c => (h c).2.2.2.2, sem_eq_zero_of_no_sems (by decide) r.2⟩)
    (Cert.OptWInReferenceIdeal.Value.run (F := Ideal) m g)

/-- From equal arguments the kernel's results are the reference's. -/
theorem algebraic : Cert.algebraic_OptWInKernelIdeal_OptWInReferenceIdeal (hOptWInKernelIdeal := Cert.OptWInKernelIdeal.Gen.facts)
    (hOptWInReferenceIdeal := Cert.OptWInReferenceIdeal.Gen.facts) := by
  intro m g m' g' _ hargs
  refine ⟨_, _, _, _, Cert.OptWInKernelIdeal.Value.run_blocks (F := Ideal) m g, ?_⟩
  refine (θ_run (Cert.OptWInReferenceIdeal.defs (F := Ideal)) _ _).mono (fun r h c => ?_)
    (Cert.OptWInReferenceIdeal.Value.run (F := Ideal) m' g')
  obtain ⟨h0, h1, h2, h3, hk⟩ := h c
  obtain ⟨e0, e1, e2, e3, e4⟩ := hargs c
  refine ⟨h0.trans ?_, h1.trans ?_, h2.trans ?_, h3.trans ?_, hk⟩
  · rw [e1, e2]; exact (val_main_v6_eq _ _).trans (grad m c).symm
  · rw [e0, e1, e2, e3, e4]; exact (val_main_v30_eq _ _ _ _ _).trans (delta m c).symm
  · rw [e1, e2, e3]; exact (val_main_v11_eq _ _ _).trans (new_m m c).symm
  · rw [e1, e2, e4]; exact (val_main_v17_eq _ _ _).trans (new_v m c).symm

end Cert.OptWIn

end
-- ==== Proof.OptGluW.lean ====
/-
  AdamW's step for 3 of both layers: each layer's gradient is the sum of the devices' parts.
-/
module

public import proofs.«01_k».proof.Defs
public import proofs.«01_k».proof.Proof.Gen.OptGluWKernelIdeal.Frame
public import proofs.«01_k».proof.Proof.Gen.OptGluWKernelIdeal.Value
public import proofs.«01_k».proof.Proof.Gen.OptGluWReferenceIdeal
public import proofs.«01_k».proof.Proof.Gen.OptGluWReferenceIdeal.Run
public import proofs.«01_k».proof.Proof.Gen.OptGluWReferenceIdeal.Read
public import Idealize.ShloMosaic.Lib.Pipeline.ReadBack
public import Idealize.ShloMosaic.Lib.Pipeline.ValueKit
public import Idealize.ShloMosaic.Lib.Pointwise

@[expose] public section

noncomputable section

namespace Cert.OptGluW

open Idealize.ShloMosaic Idealize.ShloMosaic.TcCoe Idealize.SL.Sem
open Cert.OptGluWKernelIdeal Cert.OptGluWKernelIdeal.Gen
open Cert.OptGluWReferenceIdeal.Read

variable (m : (ℓ : Loc nD τ sig) → Buf (Elt Ideal) ℓ)

/-- The blocks the windows read and write at point `t`. -/
theorem idx : ∀ t : Fin cfg0.N, win0_0.index t = ![t.val / 2, t.val % 2, 0]
    ∧ win0_1.index t = ![0, if t.val / 2 = 0 then t.val % 2 else 0, 0] ∧ win0_2.index t = ![0, if t.val / 2 = 1 then t.val % 2 else 0, 0]
    ∧ win0_3.index t = ![t.val / 2, t.val % 2, 0] ∧ win0_4.index t = ![t.val / 2, t.val % 2, 0]
    ∧ win0_5.index t = ![t.val / 2, t.val % 2, 0] ∧ win0_6.index t = ![t.val / 2, t.val % 2, 0]
    ∧ win0_7.index t = ![t.val / 2, t.val % 2, 0] ∧ win0_8.index t = ![t.val / 2, t.val % 2, 0] :=
  (by decide +kernel : ∀ t : Fin grid0.N, _)

/-- The layer a point works on. -/
theorem layer : ∀ t : Fin cfg0.N, (grid0.coords t 0).val = t.val / 2 :=
  (by decide +kernel : ∀ t : Fin grid0.N, _)

/-- The sum of the devices' parts at one place. -/
def slots (x : Cert.OptGluWReferenceIdeal.S8x64x512.Idx → EReal) (i : Cert.OptGluWReferenceIdeal.S64x512.Idx) : EReal :=
  x (ix3 0 (i 0) (i 1)) + x (ix3 1 (i 0) (i 1)) + x (ix3 2 (i 0) (i 1)) + x (ix3 3 (i 0) (i 1))
    + x (ix3 4 (i 0) (i 1)) + x (ix3 5 (i 0) (i 1)) + x (ix3 6 (i 0) (i 1)) + x (ix3 7 (i 0) (i 1))

/-- A layer's gradient in the reference is that sum. -/
theorem sum_slots (x : Cert.OptGluWReferenceIdeal.S8x64x512.Idx → EReal) (i) : val_main_v1 (F := Ideal) x i = slots x i := by
  rw [val_main_v1_apply, Fin.sum_univ_eight]
  pointwise [val_main_v0, val_main_cst, slots]
  blk_point [idx_main_v1]

/-- The first layer's gradient. -/
theorem first (x y : Cert.OptGluWReferenceIdeal.S8x64x512.Idx → EReal) (i : Cert.OptGluWReferenceIdeal.S2x64x512.Idx) (h : (i 0).val = 0) :
    val_main_v6 (F := Ideal) x y i = slots x (ix2 (i 1) (i 2)) := by
  unfold val_main_v6
  refine (concatenate_pair_apply_left (s₁ := Cert.OptGluWReferenceIdeal.S1x64x512) (s₂ := Cert.OptGluWReferenceIdeal.S1x64x512) _ (val_main_v4 (F := Ideal) x) (val_main_v5 (F := Ideal) y) _ i rfl
    (ix3 0 (i 1) (i 2)) (fun b => ?_)).trans ((val_main_v4_apply (F := Ideal) x _).trans (sum_slots x _))
  match b with
  | ⟨0, _⟩ => exact h.symm
  | ⟨1, _⟩ => rfl
  | ⟨2, _⟩ => rfl

/-- The second layer's gradient. -/
theorem second (x y : Cert.OptGluWReferenceIdeal.S8x64x512.Idx → EReal) (i : Cert.OptGluWReferenceIdeal.S2x64x512.Idx) (h : (i 0).val = 1) :
    val_main_v6 (F := Ideal) x y i = slots y (ix2 (i 1) (i 2)) := by
  unfold val_main_v6
  refine (concatenate_pair_apply_right (s₁ := Cert.OptGluWReferenceIdeal.S1x64x512) (s₂ := Cert.OptGluWReferenceIdeal.S1x64x512) _ (val_main_v4 (F := Ideal) x) (val_main_v5 (F := Ideal) y) _ i rfl rfl
    (ix3 0 (i 1) (i 2)) (fun b hb => ?_) ?_).trans ((val_main_v5_apply (F := Ideal) y _).trans (sum_slots y _))
  · match b, hb with
    | ⟨0, _⟩, hb => exact absurd rfl hb
    | ⟨1, _⟩, _ => rfl
    | ⟨2, _⟩, _ => rfl
  · exact h.symm

/-- What the kernel's choice takes in the first layer. -/
theorem select_first {α : Type} (a b : α) : Scalar.select (Scalar.cmpi .eq (BitVec.ofNat 32 0) 1#32) a b = b := rfl

/-- What the kernel's choice takes in the second layer. -/
theorem select_second {α : Type} (a b : α) : Scalar.select (Scalar.cmpi .eq (BitVec.ofNat 32 1) 1#32) a b = a := rfl

/-- The block of the gradient a point computes is the reference's. -/
theorem grad_block (c : Dev nD) (t : Fin cfg0.N) (x0 x3 x4) :
    k0_pay9 (F := Ideal) (grid0.coords t) x0 (iblk m c 1 t) (iblk m c 2 t) x3 x4
      = fun j => val_main_v6 (F := Ideal) (m ((c : Thread nD τ).loc main_arg1)) (m ((c : Thread nD τ).loc main_arg2))
          ((win0_5.blk t).view.emb (ix3 0 (j 0) (j 1))) := by
  funext j
  have ht : t.val < 4 := t.isLt
  unfold k0_pay9
  unfold_payloads
  rcases (by omega : t.val / 2 = 0 ∨ t.val / 2 = 1) with h | h
  · rw [first _ _ _ (by blk_simp [idx t, h]; rfl), layer t, h, select_first]
    pointwise [slots]
    blk_point [iblk, V, idx t, h]
    all_goals rw [if_pos trivial]
  · rw [second _ _ _ (by blk_simp [idx t, h]; rfl), layer t, h, select_second]
    pointwise [slots]
    blk_point [iblk, V, idx t, h]
    all_goals rw [if_pos trivial]

/-- The gradient: the sum of the devices' parts. -/
theorem grad (c : Dev nD) : (dats m 0 c).arrAt 5 cfg0.N = val_main_v6 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  rw [grad_block]
  unfold_payloads
  pointwise
  blk_point [iblk, V, idx t]

/-- The change of the weight. -/
theorem delta (c : Dev nD) : (dats m 0 c).arrAt 6 cfg0.N = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  rw [grad_block]
  unfold_payloads
  pointwise [val_main_cst_1, val_main_v7, val_main_v8, val_main_cst_2, val_main_v9, val_main_v10, val_main_v11, val_main_cst_3, val_main_v12, val_main_v13,
      val_main_v14, val_main_cst_4, val_main_v15, val_main_v16, val_main_v17, val_main_cst_5, val_main_v18, val_main_v19, val_main_cst_6, val_main_v20,
      val_main_v21, val_main_v22, val_main_cst_7, val_main_v23, val_main_v24, val_main_v25, val_main_cst_8, val_main_v26, val_main_v27, val_main_v28,
      val_main_cst_9, val_main_v29, val_main_v30]
  blk_point [iblk, V, idx t]

/-- The new first moment. -/
theorem new_m (c : Dev nD) : (dats m 0 c).arrAt 7 cfg0.N = val_main_v11 (F := Ideal) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  frame_out
  rw [grad_block]
  unfold_payloads
  pointwise [val_main_cst_1, val_main_v7, val_main_v8, val_main_cst_2, val_main_v9, val_main_v10, val_main_v11, val_main_cst_3, val_main_v12, val_main_v13,
      val_main_v14, val_main_cst_4, val_main_v15, val_main_v16, val_main_v17, val_main_cst_5, val_main_v18, val_main_v19, val_main_cst_6, val_main_v20,
      val_main_v21, val_main_v22, val_main_cst_7, val_main_v23, val_main_v24, val_main_v25, val_main_cst_8, val_main_v26, val_main_v27, val_main_v28,
      val_main_cst_9, val_main_v29, val_main_v30]
  blk_point [iblk, V, idx t]

/-- The new second moment. -/
theorem new_v (c : Dev nD) : (dats m 0 c).arrAt 8 cfg0.N = val_main_v17 (F := Ideal) (m ((c : Thread nD τ).loc main_arg1)) (m ((c : Thread nD τ).loc main_arg2)) (m ((c : Thread nD τ).loc main_arg4)) := by
  refine (dats m 0 c).arrAt_eq_of_covers 8 _ (by decide +kernel) fun t _ y => ?_
  blk_simp
  rw [after0_8]
  frame_out
  rw [grad_block]
  unfold_payloads
  pointwise [val_main_cst_1, val_main_v7, val_main_v8, val_main_cst_2, val_main_v9, val_main_v10, val_main_v11, val_main_cst_3, val_main_v12, val_main_v13,
      val_main_v14, val_main_cst_4, val_main_v15, val_main_v16, val_main_v17, val_main_cst_5, val_main_v18, val_main_v19, val_main_cst_6, val_main_v20,
      val_main_v21, val_main_v22, val_main_cst_7, val_main_v23, val_main_v24, val_main_v25, val_main_cst_8, val_main_v26, val_main_v27, val_main_v28,
      val_main_cst_9, val_main_v29, val_main_v30]
  blk_point [iblk, V, idx t]

/-- The reference runs, keeps its arguments, and declares no semaphore that could end nonzero. -/
theorem frame_reference : Cert.quiescent_OptGluWReferenceIdeal (hOptGluWReferenceIdeal := Cert.OptGluWReferenceIdeal.Gen.facts) :=
  fun m g _ => (θ_run (Cert.OptGluWReferenceIdeal.defs (F := Ideal)) _ _).mono
    (fun r h => ⟨fun c => (h c).2.2.2.2, sem_eq_zero_of_no_sems (by decide) r.2⟩)
    (Cert.OptGluWReferenceIdeal.Value.run (F := Ideal) m g)

/-- From equal arguments the kernel's results are the reference's. -/
theorem algebraic : Cert.algebraic_OptGluWKernelIdeal_OptGluWReferenceIdeal (hOptGluWKernelIdeal := Cert.OptGluWKernelIdeal.Gen.facts)
    (hOptGluWReferenceIdeal := Cert.OptGluWReferenceIdeal.Gen.facts) := by
  intro m g m' g' _ hargs
  refine ⟨_, _, _, _, Cert.OptGluWKernelIdeal.Value.run_blocks (F := Ideal) m g, ?_⟩
  refine (θ_run (Cert.OptGluWReferenceIdeal.defs (F := Ideal)) _ _).mono (fun r h c => ?_)
    (Cert.OptGluWReferenceIdeal.Value.run (F := Ideal) m' g')
  obtain ⟨h0, h1, h2, h3, hk⟩ := h c
  obtain ⟨e0, e1, e2, e3, e4⟩ := hargs c
  refine ⟨h0.trans ?_, h1.trans ?_, h2.trans ?_, h3.trans ?_, hk⟩
  · rw [e1, e2]; exact (val_main_v6_eq _ _).trans (grad m c).symm
  · rw [e0, e1, e2, e3, e4]; exact (val_main_v30_eq _ _ _ _ _).trans (delta m c).symm
  · rw [e1, e2, e3]; exact (val_main_v11_eq _ _ _).trans (new_m m c).symm
  · rw [e1, e2, e4]; exact (val_main_v17_eq _ _ _).trans (new_v m c).symm

end Cert.OptGluW

end
-- ==== Proof.OptWOut.lean ====
/-
  AdamW's step for 3 of both layers: each layer's gradient is the sum of the devices' parts.
-/
module

public import proofs.«01_k».proof.Defs
public import proofs.«01_k».proof.Proof.Gen.OptWOutKernelIdeal.Frame
public import proofs.«01_k».proof.Proof.Gen.OptWOutKernelIdeal.Value
public import proofs.«01_k».proof.Proof.Gen.OptWOutReferenceIdeal
public import proofs.«01_k».proof.Proof.Gen.OptWOutReferenceIdeal.Run
public import proofs.«01_k».proof.Proof.Gen.OptWOutReferenceIdeal.Read
public import Idealize.ShloMosaic.Lib.Pipeline.ReadBack
public import Idealize.ShloMosaic.Lib.Pipeline.ValueKit
public import Idealize.ShloMosaic.Lib.Pointwise

@[expose] public section

noncomputable section

namespace Cert.OptWOut

open Idealize.ShloMosaic Idealize.ShloMosaic.TcCoe Idealize.SL.Sem
open Cert.OptWOutKernelIdeal Cert.OptWOutKernelIdeal.Gen
open Cert.OptWOutReferenceIdeal.Read

variable (m : (ℓ : Loc nD τ sig) → Buf (Elt Ideal) ℓ)

/-- The blocks the windows read and write at point `t`. -/
theorem idx : ∀ t : Fin cfg0.N, win0_0.index t = ![t.val / 2, t.val % 2, 0]
    ∧ win0_1.index t = ![0, if t.val / 2 = 0 then t.val % 2 else 0, 0] ∧ win0_2.index t = ![0, if t.val / 2 = 1 then t.val % 2 else 0, 0]
    ∧ win0_3.index t = ![t.val / 2, t.val % 2, 0] ∧ win0_4.index t = ![t.val / 2, t.val % 2, 0]
    ∧ win0_5.index t = ![t.val / 2, t.val % 2, 0] ∧ win0_6.index t = ![t.val / 2, t.val % 2, 0]
    ∧ win0_7.index t = ![t.val / 2, t.val % 2, 0] ∧ win0_8.index t = ![t.val / 2, t.val % 2, 0] :=
  (by decide +kernel : ∀ t : Fin grid0.N, _)

/-- The layer a point works on. -/
theorem layer : ∀ t : Fin cfg0.N, (grid0.coords t 0).val = t.val / 2 :=
  (by decide +kernel : ∀ t : Fin grid0.N, _)

/-- The sum of the devices' parts at one place. -/
def slots (x : Cert.OptWOutReferenceIdeal.S8x128x1024.Idx → EReal) (i : Cert.OptWOutReferenceIdeal.S128x1024.Idx) : EReal :=
  x (ix3 0 (i 0) (i 1)) + x (ix3 1 (i 0) (i 1)) + x (ix3 2 (i 0) (i 1)) + x (ix3 3 (i 0) (i 1))
    + x (ix3 4 (i 0) (i 1)) + x (ix3 5 (i 0) (i 1)) + x (ix3 6 (i 0) (i 1)) + x (ix3 7 (i 0) (i 1))

/-- A layer's gradient in the reference is that sum. -/
theorem sum_slots (x : Cert.OptWOutReferenceIdeal.S8x128x1024.Idx → EReal) (i) : val_main_v1 (F := Ideal) x i = slots x i := by
  rw [val_main_v1_apply, Fin.sum_univ_eight]
  pointwise [val_main_v0, val_main_cst, slots]
  blk_point [idx_main_v1]

/-- The first layer's gradient. -/
theorem first (x y : Cert.OptWOutReferenceIdeal.S8x128x1024.Idx → EReal) (i : Cert.OptWOutReferenceIdeal.S2x128x1024.Idx) (h : (i 0).val = 0) :
    val_main_v6 (F := Ideal) x y i = slots x (ix2 (i 1) (i 2)) := by
  unfold val_main_v6
  refine (concatenate_pair_apply_left (s₁ := Cert.OptWOutReferenceIdeal.S1x128x1024) (s₂ := Cert.OptWOutReferenceIdeal.S1x128x1024) _ (val_main_v4 (F := Ideal) x) (val_main_v5 (F := Ideal) y) _ i rfl
    (ix3 0 (i 1) (i 2)) (fun b => ?_)).trans ((val_main_v4_apply (F := Ideal) x _).trans (sum_slots x _))
  match b with
  | ⟨0, _⟩ => exact h.symm
  | ⟨1, _⟩ => rfl
  | ⟨2, _⟩ => rfl

/-- The second layer's gradient. -/
theorem second (x y : Cert.OptWOutReferenceIdeal.S8x128x1024.Idx → EReal) (i : Cert.OptWOutReferenceIdeal.S2x128x1024.Idx) (h : (i 0).val = 1) :
    val_main_v6 (F := Ideal) x y i = slots y (ix2 (i 1) (i 2)) := by
  unfold val_main_v6
  refine (concatenate_pair_apply_right (s₁ := Cert.OptWOutReferenceIdeal.S1x128x1024) (s₂ := Cert.OptWOutReferenceIdeal.S1x128x1024) _ (val_main_v4 (F := Ideal) x) (val_main_v5 (F := Ideal) y) _ i rfl rfl
    (ix3 0 (i 1) (i 2)) (fun b hb => ?_) ?_).trans ((val_main_v5_apply (F := Ideal) y _).trans (sum_slots y _))
  · match b, hb with
    | ⟨0, _⟩, hb => exact absurd rfl hb
    | ⟨1, _⟩, _ => rfl
    | ⟨2, _⟩, _ => rfl
  · exact h.symm

/-- What the kernel's choice takes in the first layer. -/
theorem select_first {α : Type} (a b : α) : Scalar.select (Scalar.cmpi .eq (BitVec.ofNat 32 0) 1#32) a b = b := rfl

/-- What the kernel's choice takes in the second layer. -/
theorem select_second {α : Type} (a b : α) : Scalar.select (Scalar.cmpi .eq (BitVec.ofNat 32 1) 1#32) a b = a := rfl

/-- The block of the gradient a point computes is the reference's. -/
theorem grad_block (c : Dev nD) (t : Fin cfg0.N) (x0 x3 x4) :
    k0_pay9 (F := Ideal) (grid0.coords t) x0 (iblk m c 1 t) (iblk m c 2 t) x3 x4
      = fun j => val_main_v6 (F := Ideal) (m ((c : Thread nD τ).loc main_arg1)) (m ((c : Thread nD τ).loc main_arg2))
          ((win0_5.blk t).view.emb (ix3 0 (j 0) (j 1))) := by
  funext j
  have ht : t.val < 4 := t.isLt
  unfold k0_pay9
  unfold_payloads
  rcases (by omega : t.val / 2 = 0 ∨ t.val / 2 = 1) with h | h
  · rw [first _ _ _ (by blk_simp [idx t, h]; rfl), layer t, h, select_first]
    pointwise [slots]
    blk_point [iblk, V, idx t, h]
    all_goals rw [if_pos trivial]
  · rw [second _ _ _ (by blk_simp [idx t, h]; rfl), layer t, h, select_second]
    pointwise [slots]
    blk_point [iblk, V, idx t, h]
    all_goals rw [if_pos trivial]

/-- The gradient: the sum of the devices' parts. -/
theorem grad (c : Dev nD) : (dats m 0 c).arrAt 5 cfg0.N = val_main_v6 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  rw [grad_block]
  unfold_payloads
  pointwise
  blk_point [iblk, V, idx t]

/-- The change of the weight. -/
theorem delta (c : Dev nD) : (dats m 0 c).arrAt 6 cfg0.N = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  rw [grad_block]
  unfold_payloads
  pointwise [val_main_cst_1, val_main_v7, val_main_v8, val_main_cst_2, val_main_v9, val_main_v10, val_main_v11, val_main_cst_3, val_main_v12, val_main_v13,
      val_main_v14, val_main_cst_4, val_main_v15, val_main_v16, val_main_v17, val_main_cst_5, val_main_v18, val_main_v19, val_main_cst_6, val_main_v20,
      val_main_v21, val_main_v22, val_main_cst_7, val_main_v23, val_main_v24, val_main_v25, val_main_cst_8, val_main_v26, val_main_v27, val_main_v28,
      val_main_cst_9, val_main_v29, val_main_v30]
  blk_point [iblk, V, idx t]

/-- The new first moment. -/
theorem new_m (c : Dev nD) : (dats m 0 c).arrAt 7 cfg0.N = val_main_v11 (F := Ideal) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  frame_out
  rw [grad_block]
  unfold_payloads
  pointwise [val_main_cst_1, val_main_v7, val_main_v8, val_main_cst_2, val_main_v9, val_main_v10, val_main_v11, val_main_cst_3, val_main_v12, val_main_v13,
      val_main_v14, val_main_cst_4, val_main_v15, val_main_v16, val_main_v17, val_main_cst_5, val_main_v18, val_main_v19, val_main_cst_6, val_main_v20,
      val_main_v21, val_main_v22, val_main_cst_7, val_main_v23, val_main_v24, val_main_v25, val_main_cst_8, val_main_v26, val_main_v27, val_main_v28,
      val_main_cst_9, val_main_v29, val_main_v30]
  blk_point [iblk, V, idx t]

/-- The new second moment. -/
theorem new_v (c : Dev nD) : (dats m 0 c).arrAt 8 cfg0.N = val_main_v17 (F := Ideal) (m ((c : Thread nD τ).loc main_arg1)) (m ((c : Thread nD τ).loc main_arg2)) (m ((c : Thread nD τ).loc main_arg4)) := by
  refine (dats m 0 c).arrAt_eq_of_covers 8 _ (by decide +kernel) fun t _ y => ?_
  blk_simp
  rw [after0_8]
  frame_out
  rw [grad_block]
  unfold_payloads
  pointwise [val_main_cst_1, val_main_v7, val_main_v8, val_main_cst_2, val_main_v9, val_main_v10, val_main_v11, val_main_cst_3, val_main_v12, val_main_v13,
      val_main_v14, val_main_cst_4, val_main_v15, val_main_v16, val_main_v17, val_main_cst_5, val_main_v18, val_main_v19, val_main_cst_6, val_main_v20,
      val_main_v21, val_main_v22, val_main_cst_7, val_main_v23, val_main_v24, val_main_v25, val_main_cst_8, val_main_v26, val_main_v27, val_main_v28,
      val_main_cst_9, val_main_v29, val_main_v30]
  blk_point [iblk, V, idx t]

/-- The reference runs, keeps its arguments, and declares no semaphore that could end nonzero. -/
theorem frame_reference : Cert.quiescent_OptWOutReferenceIdeal (hOptWOutReferenceIdeal := Cert.OptWOutReferenceIdeal.Gen.facts) :=
  fun m g _ => (θ_run (Cert.OptWOutReferenceIdeal.defs (F := Ideal)) _ _).mono
    (fun r h => ⟨fun c => (h c).2.2.2.2, sem_eq_zero_of_no_sems (by decide) r.2⟩)
    (Cert.OptWOutReferenceIdeal.Value.run (F := Ideal) m g)

/-- From equal arguments the kernel's results are the reference's. -/
theorem algebraic : Cert.algebraic_OptWOutKernelIdeal_OptWOutReferenceIdeal (hOptWOutKernelIdeal := Cert.OptWOutKernelIdeal.Gen.facts)
    (hOptWOutReferenceIdeal := Cert.OptWOutReferenceIdeal.Gen.facts) := by
  intro m g m' g' _ hargs
  refine ⟨_, _, _, _, Cert.OptWOutKernelIdeal.Value.run_blocks (F := Ideal) m g, ?_⟩
  refine (θ_run (Cert.OptWOutReferenceIdeal.defs (F := Ideal)) _ _).mono (fun r h c => ?_)
    (Cert.OptWOutReferenceIdeal.Value.run (F := Ideal) m' g')
  obtain ⟨h0, h1, h2, h3, hk⟩ := h c
  obtain ⟨e0, e1, e2, e3, e4⟩ := hargs c
  refine ⟨h0.trans ?_, h1.trans ?_, h2.trans ?_, h3.trans ?_, hk⟩
  · rw [e1, e2]; exact (val_main_v6_eq _ _).trans (grad m c).symm
  · rw [e0, e1, e2, e3, e4]; exact (val_main_v30_eq _ _ _ _ _).trans (delta m c).symm
  · rw [e1, e2, e3]; exact (val_main_v11_eq _ _ _).trans (new_m m c).symm
  · rw [e1, e2, e4]; exact (val_main_v17_eq _ _ _).trans (new_v m c).symm

end Cert.OptWOut

end
-- ==== Proof.OptProjA.lean ====
/-
  AdamW's step for 3 of both layers: each layer's gradient is the sum of the devices' parts.
-/
module

public import proofs.«01_k».proof.Defs
public import proofs.«01_k».proof.Proof.Gen.OptProjAKernelIdeal.Frame
public import proofs.«01_k».proof.Proof.Gen.OptProjAKernelIdeal.Value
public import proofs.«01_k».proof.Proof.Gen.OptProjAReferenceIdeal
public import proofs.«01_k».proof.Proof.Gen.OptProjAReferenceIdeal.Run
public import proofs.«01_k».proof.Proof.Gen.OptProjAReferenceIdeal.Read
public import Idealize.ShloMosaic.Lib.Pipeline.ReadBack
public import Idealize.ShloMosaic.Lib.Pipeline.ValueKit
public import Idealize.ShloMosaic.Lib.Pointwise

@[expose] public section

noncomputable section

namespace Cert.OptProjA

open Idealize.ShloMosaic Idealize.ShloMosaic.TcCoe Idealize.SL.Sem
open Cert.OptProjAKernelIdeal Cert.OptProjAKernelIdeal.Gen
open Cert.OptProjAReferenceIdeal.Read

variable (m : (ℓ : Loc nD τ sig) → Buf (Elt Ideal) ℓ)

/-- The blocks the windows read and write at point `t`. -/
theorem idx : ∀ t : Fin cfg0.N, win0_0.index t = ![t.val / 2, t.val % 2, 0]
    ∧ win0_1.index t = ![0, if t.val / 2 = 0 then t.val % 2 else 0, 0] ∧ win0_2.index t = ![0, if t.val / 2 = 1 then t.val % 2 else 0, 0]
    ∧ win0_3.index t = ![t.val / 2, t.val % 2, 0] ∧ win0_4.index t = ![t.val / 2, t.val % 2, 0]
    ∧ win0_5.index t = ![t.val / 2, t.val % 2, 0] ∧ win0_6.index t = ![t.val / 2, t.val % 2, 0]
    ∧ win0_7.index t = ![t.val / 2, t.val % 2, 0] ∧ win0_8.index t = ![t.val / 2, t.val % 2, 0] :=
  (by decide +kernel : ∀ t : Fin grid0.N, _)

/-- The layer a point works on. -/
theorem layer : ∀ t : Fin cfg0.N, (grid0.coords t 0).val = t.val / 2 :=
  (by decide +kernel : ∀ t : Fin grid0.N, _)

/-- The sum of the devices' parts at one place. -/
def slots (x : Cert.OptProjAReferenceIdeal.S8x512x128.Idx → EReal) (i : Cert.OptProjAReferenceIdeal.S512x128.Idx) : EReal :=
  x (ix3 0 (i 0) (i 1)) + x (ix3 1 (i 0) (i 1)) + x (ix3 2 (i 0) (i 1)) + x (ix3 3 (i 0) (i 1))
    + x (ix3 4 (i 0) (i 1)) + x (ix3 5 (i 0) (i 1)) + x (ix3 6 (i 0) (i 1)) + x (ix3 7 (i 0) (i 1))

/-- A layer's gradient in the reference is that sum. -/
theorem sum_slots (x : Cert.OptProjAReferenceIdeal.S8x512x128.Idx → EReal) (i) : val_main_v1 (F := Ideal) x i = slots x i := by
  rw [val_main_v1_apply, Fin.sum_univ_eight]
  pointwise [val_main_v0, val_main_cst, slots]
  blk_point [idx_main_v1]

/-- The first layer's gradient. -/
theorem first (x y : Cert.OptProjAReferenceIdeal.S8x512x128.Idx → EReal) (i : Cert.OptProjAReferenceIdeal.S2x512x128.Idx) (h : (i 0).val = 0) :
    val_main_v6 (F := Ideal) x y i = slots x (ix2 (i 1) (i 2)) := by
  unfold val_main_v6
  refine (concatenate_pair_apply_left (s₁ := Cert.OptProjAReferenceIdeal.S1x512x128) (s₂ := Cert.OptProjAReferenceIdeal.S1x512x128) _ (val_main_v4 (F := Ideal) x) (val_main_v5 (F := Ideal) y) _ i rfl
    (ix3 0 (i 1) (i 2)) (fun b => ?_)).trans ((val_main_v4_apply (F := Ideal) x _).trans (sum_slots x _))
  match b with
  | ⟨0, _⟩ => exact h.symm
  | ⟨1, _⟩ => rfl
  | ⟨2, _⟩ => rfl

/-- The second layer's gradient. -/
theorem second (x y : Cert.OptProjAReferenceIdeal.S8x512x128.Idx → EReal) (i : Cert.OptProjAReferenceIdeal.S2x512x128.Idx) (h : (i 0).val = 1) :
    val_main_v6 (F := Ideal) x y i = slots y (ix2 (i 1) (i 2)) := by
  unfold val_main_v6
  refine (concatenate_pair_apply_right (s₁ := Cert.OptProjAReferenceIdeal.S1x512x128) (s₂ := Cert.OptProjAReferenceIdeal.S1x512x128) _ (val_main_v4 (F := Ideal) x) (val_main_v5 (F := Ideal) y) _ i rfl rfl
    (ix3 0 (i 1) (i 2)) (fun b hb => ?_) ?_).trans ((val_main_v5_apply (F := Ideal) y _).trans (sum_slots y _))
  · match b, hb with
    | ⟨0, _⟩, hb => exact absurd rfl hb
    | ⟨1, _⟩, _ => rfl
    | ⟨2, _⟩, _ => rfl
  · exact h.symm

/-- What the kernel's choice takes in the first layer. -/
theorem select_first {α : Type} (a b : α) : Scalar.select (Scalar.cmpi .eq (BitVec.ofNat 32 0) 1#32) a b = b := rfl

/-- What the kernel's choice takes in the second layer. -/
theorem select_second {α : Type} (a b : α) : Scalar.select (Scalar.cmpi .eq (BitVec.ofNat 32 1) 1#32) a b = a := rfl

/-- The block of the gradient a point computes is the reference's. -/
theorem grad_block (c : Dev nD) (t : Fin cfg0.N) (x0 x3 x4) :
    k0_pay9 (F := Ideal) (grid0.coords t) x0 (iblk m c 1 t) (iblk m c 2 t) x3 x4
      = fun j => val_main_v6 (F := Ideal) (m ((c : Thread nD τ).loc main_arg1)) (m ((c : Thread nD τ).loc main_arg2))
          ((win0_5.blk t).view.emb (ix3 0 (j 0) (j 1))) := by
  funext j
  have ht : t.val < 4 := t.isLt
  unfold k0_pay9
  unfold_payloads
  rcases (by omega : t.val / 2 = 0 ∨ t.val / 2 = 1) with h | h
  · rw [first _ _ _ (by blk_simp [idx t, h]; rfl), layer t, h, select_first]
    pointwise [slots]
    blk_point [iblk, V, idx t, h]
    all_goals rw [if_pos trivial]
  · rw [second _ _ _ (by blk_simp [idx t, h]; rfl), layer t, h, select_second]
    pointwise [slots]
    blk_point [iblk, V, idx t, h]
    all_goals rw [if_pos trivial]

/-- The gradient: the sum of the devices' parts. -/
theorem grad (c : Dev nD) : (dats m 0 c).arrAt 5 cfg0.N = val_main_v6 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  rw [grad_block]
  unfold_payloads
  pointwise
  blk_point [iblk, V, idx t]

/-- The change of the weight. -/
theorem delta (c : Dev nD) : (dats m 0 c).arrAt 6 cfg0.N = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  rw [grad_block]
  unfold_payloads
  pointwise [val_main_cst_1, val_main_v7, val_main_v8, val_main_cst_2, val_main_v9, val_main_v10, val_main_v11, val_main_cst_3, val_main_v12, val_main_v13,
      val_main_v14, val_main_cst_4, val_main_v15, val_main_v16, val_main_v17, val_main_cst_5, val_main_v18, val_main_v19, val_main_cst_6, val_main_v20,
      val_main_v21, val_main_v22, val_main_cst_7, val_main_v23, val_main_v24, val_main_v25, val_main_cst_8, val_main_v26, val_main_v27, val_main_v28,
      val_main_cst_9, val_main_v29, val_main_v30]
  blk_point [iblk, V, idx t]

/-- The new first moment. -/
theorem new_m (c : Dev nD) : (dats m 0 c).arrAt 7 cfg0.N = val_main_v11 (F := Ideal) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  frame_out
  rw [grad_block]
  unfold_payloads
  pointwise [val_main_cst_1, val_main_v7, val_main_v8, val_main_cst_2, val_main_v9, val_main_v10, val_main_v11, val_main_cst_3, val_main_v12, val_main_v13,
      val_main_v14, val_main_cst_4, val_main_v15, val_main_v16, val_main_v17, val_main_cst_5, val_main_v18, val_main_v19, val_main_cst_6, val_main_v20,
      val_main_v21, val_main_v22, val_main_cst_7, val_main_v23, val_main_v24, val_main_v25, val_main_cst_8, val_main_v26, val_main_v27, val_main_v28,
      val_main_cst_9, val_main_v29, val_main_v30]
  blk_point [iblk, V, idx t]

/-- The new second moment. -/
theorem new_v (c : Dev nD) : (dats m 0 c).arrAt 8 cfg0.N = val_main_v17 (F := Ideal) (m ((c : Thread nD τ).loc main_arg1)) (m ((c : Thread nD τ).loc main_arg2)) (m ((c : Thread nD τ).loc main_arg4)) := by
  refine (dats m 0 c).arrAt_eq_of_covers 8 _ (by decide +kernel) fun t _ y => ?_
  blk_simp
  rw [after0_8]
  frame_out
  rw [grad_block]
  unfold_payloads
  pointwise [val_main_cst_1, val_main_v7, val_main_v8, val_main_cst_2, val_main_v9, val_main_v10, val_main_v11, val_main_cst_3, val_main_v12, val_main_v13,
      val_main_v14, val_main_cst_4, val_main_v15, val_main_v16, val_main_v17, val_main_cst_5, val_main_v18, val_main_v19, val_main_cst_6, val_main_v20,
      val_main_v21, val_main_v22, val_main_cst_7, val_main_v23, val_main_v24, val_main_v25, val_main_cst_8, val_main_v26, val_main_v27, val_main_v28,
      val_main_cst_9, val_main_v29, val_main_v30]
  blk_point [iblk, V, idx t]

/-- The reference runs, keeps its arguments, and declares no semaphore that could end nonzero. -/
theorem frame_reference : Cert.quiescent_OptProjAReferenceIdeal (hOptProjAReferenceIdeal := Cert.OptProjAReferenceIdeal.Gen.facts) :=
  fun m g _ => (θ_run (Cert.OptProjAReferenceIdeal.defs (F := Ideal)) _ _).mono
    (fun r h => ⟨fun c => (h c).2.2.2.2, sem_eq_zero_of_no_sems (by decide) r.2⟩)
    (Cert.OptProjAReferenceIdeal.Value.run (F := Ideal) m g)

/-- From equal arguments the kernel's results are the reference's. -/
theorem algebraic : Cert.algebraic_OptProjAKernelIdeal_OptProjAReferenceIdeal (hOptProjAKernelIdeal := Cert.OptProjAKernelIdeal.Gen.facts)
    (hOptProjAReferenceIdeal := Cert.OptProjAReferenceIdeal.Gen.facts) := by
  intro m g m' g' _ hargs
  refine ⟨_, _, _, _, Cert.OptProjAKernelIdeal.Value.run_blocks (F := Ideal) m g, ?_⟩
  refine (θ_run (Cert.OptProjAReferenceIdeal.defs (F := Ideal)) _ _).mono (fun r h c => ?_)
    (Cert.OptProjAReferenceIdeal.Value.run (F := Ideal) m' g')
  obtain ⟨h0, h1, h2, h3, hk⟩ := h c
  obtain ⟨e0, e1, e2, e3, e4⟩ := hargs c
  refine ⟨h0.trans ?_, h1.trans ?_, h2.trans ?_, h3.trans ?_, hk⟩
  · rw [e1, e2]; exact (val_main_v6_eq _ _).trans (grad m c).symm
  · rw [e0, e1, e2, e3, e4]; exact (val_main_v30_eq _ _ _ _ _).trans (delta m c).symm
  · rw [e1, e2, e3]; exact (val_main_v11_eq _ _ _).trans (new_m m c).symm
  · rw [e1, e2, e4]; exact (val_main_v17_eq _ _ _).trans (new_v m c).symm

end Cert.OptProjA

end
-- ==== Proof.OptProjB.lean ====
/-
  AdamW's step for 3 of both layers: each layer's gradient is the sum of the devices' parts.
-/
module

public import proofs.«01_k».proof.Defs
public import proofs.«01_k».proof.Proof.Gen.OptProjBKernelIdeal.Frame
public import proofs.«01_k».proof.Proof.Gen.OptProjBKernelIdeal.Value
public import proofs.«01_k».proof.Proof.Gen.OptProjBReferenceIdeal
public import proofs.«01_k».proof.Proof.Gen.OptProjBReferenceIdeal.Run
public import proofs.«01_k».proof.Proof.Gen.OptProjBReferenceIdeal.Read
public import Idealize.ShloMosaic.Lib.Pipeline.ReadBack
public import Idealize.ShloMosaic.Lib.Pipeline.ValueKit
public import Idealize.ShloMosaic.Lib.Pointwise

@[expose] public section

noncomputable section

namespace Cert.OptProjB

open Idealize.ShloMosaic Idealize.ShloMosaic.TcCoe Idealize.SL.Sem
open Cert.OptProjBKernelIdeal Cert.OptProjBKernelIdeal.Gen
open Cert.OptProjBReferenceIdeal.Read

variable (m : (ℓ : Loc nD τ sig) → Buf (Elt Ideal) ℓ)

/-- The blocks the windows read and write at point `t`. -/
theorem idx : ∀ t : Fin cfg0.N, win0_0.index t = ![t.val / 2, t.val % 2, 0]
    ∧ win0_1.index t = ![0, if t.val / 2 = 0 then t.val % 2 else 0, 0] ∧ win0_2.index t = ![0, if t.val / 2 = 1 then t.val % 2 else 0, 0]
    ∧ win0_3.index t = ![t.val / 2, t.val % 2, 0] ∧ win0_4.index t = ![t.val / 2, t.val % 2, 0]
    ∧ win0_5.index t = ![t.val / 2, t.val % 2, 0] ∧ win0_6.index t = ![t.val / 2, t.val % 2, 0]
    ∧ win0_7.index t = ![t.val / 2, t.val % 2, 0] ∧ win0_8.index t = ![t.val / 2, t.val % 2, 0] :=
  (by decide +kernel : ∀ t : Fin grid0.N, _)

/-- The layer a point works on. -/
theorem layer : ∀ t : Fin cfg0.N, (grid0.coords t 0).val = t.val / 2 :=
  (by decide +kernel : ∀ t : Fin grid0.N, _)

/-- The sum of the devices' parts at one place. -/
def slots (x : Cert.OptProjBReferenceIdeal.S8x256x128.Idx → EReal) (i : Cert.OptProjBReferenceIdeal.S256x128.Idx) : EReal :=
  x (ix3 0 (i 0) (i 1)) + x (ix3 1 (i 0) (i 1)) + x (ix3 2 (i 0) (i 1)) + x (ix3 3 (i 0) (i 1))
    + x (ix3 4 (i 0) (i 1)) + x (ix3 5 (i 0) (i 1)) + x (ix3 6 (i 0) (i 1)) + x (ix3 7 (i 0) (i 1))

/-- A layer's gradient in the reference is that sum. -/
theorem sum_slots (x : Cert.OptProjBReferenceIdeal.S8x256x128.Idx → EReal) (i) : val_main_v1 (F := Ideal) x i = slots x i := by
  rw [val_main_v1_apply, Fin.sum_univ_eight]
  pointwise [val_main_v0, val_main_cst, slots]
  blk_point [idx_main_v1]

/-- The first layer's gradient. -/
theorem first (x y : Cert.OptProjBReferenceIdeal.S8x256x128.Idx → EReal) (i : Cert.OptProjBReferenceIdeal.S2x256x128.Idx) (h : (i 0).val = 0) :
    val_main_v6 (F := Ideal) x y i = slots x (ix2 (i 1) (i 2)) := by
  unfold val_main_v6
  refine (concatenate_pair_apply_left (s₁ := Cert.OptProjBReferenceIdeal.S1x256x128) (s₂ := Cert.OptProjBReferenceIdeal.S1x256x128) _ (val_main_v4 (F := Ideal) x) (val_main_v5 (F := Ideal) y) _ i rfl
    (ix3 0 (i 1) (i 2)) (fun b => ?_)).trans ((val_main_v4_apply (F := Ideal) x _).trans (sum_slots x _))
  match b with
  | ⟨0, _⟩ => exact h.symm
  | ⟨1, _⟩ => rfl
  | ⟨2, _⟩ => rfl

/-- The second layer's gradient. -/
theorem second (x y : Cert.OptProjBReferenceIdeal.S8x256x128.Idx → EReal) (i : Cert.OptProjBReferenceIdeal.S2x256x128.Idx) (h : (i 0).val = 1) :
    val_main_v6 (F := Ideal) x y i = slots y (ix2 (i 1) (i 2)) := by
  unfold val_main_v6
  refine (concatenate_pair_apply_right (s₁ := Cert.OptProjBReferenceIdeal.S1x256x128) (s₂ := Cert.OptProjBReferenceIdeal.S1x256x128) _ (val_main_v4 (F := Ideal) x) (val_main_v5 (F := Ideal) y) _ i rfl rfl
    (ix3 0 (i 1) (i 2)) (fun b hb => ?_) ?_).trans ((val_main_v5_apply (F := Ideal) y _).trans (sum_slots y _))
  · match b, hb with
    | ⟨0, _⟩, hb => exact absurd rfl hb
    | ⟨1, _⟩, _ => rfl
    | ⟨2, _⟩, _ => rfl
  · exact h.symm

/-- What the kernel's choice takes in the first layer. -/
theorem select_first {α : Type} (a b : α) : Scalar.select (Scalar.cmpi .eq (BitVec.ofNat 32 0) 1#32) a b = b := rfl

/-- What the kernel's choice takes in the second layer. -/
theorem select_second {α : Type} (a b : α) : Scalar.select (Scalar.cmpi .eq (BitVec.ofNat 32 1) 1#32) a b = a := rfl

/-- The block of the gradient a point computes is the reference's. -/
theorem grad_block (c : Dev nD) (t : Fin cfg0.N) (x0 x3 x4) :
    k0_pay9 (F := Ideal) (grid0.coords t) x0 (iblk m c 1 t) (iblk m c 2 t) x3 x4
      = fun j => val_main_v6 (F := Ideal) (m ((c : Thread nD τ).loc main_arg1)) (m ((c : Thread nD τ).loc main_arg2))
          ((win0_5.blk t).view.emb (ix3 0 (j 0) (j 1))) := by
  funext j
  have ht : t.val < 4 := t.isLt
  unfold k0_pay9
  unfold_payloads
  rcases (by omega : t.val / 2 = 0 ∨ t.val / 2 = 1) with h | h
  · rw [first _ _ _ (by blk_simp [idx t, h]; rfl), layer t, h, select_first]
    pointwise [slots]
    blk_point [iblk, V, idx t, h]
    all_goals rw [if_pos trivial]
  · rw [second _ _ _ (by blk_simp [idx t, h]; rfl), layer t, h, select_second]
    pointwise [slots]
    blk_point [iblk, V, idx t, h]
    all_goals rw [if_pos trivial]

/-- The gradient: the sum of the devices' parts. -/
theorem grad (c : Dev nD) : (dats m 0 c).arrAt 5 cfg0.N = val_main_v6 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  rw [grad_block]
  unfold_payloads
  pointwise
  blk_point [iblk, V, idx t]

/-- The change of the weight. -/
theorem delta (c : Dev nD) : (dats m 0 c).arrAt 6 cfg0.N = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  rw [grad_block]
  unfold_payloads
  pointwise [val_main_cst_1, val_main_v7, val_main_v8, val_main_cst_2, val_main_v9, val_main_v10, val_main_v11, val_main_cst_3, val_main_v12, val_main_v13,
      val_main_v14, val_main_cst_4, val_main_v15, val_main_v16, val_main_v17, val_main_cst_5, val_main_v18, val_main_v19, val_main_cst_6, val_main_v20,
      val_main_v21, val_main_v22, val_main_cst_7, val_main_v23, val_main_v24, val_main_v25, val_main_cst_8, val_main_v26, val_main_v27, val_main_v28,
      val_main_cst_9, val_main_v29, val_main_v30]
  blk_point [iblk, V, idx t]

/-- The new first moment. -/
theorem new_m (c : Dev nD) : (dats m 0 c).arrAt 7 cfg0.N = val_main_v11 (F := Ideal) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  frame_out
  rw [grad_block]
  unfold_payloads
  pointwise [val_main_cst_1, val_main_v7, val_main_v8, val_main_cst_2, val_main_v9, val_main_v10, val_main_v11, val_main_cst_3, val_main_v12, val_main_v13,
      val_main_v14, val_main_cst_4, val_main_v15, val_main_v16, val_main_v17, val_main_cst_5, val_main_v18, val_main_v19, val_main_cst_6, val_main_v20,
      val_main_v21, val_main_v22, val_main_cst_7, val_main_v23, val_main_v24, val_main_v25, val_main_cst_8, val_main_v26, val_main_v27, val_main_v28,
      val_main_cst_9, val_main_v29, val_main_v30]
  blk_point [iblk, V, idx t]

/-- The new second moment. -/
theorem new_v (c : Dev nD) : (dats m 0 c).arrAt 8 cfg0.N = val_main_v17 (F := Ideal) (m ((c : Thread nD τ).loc main_arg1)) (m ((c : Thread nD τ).loc main_arg2)) (m ((c : Thread nD τ).loc main_arg4)) := by
  refine (dats m 0 c).arrAt_eq_of_covers 8 _ (by decide +kernel) fun t _ y => ?_
  blk_simp
  rw [after0_8]
  frame_out
  rw [grad_block]
  unfold_payloads
  pointwise [val_main_cst_1, val_main_v7, val_main_v8, val_main_cst_2, val_main_v9, val_main_v10, val_main_v11, val_main_cst_3, val_main_v12, val_main_v13,
      val_main_v14, val_main_cst_4, val_main_v15, val_main_v16, val_main_v17, val_main_cst_5, val_main_v18, val_main_v19, val_main_cst_6, val_main_v20,
      val_main_v21, val_main_v22, val_main_cst_7, val_main_v23, val_main_v24, val_main_v25, val_main_cst_8, val_main_v26, val_main_v27, val_main_v28,
      val_main_cst_9, val_main_v29, val_main_v30]
  blk_point [iblk, V, idx t]

/-- The reference runs, keeps its arguments, and declares no semaphore that could end nonzero. -/
theorem frame_reference : Cert.quiescent_OptProjBReferenceIdeal (hOptProjBReferenceIdeal := Cert.OptProjBReferenceIdeal.Gen.facts) :=
  fun m g _ => (θ_run (Cert.OptProjBReferenceIdeal.defs (F := Ideal)) _ _).mono
    (fun r h => ⟨fun c => (h c).2.2.2.2, sem_eq_zero_of_no_sems (by decide) r.2⟩)
    (Cert.OptProjBReferenceIdeal.Value.run (F := Ideal) m g)

/-- From equal arguments the kernel's results are the reference's. -/
theorem algebraic : Cert.algebraic_OptProjBKernelIdeal_OptProjBReferenceIdeal (hOptProjBKernelIdeal := Cert.OptProjBKernelIdeal.Gen.facts)
    (hOptProjBReferenceIdeal := Cert.OptProjBReferenceIdeal.Gen.facts) := by
  intro m g m' g' _ hargs
  refine ⟨_, _, _, _, Cert.OptProjBKernelIdeal.Value.run_blocks (F := Ideal) m g, ?_⟩
  refine (θ_run (Cert.OptProjBReferenceIdeal.defs (F := Ideal)) _ _).mono (fun r h c => ?_)
    (Cert.OptProjBReferenceIdeal.Value.run (F := Ideal) m' g')
  obtain ⟨h0, h1, h2, h3, hk⟩ := h c
  obtain ⟨e0, e1, e2, e3, e4⟩ := hargs c
  refine ⟨h0.trans ?_, h1.trans ?_, h2.trans ?_, h3.trans ?_, hk⟩
  · rw [e1, e2]; exact (val_main_v6_eq _ _).trans (grad m c).symm
  · rw [e0, e1, e2, e3, e4]; exact (val_main_v30_eq _ _ _ _ _).trans (delta m c).symm
  · rw [e1, e2, e3]; exact (val_main_v11_eq _ _ _).trans (new_m m c).symm
  · rw [e1, e2, e4]; exact (val_main_v17_eq _ _ _).trans (new_v m c).symm

end Cert.OptProjB

end
-- ==== Proof.OptProjC.lean ====
/-
  AdamW's step for 3 of both layers: each layer's gradient is the sum of the devices' parts.
-/
module

public import proofs.«01_k».proof.Defs
public import proofs.«01_k».proof.Proof.Gen.OptProjCKernelIdeal.Frame
public import proofs.«01_k».proof.Proof.Gen.OptProjCKernelIdeal.Value
public import proofs.«01_k».proof.Proof.Gen.OptProjCReferenceIdeal
public import proofs.«01_k».proof.Proof.Gen.OptProjCReferenceIdeal.Run
public import proofs.«01_k».proof.Proof.Gen.OptProjCReferenceIdeal.Read
public import Idealize.ShloMosaic.Lib.Pipeline.ReadBack
public import Idealize.ShloMosaic.Lib.Pipeline.ValueKit
public import Idealize.ShloMosaic.Lib.Pointwise

@[expose] public section

noncomputable section

namespace Cert.OptProjC

open Idealize.ShloMosaic Idealize.ShloMosaic.TcCoe Idealize.SL.Sem
open Cert.OptProjCKernelIdeal Cert.OptProjCKernelIdeal.Gen
open Cert.OptProjCReferenceIdeal.Read

variable (m : (ℓ : Loc nD τ sig) → Buf (Elt Ideal) ℓ)

/-- The blocks the windows read and write at point `t`. -/
theorem idx : ∀ t : Fin cfg0.N, win0_0.index t = ![t.val / 2, t.val % 2, 0]
    ∧ win0_1.index t = ![0, if t.val / 2 = 0 then t.val % 2 else 0, 0] ∧ win0_2.index t = ![0, if t.val / 2 = 1 then t.val % 2 else 0, 0]
    ∧ win0_3.index t = ![t.val / 2, t.val % 2, 0] ∧ win0_4.index t = ![t.val / 2, t.val % 2, 0]
    ∧ win0_5.index t = ![t.val / 2, t.val % 2, 0] ∧ win0_6.index t = ![t.val / 2, t.val % 2, 0]
    ∧ win0_7.index t = ![t.val / 2, t.val % 2, 0] ∧ win0_8.index t = ![t.val / 2, t.val % 2, 0] :=
  (by decide +kernel : ∀ t : Fin grid0.N, _)

/-- The layer a point works on. -/
theorem layer : ∀ t : Fin cfg0.N, (grid0.coords t 0).val = t.val / 2 :=
  (by decide +kernel : ∀ t : Fin grid0.N, _)

/-- The sum of the devices' parts at one place. -/
def slots (x : Cert.OptProjCReferenceIdeal.S8x768x128.Idx → EReal) (i : Cert.OptProjCReferenceIdeal.S768x128.Idx) : EReal :=
  x (ix3 0 (i 0) (i 1)) + x (ix3 1 (i 0) (i 1)) + x (ix3 2 (i 0) (i 1)) + x (ix3 3 (i 0) (i 1))
    + x (ix3 4 (i 0) (i 1)) + x (ix3 5 (i 0) (i 1)) + x (ix3 6 (i 0) (i 1)) + x (ix3 7 (i 0) (i 1))

/-- A layer's gradient in the reference is that sum. -/
theorem sum_slots (x : Cert.OptProjCReferenceIdeal.S8x768x128.Idx → EReal) (i) : val_main_v1 (F := Ideal) x i = slots x i := by
  rw [val_main_v1_apply, Fin.sum_univ_eight]
  pointwise [val_main_v0, val_main_cst, slots]
  blk_point [idx_main_v1]

/-- The first layer's gradient. -/
theorem first (x y : Cert.OptProjCReferenceIdeal.S8x768x128.Idx → EReal) (i : Cert.OptProjCReferenceIdeal.S2x768x128.Idx) (h : (i 0).val = 0) :
    val_main_v6 (F := Ideal) x y i = slots x (ix2 (i 1) (i 2)) := by
  unfold val_main_v6
  refine (concatenate_pair_apply_left (s₁ := Cert.OptProjCReferenceIdeal.S1x768x128) (s₂ := Cert.OptProjCReferenceIdeal.S1x768x128) _ (val_main_v4 (F := Ideal) x) (val_main_v5 (F := Ideal) y) _ i rfl
    (ix3 0 (i 1) (i 2)) (fun b => ?_)).trans ((val_main_v4_apply (F := Ideal) x _).trans (sum_slots x _))
  match b with
  | ⟨0, _⟩ => exact h.symm
  | ⟨1, _⟩ => rfl
  | ⟨2, _⟩ => rfl

/-- The second layer's gradient. -/
theorem second (x y : Cert.OptProjCReferenceIdeal.S8x768x128.Idx → EReal) (i : Cert.OptProjCReferenceIdeal.S2x768x128.Idx) (h : (i 0).val = 1) :
    val_main_v6 (F := Ideal) x y i = slots y (ix2 (i 1) (i 2)) := by
  unfold val_main_v6
  refine (concatenate_pair_apply_right (s₁ := Cert.OptProjCReferenceIdeal.S1x768x128) (s₂ := Cert.OptProjCReferenceIdeal.S1x768x128) _ (val_main_v4 (F := Ideal) x) (val_main_v5 (F := Ideal) y) _ i rfl rfl
    (ix3 0 (i 1) (i 2)) (fun b hb => ?_) ?_).trans ((val_main_v5_apply (F := Ideal) y _).trans (sum_slots y _))
  · match b, hb with
    | ⟨0, _⟩, hb => exact absurd rfl hb
    | ⟨1, _⟩, _ => rfl
    | ⟨2, _⟩, _ => rfl
  · exact h.symm

/-- What the kernel's choice takes in the first layer. -/
theorem select_first {α : Type} (a b : α) : Scalar.select (Scalar.cmpi .eq (BitVec.ofNat 32 0) 1#32) a b = b := rfl

/-- What the kernel's choice takes in the second layer. -/
theorem select_second {α : Type} (a b : α) : Scalar.select (Scalar.cmpi .eq (BitVec.ofNat 32 1) 1#32) a b = a := rfl

/-- The block of the gradient a point computes is the reference's. -/
theorem grad_block (c : Dev nD) (t : Fin cfg0.N) (x0 x3 x4) :
    k0_pay9 (F := Ideal) (grid0.coords t) x0 (iblk m c 1 t) (iblk m c 2 t) x3 x4
      = fun j => val_main_v6 (F := Ideal) (m ((c : Thread nD τ).loc main_arg1)) (m ((c : Thread nD τ).loc main_arg2))
          ((win0_5.blk t).view.emb (ix3 0 (j 0) (j 1))) := by
  funext j
  have ht : t.val < 4 := t.isLt
  unfold k0_pay9
  unfold_payloads
  rcases (by omega : t.val / 2 = 0 ∨ t.val / 2 = 1) with h | h
  · rw [first _ _ _ (by blk_simp [idx t, h]; rfl), layer t, h, select_first]
    pointwise [slots]
    blk_point [iblk, V, idx t, h]
    all_goals rw [if_pos trivial]
  · rw [second _ _ _ (by blk_simp [idx t, h]; rfl), layer t, h, select_second]
    pointwise [slots]
    blk_point [iblk, V, idx t, h]
    all_goals rw [if_pos trivial]

/-- The gradient: the sum of the devices' parts. -/
theorem grad (c : Dev nD) : (dats m 0 c).arrAt 5 cfg0.N = val_main_v6 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  rw [grad_block]
  unfold_payloads
  pointwise
  blk_point [iblk, V, idx t]

/-- The change of the weight. -/
theorem delta (c : Dev nD) : (dats m 0 c).arrAt 6 cfg0.N = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  rw [grad_block]
  unfold_payloads
  pointwise [val_main_cst_1, val_main_v7, val_main_v8, val_main_cst_2, val_main_v9, val_main_v10, val_main_v11, val_main_cst_3, val_main_v12, val_main_v13,
      val_main_v14, val_main_cst_4, val_main_v15, val_main_v16, val_main_v17, val_main_cst_5, val_main_v18, val_main_v19, val_main_cst_6, val_main_v20,
      val_main_v21, val_main_v22, val_main_cst_7, val_main_v23, val_main_v24, val_main_v25, val_main_cst_8, val_main_v26, val_main_v27, val_main_v28,
      val_main_cst_9, val_main_v29, val_main_v30]
  blk_point [iblk, V, idx t]

/-- The new first moment. -/
theorem new_m (c : Dev nD) : (dats m 0 c).arrAt 7 cfg0.N = val_main_v11 (F := Ideal) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  frame_out
  rw [grad_block]
  unfold_payloads
  pointwise [val_main_cst_1, val_main_v7, val_main_v8, val_main_cst_2, val_main_v9, val_main_v10, val_main_v11, val_main_cst_3, val_main_v12, val_main_v13,
      val_main_v14, val_main_cst_4, val_main_v15, val_main_v16, val_main_v17, val_main_cst_5, val_main_v18, val_main_v19, val_main_cst_6, val_main_v20,
      val_main_v21, val_main_v22, val_main_cst_7, val_main_v23, val_main_v24, val_main_v25, val_main_cst_8, val_main_v26, val_main_v27, val_main_v28,
      val_main_cst_9, val_main_v29, val_main_v30]
  blk_point [iblk, V, idx t]

/-- The new second moment. -/
theorem new_v (c : Dev nD) : (dats m 0 c).arrAt 8 cfg0.N = val_main_v17 (F := Ideal) (m ((c : Thread nD τ).loc main_arg1)) (m ((c : Thread nD τ).loc main_arg2)) (m ((c : Thread nD τ).loc main_arg4)) := by
  refine (dats m 0 c).arrAt_eq_of_covers 8 _ (by decide +kernel) fun t _ y => ?_
  blk_simp
  rw [after0_8]
  frame_out
  rw [grad_block]
  unfold_payloads
  pointwise [val_main_cst_1, val_main_v7, val_main_v8, val_main_cst_2, val_main_v9, val_main_v10, val_main_v11, val_main_cst_3, val_main_v12, val_main_v13,
      val_main_v14, val_main_cst_4, val_main_v15, val_main_v16, val_main_v17, val_main_cst_5, val_main_v18, val_main_v19, val_main_cst_6, val_main_v20,
      val_main_v21, val_main_v22, val_main_cst_7, val_main_v23, val_main_v24, val_main_v25, val_main_cst_8, val_main_v26, val_main_v27, val_main_v28,
      val_main_cst_9, val_main_v29, val_main_v30]
  blk_point [iblk, V, idx t]

/-- The reference runs, keeps its arguments, and declares no semaphore that could end nonzero. -/
theorem frame_reference : Cert.quiescent_OptProjCReferenceIdeal (hOptProjCReferenceIdeal := Cert.OptProjCReferenceIdeal.Gen.facts) :=
  fun m g _ => (θ_run (Cert.OptProjCReferenceIdeal.defs (F := Ideal)) _ _).mono
    (fun r h => ⟨fun c => (h c).2.2.2.2, sem_eq_zero_of_no_sems (by decide) r.2⟩)
    (Cert.OptProjCReferenceIdeal.Value.run (F := Ideal) m g)

/-- From equal arguments the kernel's results are the reference's. -/
theorem algebraic : Cert.algebraic_OptProjCKernelIdeal_OptProjCReferenceIdeal (hOptProjCKernelIdeal := Cert.OptProjCKernelIdeal.Gen.facts)
    (hOptProjCReferenceIdeal := Cert.OptProjCReferenceIdeal.Gen.facts) := by
  intro m g m' g' _ hargs
  refine ⟨_, _, _, _, Cert.OptProjCKernelIdeal.Value.run_blocks (F := Ideal) m g, ?_⟩
  refine (θ_run (Cert.OptProjCReferenceIdeal.defs (F := Ideal)) _ _).mono (fun r h c => ?_)
    (Cert.OptProjCReferenceIdeal.Value.run (F := Ideal) m' g')
  obtain ⟨h0, h1, h2, h3, hk⟩ := h c
  obtain ⟨e0, e1, e2, e3, e4⟩ := hargs c
  refine ⟨h0.trans ?_, h1.trans ?_, h2.trans ?_, h3.trans ?_, hk⟩
  · rw [e1, e2]; exact (val_main_v6_eq _ _).trans (grad m c).symm
  · rw [e0, e1, e2, e3, e4]; exact (val_main_v30_eq _ _ _ _ _).trans (delta m c).symm
  · rw [e1, e2, e3]; exact (val_main_v11_eq _ _ _).trans (new_m m c).symm
  · rw [e1, e2, e4]; exact (val_main_v17_eq _ _ _).trans (new_v m c).symm

end Cert.OptProjC

end
-- ==== Proof.OptNorm.lean ====
/-
  AdamW's step for the weight of the norm: the gradient is passed on, the change of the weight and the two new moments are the reference's.
-/
module

public import proofs.«01_k».proof.Defs
public import proofs.«01_k».proof.Proof.Gen.OptNormKernelIdeal.Frame
public import proofs.«01_k».proof.Proof.Gen.OptNormKernelIdeal.Value
public import proofs.«01_k».proof.Proof.Gen.OptNormReferenceIdeal
public import proofs.«01_k».proof.Proof.Gen.OptNormReferenceIdeal.Run
public import proofs.«01_k».proof.Proof.Gen.OptNormReferenceIdeal.Read
public import Idealize.ShloMosaic.Lib.Pipeline.ReadBack
public import Idealize.ShloMosaic.Lib.Pipeline.ValueKit
public import Idealize.ShloMosaic.Lib.Pointwise

@[expose] public section

noncomputable section

namespace Cert.OptNorm

open Idealize.ShloMosaic Idealize.ShloMosaic.TcCoe Idealize.SL.Sem
open Cert.OptNormKernelIdeal Cert.OptNormKernelIdeal.Gen
open Cert.OptNormReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The gradient is kept. -/
theorem grad (c : Dev nD) : (dats m 0 c).arrAt 4 cfg0.N = (m ((c : Thread nD τ).loc main_arg1)) := by
  refine (dats m 0 c).arrAt_eq_of_covers 4 _ (by decide +kernel) fun t _ y => ?_
  blk_simp
  rw [after0_4]
  frame_out
  unfold_payloads
  pointwise
  blk_point [iblk, V, idx t]

/-- The change of the weight. -/
theorem delta (c : Dev nD) : (dats m 0 c).arrAt 5 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  rw [← val_main_v23_eq]
  unfold_payloads
  pointwise
  blk_point [iblk, V, idx t]

/-- The new first moment. -/
theorem new_m (c : Dev nD) : (dats m 0 c).arrAt 6 cfg0.N = val_main_v4 (F := Ideal) (m ((c : Thread nD τ).loc main_arg1)) (m ((c : Thread nD τ).loc main_arg2)) := by
  refine (dats m 0 c).arrAt_eq_of_covers 6 _ (by decide +kernel) fun t _ y => ?_
  blk_simp
  rw [after0_6]
  frame_out
  rw [← val_main_v4_eq]
  unfold_payloads
  pointwise
  blk_point [iblk, V, idx t]

/-- The new second moment. -/
theorem new_v (c : Dev nD) : (dats m 0 c).arrAt 7 cfg0.N = val_main_v10 (F := Ideal) (m ((c : Thread nD τ).loc main_arg1)) (m ((c : Thread nD τ).loc main_arg3)) := by
  refine (dats m 0 c).arrAt_eq_of_covers 7 _ (by decide +kernel) fun t _ y => ?_
  blk_simp
  rw [after0_7]
  frame_out
  rw [← val_main_v10_eq]
  unfold_payloads
  pointwise
  blk_point [iblk, V, idx t]

/-- The reference runs, keeps its arguments, and declares no semaphore that could end nonzero. -/
theorem frame_reference : Cert.quiescent_OptNormReferenceIdeal (hOptNormReferenceIdeal := Cert.OptNormReferenceIdeal.Gen.facts) :=
  fun m g _ => (θ_run (Cert.OptNormReferenceIdeal.defs (F := Ideal)) _ _).mono
    (fun r h => ⟨fun c => (h c).2.2.2.2, sem_eq_zero_of_no_sems (by decide) r.2⟩)
    (Cert.OptNormReferenceIdeal.Value.run (F := Ideal) m g)

/-- From equal arguments the kernel's results are the reference's. -/
theorem algebraic : Cert.algebraic_OptNormKernelIdeal_OptNormReferenceIdeal (hOptNormKernelIdeal := Cert.OptNormKernelIdeal.Gen.facts)
    (hOptNormReferenceIdeal := Cert.OptNormReferenceIdeal.Gen.facts) := by
  intro m g m' g' _ hargs
  refine ⟨_, _, _, _, Cert.OptNormKernelIdeal.Value.run_blocks (F := Ideal) m g, ?_⟩
  refine (θ_run (Cert.OptNormReferenceIdeal.defs (F := Ideal)) _ _).mono (fun r h c => ?_)
    (Cert.OptNormReferenceIdeal.Value.run (F := Ideal) m' g')
  obtain ⟨h0, h1, h2, h3, hk⟩ := h c
  obtain ⟨e0, e1, e2, e3⟩ := hargs c
  refine ⟨h0.trans ?_, h1.trans ?_, h2.trans ?_, h3.trans ?_, hk⟩
  · rw [e1]; exact (grad m c).symm
  · rw [e0, e1, e2, e3]; exact (val_main_v23_eq _ _ _ _).trans (delta m c).symm
  · rw [e1, e2]; exact (val_main_v4_eq _ _).trans (new_m m c).symm
  · rw [e1, e3]; exact (val_main_v10_eq _ _).trans (new_v m c).symm

end Cert.OptNorm

end
-- ==== Proof.OptA.lean ====
/-
  AdamW's step for the poles of the scan: the gradient is passed on, the change of the weight and the two new moments are the reference's.
-/
module

public import proofs.«01_k».proof.Defs
public import proofs.«01_k».proof.Proof.Gen.OptAKernelIdeal.Frame
public import proofs.«01_k».proof.Proof.Gen.OptAKernelIdeal.Value
public import proofs.«01_k».proof.Proof.Gen.OptAReferenceIdeal
public import proofs.«01_k».proof.Proof.Gen.OptAReferenceIdeal.Run
public import proofs.«01_k».proof.Proof.Gen.OptAReferenceIdeal.Read
public import Idealize.ShloMosaic.Lib.Pipeline.ReadBack
public import Idealize.ShloMosaic.Lib.Pipeline.ValueKit
public import Idealize.ShloMosaic.Lib.Pointwise

@[expose] public section

noncomputable section

namespace Cert.OptA

open Idealize.ShloMosaic Idealize.ShloMosaic.TcCoe Idealize.SL.Sem
open Cert.OptAKernelIdeal Cert.OptAKernelIdeal.Gen
open Cert.OptAReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- Window 0 reads the rows of argument 0. -/
theorem V_v1 (c : Dev nD) : V m c main_v1 = fun i => (m ((c : Thread nD τ).loc main_arg0)) (idx_main_v24 i) :=
  funext fun i => val_main_v24_apply (F := Ideal) (m ((c : Thread nD τ).loc main_arg0)) i

/-- A block of window 0. -/
theorem blk0 (c : Dev nD) (t : Fin cfg0.N) (y) : iblk m c 0 t y = (m ((c : Thread nD τ).loc main_arg0)) (idx_main_v24 ((win0_0.blk t).view.emb y)) :=
  congrFun (V_v1 m c) _

/-- Window 1 reads the rows of argument 1. -/
theorem V_v2 (c : Dev nD) (i) : V m c main_v2 i = (m ((c : Thread nD τ).loc main_arg1)) (idx_main_v24 (ix2 (i 1) (i 2))) := by
  show shapeCast S1x64x64 (broadcastInDim S1x2x32x64 ![1, 2, 3] bcast_S2x32x64_S1x2x32x64_1_2_3 (m ((c : Thread nD τ).loc main_arg1))) shapeCasts_S1x2x32x64_S1x64x64 i = _
  pointwise
  blk_point

/-- A block of window 1. -/
theorem blk1 (c : Dev nD) (t : Fin cfg0.N) (y) : iblk m c 1 t y = (m ((c : Thread nD τ).loc main_arg1))
    (idx_main_v24 (ix2 ((win0_1.blk t).view.emb y 1) ((win0_1.blk t).view.emb y 2))) :=
  V_v2 m c _

/-- Window 2 reads the rows of argument 2. -/
theorem V_v3 (c : Dev nD) : V m c main_v3 = fun i => (m ((c : Thread nD τ).loc main_arg2)) (idx_main_v24 i) :=
  funext fun i => val_main_v24_apply (F := Ideal) (m ((c : Thread nD τ).loc main_arg2)) i

/-- A block of window 2. -/
theorem blk2 (c : Dev nD) (t : Fin cfg0.N) (y) : iblk m c 2 t y = (m ((c : Thread nD τ).loc main_arg2)) (idx_main_v24 ((win0_2.blk t).view.emb y)) :=
  congrFun (V_v3 m c) _

/-- Window 3 reads the rows of argument 3. -/
theorem V_v4 (c : Dev nD) : V m c main_v4 = fun i => (m ((c : Thread nD τ).loc main_arg3)) (idx_main_v24 i) :=
  funext fun i => val_main_v24_apply (F := Ideal) (m ((c : Thread nD τ).loc main_arg3)) i

/-- A block of window 3. -/
theorem blk3 (c : Dev nD) (t : Fin cfg0.N) (y) : iblk m c 3 t y = (m ((c : Thread nD τ).loc main_arg3)) (idx_main_v24 ((win0_3.blk t).view.emb y)) :=
  congrFun (V_v4 m c) _

/-- The gradient is kept. -/
theorem grad (c : Dev nD) : (dats m 0 c).arrAt 4 cfg0.N = val_main_v24 (F := Ideal) (m ((c : Thread nD τ).loc main_arg1)) := by
  refine (dats m 0 c).arrAt_eq_of_covers 4 _ (by decide +kernel) fun t _ y => ?_
  blk_simp
  rw [after0_4]
  frame_out
  simp only [val_main_v24_apply]
  unfold_payloads
  pointwise [val_main_cst, val_main_v0, val_main_v1, val_main_cst_0, val_main_v2, val_main_v3, val_main_v4, val_main_cst_1, val_main_v5, val_main_v6, val_main_v7,
      val_main_cst_2, val_main_v8, val_main_v9, val_main_v10, val_main_cst_3, val_main_v11, val_main_v12, val_main_cst_4, val_main_v13, val_main_v14,
      val_main_v15, val_main_cst_5, val_main_v16, val_main_v17, val_main_v18, val_main_cst_6, val_main_v19, val_main_v20, val_main_v21, val_main_cst_7,
      val_main_v22, val_main_v23]
  simp only [blk0, blk1, blk2, blk3]
  blk_point [idx_main_v24, idx_main_v24, idx t]

/-- The change of the weight. -/
theorem delta (c : Dev nD) : (dats m 0 c).arrAt 5 cfg0.N = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  simp only [val_main_v25_apply]
  unfold_payloads
  pointwise [val_main_cst, val_main_v0, val_main_v1, val_main_cst_0, val_main_v2, val_main_v3, val_main_v4, val_main_cst_1, val_main_v5, val_main_v6, val_main_v7,
      val_main_cst_2, val_main_v8, val_main_v9, val_main_v10, val_main_cst_3, val_main_v11, val_main_v12, val_main_cst_4, val_main_v13, val_main_v14,
      val_main_v15, val_main_cst_5, val_main_v16, val_main_v17, val_main_v18, val_main_cst_6, val_main_v19, val_main_v20, val_main_v21, val_main_cst_7,
      val_main_v22, val_main_v23]
  simp only [blk0, blk1, blk2, blk3]
  blk_point [idx_main_v24, idx_main_v25, idx t]

/-- The new first moment. -/
theorem new_m (c : Dev nD) : (dats m 0 c).arrAt 6 cfg0.N = val_main_v26 (F := Ideal) (m ((c : Thread nD τ).loc main_arg1)) (m ((c : Thread nD τ).loc main_arg2)) := by
  refine (dats m 0 c).arrAt_eq_of_covers 6 _ (by decide +kernel) fun t _ y => ?_
  blk_simp
  rw [after0_6]
  frame_out
  simp only [val_main_v26_apply]
  unfold_payloads
  pointwise [val_main_cst, val_main_v0, val_main_v1, val_main_cst_0, val_main_v2, val_main_v3, val_main_v4, val_main_cst_1, val_main_v5, val_main_v6, val_main_v7,
      val_main_cst_2, val_main_v8, val_main_v9, val_main_v10, val_main_cst_3, val_main_v11, val_main_v12, val_main_cst_4, val_main_v13, val_main_v14,
      val_main_v15, val_main_cst_5, val_main_v16, val_main_v17, val_main_v18, val_main_cst_6, val_main_v19, val_main_v20, val_main_v21, val_main_cst_7,
      val_main_v22, val_main_v23]
  simp only [blk0, blk1, blk2, blk3]
  blk_point [idx_main_v24, idx_main_v26, idx t]

/-- The new second moment. -/
theorem new_v (c : Dev nD) : (dats m 0 c).arrAt 7 cfg0.N = val_main_v27 (F := Ideal) (m ((c : Thread nD τ).loc main_arg1)) (m ((c : Thread nD τ).loc main_arg3)) := by
  refine (dats m 0 c).arrAt_eq_of_covers 7 _ (by decide +kernel) fun t _ y => ?_
  blk_simp
  rw [after0_7]
  frame_out
  simp only [val_main_v27_apply]
  unfold_payloads
  pointwise [val_main_cst, val_main_v0, val_main_v1, val_main_cst_0, val_main_v2, val_main_v3, val_main_v4, val_main_cst_1, val_main_v5, val_main_v6, val_main_v7,
      val_main_cst_2, val_main_v8, val_main_v9, val_main_v10, val_main_cst_3, val_main_v11, val_main_v12, val_main_cst_4, val_main_v13, val_main_v14,
      val_main_v15, val_main_cst_5, val_main_v16, val_main_v17, val_main_v18, val_main_cst_6, val_main_v19, val_main_v20, val_main_v21, val_main_cst_7,
      val_main_v22, val_main_v23]
  simp only [blk0, blk1, blk2, blk3]
  blk_point [idx_main_v24, idx_main_v27, idx t]

/-- The reference runs, keeps its arguments, and declares no semaphore that could end nonzero. -/
theorem frame_reference : Cert.quiescent_OptAReferenceIdeal (hOptAReferenceIdeal := Cert.OptAReferenceIdeal.Gen.facts) :=
  fun m g _ => (θ_run (Cert.OptAReferenceIdeal.defs (F := Ideal)) _ _).mono
    (fun r h => ⟨fun c => (h c).2.2.2.2, sem_eq_zero_of_no_sems (by decide) r.2⟩)
    (Cert.OptAReferenceIdeal.Value.run (F := Ideal) m g)

/-- From equal arguments the kernel's results are the reference's. -/
theorem algebraic : Cert.algebraic_OptAKernelIdeal_OptAReferenceIdeal (hOptAKernelIdeal := Cert.OptAKernelIdeal.Gen.facts)
    (hOptAReferenceIdeal := Cert.OptAReferenceIdeal.Gen.facts) := by
  intro m g m' g' _ hargs
  refine ⟨_, _, _, _, Cert.OptAKernelIdeal.Value.run_blocks (F := Ideal) m g, ?_⟩
  refine (θ_run (Cert.OptAReferenceIdeal.defs (F := Ideal)) _ _).mono (fun r h c => ?_)
    (Cert.OptAReferenceIdeal.Value.run (F := Ideal) m' g')
  obtain ⟨h0, h1, h2, h3, hk⟩ := h c
  obtain ⟨e0, e1, e2, e3⟩ := hargs c
  refine ⟨h0.trans ?_, h1.trans ?_, h2.trans ?_, h3.trans ?_, hk⟩
  · rw [e1]; exact (val_main_v24_eq _).trans (grad m c).symm
  · rw [e0, e1, e2, e3]; exact (val_main_v25_eq _ _ _ _).trans (delta m c).symm
  · rw [e1, e2]; exact (val_main_v26_eq _ _).trans (new_m m c).symm
  · rw [e1, e3]; exact (val_main_v27_eq _ _).trans (new_v m c).symm

end Cert.OptA

end
-- ==== Proof.OptStep.lean ====
/-
  AdamW's step for the step sizes of the scan: the gradient is passed on, the change of the weight and the two new moments are the reference's.
-/
module

public import proofs.«01_k».proof.Defs
public import proofs.«01_k».proof.Proof.Gen.OptStepKernelIdeal.Frame
public import proofs.«01_k».proof.Proof.Gen.OptStepKernelIdeal.Value
public import proofs.«01_k».proof.Proof.Gen.OptStepReferenceIdeal
public import proofs.«01_k».proof.Proof.Gen.OptStepReferenceIdeal.Run
public import proofs.«01_k».proof.Proof.Gen.OptStepReferenceIdeal.Read
public import Idealize.ShloMosaic.Lib.Pipeline.ReadBack
public import Idealize.ShloMosaic.Lib.Pipeline.ValueKit
public import Idealize.ShloMosaic.Lib.Pointwise

@[expose] public section

noncomputable section

namespace Cert.OptStep

open Idealize.ShloMosaic Idealize.ShloMosaic.TcCoe Idealize.SL.Sem
open Cert.OptStepKernelIdeal Cert.OptStepKernelIdeal.Gen
open Cert.OptStepReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The gradient is kept. -/
theorem grad (c : Dev nD) : (dats m 0 c).arrAt 4 cfg0.N = (m ((c : Thread nD τ).loc main_arg1)) := by
  refine (dats m 0 c).arrAt_eq_of_covers 4 _ (by decide +kernel) fun t _ y => ?_
  blk_simp
  rw [after0_4]
  frame_out
  unfold_payloads
  pointwise
  blk_point [iblk, V, idx t]

/-- The change of the weight. -/
theorem delta (c : Dev nD) : (dats m 0 c).arrAt 5 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  rw [← val_main_v23_eq]
  unfold_payloads
  pointwise
  blk_point [iblk, V, idx t]

/-- The new first moment. -/
theorem new_m (c : Dev nD) : (dats m 0 c).arrAt 6 cfg0.N = val_main_v4 (F := Ideal) (m ((c : Thread nD τ).loc main_arg1)) (m ((c : Thread nD τ).loc main_arg2)) := by
  refine (dats m 0 c).arrAt_eq_of_covers 6 _ (by decide +kernel) fun t _ y => ?_
  blk_simp
  rw [after0_6]
  frame_out
  rw [← val_main_v4_eq]
  unfold_payloads
  pointwise
  blk_point [iblk, V, idx t]

/-- The new second moment. -/
theorem new_v (c : Dev nD) : (dats m 0 c).arrAt 7 cfg0.N = val_main_v10 (F := Ideal) (m ((c : Thread nD τ).loc main_arg1)) (m ((c : Thread nD τ).loc main_arg3)) := by
  refine (dats m 0 c).arrAt_eq_of_covers 7 _ (by decide +kernel) fun t _ y => ?_
  blk_simp
  rw [after0_7]
  frame_out
  rw [← val_main_v10_eq]
  unfold_payloads
  pointwise
  blk_point [iblk, V, idx t]

/-- The reference runs, keeps its arguments, and declares no semaphore that could end nonzero. -/
theorem frame_reference : Cert.quiescent_OptStepReferenceIdeal (hOptStepReferenceIdeal := Cert.OptStepReferenceIdeal.Gen.facts) :=
  fun m g _ => (θ_run (Cert.OptStepReferenceIdeal.defs (F := Ideal)) _ _).mono
    (fun r h => ⟨fun c => (h c).2.2.2.2, sem_eq_zero_of_no_sems (by decide) r.2⟩)
    (Cert.OptStepReferenceIdeal.Value.run (F := Ideal) m g)

/-- From equal arguments the kernel's results are the reference's. -/
theorem algebraic : Cert.algebraic_OptStepKernelIdeal_OptStepReferenceIdeal (hOptStepKernelIdeal := Cert.OptStepKernelIdeal.Gen.facts)
    (hOptStepReferenceIdeal := Cert.OptStepReferenceIdeal.Gen.facts) := by
  intro m g m' g' _ hargs
  refine ⟨_, _, _, _, Cert.OptStepKernelIdeal.Value.run_blocks (F := Ideal) m g, ?_⟩
  refine (θ_run (Cert.OptStepReferenceIdeal.defs (F := Ideal)) _ _).mono (fun r h c => ?_)
    (Cert.OptStepReferenceIdeal.Value.run (F := Ideal) m' g')
  obtain ⟨h0, h1, h2, h3, hk⟩ := h c
  obtain ⟨e0, e1, e2, e3⟩ := hargs c
  refine ⟨h0.trans ?_, h1.trans ?_, h2.trans ?_, h3.trans ?_, hk⟩
  · rw [e1]; exact (grad m c).symm
  · rw [e0, e1, e2, e3]; exact (val_main_v23_eq _ _ _ _).trans (delta m c).symm
  · rw [e1, e2]; exact (val_main_v4_eq _ _).trans (new_m m c).symm
  · rw [e1, e3]; exact (val_main_v10_eq _ _).trans (new_v m c).symm

end Cert.OptStep

end
-- ==== Proof.OptB.lean ====
/-
  AdamW's step for the input matrices of the scan: the gradient is passed on, the change of the weight and the two new moments are the reference's.
-/
module

public import proofs.«01_k».proof.Defs
public import proofs.«01_k».proof.Proof.Gen.OptBKernelIdeal.Frame
public import proofs.«01_k».proof.Proof.Gen.OptBKernelIdeal.Value
public import proofs.«01_k».proof.Proof.Gen.OptBReferenceIdeal
public import proofs.«01_k».proof.Proof.Gen.OptBReferenceIdeal.Run
public import proofs.«01_k».proof.Proof.Gen.OptBReferenceIdeal.Read
public import Idealize.ShloMosaic.Lib.Pipeline.ReadBack
public import Idealize.ShloMosaic.Lib.Pipeline.ValueKit
public import Idealize.ShloMosaic.Lib.Pointwise

@[expose] public section

noncomputable section

namespace Cert.OptB

open Idealize.ShloMosaic Idealize.ShloMosaic.TcCoe Idealize.SL.Sem
open Cert.OptBKernelIdeal Cert.OptBKernelIdeal.Gen
open Cert.OptBReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- Window 0 reads the rows of argument 0. -/
theorem V_v1 (c : Dev nD) : V m c main_v1 = fun i => (m ((c : Thread nD τ).loc main_arg0)) (idx_main_v24 i) :=
  funext fun i => val_main_v24_apply (F := Ideal) (m ((c : Thread nD τ).loc main_arg0)) i

/-- A block of window 0. -/
theorem blk0 (c : Dev nD) (t : Fin cfg0.N) (y) : iblk m c 0 t y = (m ((c : Thread nD τ).loc main_arg0)) (idx_main_v24 ((win0_0.blk t).view.emb y)) :=
  congrFun (V_v1 m c) _

/-- Window 1 reads the rows of argument 1. -/
theorem V_v2 (c : Dev nD) (i) : V m c main_v2 i = (m ((c : Thread nD τ).loc main_arg1)) (idx_main_v24 (ix2 (i 1) (i 2))) := by
  show shapeCast S1x4096x16 (broadcastInDim S1x2x32x64x16 ![1, 2, 3, 4] bcast_S2x32x64x16_S1x2x32x64x16_1_2_3_4 (m ((c : Thread nD τ).loc main_arg1))) shapeCasts_S1x2x32x64x16_S1x4096x16 i = _
  pointwise
  blk_point

/-- A block of window 1. -/
theorem blk1 (c : Dev nD) (t : Fin cfg0.N) (y) : iblk m c 1 t y = (m ((c : Thread nD τ).loc main_arg1))
    (idx_main_v24 (ix2 ((win0_1.blk t).view.emb y 1) ((win0_1.blk t).view.emb y 2))) :=
  V_v2 m c _

/-- Window 2 reads the rows of argument 2. -/
theorem V_v3 (c : Dev nD) : V m c main_v3 = fun i => (m ((c : Thread nD τ).loc main_arg2)) (idx_main_v24 i) :=
  funext fun i => val_main_v24_apply (F := Ideal) (m ((c : Thread nD τ).loc main_arg2)) i

/-- A block of window 2. -/
theorem blk2 (c : Dev nD) (t : Fin cfg0.N) (y) : iblk m c 2 t y = (m ((c : Thread nD τ).loc main_arg2)) (idx_main_v24 ((win0_2.blk t).view.emb y)) :=
  congrFun (V_v3 m c) _

/-- Window 3 reads the rows of argument 3. -/
theorem V_v4 (c : Dev nD) : V m c main_v4 = fun i => (m ((c : Thread nD τ).loc main_arg3)) (idx_main_v24 i) :=
  funext fun i => val_main_v24_apply (F := Ideal) (m ((c : Thread nD τ).loc main_arg3)) i

/-- A block of window 3. -/
theorem blk3 (c : Dev nD) (t : Fin cfg0.N) (y) : iblk m c 3 t y = (m ((c : Thread nD τ).loc main_arg3)) (idx_main_v24 ((win0_3.blk t).view.emb y)) :=
  congrFun (V_v4 m c) _

/-- The gradient is kept. -/
theorem grad (c : Dev nD) : (dats m 0 c).arrAt 4 cfg0.N = val_main_v24 (F := Ideal) (m ((c : Thread nD τ).loc main_arg1)) := by
  refine (dats m 0 c).arrAt_eq_of_covers 4 _ (by decide +kernel) fun t _ y => ?_
  blk_simp
  rw [after0_4]
  frame_out
  simp only [val_main_v24_apply]
  unfold_payloads
  pointwise [val_main_cst, val_main_v0, val_main_v1, val_main_cst_0, val_main_v2, val_main_v3, val_main_v4, val_main_cst_1, val_main_v5, val_main_v6, val_main_v7,
      val_main_cst_2, val_main_v8, val_main_v9, val_main_v10, val_main_cst_3, val_main_v11, val_main_v12, val_main_cst_4, val_main_v13, val_main_v14,
      val_main_v15, val_main_cst_5, val_main_v16, val_main_v17, val_main_v18, val_main_cst_6, val_main_v19, val_main_v20, val_main_v21, val_main_cst_7,
      val_main_v22, val_main_v23]
  simp only [blk0, blk1, blk2, blk3]
  blk_point [idx_main_v24, idx_main_v24, idx t]

/-- The change of the weight. -/
theorem delta (c : Dev nD) : (dats m 0 c).arrAt 5 cfg0.N = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  simp only [val_main_v25_apply]
  unfold_payloads
  pointwise [val_main_cst, val_main_v0, val_main_v1, val_main_cst_0, val_main_v2, val_main_v3, val_main_v4, val_main_cst_1, val_main_v5, val_main_v6, val_main_v7,
      val_main_cst_2, val_main_v8, val_main_v9, val_main_v10, val_main_cst_3, val_main_v11, val_main_v12, val_main_cst_4, val_main_v13, val_main_v14,
      val_main_v15, val_main_cst_5, val_main_v16, val_main_v17, val_main_v18, val_main_cst_6, val_main_v19, val_main_v20, val_main_v21, val_main_cst_7,
      val_main_v22, val_main_v23]
  simp only [blk0, blk1, blk2, blk3]
  blk_point [idx_main_v24, idx_main_v25, idx t]

/-- The new first moment. -/
theorem new_m (c : Dev nD) : (dats m 0 c).arrAt 6 cfg0.N = val_main_v26 (F := Ideal) (m ((c : Thread nD τ).loc main_arg1)) (m ((c : Thread nD τ).loc main_arg2)) := by
  refine (dats m 0 c).arrAt_eq_of_covers 6 _ (by decide +kernel) fun t _ y => ?_
  blk_simp
  rw [after0_6]
  frame_out
  simp only [val_main_v26_apply]
  unfold_payloads
  pointwise [val_main_cst, val_main_v0, val_main_v1, val_main_cst_0, val_main_v2, val_main_v3, val_main_v4, val_main_cst_1, val_main_v5, val_main_v6, val_main_v7,
      val_main_cst_2, val_main_v8, val_main_v9, val_main_v10, val_main_cst_3, val_main_v11, val_main_v12, val_main_cst_4, val_main_v13, val_main_v14,
      val_main_v15, val_main_cst_5, val_main_v16, val_main_v17, val_main_v18, val_main_cst_6, val_main_v19, val_main_v20, val_main_v21, val_main_cst_7,
      val_main_v22, val_main_v23]
  simp only [blk0, blk1, blk2, blk3]
  blk_point [idx_main_v24, idx_main_v26, idx t]

/-- The new second moment. -/
theorem new_v (c : Dev nD) : (dats m 0 c).arrAt 7 cfg0.N = val_main_v27 (F := Ideal) (m ((c : Thread nD τ).loc main_arg1)) (m ((c : Thread nD τ).loc main_arg3)) := by
  refine (dats m 0 c).arrAt_eq_of_covers 7 _ (by decide +kernel) fun t _ y => ?_
  blk_simp
  rw [after0_7]
  frame_out
  simp only [val_main_v27_apply]
  unfold_payloads
  pointwise [val_main_cst, val_main_v0, val_main_v1, val_main_cst_0, val_main_v2, val_main_v3, val_main_v4, val_main_cst_1, val_main_v5, val_main_v6, val_main_v7,
      val_main_cst_2, val_main_v8, val_main_v9, val_main_v10, val_main_cst_3, val_main_v11, val_main_v12, val_main_cst_4, val_main_v13, val_main_v14,
      val_main_v15, val_main_cst_5, val_main_v16, val_main_v17, val_main_v18, val_main_cst_6, val_main_v19, val_main_v20, val_main_v21, val_main_cst_7,
      val_main_v22, val_main_v23]
  simp only [blk0, blk1, blk2, blk3]
  blk_point [idx_main_v24, idx_main_v27, idx t]

/-- The reference runs, keeps its arguments, and declares no semaphore that could end nonzero. -/
theorem frame_reference : Cert.quiescent_OptBReferenceIdeal (hOptBReferenceIdeal := Cert.OptBReferenceIdeal.Gen.facts) :=
  fun m g _ => (θ_run (Cert.OptBReferenceIdeal.defs (F := Ideal)) _ _).mono
    (fun r h => ⟨fun c => (h c).2.2.2.2, sem_eq_zero_of_no_sems (by decide) r.2⟩)
    (Cert.OptBReferenceIdeal.Value.run (F := Ideal) m g)

/-- From equal arguments the kernel's results are the reference's. -/
theorem algebraic : Cert.algebraic_OptBKernelIdeal_OptBReferenceIdeal (hOptBKernelIdeal := Cert.OptBKernelIdeal.Gen.facts)
    (hOptBReferenceIdeal := Cert.OptBReferenceIdeal.Gen.facts) := by
  intro m g m' g' _ hargs
  refine ⟨_, _, _, _, Cert.OptBKernelIdeal.Value.run_blocks (F := Ideal) m g, ?_⟩
  refine (θ_run (Cert.OptBReferenceIdeal.defs (F := Ideal)) _ _).mono (fun r h c => ?_)
    (Cert.OptBReferenceIdeal.Value.run (F := Ideal) m' g')
  obtain ⟨h0, h1, h2, h3, hk⟩ := h c
  obtain ⟨e0, e1, e2, e3⟩ := hargs c
  refine ⟨h0.trans ?_, h1.trans ?_, h2.trans ?_, h3.trans ?_, hk⟩
  · rw [e1]; exact (val_main_v24_eq _).trans (grad m c).symm
  · rw [e0, e1, e2, e3]; exact (val_main_v25_eq _ _ _ _).trans (delta m c).symm
  · rw [e1, e2]; exact (val_main_v26_eq _ _).trans (new_m m c).symm
  · rw [e1, e3]; exact (val_main_v27_eq _ _).trans (new_v m c).symm

end Cert.OptB

end
-- ==== Proof.OptC.lean ====
/-
  AdamW's step for the output matrices of the scan: the gradient is passed on, the change of the weight and the two new moments are the reference's.
-/
module

public import proofs.«01_k».proof.Defs
public import proofs.«01_k».proof.Proof.Gen.OptCKernelIdeal.Frame
public import proofs.«01_k».proof.Proof.Gen.OptCKernelIdeal.Value
public import proofs.«01_k».proof.Proof.Gen.OptCReferenceIdeal
public import proofs.«01_k».proof.Proof.Gen.OptCReferenceIdeal.Run
public import proofs.«01_k».proof.Proof.Gen.OptCReferenceIdeal.Read
public import Idealize.ShloMosaic.Lib.Pipeline.ReadBack
public import Idealize.ShloMosaic.Lib.Pipeline.ValueKit
public import Idealize.ShloMosaic.Lib.Pointwise

@[expose] public section

noncomputable section

namespace Cert.OptC

open Idealize.ShloMosaic Idealize.ShloMosaic.TcCoe Idealize.SL.Sem
open Cert.OptCKernelIdeal Cert.OptCKernelIdeal.Gen
open Cert.OptCReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- Window 0 reads the rows of argument 0. -/
theorem V_v1 (c : Dev nD) : V m c main_v1 = fun i => (m ((c : Thread nD τ).loc main_arg0)) (idx_main_v24 i) :=
  funext fun i => val_main_v24_apply (F := Ideal) (m ((c : Thread nD τ).loc main_arg0)) i

/-- A block of window 0. -/
theorem blk0 (c : Dev nD) (t : Fin cfg0.N) (y) : iblk m c 0 t y = (m ((c : Thread nD τ).loc main_arg0)) (idx_main_v24 ((win0_0.blk t).view.emb y)) :=
  congrFun (V_v1 m c) _

/-- Window 1 reads the rows of argument 1. -/
theorem V_v2 (c : Dev nD) (i) : V m c main_v2 i = (m ((c : Thread nD τ).loc main_arg1)) (idx_main_v24 (ix2 (i 1) (i 2))) := by
  show shapeCast S1x1024x64 (broadcastInDim S1x2x32x16x64 ![1, 2, 3, 4] bcast_S2x32x16x64_S1x2x32x16x64_1_2_3_4 (m ((c : Thread nD τ).loc main_arg1))) shapeCasts_S1x2x32x16x64_S1x1024x64 i = _
  pointwise
  blk_point

/-- A block of window 1. -/
theorem blk1 (c : Dev nD) (t : Fin cfg0.N) (y) : iblk m c 1 t y = (m ((c : Thread nD τ).loc main_arg1))
    (idx_main_v24 (ix2 ((win0_1.blk t).view.emb y 1) ((win0_1.blk t).view.emb y 2))) :=
  V_v2 m c _

/-- Window 2 reads the rows of argument 2. -/
theorem V_v3 (c : Dev nD) : V m c main_v3 = fun i => (m ((c : Thread nD τ).loc main_arg2)) (idx_main_v24 i) :=
  funext fun i => val_main_v24_apply (F := Ideal) (m ((c : Thread nD τ).loc main_arg2)) i

/-- A block of window 2. -/
theorem blk2 (c : Dev nD) (t : Fin cfg0.N) (y) : iblk m c 2 t y = (m ((c : Thread nD τ).loc main_arg2)) (idx_main_v24 ((win0_2.blk t).view.emb y)) :=
  congrFun (V_v3 m c) _

/-- Window 3 reads the rows of argument 3. -/
theorem V_v4 (c : Dev nD) : V m c main_v4 = fun i => (m ((c : Thread nD τ).loc main_arg3)) (idx_main_v24 i) :=
  funext fun i => val_main_v24_apply (F := Ideal) (m ((c : Thread nD τ).loc main_arg3)) i

/-- A block of window 3. -/
theorem blk3 (c : Dev nD) (t : Fin cfg0.N) (y) : iblk m c 3 t y = (m ((c : Thread nD τ).loc main_arg3)) (idx_main_v24 ((win0_3.blk t).view.emb y)) :=
  congrFun (V_v4 m c) _

/-- The gradient is kept. -/
theorem grad (c : Dev nD) : (dats m 0 c).arrAt 4 cfg0.N = val_main_v24 (F := Ideal) (m ((c : Thread nD τ).loc main_arg1)) := by
  refine (dats m 0 c).arrAt_eq_of_covers 4 _ (by decide +kernel) fun t _ y => ?_
  blk_simp
  rw [after0_4]
  frame_out
  simp only [val_main_v24_apply]
  unfold_payloads
  pointwise [val_main_cst, val_main_v0, val_main_v1, val_main_cst_0, val_main_v2, val_main_v3, val_main_v4, val_main_cst_1, val_main_v5, val_main_v6, val_main_v7,
      val_main_cst_2, val_main_v8, val_main_v9, val_main_v10, val_main_cst_3, val_main_v11, val_main_v12, val_main_cst_4, val_main_v13, val_main_v14,
      val_main_v15, val_main_cst_5, val_main_v16, val_main_v17, val_main_v18, val_main_cst_6, val_main_v19, val_main_v20, val_main_v21, val_main_cst_7,
      val_main_v22, val_main_v23]
  simp only [blk0, blk1, blk2, blk3]
  blk_point [idx_main_v24, idx_main_v24, idx t]

/-- The change of the weight. -/
theorem delta (c : Dev nD) : (dats m 0 c).arrAt 5 cfg0.N = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  simp only [val_main_v25_apply]
  unfold_payloads
  pointwise [val_main_cst, val_main_v0, val_main_v1, val_main_cst_0, val_main_v2, val_main_v3, val_main_v4, val_main_cst_1, val_main_v5, val_main_v6, val_main_v7,
      val_main_cst_2, val_main_v8, val_main_v9, val_main_v10, val_main_cst_3, val_main_v11, val_main_v12, val_main_cst_4, val_main_v13, val_main_v14,
      val_main_v15, val_main_cst_5, val_main_v16, val_main_v17, val_main_v18, val_main_cst_6, val_main_v19, val_main_v20, val_main_v21, val_main_cst_7,
      val_main_v22, val_main_v23]
  simp only [blk0, blk1, blk2, blk3]
  blk_point [idx_main_v24, idx_main_v25, idx t]

/-- The new first moment. -/
theorem new_m (c : Dev nD) : (dats m 0 c).arrAt 6 cfg0.N = val_main_v26 (F := Ideal) (m ((c : Thread nD τ).loc main_arg1)) (m ((c : Thread nD τ).loc main_arg2)) := by
  refine (dats m 0 c).arrAt_eq_of_covers 6 _ (by decide +kernel) fun t _ y => ?_
  blk_simp
  rw [after0_6]
  frame_out
  simp only [val_main_v26_apply]
  unfold_payloads
  pointwise [val_main_cst, val_main_v0, val_main_v1, val_main_cst_0, val_main_v2, val_main_v3, val_main_v4, val_main_cst_1, val_main_v5, val_main_v6, val_main_v7,
      val_main_cst_2, val_main_v8, val_main_v9, val_main_v10, val_main_cst_3, val_main_v11, val_main_v12, val_main_cst_4, val_main_v13, val_main_v14,
      val_main_v15, val_main_cst_5, val_main_v16, val_main_v17, val_main_v18, val_main_cst_6, val_main_v19, val_main_v20, val_main_v21, val_main_cst_7,
      val_main_v22, val_main_v23]
  simp only [blk0, blk1, blk2, blk3]
  blk_point [idx_main_v24, idx_main_v26, idx t]

/-- The new second moment. -/
theorem new_v (c : Dev nD) : (dats m 0 c).arrAt 7 cfg0.N = val_main_v27 (F := Ideal) (m ((c : Thread nD τ).loc main_arg1)) (m ((c : Thread nD τ).loc main_arg3)) := by
  refine (dats m 0 c).arrAt_eq_of_covers 7 _ (by decide +kernel) fun t _ y => ?_
  blk_simp
  rw [after0_7]
  frame_out
  simp only [val_main_v27_apply]
  unfold_payloads
  pointwise [val_main_cst, val_main_v0, val_main_v1, val_main_cst_0, val_main_v2, val_main_v3, val_main_v4, val_main_cst_1, val_main_v5, val_main_v6, val_main_v7,
      val_main_cst_2, val_main_v8, val_main_v9, val_main_v10, val_main_cst_3, val_main_v11, val_main_v12, val_main_cst_4, val_main_v13, val_main_v14,
      val_main_v15, val_main_cst_5, val_main_v16, val_main_v17, val_main_v18, val_main_cst_6, val_main_v19, val_main_v20, val_main_v21, val_main_cst_7,
      val_main_v22, val_main_v23]
  simp only [blk0, blk1, blk2, blk3]
  blk_point [idx_main_v24, idx_main_v27, idx t]

/-- The reference runs, keeps its arguments, and declares no semaphore that could end nonzero. -/
theorem frame_reference : Cert.quiescent_OptCReferenceIdeal (hOptCReferenceIdeal := Cert.OptCReferenceIdeal.Gen.facts) :=
  fun m g _ => (θ_run (Cert.OptCReferenceIdeal.defs (F := Ideal)) _ _).mono
    (fun r h => ⟨fun c => (h c).2.2.2.2, sem_eq_zero_of_no_sems (by decide) r.2⟩)
    (Cert.OptCReferenceIdeal.Value.run (F := Ideal) m g)

/-- From equal arguments the kernel's results are the reference's. -/
theorem algebraic : Cert.algebraic_OptCKernelIdeal_OptCReferenceIdeal (hOptCKernelIdeal := Cert.OptCKernelIdeal.Gen.facts)
    (hOptCReferenceIdeal := Cert.OptCReferenceIdeal.Gen.facts) := by
  intro m g m' g' _ hargs
  refine ⟨_, _, _, _, Cert.OptCKernelIdeal.Value.run_blocks (F := Ideal) m g, ?_⟩
  refine (θ_run (Cert.OptCReferenceIdeal.defs (F := Ideal)) _ _).mono (fun r h c => ?_)
    (Cert.OptCReferenceIdeal.Value.run (F := Ideal) m' g')
  obtain ⟨h0, h1, h2, h3, hk⟩ := h c
  obtain ⟨e0, e1, e2, e3⟩ := hargs c
  refine ⟨h0.trans ?_, h1.trans ?_, h2.trans ?_, h3.trans ?_, hk⟩
  · rw [e1]; exact (val_main_v24_eq _).trans (grad m c).symm
  · rw [e0, e1, e2, e3]; exact (val_main_v25_eq _ _ _ _).trans (delta m c).symm
  · rw [e1, e2]; exact (val_main_v26_eq _ _).trans (new_m m c).symm
  · rw [e1, e3]; exact (val_main_v27_eq _ _).trans (new_v m c).symm

end Cert.OptC

end
-- ==== Proof.OptD.lean ====
/-
  AdamW's step for the vectors of the first branch: the gradient is passed on, the change of the weight and the two new moments are the reference's.
-/
module

public import proofs.«01_k».proof.Defs
public import proofs.«01_k».proof.Proof.Gen.OptDKernelIdeal.Frame
public import proofs.«01_k».proof.Proof.Gen.OptDKernelIdeal.Value
public import proofs.«01_k».proof.Proof.Gen.OptDReferenceIdeal
public import proofs.«01_k».proof.Proof.Gen.OptDReferenceIdeal.Run
public import proofs.«01_k».proof.Proof.Gen.OptDReferenceIdeal.Read
public import Idealize.ShloMosaic.Lib.Pipeline.ReadBack
public import Idealize.ShloMosaic.Lib.Pipeline.ValueKit
public import Idealize.ShloMosaic.Lib.Pointwise

@[expose] public section

noncomputable section

namespace Cert.OptD

open Idealize.ShloMosaic Idealize.ShloMosaic.TcCoe Idealize.SL.Sem
open Cert.OptDKernelIdeal Cert.OptDKernelIdeal.Gen
open Cert.OptDReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The gradient is kept. -/
theorem grad (c : Dev nD) : (dats m 0 c).arrAt 4 cfg0.N = (m ((c : Thread nD τ).loc main_arg1)) := by
  refine (dats m 0 c).arrAt_eq_of_covers 4 _ (by decide +kernel) fun t _ y => ?_
  blk_simp
  rw [after0_4]
  frame_out
  unfold_payloads
  pointwise
  blk_point [iblk, V, idx t]

/-- The change of the weight. -/
theorem delta (c : Dev nD) : (dats m 0 c).arrAt 5 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  rw [← val_main_v23_eq]
  unfold_payloads
  pointwise
  blk_point [iblk, V, idx t]

/-- The new first moment. -/
theorem new_m (c : Dev nD) : (dats m 0 c).arrAt 6 cfg0.N = val_main_v4 (F := Ideal) (m ((c : Thread nD τ).loc main_arg1)) (m ((c : Thread nD τ).loc main_arg2)) := by
  refine (dats m 0 c).arrAt_eq_of_covers 6 _ (by decide +kernel) fun t _ y => ?_
  blk_simp
  rw [after0_6]
  frame_out
  rw [← val_main_v4_eq]
  unfold_payloads
  pointwise
  blk_point [iblk, V, idx t]

/-- The new second moment. -/
theorem new_v (c : Dev nD) : (dats m 0 c).arrAt 7 cfg0.N = val_main_v10 (F := Ideal) (m ((c : Thread nD τ).loc main_arg1)) (m ((c : Thread nD τ).loc main_arg3)) := by
  refine (dats m 0 c).arrAt_eq_of_covers 7 _ (by decide +kernel) fun t _ y => ?_
  blk_simp
  rw [after0_7]
  frame_out
  rw [← val_main_v10_eq]
  unfold_payloads
  pointwise
  blk_point [iblk, V, idx t]

/-- The reference runs, keeps its arguments, and declares no semaphore that could end nonzero. -/
theorem frame_reference : Cert.quiescent_OptDReferenceIdeal (hOptDReferenceIdeal := Cert.OptDReferenceIdeal.Gen.facts) :=
  fun m g _ => (θ_run (Cert.OptDReferenceIdeal.defs (F := Ideal)) _ _).mono
    (fun r h => ⟨fun c => (h c).2.2.2.2, sem_eq_zero_of_no_sems (by decide) r.2⟩)
    (Cert.OptDReferenceIdeal.Value.run (F := Ideal) m g)

/-- From equal arguments the kernel's results are the reference's. -/
theorem algebraic : Cert.algebraic_OptDKernelIdeal_OptDReferenceIdeal (hOptDKernelIdeal := Cert.OptDKernelIdeal.Gen.facts)
    (hOptDReferenceIdeal := Cert.OptDReferenceIdeal.Gen.facts) := by
  intro m g m' g' _ hargs
  refine ⟨_, _, _, _, Cert.OptDKernelIdeal.Value.run_blocks (F := Ideal) m g, ?_⟩
  refine (θ_run (Cert.OptDReferenceIdeal.defs (F := Ideal)) _ _).mono (fun r h c => ?_)
    (Cert.OptDReferenceIdeal.Value.run (F := Ideal) m' g')
  obtain ⟨h0, h1, h2, h3, hk⟩ := h c
  obtain ⟨e0, e1, e2, e3⟩ := hargs c
  refine ⟨h0.trans ?_, h1.trans ?_, h2.trans ?_, h3.trans ?_, hk⟩
  · rw [e1]; exact (grad m c).symm
  · rw [e0, e1, e2, e3]; exact (val_main_v23_eq _ _ _ _).trans (delta m c).symm
  · rw [e1, e2]; exact (val_main_v4_eq _ _).trans (new_m m c).symm
  · rw [e1, e3]; exact (val_main_v10_eq _ _).trans (new_v m c).symm

end Cert.OptD

end
-- ==== Proof.OptQ.lean ====
/-
  AdamW's step for the weights of the norms of queries and keys: the gradient is passed on, the change of the weight and the two new moments are the reference's.
-/
module

public import proofs.«01_k».proof.Defs
public import proofs.«01_k».proof.Proof.Gen.OptQKernelIdeal.Frame
public import proofs.«01_k».proof.Proof.Gen.OptQKernelIdeal.Value
public import proofs.«01_k».proof.Proof.Gen.OptQReferenceIdeal
public import proofs.«01_k».proof.Proof.Gen.OptQReferenceIdeal.Run
public import proofs.«01_k».proof.Proof.Gen.OptQReferenceIdeal.Read
public import Idealize.ShloMosaic.Lib.Pipeline.ReadBack
public import Idealize.ShloMosaic.Lib.Pipeline.ValueKit
public import Idealize.ShloMosaic.Lib.Pointwise

@[expose] public section

noncomputable section

namespace Cert.OptQ

open Idealize.ShloMosaic Idealize.ShloMosaic.TcCoe Idealize.SL.Sem
open Cert.OptQKernelIdeal Cert.OptQKernelIdeal.Gen
open Cert.OptQReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The gradient is kept. -/
theorem grad (c : Dev nD) : (dats m 0 c).arrAt 4 cfg0.N = (m ((c : Thread nD τ).loc main_arg1)) := by
  refine (dats m 0 c).arrAt_eq_of_covers 4 _ (by decide +kernel) fun t _ y => ?_
  blk_simp
  rw [after0_4]
  frame_out
  unfold_payloads
  pointwise
  blk_point [iblk, V, idx t]

/-- The change of the weight. -/
theorem delta (c : Dev nD) : (dats m 0 c).arrAt 5 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  rw [← val_main_v23_eq]
  unfold_payloads
  pointwise
  blk_point [iblk, V, idx t]

/-- The new first moment. -/
theorem new_m (c : Dev nD) : (dats m 0 c).arrAt 6 cfg0.N = val_main_v4 (F := Ideal) (m ((c : Thread nD τ).loc main_arg1)) (m ((c : Thread nD τ).loc main_arg2)) := by
  refine (dats m 0 c).arrAt_eq_of_covers 6 _ (by decide +kernel) fun t _ y => ?_
  blk_simp
  rw [after0_6]
  frame_out
  rw [← val_main_v4_eq]
  unfold_payloads
  pointwise
  blk_point [iblk, V, idx t]

/-- The new second moment. -/
theorem new_v (c : Dev nD) : (dats m 0 c).arrAt 7 cfg0.N = val_main_v10 (F := Ideal) (m ((c : Thread nD τ).loc main_arg1)) (m ((c : Thread nD τ).loc main_arg3)) := by
  refine (dats m 0 c).arrAt_eq_of_covers 7 _ (by decide +kernel) fun t _ y => ?_
  blk_simp
  rw [after0_7]
  frame_out
  rw [← val_main_v10_eq]
  unfold_payloads
  pointwise
  blk_point [iblk, V, idx t]

/-- The reference runs, keeps its arguments, and declares no semaphore that could end nonzero. -/
theorem frame_reference : Cert.quiescent_OptQReferenceIdeal (hOptQReferenceIdeal := Cert.OptQReferenceIdeal.Gen.facts) :=
  fun m g _ => (θ_run (Cert.OptQReferenceIdeal.defs (F := Ideal)) _ _).mono
    (fun r h => ⟨fun c => (h c).2.2.2.2, sem_eq_zero_of_no_sems (by decide) r.2⟩)
    (Cert.OptQReferenceIdeal.Value.run (F := Ideal) m g)

/-- From equal arguments the kernel's results are the reference's. -/
theorem algebraic : Cert.algebraic_OptQKernelIdeal_OptQReferenceIdeal (hOptQKernelIdeal := Cert.OptQKernelIdeal.Gen.facts)
    (hOptQReferenceIdeal := Cert.OptQReferenceIdeal.Gen.facts) := by
  intro m g m' g' _ hargs
  refine ⟨_, _, _, _, Cert.OptQKernelIdeal.Value.run_blocks (F := Ideal) m g, ?_⟩
  refine (θ_run (Cert.OptQReferenceIdeal.defs (F := Ideal)) _ _).mono (fun r h c => ?_)
    (Cert.OptQReferenceIdeal.Value.run (F := Ideal) m' g')
  obtain ⟨h0, h1, h2, h3, hk⟩ := h c
  obtain ⟨e0, e1, e2, e3⟩ := hargs c
  refine ⟨h0.trans ?_, h1.trans ?_, h2.trans ?_, h3.trans ?_, hk⟩
  · rw [e1]; exact (grad m c).symm
  · rw [e0, e1, e2, e3]; exact (val_main_v23_eq _ _ _ _).trans (delta m c).symm
  · rw [e1, e2]; exact (val_main_v4_eq _ _).trans (new_m m c).symm
  · rw [e1, e3]; exact (val_main_v10_eq _ _).trans (new_v m c).symm

end Cert.OptQ

end
-- ==== Proof.OptConvW.lean ====
/-
  AdamW's step for the convolution: the gradient is passed on, the change of the weight and the two new moments are the reference's.
-/
module

public import proofs.«01_k».proof.Defs
public import proofs.«01_k».proof.Proof.Gen.OptConvWKernelIdeal.Frame
public import proofs.«01_k».proof.Proof.Gen.OptConvWKernelIdeal.Value
public import proofs.«01_k».proof.Proof.Gen.OptConvWReferenceIdeal
public import proofs.«01_k».proof.Proof.Gen.OptConvWReferenceIdeal.Run
public import proofs.«01_k».proof.Proof.Gen.OptConvWReferenceIdeal.Read
public import Idealize.ShloMosaic.Lib.Pipeline.ReadBack
public import Idealize.ShloMosaic.Lib.Pipeline.ValueKit
public import Idealize.ShloMosaic.Lib.Pointwise

@[expose] public section

noncomputable section

namespace Cert.OptConvW

open Idealize.ShloMosaic Idealize.ShloMosaic.TcCoe Idealize.SL.Sem
open Cert.OptConvWKernelIdeal Cert.OptConvWKernelIdeal.Gen
open Cert.OptConvWReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- Window 0 reads the rows of argument 0. -/
theorem V_v1 (c : Dev nD) : V m c main_v1 = fun i => (m ((c : Thread nD τ).loc main_arg0)) (idx_main_v24 i) :=
  funext fun i => val_main_v24_apply (F := Ideal) (m ((c : Thread nD τ).loc main_arg0)) i

/-- A block of window 0. -/
theorem blk0 (c : Dev nD) (t : Fin cfg0.N) (y) : iblk m c 0 t y = (m ((c : Thread nD τ).loc main_arg0)) (idx_main_v24 ((win0_0.blk t).view.emb y)) :=
  congrFun (V_v1 m c) _

/-- Window 1 reads the rows of argument 1. -/
theorem V_v2 (c : Dev nD) (i) : V m c main_v2 i = (m ((c : Thread nD τ).loc main_arg1)) (idx_main_v24 (ix2 (i 1) (i 2))) := by
  show shapeCast S1x8x160 (broadcastInDim S1x2x4x160 ![1, 2, 3] bcast_S2x4x160_S1x2x4x160_1_2_3 (m ((c : Thread nD τ).loc main_arg1))) shapeCasts_S1x2x4x160_S1x8x160 i = _
  pointwise
  blk_point

/-- A block of window 1. -/
theorem blk1 (c : Dev nD) (t : Fin cfg0.N) (y) : iblk m c 1 t y = (m ((c : Thread nD τ).loc main_arg1))
    (idx_main_v24 (ix2 ((win0_1.blk t).view.emb y 1) ((win0_1.blk t).view.emb y 2))) :=
  V_v2 m c _

/-- Window 2 reads the rows of argument 2. -/
theorem V_v3 (c : Dev nD) : V m c main_v3 = fun i => (m ((c : Thread nD τ).loc main_arg2)) (idx_main_v24 i) :=
  funext fun i => val_main_v24_apply (F := Ideal) (m ((c : Thread nD τ).loc main_arg2)) i

/-- A block of window 2. -/
theorem blk2 (c : Dev nD) (t : Fin cfg0.N) (y) : iblk m c 2 t y = (m ((c : Thread nD τ).loc main_arg2)) (idx_main_v24 ((win0_2.blk t).view.emb y)) :=
  congrFun (V_v3 m c) _

/-- Window 3 reads the rows of argument 3. -/
theorem V_v4 (c : Dev nD) : V m c main_v4 = fun i => (m ((c : Thread nD τ).loc main_arg3)) (idx_main_v24 i) :=
  funext fun i => val_main_v24_apply (F := Ideal) (m ((c : Thread nD τ).loc main_arg3)) i

/-- A block of window 3. -/
theorem blk3 (c : Dev nD) (t : Fin cfg0.N) (y) : iblk m c 3 t y = (m ((c : Thread nD τ).loc main_arg3)) (idx_main_v24 ((win0_3.blk t).view.emb y)) :=
  congrFun (V_v4 m c) _

/-- The gradient is kept. -/
theorem grad (c : Dev nD) : (dats m 0 c).arrAt 4 cfg0.N = val_main_v24 (F := Ideal) (m ((c : Thread nD τ).loc main_arg1)) := by
  refine (dats m 0 c).arrAt_eq_of_covers 4 _ (by decide +kernel) fun t _ y => ?_
  blk_simp
  rw [after0_4]
  frame_out
  simp only [val_main_v24_apply]
  unfold_payloads
  pointwise [val_main_cst, val_main_v0, val_main_v1, val_main_cst_0, val_main_v2, val_main_v3, val_main_v4, val_main_cst_1, val_main_v5, val_main_v6, val_main_v7,
      val_main_cst_2, val_main_v8, val_main_v9, val_main_v10, val_main_cst_3, val_main_v11, val_main_v12, val_main_cst_4, val_main_v13, val_main_v14,
      val_main_v15, val_main_cst_5, val_main_v16, val_main_v17, val_main_v18, val_main_cst_6, val_main_v19, val_main_v20, val_main_v21, val_main_cst_7,
      val_main_v22, val_main_v23]
  simp only [blk0, blk1, blk2, blk3]
  blk_point [idx_main_v24, idx_main_v24, idx t]

/-- The change of the weight. -/
theorem delta (c : Dev nD) : (dats m 0 c).arrAt 5 cfg0.N = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  simp only [val_main_v25_apply]
  unfold_payloads
  pointwise [val_main_cst, val_main_v0, val_main_v1, val_main_cst_0, val_main_v2, val_main_v3, val_main_v4, val_main_cst_1, val_main_v5, val_main_v6, val_main_v7,
      val_main_cst_2, val_main_v8, val_main_v9, val_main_v10, val_main_cst_3, val_main_v11, val_main_v12, val_main_cst_4, val_main_v13, val_main_v14,
      val_main_v15, val_main_cst_5, val_main_v16, val_main_v17, val_main_v18, val_main_cst_6, val_main_v19, val_main_v20, val_main_v21, val_main_cst_7,
      val_main_v22, val_main_v23]
  simp only [blk0, blk1, blk2, blk3]
  blk_point [idx_main_v24, idx_main_v25, idx t]

/-- The new first moment. -/
theorem new_m (c : Dev nD) : (dats m 0 c).arrAt 6 cfg0.N = val_main_v26 (F := Ideal) (m ((c : Thread nD τ).loc main_arg1)) (m ((c : Thread nD τ).loc main_arg2)) := by
  refine (dats m 0 c).arrAt_eq_of_covers 6 _ (by decide +kernel) fun t _ y => ?_
  blk_simp
  rw [after0_6]
  frame_out
  simp only [val_main_v26_apply]
  unfold_payloads
  pointwise [val_main_cst, val_main_v0, val_main_v1, val_main_cst_0, val_main_v2, val_main_v3, val_main_v4, val_main_cst_1, val_main_v5, val_main_v6, val_main_v7,
      val_main_cst_2, val_main_v8, val_main_v9, val_main_v10, val_main_cst_3, val_main_v11, val_main_v12, val_main_cst_4, val_main_v13, val_main_v14,
      val_main_v15, val_main_cst_5, val_main_v16, val_main_v17, val_main_v18, val_main_cst_6, val_main_v19, val_main_v20, val_main_v21, val_main_cst_7,
      val_main_v22, val_main_v23]
  simp only [blk0, blk1, blk2, blk3]
  blk_point [idx_main_v24, idx_main_v26, idx t]

/-- The new second moment. -/
theorem new_v (c : Dev nD) : (dats m 0 c).arrAt 7 cfg0.N = val_main_v27 (F := Ideal) (m ((c : Thread nD τ).loc main_arg1)) (m ((c : Thread nD τ).loc main_arg3)) := by
  refine (dats m 0 c).arrAt_eq_of_covers 7 _ (by decide +kernel) fun t _ y => ?_
  blk_simp
  rw [after0_7]
  frame_out
  simp only [val_main_v27_apply]
  unfold_payloads
  pointwise [val_main_cst, val_main_v0, val_main_v1, val_main_cst_0, val_main_v2, val_main_v3, val_main_v4, val_main_cst_1, val_main_v5, val_main_v6, val_main_v7,
      val_main_cst_2, val_main_v8, val_main_v9, val_main_v10, val_main_cst_3, val_main_v11, val_main_v12, val_main_cst_4, val_main_v13, val_main_v14,
      val_main_v15, val_main_cst_5, val_main_v16, val_main_v17, val_main_v18, val_main_cst_6, val_main_v19, val_main_v20, val_main_v21, val_main_cst_7,
      val_main_v22, val_main_v23]
  simp only [blk0, blk1, blk2, blk3]
  blk_point [idx_main_v24, idx_main_v27, idx t]

/-- The reference runs, keeps its arguments, and declares no semaphore that could end nonzero. -/
theorem frame_reference : Cert.quiescent_OptConvWReferenceIdeal (hOptConvWReferenceIdeal := Cert.OptConvWReferenceIdeal.Gen.facts) :=
  fun m g _ => (θ_run (Cert.OptConvWReferenceIdeal.defs (F := Ideal)) _ _).mono
    (fun r h => ⟨fun c => (h c).2.2.2.2, sem_eq_zero_of_no_sems (by decide) r.2⟩)
    (Cert.OptConvWReferenceIdeal.Value.run (F := Ideal) m g)

/-- From equal arguments the kernel's results are the reference's. -/
theorem algebraic : Cert.algebraic_OptConvWKernelIdeal_OptConvWReferenceIdeal (hOptConvWKernelIdeal := Cert.OptConvWKernelIdeal.Gen.facts)
    (hOptConvWReferenceIdeal := Cert.OptConvWReferenceIdeal.Gen.facts) := by
  intro m g m' g' _ hargs
  refine ⟨_, _, _, _, Cert.OptConvWKernelIdeal.Value.run_blocks (F := Ideal) m g, ?_⟩
  refine (θ_run (Cert.OptConvWReferenceIdeal.defs (F := Ideal)) _ _).mono (fun r h c => ?_)
    (Cert.OptConvWReferenceIdeal.Value.run (F := Ideal) m' g')
  obtain ⟨h0, h1, h2, h3, hk⟩ := h c
  obtain ⟨e0, e1, e2, e3⟩ := hargs c
  refine ⟨h0.trans ?_, h1.trans ?_, h2.trans ?_, h3.trans ?_, hk⟩
  · rw [e1]; exact (val_main_v24_eq _).trans (grad m c).symm
  · rw [e0, e1, e2, e3]; exact (val_main_v25_eq _ _ _ _).trans (delta m c).symm
  · rw [e1, e2]; exact (val_main_v26_eq _ _).trans (new_m m c).symm
  · rw [e1, e3]; exact (val_main_v27_eq _ _).trans (new_v m c).symm

end Cert.OptConvW

end
-- ==== Proof.OptConvB.lean ====
/-
  AdamW's step for the convolution's bias: the gradient is passed on, the change of the weight and the two new moments are the reference's.
-/
module

public import proofs.«01_k».proof.Defs
public import proofs.«01_k».proof.Proof.Gen.OptConvBKernelIdeal.Frame
public import proofs.«01_k».proof.Proof.Gen.OptConvBKernelIdeal.Value
public import proofs.«01_k».proof.Proof.Gen.OptConvBReferenceIdeal
public import proofs.«01_k».proof.Proof.Gen.OptConvBReferenceIdeal.Run
public import proofs.«01_k».proof.Proof.Gen.OptConvBReferenceIdeal.Read
public import Idealize.ShloMosaic.Lib.Pipeline.ReadBack
public import Idealize.ShloMosaic.Lib.Pipeline.ValueKit
public import Idealize.ShloMosaic.Lib.Pointwise

@[expose] public section

noncomputable section

namespace Cert.OptConvB

open Idealize.ShloMosaic Idealize.ShloMosaic.TcCoe Idealize.SL.Sem
open Cert.OptConvBKernelIdeal Cert.OptConvBKernelIdeal.Gen
open Cert.OptConvBReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The gradient is kept. -/
theorem grad (c : Dev nD) : (dats m 0 c).arrAt 4 cfg0.N = (m ((c : Thread nD τ).loc main_arg1)) := by
  refine (dats m 0 c).arrAt_eq_of_covers 4 _ (by decide +kernel) fun t _ y => ?_
  blk_simp
  rw [after0_4]
  frame_out
  unfold_payloads
  pointwise
  blk_point [iblk, V, idx t]

/-- The change of the weight. -/
theorem delta (c : Dev nD) : (dats m 0 c).arrAt 5 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  rw [← val_main_v23_eq]
  unfold_payloads
  pointwise
  blk_point [iblk, V, idx t]

/-- The new first moment. -/
theorem new_m (c : Dev nD) : (dats m 0 c).arrAt 6 cfg0.N = val_main_v4 (F := Ideal) (m ((c : Thread nD τ).loc main_arg1)) (m ((c : Thread nD τ).loc main_arg2)) := by
  refine (dats m 0 c).arrAt_eq_of_covers 6 _ (by decide +kernel) fun t _ y => ?_
  blk_simp
  rw [after0_6]
  frame_out
  rw [← val_main_v4_eq]
  unfold_payloads
  pointwise
  blk_point [iblk, V, idx t]

/-- The new second moment. -/
theorem new_v (c : Dev nD) : (dats m 0 c).arrAt 7 cfg0.N = val_main_v10 (F := Ideal) (m ((c : Thread nD τ).loc main_arg1)) (m ((c : Thread nD τ).loc main_arg3)) := by
  refine (dats m 0 c).arrAt_eq_of_covers 7 _ (by decide +kernel) fun t _ y => ?_
  blk_simp
  rw [after0_7]
  frame_out
  rw [← val_main_v10_eq]
  unfold_payloads
  pointwise
  blk_point [iblk, V, idx t]

/-- The reference runs, keeps its arguments, and declares no semaphore that could end nonzero. -/
theorem frame_reference : Cert.quiescent_OptConvBReferenceIdeal (hOptConvBReferenceIdeal := Cert.OptConvBReferenceIdeal.Gen.facts) :=
  fun m g _ => (θ_run (Cert.OptConvBReferenceIdeal.defs (F := Ideal)) _ _).mono
    (fun r h => ⟨fun c => (h c).2.2.2.2, sem_eq_zero_of_no_sems (by decide) r.2⟩)
    (Cert.OptConvBReferenceIdeal.Value.run (F := Ideal) m g)

/-- From equal arguments the kernel's results are the reference's. -/
theorem algebraic : Cert.algebraic_OptConvBKernelIdeal_OptConvBReferenceIdeal (hOptConvBKernelIdeal := Cert.OptConvBKernelIdeal.Gen.facts)
    (hOptConvBReferenceIdeal := Cert.OptConvBReferenceIdeal.Gen.facts) := by
  intro m g m' g' _ hargs
  refine ⟨_, _, _, _, Cert.OptConvBKernelIdeal.Value.run_blocks (F := Ideal) m g, ?_⟩
  refine (θ_run (Cert.OptConvBReferenceIdeal.defs (F := Ideal)) _ _).mono (fun r h c => ?_)
    (Cert.OptConvBReferenceIdeal.Value.run (F := Ideal) m' g')
  obtain ⟨h0, h1, h2, h3, hk⟩ := h c
  obtain ⟨e0, e1, e2, e3⟩ := hargs c
  refine ⟨h0.trans ?_, h1.trans ?_, h2.trans ?_, h3.trans ?_, hk⟩
  · rw [e1]; exact (grad m c).symm
  · rw [e0, e1, e2, e3]; exact (val_main_v23_eq _ _ _ _).trans (delta m c).symm
  · rw [e1, e2]; exact (val_main_v4_eq _ _).trans (new_m m c).symm
  · rw [e1, e3]; exact (val_main_v10_eq _ _).trans (new_v m c).symm

end Cert.OptConvB

end
-- ==== Proof.OptDt.lean ====
/-
  AdamW's step for the per-head vectors of the third branch: the gradient is passed on, the change of the weight and the two new moments are the reference's.
-/
module

public import proofs.«01_k».proof.Defs
public import proofs.«01_k».proof.Proof.Gen.OptDtKernelIdeal.Frame
public import proofs.«01_k».proof.Proof.Gen.OptDtKernelIdeal.Value
public import proofs.«01_k».proof.Proof.Gen.OptDtReferenceIdeal
public import proofs.«01_k».proof.Proof.Gen.OptDtReferenceIdeal.Run
public import proofs.«01_k».proof.Proof.Gen.OptDtReferenceIdeal.Read
public import Idealize.ShloMosaic.Lib.Pipeline.ReadBack
public import Idealize.ShloMosaic.Lib.Pipeline.ValueKit
public import Idealize.ShloMosaic.Lib.Pointwise

@[expose] public section

noncomputable section

namespace Cert.OptDt

open Idealize.ShloMosaic Idealize.ShloMosaic.TcCoe Idealize.SL.Sem
open Cert.OptDtKernelIdeal Cert.OptDtKernelIdeal.Gen
open Cert.OptDtReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The gradient is kept. -/
theorem grad (c : Dev nD) : (dats m 0 c).arrAt 4 cfg0.N = (m ((c : Thread nD τ).loc main_arg1)) := by
  refine (dats m 0 c).arrAt_eq_of_covers 4 _ (by decide +kernel) fun t _ y => ?_
  blk_simp
  rw [after0_4]
  frame_out
  unfold_payloads
  pointwise
  blk_point [iblk, V, idx t]

/-- The change of the weight. -/
theorem delta (c : Dev nD) : (dats m 0 c).arrAt 5 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  rw [← val_main_v23_eq]
  unfold_payloads
  pointwise
  blk_point [iblk, V, idx t]

/-- The new first moment. -/
theorem new_m (c : Dev nD) : (dats m 0 c).arrAt 6 cfg0.N = val_main_v4 (F := Ideal) (m ((c : Thread nD τ).loc main_arg1)) (m ((c : Thread nD τ).loc main_arg2)) := by
  refine (dats m 0 c).arrAt_eq_of_covers 6 _ (by decide +kernel) fun t _ y => ?_
  blk_simp
  rw [after0_6]
  frame_out
  rw [← val_main_v4_eq]
  unfold_payloads
  pointwise
  blk_point [iblk, V, idx t]

/-- The new second moment. -/
theorem new_v (c : Dev nD) : (dats m 0 c).arrAt 7 cfg0.N = val_main_v10 (F := Ideal) (m ((c : Thread nD τ).loc main_arg1)) (m ((c : Thread nD τ).loc main_arg3)) := by
  refine (dats m 0 c).arrAt_eq_of_covers 7 _ (by decide +kernel) fun t _ y => ?_
  blk_simp
  rw [after0_7]
  frame_out
  rw [← val_main_v10_eq]
  unfold_payloads
  pointwise
  blk_point [iblk, V, idx t]

/-- The reference runs, keeps its arguments, and declares no semaphore that could end nonzero. -/
theorem frame_reference : Cert.quiescent_OptDtReferenceIdeal (hOptDtReferenceIdeal := Cert.OptDtReferenceIdeal.Gen.facts) :=
  fun m g _ => (θ_run (Cert.OptDtReferenceIdeal.defs (F := Ideal)) _ _).mono
    (fun r h => ⟨fun c => (h c).2.2.2.2, sem_eq_zero_of_no_sems (by decide) r.2⟩)
    (Cert.OptDtReferenceIdeal.Value.run (F := Ideal) m g)

/-- From equal arguments the kernel's results are the reference's. -/
theorem algebraic : Cert.algebraic_OptDtKernelIdeal_OptDtReferenceIdeal (hOptDtKernelIdeal := Cert.OptDtKernelIdeal.Gen.facts)
    (hOptDtReferenceIdeal := Cert.OptDtReferenceIdeal.Gen.facts) := by
  intro m g m' g' _ hargs
  refine ⟨_, _, _, _, Cert.OptDtKernelIdeal.Value.run_blocks (F := Ideal) m g, ?_⟩
  refine (θ_run (Cert.OptDtReferenceIdeal.defs (F := Ideal)) _ _).mono (fun r h c => ?_)
    (Cert.OptDtReferenceIdeal.Value.run (F := Ideal) m' g')
  obtain ⟨h0, h1, h2, h3, hk⟩ := h c
  obtain ⟨e0, e1, e2, e3⟩ := hargs c
  refine ⟨h0.trans ?_, h1.trans ?_, h2.trans ?_, h3.trans ?_, hk⟩
  · rw [e1]; exact (grad m c).symm
  · rw [e0, e1, e2, e3]; exact (val_main_v23_eq _ _ _ _).trans (delta m c).symm
  · rw [e1, e2]; exact (val_main_v4_eq _ _).trans (new_m m c).symm
  · rw [e1, e3]; exact (val_main_v10_eq _ _).trans (new_v m c).symm

end Cert.OptDt

end
-- ==== Proof.OptSsdNorm.lean ====
/-
  AdamW's step for the norm of the third branch: the gradient is passed on, the change of the weight and the two new moments are the reference's.
-/
module

public import proofs.«01_k».proof.Defs
public import proofs.«01_k».proof.Proof.Gen.OptSsdNormKernelIdeal.Frame
public import proofs.«01_k».proof.Proof.Gen.OptSsdNormKernelIdeal.Value
public import proofs.«01_k».proof.Proof.Gen.OptSsdNormReferenceIdeal
public import proofs.«01_k».proof.Proof.Gen.OptSsdNormReferenceIdeal.Run
public import proofs.«01_k».proof.Proof.Gen.OptSsdNormReferenceIdeal.Read
public import Idealize.ShloMosaic.Lib.Pipeline.ReadBack
public import Idealize.ShloMosaic.Lib.Pipeline.ValueKit
public import Idealize.ShloMosaic.Lib.Pointwise

@[expose] public section

noncomputable section

namespace Cert.OptSsdNorm

open Idealize.ShloMosaic Idealize.ShloMosaic.TcCoe Idealize.SL.Sem
open Cert.OptSsdNormKernelIdeal Cert.OptSsdNormKernelIdeal.Gen
open Cert.OptSsdNormReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The gradient is kept. -/
theorem grad (c : Dev nD) : (dats m 0 c).arrAt 4 cfg0.N = (m ((c : Thread nD τ).loc main_arg1)) := by
  refine (dats m 0 c).arrAt_eq_of_covers 4 _ (by decide +kernel) fun t _ y => ?_
  blk_simp
  rw [after0_4]
  frame_out
  unfold_payloads
  pointwise
  blk_point [iblk, V, idx t]

/-- The change of the weight. -/
theorem delta (c : Dev nD) : (dats m 0 c).arrAt 5 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  rw [← val_main_v23_eq]
  unfold_payloads
  pointwise
  blk_point [iblk, V, idx t]

/-- The new first moment. -/
theorem new_m (c : Dev nD) : (dats m 0 c).arrAt 6 cfg0.N = val_main_v4 (F := Ideal) (m ((c : Thread nD τ).loc main_arg1)) (m ((c : Thread nD τ).loc main_arg2)) := by
  refine (dats m 0 c).arrAt_eq_of_covers 6 _ (by decide +kernel) fun t _ y => ?_
  blk_simp
  rw [after0_6]
  frame_out
  rw [← val_main_v4_eq]
  unfold_payloads
  pointwise
  blk_point [iblk, V, idx t]

/-- The new second moment. -/
theorem new_v (c : Dev nD) : (dats m 0 c).arrAt 7 cfg0.N = val_main_v10 (F := Ideal) (m ((c : Thread nD τ).loc main_arg1)) (m ((c : Thread nD τ).loc main_arg3)) := by
  refine (dats m 0 c).arrAt_eq_of_covers 7 _ (by decide +kernel) fun t _ y => ?_
  blk_simp
  rw [after0_7]
  frame_out
  rw [← val_main_v10_eq]
  unfold_payloads
  pointwise
  blk_point [iblk, V, idx t]

/-- The reference runs, keeps its arguments, and declares no semaphore that could end nonzero. -/
theorem frame_reference : Cert.quiescent_OptSsdNormReferenceIdeal (hOptSsdNormReferenceIdeal := Cert.OptSsdNormReferenceIdeal.Gen.facts) :=
  fun m g _ => (θ_run (Cert.OptSsdNormReferenceIdeal.defs (F := Ideal)) _ _).mono
    (fun r h => ⟨fun c => (h c).2.2.2.2, sem_eq_zero_of_no_sems (by decide) r.2⟩)
    (Cert.OptSsdNormReferenceIdeal.Value.run (F := Ideal) m g)

/-- From equal arguments the kernel's results are the reference's. -/
theorem algebraic : Cert.algebraic_OptSsdNormKernelIdeal_OptSsdNormReferenceIdeal (hOptSsdNormKernelIdeal := Cert.OptSsdNormKernelIdeal.Gen.facts)
    (hOptSsdNormReferenceIdeal := Cert.OptSsdNormReferenceIdeal.Gen.facts) := by
  intro m g m' g' _ hargs
  refine ⟨_, _, _, _, Cert.OptSsdNormKernelIdeal.Value.run_blocks (F := Ideal) m g, ?_⟩
  refine (θ_run (Cert.OptSsdNormReferenceIdeal.defs (F := Ideal)) _ _).mono (fun r h c => ?_)
    (Cert.OptSsdNormReferenceIdeal.Value.run (F := Ideal) m' g')
  obtain ⟨h0, h1, h2, h3, hk⟩ := h c
  obtain ⟨e0, e1, e2, e3⟩ := hargs c
  refine ⟨h0.trans ?_, h1.trans ?_, h2.trans ?_, h3.trans ?_, hk⟩
  · rw [e1]; exact (grad m c).symm
  · rw [e0, e1, e2, e3]; exact (val_main_v23_eq _ _ _ _).trans (delta m c).symm
  · rw [e1, e2]; exact (val_main_v4_eq _ _).trans (new_m m c).symm
  · rw [e1, e3]; exact (val_main_v10_eq _ _).trans (new_v m c).symm

end Cert.OptSsdNorm

end
-- ==== Proof.SumSmall.lean ====
/-
  The sum of the devices' packed small gradients.
-/
module

public import proofs.«01_k».proof.Defs
public import proofs.«01_k».proof.Proof.Gen.SumSmallKernelIdeal.Frame
public import proofs.«01_k».proof.Proof.Gen.SumSmallKernelIdeal.Value
public import proofs.«01_k».proof.Proof.Gen.SumSmallReferenceIdeal
public import proofs.«01_k».proof.Proof.Gen.SumSmallReferenceIdeal.Run
public import proofs.«01_k».proof.Proof.Gen.SumSmallReferenceIdeal.Read
public import Idealize.ShloMosaic.Lib.Pipeline.ReadBack
public import Idealize.ShloMosaic.Lib.Pipeline.ValueKit
public import Idealize.ShloMosaic.Lib.Pointwise

@[expose] public section

noncomputable section

namespace Cert.SumSmall

open Idealize.ShloMosaic Idealize.ShloMosaic.TcCoe Idealize.SL.Sem
open Cert.SumSmallKernelIdeal Cert.SumSmallKernelIdeal.Gen
open Cert.SumSmallReferenceIdeal.Read

variable (m : (ℓ : Loc nD τ sig) → Buf (Elt Ideal) ℓ)

/-- The blocks the windows read and write at point `t`. -/
theorem idx : ∀ t : Fin cfg0.N, win0_0.index t = ![0, t.val, 0] ∧ win0_1.index t = ![t.val, 0] :=
  (by decide +kernel : ∀ t : Fin grid0.N, _)

/-- The sum. -/
theorem value (c : Dev nD) : (dats m 0 c).arrAt 1 cfg0.N = val_main_v0 (F := Ideal) (m ((c : Thread nD τ).loc main_arg0)) := by
  refine (dats m 0 c).arrAt_eq_of_covers 1 _ (by decide +kernel) fun t _ y => ?_
  blk_simp
  rw [after0_1]
  frame_out
  rw [val_main_v0_apply, Fin.sum_univ_eight]
  unfold_payloads
  pointwise [val_main_cst]
  blk_point [iblk, V, idx t]

/-- The reference runs, keeps its arguments, and declares no semaphore that could end nonzero. -/
theorem frame_reference : Cert.quiescent_SumSmallReferenceIdeal (hSumSmallReferenceIdeal := Cert.SumSmallReferenceIdeal.Gen.facts) :=
  fun m g _ => (θ_run (Cert.SumSmallReferenceIdeal.defs (F := Ideal)) _ _).mono
    (fun r h => ⟨fun c => (h c).2, sem_eq_zero_of_no_sems (by decide) r.2⟩)
    (Cert.SumSmallReferenceIdeal.Value.run (F := Ideal) m g)

/-- From equal arguments the kernel's results are the reference's. -/
theorem algebraic : Cert.algebraic_SumSmallKernelIdeal_SumSmallReferenceIdeal (hSumSmallKernelIdeal := Cert.SumSmallKernelIdeal.Gen.facts)
    (hSumSmallReferenceIdeal := Cert.SumSmallReferenceIdeal.Gen.facts) := by
  intro m g m' g' _ hargs
  refine ⟨_, Cert.SumSmallKernelIdeal.Value.run_blocks (F := Ideal) m g, ?_⟩
  refine (θ_run (Cert.SumSmallReferenceIdeal.defs (F := Ideal)) _ _).mono (fun r h c => ?_)
    (Cert.SumSmallReferenceIdeal.Value.run (F := Ideal) m' g')
  obtain ⟨h0, hk⟩ := h c
  have e0 := hargs c
  refine ⟨h0.trans ?_, hk⟩
  · rw [e0]; exact (val_main_v0_eq _).trans (value m c).symm

end Cert.SumSmall

end
-- ==== Proof.LossHead.lean ====
/-
  The loss and its gradient, over the reals: half the sum over the tokens of the mean square distance to the target.

  The kernel walks over 16 blocks of 512 tokens. At each it writes the rows of the gradient, and adds the squares of every
  eighth row to one of eight rows of a buffer, which it clears at the first block; at the last one it sums the buffer and
  scales the sum. The reference takes each token's mean, sums over all tokens, and halves.
-/
module

public import proofs.«01_k».proof.Defs
public import proofs.«01_k».proof.Proof.Gen.LossHeadKernelIdeal.Frame
public import proofs.«01_k».proof.Proof.Gen.LossHeadKernelIdeal.Value
public import proofs.«01_k».proof.Proof.Gen.LossHeadReferenceIdeal
public import proofs.«01_k».proof.Proof.Gen.LossHeadReferenceIdeal.Run
public import proofs.«01_k».proof.Proof.Gen.LossHeadReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.LossHead

open Cert.LossHeadKernelIdeal Cert.LossHeadKernelIdeal.Gen Idealize.ShloMosaic Idealize.ShloMosaic.TcCoe Idealize.SL.Sem
open Idealize.ShloMosaic.Pipeline (Dat)
open Cert.LossHeadReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![t.val, 0] ∧ win0_2.index t = ![t.val, 0]
    ∧ win0_3.index t = ![0, 0] :=
  (by decide +kernel : ∀ t : Fin grid0.N, _)

/-- The rows of the gradient are one and the same function of the blocks at every point. -/
theorem rows (c : Dev nD) (t : Fin cfg0.N) : (outsAt0 m c t.val t.isLt).1 = k0_pay3 (F := Ideal) (iblk m c 0 t) (iblk m c 1 t) := by
  by_cases h : t.val % 16 = 0
  · rw [outsAt0_A m c t h (by omega)]; frame_out
  · by_cases h1 : t.val % 16 = 15
    · rw [outsAt0_C m c t h h1]; frame_out
    · rw [outsAt0_B m c t h h1]; frame_out

/-! ## The constants, and a constant drawn out of a sum -/

theorem bits_half : (Ideal.ofBits FTy.f32 0x3F000000#32 : EReal) = ((1 / 2 : ℝ) : EReal) := by
  simp [Ideal.ofBits, Ideal.ieee]; rw [← EReal.coe_mul]; norm_num
theorem bits_two : (Ideal.ofBits FTy.f32 0x40000000#32 : EReal) = ((2 : ℝ) : EReal) := by
  simp [Ideal.ofBits, Ideal.ieee]; rw [← EReal.coe_mul]; norm_num
theorem bits_width : (Ideal.ofBits FTy.f32 0x44800000#32 : EReal) = ((1024 : ℝ) : EReal) := by
  simp [Ideal.ofBits, Ideal.ieee]; rw [← EReal.coe_mul]; norm_num
theorem bits_mean : (Ideal.ofBits FTy.f32 0x3A800000#32 : EReal) = ((1 / 1024 : ℝ) : EReal) := by
  simp [Ideal.ofBits, Ideal.ieee]; rw [← EReal.coe_mul]; norm_num
theorem bits_half_mean : (Ideal.ofBits FTy.f32 0x3A000000#32 : EReal) = ((1 / 2048 : ℝ) : EReal) := by
  simp [Ideal.ofBits, Ideal.ieee]; rw [← EReal.coe_mul]; norm_num

/-- A mean over the width is a product with a constant. -/
theorem mean (x : EReal) : Ideal.div x ((1024 : ℝ) : EReal) = ((1 / 1024 : ℝ) : EReal) * x := by
  unfold Ideal.div
  rw [if_neg (by exact_mod_cast (by norm_num : (1024 : ℝ) ≠ 0)), ← EReal.coe_inv, mul_comm, one_div]

/-- A nonnegative real constant distributes over a sum. -/
theorem const_mul_sum {ι : Type} (r : ℝ) (hr : 0 ≤ r) (s : Finset ι) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

/-- The rows of the 16 blocks, every eighth together, are all the rows. -/
theorem regroup (g : Fin 8192 → Fin 1024 → EReal) :
    ∑ a : Fin 8, ∑ b : Fin 1024, ∑ s : Fin 16, ∑ k : Fin 64, g ⟨s.val * 512 + (k.val * 8 + a.val), by omega⟩ b
      = ∑ r : Fin 8192, ∑ b : Fin 1024, g r b := by
  rw [← Fin.sum_mul_add_fin 16 512 (fun r : Fin 8192 => ∑ b : Fin 1024, g r b)]
  have inner (s : Fin 16) : ∑ l : Fin 512, ∑ b : Fin 1024, g ⟨s.val * 512 + l.val, by omega⟩ b
      = ∑ k : Fin 64, ∑ a : Fin 8, ∑ b : Fin 1024, g ⟨s.val * 512 + (k.val * 8 + a.val), by omega⟩ b :=
    (Fin.sum_mul_add_fin 64 8 (fun l : Fin 512 => ∑ b : Fin 1024, g ⟨s.val * 512 + l.val, by omega⟩ b)).symm
  rw [Finset.sum_congr rfl fun s _ => inner s]
  calc _ = ∑ a : Fin 8, ∑ s : Fin 16, ∑ k : Fin 64, ∑ b : Fin 1024, g ⟨s.val * 512 + (k.val * 8 + a.val), by omega⟩ b :=
        Finset.sum_congr rfl fun a _ => Finset.sum_comm.trans (Finset.sum_congr rfl fun s _ => Finset.sum_comm)
    _ = _ := Finset.sum_comm.trans (Finset.sum_congr rfl fun s _ => Finset.sum_comm)

/-- Half the sum of the means is the scaled sum of all squares. -/
theorem halves (g : Fin 8192 → Fin 1024 → EReal) : Ideal.ofBits FTy.f32 0x3A000000#32 * ∑ r, ∑ b, g r b
    = Ideal.ofBits FTy.f32 0x3F000000#32 * ∑ r, Ideal.div (∑ b, g r b) (Ideal.ofBits FTy.f32 0x44800000#32) := by
  rw [bits_half_mean, bits_half, bits_width, Finset.sum_congr rfl fun r _ => mean (∑ b, g r b),
    ← const_mul_sum (1 / 1024) (by norm_num), ← mul_assoc, ← EReal.coe_mul]
  norm_num

/-! ## The gradient -/

/-- What the reference computes at an element of the gradient, and what the kernel does. -/
theorem scaled (d : EReal) : d * Ideal.ofBits FTy.f32 0x3A800000#32
    = Ideal.div (Ideal.ofBits FTy.f32 0x3F000000#32) (Ideal.ofBits FTy.f32 0x44800000#32) * (Ideal.ofBits FTy.f32 0x40000000#32 * d) := by
  rw [bits_mean, bits_half, bits_width, bits_two, mean, ← mul_assoc, ← EReal.coe_mul, ← EReal.coe_mul, mul_comm]
  norm_num

/-- The gradient of the loss. -/
theorem gradient (c : Dev nD) : (dats m 0 c).arrAt 2 cfg0.N
    = val_main_v14 (F := Ideal) (m ((c : Thread nD τ).loc main_arg0)) (m ((c : Thread nD τ).loc main_arg1)) := by
  refine (dats m 0 c).arrAt_eq_of_covers 2 _ (by decide +kernel) fun t _ y => ?_
  blk_simp
  rw [after0_2, rows, ← val_main_v14_eq]
  unfold_payloads
  pointwise
  refine (scaled _).trans ?_
  blk_point [iblk, V, idx t]

/-! ## The loss -/

/-- The buffer is cleared with zeros. -/
theorem cleared (j : S8x1024.Idx) : k0_pay1 (F := Ideal) j = 0 := by pointwise [k0_pay1]

/-- The square of the distance at an element. -/
abbrev sq (x t : EReal) : EReal := (x - t) * (x - t)

/-- The squares of every eighth of 512 rows, from row `a` on. -/
def eighth (x t : FVec Ideal S512x1024 .f32) (a : Fin 8) (b : Fin 1024) : EReal :=
  ∑ k : Fin 64, sq (x (ix2 ⟨k.val * 8 + a.val, by omega⟩ b)) (t (ix2 ⟨k.val * 8 + a.val, by omega⟩ b))

/-- One step adds them to the buffer. -/
theorem step (x t : FVec Ideal S512x1024 .f32) (acc : FVec Ideal S8x1024 .f32) (j : S8x1024.Idx) :
    k0_pay4 (F := Ideal) x t acc j = acc j + eighth x t (j 0) (j 1) := by
  pointwise [k0_pay4, k0_pay2]
  rfl

/-- What is written at the last step is the buffer's sum, scaled, in every place. -/
theorem scaled_sum (v : FVec Ideal S8x1024 .f32) (j : S8x128.Idx) :
    k0_pay5 (F := Ideal) v j = Ideal.ofBits FTy.f32 0x3A000000#32 * ∑ a : Fin 8, ∑ b : Fin 1024, v (ix2 a b) := by
  pointwise [k0_pay5]

/-- The elements of the blocks in the arrays they are cut from. -/
theorem elem0 (c : Dev nD) (t : Fin cfg0.N) (k : Fin 512) (b : Fin 1024) (r : Fin 8192) (hr : r.val = t.val * 512 + k.val) :
    iblk m c 0 t (ix2 k b) = m ((c : Thread nD τ).loc main_arg0) (ix2 r b) := by
  blk_point [iblk, V, idx t]
theorem elem1 (c : Dev nD) (t : Fin cfg0.N) (k : Fin 512) (b : Fin 1024) (r : Fin 8192) (hr : r.val = t.val * 512 + k.val) :
    iblk m c 1 t (ix2 k b) = m ((c : Thread nD τ).loc main_arg1) (ix2 r b) := by
  blk_point [iblk, V, idx t]

/-- The square of the distance at row `r` and column `b`. -/
def dist (c : Dev nD) (r : Fin 8192) (b : Fin 1024) : EReal :=
  sq (m ((c : Thread nD τ).loc main_arg0) (ix2 r b)) (m ((c : Thread nD τ).loc main_arg1) (ix2 r b))

/-- The buffer at the last step. -/
theorem held (c : Dev nD) (t : Fin cfg0.N) (h15 : t.val % 16 = 15) (a : Fin 8) (b : Fin 1024) :
    (outsAt0 m c t.val t.isLt).2.2 (ix2 a b)
      = ∑ s : Fin 16, ∑ k : Fin 64, dist m c ⟨s.val * 512 + (k.val * 8 + a.val), by omega⟩ b := by
  refine (Pipeline.eq_sum_fin_of_reset_step_apply_of_flush (fun n h => (outsAt0 m c n h).2.2) 16 (fun _ => 0)
      (fun t j => eighth (iblk m c 0 t) (iblk m c 1 t) (j 0) (j 1))
      (fun t h j => by rw [outsAt0_A m c t h (by omega)]; frame_out; rw [step, cleared])
      (fun t h j => by
        by_cases h1 : t.val % 16 = 15
        · rw [outsAt0_C m c t h h1]; frame_out; rw [step, read_unread_whole]
        · rw [outsAt0_B m c t h h1]; frame_out; rw [step, read_unread_whole])
      t h15 (ix2 a b)).trans ((zero_add _).trans (Finset.sum_congr rfl fun s _ => Finset.sum_congr rfl fun k _ => ?_))
  have ht : t.val < 16 := t.isLt
  exact congr_arg₂ sq (elem0 m c _ _ b _ (by simp only [ix2]; omega)) (elem1 m c _ _ b _ (by simp only [ix2]; omega))

/-- The loss, in every place of its array. -/
theorem loss (c : Dev nD) : (dats m 0 c).arrAt 3 cfg0.N
    = val_main_v15 (F := Ideal) (m ((c : Thread nD τ).loc main_arg0)) (m ((c : Thread nD τ).loc main_arg1)) := by
  refine (dats m 0 c).arrAt_eq_of_covers 3 _ (by decide +kernel) fun t hf y => ?_
  have h15 := (flush0_3 t).mp hf
  blk_simp
  have last : (outsAt0 m c t.val t.isLt).2.1 = k0_pay5 (F := Ideal) (outsAt0 m c t.val t.isLt).2.2 := by
    rw [outsAt0_C m c t (by omega) h15]; frame_out
  rw [after0_3, last, scaled_sum, Finset.sum_congr rfl fun a _ => Finset.sum_congr rfl fun b _ => held m c t h15 a b,
    regroup (dist m c)]
  pointwise [val_main_v15, val_main_v8, val_main_v7, val_main_v6, val_main_v4, val_main_v5, val_main_v1, val_main_v0, val_main_cst_0, val_main_cst_1, val_main_cst_2, val_main_cst_3]
  exact halves (dist m c)

/-- The reference runs, keeps its arguments, and declares no semaphore that could end nonzero. -/
theorem frame_reference : Cert.quiescent_LossHeadReferenceIdeal (hLossHeadReferenceIdeal := Cert.LossHeadReferenceIdeal.Gen.facts) :=
  fun m g _ => (θ_run (Cert.LossHeadReferenceIdeal.defs (F := Ideal)) _ _).mono
    (fun r h => ⟨fun c => (h c).2.2, sem_eq_zero_of_no_sems (by decide) r.2⟩)
    (Cert.LossHeadReferenceIdeal.Value.run (F := Ideal) m g)

/-- From equal arguments the kernel's gradient and loss are the reference's. -/
theorem algebraic : Cert.algebraic_LossHeadKernelIdeal_LossHeadReferenceIdeal (hLossHeadKernelIdeal := Cert.LossHeadKernelIdeal.Gen.facts)
    (hLossHeadReferenceIdeal := Cert.LossHeadReferenceIdeal.Gen.facts) := by
  intro m g m' g' _ hargs
  refine ⟨_, _, Cert.LossHeadKernelIdeal.Value.run_blocks (F := Ideal) m g, ?_⟩
  refine (θ_run (Cert.LossHeadReferenceIdeal.defs (F := Ideal)) _ _).mono (fun r h c => ?_)
    (Cert.LossHeadReferenceIdeal.Value.run (F := Ideal) m' g')
  obtain ⟨h0, h1, hk⟩ := h c
  obtain ⟨e0, e1⟩ := hargs c
  refine ⟨h0.trans ?_, h1.trans ?_, hk⟩
  · rw [e0, e1]; exact (val_main_v14_eq _ _).trans (gradient m c).symm
  · rw [e0, e1]; exact (val_main_v15_eq _ _).trans (loss m c).symm

end Cert.LossHead

end
-- ==== Proof.NormF.lean ====
/-
  The norm at the head of a layer: the kernel's result array is the reference's, over the reals.

  Every point of the grid normalises a block of 512 rows; a row is read whole, so its mean square is taken in one block.
-/
module

public import proofs.«01_k».proof.Defs
public import proofs.«01_k».proof.Proof.Gen.NormFKernelIdeal.Frame
public import proofs.«01_k».proof.Proof.Gen.NormFKernelIdeal.Value
public import proofs.«01_k».proof.Proof.Gen.NormFReferenceIdeal
public import proofs.«01_k».proof.Proof.Gen.NormFReferenceIdeal.Run
public import proofs.«01_k».proof.Proof.Gen.NormFReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.NormF

open Cert.NormFKernelIdeal Cert.NormFKernelIdeal.Gen Idealize.ShloMosaic Idealize.ShloMosaic.TcCoe Idealize.SL.Sem
open Idealize.ShloMosaic.Pipeline (Dat)
open Cert.NormFReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![0, 0] ∧ win0_2.index t = ![t.val, 0] :=
  (by decide +kernel : ∀ t : Fin grid0.N, _)

/-- The result array after the run. -/
theorem value (c : Dev nD) : (dats m 0 c).arrAt 2 cfg0.N = val_main_v13 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  rw [← val_main_v13_eq]
  unfold_payloads
  pointwise
  blk_point [iblk, V, idx t]

/-- The reference runs, keeps its arguments, and declares no semaphore that could end nonzero. -/
theorem frame_reference : Cert.quiescent_NormFReferenceIdeal (hNormFReferenceIdeal := Cert.NormFReferenceIdeal.Gen.facts) :=
  fun m g _ => (θ_run (Cert.NormFReferenceIdeal.defs (F := Ideal)) _ _).mono
    (fun r h => ⟨fun c => (h c).2, sem_eq_zero_of_no_sems (by decide) r.2⟩)
    (Cert.NormFReferenceIdeal.Value.run (F := Ideal) m g)

/-- From equal arguments the kernel's result is the reference's. -/
theorem algebraic : Cert.algebraic_NormFKernelIdeal_NormFReferenceIdeal (hNormFKernelIdeal := Cert.NormFKernelIdeal.Gen.facts)
    (hNormFReferenceIdeal := Cert.NormFReferenceIdeal.Gen.facts) := by
  intro m g m' g' _ hargs
  refine ⟨_, Cert.NormFKernelIdeal.Value.run_blocks (F := Ideal) m g, ?_⟩
  refine (θ_run (Cert.NormFReferenceIdeal.defs (F := Ideal)) _ _).mono (fun r h c => ?_)
    (Cert.NormFReferenceIdeal.Value.run (F := Ideal) m' g')
  obtain ⟨h0, hk⟩ := h c
  obtain ⟨e0, e1⟩ := hargs c
  refine ⟨h0.trans ?_, hk⟩
  rw [e0, e1]
  exact (val_main_v13_eq _ _).trans (value m c).symm

end Cert.NormF

end
-- ==== Proof.MergeF.lean ====
/-
  The gated merge of the three branches: the kernel's result array is the reference's, over the reals.

  Every point of the grid merges a block of 256 rows; the three gates of an element stand in three column bands of one row.
-/
module

public import proofs.«01_k».proof.Defs
public import proofs.«01_k».proof.Proof.Gen.MergeFKernelIdeal.Frame
public import proofs.«01_k».proof.Proof.Gen.MergeFKernelIdeal.Value
public import proofs.«01_k».proof.Proof.Gen.MergeFReferenceIdeal
public import proofs.«01_k».proof.Proof.Gen.MergeFReferenceIdeal.Run
public import proofs.«01_k».proof.Proof.Gen.MergeFReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.MergeF

open Cert.MergeFKernelIdeal Cert.MergeFKernelIdeal.Gen Idealize.ShloMosaic Idealize.ShloMosaic.TcCoe Idealize.SL.Sem
open Idealize.ShloMosaic.Pipeline (Dat)
open Cert.MergeFReferenceIdeal.Read

variable (m : (ℓ : Loc nD τ sig) → Buf (Elt Ideal) ℓ)

/-- Every window's block at point `t` is the `t`-th block of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] :=
  (by decide +kernel : ∀ t : Fin grid0.N, _)

/-- The result array after the run. -/
theorem value (c : Dev nD) : (dats m 0 c).arrAt 4 cfg0.N = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  rw [← val_main_v18_eq]
  unfold_payloads
  pointwise [Ideal.logistic]
  blk_point [iblk, V, idx t]

/-- The reference runs, keeps its arguments, and declares no semaphore that could end nonzero. -/
theorem frame_reference : Cert.quiescent_MergeFReferenceIdeal (hMergeFReferenceIdeal := Cert.MergeFReferenceIdeal.Gen.facts) :=
  fun m g _ => (θ_run (Cert.MergeFReferenceIdeal.defs (F := Ideal)) _ _).mono
    (fun r h => ⟨fun c => (h c).2, sem_eq_zero_of_no_sems (by decide) r.2⟩)
    (Cert.MergeFReferenceIdeal.Value.run (F := Ideal) m g)

/-- From equal arguments the kernel's result is the reference's. -/
theorem algebraic : Cert.algebraic_MergeFKernelIdeal_MergeFReferenceIdeal (hMergeFKernelIdeal := Cert.MergeFKernelIdeal.Gen.facts)
    (hMergeFReferenceIdeal := Cert.MergeFReferenceIdeal.Gen.facts) := by
  intro m g m' g' _ hargs
  refine ⟨_, Cert.MergeFKernelIdeal.Value.run_blocks (F := Ideal) m g, ?_⟩
  refine (θ_run (Cert.MergeFReferenceIdeal.defs (F := Ideal)) _ _).mono (fun r h c => ?_)
    (Cert.MergeFReferenceIdeal.Value.run (F := Ideal) m' g')
  obtain ⟨h0, hk⟩ := h c
  obtain ⟨e0, e1, e2, e3⟩ := hargs c
  refine ⟨h0.trans ?_, hk⟩
  rw [e0, e1, e2, e3]
  exact (val_main_v18_eq _ _ _ _).trans (value m c).symm

end Cert.MergeF

end
-- ==== Proof.GluF.lean ====
/-
  The gate of branch a: the kernel's result array is the reference's, over the reals.

  Every point of the grid gates a block of 512 rows. The second gate is the second half of the first 1024 columns of one
  array; the window that reads it is as wide as the half.
-/
module

public import proofs.«01_k».proof.Defs
public import proofs.«01_k».proof.Proof.Gen.GluFKernelIdeal.Frame
public import proofs.«01_k».proof.Proof.Gen.GluFKernelIdeal.Value
public import proofs.«01_k».proof.Proof.Gen.GluFReferenceIdeal
public import proofs.«01_k».proof.Proof.Gen.GluFReferenceIdeal.Run
public import proofs.«01_k».proof.Proof.Gen.GluFReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.GluF

open Cert.GluFKernelIdeal Cert.GluFKernelIdeal.Gen Idealize.ShloMosaic Idealize.ShloMosaic.TcCoe Idealize.SL.Sem
open Idealize.ShloMosaic.Pipeline (Dat)
open Cert.GluFReferenceIdeal.Read

variable (m : (ℓ : Loc nD τ sig) → Buf (Elt Ideal) ℓ)

/-- The blocks the windows read and write at point `t`. -/
theorem idx : ∀ t : Fin cfg0.N, win0_0.index t = ![t.val, 0] ∧ win0_1.index t = ![t.val, 0] ∧ win0_2.index t = ![t.val, 1]
    ∧ win0_3.index t = ![0, 0] ∧ win0_4.index t = ![t.val, 0] :=
  (by decide +kernel : ∀ t : Fin grid0.N, _)

/-- The block of the third window: rows of the second half of the first 1024 columns. -/
def half (c : Dev nD) (t : Fin cfg0.N) : FVec Ideal S512x512 .f32 := fun y =>
  m ((c : Thread nD τ).loc main_arg2) (ix2 ⟨t.val * 512 + (y 0).val, by have := lt_of_lt_of_eq t.isLt N_0; have := (y 0).isLt; dsimp at this; omega⟩
    ⟨512 + (y 1).val, by have := (y 1).isLt; dsimp at this; omega⟩)

/-- No block of the third window leaves its array, so the window holds exactly that block. -/
theorem window2 (c : Dev nD) (t : Fin cfg0.N) : X0_2 m c t = half m c t := by
  funext y
  unfold X0_2 Pipeline.Window.fill half
  rw [dif_pos (moved0_2 t y)]
  blk_point [iblk, V, idx t]

/-- The result array after the run. -/
theorem value (c : Dev nD) : (dats m 0 c).arrAt 4 cfg0.N = val_main_v13 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; unfold outsAt0; frame_out
  rw [window2, ← val_main_v13_eq]
  unfold_payloads
  pointwise [Ideal.logistic, half]
  blk_point [iblk, V, idx t]

/-- The reference runs, keeps its arguments, and declares no semaphore that could end nonzero. -/
theorem frame_reference : Cert.quiescent_GluFReferenceIdeal (hGluFReferenceIdeal := Cert.GluFReferenceIdeal.Gen.facts) :=
  fun m g _ => (θ_run (Cert.GluFReferenceIdeal.defs (F := Ideal)) _ _).mono
    (fun r h => ⟨fun c => (h c).2, sem_eq_zero_of_no_sems (by decide) r.2⟩)
    (Cert.GluFReferenceIdeal.Value.run (F := Ideal) m g)

/-- From equal arguments the kernel's result is the reference's. -/
theorem algebraic : Cert.algebraic_GluFKernelIdeal_GluFReferenceIdeal (hGluFKernelIdeal := Cert.GluFKernelIdeal.Gen.facts)
    (hGluFReferenceIdeal := Cert.GluFReferenceIdeal.Gen.facts) := by
  intro m g m' g' _ hargs
  refine ⟨_, Cert.GluFKernelIdeal.Value.run_blocks (F := Ideal) m g, ?_⟩
  refine (θ_run (Cert.GluFReferenceIdeal.defs (F := Ideal)) _ _).mono (fun r h c => ?_)
    (Cert.GluFReferenceIdeal.Value.run (F := Ideal) m' g')
  obtain ⟨h0, hk⟩ := h c
  obtain ⟨e0, e1, e2, e3⟩ := hargs c
  refine ⟨h0.trans ?_, hk⟩
  rw [e0, e1, e2, e3]
  exact (val_main_v13_eq _ _ _ _).trans (value m c).symm

end Cert.GluF

end
-- ==== Proof.Mixture.lean ====
/-
The mixture of three values weighted by the softmax of three log-denominators, one element at a time: the facts
over the extended reals that the two certificates of this layer use.

The kernel divides the weighted sum once by the total weight, the reference divides each weight; the kernel
differentiates through the maximum it subtracts, the reference does not. Both agree where the log-denominators
are finite (forward) and where everything is (gradient): the total weight is then a positive real number, and
the derivative that reaches the maximum is zero.
-/
module

public import Idealize.ShloMosaic.Lib.Pipeline.ValueKit
public import Idealize.ShloMosaic.Lib.Pointwise

@[expose] public section

noncomputable section

namespace Cert.Mixture

open Idealize.ShloMosaic

/-! ## Finite elements -/

theorem bit_and {a b : BitVec 1} (h : IntOp.andi a b = 1#1) : a = 1#1 ∧ b = 1#1 := by
  revert a b; decide

/-- What the precondition asks of one element. -/
abbrev finiteBit (x : EReal) : BitVec 1 :=
  IntOp.andi (FloatOps.cmpf (F := Ideal) (φ := .f32) CmpFPredicate.olt x (FloatOps.ofBits FTy.f32 2139095040#32))
    (FloatOps.cmpf (F := Ideal) (φ := .f32) CmpFPredicate.ogt x (FloatOps.ofBits FTy.f32 4286578688#32))

theorem ofBits_bot : (Ideal.ofBits FTy.f32 4286578688#32 : EReal) = ⊥ := by
  simp [Ideal.ofBits, Ideal.ieee]

theorem ofBits_top : (Ideal.ofBits FTy.f32 2139095040#32 : EReal) = ⊤ := by
  simp [Ideal.ofBits, Ideal.ieee]

/-- An element that passes is a real number. -/
theorem real_of_finite {x : EReal} (h : finiteBit x = 1#1) : ∃ r : ℝ, x = (r : EReal) := by
  obtain ⟨h1, h2⟩ := bit_and h
  induction x using EReal.rec with
  | bot => simp [FloatOps.cmpf, FloatOps.ofBits, ofBits_bot, Ideal.cmp] at h2
  | top => simp [FloatOps.cmpf, FloatOps.ofBits, ofBits_top, Ideal.cmp] at h1
  | coe r => exact ⟨r, rfl⟩

/-! ## The largest of three rows -/

/-- The host's maximum over a leading axis of three. -/
theorem reduce_max {n0 n1 : ℕ} (v : FVec Ideal ⟨3, ![3, n0, n1]⟩ .f32) (init : FVec Ideal ⟨0, ![]⟩ .f32)
    (h : (⟨3, ![3, n0, n1]⟩ : Shape).ReducesTo [0] ⟨2, ![n0, n1]⟩) (hu : 0 < (⟨0, ![]⟩ : Shape).numel) (j : (⟨2, ![n0, n1]⟩ : Shape).Idx) :
    Host.reduce FloatOps.maximumf v init h hu j
      = max (v (ix3 0 (j 0) (j 1))) (max (v (ix3 1 (j 0) (j 1))) (max (v (ix3 2 (j 0) (j 1))) (init (Shape.Idx.first hu)))) := by
  pointwise
  rw [show (Finset.univ : Finset (Fin 3)) = {0, 1, 2} from rfl, Finset.fold_insert (by decide), Finset.fold_insert (by decide),
    Finset.fold_singleton]

/-- Starting the maximum at minus infinity changes nothing. -/
theorem max_bits (a b c : EReal) :
    max a (max b (max c (Ideal.ofBits FTy.f32 4286578688#32))) = max (max a b) c := by
  rw [ofBits_bot, max_eq_left (bot_le : (⊥ : EReal) ≤ c), max_assoc]

/-! ## The weights -/

/-- The weight of a log-denominator `l` among `a`, `b`, `c`. -/
def weight (l a b c : EReal) : EReal := Ideal.exp (l - max (max a b) c)

theorem weight_real (l a b c : ℝ) : ∃ e : ℝ, 0 < e ∧ weight l a b c = (e : EReal) := by
  refine ⟨Real.exp (l - max (max a b) c), Real.exp_pos _, ?_⟩
  unfold weight
  rw [← EReal.coe_strictMono.monotone.map_max, ← EReal.coe_strictMono.monotone.map_max, ← EReal.coe_sub]
  rfl

/-- The three weights of real log-denominators. -/
theorem weights_real {l : Fin 3 → EReal} (h : ∀ k, ∃ r : ℝ, l k = r) :
    ∃ e : Fin 3 → ℝ, (∀ k, 0 < e k) ∧ ∀ k, weight (l k) (l 0) (l 1) (l 2) = (e k : EReal) := by
  choose r hr using h
  choose e he hw using fun k => weight_real (r k) (r 0) (r 1) (r 2)
  exact ⟨e, he, fun k => by rw [hr, hr, hr, hr, hw]⟩

theorem sigma_real (z : ℝ) : ∃ r : ℝ, Ideal.div 1 (1 + Ideal.exp (-(z : EReal))) = (r : EReal) :=
  ⟨_, Ideal.logistic_coe z⟩

/-! ## The weighted mean -/

/-- The weighted sum divided once is the sum of the values under the divided weights. -/
theorem mean {e : Fin 3 → ℝ} (he : ∀ k, 0 < e k) (o : Fin 3 → EReal) :
    Ideal.div ((e 0 : EReal) * o 0 + e 1 * o 1 + e 2 * o 2) ((e 0 : EReal) + e 1 + e 2)
      = 0 + ∑ k : Fin 3, Ideal.div (e k) (0 + ∑ k : Fin 3, (e k : EReal)) * o k := by
  have hpos : 0 < e 0 + e 1 + e 2 := add_pos (add_pos (he 0) (he 1)) (he 2)
  have hs : e 0 + e 1 + e 2 ≠ 0 := hpos.ne'
  have hp : (0 : EReal) ≤ ((1 / (e 0 + e 1 + e 2) : ℝ) : EReal) := EReal.coe_nonneg.mpr (by positivity)
  have ht : ((1 / (e 0 + e 1 + e 2) : ℝ) : EReal) ≠ ⊤ := EReal.coe_ne_top _
  simp only [Fin.sum_univ_three, zero_add, ← EReal.coe_add]
  rw [Ideal.div_coe hs, Ideal.div_coe hs, Ideal.div_coe hs, Ideal.div_coe hs, EReal.right_distrib_of_nonneg_of_ne_top hp ht,
    EReal.right_distrib_of_nonneg_of_ne_top hp ht]
  simp only [mul_assoc, mul_comm, mul_left_comm]

/-! ## The gradient -/

/-- The derivative with respect to the weight of the value `v`, as the kernel writes it. -/
def byWeight (e1 e2 e3 o1 o2 o3 g v : EReal) : EReal :=
  (0 - g * Ideal.div 1 ((e1 + e2 + e3) * (e1 + e2 + e3)) * (e1 * o1 + e2 * o2 + e3 * o3)) + Ideal.div g (e1 + e2 + e3) * v

/-- What reaches the maximum. -/
def byTop (e1 e2 e3 o1 o2 o3 g : EReal) : EReal :=
  (0 - byWeight e1 e2 e3 o1 o2 o3 g o3 * e3) + (0 - byWeight e1 e2 e3 o1 o2 o3 g o2 * e2) + (0 - byWeight e1 e2 e3 o1 o2 o3 g o1 * e1)

/-- Shifting the three log-denominators together changes no weight: nothing reaches the maximum. -/
theorem byTop_zero {e1 e2 e3 : ℝ} (h1 : 0 < e1) (h2 : 0 < e2) (h3 : 0 < e3) (o1 o2 o3 g : ℝ) :
    byTop e1 e2 e3 o1 o2 o3 g = 0 := by
  have hs : e1 + e2 + e3 ≠ 0 := by positivity
  have hss : (e1 + e2 + e3) * (e1 + e2 + e3) ≠ 0 := mul_ne_zero hs hs
  unfold byTop byWeight
  simp only [← EReal.coe_add, ← EReal.coe_mul, Ideal.div_coe hs, Ideal.div_coe hss, ← EReal.coe_one, ← EReal.coe_zero, ← EReal.coe_sub]
  refine congrArg Real.toEReal ?_
  field_simp
  ring

/-- The derivative with respect to a log-denominator: the kernel's, where nothing reaches the maximum, and the reference's. -/
theorem byLog {e : Fin 3 → ℝ} (he : ∀ k, 0 < e k) (o : Fin 3 → ℝ) (g : ℝ) (k : Fin 3) :
    byWeight (e 0) (e 1) (e 2) (o 0) (o 1) (o 2) g (o k) * (e k)
      = (Ideal.div ((g : EReal) * o k) (0 + ∑ k : Fin 3, (e k : EReal))
          + (0 + -(0 + ∑ k : Fin 3, (g : EReal) * o k
              * Ideal.div 1 ((0 + ∑ k : Fin 3, (e k : EReal)) * (0 + ∑ k : Fin 3, (e k : EReal))) * e k))) * e k := by
  have hpos : 0 < e 0 + e 1 + e 2 := add_pos (add_pos (he 0) (he 1)) (he 2)
  have hs : e 0 + e 1 + e 2 ≠ 0 := hpos.ne'
  have hss : (e 0 + e 1 + e 2) * (e 0 + e 1 + e 2) ≠ 0 := mul_ne_zero hs hs
  generalize hv : o k = v
  generalize hw : e k = w
  unfold byWeight
  simp only [Fin.sum_univ_three, zero_add, ← EReal.coe_add, ← EReal.coe_mul, Ideal.div_coe hs, Ideal.div_coe hss, ← EReal.coe_one,
    ← EReal.coe_zero, ← EReal.coe_sub, ← EReal.coe_neg]
  refine congrArg Real.toEReal ?_
  field_simp
  ring

/-- The derivative with respect to a value. -/
theorem byValue {e : Fin 3 → ℝ} (he : ∀ k, 0 < e k) (g : EReal) (k : Fin 3) :
    (e k : EReal) * Ideal.div g ((e 0 : EReal) + e 1 + e 2) = Ideal.div (e k) (0 + ∑ k : Fin 3, (e k : EReal)) * g := by
  have hpos : 0 < e 0 + e 1 + e 2 := add_pos (add_pos (he 0) (he 1)) (he 2)
  simp only [Fin.sum_univ_three, zero_add, ← EReal.coe_add, Ideal.div_coe hpos.ne']
  simp only [mul_assoc, mul_comm, mul_left_comm]

end Cert.Mixture

end
-- ==== Proof.Comb.lean ====
/-
The mixture of the three attention outputs: with finite log-denominators the kernel, which divides the weighted sum
by the total weight, computes the reference, which sums the values under normalised weights.
-/
module

public import proofs.«01_k».proof.Defs
public import proofs.«01_k».proof.Proof.Mixture
public import proofs.«01_k».proof.Proof.Gen.Pre_weights_finite
public import proofs.«01_k».proof.Proof.Gen.CombKernelIdeal.Frame
public import proofs.«01_k».proof.Proof.Gen.CombKernelIdeal.Value
public import proofs.«01_k».proof.Proof.Gen.CombReferenceIdeal
public import proofs.«01_k».proof.Proof.Gen.CombReferenceIdeal.Run
public import proofs.«01_k».proof.Proof.Gen.CombReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Comb

open Cert.CombKernelIdeal Cert.CombKernelIdeal.Gen Idealize.ShloMosaic Idealize.ShloMosaic.TcCoe Idealize.SL.Sem
open Idealize.ShloMosaic.Pipeline (Dat)
open Cert.CombReferenceIdeal.Read

open Cert.Mixture

variable (m : (ℓ : Loc nD τ sig) → Buf (Elt Ideal) ℓ)

abbrev Rows := (⟨S8192x256, .f32⟩ : BufTy).Contents (Elt Ideal)

/-! ## The reference at an element -/

section reference

variable (x0 x1 x2 x3 x4 x5 : Rows) (x6 : (⟨S8192x2304, .f32⟩ : BufTy).Contents (Elt Ideal)) (i : S8192x256.Idx)

theorem stack_l (k : Fin 3) : val_main_v4 x1 x3 x5 (idx_main_v12 i k) = ![x1 i, x3 i, x5 i] k := by
  fin_cases k <;> pointwise [val_main_v4, val_main_v1, val_main_v2, val_main_v3]

theorem stack_o (k : Fin 3) : val_main_v19 x0 x2 x4 (idx_main_v12 i k) = ![x0 i, x2 i, x4 i] k := by
  fin_cases k <;> pointwise [val_main_v19, val_main_v16, val_main_v17, val_main_v18]

theorem top_l : val_main_v7 x1 x3 x5 i = max (max (x1 i) (x3 i)) (x5 i) := by
  have h (k : Fin 3) : val_main_v4 x1 x3 x5 (ix3 k (i 0) (i 1)) = ![x1 i, x3 i, x5 i] k := by
    rw [← stack_l, show idx_main_v12 i k = ix3 k (i 0) (i 1) from by funext a; fin_cases a <;> rfl]
    rfl
  rw [val_main_v7_apply, val_main_v6_apply, val_main_cst_0_apply, val_main_v5, reduce_max, h, h, h, val_main_cst_apply]
  show max (Ideal.ofBits FTy.f32 4286578688#32) (max (x1 i) (max (x3 i) (max (x5 i) (Ideal.ofBits FTy.f32 4286578688#32)))) = _
  rw [max_bits, ofBits_bot, max_eq_right bot_le]

/-- The three weights. -/
theorem weights (k : Fin 3) : val_main_v11 x1 x3 x5 (idx_main_v12 i k) = weight (![x1 i, x3 i, x5 i] k) (x1 i) (x3 i) (x5 i) := by
  rw [val_main_v11_apply, val_main_v10_apply, stack_l, val_main_v9_apply, val_main_v8_apply,
    show idx_main_v8 (idx_main_v9 (idx_main_v12 i k)) = i from by funext a; fin_cases a <;> rfl, top_l]
  rfl

theorem total : val_main_v12 x1 x3 x5 i = 0 + ∑ k : Fin 3, weight (![x1 i, x3 i, x5 i] k) (x1 i) (x3 i) (x5 i) := by
  rw [val_main_v12_apply, val_main_cst_1_apply]
  simp only [weights]
  pointwise

theorem mixed : val_main_v21 x0 x1 x2 x3 x4 x5 i
    = 0 + ∑ k : Fin 3, Ideal.div (weight (![x1 i, x3 i, x5 i] k) (x1 i) (x3 i) (x5 i))
        (0 + ∑ k : Fin 3, weight (![x1 i, x3 i, x5 i] k) (x1 i) (x3 i) (x5 i)) * ![x0 i, x2 i, x4 i] k := by
  have h (k : Fin 3) : val_main_v20 x0 x1 x2 x3 x4 x5 (idx_main_v21 i k)
      = Ideal.div (weight (![x1 i, x3 i, x5 i] k) (x1 i) (x3 i) (x5 i))
        (0 + ∑ k : Fin 3, weight (![x1 i, x3 i, x5 i] k) (x1 i) (x3 i) (x5 i)) * ![x0 i, x2 i, x4 i] k := by
    rw [val_main_v20_apply, val_main_v15_apply, val_main_v14_apply, val_main_v13_apply,
      show idx_main_v13 (idx_main_v14 (idx_main_v21 i k)) = i from by funext a; fin_cases a <;> rfl, total,
      show idx_main_v21 i k = idx_main_v12 i k from rfl, weights, stack_o]
    rfl
  rw [val_main_v21_apply, val_main_cst_2_apply]
  simp only [h]
  pointwise

theorem silu : val_main_v22 x6 i = x6 (idx_main_v0 i) * Ideal.div 1 (1 + Ideal.exp (-x6 (idx_main_v0 i))) := by
  pointwise [val_main_v22, val_main_v0, val_main_call0_v5, val_main_call0_v4, val_main_call0_cst_0, val_main_call0_v3,
    val_main_call0_v2, val_main_call0_cst, val_main_call0_v1, val_main_call0_v0]
  rw [show idx_main_v0 i = ix2 (i 0) ⟨1280 + (i 1).val, (idx_main_v0 i 1).isLt⟩ from by funext a; fin_cases a <;> rfl]
  rfl

end reference

/-! ## The kernel at an element -/

theorem payload (v0 v1 v2 v3 v4 v5 v6 : Vec Ideal S512x256 .f32) (y : S512x256.Idx) :
    k0_pay1 v0 v1 v2 v3 v4 v5 v6 y
      = Ideal.div (weight (v1 y) (v1 y) (v3 y) (v5 y) * v0 y + weight (v3 y) (v1 y) (v3 y) (v5 y) * v2 y
          + weight (v5 y) (v1 y) (v3 y) (v5 y) * v4 y)
          (weight (v1 y) (v1 y) (v3 y) (v5 y) + weight (v3 y) (v1 y) (v3 y) (v5 y) + weight (v5 y) (v1 y) (v3 y) (v5 y))
        * (v6 y * Ideal.div 1 (1 + Ideal.exp (-v6 y))) := by
  unfold k0_pay1 weight
  pointwise [Ideal.logistic]

/-! ## The value -/

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 5]
    ∧ win0_7.index t = ![t.val, 0] :=
  (by decide +kernel : ∀ t : Fin grid0.N, _)

/-- What the precondition says of one element. -/
theorem finite_l {x0 x1 x2 x3 x4 x5 : Rows} {x6 : (⟨S8192x2304, .f32⟩ : BufTy).Contents (Elt Ideal)}
    (h : Cert.Pre_weights_finite.fn (F := Ideal) x0 x1 x2 x3 x4 x5 x6 = fun _ => 1#1) (i : S8192x256.Idx) :
    (∃ r : ℝ, x1 i = r) ∧ (∃ r : ℝ, x3 i = r) ∧ ∃ r : ℝ, x5 i = r := by
  have h := congrFun h i
  unfold Cert.Pre_weights_finite.fn at h
  obtain ⟨h, h5⟩ := bit_and h
  obtain ⟨h1, h3⟩ := bit_and h
  exact ⟨real_of_finite h1, real_of_finite h3, real_of_finite h5⟩

/-- The two sides at an element whose log-denominators are real. -/
theorem element (x0 x1 x2 x3 x4 x5 : Rows) (x6 : (⟨S8192x2304, .f32⟩ : BufTy).Contents (Elt Ideal)) (i : S8192x256.Idx)
    (h : (∃ r : ℝ, x1 i = r) ∧ (∃ r : ℝ, x3 i = r) ∧ ∃ r : ℝ, x5 i = r) :
    Ideal.div (weight (x1 i) (x1 i) (x3 i) (x5 i) * x0 i + weight (x3 i) (x1 i) (x3 i) (x5 i) * x2 i
          + weight (x5 i) (x1 i) (x3 i) (x5 i) * x4 i)
          (weight (x1 i) (x1 i) (x3 i) (x5 i) + weight (x3 i) (x1 i) (x3 i) (x5 i) + weight (x5 i) (x1 i) (x3 i) (x5 i))
        * (x6 (idx_main_v0 i) * Ideal.div 1 (1 + Ideal.exp (-x6 (idx_main_v0 i))))
      = val_main_v24 x0 x1 x2 x3 x4 x5 x6 i := by
  rw [val_main_v24_apply, val_main_v23_apply, mixed, silu]
  obtain ⟨e, he, hw⟩ := weights_real (l := ![x1 i, x3 i, x5 i]) (by
    intro k
    fin_cases k
    exacts [h.1, h.2.1, h.2.2])
  have hw (k : Fin 3) : weight (![x1 i, x3 i, x5 i] k) (x1 i) (x3 i) (x5 i) = (e k : EReal) := hw k
  simp only [hw]
  rw [show weight (x1 i) (x1 i) (x3 i) (x5 i) = (e 0 : EReal) from hw 0, show weight (x3 i) (x1 i) (x3 i) (x5 i) = (e 1 : EReal) from hw 1,
    show weight (x5 i) (x1 i) (x3 i) (x5 i) = (e 2 : EReal) from hw 2]
  exact congrArg (· * _) (mean he ![x0 i, x2 i, x4 i])

theorem value (c : Dev nD) (h : Cert.Pre_weights_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = fun _ => 1#1) :
    (dats m 0 c).arrAt 7 cfg0.N = val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]; frame_out
  rw [payload, ← element _ _ _ _ _ _ _ _ (finite_l h _)]
  blk_point [iblk, idx t]

/-- The reference runs, keeps its arguments, and declares no semaphore that could end nonzero. -/
theorem frame_reference : Cert.quiescent_CombReferenceIdeal (hCombReferenceIdeal := Cert.CombReferenceIdeal.Gen.facts) :=
  fun m g _ => (θ_run (Cert.CombReferenceIdeal.defs (F := Ideal)) _ _).mono
    (fun r h => ⟨fun c => (h c).2, sem_eq_zero_of_no_sems (by decide) r.2⟩)
    (Cert.CombReferenceIdeal.Value.run (F := Ideal) m g)

/-- From equal arguments that meet the precondition the kernel's results are the reference's. -/
theorem algebraic : Cert.algebraic_CombKernelIdeal_CombReferenceIdeal_pre_weights_finite (hCombKernelIdeal := Cert.CombKernelIdeal.Gen.facts)
    (hCombReferenceIdeal := Cert.CombReferenceIdeal.Gen.facts) (hPre_weights_finite := Cert.Pre_weights_finite.Gen.facts) := by
  intro m g m' g' hp hargs
  refine ⟨_, Cert.CombKernelIdeal.Value.run_blocks (F := Ideal) m g, ?_⟩
  refine (θ_run (Cert.CombReferenceIdeal.defs (F := Ideal)) _ _).mono (fun r h c => ?_)
    (Cert.CombReferenceIdeal.Value.run (F := Ideal) m' g')
  obtain ⟨h0, hk⟩ := h c
  obtain ⟨e0, e1, e2, e3, e4, e5, e6⟩ := hargs c
  refine ⟨h0.trans ?_, hk⟩
  · refine (val_main_v24_eq m' c).trans ?_; rw [e0, e1, e2, e3, e4, e5, e6]; exact (value m c (hp c)).symm

end Cert.Comb

end
-- ==== Proof.CombB.lean ====
/-
The gradient of the mixture of the three attention outputs, where every argument is finite: the kernel, which
differentiates through the maximum it subtracts, computes the reference's seven gradients.
-/
module

public import proofs.«01_k».proof.Defs
public import proofs.«01_k».proof.Proof.Mixture
public import proofs.«01_k».proof.Proof.Gen.Pre_all_finite
public import proofs.«01_k».proof.Proof.Gen.CombBKernelIdeal.Frame
public import proofs.«01_k».proof.Proof.Gen.CombBKernelIdeal.Value
public import proofs.«01_k».proof.Proof.Gen.CombBReferenceIdeal
public import proofs.«01_k».proof.Proof.Gen.CombBReferenceIdeal.Run
public import proofs.«01_k».proof.Proof.Gen.CombBReferenceIdeal.Read
public import Idealize.ShloMosaic.Lib.Pipeline.ReadBack
public import Idealize.ShloMosaic.Lib.Pipeline.ValueKit
public import Idealize.ShloMosaic.Lib.Pointwise

@[expose] public section

set_option maxRecDepth 16384

noncomputable section

namespace Cert.CombB

open Cert.CombBKernelIdeal Cert.CombBKernelIdeal.Gen Idealize.ShloMosaic Idealize.ShloMosaic.TcCoe Idealize.SL.Sem
open Idealize.ShloMosaic.Pipeline (Dat)
open Cert.CombBReferenceIdeal.Read

open Cert.Mixture

variable (m : (ℓ : Loc nD τ sig) → Buf (Elt Ideal) ℓ)

abbrev Rows := (⟨S8192x256, .f32⟩ : BufTy).Contents (Elt Ideal)

/-- Row `k` of the three stacked arrays, at an element of one. -/
abbrev row (i : S8192x256.Idx) (k : Fin 3) : Cert.CombBReferenceIdeal.S3x8192x256.Idx := ix3 k (i 0) (i 1)

/-! ## The reference at an element -/

section reference

variable (x0 x1 x2 x3 x4 x5 : Rows) (x6 : (⟨S8192x2304, .f32⟩ : BufTy).Contents (Elt Ideal)) (x7 : Rows) (i : S8192x256.Idx)

theorem stack_l (k : Fin 3) : val_main_v4 x1 x3 x5 (row i k) = ![x1 i, x3 i, x5 i] k := by
  fin_cases k <;> pointwise [val_main_v4, val_main_v1, val_main_v2, val_main_v3]

theorem stack_o (k : Fin 3) : val_main_v36 x0 x2 x4 (row i k) = ![x0 i, x2 i, x4 i] k := by
  fin_cases k <;> pointwise [val_main_v36, val_main_v33, val_main_v34, val_main_v35]

theorem top_l : val_main_v12 x1 x3 x5 i = max (max (x1 i) (x3 i)) (x5 i) := by
  rw [val_main_v12_apply, val_main_v11_apply, val_main_cst_1_apply, val_main_v5, reduce_max]
  have h (k : Fin 3) : val_main_v4 x1 x3 x5 (ix3 k (i 0) (i 1)) = ![x1 i, x3 i, x5 i] k := stack_l x1 x3 x5 i k
  rw [h, h, h, val_main_cst_apply]
  show max (Ideal.ofBits FTy.f32 4286578688#32) (max (x1 i) (max (x3 i) (max (x5 i) (Ideal.ofBits FTy.f32 4286578688#32)))) = _
  rw [max_bits, ofBits_bot, max_eq_right bot_le]

/-- The weight of row `k`. -/
abbrev wt (k : Fin 3) : EReal := weight (![x1 i, x3 i, x5 i] k) (x1 i) (x3 i) (x5 i)

/-- What reaches the mixture: the cotangent times the gate. -/
abbrev gate : EReal := x7 i * (x6 (idx_main_v0 i) * Ideal.div 1 (1 + Ideal.exp (-x6 (idx_main_v0 i))))

theorem weights (k : Fin 3) : val_main_v25 x1 x3 x5 (row i k) = wt x1 x3 x5 i k := by
  rw [val_main_v25_apply, val_main_v24_apply, stack_l, val_main_v23_apply, val_main_v22_apply,
    show idx_main_v22 (idx_main_v23 (row i k)) = i from by funext a; fin_cases a <;> rfl, top_l]
  rfl

theorem total : val_main_v26 x1 x3 x5 i = 0 + ∑ k : Fin 3, wt x1 x3 x5 i k := by
  have h (k : Fin 3) : val_main_v25 x1 x3 x5 (idx_main_v26 i k) = wt x1 x3 x5 i k := by
    rw [← weights, show idx_main_v26 i k = row i k from by funext a; fin_cases a <;> rfl]
  rw [val_main_v26_apply, val_main_cst_7_apply]
  simp only [h]
  pointwise

theorem share (k : Fin 3) : val_main_v29 x1 x3 x5 (row i k)
    = Ideal.div (wt x1 x3 x5 i k) (0 + ∑ k : Fin 3, wt x1 x3 x5 i k) := by
  rw [val_main_v29_apply, val_main_v28_apply, val_main_v27_apply,
    show idx_main_v27 (idx_main_v28 (row i k)) = i from by funext a; fin_cases a <;> rfl, total, weights]
  rfl

theorem mixed : val_main_v38 x0 x1 x2 x3 x4 x5 i
    = 0 + ∑ k : Fin 3, Ideal.div (wt x1 x3 x5 i k) (0 + ∑ k : Fin 3, wt x1 x3 x5 i k) * ![x0 i, x2 i, x4 i] k := by
  have h (k : Fin 3) : val_main_v37 x0 x1 x2 x3 x4 x5 (idx_main_v38 i k)
      = Ideal.div (wt x1 x3 x5 i k) (0 + ∑ k : Fin 3, wt x1 x3 x5 i k) * ![x0 i, x2 i, x4 i] k := by
    rw [val_main_v37_apply, show idx_main_v38 i k = row i k from by funext a; fin_cases a <;> rfl, share, stack_o]
    rfl
  rw [val_main_v38_apply, val_main_cst_9_apply]
  simp only [h]
  pointwise

theorem column : val_main_v0 x6 i = x6 (idx_main_v0 i) := val_main_v0_apply x6 i

theorem sigma : val_main_v39_2 x6 i = Ideal.div 1 (1 + Ideal.exp (-x6 (idx_main_v0 i))) := by
  rw [← column x6 i]
  pointwise [val_main_v39_2, val_main_call0_v4, val_main_call0_v3, val_main_call0_v2, val_main_call0_v1, val_main_call0_v0,
    val_main_call0_cst, val_main_call0_cst_0]

theorem gated : val_main_v42 x6 x7 i = gate x6 x7 i := by
  rw [val_main_v42_apply, val_main_v39_0_apply, sigma, column]
  rfl

theorem gate_dz : val_main_v43 x0 x1 x2 x3 x4 x5 x6 x7 i
    = val_main_v38 x0 x1 x2 x3 x4 x5 i * x7 i * Ideal.div 1 (1 + Ideal.exp (-x6 (idx_main_v0 i)))
      + x6 (idx_main_v0 i) * (val_main_v38 x0 x1 x2 x3 x4 x5 i * x7 i)
        * (Ideal.div 1 (1 + Ideal.exp (-x6 (idx_main_v0 i))) * (1 - Ideal.div 1 (1 + Ideal.exp (-x6 (idx_main_v0 i))))) := by
  rw [← sigma, ← column x6 i]
  pointwise [val_main_v43, val_main_call1_v1, val_main_call1_v2, val_main_call1_v0, val_main_v41, val_main_v39_1, val_main_call0_v7,
    val_main_call0_v6, val_main_call0_cst_1]

theorem by_value (k : Fin 3) : val_main_v45 x1 x3 x5 x6 x7 (row i k)
    = Ideal.div (wt x1 x3 x5 i k) (0 + ∑ k : Fin 3, wt x1 x3 x5 i k) * gate x6 x7 i := by
  rw [val_main_v45_apply, share, val_main_v44_apply,
    show idx_main_v44 (row i k) = i from by funext a; fin_cases a <;> rfl, gated]
  rfl

theorem gated_o (k : Fin 3) : val_main_v46 x0 x2 x4 x6 x7 (row i k) = gate x6 x7 i * ![x0 i, x2 i, x4 i] k := by
  rw [val_main_v46_apply, stack_o, val_main_v44_apply,
    show idx_main_v44 (row i k) = i from by funext a; fin_cases a <;> rfl, gated]
  rfl

theorem inv_square (j : Cert.CombBReferenceIdeal.S1x8192x256.Idx) (hj : idx_main_v27 j = i) : val_main_v32 x1 x3 x5 j
    = Ideal.div 1 ((0 + ∑ k : Fin 3, wt x1 x3 x5 i k) * (0 + ∑ k : Fin 3, wt x1 x3 x5 i k)) := by
  rw [val_main_v32_apply, val_main_v30_apply, val_main_v27_apply, hj, total]
  pointwise [val_main_v31, val_main_cst_8]

theorem by_total : val_main_v56 x0 x1 x2 x3 x4 x5 x6 x7 i
    = 0 + ∑ k : Fin 3, gate x6 x7 i * ![x0 i, x2 i, x4 i] k
        * Ideal.div 1 ((0 + ∑ k : Fin 3, wt x1 x3 x5 i k) * (0 + ∑ k : Fin 3, wt x1 x3 x5 i k)) * wt x1 x3 x5 i k := by
  have h (k : Fin 3) : val_main_v55 x0 x1 x2 x3 x4 x5 x6 x7 (idx_main_v56 i k) = gate x6 x7 i * ![x0 i, x2 i, x4 i] k
        * Ideal.div 1 ((0 + ∑ k : Fin 3, wt x1 x3 x5 i k) * (0 + ∑ k : Fin 3, wt x1 x3 x5 i k)) * wt x1 x3 x5 i k := by
    rw [show idx_main_v56 i k = row i k from by funext a; fin_cases a <;> rfl, val_main_v55_apply, val_main_v54_apply, gated_o,
      weights, val_main_v53_apply, inv_square x1 x3 x5 i _ (by funext a; fin_cases a <;> rfl)]
    rfl
  rw [val_main_v56_apply, val_main_cst_10_apply]
  simp only [h]
  pointwise

theorem neg_total : val_main_v61 x0 x1 x2 x3 x4 x5 x6 x7 i = 0 + -val_main_v56 x0 x1 x2 x3 x4 x5 x6 x7 i := by
  have h (j : Cert.CombBReferenceIdeal.S1x8192x256.Idx) (hj : (fun a => j (Fin.succ a)) = i) :
      val_main_v58 x0 x1 x2 x3 x4 x5 x6 x7 j = -val_main_v56 x0 x1 x2 x3 x4 x5 x6 x7 i := by
    rw [val_main_v58_apply, val_main_v57, shapeCast_addUnit_apply, hj]
    rfl
  rw [val_main_v61_apply, val_main_cst_11_apply, Fin.sum_univ_one, h _ (by funext a; fin_cases a <;> rfl)]
  exact congrArg (· + _) Ideal.ofBits_zero_f32

theorem by_log (k : Fin 3) : val_main_v64 x0 x1 x2 x3 x4 x5 x6 x7 (row i k)
    = (Ideal.div (gate x6 x7 i * ![x0 i, x2 i, x4 i] k) (0 + ∑ k : Fin 3, wt x1 x3 x5 i k)
        + (0 + -(0 + ∑ k : Fin 3, gate x6 x7 i * ![x0 i, x2 i, x4 i] k
            * Ideal.div 1 ((0 + ∑ k : Fin 3, wt x1 x3 x5 i k) * (0 + ∑ k : Fin 3, wt x1 x3 x5 i k)) * wt x1 x3 x5 i k)))
      * wt x1 x3 x5 i k := by
  rw [val_main_v64_apply, val_main_v63_apply, weights, val_main_v60_apply, gated_o, val_main_v59_apply, val_main_v27_apply,
    show idx_main_v27 (idx_main_v59 (row i k)) = i from by funext a; fin_cases a <;> rfl, total, val_main_v62_apply,
    show idx_main_v62 (row i k) = i from by funext a; fin_cases a <;> rfl, neg_total, by_total]
  rfl

theorem do1 : val_main_v48 x1 x3 x5 x6 x7 i = val_main_v45 x1 x3 x5 x6 x7 (row i 0) := by
  pointwise [val_main_v48, val_main_v47]

theorem do2 : val_main_v50 x1 x3 x5 x6 x7 i = val_main_v45 x1 x3 x5 x6 x7 (row i 1) := by
  pointwise [val_main_v50, val_main_v49]

theorem do3 : val_main_v52 x1 x3 x5 x6 x7 i = val_main_v45 x1 x3 x5 x6 x7 (row i 2) := by
  pointwise [val_main_v52, val_main_v51]

theorem dl1 : val_main_v66 x0 x1 x2 x3 x4 x5 x6 x7 i = val_main_v64 x0 x1 x2 x3 x4 x5 x6 x7 (row i 0) := by
  pointwise [val_main_v66, val_main_v65]

theorem dl2 : val_main_v68 x0 x1 x2 x3 x4 x5 x6 x7 i = val_main_v64 x0 x1 x2 x3 x4 x5 x6 x7 (row i 1) := by
  pointwise [val_main_v68, val_main_v67]

theorem dl3 : val_main_v70 x0 x1 x2 x3 x4 x5 x6 x7 i = val_main_v64 x0 x1 x2 x3 x4 x5 x6 x7 (row i 2) := by
  pointwise [val_main_v70, val_main_v69]

end reference

/-! ## The kernel at an element -/

section kernel

variable (v0 v1 v2 v3 v4 v5 v6 v7 : Vec Ideal S512x256 .f32) (y : S512x256.Idx)

/-- The largest log-denominator, as the kernel keeps it. -/
abbrev top : FVec Ideal S512x256 .f32 := k0_pay11 v1 v3 v5

theorem kept_34 : k0_pay34 v0 v1 v2 v3 v4 v5 v6 v7 = top v1 v3 v5 := by
  unfold k0_pay34; frame_out

theorem kept_36 : k0_pay36 v0 v1 v2 v3 v4 v5 v6 v7 = k0_pay16 v1 (top v1 v3 v5) := by
  unfold k0_pay36; rw [kept_34]; frame_out

theorem kept_37 : k0_pay37 v0 v1 v2 v3 v4 v5 v6 v7 = k0_pay29 v0 v1 v2 v3 v4 v5 v6 v7 (top v1 v3 v5) := by
  unfold k0_pay37; rw [kept_34]; frame_out

theorem kept_38 : k0_pay38 v0 v1 v2 v3 v4 v5 v6 v7 = k0_pay31 v0 v1 v2 v3 v4 v5 v6 v7 (top v1 v3 v5) := by
  unfold k0_pay38; rw [kept_34]; frame_out

theorem kept_39 : k0_pay39 v0 v1 v2 v3 v4 v5 v6 v7 = k0_pay33 v0 v1 v2 v3 v4 v5 v6 v7 (top v1 v3 v5) := by
  unfold k0_pay39; rw [kept_34]; frame_out

/-- The weight of a log-denominator in the block. -/
abbrev bw (l : EReal) : EReal := weight l (v1 y) (v3 y) (v5 y)

/-- What reaches the mixture in the block. -/
abbrev bg : EReal := v7 y * (v6 y * Ideal.div 1 (1 + Ideal.exp (-v6 y)))

theorem block_w1 : k0_pay16 v1 (top v1 v3 v5) y = bw v1 v3 v5 y (v1 y) := rfl

theorem block_w2 : k0_pay17 v3 (top v1 v3 v5) y = bw v1 v3 v5 y (v3 y) := rfl

theorem block_w3 : k0_pay18 v5 (top v1 v3 v5) y = bw v1 v3 v5 y (v5 y) := rfl

theorem block_total : k0_pay20 v1 v3 v5 (top v1 v3 v5) y
    = bw v1 v3 v5 y (v1 y) + bw v1 v3 v5 y (v3 y) + bw v1 v3 v5 y (v5 y) := rfl

theorem block_sum : k0_pay19 v0 v1 v2 v3 v4 v5 (top v1 v3 v5) y
    = bw v1 v3 v5 y (v1 y) * v0 y + bw v1 v3 v5 y (v3 y) * v2 y + bw v1 v3 v5 y (v5 y) * v4 y := rfl

theorem block_gate : k0_pay22 v6 v7 y = bg v6 v7 y := by
  unfold k0_pay22 k0_pay21
  pointwise [Ideal.logistic]

theorem block_share : k0_pay25 v1 v3 v5 v6 v7 (top v1 v3 v5) y
    = Ideal.div (bg v6 v7 y) (bw v1 v3 v5 y (v1 y) + bw v1 v3 v5 y (v3 y) + bw v1 v3 v5 y (v5 y)) := by
  rw [← block_gate, ← block_total]
  rfl

theorem block_back : k0_pay24 v0 v1 v2 v3 v4 v5 v6 v7 (top v1 v3 v5) y
    = 0 - bg v6 v7 y * Ideal.div 1 ((bw v1 v3 v5 y (v1 y) + bw v1 v3 v5 y (v3 y) + bw v1 v3 v5 y (v5 y))
          * (bw v1 v3 v5 y (v1 y) + bw v1 v3 v5 y (v3 y) + bw v1 v3 v5 y (v5 y)))
        * (bw v1 v3 v5 y (v1 y) * v0 y + bw v1 v3 v5 y (v3 y) * v2 y + bw v1 v3 v5 y (v5 y) * v4 y) := by
  rw [← block_gate, ← block_total, ← block_sum]
  unfold k0_pay24
  pointwise

/-- The derivative by the weight of a value of the block. -/
abbrev bd (v : EReal) : EReal :=
  byWeight (bw v1 v3 v5 y (v1 y)) (bw v1 v3 v5 y (v3 y)) (bw v1 v3 v5 y (v5 y)) (v0 y) (v2 y) (v4 y) (bg v6 v7 y) v

theorem block_d1 : k0_pay29 v0 v1 v2 v3 v4 v5 v6 v7 (top v1 v3 v5) y = bd v0 v1 v2 v3 v4 v5 v6 v7 y (v0 y) := by
  unfold bd byWeight
  rw [← block_back, ← block_share]
  rfl

theorem block_d2 : k0_pay32 v0 v1 v2 v3 v4 v5 v6 v7 (top v1 v3 v5) y
    = bd v0 v1 v2 v3 v4 v5 v6 v7 y (v2 y) * bw v1 v3 v5 y (v3 y) := by
  unfold bd byWeight
  rw [← block_back, ← block_share]
  rfl

theorem block_d3 : k0_pay30 v0 v1 v2 v3 v4 v5 v6 v7 (top v1 v3 v5) y
    = bd v0 v1 v2 v3 v4 v5 v6 v7 y (v4 y) * bw v1 v3 v5 y (v5 y) := by
  unfold bd byWeight
  rw [← block_back, ← block_share]
  rfl

/-- What the block sends to the maximum. -/
theorem block_top : k0_pay2 (k0_pay16 v1 (top v1 v3 v5)) (k0_pay29 v0 v1 v2 v3 v4 v5 v6 v7 (top v1 v3 v5))
      (k0_pay31 v0 v1 v2 v3 v4 v5 v6 v7 (top v1 v3 v5)) (k0_pay33 v0 v1 v2 v3 v4 v5 v6 v7 (top v1 v3 v5)) y
    = byTop (bw v1 v3 v5 y (v1 y)) (bw v1 v3 v5 y (v3 y)) (bw v1 v3 v5 y (v5 y)) (v0 y) (v2 y) (v4 y) (bg v6 v7 y) := by
  have h := block_d1 v0 v1 v2 v3 v4 v5 v6 v7 y
  unfold bd at h
  unfold byTop
  rw [← block_d3, ← block_d2, ← h, ← block_w1]
  unfold k0_pay2 k0_pay1 k0_pay31 k0_pay33
  pointwise

theorem block_dz : k0_pay23 v0 v1 v2 v3 v4 v5 v6 v7 (top v1 v3 v5) y
    = Ideal.div (bw v1 v3 v5 y (v1 y) * v0 y + bw v1 v3 v5 y (v3 y) * v2 y + bw v1 v3 v5 y (v5 y) * v4 y)
          (bw v1 v3 v5 y (v1 y) + bw v1 v3 v5 y (v3 y) + bw v1 v3 v5 y (v5 y)) * v7 y * Ideal.div 1 (1 + Ideal.exp (-v6 y))
      + v6 y * (Ideal.div (bw v1 v3 v5 y (v1 y) * v0 y + bw v1 v3 v5 y (v3 y) * v2 y + bw v1 v3 v5 y (v5 y) * v4 y)
          (bw v1 v3 v5 y (v1 y) + bw v1 v3 v5 y (v3 y) + bw v1 v3 v5 y (v5 y)) * v7 y)
        * (Ideal.div 1 (1 + Ideal.exp (-v6 y)) * (1 - Ideal.div 1 (1 + Ideal.exp (-v6 y)))) := by
  rw [← block_total, ← block_sum]
  unfold k0_pay23 k0_pay21
  pointwise [Ideal.logistic]

end kernel

/-! ## The two sides -/

/-- Element `y` of a block is element `i` of the arrays. -/
structure Reads (v0 v1 v2 v3 v4 v5 v6 v7 : Vec Ideal S512x256 .f32) (y : S512x256.Idx)
    (x0 x1 x2 x3 x4 x5 : Rows) (x6 : (⟨S8192x2304, .f32⟩ : BufTy).Contents (Elt Ideal)) (x7 : Rows) (i : S8192x256.Idx) : Prop where
  r0 : v0 y = x0 i
  r1 : v1 y = x1 i
  r2 : v2 y = x2 i
  r3 : v3 y = x3 i
  r4 : v4 y = x4 i
  r5 : v5 y = x5 i
  r6 : v6 y = x6 (idx_main_v0 i)
  r7 : v7 y = x7 i

/-- An element whose weights, values and gated cotangent are real numbers. -/
structure RealAt (x0 x1 x2 x3 x4 x5 : Rows) (x6 : (⟨S8192x2304, .f32⟩ : BufTy).Contents (Elt Ideal)) (x7 : Rows) (i : S8192x256.Idx)
    (e o : Fin 3 → ℝ) (g : ℝ) : Prop where
  pos : ∀ k, 0 < e k
  w : ∀ k, wt x1 x3 x5 i k = (e k : EReal)
  v : ∀ k, ![x0 i, x2 i, x4 i] k = (o k : EReal)
  g : gate x6 x7 i = (g : EReal)

section sides

variable {v0 v1 v2 v3 v4 v5 v6 v7 : Vec Ideal S512x256 .f32} {y : S512x256.Idx}
  {x0 x1 x2 x3 x4 x5 : Rows} {x6 : (⟨S8192x2304, .f32⟩ : BufTy).Contents (Elt Ideal)} {x7 : Rows} {i : S8192x256.Idx}
  {e o : Fin 3 → ℝ} {g : ℝ}

theorem real_at (h : Cert.Pre_all_finite.fn (F := Ideal) x0 x1 x2 x3 x4 x5 x6 x7 = fun _ => 1#1) (i : S8192x256.Idx) :
    ∃ (e o : Fin 3 → ℝ) (g : ℝ), RealAt x0 x1 x2 x3 x4 x5 x6 x7 i e o g := by
  have h := congrFun h i
  unfold Cert.Pre_all_finite.fn at h
  obtain ⟨h, h7⟩ := bit_and h
  obtain ⟨h, h6⟩ := bit_and h
  obtain ⟨h, h5⟩ := bit_and h
  obtain ⟨h, h4⟩ := bit_and h
  obtain ⟨h, h3⟩ := bit_and h
  obtain ⟨h, h2⟩ := bit_and h
  obtain ⟨h0, h1⟩ := bit_and h
  obtain ⟨z, hz⟩ : ∃ r : ℝ, val_main_v0 x6 i = r := real_of_finite h6
  rw [column] at hz
  obtain ⟨t, ht⟩ : ∃ r : ℝ, x7 i = r := real_of_finite h7
  obtain ⟨s, hs⟩ := sigma_real z
  obtain ⟨e, he, hw⟩ := weights_real (l := ![x1 i, x3 i, x5 i]) (by
    intro k
    fin_cases k
    exacts [real_of_finite h1, real_of_finite h3, real_of_finite h5])
  have hv : ∀ k, ∃ r : ℝ, ![x0 i, x2 i, x4 i] k = r := by
    intro k
    fin_cases k
    exacts [real_of_finite h0, real_of_finite h2, real_of_finite h4]
  choose o ho using hv
  refine ⟨e, o, t * (z * s), he, hw, ho, ?_⟩
  unfold gate
  rw [hz, ht, hs, EReal.coe_mul, EReal.coe_mul]

/-- The block's weights, values and gated cotangent at a real element. -/
theorem Reads.at (r : Reads v0 v1 v2 v3 v4 v5 v6 v7 y x0 x1 x2 x3 x4 x5 x6 x7 i) (q : RealAt x0 x1 x2 x3 x4 x5 x6 x7 i e o g) :
    (bw v1 v3 v5 y (v1 y) = (e 0 : EReal) ∧ bw v1 v3 v5 y (v3 y) = (e 1 : EReal) ∧ bw v1 v3 v5 y (v5 y) = (e 2 : EReal))
      ∧ (v0 y = (o 0 : EReal) ∧ v2 y = (o 1 : EReal) ∧ v4 y = (o 2 : EReal)) ∧ bg v6 v7 y = (g : EReal) := by
  unfold bw bg
  rw [r.r0, r.r1, r.r2, r.r3, r.r4, r.r5, r.r6, r.r7]
  exact ⟨⟨q.w 0, q.w 1, q.w 2⟩, ⟨q.v 0, q.v 1, q.v 2⟩, q.g⟩

/-- Nothing reaches the maximum. -/
theorem top_zero (r : Reads v0 v1 v2 v3 v4 v5 v6 v7 y x0 x1 x2 x3 x4 x5 x6 x7 i) (q : RealAt x0 x1 x2 x3 x4 x5 x6 x7 i e o g) :
    k0_pay2 (k0_pay16 v1 (top v1 v3 v5)) (k0_pay29 v0 v1 v2 v3 v4 v5 v6 v7 (top v1 v3 v5)) (k0_pay31 v0 v1 v2 v3 v4 v5 v6 v7 (top v1 v3 v5)) (k0_pay33 v0 v1 v2 v3 v4 v5 v6 v7 (top v1 v3 v5)) y = 0 := by
  obtain ⟨⟨w1, w2, w3⟩, ⟨o1, o2, o3⟩, hg⟩ := r.at q
  rw [block_top, w1, w2, w3, o1, o2, o3, hg]
  exact byTop_zero (q.pos 0) (q.pos 1) (q.pos 2) _ _ _ _

/-- The derivative by row `k`'s log-denominator. -/
theorem log_side (r : Reads v0 v1 v2 v3 v4 v5 v6 v7 y x0 x1 x2 x3 x4 x5 x6 x7 i) (q : RealAt x0 x1 x2 x3 x4 x5 x6 x7 i e o g) (k : Fin 3) :
    bd v0 v1 v2 v3 v4 v5 v6 v7 y (o k) * e k = val_main_v64 x0 x1 x2 x3 x4 x5 x6 x7 (row i k) := by
  obtain ⟨⟨w1, w2, w3⟩, ⟨o1, o2, o3⟩, hg⟩ := r.at q
  unfold bd
  rw [by_log, w1, w2, w3, o1, o2, o3, hg, q.g, byLog q.pos]
  simp only [q.w, q.v]

/-- The derivative by row `k`'s value. -/
theorem value_side (r : Reads v0 v1 v2 v3 v4 v5 v6 v7 y x0 x1 x2 x3 x4 x5 x6 x7 i) (q : RealAt x0 x1 x2 x3 x4 x5 x6 x7 i e o g) (k : Fin 3) :
    e k * k0_pay25 v1 v3 v5 v6 v7 (top v1 v3 v5) y = val_main_v45 x1 x3 x5 x6 x7 (row i k) := by
  obtain ⟨⟨w1, w2, w3⟩, ⟨o1, o2, o3⟩, hg⟩ := r.at q
  rw [block_share, w1, w2, w3, hg, by_value, q.g, byValue q.pos]
  simp only [q.w]

theorem side_l1 (r : Reads v0 v1 v2 v3 v4 v5 v6 v7 y x0 x1 x2 x3 x4 x5 x6 x7 i) (q : RealAt x0 x1 x2 x3 x4 x5 x6 x7 i e o g)
    (a b : FVec Ideal S512x256 .f32) : k0_pay6 a b (k0_pay16 v1 (top v1 v3 v5)) (k0_pay29 v0 v1 v2 v3 v4 v5 v6 v7 (top v1 v3 v5)) (k0_pay31 v0 v1 v2 v3 v4 v5 v6 v7 (top v1 v3 v5)) (k0_pay33 v0 v1 v2 v3 v4 v5 v6 v7 (top v1 v3 v5)) y = val_main_v66 x0 x1 x2 x3 x4 x5 x6 x7 i := by
  rw [dl1, ← log_side r q 0, ← (r.at q).1.1, ← (r.at q).2.1.1, ← block_d1, ← block_w1]
  show k0_pay1 _ _ y + k0_pay2 (k0_pay16 v1 (top v1 v3 v5)) (k0_pay29 v0 v1 v2 v3 v4 v5 v6 v7 (top v1 v3 v5)) (k0_pay31 v0 v1 v2 v3 v4 v5 v6 v7 (top v1 v3 v5)) (k0_pay33 v0 v1 v2 v3 v4 v5 v6 v7 (top v1 v3 v5)) y * b y * a y = _
  rw [top_zero r q, zero_mul, zero_mul, add_zero]
  rfl

theorem side_l2 (r : Reads v0 v1 v2 v3 v4 v5 v6 v7 y x0 x1 x2 x3 x4 x5 x6 x7 i) (q : RealAt x0 x1 x2 x3 x4 x5 x6 x7 i e o g)
    (a b : FVec Ideal S512x256 .f32) :
    k0_pay5 a b (k0_pay16 v1 (top v1 v3 v5)) (k0_pay29 v0 v1 v2 v3 v4 v5 v6 v7 (top v1 v3 v5)) (k0_pay31 v0 v1 v2 v3 v4 v5 v6 v7 (top v1 v3 v5)) (k0_pay32 v0 v1 v2 v3 v4 v5 v6 v7 (top v1 v3 v5)) (k0_pay33 v0 v1 v2 v3 v4 v5 v6 v7 (top v1 v3 v5)) y
      = val_main_v68 x0 x1 x2 x3 x4 x5 x6 x7 i := by
  rw [dl2, ← log_side r q 1, ← (r.at q).1.2.1, ← (r.at q).2.1.2.1, ← block_d2]
  show k0_pay32 v0 v1 v2 v3 v4 v5 v6 v7 (top v1 v3 v5) y + k0_pay2 (k0_pay16 v1 (top v1 v3 v5)) (k0_pay29 v0 v1 v2 v3 v4 v5 v6 v7 (top v1 v3 v5)) (k0_pay31 v0 v1 v2 v3 v4 v5 v6 v7 (top v1 v3 v5)) (k0_pay33 v0 v1 v2 v3 v4 v5 v6 v7 (top v1 v3 v5)) y * b y * a y = _
  rw [top_zero r q, zero_mul, zero_mul, add_zero]

theorem side_l3 (r : Reads v0 v1 v2 v3 v4 v5 v6 v7 y x0 x1 x2 x3 x4 x5 x6 x7 i) (q : RealAt x0 x1 x2 x3 x4 x5 x6 x7 i e o g)
    (a : FVec Ideal S512x256 .f32) :
    k0_pay3 a (k0_pay16 v1 (top v1 v3 v5)) (k0_pay29 v0 v1 v2 v3 v4 v5 v6 v7 (top v1 v3 v5)) (k0_pay30 v0 v1 v2 v3 v4 v5 v6 v7 (top v1 v3 v5)) (k0_pay31 v0 v1 v2 v3 v4 v5 v6 v7 (top v1 v3 v5)) (k0_pay33 v0 v1 v2 v3 v4 v5 v6 v7 (top v1 v3 v5)) y
      = val_main_v70 x0 x1 x2 x3 x4 x5 x6 x7 i := by
  rw [dl3, ← log_side r q 2, ← (r.at q).1.2.2, ← (r.at q).2.1.2.2, ← block_d3]
  show k0_pay30 v0 v1 v2 v3 v4 v5 v6 v7 (top v1 v3 v5) y + k0_pay2 (k0_pay16 v1 (top v1 v3 v5)) (k0_pay29 v0 v1 v2 v3 v4 v5 v6 v7 (top v1 v3 v5)) (k0_pay31 v0 v1 v2 v3 v4 v5 v6 v7 (top v1 v3 v5)) (k0_pay33 v0 v1 v2 v3 v4 v5 v6 v7 (top v1 v3 v5)) y * a y = _
  rw [top_zero r q, zero_mul, add_zero]

theorem side_o1 (r : Reads v0 v1 v2 v3 v4 v5 v6 v7 y x0 x1 x2 x3 x4 x5 x6 x7 i) (q : RealAt x0 x1 x2 x3 x4 x5 x6 x7 i e o g) :
    k0_pay28 v1 v3 v5 v6 v7 (top v1 v3 v5) y = val_main_v48 x1 x3 x5 x6 x7 i := by
  rw [do1, ← value_side r q 0, ← (r.at q).1.1]
  rfl

theorem side_o2 (r : Reads v0 v1 v2 v3 v4 v5 v6 v7 y x0 x1 x2 x3 x4 x5 x6 x7 i) (q : RealAt x0 x1 x2 x3 x4 x5 x6 x7 i e o g) :
    k0_pay27 v1 v3 v5 v6 v7 (top v1 v3 v5) y = val_main_v50 x1 x3 x5 x6 x7 i := by
  rw [do2, ← value_side r q 1, ← (r.at q).1.2.1]
  rfl

theorem side_o3 (r : Reads v0 v1 v2 v3 v4 v5 v6 v7 y x0 x1 x2 x3 x4 x5 x6 x7 i) (q : RealAt x0 x1 x2 x3 x4 x5 x6 x7 i e o g) :
    k0_pay26 v1 v3 v5 v6 v7 (top v1 v3 v5) y = val_main_v52 x1 x3 x5 x6 x7 i := by
  rw [do3, ← value_side r q 2, ← (r.at q).1.2.2]
  rfl

theorem side_z (r : Reads v0 v1 v2 v3 v4 v5 v6 v7 y x0 x1 x2 x3 x4 x5 x6 x7 i) (q : RealAt x0 x1 x2 x3 x4 x5 x6 x7 i e o g) :
    k0_pay7 (k0_pay23 v0 v1 v2 v3 v4 v5 v6 v7 (top v1 v3 v5)) y = val_main_v71 x0 x1 x2 x3 x4 x5 x6 x7 i := by
  obtain ⟨⟨w1, w2, w3⟩, -, -⟩ := r.at q
  have hm : Ideal.div (bw v1 v3 v5 y (v1 y) * v0 y + bw v1 v3 v5 y (v3 y) * v2 y + bw v1 v3 v5 y (v5 y) * v4 y)
      (bw v1 v3 v5 y (v1 y) + bw v1 v3 v5 y (v3 y) + bw v1 v3 v5 y (v5 y)) = val_main_v38 x0 x1 x2 x3 x4 x5 i := by
    rw [mixed, w1, w2, w3, r.r0, r.r2, r.r4]
    simp only [q.w]
    exact mean q.pos ![x0 i, x2 i, x4 i]
  show k0_pay23 v0 v1 v2 v3 v4 v5 v6 v7 (top v1 v3 v5) y = val_main_v43 x0 x1 x2 x3 x4 x5 x6 x7 i
  rw [block_dz, hm, gate_dz, r.r6, r.r7]

end sides

/-! ## The values -/

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 5]
    ∧ win0_7.index t = ![t.val, 0] ∧ win0_8.index t = ![t.val, 0]
    ∧ win0_9.index t = ![t.val, 0] ∧ win0_10.index t = ![t.val, 0] ∧ win0_11.index t = ![t.val, 0] ∧ win0_12.index t = ![t.val, 0]
    ∧ win0_13.index t = ![t.val, 0] ∧ win0_14.index t = ![t.val, 0] :=
  (by decide +kernel : ∀ t : Fin grid0.N, _)

/-- Where element `y` of block `t` lies. -/
def place (t : Fin cfg0.N) (y : S512x256.Idx) : S8192x256.Idx :=
  ix2 ⟨t.val * 512 + (y 0).val, by have := t.isLt; have h : cfg0.N = 16 := by decide
                                   have := (y 0).isLt; have h' : S512x256.size 0 = 512 := rfl; omega⟩ (y 1)

theorem reads (c : Dev nD) (t : Fin cfg0.N) (y : S512x256.Idx) :
    Reads (iblk m c 0 t) (iblk m c 1 t) (iblk m c 2 t) (iblk m c 3 t) (iblk m c 4 t) (iblk m c 5 t) (iblk m c 6 t) (iblk m c 7 t) y
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (place t y) := by
  constructor <;> blk_point [iblk, place, idx t]

abbrev Finite (c : Dev nD) : Prop := Cert.Pre_all_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = fun _ => 1#1

theorem value_8 (c : Dev nD) (h : Finite m c) : (dats m 0 c).arrAt 8 cfg0.N = val_main_v48 (F := Ideal) (m ((c : Thread nD τ).loc main_arg1)) (m ((c : Thread nD τ).loc main_arg3)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]; frame_out
  rw [kept_34]
  obtain ⟨e, o, g, q⟩ := real_at h (place t y)
  refine (side_o1 (reads m c t y) q).trans ?_
  blk_point [place, idx t]

theorem value_9 (c : Dev nD) (h : Finite m c) : (dats m 0 c).arrAt 9 cfg0.N = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t _ y => ?_
  blk_simp
  rw [after0_9]; frame_out
  rw [kept_36, kept_37, kept_38, kept_39]
  obtain ⟨e, o, g, q⟩ := real_at h (place t y)
  refine (side_l1 (reads m c t y) q _ _).trans ?_
  blk_point [place, idx t]

theorem value_10 (c : Dev nD) (h : Finite m c) : (dats m 0 c).arrAt 10 cfg0.N = val_main_v50 (F := Ideal) (m ((c : Thread nD τ).loc main_arg1)) (m ((c : Thread nD τ).loc main_arg3)) (m ((c : Thread nD τ).loc main_arg5)) (m ((c : Thread nD τ).loc main_arg6)) (m ((c : Thread nD τ).loc main_arg7)) := by
  refine (dats m 0 c).arrAt_eq_of_covers 10 _ (by decide +kernel) fun t _ y => ?_
  blk_simp
  rw [after0_10]; frame_out
  rw [kept_34]
  obtain ⟨e, o, g, q⟩ := real_at h (place t y)
  refine (side_o2 (reads m c t y) q).trans ?_
  blk_point [place, idx t]

theorem value_11 (c : Dev nD) (h : Finite m c) : (dats m 0 c).arrAt 11 cfg0.N = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t _ y => ?_
  blk_simp
  rw [after0_11]; frame_out
  rw [kept_34, kept_36, kept_37, kept_38, kept_39]
  obtain ⟨e, o, g, q⟩ := real_at h (place t y)
  refine (side_l2 (reads m c t y) q _ _).trans ?_
  blk_point [place, idx t]

theorem value_12 (c : Dev nD) (h : Finite m c) : (dats m 0 c).arrAt 12 cfg0.N = val_main_v52 (F := Ideal) (m ((c : Thread nD τ).loc main_arg1)) (m ((c : Thread nD τ).loc main_arg3)) (m ((c : Thread nD τ).loc main_arg5)) (m ((c : Thread nD τ).loc main_arg6)) (m ((c : Thread nD τ).loc main_arg7)) := by
  refine (dats m 0 c).arrAt_eq_of_covers 12 _ (by decide +kernel) fun t _ y => ?_
  blk_simp
  rw [after0_12]; frame_out
  rw [kept_34]
  obtain ⟨e, o, g, q⟩ := real_at h (place t y)
  refine (side_o3 (reads m c t y) q).trans ?_
  blk_point [place, idx t]

theorem value_13 (c : Dev nD) (h : Finite m c) : (dats m 0 c).arrAt 13 cfg0.N = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 13 _ (by decide +kernel) fun t _ y => ?_
  blk_simp
  rw [after0_13]; frame_out
  rw [kept_34, kept_36, kept_37, kept_38, kept_39]
  obtain ⟨e, o, g, q⟩ := real_at h (place t y)
  refine (side_l3 (reads m c t y) q _).trans ?_
  blk_point [place, idx t]

theorem value_14 (c : Dev nD) (h : Finite m c) : (dats m 0 c).arrAt 14 cfg0.N = val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 14 _ (by decide +kernel) fun t _ y => ?_
  blk_simp
  rw [after0_14]; frame_out
  rw [kept_34]
  obtain ⟨e, o, g, q⟩ := real_at h (place t y)
  refine (side_z (reads m c t y) q).trans ?_
  blk_point [place, idx t]

/-- The reference runs, keeps its arguments, and declares no semaphore that could end nonzero. -/
theorem frame_reference : Cert.quiescent_CombBReferenceIdeal (hCombBReferenceIdeal := Cert.CombBReferenceIdeal.Gen.facts) :=
  fun m g _ => (θ_run (Cert.CombBReferenceIdeal.defs (F := Ideal)) _ _).mono
    (fun r h => ⟨fun c => (h c).2.2.2.2.2.2.2, sem_eq_zero_of_no_sems (by decide) r.2⟩)
    (Cert.CombBReferenceIdeal.Value.run (F := Ideal) m g)

set_option maxHeartbeats 2000000 in
/-- From equal arguments that meet the precondition the kernel's results are the reference's. -/
theorem algebraic : Cert.algebraic_CombBKernelIdeal_CombBReferenceIdeal_pre_all_finite (hCombBKernelIdeal := Cert.CombBKernelIdeal.Gen.facts)
    (hCombBReferenceIdeal := Cert.CombBReferenceIdeal.Gen.facts) (hPre_all_finite := Cert.Pre_all_finite.Gen.facts) := by
  intro m g m' g' hp hargs
  refine ⟨_, _, _, _, _, _, _, Cert.CombBKernelIdeal.Value.run_blocks (F := Ideal) m g, ?_⟩
  refine (θ_run (Cert.CombBReferenceIdeal.defs (F := Ideal)) _ _).mono (fun r h c => ?_)
    (Cert.CombBReferenceIdeal.Value.run (F := Ideal) m' g')
  obtain ⟨h0, h1, h2, h3, h4, h5, h6, hk⟩ := h c
  obtain ⟨e0, e1, e2, e3, e4, e5, e6, e7⟩ := hargs c
  refine ⟨h0.trans ?_, h1.trans ?_, h2.trans ?_, h3.trans ?_, h4.trans ?_, h5.trans ?_, h6.trans ?_, hk⟩
  · refine (val_main_v48_eq m' c).trans ?_; rw [e1, e3, e5, e6, e7]; exact (value_8 m c (hp c)).symm
  · refine (val_main_v66_eq m' c).trans ?_; rw [e0, e1, e2, e3, e4, e5, e6, e7]; exact (value_9 m c (hp c)).symm
  · refine (val_main_v50_eq m' c).trans ?_; rw [e1, e3, e5, e6, e7]; exact (value_10 m c (hp c)).symm
  · refine (val_main_v68_eq m' c).trans ?_; rw [e0, e1, e2, e3, e4, e5, e6, e7]; exact (value_11 m c (hp c)).symm
  · refine (val_main_v52_eq m' c).trans ?_; rw [e1, e3, e5, e6, e7]; exact (value_12 m c (hp c)).symm
  · refine (val_main_v70_eq m' c).trans ?_; rw [e0, e1, e2, e3, e4, e5, e6, e7]; exact (value_13 m c (hp c)).symm
  · refine (val_main_v71_eq m' c).trans ?_; rw [e0, e1, e2, e3, e4, e5, e6, e7]; exact (value_14 m c (hp c)).symm

end Cert.CombB

end
-- ==== Proof.lean ====
/-
  The gradients, the products and the optimiser of a hybrid layer's training step: every claim of every call, put together.
-/
module

public import proofs.«01_k».proof.Defs
public import proofs.«01_k».proof.Proof.Gen.MergeKernel.Frame
public import proofs.«01_k».proof.Proof.Gen.MergeKernelIdeal.Frame
public import proofs.«01_k».proof.Proof.Gen.MergeKernelIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.GluKernel.Frame
public import proofs.«01_k».proof.Proof.Gen.GluKernelIdeal.Frame
public import proofs.«01_k».proof.Proof.Gen.GluKernelIdeal.Value
public import proofs.«01_k».proof.Proof.Gen.GluReferenceIdeal
public import proofs.«01_k».proof.Proof.Gen.GluReferenceIdeal.Run
public import proofs.«01_k».proof.Proof.Gen.GluReferenceIdeal.Read
public import proofs.«01_k».proof.Proof.Gen.NormKernel.Frame
public import proofs.«01_k».proof.Proof.Gen.NormKernelIdeal.Frame
public import proofs.«01_k».proof.Proof.Gen.NormKernelIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.DHKernel.Frame
public import proofs.«01_k».proof.Proof.Gen.DHKernelIdeal.Frame
public import proofs.«01_k».proof.Proof.Gen.DHReferenceIdeal
public import proofs.«01_k».proof.Proof.Gen.DHReferenceIdeal.Run
public import proofs.«01_k».proof.Proof.Gen.DHReferenceIdeal.Read
public import proofs.«01_k».proof.Proof.Gen.GWinAKernel.Frame
public import proofs.«01_k».proof.Proof.Gen.GWinAKernelIdeal.Frame
public import proofs.«01_k».proof.Proof.Gen.GWinAKernelIdeal.Value
public import proofs.«01_k».proof.Proof.Gen.GWinAReferenceIdeal
public import proofs.«01_k».proof.Proof.Gen.GWinAReferenceIdeal.Run
public import proofs.«01_k».proof.Proof.Gen.GWinAReferenceIdeal.Read
public import proofs.«01_k».proof.Proof.Gen.GWinQKernel.Frame
public import proofs.«01_k».proof.Proof.Gen.GWinQKernelIdeal.Frame
public import proofs.«01_k».proof.Proof.Gen.GWinQKernelIdeal.Value
public import proofs.«01_k».proof.Proof.Gen.GWinQReferenceIdeal
public import proofs.«01_k».proof.Proof.Gen.GWinQReferenceIdeal.Run
public import proofs.«01_k».proof.Proof.Gen.GWinQReferenceIdeal.Read
public import proofs.«01_k».proof.Proof.Gen.GWinGKernel.Frame
public import proofs.«01_k».proof.Proof.Gen.GWinGKernelIdeal.Frame
public import proofs.«01_k».proof.Proof.Gen.GWinGKernelIdeal.Value
public import proofs.«01_k».proof.Proof.Gen.GWinGReferenceIdeal
public import proofs.«01_k».proof.Proof.Gen.GWinGReferenceIdeal.Run
public import proofs.«01_k».proof.Proof.Gen.GWinGReferenceIdeal.Read
public import proofs.«01_k».proof.Proof.Gen.GWoutKernel.Frame
public import proofs.«01_k».proof.Proof.Gen.GWoutKernelIdeal.Frame
public import proofs.«01_k».proof.Proof.Gen.GWoutKernelIdeal.Value
public import proofs.«01_k».proof.Proof.Gen.GWoutReferenceIdeal
public import proofs.«01_k».proof.Proof.Gen.GWoutReferenceIdeal.Run
public import proofs.«01_k».proof.Proof.Gen.GWoutReferenceIdeal.Read
public import proofs.«01_k».proof.Proof.Gen.GProjAKernel.Frame
public import proofs.«01_k».proof.Proof.Gen.GProjAKernelIdeal.Frame
public import proofs.«01_k».proof.Proof.Gen.GProjAKernelIdeal.Value
public import proofs.«01_k».proof.Proof.Gen.GProjAReferenceIdeal
public import proofs.«01_k».proof.Proof.Gen.GProjAReferenceIdeal.Run
public import proofs.«01_k».proof.Proof.Gen.GProjAReferenceIdeal.Read
public import proofs.«01_k».proof.Proof.Gen.GProjBKernel.Frame
public import proofs.«01_k».proof.Proof.Gen.GProjBKernelIdeal.Frame
public import proofs.«01_k».proof.Proof.Gen.GProjBKernelIdeal.Value
public import proofs.«01_k».proof.Proof.Gen.GProjBReferenceIdeal
public import proofs.«01_k».proof.Proof.Gen.GProjBReferenceIdeal.Run
public import proofs.«01_k».proof.Proof.Gen.GProjBReferenceIdeal.Read
public import proofs.«01_k».proof.Proof.Gen.GProjCKernel.Frame
public import proofs.«01_k».proof.Proof.Gen.GProjCKernelIdeal.Frame
public import proofs.«01_k».proof.Proof.Gen.GProjCKernelIdeal.Value
public import proofs.«01_k».proof.Proof.Gen.GProjCReferenceIdeal
public import proofs.«01_k».proof.Proof.Gen.GProjCReferenceIdeal.Run
public import proofs.«01_k».proof.Proof.Gen.GProjCReferenceIdeal.Read
public import proofs.«01_k».proof.Proof.Gen.GGluKernel.Frame
public import proofs.«01_k».proof.Proof.Gen.GGluKernelIdeal.Frame
public import proofs.«01_k».proof.Proof.Gen.GGluKernelIdeal.Value
public import proofs.«01_k».proof.Proof.Gen.GGluReferenceIdeal
public import proofs.«01_k».proof.Proof.Gen.GGluReferenceIdeal.Run
public import proofs.«01_k».proof.Proof.Gen.GGluReferenceIdeal.Read
public import proofs.«01_k».proof.Proof.Gen.DMergedKernel.Frame
public import proofs.«01_k».proof.Proof.Gen.DMergedKernelIdeal.Frame
public import proofs.«01_k».proof.Proof.Gen.DMergedKernelIdeal.Value
public import proofs.«01_k».proof.Proof.Gen.DMergedReferenceIdeal
public import proofs.«01_k».proof.Proof.Gen.DMergedReferenceIdeal.Run
public import proofs.«01_k».proof.Proof.Gen.DMergedReferenceIdeal.Read
public import proofs.«01_k».proof.Proof.Gen.DYaKernel.Frame
public import proofs.«01_k».proof.Proof.Gen.DYaKernelIdeal.Frame
public import proofs.«01_k».proof.Proof.Gen.DYaKernelIdeal.Value
public import proofs.«01_k».proof.Proof.Gen.DYaReferenceIdeal
public import proofs.«01_k».proof.Proof.Gen.DYaReferenceIdeal.Run
public import proofs.«01_k».proof.Proof.Gen.DYaReferenceIdeal.Read
public import proofs.«01_k».proof.Proof.Gen.DYbKernel.Frame
public import proofs.«01_k».proof.Proof.Gen.DYbKernelIdeal.Frame
public import proofs.«01_k».proof.Proof.Gen.DYbKernelIdeal.Value
public import proofs.«01_k».proof.Proof.Gen.DYbReferenceIdeal
public import proofs.«01_k».proof.Proof.Gen.DYbReferenceIdeal.Run
public import proofs.«01_k».proof.Proof.Gen.DYbReferenceIdeal.Read
public import proofs.«01_k».proof.Proof.Gen.DYcKernel.Frame
public import proofs.«01_k».proof.Proof.Gen.DYcKernelIdeal.Frame
public import proofs.«01_k».proof.Proof.Gen.DYcKernelIdeal.Value
public import proofs.«01_k».proof.Proof.Gen.DYcReferenceIdeal
public import proofs.«01_k».proof.Proof.Gen.DYcReferenceIdeal.Run
public import proofs.«01_k».proof.Proof.Gen.DYcReferenceIdeal.Read
public import proofs.«01_k».proof.Proof.Gen.DGKernel.Frame
public import proofs.«01_k».proof.Proof.Gen.DGKernelIdeal.Frame
public import proofs.«01_k».proof.Proof.Gen.DGKernelIdeal.Value
public import proofs.«01_k».proof.Proof.Gen.DGReferenceIdeal
public import proofs.«01_k».proof.Proof.Gen.DGReferenceIdeal.Run
public import proofs.«01_k».proof.Proof.Gen.DGReferenceIdeal.Read
public import proofs.«01_k».proof.Proof.Gen.InAKernel.Frame
public import proofs.«01_k».proof.Proof.Gen.InAKernelIdeal.Frame
public import proofs.«01_k».proof.Proof.Gen.InAKernelIdeal.Value
public import proofs.«01_k».proof.Proof.Gen.InAReferenceIdeal
public import proofs.«01_k».proof.Proof.Gen.InAReferenceIdeal.Run
public import proofs.«01_k».proof.Proof.Gen.InAReferenceIdeal.Read
public import proofs.«01_k».proof.Proof.Gen.InQKernel.Frame
public import proofs.«01_k».proof.Proof.Gen.InQKernelIdeal.Frame
public import proofs.«01_k».proof.Proof.Gen.InQKernelIdeal.Value
public import proofs.«01_k».proof.Proof.Gen.InQReferenceIdeal
public import proofs.«01_k».proof.Proof.Gen.InQReferenceIdeal.Run
public import proofs.«01_k».proof.Proof.Gen.InQReferenceIdeal.Read
public import proofs.«01_k».proof.Proof.Gen.InGKernel.Frame
public import proofs.«01_k».proof.Proof.Gen.InGKernelIdeal.Frame
public import proofs.«01_k».proof.Proof.Gen.InGKernelIdeal.Value
public import proofs.«01_k».proof.Proof.Gen.InGReferenceIdeal
public import proofs.«01_k».proof.Proof.Gen.InGReferenceIdeal.Run
public import proofs.«01_k».proof.Proof.Gen.InGReferenceIdeal.Read
public import proofs.«01_k».proof.Proof.Gen.ProjAKernel.Frame
public import proofs.«01_k».proof.Proof.Gen.ProjAKernelIdeal.Frame
public import proofs.«01_k».proof.Proof.Gen.ProjAKernelIdeal.Value
public import proofs.«01_k».proof.Proof.Gen.ProjAReferenceIdeal
public import proofs.«01_k».proof.Proof.Gen.ProjAReferenceIdeal.Run
public import proofs.«01_k».proof.Proof.Gen.ProjAReferenceIdeal.Read
public import proofs.«01_k».proof.Proof.Gen.ProjBKernel.Frame
public import proofs.«01_k».proof.Proof.Gen.ProjBKernelIdeal.Frame
public import proofs.«01_k».proof.Proof.Gen.ProjBKernelIdeal.Value
public import proofs.«01_k».proof.Proof.Gen.ProjBReferenceIdeal
public import proofs.«01_k».proof.Proof.Gen.ProjBReferenceIdeal.Run
public import proofs.«01_k».proof.Proof.Gen.ProjBReferenceIdeal.Read
public import proofs.«01_k».proof.Proof.Gen.ProjCKernel.Frame
public import proofs.«01_k».proof.Proof.Gen.ProjCKernelIdeal.Frame
public import proofs.«01_k».proof.Proof.Gen.ProjCKernelIdeal.Value
public import proofs.«01_k».proof.Proof.Gen.ProjCReferenceIdeal
public import proofs.«01_k».proof.Proof.Gen.ProjCReferenceIdeal.Run
public import proofs.«01_k».proof.Proof.Gen.ProjCReferenceIdeal.Read
public import proofs.«01_k».proof.Proof.Gen.Glu1Kernel.Frame
public import proofs.«01_k».proof.Proof.Gen.Glu1KernelIdeal.Frame
public import proofs.«01_k».proof.Proof.Gen.Glu1KernelIdeal.Value
public import proofs.«01_k».proof.Proof.Gen.Glu1ReferenceIdeal
public import proofs.«01_k».proof.Proof.Gen.Glu1ReferenceIdeal.Run
public import proofs.«01_k».proof.Proof.Gen.Glu1ReferenceIdeal.Read
public import proofs.«01_k».proof.Proof.Gen.WOutKernel.Frame
public import proofs.«01_k».proof.Proof.Gen.WOutKernelIdeal.Frame
public import proofs.«01_k».proof.Proof.Gen.WOutKernelIdeal.Value
public import proofs.«01_k».proof.Proof.Gen.WOutReferenceIdeal
public import proofs.«01_k».proof.Proof.Gen.WOutReferenceIdeal.Run
public import proofs.«01_k».proof.Proof.Gen.WOutReferenceIdeal.Read
public import proofs.«01_k».proof.Proof.Gen.OptWInKernel.Frame
public import proofs.«01_k».proof.Proof.Gen.OptWInKernelIdeal.Frame
public import proofs.«01_k».proof.Proof.Gen.OptWInKernelIdeal.Value
public import proofs.«01_k».proof.Proof.Gen.OptWInReferenceIdeal
public import proofs.«01_k».proof.Proof.Gen.OptWInReferenceIdeal.Run
public import proofs.«01_k».proof.Proof.Gen.OptWInReferenceIdeal.Read
public import proofs.«01_k».proof.Proof.Gen.OptGluWKernel.Frame
public import proofs.«01_k».proof.Proof.Gen.OptGluWKernelIdeal.Frame
public import proofs.«01_k».proof.Proof.Gen.OptGluWKernelIdeal.Value
public import proofs.«01_k».proof.Proof.Gen.OptGluWReferenceIdeal
public import proofs.«01_k».proof.Proof.Gen.OptGluWReferenceIdeal.Run
public import proofs.«01_k».proof.Proof.Gen.OptGluWReferenceIdeal.Read
public import proofs.«01_k».proof.Proof.Gen.OptWOutKernel.Frame
public import proofs.«01_k».proof.Proof.Gen.OptWOutKernelIdeal.Frame
public import proofs.«01_k».proof.Proof.Gen.OptWOutKernelIdeal.Value
public import proofs.«01_k».proof.Proof.Gen.OptWOutReferenceIdeal
public import proofs.«01_k».proof.Proof.Gen.OptWOutReferenceIdeal.Run
public import proofs.«01_k».proof.Proof.Gen.OptWOutReferenceIdeal.Read
public import proofs.«01_k».proof.Proof.Gen.OptProjAKernel.Frame
public import proofs.«01_k».proof.Proof.Gen.OptProjAKernelIdeal.Frame
public import proofs.«01_k».proof.Proof.Gen.OptProjAKernelIdeal.Value
public import proofs.«01_k».proof.Proof.Gen.OptProjAReferenceIdeal
public import proofs.«01_k».proof.Proof.Gen.OptProjAReferenceIdeal.Run
public import proofs.«01_k».proof.Proof.Gen.OptProjAReferenceIdeal.Read
public import proofs.«01_k».proof.Proof.Gen.OptProjBKernel.Frame
public import proofs.«01_k».proof.Proof.Gen.OptProjBKernelIdeal.Frame
public import proofs.«01_k».proof.Proof.Gen.OptProjBKernelIdeal.Value
public import proofs.«01_k».proof.Proof.Gen.OptProjBReferenceIdeal
public import proofs.«01_k».proof.Proof.Gen.OptProjBReferenceIdeal.Run
public import proofs.«01_k».proof.Proof.Gen.OptProjBReferenceIdeal.Read
public import proofs.«01_k».proof.Proof.Gen.OptProjCKernel.Frame
public import proofs.«01_k».proof.Proof.Gen.OptProjCKernelIdeal.Frame
public import proofs.«01_k».proof.Proof.Gen.OptProjCKernelIdeal.Value
public import proofs.«01_k».proof.Proof.Gen.OptProjCReferenceIdeal
public import proofs.«01_k».proof.Proof.Gen.OptProjCReferenceIdeal.Run
public import proofs.«01_k».proof.Proof.Gen.OptProjCReferenceIdeal.Read
public import proofs.«01_k».proof.Proof.Gen.OptNormKernel.Frame
public import proofs.«01_k».proof.Proof.Gen.OptNormKernelIdeal.Frame
public import proofs.«01_k».proof.Proof.Gen.OptNormKernelIdeal.Value
public import proofs.«01_k».proof.Proof.Gen.OptNormReferenceIdeal
public import proofs.«01_k».proof.Proof.Gen.OptNormReferenceIdeal.Run
public import proofs.«01_k».proof.Proof.Gen.OptNormReferenceIdeal.Read
public import proofs.«01_k».proof.Proof.Gen.OptAKernel.Frame
public import proofs.«01_k».proof.Proof.Gen.OptAKernelIdeal.Frame
public import proofs.«01_k».proof.Proof.Gen.OptAKernelIdeal.Value
public import proofs.«01_k».proof.Proof.Gen.OptAReferenceIdeal
public import proofs.«01_k».proof.Proof.Gen.OptAReferenceIdeal.Run
public import proofs.«01_k».proof.Proof.Gen.OptAReferenceIdeal.Read
public import proofs.«01_k».proof.Proof.Gen.OptStepKernel.Frame
public import proofs.«01_k».proof.Proof.Gen.OptStepKernelIdeal.Frame
public import proofs.«01_k».proof.Proof.Gen.OptStepKernelIdeal.Value
public import proofs.«01_k».proof.Proof.Gen.OptStepReferenceIdeal
public import proofs.«01_k».proof.Proof.Gen.OptStepReferenceIdeal.Run
public import proofs.«01_k».proof.Proof.Gen.OptStepReferenceIdeal.Read
public import proofs.«01_k».proof.Proof.Gen.OptBKernel.Frame
public import proofs.«01_k».proof.Proof.Gen.OptBKernelIdeal.Frame
public import proofs.«01_k».proof.Proof.Gen.OptBKernelIdeal.Value
public import proofs.«01_k».proof.Proof.Gen.OptBReferenceIdeal
public import proofs.«01_k».proof.Proof.Gen.OptBReferenceIdeal.Run
public import proofs.«01_k».proof.Proof.Gen.OptBReferenceIdeal.Read
public import proofs.«01_k».proof.Proof.Gen.OptCKernel.Frame
public import proofs.«01_k».proof.Proof.Gen.OptCKernelIdeal.Frame
public import proofs.«01_k».proof.Proof.Gen.OptCKernelIdeal.Value
public import proofs.«01_k».proof.Proof.Gen.OptCReferenceIdeal
public import proofs.«01_k».proof.Proof.Gen.OptCReferenceIdeal.Run
public import proofs.«01_k».proof.Proof.Gen.OptCReferenceIdeal.Read
public import proofs.«01_k».proof.Proof.Gen.OptDKernel.Frame
public import proofs.«01_k».proof.Proof.Gen.OptDKernelIdeal.Frame
public import proofs.«01_k».proof.Proof.Gen.OptDKernelIdeal.Value
public import proofs.«01_k».proof.Proof.Gen.OptDReferenceIdeal
public import proofs.«01_k».proof.Proof.Gen.OptDReferenceIdeal.Run
public import proofs.«01_k».proof.Proof.Gen.OptDReferenceIdeal.Read
public import proofs.«01_k».proof.Proof.Gen.OptQKernel.Frame
public import proofs.«01_k».proof.Proof.Gen.OptQKernelIdeal.Frame
public import proofs.«01_k».proof.Proof.Gen.OptQKernelIdeal.Value
public import proofs.«01_k».proof.Proof.Gen.OptQReferenceIdeal
public import proofs.«01_k».proof.Proof.Gen.OptQReferenceIdeal.Run
public import proofs.«01_k».proof.Proof.Gen.OptQReferenceIdeal.Read
public import proofs.«01_k».proof.Proof.Gen.OptConvWKernel.Frame
public import proofs.«01_k».proof.Proof.Gen.OptConvWKernelIdeal.Frame
public import proofs.«01_k».proof.Proof.Gen.OptConvWKernelIdeal.Value
public import proofs.«01_k».proof.Proof.Gen.OptConvWReferenceIdeal
public import proofs.«01_k».proof.Proof.Gen.OptConvWReferenceIdeal.Run
public import proofs.«01_k».proof.Proof.Gen.OptConvWReferenceIdeal.Read
public import proofs.«01_k».proof.Proof.Gen.OptConvBKernel.Frame
public import proofs.«01_k».proof.Proof.Gen.OptConvBKernelIdeal.Frame
public import proofs.«01_k».proof.Proof.Gen.OptConvBKernelIdeal.Value
public import proofs.«01_k».proof.Proof.Gen.OptConvBReferenceIdeal
public import proofs.«01_k».proof.Proof.Gen.OptConvBReferenceIdeal.Run
public import proofs.«01_k».proof.Proof.Gen.OptConvBReferenceIdeal.Read
public import proofs.«01_k».proof.Proof.Gen.OptDtKernel.Frame
public import proofs.«01_k».proof.Proof.Gen.OptDtKernelIdeal.Frame
public import proofs.«01_k».proof.Proof.Gen.OptDtKernelIdeal.Value
public import proofs.«01_k».proof.Proof.Gen.OptDtReferenceIdeal
public import proofs.«01_k».proof.Proof.Gen.OptDtReferenceIdeal.Run
public import proofs.«01_k».proof.Proof.Gen.OptDtReferenceIdeal.Read
public import proofs.«01_k».proof.Proof.Gen.OptSsdNormKernel.Frame
public import proofs.«01_k».proof.Proof.Gen.OptSsdNormKernelIdeal.Frame
public import proofs.«01_k».proof.Proof.Gen.OptSsdNormKernelIdeal.Value
public import proofs.«01_k».proof.Proof.Gen.OptSsdNormReferenceIdeal
public import proofs.«01_k».proof.Proof.Gen.OptSsdNormReferenceIdeal.Run
public import proofs.«01_k».proof.Proof.Gen.OptSsdNormReferenceIdeal.Read
public import proofs.«01_k».proof.Proof.Gen.SumSmallKernel.Frame
public import proofs.«01_k».proof.Proof.Gen.SumSmallKernelIdeal.Frame
public import proofs.«01_k».proof.Proof.Gen.SumSmallKernelIdeal.Value
public import proofs.«01_k».proof.Proof.Gen.SumSmallReferenceIdeal
public import proofs.«01_k».proof.Proof.Gen.SumSmallReferenceIdeal.Run
public import proofs.«01_k».proof.Proof.Gen.SumSmallReferenceIdeal.Read
public import proofs.«01_k».proof.Proof.Gen.LossHeadKernel.Frame
public import proofs.«01_k».proof.Proof.Gen.LossHeadKernelIdeal.Frame
public import proofs.«01_k».proof.Proof.Gen.LossHeadKernelIdeal.Value
public import proofs.«01_k».proof.Proof.Gen.LossHeadReferenceIdeal
public import proofs.«01_k».proof.Proof.Gen.LossHeadReferenceIdeal.Run
public import proofs.«01_k».proof.Proof.Gen.LossHeadReferenceIdeal.Read
public import proofs.«01_k».proof.Proof.Gen.NormFKernel.Frame
public import proofs.«01_k».proof.Proof.Gen.NormFKernelIdeal.Frame
public import proofs.«01_k».proof.Proof.Gen.NormFKernelIdeal.Value
public import proofs.«01_k».proof.Proof.Gen.NormFReferenceIdeal
public import proofs.«01_k».proof.Proof.Gen.NormFReferenceIdeal.Run
public import proofs.«01_k».proof.Proof.Gen.NormFReferenceIdeal.Read
public import proofs.«01_k».proof.Proof.Gen.MergeFKernel.Frame
public import proofs.«01_k».proof.Proof.Gen.MergeFKernelIdeal.Frame
public import proofs.«01_k».proof.Proof.Gen.MergeFKernelIdeal.Value
public import proofs.«01_k».proof.Proof.Gen.MergeFReferenceIdeal
public import proofs.«01_k».proof.Proof.Gen.MergeFReferenceIdeal.Run
public import proofs.«01_k».proof.Proof.Gen.MergeFReferenceIdeal.Read
public import proofs.«01_k».proof.Proof.Gen.GluFKernel.Frame
public import proofs.«01_k».proof.Proof.Gen.GluFKernelIdeal.Frame
public import proofs.«01_k».proof.Proof.Gen.GluFKernelIdeal.Value
public import proofs.«01_k».proof.Proof.Gen.GluFReferenceIdeal
public import proofs.«01_k».proof.Proof.Gen.GluFReferenceIdeal.Run
public import proofs.«01_k».proof.Proof.Gen.GluFReferenceIdeal.Read
public import proofs.«01_k».proof.Proof.Gen.CombKernel.Frame
public import proofs.«01_k».proof.Proof.Gen.CombKernelIdeal.Frame
public import proofs.«01_k».proof.Proof.Gen.CombKernelIdeal.Value
public import proofs.«01_k».proof.Proof.Gen.CombReferenceIdeal
public import proofs.«01_k».proof.Proof.Gen.CombReferenceIdeal.Run
public import proofs.«01_k».proof.Proof.Gen.CombReferenceIdeal.Read
public import proofs.«01_k».proof.Proof.Gen.CombBKernel.Frame
public import proofs.«01_k».proof.Proof.Gen.CombBKernelIdeal.Frame
public import proofs.«01_k».proof.Proof.Gen.CombBKernelIdeal.Value
public import proofs.«01_k».proof.Proof.Gen.CombBReferenceIdeal
public import proofs.«01_k».proof.Proof.Gen.CombBReferenceIdeal.Run
public import proofs.«01_k».proof.Proof.Gen.CombBReferenceIdeal.Read
public import proofs.«01_k».proof.Proof.Merge
public import proofs.«01_k».proof.Proof.Glu
public import proofs.«01_k».proof.Proof.Norm
public import proofs.«01_k».proof.Proof.DH
public import proofs.«01_k».proof.Proof.GWinA
public import proofs.«01_k».proof.Proof.GWinQ
public import proofs.«01_k».proof.Proof.GWinG
public import proofs.«01_k».proof.Proof.GWout
public import proofs.«01_k».proof.Proof.GProjA
public import proofs.«01_k».proof.Proof.GProjB
public import proofs.«01_k».proof.Proof.GProjC
public import proofs.«01_k».proof.Proof.GGlu
public import proofs.«01_k».proof.Proof.DMerged
public import proofs.«01_k».proof.Proof.DYa
public import proofs.«01_k».proof.Proof.DYb
public import proofs.«01_k».proof.Proof.DYc
public import proofs.«01_k».proof.Proof.DG
public import proofs.«01_k».proof.Proof.InA
public import proofs.«01_k».proof.Proof.InQ
public import proofs.«01_k».proof.Proof.InG
public import proofs.«01_k».proof.Proof.ProjA
public import proofs.«01_k».proof.Proof.ProjB
public import proofs.«01_k».proof.Proof.ProjC
public import proofs.«01_k».proof.Proof.Glu1
public import proofs.«01_k».proof.Proof.WOut
public import proofs.«01_k».proof.Proof.OptWIn
public import proofs.«01_k».proof.Proof.OptGluW
public import proofs.«01_k».proof.Proof.OptWOut
public import proofs.«01_k».proof.Proof.OptProjA
public import proofs.«01_k».proof.Proof.OptProjB
public import proofs.«01_k».proof.Proof.OptProjC
public import proofs.«01_k».proof.Proof.OptNorm
public import proofs.«01_k».proof.Proof.OptA
public import proofs.«01_k».proof.Proof.OptStep
public import proofs.«01_k».proof.Proof.OptB
public import proofs.«01_k».proof.Proof.OptC
public import proofs.«01_k».proof.Proof.OptD
public import proofs.«01_k».proof.Proof.OptQ
public import proofs.«01_k».proof.Proof.OptConvW
public import proofs.«01_k».proof.Proof.OptConvB
public import proofs.«01_k».proof.Proof.OptDt
public import proofs.«01_k».proof.Proof.OptSsdNorm
public import proofs.«01_k».proof.Proof.SumSmall
public import proofs.«01_k».proof.Proof.LossHead
public import proofs.«01_k».proof.Proof.NormF
public import proofs.«01_k».proof.Proof.MergeF
public import proofs.«01_k».proof.Proof.GluF
public import proofs.«01_k».proof.Proof.Comb
public import proofs.«01_k».proof.Proof.CombB
public import proofs.«01_k».proof.Proof.Gen.Pre_weights_finite
public import proofs.«01_k».proof.Proof.Gen.Pre_all_finite

@[expose] public section

noncomputable section

namespace Cert.Proof

open Idealize.ShloMosaic Idealize.SL.Sem

/-- For every call: the programs' facts; the kernel (over bits and over the reals) and the reference run and keep their
arguments; no operation was rewritten between the two readings of the kernel; and over the reals its results are the
reference's. -/
theorem claim : Cert.Claim :=
  ⟨Cert.MergeKernel.Gen.facts, Cert.MergeKernelIdeal.Gen.facts, Cert.MergeReferenceIdeal.Gen.facts,
    Cert.GluKernel.Gen.facts, Cert.GluKernelIdeal.Gen.facts, Cert.GluReferenceIdeal.Gen.facts,
    Cert.NormKernel.Gen.facts, Cert.NormKernelIdeal.Gen.facts, Cert.NormReferenceIdeal.Gen.facts,
    Cert.DHKernel.Gen.facts, Cert.DHKernelIdeal.Gen.facts, Cert.DHReferenceIdeal.Gen.facts,
    Cert.GWinAKernel.Gen.facts, Cert.GWinAKernelIdeal.Gen.facts, Cert.GWinAReferenceIdeal.Gen.facts,
    Cert.GWinQKernel.Gen.facts, Cert.GWinQKernelIdeal.Gen.facts, Cert.GWinQReferenceIdeal.Gen.facts,
    Cert.GWinGKernel.Gen.facts, Cert.GWinGKernelIdeal.Gen.facts, Cert.GWinGReferenceIdeal.Gen.facts,
    Cert.GWoutKernel.Gen.facts, Cert.GWoutKernelIdeal.Gen.facts, Cert.GWoutReferenceIdeal.Gen.facts,
    Cert.GProjAKernel.Gen.facts, Cert.GProjAKernelIdeal.Gen.facts, Cert.GProjAReferenceIdeal.Gen.facts,
    Cert.GProjBKernel.Gen.facts, Cert.GProjBKernelIdeal.Gen.facts, Cert.GProjBReferenceIdeal.Gen.facts,
    Cert.GProjCKernel.Gen.facts, Cert.GProjCKernelIdeal.Gen.facts, Cert.GProjCReferenceIdeal.Gen.facts,
    Cert.GGluKernel.Gen.facts, Cert.GGluKernelIdeal.Gen.facts, Cert.GGluReferenceIdeal.Gen.facts,
    Cert.DMergedKernel.Gen.facts, Cert.DMergedKernelIdeal.Gen.facts, Cert.DMergedReferenceIdeal.Gen.facts,
    Cert.DYaKernel.Gen.facts, Cert.DYaKernelIdeal.Gen.facts, Cert.DYaReferenceIdeal.Gen.facts,
    Cert.DYbKernel.Gen.facts, Cert.DYbKernelIdeal.Gen.facts, Cert.DYbReferenceIdeal.Gen.facts,
    Cert.DYcKernel.Gen.facts, Cert.DYcKernelIdeal.Gen.facts, Cert.DYcReferenceIdeal.Gen.facts,
    Cert.DGKernel.Gen.facts, Cert.DGKernelIdeal.Gen.facts, Cert.DGReferenceIdeal.Gen.facts,
    Cert.InAKernel.Gen.facts, Cert.InAKernelIdeal.Gen.facts, Cert.InAReferenceIdeal.Gen.facts,
    Cert.InQKernel.Gen.facts, Cert.InQKernelIdeal.Gen.facts, Cert.InQReferenceIdeal.Gen.facts,
    Cert.InGKernel.Gen.facts, Cert.InGKernelIdeal.Gen.facts, Cert.InGReferenceIdeal.Gen.facts,
    Cert.ProjAKernel.Gen.facts, Cert.ProjAKernelIdeal.Gen.facts, Cert.ProjAReferenceIdeal.Gen.facts,
    Cert.ProjBKernel.Gen.facts, Cert.ProjBKernelIdeal.Gen.facts, Cert.ProjBReferenceIdeal.Gen.facts,
    Cert.ProjCKernel.Gen.facts, Cert.ProjCKernelIdeal.Gen.facts, Cert.ProjCReferenceIdeal.Gen.facts,
    Cert.Glu1Kernel.Gen.facts, Cert.Glu1KernelIdeal.Gen.facts, Cert.Glu1ReferenceIdeal.Gen.facts,
    Cert.WOutKernel.Gen.facts, Cert.WOutKernelIdeal.Gen.facts, Cert.WOutReferenceIdeal.Gen.facts,
    Cert.OptWInKernel.Gen.facts, Cert.OptWInKernelIdeal.Gen.facts, Cert.OptWInReferenceIdeal.Gen.facts,
    Cert.OptGluWKernel.Gen.facts, Cert.OptGluWKernelIdeal.Gen.facts, Cert.OptGluWReferenceIdeal.Gen.facts,
    Cert.OptWOutKernel.Gen.facts, Cert.OptWOutKernelIdeal.Gen.facts, Cert.OptWOutReferenceIdeal.Gen.facts,
    Cert.OptProjAKernel.Gen.facts, Cert.OptProjAKernelIdeal.Gen.facts, Cert.OptProjAReferenceIdeal.Gen.facts,
    Cert.OptProjBKernel.Gen.facts, Cert.OptProjBKernelIdeal.Gen.facts, Cert.OptProjBReferenceIdeal.Gen.facts,
    Cert.OptProjCKernel.Gen.facts, Cert.OptProjCKernelIdeal.Gen.facts, Cert.OptProjCReferenceIdeal.Gen.facts,
    Cert.OptNormKernel.Gen.facts, Cert.OptNormKernelIdeal.Gen.facts, Cert.OptNormReferenceIdeal.Gen.facts,
    Cert.OptAKernel.Gen.facts, Cert.OptAKernelIdeal.Gen.facts, Cert.OptAReferenceIdeal.Gen.facts,
    Cert.OptStepKernel.Gen.facts, Cert.OptStepKernelIdeal.Gen.facts, Cert.OptStepReferenceIdeal.Gen.facts,
    Cert.OptBKernel.Gen.facts, Cert.OptBKernelIdeal.Gen.facts, Cert.OptBReferenceIdeal.Gen.facts,
    Cert.OptCKernel.Gen.facts, Cert.OptCKernelIdeal.Gen.facts, Cert.OptCReferenceIdeal.Gen.facts,
    Cert.OptDKernel.Gen.facts, Cert.OptDKernelIdeal.Gen.facts, Cert.OptDReferenceIdeal.Gen.facts,
    Cert.OptQKernel.Gen.facts, Cert.OptQKernelIdeal.Gen.facts, Cert.OptQReferenceIdeal.Gen.facts,
    Cert.OptConvWKernel.Gen.facts, Cert.OptConvWKernelIdeal.Gen.facts, Cert.OptConvWReferenceIdeal.Gen.facts,
    Cert.OptConvBKernel.Gen.facts, Cert.OptConvBKernelIdeal.Gen.facts, Cert.OptConvBReferenceIdeal.Gen.facts,
    Cert.OptDtKernel.Gen.facts, Cert.OptDtKernelIdeal.Gen.facts, Cert.OptDtReferenceIdeal.Gen.facts,
    Cert.OptSsdNormKernel.Gen.facts, Cert.OptSsdNormKernelIdeal.Gen.facts, Cert.OptSsdNormReferenceIdeal.Gen.facts,
    Cert.SumSmallKernel.Gen.facts, Cert.SumSmallKernelIdeal.Gen.facts, Cert.SumSmallReferenceIdeal.Gen.facts,
    Cert.LossHeadKernel.Gen.facts, Cert.LossHeadKernelIdeal.Gen.facts, Cert.LossHeadReferenceIdeal.Gen.facts,
    Cert.NormFKernel.Gen.facts, Cert.NormFKernelIdeal.Gen.facts, Cert.NormFReferenceIdeal.Gen.facts,
    Cert.MergeFKernel.Gen.facts, Cert.MergeFKernelIdeal.Gen.facts, Cert.MergeFReferenceIdeal.Gen.facts,
    Cert.GluFKernel.Gen.facts, Cert.GluFKernelIdeal.Gen.facts, Cert.GluFReferenceIdeal.Gen.facts,
    Cert.CombKernel.Gen.facts, Cert.CombKernelIdeal.Gen.facts, Cert.CombReferenceIdeal.Gen.facts,
    Cert.CombBKernel.Gen.facts, Cert.CombBKernelIdeal.Gen.facts, Cert.CombBReferenceIdeal.Gen.facts,
    Cert.Pre_weights_finite.Gen.facts,
    Cert.Pre_all_finite.Gen.facts,
    fun m g _ => Cert.MergeKernel.Gen.frame m g, fun m g _ => Cert.MergeKernelIdeal.Gen.frame m g, Cert.Merge.frame_reference,
    fun m g _ => Cert.GluKernel.Gen.frame m g, fun m g _ => Cert.GluKernelIdeal.Gen.frame m g, Cert.Glu.frame_reference,
    fun m g _ => Cert.NormKernel.Gen.frame m g, fun m g _ => Cert.NormKernelIdeal.Gen.frame m g, Cert.Norm.frame_reference,
    fun m g _ => Cert.DHKernel.Gen.frame m g, fun m g _ => Cert.DHKernelIdeal.Gen.frame m g, Cert.DH.frame_reference,
    fun m g _ => Cert.GWinAKernel.Gen.frame m g, fun m g _ => Cert.GWinAKernelIdeal.Gen.frame m g, Cert.GWinA.frame_reference,
    fun m g _ => Cert.GWinQKernel.Gen.frame m g, fun m g _ => Cert.GWinQKernelIdeal.Gen.frame m g, Cert.GWinQ.frame_reference,
    fun m g _ => Cert.GWinGKernel.Gen.frame m g, fun m g _ => Cert.GWinGKernelIdeal.Gen.frame m g, Cert.GWinG.frame_reference,
    fun m g _ => Cert.GWoutKernel.Gen.frame m g, fun m g _ => Cert.GWoutKernelIdeal.Gen.frame m g, Cert.GWout.frame_reference,
    fun m g _ => Cert.GProjAKernel.Gen.frame m g, fun m g _ => Cert.GProjAKernelIdeal.Gen.frame m g, Cert.GProjA.frame_reference,
    fun m g _ => Cert.GProjBKernel.Gen.frame m g, fun m g _ => Cert.GProjBKernelIdeal.Gen.frame m g, Cert.GProjB.frame_reference,
    fun m g _ => Cert.GProjCKernel.Gen.frame m g, fun m g _ => Cert.GProjCKernelIdeal.Gen.frame m g, Cert.GProjC.frame_reference,
    fun m g _ => Cert.GGluKernel.Gen.frame m g, fun m g _ => Cert.GGluKernelIdeal.Gen.frame m g, Cert.GGlu.frame_reference,
    fun m g _ => Cert.DMergedKernel.Gen.frame m g, fun m g _ => Cert.DMergedKernelIdeal.Gen.frame m g, Cert.DMerged.frame_reference,
    fun m g _ => Cert.DYaKernel.Gen.frame m g, fun m g _ => Cert.DYaKernelIdeal.Gen.frame m g, Cert.DYa.frame_reference,
    fun m g _ => Cert.DYbKernel.Gen.frame m g, fun m g _ => Cert.DYbKernelIdeal.Gen.frame m g, Cert.DYb.frame_reference,
    fun m g _ => Cert.DYcKernel.Gen.frame m g, fun m g _ => Cert.DYcKernelIdeal.Gen.frame m g, Cert.DYc.frame_reference,
    fun m g _ => Cert.DGKernel.Gen.frame m g, fun m g _ => Cert.DGKernelIdeal.Gen.frame m g, Cert.DG.frame_reference,
    fun m g _ => Cert.InAKernel.Gen.frame m g, fun m g _ => Cert.InAKernelIdeal.Gen.frame m g, Cert.InA.frame_reference,
    fun m g _ => Cert.InQKernel.Gen.frame m g, fun m g _ => Cert.InQKernelIdeal.Gen.frame m g, Cert.InQ.frame_reference,
    fun m g _ => Cert.InGKernel.Gen.frame m g, fun m g _ => Cert.InGKernelIdeal.Gen.frame m g, Cert.InG.frame_reference,
    fun m g _ => Cert.ProjAKernel.Gen.frame m g, fun m g _ => Cert.ProjAKernelIdeal.Gen.frame m g, Cert.ProjA.frame_reference,
    fun m g _ => Cert.ProjBKernel.Gen.frame m g, fun m g _ => Cert.ProjBKernelIdeal.Gen.frame m g, Cert.ProjB.frame_reference,
    fun m g _ => Cert.ProjCKernel.Gen.frame m g, fun m g _ => Cert.ProjCKernelIdeal.Gen.frame m g, Cert.ProjC.frame_reference,
    fun m g _ => Cert.Glu1Kernel.Gen.frame m g, fun m g _ => Cert.Glu1KernelIdeal.Gen.frame m g, Cert.Glu1.frame_reference,
    fun m g _ => Cert.WOutKernel.Gen.frame m g, fun m g _ => Cert.WOutKernelIdeal.Gen.frame m g, Cert.WOut.frame_reference,
    fun m g _ => Cert.OptWInKernel.Gen.frame m g, fun m g _ => Cert.OptWInKernelIdeal.Gen.frame m g, Cert.OptWIn.frame_reference,
    fun m g _ => Cert.OptGluWKernel.Gen.frame m g, fun m g _ => Cert.OptGluWKernelIdeal.Gen.frame m g, Cert.OptGluW.frame_reference,
    fun m g _ => Cert.OptWOutKernel.Gen.frame m g, fun m g _ => Cert.OptWOutKernelIdeal.Gen.frame m g, Cert.OptWOut.frame_reference,
    fun m g _ => Cert.OptProjAKernel.Gen.frame m g, fun m g _ => Cert.OptProjAKernelIdeal.Gen.frame m g, Cert.OptProjA.frame_reference,
    fun m g _ => Cert.OptProjBKernel.Gen.frame m g, fun m g _ => Cert.OptProjBKernelIdeal.Gen.frame m g, Cert.OptProjB.frame_reference,
    fun m g _ => Cert.OptProjCKernel.Gen.frame m g, fun m g _ => Cert.OptProjCKernelIdeal.Gen.frame m g, Cert.OptProjC.frame_reference,
    fun m g _ => Cert.OptNormKernel.Gen.frame m g, fun m g _ => Cert.OptNormKernelIdeal.Gen.frame m g, Cert.OptNorm.frame_reference,
    fun m g _ => Cert.OptAKernel.Gen.frame m g, fun m g _ => Cert.OptAKernelIdeal.Gen.frame m g, Cert.OptA.frame_reference,
    fun m g _ => Cert.OptStepKernel.Gen.frame m g, fun m g _ => Cert.OptStepKernelIdeal.Gen.frame m g, Cert.OptStep.frame_reference,
    fun m g _ => Cert.OptBKernel.Gen.frame m g, fun m g _ => Cert.OptBKernelIdeal.Gen.frame m g, Cert.OptB.frame_reference,
    fun m g _ => Cert.OptCKernel.Gen.frame m g, fun m g _ => Cert.OptCKernelIdeal.Gen.frame m g, Cert.OptC.frame_reference,
    fun m g _ => Cert.OptDKernel.Gen.frame m g, fun m g _ => Cert.OptDKernelIdeal.Gen.frame m g, Cert.OptD.frame_reference,
    fun m g _ => Cert.OptQKernel.Gen.frame m g, fun m g _ => Cert.OptQKernelIdeal.Gen.frame m g, Cert.OptQ.frame_reference,
    fun m g _ => Cert.OptConvWKernel.Gen.frame m g, fun m g _ => Cert.OptConvWKernelIdeal.Gen.frame m g, Cert.OptConvW.frame_reference,
    fun m g _ => Cert.OptConvBKernel.Gen.frame m g, fun m g _ => Cert.OptConvBKernelIdeal.Gen.frame m g, Cert.OptConvB.frame_reference,
    fun m g _ => Cert.OptDtKernel.Gen.frame m g, fun m g _ => Cert.OptDtKernelIdeal.Gen.frame m g, Cert.OptDt.frame_reference,
    fun m g _ => Cert.OptSsdNormKernel.Gen.frame m g, fun m g _ => Cert.OptSsdNormKernelIdeal.Gen.frame m g, Cert.OptSsdNorm.frame_reference,
    fun m g _ => Cert.SumSmallKernel.Gen.frame m g, fun m g _ => Cert.SumSmallKernelIdeal.Gen.frame m g, Cert.SumSmall.frame_reference,
    fun m g _ => Cert.LossHeadKernel.Gen.frame m g, fun m g _ => Cert.LossHeadKernelIdeal.Gen.frame m g, Cert.LossHead.frame_reference,
    fun m g _ => Cert.NormFKernel.Gen.frame m g, fun m g _ => Cert.NormFKernelIdeal.Gen.frame m g, Cert.NormF.frame_reference,
    fun m g _ => Cert.MergeFKernel.Gen.frame m g, fun m g _ => Cert.MergeFKernelIdeal.Gen.frame m g, Cert.MergeF.frame_reference,
    fun m g _ => Cert.GluFKernel.Gen.frame m g, fun m g _ => Cert.GluFKernelIdeal.Gen.frame m g, Cert.GluF.frame_reference,
    fun m g _ => Cert.CombKernel.Gen.frame m g, fun m g _ => Cert.CombKernelIdeal.Gen.frame m g, fun m g _ => Cert.CombKernelIdeal.Gen.frame m g, Cert.Comb.frame_reference, fun m g _ => Cert.Comb.frame_reference m g trivial,
    fun m g _ => Cert.CombBKernel.Gen.frame m g, fun m g _ => Cert.CombBKernelIdeal.Gen.frame m g, fun m g _ => Cert.CombBKernelIdeal.Gen.frame m g, Cert.CombB.frame_reference, fun m g _ => Cert.CombB.frame_reference m g trivial,
    trivial, Cert.Merge.algebraic,
    trivial, Cert.Glu.algebraic,
    trivial, Cert.Norm.algebraic,
    trivial, Cert.DH.algebraic,
    trivial, Cert.GWinA.algebraic,
    trivial, Cert.GWinQ.algebraic,
    trivial, Cert.GWinG.algebraic,
    trivial, Cert.GWout.algebraic,
    trivial, Cert.GProjA.algebraic,
    trivial, Cert.GProjB.algebraic,
    trivial, Cert.GProjC.algebraic,
    trivial, Cert.GGlu.algebraic,
    trivial, Cert.DMerged.algebraic,
    trivial, Cert.DYa.algebraic,
    trivial, Cert.DYb.algebraic,
    trivial, Cert.DYc.algebraic,
    trivial, Cert.DG.algebraic,
    trivial, Cert.InA.algebraic,
    trivial, Cert.InQ.algebraic,
    trivial, Cert.InG.algebraic,
    trivial, Cert.ProjA.algebraic,
    trivial, Cert.ProjB.algebraic,
    trivial, Cert.ProjC.algebraic,
    trivial, Cert.Glu1.algebraic,
    trivial, Cert.WOut.algebraic,
    trivial, Cert.OptWIn.algebraic,
    trivial, Cert.OptGluW.algebraic,
    trivial, Cert.OptWOut.algebraic,
    trivial, Cert.OptProjA.algebraic,
    trivial, Cert.OptProjB.algebraic,
    trivial, Cert.OptProjC.algebraic,
    trivial, Cert.OptNorm.algebraic,
    trivial, Cert.OptA.algebraic,
    trivial, Cert.OptStep.algebraic,
    trivial, Cert.OptB.algebraic,
    trivial, Cert.OptC.algebraic,
    trivial, Cert.OptD.algebraic,
    trivial, Cert.OptQ.algebraic,
    trivial, Cert.OptConvW.algebraic,
    trivial, Cert.OptConvB.algebraic,
    trivial, Cert.OptDt.algebraic,
    trivial, Cert.OptSsdNorm.algebraic,
    trivial, Cert.SumSmall.algebraic,
    trivial, Cert.LossHead.algebraic,
    trivial, Cert.NormF.algebraic,
    trivial, Cert.MergeF.algebraic,
    trivial, Cert.GluF.algebraic,
    trivial, Cert.Comb.algebraic,
    trivial, Cert.CombB.algebraic⟩

end Cert.Proof

end
